-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in [hPre_finite_in : Cert.Pre_finite_in.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_in.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_in.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_in.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in [hPre_finite_in : Cert.Pre_finite_in.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_in.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_in.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_in.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.2.2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.2.2.2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.2.2.2.2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.2.2.2.2.2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.2.2.2.2.2.2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)) (m ((c.tc : Thread Cert.FfnKernelIdeal.nD Cert.FfnKernelIdeal.τ).loc Cert.FfnKernelIdeal.main_arg8)) (m ((c.tc : Thread Cert.FfnKernelIdeal.nD Cert.FfnKernelIdeal.τ).loc Cert.FfnKernelIdeal.main_arg9)) (m ((c.tc : Thread Cert.FfnKernelIdeal.nD Cert.FfnKernelIdeal.τ).loc Cert.FfnKernelIdeal.main_arg10)) (m ((c.tc : Thread Cert.FfnKernelIdeal.nD Cert.FfnKernelIdeal.τ).loc Cert.FfnKernelIdeal.main_arg11))).2.2.2.2.2.2.2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.2.2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.2.2.2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.2.2.2.2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.2.2.2.2.2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))).2.2.2.2.2.2.2.2.2.2.2 = (fun _ => 1#1)

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidKernelIdeal_finite_mid [hPre_finite_mid : Cert.Pre_finite_mid.Facts] (m : (ℓ : Loc Cert.MidKernelIdeal.nD Cert.MidKernelIdeal.τ Cert.MidKernelIdeal.sig) → Buf (Elt Ideal) ℓ) : Prop :=
  ∀ c : Dev Cert.MidKernelIdeal.nD,
    (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.2.2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.2.2.2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.2.2.2.2.2.2.2.1 = (fun _ => 1#1)
    ∧ (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5)) (m ((c.tc : Thread Cert.MidKernelIdeal.nD Cert.MidKernelIdeal.τ).loc Cert.MidKernelIdeal.main_arg6)) (m ((c.tc : Thread Cert.MidKernelIdeal.nD Cert.MidKernelIdeal.τ).loc Cert.MidKernelIdeal.main_arg7)) (m ((c.tc : Thread Cert.MidKernelIdeal.nD Cert.MidKernelIdeal.τ).loc Cert.MidKernelIdeal.main_arg8)) (m ((c.tc : Thread Cert.MidKernelIdeal.nD Cert.MidKernelIdeal.τ).loc Cert.MidKernelIdeal.main_arg9)) (m ((c.tc : Thread Cert.MidKernelIdeal.nD Cert.MidKernelIdeal.τ).loc Cert.MidKernelIdeal.main_arg10)) (m ((c.tc : Thread Cert.MidKernelIdeal.nD Cert.MidKernelIdeal.τ).loc Cert.MidKernelIdeal.main_arg11)) (m ((c.tc : Thread Cert.MidKernelIdeal.nD Cert.MidKernelIdeal.τ).loc Cert.MidKernelIdeal.main_arg12)) (m ((c.tc : Thread Cert.MidKernelIdeal.nD Cert.MidKernelIdeal.τ).loc Cert.MidKernelIdeal.main_arg13))).2.2.2.2.2.2.2.2.2.2.2.2.2 = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_mid [hPre_finite_mid : Cert.Pre_finite_mid.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.2.2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.2.2.2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.2.2.2.2.2.2.2.1 = (fun _ => 1#1)
    ∧ (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8)) (m ((c.tc : Thread Cert.MidReferenceIdeal.nD Cert.MidReferenceIdeal.τ).loc Cert.MidReferenceIdeal.main_arg9)) (m ((c.tc : Thread Cert.MidReferenceIdeal.nD Cert.MidReferenceIdeal.τ).loc Cert.MidReferenceIdeal.main_arg10)) (m ((c.tc : Thread Cert.MidReferenceIdeal.nD Cert.MidReferenceIdeal.τ).loc Cert.MidReferenceIdeal.main_arg11)) (m ((c.tc : Thread Cert.MidReferenceIdeal.nD Cert.MidReferenceIdeal.τ).loc Cert.MidReferenceIdeal.main_arg12)) (m ((c.tc : Thread Cert.MidReferenceIdeal.nD Cert.MidReferenceIdeal.τ).loc Cert.MidReferenceIdeal.main_arg13))).2.2.2.2.2.2.2.2.2.2.2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_bounded_mix [hPre_bounded_mix : Cert.Pre_bounded_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_bounded_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).1 = (fun _ => 1#1)
    ∧ (Cert.Pre_bounded_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.1 = (fun _ => 1#1)
    ∧ (Cert.Pre_bounded_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.2.1 = (fun _ => 1#1)
    ∧ (Cert.Pre_bounded_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_bounded_mix [hPre_bounded_mix : Cert.Pre_bounded_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_bounded_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).1 = (fun _ => 1#1)
    ∧ (Cert.Pre_bounded_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.1 = (fun _ => 1#1)
    ∧ (Cert.Pre_bounded_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2.1 = (fun _ => 1#1)
    ∧ (Cert.Pre_bounded_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_BwdKernel (m : (ℓ : Loc Cert.BwdKernel.nD Cert.BwdKernel.τ Cert.BwdKernel.sig) → Buf (Elt Bits) ℓ) : Prop :=
  True

def Pre_BwdKernelIdeal (m : (ℓ : Loc Cert.BwdKernelIdeal.nD Cert.BwdKernelIdeal.τ Cert.BwdKernelIdeal.sig) → Buf (Elt Ideal) ℓ) : Prop :=
  True

def Pre_BwdReferenceIdeal (m : (ℓ : Loc Cert.BwdReferenceIdeal.nD Cert.BwdReferenceIdeal.τ Cert.BwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in [hKernelIdeal : Cert.KernelIdeal.Facts] [hPre_finite_in : Cert.Pre_finite_in.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in [hReferenceIdeal : Cert.ReferenceIdeal.Facts] [hPre_finite_in : Cert.Pre_finite_in.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7)
      ∧ r.2.mem ((c.tc : Thread Cert.FfnKernel.nD Cert.FfnKernel.τ).loc Cert.FfnKernel.main_arg8) = m ((c.tc : Thread Cert.FfnKernel.nD Cert.FfnKernel.τ).loc Cert.FfnKernel.main_arg8)
      ∧ r.2.mem ((c.tc : Thread Cert.FfnKernel.nD Cert.FfnKernel.τ).loc Cert.FfnKernel.main_arg9) = m ((c.tc : Thread Cert.FfnKernel.nD Cert.FfnKernel.τ).loc Cert.FfnKernel.main_arg9)
      ∧ r.2.mem ((c.tc : Thread Cert.FfnKernel.nD Cert.FfnKernel.τ).loc Cert.FfnKernel.main_arg10) = m ((c.tc : Thread Cert.FfnKernel.nD Cert.FfnKernel.τ).loc Cert.FfnKernel.main_arg10)
      ∧ r.2.mem ((c.tc : Thread Cert.FfnKernel.nD Cert.FfnKernel.τ).loc Cert.FfnKernel.main_arg11) = m ((c.tc : Thread Cert.FfnKernel.nD Cert.FfnKernel.τ).loc Cert.FfnKernel.main_arg11))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
      ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
      ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10)
      ∧ r.2.mem ((c.tc : Thread Cert.FfnKernelIdeal.nD Cert.FfnKernelIdeal.τ).loc Cert.FfnKernelIdeal.main_arg11) = m ((c.tc : Thread Cert.FfnKernelIdeal.nD Cert.FfnKernelIdeal.τ).loc Cert.FfnKernelIdeal.main_arg11))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
      ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
      ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10)
      ∧ r.2.mem ((c.tc : Thread Cert.FfnKernelIdeal.nD Cert.FfnKernelIdeal.τ).loc Cert.FfnKernelIdeal.main_arg11) = m ((c.tc : Thread Cert.FfnKernelIdeal.nD Cert.FfnKernelIdeal.τ).loc Cert.FfnKernelIdeal.main_arg11))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5)
      ∧ r.2.mem ((c.tc : Thread Cert.MidKernel.nD Cert.MidKernel.τ).loc Cert.MidKernel.main_arg6) = m ((c.tc : Thread Cert.MidKernel.nD Cert.MidKernel.τ).loc Cert.MidKernel.main_arg6)
      ∧ r.2.mem ((c.tc : Thread Cert.MidKernel.nD Cert.MidKernel.τ).loc Cert.MidKernel.main_arg7) = m ((c.tc : Thread Cert.MidKernel.nD Cert.MidKernel.τ).loc Cert.MidKernel.main_arg7)
      ∧ r.2.mem ((c.tc : Thread Cert.MidKernel.nD Cert.MidKernel.τ).loc Cert.MidKernel.main_arg8) = m ((c.tc : Thread Cert.MidKernel.nD Cert.MidKernel.τ).loc Cert.MidKernel.main_arg8)
      ∧ r.2.mem ((c.tc : Thread Cert.MidKernel.nD Cert.MidKernel.τ).loc Cert.MidKernel.main_arg9) = m ((c.tc : Thread Cert.MidKernel.nD Cert.MidKernel.τ).loc Cert.MidKernel.main_arg9)
      ∧ r.2.mem ((c.tc : Thread Cert.MidKernel.nD Cert.MidKernel.τ).loc Cert.MidKernel.main_arg10) = m ((c.tc : Thread Cert.MidKernel.nD Cert.MidKernel.τ).loc Cert.MidKernel.main_arg10)
      ∧ r.2.mem ((c.tc : Thread Cert.MidKernel.nD Cert.MidKernel.τ).loc Cert.MidKernel.main_arg11) = m ((c.tc : Thread Cert.MidKernel.nD Cert.MidKernel.τ).loc Cert.MidKernel.main_arg11)
      ∧ r.2.mem ((c.tc : Thread Cert.MidKernel.nD Cert.MidKernel.τ).loc Cert.MidKernel.main_arg12) = m ((c.tc : Thread Cert.MidKernel.nD Cert.MidKernel.τ).loc Cert.MidKernel.main_arg12)
      ∧ r.2.mem ((c.tc : Thread Cert.MidKernel.nD Cert.MidKernel.τ).loc Cert.MidKernel.main_arg13) = m ((c.tc : Thread Cert.MidKernel.nD Cert.MidKernel.τ).loc Cert.MidKernel.main_arg13))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
      ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10)
      ∧ r.2.mem ((c.tc : Thread Cert.MidKernelIdeal.nD Cert.MidKernelIdeal.τ).loc Cert.MidKernelIdeal.main_arg11) = m ((c.tc : Thread Cert.MidKernelIdeal.nD Cert.MidKernelIdeal.τ).loc Cert.MidKernelIdeal.main_arg11)
      ∧ r.2.mem ((c.tc : Thread Cert.MidKernelIdeal.nD Cert.MidKernelIdeal.τ).loc Cert.MidKernelIdeal.main_arg12) = m ((c.tc : Thread Cert.MidKernelIdeal.nD Cert.MidKernelIdeal.τ).loc Cert.MidKernelIdeal.main_arg12)
      ∧ r.2.mem ((c.tc : Thread Cert.MidKernelIdeal.nD Cert.MidKernelIdeal.τ).loc Cert.MidKernelIdeal.main_arg13) = m ((c.tc : Thread Cert.MidKernelIdeal.nD Cert.MidKernelIdeal.τ).loc Cert.MidKernelIdeal.main_arg13))
      ∧ r.2.sem = fun _ => 0)

def quiescent_MidKernelIdeal_pre_finite_mid [hMidKernelIdeal : Cert.MidKernelIdeal.Facts] [hPre_finite_mid : Cert.Pre_finite_mid.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal_finite_mid m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
      ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10)
      ∧ r.2.mem ((c.tc : Thread Cert.MidKernelIdeal.nD Cert.MidKernelIdeal.τ).loc Cert.MidKernelIdeal.main_arg11) = m ((c.tc : Thread Cert.MidKernelIdeal.nD Cert.MidKernelIdeal.τ).loc Cert.MidKernelIdeal.main_arg11)
      ∧ r.2.mem ((c.tc : Thread Cert.MidKernelIdeal.nD Cert.MidKernelIdeal.τ).loc Cert.MidKernelIdeal.main_arg12) = m ((c.tc : Thread Cert.MidKernelIdeal.nD Cert.MidKernelIdeal.τ).loc Cert.MidKernelIdeal.main_arg12)
      ∧ r.2.mem ((c.tc : Thread Cert.MidKernelIdeal.nD Cert.MidKernelIdeal.τ).loc Cert.MidKernelIdeal.main_arg13) = m ((c.tc : Thread Cert.MidKernelIdeal.nD Cert.MidKernelIdeal.τ).loc Cert.MidKernelIdeal.main_arg13))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12)
      ∧ r.2.mem ((c.tc : Thread Cert.MidReferenceIdeal.nD Cert.MidReferenceIdeal.τ).loc Cert.MidReferenceIdeal.main_arg13) = m ((c.tc : Thread Cert.MidReferenceIdeal.nD Cert.MidReferenceIdeal.τ).loc Cert.MidReferenceIdeal.main_arg13))
      ∧ r.2.sem = fun _ => 0)

def quiescent_MidReferenceIdeal_pre_finite_mid [hMidReferenceIdeal : Cert.MidReferenceIdeal.Facts] [hPre_finite_mid : Cert.Pre_finite_mid.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_mid m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12)
      ∧ r.2.mem ((c.tc : Thread Cert.MidReferenceIdeal.nD Cert.MidReferenceIdeal.τ).loc Cert.MidReferenceIdeal.main_arg13) = m ((c.tc : Thread Cert.MidReferenceIdeal.nD Cert.MidReferenceIdeal.τ).loc Cert.MidReferenceIdeal.main_arg13))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixKernelIdeal_pre_bounded_mix [hMixKernelIdeal : Cert.MixKernelIdeal.Facts] [hPre_bounded_mix : Cert.Pre_bounded_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_bounded_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixReferenceIdeal_pre_bounded_mix [hMixReferenceIdeal : Cert.MixReferenceIdeal.Facts] [hPre_bounded_mix : Cert.Pre_bounded_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_bounded_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_BwdKernel [hBwdKernel : Cert.BwdKernel.Facts] : Prop :=
  ∀ (m : (ℓ : Loc Cert.BwdKernel.nD Cert.BwdKernel.τ Cert.BwdKernel.sig) → Buf (Elt Bits) ℓ) (g : Dev Cert.BwdKernel.nD → PrngReg), Pre_BwdKernel m →
    θ_run (Cert.BwdKernel.defs (F := Bits)) (onTc (τ := Cert.BwdKernel.τ) (Cert.BwdKernel.main (F := Bits))) ⟨m, fun _ => 0, g⟩ (fun r => (∀ c : Dev Cert.BwdKernel.nD,
      r.2.mem ((c.tc : Thread Cert.BwdKernel.nD Cert.BwdKernel.τ).loc Cert.BwdKernel.main_arg0) = m ((c.tc : Thread Cert.BwdKernel.nD Cert.BwdKernel.τ).loc Cert.BwdKernel.main_arg0)
      ∧ r.2.mem ((c.tc : Thread Cert.BwdKernel.nD Cert.BwdKernel.τ).loc Cert.BwdKernel.main_arg1) = m ((c.tc : Thread Cert.BwdKernel.nD Cert.BwdKernel.τ).loc Cert.BwdKernel.main_arg1)
      ∧ r.2.mem ((c.tc : Thread Cert.BwdKernel.nD Cert.BwdKernel.τ).loc Cert.BwdKernel.main_arg2) = m ((c.tc : Thread Cert.BwdKernel.nD Cert.BwdKernel.τ).loc Cert.BwdKernel.main_arg2)
      ∧ r.2.mem ((c.tc : Thread Cert.BwdKernel.nD Cert.BwdKernel.τ).loc Cert.BwdKernel.main_arg3) = m ((c.tc : Thread Cert.BwdKernel.nD Cert.BwdKernel.τ).loc Cert.BwdKernel.main_arg3)
      ∧ r.2.mem ((c.tc : Thread Cert.BwdKernel.nD Cert.BwdKernel.τ).loc Cert.BwdKernel.main_arg4) = m ((c.tc : Thread Cert.BwdKernel.nD Cert.BwdKernel.τ).loc Cert.BwdKernel.main_arg4)
      ∧ r.2.mem ((c.tc : Thread Cert.BwdKernel.nD Cert.BwdKernel.τ).loc Cert.BwdKernel.main_arg5) = m ((c.tc : Thread Cert.BwdKernel.nD Cert.BwdKernel.τ).loc Cert.BwdKernel.main_arg5)
      ∧ r.2.mem ((c.tc : Thread Cert.BwdKernel.nD Cert.BwdKernel.τ).loc Cert.BwdKernel.main_arg6) = m ((c.tc : Thread Cert.BwdKernel.nD Cert.BwdKernel.τ).loc Cert.BwdKernel.main_arg6)
      ∧ r.2.mem ((c.tc : Thread Cert.BwdKernel.nD Cert.BwdKernel.τ).loc Cert.BwdKernel.main_arg7) = m ((c.tc : Thread Cert.BwdKernel.nD Cert.BwdKernel.τ).loc Cert.BwdKernel.main_arg7)
      ∧ r.2.mem ((c.tc : Thread Cert.BwdKernel.nD Cert.BwdKernel.τ).loc Cert.BwdKernel.main_arg8) = m ((c.tc : Thread Cert.BwdKernel.nD Cert.BwdKernel.τ).loc Cert.BwdKernel.main_arg8)
      ∧ r.2.mem ((c.tc : Thread Cert.BwdKernel.nD Cert.BwdKernel.τ).loc Cert.BwdKernel.main_arg9) = m ((c.tc : Thread Cert.BwdKernel.nD Cert.BwdKernel.τ).loc Cert.BwdKernel.main_arg9)
      ∧ r.2.mem ((c.tc : Thread Cert.BwdKernel.nD Cert.BwdKernel.τ).loc Cert.BwdKernel.main_arg10) = m ((c.tc : Thread Cert.BwdKernel.nD Cert.BwdKernel.τ).loc Cert.BwdKernel.main_arg10))
      ∧ r.2.sem = fun _ => 0)

def quiescent_BwdKernelIdeal [hBwdKernelIdeal : Cert.BwdKernelIdeal.Facts] : Prop :=
  ∀ (m : (ℓ : Loc Cert.BwdKernelIdeal.nD Cert.BwdKernelIdeal.τ Cert.BwdKernelIdeal.sig) → Buf (Elt Ideal) ℓ) (g : Dev Cert.BwdKernelIdeal.nD → PrngReg), Pre_BwdKernelIdeal m →
    θ_run (Cert.BwdKernelIdeal.defs (F := Ideal)) (onTc (τ := Cert.BwdKernelIdeal.τ) (Cert.BwdKernelIdeal.main (F := Ideal))) ⟨m, fun _ => 0, g⟩ (fun r => (∀ c : Dev Cert.BwdKernelIdeal.nD,
      r.2.mem ((c.tc : Thread Cert.BwdKernelIdeal.nD Cert.BwdKernelIdeal.τ).loc Cert.BwdKernelIdeal.main_arg0) = m ((c.tc : Thread Cert.BwdKernelIdeal.nD Cert.BwdKernelIdeal.τ).loc Cert.BwdKernelIdeal.main_arg0)
      ∧ r.2.mem ((c.tc : Thread Cert.BwdKernelIdeal.nD Cert.BwdKernelIdeal.τ).loc Cert.BwdKernelIdeal.main_arg1) = m ((c.tc : Thread Cert.BwdKernelIdeal.nD Cert.BwdKernelIdeal.τ).loc Cert.BwdKernelIdeal.main_arg1)
      ∧ r.2.mem ((c.tc : Thread Cert.BwdKernelIdeal.nD Cert.BwdKernelIdeal.τ).loc Cert.BwdKernelIdeal.main_arg2) = m ((c.tc : Thread Cert.BwdKernelIdeal.nD Cert.BwdKernelIdeal.τ).loc Cert.BwdKernelIdeal.main_arg2)
      ∧ r.2.mem ((c.tc : Thread Cert.BwdKernelIdeal.nD Cert.BwdKernelIdeal.τ).loc Cert.BwdKernelIdeal.main_arg3) = m ((c.tc : Thread Cert.BwdKernelIdeal.nD Cert.BwdKernelIdeal.τ).loc Cert.BwdKernelIdeal.main_arg3)
      ∧ r.2.mem ((c.tc : Thread Cert.BwdKernelIdeal.nD Cert.BwdKernelIdeal.τ).loc Cert.BwdKernelIdeal.main_arg4) = m ((c.tc : Thread Cert.BwdKernelIdeal.nD Cert.BwdKernelIdeal.τ).loc Cert.BwdKernelIdeal.main_arg4)
      ∧ r.2.mem ((c.tc : Thread Cert.BwdKernelIdeal.nD Cert.BwdKernelIdeal.τ).loc Cert.BwdKernelIdeal.main_arg5) = m ((c.tc : Thread Cert.BwdKernelIdeal.nD Cert.BwdKernelIdeal.τ).loc Cert.BwdKernelIdeal.main_arg5)
      ∧ r.2.mem ((c.tc : Thread Cert.BwdKernelIdeal.nD Cert.BwdKernelIdeal.τ).loc Cert.BwdKernelIdeal.main_arg6) = m ((c.tc : Thread Cert.BwdKernelIdeal.nD Cert.BwdKernelIdeal.τ).loc Cert.BwdKernelIdeal.main_arg6)
      ∧ r.2.mem ((c.tc : Thread Cert.BwdKernelIdeal.nD Cert.BwdKernelIdeal.τ).loc Cert.BwdKernelIdeal.main_arg7) = m ((c.tc : Thread Cert.BwdKernelIdeal.nD Cert.BwdKernelIdeal.τ).loc Cert.BwdKernelIdeal.main_arg7)
      ∧ r.2.mem ((c.tc : Thread Cert.BwdKernelIdeal.nD Cert.BwdKernelIdeal.τ).loc Cert.BwdKernelIdeal.main_arg8) = m ((c.tc : Thread Cert.BwdKernelIdeal.nD Cert.BwdKernelIdeal.τ).loc Cert.BwdKernelIdeal.main_arg8)
      ∧ r.2.mem ((c.tc : Thread Cert.BwdKernelIdeal.nD Cert.BwdKernelIdeal.τ).loc Cert.BwdKernelIdeal.main_arg9) = m ((c.tc : Thread Cert.BwdKernelIdeal.nD Cert.BwdKernelIdeal.τ).loc Cert.BwdKernelIdeal.main_arg9)
      ∧ r.2.mem ((c.tc : Thread Cert.BwdKernelIdeal.nD Cert.BwdKernelIdeal.τ).loc Cert.BwdKernelIdeal.main_arg10) = m ((c.tc : Thread Cert.BwdKernelIdeal.nD Cert.BwdKernelIdeal.τ).loc Cert.BwdKernelIdeal.main_arg10))
      ∧ r.2.sem = fun _ => 0)

def quiescent_BwdReferenceIdeal [hBwdReferenceIdeal : Cert.BwdReferenceIdeal.Facts] : Prop :=
  ∀ (m : (ℓ : Loc Cert.BwdReferenceIdeal.nD Cert.BwdReferenceIdeal.τ Cert.BwdReferenceIdeal.sig) → Buf (Elt Ideal) ℓ) (g : Dev Cert.BwdReferenceIdeal.nD → PrngReg), Pre_BwdReferenceIdeal m →
    θ_run (Cert.BwdReferenceIdeal.defs (F := Ideal)) (onTc (τ := Cert.BwdReferenceIdeal.τ) (Cert.BwdReferenceIdeal.main (F := Ideal))) ⟨m, fun _ => 0, g⟩ (fun r => (∀ c : Dev Cert.BwdReferenceIdeal.nD,
      r.2.mem ((c.tc : Thread Cert.BwdReferenceIdeal.nD Cert.BwdReferenceIdeal.τ).loc Cert.BwdReferenceIdeal.main_arg0) = m ((c.tc : Thread Cert.BwdReferenceIdeal.nD Cert.BwdReferenceIdeal.τ).loc Cert.BwdReferenceIdeal.main_arg0)
      ∧ r.2.mem ((c.tc : Thread Cert.BwdReferenceIdeal.nD Cert.BwdReferenceIdeal.τ).loc Cert.BwdReferenceIdeal.main_arg1) = m ((c.tc : Thread Cert.BwdReferenceIdeal.nD Cert.BwdReferenceIdeal.τ).loc Cert.BwdReferenceIdeal.main_arg1)
      ∧ r.2.mem ((c.tc : Thread Cert.BwdReferenceIdeal.nD Cert.BwdReferenceIdeal.τ).loc Cert.BwdReferenceIdeal.main_arg2) = m ((c.tc : Thread Cert.BwdReferenceIdeal.nD Cert.BwdReferenceIdeal.τ).loc Cert.BwdReferenceIdeal.main_arg2)
      ∧ r.2.mem ((c.tc : Thread Cert.BwdReferenceIdeal.nD Cert.BwdReferenceIdeal.τ).loc Cert.BwdReferenceIdeal.main_arg3) = m ((c.tc : Thread Cert.BwdReferenceIdeal.nD Cert.BwdReferenceIdeal.τ).loc Cert.BwdReferenceIdeal.main_arg3)
      ∧ r.2.mem ((c.tc : Thread Cert.BwdReferenceIdeal.nD Cert.BwdReferenceIdeal.τ).loc Cert.BwdReferenceIdeal.main_arg4) = m ((c.tc : Thread Cert.BwdReferenceIdeal.nD Cert.BwdReferenceIdeal.τ).loc Cert.BwdReferenceIdeal.main_arg4)
      ∧ r.2.mem ((c.tc : Thread Cert.BwdReferenceIdeal.nD Cert.BwdReferenceIdeal.τ).loc Cert.BwdReferenceIdeal.main_arg5) = m ((c.tc : Thread Cert.BwdReferenceIdeal.nD Cert.BwdReferenceIdeal.τ).loc Cert.BwdReferenceIdeal.main_arg5))
      ∧ r.2.sem = fun _ => 0)

def preserves_Kernel_KernelIdeal : Prop :=
  True

def algebraic_KernelIdeal_ReferenceIdeal_pre_finite_in [hKernelIdeal : Cert.KernelIdeal.Facts] [hReferenceIdeal : Cert.ReferenceIdeal.Facts] [hPre_finite_in : Cert.Pre_finite_in.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)
      ∧ m' ((c.tc : Thread Cert.FfnReferenceIdeal.nD Cert.FfnReferenceIdeal.τ).loc Cert.FfnReferenceIdeal.main_arg8) = m ((c.tc : Thread Cert.FfnKernelIdeal.nD Cert.FfnKernelIdeal.τ).loc Cert.FfnKernelIdeal.main_arg8)
      ∧ m' ((c.tc : Thread Cert.FfnReferenceIdeal.nD Cert.FfnReferenceIdeal.τ).loc Cert.FfnReferenceIdeal.main_arg9) = m ((c.tc : Thread Cert.FfnKernelIdeal.nD Cert.FfnKernelIdeal.τ).loc Cert.FfnKernelIdeal.main_arg9)
      ∧ m' ((c.tc : Thread Cert.FfnReferenceIdeal.nD Cert.FfnReferenceIdeal.τ).loc Cert.FfnReferenceIdeal.main_arg10) = m ((c.tc : Thread Cert.FfnKernelIdeal.nD Cert.FfnKernelIdeal.τ).loc Cert.FfnKernelIdeal.main_arg10)
      ∧ m' ((c.tc : Thread Cert.FfnReferenceIdeal.nD Cert.FfnReferenceIdeal.τ).loc Cert.FfnReferenceIdeal.main_arg11) = m ((c.tc : Thread Cert.FfnKernelIdeal.nD Cert.FfnKernelIdeal.τ).loc Cert.FfnKernelIdeal.main_arg11)) →
    ∃ (v0 : (c : Dev Cert.FfnKernelIdeal.nD) → Buf (Elt Ideal) ((c.tc : Thread Cert.FfnKernelIdeal.nD Cert.FfnKernelIdeal.τ).loc Cert.FfnKernelIdeal.main_v83_0)) (v1 : (c : Dev Cert.FfnKernelIdeal.nD) → Buf (Elt Ideal) ((c.tc : Thread Cert.FfnKernelIdeal.nD Cert.FfnKernelIdeal.τ).loc Cert.FfnKernelIdeal.main_v83_1)) (v2 : (c : Dev Cert.FfnKernelIdeal.nD) → Buf (Elt Ideal) ((c.tc : Thread Cert.FfnKernelIdeal.nD Cert.FfnKernelIdeal.τ).loc Cert.FfnKernelIdeal.main_v83_2)) (v3 : (c : Dev Cert.FfnKernelIdeal.nD) → Buf (Elt Ideal) ((c.tc : Thread Cert.FfnKernelIdeal.nD Cert.FfnKernelIdeal.τ).loc Cert.FfnKernelIdeal.main_v83_3)) (v4 : (c : Dev Cert.FfnKernelIdeal.nD) → Buf (Elt Ideal) ((c.tc : Thread Cert.FfnKernelIdeal.nD Cert.FfnKernelIdeal.τ).loc Cert.FfnKernelIdeal.main_v83_4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v83_0) = v0 c
          ∧ r.2.mem ((c.tc : Thread Cert.FfnKernelIdeal.nD Cert.FfnKernelIdeal.τ).loc Cert.FfnKernelIdeal.main_v83_1) = v1 c
          ∧ r.2.mem ((c.tc : Thread Cert.FfnKernelIdeal.nD Cert.FfnKernelIdeal.τ).loc Cert.FfnKernelIdeal.main_v83_2) = v2 c
          ∧ r.2.mem ((c.tc : Thread Cert.FfnKernelIdeal.nD Cert.FfnKernelIdeal.τ).loc Cert.FfnKernelIdeal.main_v83_3) = v3 c
          ∧ r.2.mem ((c.tc : Thread Cert.FfnKernelIdeal.nD Cert.FfnKernelIdeal.τ).loc Cert.FfnKernelIdeal.main_v83_4) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
          ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
          ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
          ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10)
          ∧ r.2.mem ((c.tc : Thread Cert.FfnKernelIdeal.nD Cert.FfnKernelIdeal.τ).loc Cert.FfnKernelIdeal.main_arg11) = m ((c.tc : Thread Cert.FfnKernelIdeal.nD Cert.FfnKernelIdeal.τ).loc Cert.FfnKernelIdeal.main_arg11))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v182) = v0 c
          ∧ r.2.mem ((c.tc : Thread Cert.FfnReferenceIdeal.nD Cert.FfnReferenceIdeal.τ).loc Cert.FfnReferenceIdeal.main_v184) = v1 c
          ∧ r.2.mem ((c.tc : Thread Cert.FfnReferenceIdeal.nD Cert.FfnReferenceIdeal.τ).loc Cert.FfnReferenceIdeal.main_v185) = v2 c
          ∧ r.2.mem ((c.tc : Thread Cert.FfnReferenceIdeal.nD Cert.FfnReferenceIdeal.τ).loc Cert.FfnReferenceIdeal.main_v186) = v3 c
          ∧ r.2.mem ((c.tc : Thread Cert.FfnReferenceIdeal.nD Cert.FfnReferenceIdeal.τ).loc Cert.FfnReferenceIdeal.main_v180) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11))

def preserves_MidKernel_MidKernelIdeal : Prop :=
  True

def algebraic_MidKernelIdeal_MidReferenceIdeal_pre_finite_mid [hMidKernelIdeal : Cert.MidKernelIdeal.Facts] [hMidReferenceIdeal : Cert.MidReferenceIdeal.Facts] [hPre_finite_mid : Cert.Pre_finite_mid.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal_finite_mid m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)
      ∧ m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6)
      ∧ m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7)
      ∧ m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8)
      ∧ m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)
      ∧ m' ((c.tc : Thread Cert.MidReferenceIdeal.nD Cert.MidReferenceIdeal.τ).loc Cert.MidReferenceIdeal.main_arg10) = m ((c.tc : Thread Cert.MidKernelIdeal.nD Cert.MidKernelIdeal.τ).loc Cert.MidKernelIdeal.main_arg10)
      ∧ m' ((c.tc : Thread Cert.MidReferenceIdeal.nD Cert.MidReferenceIdeal.τ).loc Cert.MidReferenceIdeal.main_arg11) = m ((c.tc : Thread Cert.MidKernelIdeal.nD Cert.MidKernelIdeal.τ).loc Cert.MidKernelIdeal.main_arg11)
      ∧ m' ((c.tc : Thread Cert.MidReferenceIdeal.nD Cert.MidReferenceIdeal.τ).loc Cert.MidReferenceIdeal.main_arg12) = m ((c.tc : Thread Cert.MidKernelIdeal.nD Cert.MidKernelIdeal.τ).loc Cert.MidKernelIdeal.main_arg12)
      ∧ m' ((c.tc : Thread Cert.MidReferenceIdeal.nD Cert.MidReferenceIdeal.τ).loc Cert.MidReferenceIdeal.main_arg13) = m ((c.tc : Thread Cert.MidKernelIdeal.nD Cert.MidKernelIdeal.τ).loc Cert.MidKernelIdeal.main_arg13)) →
    ∃ (v0 : (c : Dev Cert.MidKernelIdeal.nD) → Buf (Elt Ideal) ((c.tc : Thread Cert.MidKernelIdeal.nD Cert.MidKernelIdeal.τ).loc Cert.MidKernelIdeal.main_v15_0)) (v1 : (c : Dev Cert.MidKernelIdeal.nD) → Buf (Elt Ideal) ((c.tc : Thread Cert.MidKernelIdeal.nD Cert.MidKernelIdeal.τ).loc Cert.MidKernelIdeal.main_v15_1)) (v2 : (c : Dev Cert.MidKernelIdeal.nD) → Buf (Elt Ideal) ((c.tc : Thread Cert.MidKernelIdeal.nD Cert.MidKernelIdeal.τ).loc Cert.MidKernelIdeal.main_v15_2)) (v3 : (c : Dev Cert.MidKernelIdeal.nD) → Buf (Elt Ideal) ((c.tc : Thread Cert.MidKernelIdeal.nD Cert.MidKernelIdeal.τ).loc Cert.MidKernelIdeal.main_v15_3)) (v4 : (c : Dev Cert.MidKernelIdeal.nD) → Buf (Elt Ideal) ((c.tc : Thread Cert.MidKernelIdeal.nD Cert.MidKernelIdeal.τ).loc Cert.MidKernelIdeal.main_v15_4)) (v5 : (c : Dev Cert.MidKernelIdeal.nD) → Buf (Elt Ideal) ((c.tc : Thread Cert.MidKernelIdeal.nD Cert.MidKernelIdeal.τ).loc Cert.MidKernelIdeal.main_v15_5)) (v6 : (c : Dev Cert.MidKernelIdeal.nD) → Buf (Elt Ideal) ((c.tc : Thread Cert.MidKernelIdeal.nD Cert.MidKernelIdeal.τ).loc Cert.MidKernelIdeal.main_v15_6)) (v7 : (c : Dev Cert.MidKernelIdeal.nD) → Buf (Elt Ideal) ((c.tc : Thread Cert.MidKernelIdeal.nD Cert.MidKernelIdeal.τ).loc Cert.MidKernelIdeal.main_v15_7)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v15_0) = v0 c
          ∧ r.2.mem ((c.tc : Thread Cert.MidKernelIdeal.nD Cert.MidKernelIdeal.τ).loc Cert.MidKernelIdeal.main_v15_1) = v1 c
          ∧ r.2.mem ((c.tc : Thread Cert.MidKernelIdeal.nD Cert.MidKernelIdeal.τ).loc Cert.MidKernelIdeal.main_v15_2) = v2 c
          ∧ r.2.mem ((c.tc : Thread Cert.MidKernelIdeal.nD Cert.MidKernelIdeal.τ).loc Cert.MidKernelIdeal.main_v15_3) = v3 c
          ∧ r.2.mem ((c.tc : Thread Cert.MidKernelIdeal.nD Cert.MidKernelIdeal.τ).loc Cert.MidKernelIdeal.main_v15_4) = v4 c
          ∧ r.2.mem ((c.tc : Thread Cert.MidKernelIdeal.nD Cert.MidKernelIdeal.τ).loc Cert.MidKernelIdeal.main_v15_5) = v5 c
          ∧ r.2.mem ((c.tc : Thread Cert.MidKernelIdeal.nD Cert.MidKernelIdeal.τ).loc Cert.MidKernelIdeal.main_v15_6) = v6 c
          ∧ r.2.mem ((c.tc : Thread Cert.MidKernelIdeal.nD Cert.MidKernelIdeal.τ).loc Cert.MidKernelIdeal.main_v15_7) = v7 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
          ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
          ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
          ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
          ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
          ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
          ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10)
          ∧ r.2.mem ((c.tc : Thread Cert.MidKernelIdeal.nD Cert.MidKernelIdeal.τ).loc Cert.MidKernelIdeal.main_arg11) = m ((c.tc : Thread Cert.MidKernelIdeal.nD Cert.MidKernelIdeal.τ).loc Cert.MidKernelIdeal.main_arg11)
          ∧ r.2.mem ((c.tc : Thread Cert.MidKernelIdeal.nD Cert.MidKernelIdeal.τ).loc Cert.MidKernelIdeal.main_arg12) = m ((c.tc : Thread Cert.MidKernelIdeal.nD Cert.MidKernelIdeal.τ).loc Cert.MidKernelIdeal.main_arg12)
          ∧ r.2.mem ((c.tc : Thread Cert.MidKernelIdeal.nD Cert.MidKernelIdeal.τ).loc Cert.MidKernelIdeal.main_arg13) = m ((c.tc : Thread Cert.MidKernelIdeal.nD Cert.MidKernelIdeal.τ).loc Cert.MidKernelIdeal.main_arg13))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v202) = v0 c
          ∧ r.2.mem ((c.tc : Thread Cert.MidReferenceIdeal.nD Cert.MidReferenceIdeal.τ).loc Cert.MidReferenceIdeal.main_v203) = v1 c
          ∧ r.2.mem ((c.tc : Thread Cert.MidReferenceIdeal.nD Cert.MidReferenceIdeal.τ).loc Cert.MidReferenceIdeal.main_v204) = v2 c
          ∧ r.2.mem ((c.tc : Thread Cert.MidReferenceIdeal.nD Cert.MidReferenceIdeal.τ).loc Cert.MidReferenceIdeal.main_v206) = v3 c
          ∧ r.2.mem ((c.tc : Thread Cert.MidReferenceIdeal.nD Cert.MidReferenceIdeal.τ).loc Cert.MidReferenceIdeal.main_v208) = v4 c
          ∧ r.2.mem ((c.tc : Thread Cert.MidReferenceIdeal.nD Cert.MidReferenceIdeal.τ).loc Cert.MidReferenceIdeal.main_v210) = v5 c
          ∧ r.2.mem ((c.tc : Thread Cert.MidReferenceIdeal.nD Cert.MidReferenceIdeal.τ).loc Cert.MidReferenceIdeal.main_v211) = v6 c
          ∧ r.2.mem ((c.tc : Thread Cert.MidReferenceIdeal.nD Cert.MidReferenceIdeal.τ).loc Cert.MidReferenceIdeal.main_v200) = v7 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9)
          ∧ r.2.mem ((c.tc : Thread Cert.MidReferenceIdeal.nD Cert.MidReferenceIdeal.τ).loc Cert.MidReferenceIdeal.main_arg10) = m' ((c.tc : Thread Cert.MidReferenceIdeal.nD Cert.MidReferenceIdeal.τ).loc Cert.MidReferenceIdeal.main_arg10)
          ∧ r.2.mem ((c.tc : Thread Cert.MidReferenceIdeal.nD Cert.MidReferenceIdeal.τ).loc Cert.MidReferenceIdeal.main_arg11) = m' ((c.tc : Thread Cert.MidReferenceIdeal.nD Cert.MidReferenceIdeal.τ).loc Cert.MidReferenceIdeal.main_arg11)
          ∧ r.2.mem ((c.tc : Thread Cert.MidReferenceIdeal.nD Cert.MidReferenceIdeal.τ).loc Cert.MidReferenceIdeal.main_arg12) = m' ((c.tc : Thread Cert.MidReferenceIdeal.nD Cert.MidReferenceIdeal.τ).loc Cert.MidReferenceIdeal.main_arg12)
          ∧ r.2.mem ((c.tc : Thread Cert.MidReferenceIdeal.nD Cert.MidReferenceIdeal.τ).loc Cert.MidReferenceIdeal.main_arg13) = m' ((c.tc : Thread Cert.MidReferenceIdeal.nD Cert.MidReferenceIdeal.τ).loc Cert.MidReferenceIdeal.main_arg13))

def preserves_MixKernel_MixKernelIdeal : Prop :=
  IdealRules.named_const.Statement Cert.MixKernelIdeal.κ "tile_gamma_0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.MixKernelIdeal.κ "tile_gamma_1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.MixKernelIdeal.κ "tile_gamma_2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.MixKernelIdeal.κ "tile_gamma_3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_MixKernelIdeal_MixReferenceIdeal_pre_bounded_mix [hMixKernelIdeal : Cert.MixKernelIdeal.Facts] [hMixReferenceIdeal : Cert.MixReferenceIdeal.Facts] [hPre_bounded_mix : Cert.Pre_bounded_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_bounded_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v129_0)) (v1 : (c : Dev Cert.MixKernelIdeal.nD) → Buf (Elt Ideal) ((c.tc : Thread Cert.MixKernelIdeal.nD Cert.MixKernelIdeal.τ).loc Cert.MixKernelIdeal.main_v129_1)) (v2 : (c : Dev Cert.MixKernelIdeal.nD) → Buf (Elt Ideal) ((c.tc : Thread Cert.MixKernelIdeal.nD Cert.MixKernelIdeal.τ).loc Cert.MixKernelIdeal.main_v129_2)) (v3 : (c : Dev Cert.MixKernelIdeal.nD) → Buf (Elt Ideal) ((c.tc : Thread Cert.MixKernelIdeal.nD Cert.MixKernelIdeal.τ).loc Cert.MixKernelIdeal.main_v129_3)) (v4 : (c : Dev Cert.MixKernelIdeal.nD) → Buf (Elt Ideal) ((c.tc : Thread Cert.MixKernelIdeal.nD Cert.MixKernelIdeal.τ).loc Cert.MixKernelIdeal.main_v129_4)) (v5 : (c : Dev Cert.MixKernelIdeal.nD) → Buf (Elt Ideal) ((c.tc : Thread Cert.MixKernelIdeal.nD Cert.MixKernelIdeal.τ).loc Cert.MixKernelIdeal.main_v129_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v129_0) = v0 c
          ∧ r.2.mem ((c.tc : Thread Cert.MixKernelIdeal.nD Cert.MixKernelIdeal.τ).loc Cert.MixKernelIdeal.main_v129_1) = v1 c
          ∧ r.2.mem ((c.tc : Thread Cert.MixKernelIdeal.nD Cert.MixKernelIdeal.τ).loc Cert.MixKernelIdeal.main_v129_2) = v2 c
          ∧ r.2.mem ((c.tc : Thread Cert.MixKernelIdeal.nD Cert.MixKernelIdeal.τ).loc Cert.MixKernelIdeal.main_v129_3) = v3 c
          ∧ r.2.mem ((c.tc : Thread Cert.MixKernelIdeal.nD Cert.MixKernelIdeal.τ).loc Cert.MixKernelIdeal.main_v129_4) = v4 c
          ∧ r.2.mem ((c.tc : Thread Cert.MixKernelIdeal.nD Cert.MixKernelIdeal.τ).loc Cert.MixKernelIdeal.main_v129_5) = v5 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v268) = v0 c
          ∧ r.2.mem ((c.tc : Thread Cert.MixReferenceIdeal.nD Cert.MixReferenceIdeal.τ).loc Cert.MixReferenceIdeal.main_v269) = v1 c
          ∧ r.2.mem ((c.tc : Thread Cert.MixReferenceIdeal.nD Cert.MixReferenceIdeal.τ).loc Cert.MixReferenceIdeal.main_v271) = v2 c
          ∧ r.2.mem ((c.tc : Thread Cert.MixReferenceIdeal.nD Cert.MixReferenceIdeal.τ).loc Cert.MixReferenceIdeal.main_v273) = v3 c
          ∧ r.2.mem ((c.tc : Thread Cert.MixReferenceIdeal.nD Cert.MixReferenceIdeal.τ).loc Cert.MixReferenceIdeal.main_v276) = v4 c
          ∧ r.2.mem ((c.tc : Thread Cert.MixReferenceIdeal.nD Cert.MixReferenceIdeal.τ).loc Cert.MixReferenceIdeal.main_v277) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)) →
    ∃ (v0 : (c : Dev Cert.FwdKernelIdeal.nD) → Buf (Elt Ideal) ((c.tc : Thread Cert.FwdKernelIdeal.nD Cert.FwdKernelIdeal.τ).loc Cert.FwdKernelIdeal.main_v7_0)) (v1 : (c : Dev Cert.FwdKernelIdeal.nD) → Buf (Elt Ideal) ((c.tc : Thread Cert.FwdKernelIdeal.nD Cert.FwdKernelIdeal.τ).loc Cert.FwdKernelIdeal.main_v7_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v7_0) = v0 c
          ∧ r.2.mem ((c.tc : Thread Cert.FwdKernelIdeal.nD Cert.FwdKernelIdeal.τ).loc Cert.FwdKernelIdeal.main_v7_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v29) = v0 c
          ∧ r.2.mem ((c.tc : Thread Cert.FwdReferenceIdeal.nD Cert.FwdReferenceIdeal.τ).loc Cert.FwdReferenceIdeal.main_v31) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v3_0)) (v1 : (c : Dev Cert.OutKernelIdeal.nD) → Buf (Elt Ideal) ((c.tc : Thread Cert.OutKernelIdeal.nD Cert.OutKernelIdeal.τ).loc Cert.OutKernelIdeal.main_v3_1)) (v2 : (c : Dev Cert.OutKernelIdeal.nD) → Buf (Elt Ideal) ((c.tc : Thread Cert.OutKernelIdeal.nD Cert.OutKernelIdeal.τ).loc Cert.OutKernelIdeal.main_v3_2)) (v3 : (c : Dev Cert.OutKernelIdeal.nD) → Buf (Elt Ideal) ((c.tc : Thread Cert.OutKernelIdeal.nD Cert.OutKernelIdeal.τ).loc Cert.OutKernelIdeal.main_v3_3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3_0) = v0 c
          ∧ r.2.mem ((c.tc : Thread Cert.OutKernelIdeal.nD Cert.OutKernelIdeal.τ).loc Cert.OutKernelIdeal.main_v3_1) = v1 c
          ∧ r.2.mem ((c.tc : Thread Cert.OutKernelIdeal.nD Cert.OutKernelIdeal.τ).loc Cert.OutKernelIdeal.main_v3_2) = v2 c
          ∧ r.2.mem ((c.tc : Thread Cert.OutKernelIdeal.nD Cert.OutKernelIdeal.τ).loc Cert.OutKernelIdeal.main_v3_3) = v3 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_v28) = v1 c
          ∧ r.2.mem ((c.tc : Thread Cert.OutReferenceIdeal.nD Cert.OutReferenceIdeal.τ).loc Cert.OutReferenceIdeal.main_v7) = v2 c
          ∧ r.2.mem ((c.tc : Thread Cert.OutReferenceIdeal.nD Cert.OutReferenceIdeal.τ).loc Cert.OutReferenceIdeal.main_v14) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_BwdKernel_BwdKernelIdeal : Prop :=
  True

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hMidKernel : Cert.MidKernel.Facts) (hMidKernelIdeal : Cert.MidKernelIdeal.Facts) (hMidReferenceIdeal : Cert.MidReferenceIdeal.Facts) (hMixKernel : Cert.MixKernel.Facts) (hMixKernelIdeal : Cert.MixKernelIdeal.Facts) (hMixReferenceIdeal : Cert.MixReferenceIdeal.Facts) (hFwdKernel : Cert.FwdKernel.Facts) (hFwdKernelIdeal : Cert.FwdKernelIdeal.Facts) (hFwdReferenceIdeal : Cert.FwdReferenceIdeal.Facts) (hOutKernel : Cert.OutKernel.Facts) (hOutKernelIdeal : Cert.OutKernelIdeal.Facts) (hOutReferenceIdeal : Cert.OutReferenceIdeal.Facts) (hBwdKernel : Cert.BwdKernel.Facts) (hBwdKernelIdeal : Cert.BwdKernelIdeal.Facts) (hBwdReferenceIdeal : Cert.BwdReferenceIdeal.Facts) (hPre_finite_in : Cert.Pre_finite_in.Facts) (hPre_finite_ffn : Cert.Pre_finite_ffn.Facts) (hPre_finite_mid : Cert.Pre_finite_mid.Facts) (hPre_bounded_mix : Cert.Pre_bounded_mix.Facts),
    quiescent_Kernel (hKernel := hKernel)
    ∧ quiescent_KernelIdeal (hKernelIdeal := hKernelIdeal)
    ∧ quiescent_KernelIdeal_pre_finite_in (hKernelIdeal := hKernelIdeal) (hPre_finite_in := hPre_finite_in)
    ∧ quiescent_ReferenceIdeal (hReferenceIdeal := hReferenceIdeal)
    ∧ quiescent_ReferenceIdeal_pre_finite_in (hReferenceIdeal := hReferenceIdeal) (hPre_finite_in := hPre_finite_in)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_MidKernel (hMidKernel := hMidKernel)
    ∧ quiescent_MidKernelIdeal (hMidKernelIdeal := hMidKernelIdeal)
    ∧ quiescent_MidKernelIdeal_pre_finite_mid (hMidKernelIdeal := hMidKernelIdeal) (hPre_finite_mid := hPre_finite_mid)
    ∧ quiescent_MidReferenceIdeal (hMidReferenceIdeal := hMidReferenceIdeal)
    ∧ quiescent_MidReferenceIdeal_pre_finite_mid (hMidReferenceIdeal := hMidReferenceIdeal) (hPre_finite_mid := hPre_finite_mid)
    ∧ quiescent_MixKernel (hMixKernel := hMixKernel)
    ∧ quiescent_MixKernelIdeal (hMixKernelIdeal := hMixKernelIdeal)
    ∧ quiescent_MixKernelIdeal_pre_bounded_mix (hMixKernelIdeal := hMixKernelIdeal) (hPre_bounded_mix := hPre_bounded_mix)
    ∧ quiescent_MixReferenceIdeal (hMixReferenceIdeal := hMixReferenceIdeal)
    ∧ quiescent_MixReferenceIdeal_pre_bounded_mix (hMixReferenceIdeal := hMixReferenceIdeal) (hPre_bounded_mix := hPre_bounded_mix)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_BwdKernel (hBwdKernel := hBwdKernel)
    ∧ quiescent_BwdKernelIdeal (hBwdKernelIdeal := hBwdKernelIdeal)
    ∧ quiescent_BwdReferenceIdeal (hBwdReferenceIdeal := hBwdReferenceIdeal)
    ∧ preserves_Kernel_KernelIdeal
    ∧ algebraic_KernelIdeal_ReferenceIdeal_pre_finite_in (hKernelIdeal := hKernelIdeal) (hReferenceIdeal := hReferenceIdeal) (hPre_finite_in := hPre_finite_in)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_MidKernel_MidKernelIdeal
    ∧ algebraic_MidKernelIdeal_MidReferenceIdeal_pre_finite_mid (hMidKernelIdeal := hMidKernelIdeal) (hMidReferenceIdeal := hMidReferenceIdeal) (hPre_finite_mid := hPre_finite_mid)
    ∧ preserves_MixKernel_MixKernelIdeal
    ∧ algebraic_MixKernelIdeal_MixReferenceIdeal_pre_bounded_mix (hMixKernelIdeal := hMixKernelIdeal) (hMixReferenceIdeal := hMixReferenceIdeal) (hPre_bounded_mix := hPre_bounded_mix)
    ∧ preserves_FwdKernel_FwdKernelIdeal
    ∧ algebraic_FwdKernelIdeal_FwdReferenceIdeal (hFwdKernelIdeal := hFwdKernelIdeal) (hFwdReferenceIdeal := hFwdReferenceIdeal)
    ∧ preserves_OutKernel_OutKernelIdeal
    ∧ algebraic_OutKernelIdeal_OutReferenceIdeal (hOutKernelIdeal := hOutKernelIdeal) (hOutReferenceIdeal := hOutReferenceIdeal)
    ∧ preserves_BwdKernel_BwdKernelIdeal
-- ==== Pre_bounded_mix.lean ====
abbrev S1x8192x3600 : Shape := ⟨3, ![1, 8192, 3600]⟩
abbrev S1x16x256 : Shape := ⟨3, ![1, 16, 256]⟩
abbrev S1x256 : Shape := ⟨2, ![1, 256]⟩
abbrev S1x512 : Shape := ⟨2, ![1, 512]⟩
abbrev S1x8192x16 : Shape := ⟨3, ![1, 8192, 16]⟩
abbrev S16x256 : Shape := ⟨2, ![16, 256]⟩
abbrev S1x8192x256 : Shape := ⟨3, ![1, 8192, 256]⟩
abbrev S256 : Shape := ⟨1, ![256]⟩
abbrev S1x1x256 : Shape := ⟨3, ![1, 1, 256]⟩
abbrev S_ : Shape := ⟨0, ![]⟩

class Facts : Prop where
  slices_S1x8192x3600_S1x8192x16_0_0_3584 : S1x8192x3600.Slices ![0, 0, 3584] S1x8192x16
  shapeCasts_S1x16x256_S16x256 : S1x16x256.ShapeCasts S16x256
  shapeCasts_S1x256_S256 : S1x256.ShapeCasts S256
  bcast_S256_S1x1x256_2 : S256.BroadcastsInDim S1x1x256 (![2] : Fin 1 → Fin S1x1x256.rank)
  bcast_S1x1x256_S1x8192x256_0_1_2 : S1x1x256.BroadcastsInDim S1x8192x256 (![0, 1, 2] : Fin 3 → Fin S1x8192x256.rank)
  bcast_S_S1x8192x3600 : S_.BroadcastsInDim S1x8192x3600 (![] : Fin 0 → Fin S1x8192x3600.rank)
  bcast_S_S1x16x256 : S_.BroadcastsInDim S1x16x256 (![] : Fin 0 → Fin S1x16x256.rank)
  bcast_S_S1x256 : S_.BroadcastsInDim S1x256 (![] : Fin 0 → Fin S1x256.rank)
  bcast_S_S1x8192x256 : S_.BroadcastsInDim S1x8192x256 (![] : Fin 0 → Fin S1x8192x256.rank)
  dot_S1x8192x16_S16x256_S1x8192x256_2_0_01_1_n_n_wf : DotDims.WF S1x8192x16 S16x256 S1x8192x256 [2] [0] [0, 1] [1] [] []

variable [Facts]

def dot_S1x8192x16_S16x256_S1x8192x256_2_0_01_1_n_n : DotDims S1x8192x16 S16x256 S1x8192x256 where
  lhsContracting := [2]
  rhsContracting := [0]
  lhsNonContracting := [0, 1]
  rhsNonContracting := [1]
  lhsBatch := []
  rhsBatch := []
  wf := dot_S1x8192x16_S16x256_S1x8192x256_2_0_01_1_n_n_wf
def fn {F : FTy → Type} [FloatOps F] (main_arg0 : FVec F S1x8192x3600 .f32) (main_arg1 : FVec F S1x16x256 .f32) (main_arg2 : FVec F S1x256 .f32) (main_arg3 : FVec F S1x512 .f32) (main_arg4 : FVec F S1x512 .f32) : IVec S1x8192x3600 1 × IVec S1x16x256 1 × IVec S1x256 1 × IVec S1x8192x256 1 :=
  let main_v0 : FVec F S1x8192x16 .f32 := (extractStridedSlice S1x8192x16 ![0, 0, 3584] · slices_S1x8192x3600_S1x8192x16_0_0_3584) main_arg0
  let main_v1 : FVec F S16x256 .f32 := shapeCast S16x256 main_arg1 shapeCasts_S1x16x256_S16x256
  let main_v2 : FVec F S1x8192x256 .f32 := (fun l r => Host.dotGeneral dot_S1x8192x16_S16x256_S1x8192x256_2_0_01_1_n_n none l r) main_v0 main_v1
  let main_v3 : FVec F S256 .f32 := shapeCast S256 main_arg2 shapeCasts_S1x256_S256
  let main_v4 : FVec F S1x1x256 .f32 := broadcastInDim S1x1x256 ![2] bcast_S256_S1x1x256_2 main_v3
  let main_v5 : FVec F S1x8192x256 .f32 := broadcastInDim S1x8192x256 ![0, 1, 2] bcast_S1x1x256_S1x8192x256_0_1_2 main_v4
  let main_v6 : FVec F S1x8192x256 .f32 := addf main_v2 main_v5
  let main_v7 : FVec F S1x8192x3600 .f32 := Host.absf main_arg0
  let main_cst : FVec F S_ .f32 := constant S_ .f32 0x7F800000#32
  let main_v8 : FVec F S1x8192x3600 .f32 := broadcastInDim S1x8192x3600 ![] bcast_S_S1x8192x3600 main_cst
  let main_v9 : IVec S1x8192x3600 1 := cmpf .olt main_v7 main_v8
  let main_v10 : FVec F S1x16x256 .f32 := Host.absf main_arg1
  let main_cst_0 : FVec F S_ .f32 := constant S_ .f32 0x7F800000#32
  let main_v11 : FVec F S1x16x256 .f32 := broadcastInDim S1x16x256 ![] bcast_S_S1x16x256 main_cst_0
  let main_v12 : IVec S1x16x256 1 := cmpf .olt main_v10 main_v11
  let main_v13 : FVec F S1x256 .f32 := Host.absf main_arg2
  let main_cst_1 : FVec F S_ .f32 := constant S_ .f32 0x7F800000#32
  let main_v14 : FVec F S1x256 .f32 := broadcastInDim S1x256 ![] bcast_S_S1x256 main_cst_1
  let main_v15 : IVec S1x256 1 := cmpf .olt main_v13 main_v14
  let main_cst_2 : FVec F S_ .f32 := constant S_ .f32 0xC1980000#32
  let main_v16 : FVec F S1x8192x256 .f32 := broadcastInDim S1x8192x256 ![] bcast_S_S1x8192x256 main_cst_2
  let main_v17 : IVec S1x8192x256 1 := cmpf .oge main_v6 main_v16
  (main_v9, main_v12, main_v15, main_v17)
-- ==== Pre_finite_ffn.lean ====
abbrev S1x8192x1024 : Shape := ⟨3, ![1, 8192, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn_part1 {F : FTy → Type} [FloatOps F] (main_arg6 : FVec F S1x1024 .f32) (main_arg7 : FVec F S1x1024 .f32) (main_arg8 : FVec F S1x1024x4096 .f32) (main_arg9 : FVec F S1x4096x1024 .f32) (main_arg10 : FVec F S1x8192x1024 .f32) (main_arg11 : FVec F S1x8192x1024 .f32) (main_v2 : IVec S1x8192x1024 1) (main_v5 : IVec S1x8192x1024 1) (main_v8 : IVec S1x1024 1) (main_v11 : IVec S1x1024 1) (main_v14 : IVec S1x1024 1) (main_v17 : IVec S1x1024x1024 1) : IVec S1x8192x1024 1 × IVec S1x8192x1024 1 × IVec S1x1024 1 × IVec S1x1024 1 × IVec S1x1024 1 × IVec S1x1024x1024 1 × IVec S1x1024 1 × IVec S1x1024 1 × IVec S1x1024x4096 1 × IVec S1x4096x1024 1 × IVec S1x8192x1024 1 × IVec S1x8192x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024x4096 .f32 := Host.absf main_arg8
  let main_cst_7 : FVec F S_ .f32 := constant S_ .f32 0x7F800000#32
  let main_v25 : FVec F S1x1024x4096 .f32 := broadcastInDim S1x1024x4096 ![] bcast_S_S1x1024x4096 main_cst_7
  let main_v26 : IVec S1x1024x4096 1 := cmpf .olt main_v24 main_v25
  let main_v27 : FVec F S1x4096x1024 .f32 := Host.absf main_arg9
  let main_cst_8 : FVec F S_ .f32 := constant S_ .f32 0x7F800000#32
  let main_v28 : FVec F S1x4096x1024 .f32 := broadcastInDim S1x4096x1024 ![] bcast_S_S1x4096x1024 main_cst_8
  let main_v29 : IVec S1x4096x1024 1 := cmpf .olt main_v27 main_v28
  let main_v30 : FVec F S1x8192x1024 .f32 := Host.absf main_arg10
  let main_cst_9 : FVec F S_ .f32 := constant S_ .f32 0x7F800000#32
  let main_v31 : FVec F S1x8192x1024 .f32 := broadcastInDim S1x8192x1024 ![] bcast_S_S1x8192x1024 main_cst_9
  let main_v32 : IVec S1x8192x1024 1 := cmpf .olt main_v30 main_v31
  let main_v33 : FVec F S1x8192x1024 .f32 := Host.absf main_arg11
  let main_cst_10 : FVec F S_ .f32 := constant S_ .f32 0x7F800000#32
  let main_v34 : FVec F S1x8192x1024 .f32 := broadcastInDim S1x8192x1024 ![] bcast_S_S1x8192x1024 main_cst_10
  let main_v35 : IVec S1x8192x1024 1 := cmpf .olt main_v33 main_v34
  (main_v2, main_v5, main_v8, main_v11, main_v14, main_v17, main_v20, main_v23, main_v26, main_v29, main_v32, main_v35)

def fn {F : FTy → Type} [FloatOps F] (main_arg0 : FVec F S1x8192x1024 .f32) (main_arg1 : FVec F S1x8192x1024 .f32) (main_arg2 : FVec F S1x1024 .f32) (main_arg3 : FVec F S1x1024 .f32) (main_arg4 : FVec F S1x1024 .f32) (main_arg5 : FVec F S1x1024x1024 .f32) (main_arg6 : FVec F S1x1024 .f32) (main_arg7 : FVec F S1x1024 .f32) (main_arg8 : FVec F S1x1024x4096 .f32) (main_arg9 : FVec F S1x4096x1024 .f32) (main_arg10 : FVec F S1x8192x1024 .f32) (main_arg11 : FVec F S1x8192x1024 .f32) : IVec S1x8192x1024 1 × IVec S1x8192x1024 1 × IVec S1x1024 1 × IVec S1x1024 1 × IVec S1x1024 1 × IVec S1x1024x1024 1 × IVec S1x1024 1 × IVec S1x1024 1 × IVec S1x1024x4096 1 × IVec S1x4096x1024 1 × IVec S1x8192x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024x1024 .f32 := Host.absf main_arg5
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  fn_part1 (F := F) main_arg6 main_arg7 main_arg8 main_arg9 main_arg10 main_arg11 main_v2 main_v5 main_v8 main_v11 main_v14 main_v17
-- ==== Pre_finite_in.lean ====
abbrev S1x8192x1024 : Shape := ⟨3, ![1, 8192, 1024]⟩
abbrev S1x1024 : Shape := ⟨2, ![1, 1024]⟩
abbrev S1x1024x3600 : Shape := ⟨3, ![1, 1024, 3600]⟩
abbrev S1x8192x3600 : Shape := ⟨3, ![1, 8192, 3600]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x3600 : S_.BroadcastsInDim S1x1024x3600 (![] : Fin 0 → Fin S1x1024x3600.rank)
  bcast_S_S1x8192x3600 : S_.BroadcastsInDim S1x8192x3600 (![] : Fin 0 → Fin S1x8192x3600.rank)

variable [Facts]

def fn {F : FTy → Type} [FloatOps F] (main_arg0 : FVec F S1x8192x1024 .f32) (main_arg1 : FVec F S1x1024 .f32) (main_arg2 : FVec F S1x1024 .f32) (main_arg3 : FVec F S1x1024x3600 .f32) (main_arg4 : FVec F S1x8192x1024 .f32) (main_arg5 : FVec F S1x8192x3600 .f32) : IVec S1x8192x1024 1 × IVec S1x1024 1 × IVec S1x1024x3600 1 × IVec S1x8192x3600 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3600 .f32 := Host.absf main_arg3
  let main_cst_1 : FVec F S_ .f32 := constant S_ .f32 0x7F800000#32
  let main_v7 : FVec F S1x1024x3600 .f32 := broadcastInDim S1x1024x3600 ![] bcast_S_S1x1024x3600 main_cst_1
  let main_v8 : IVec S1x1024x3600 1 := cmpf .olt main_v6 main_v7
  let main_v9 : FVec F S1x8192x3600 .f32 := Host.absf main_arg5
  let main_cst_2 : FVec F S_ .f32 := constant S_ .f32 0x7F800000#32
  let main_v10 : FVec F S1x8192x3600 .f32 := broadcastInDim S1x8192x3600 ![] bcast_S_S1x8192x3600 main_cst_2
  let main_v11 : IVec S1x8192x3600 1 := cmpf .olt main_v9 main_v10
  (main_v2, main_v5, main_v8, main_v11)
-- ==== Pre_finite_mid.lean ====
abbrev S1x8192x1024 : Shape := ⟨3, ![1, 8192, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn_part2 {F : FTy → Type} [FloatOps F] (main_arg12 : FVec F S1x1024 .f32) (main_arg13 : FVec F S1x1024 .f32) (main_v2 : IVec S1x8192x1024 1) (main_v5 : IVec S1x8192x1024 1) (main_v8 : IVec S1x8192x1024 1) (main_v11 : IVec S1x1024 1) (main_v14 : IVec S1x1024 1) (main_v17 : IVec S1x1024 1) (main_v20 : IVec S1x1024 1) (main_v23 : IVec S1x1024x1024 1) (main_v26 : IVec S1x1024 1) (main_v29 : IVec S1x1024 1) (main_v32 : IVec S1x1024x4096 1) (main_v35 : IVec S1x4096x1024 1) : IVec S1x8192x1024 1 × IVec S1x8192x1024 1 × IVec S1x8192x1024 1 × IVec S1x1024 1 × IVec S1x1024 1 × IVec S1x1024 1 × IVec S1x1024 1 × IVec S1x1024x1024 1 × IVec S1x1024 1 × IVec S1x1024 1 × IVec S1x1024x4096 1 × IVec S1x4096x1024 1 × IVec S1x1024 1 × IVec S1x1024 1 :=
  let main_v36 : FVec F S1x1024 .f32 := Host.absf main_arg12
  let main_cst_11 : FVec F S_ .f32 := constant S_ .f32 0x7F800000#32
  let main_v37 : FVec F S1x1024 .f32 := broadcastInDim S1x1024 ![] bcast_S_S1x1024 main_cst_11
  let main_v38 : IVec S1x1024 1 := cmpf .olt main_v36 main_v37
  let main_v39 : FVec F S1x1024 .f32 := Host.absf main_arg13
  let main_cst_12 : FVec F S_ .f32 := constant S_ .f32 0x7F800000#32
  let main_v40 : FVec F S1x1024 .f32 := broadcastInDim S1x1024 ![] bcast_S_S1x1024 main_cst_12
  let main_v41 : IVec S1x1024 1 := cmpf .olt main_v39 main_v40
  (main_v2, main_v5, main_v8, main_v11, main_v14, main_v17, main_v20, main_v23, main_v26, main_v29, main_v32, main_v35, main_v38, main_v41)

def fn_part1 {F : FTy → Type} [FloatOps F] (main_arg6 : FVec F S1x1024 .f32) (main_arg7 : FVec F S1x1024x1024 .f32) (main_arg8 : FVec F S1x1024 .f32) (main_arg9 : FVec F S1x1024 .f32) (main_arg10 : FVec F S1x1024x4096 .f32) (main_arg11 : FVec F S1x4096x1024 .f32) (main_arg12 : FVec F S1x1024 .f32) (main_arg13 : FVec F S1x1024 .f32) (main_v2 : IVec S1x8192x1024 1) (main_v5 : IVec S1x8192x1024 1) (main_v8 : IVec S1x8192x1024 1) (main_v11 : IVec S1x1024 1) (main_v14 : IVec S1x1024 1) (main_v17 : IVec S1x1024 1) : IVec S1x8192x1024 1 × IVec S1x8192x1024 1 × IVec S1x8192x1024 1 × IVec S1x1024 1 × IVec S1x1024 1 × IVec S1x1024 1 × IVec S1x1024 1 × IVec S1x1024x1024 1 × IVec S1x1024 1 × IVec S1x1024 1 × IVec S1x1024x4096 1 × IVec S1x4096x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024x1024 .f32 := Host.absf main_arg7
  let main_cst_6 : FVec F S_ .f32 := constant S_ .f32 0x7F800000#32
  let main_v22 : FVec F S1x1024x1024 .f32 := broadcastInDim S1x1024x1024 ![] bcast_S_S1x1024x1024 main_cst_6
  let main_v23 : IVec S1x1024x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1x1024x4096 .f32 := Host.absf main_arg10
  let main_cst_9 : FVec F S_ .f32 := constant S_ .f32 0x7F800000#32
  let main_v31 : FVec F S1x1024x4096 .f32 := broadcastInDim S1x1024x4096 ![] bcast_S_S1x1024x4096 main_cst_9
  let main_v32 : IVec S1x1024x4096 1 := cmpf .olt main_v30 main_v31
  let main_v33 : FVec F S1x4096x1024 .f32 := Host.absf main_arg11
  let main_cst_10 : FVec F S_ .f32 := constant S_ .f32 0x7F800000#32
  let main_v34 : FVec F S1x4096x1024 .f32 := broadcastInDim S1x4096x1024 ![] bcast_S_S1x4096x1024 main_cst_10
  let main_v35 : IVec S1x4096x1024 1 := cmpf .olt main_v33 main_v34
  fn_part2 (F := F) main_arg12 main_arg13 main_v2 main_v5 main_v8 main_v11 main_v14 main_v17 main_v20 main_v23 main_v26 main_v29 main_v32 main_v35

def fn {F : FTy → Type} [FloatOps F] (main_arg0 : FVec F S1x8192x1024 .f32) (main_arg1 : FVec F S1x8192x1024 .f32) (main_arg2 : FVec F S1x8192x1024 .f32) (main_arg3 : FVec F S1x1024 .f32) (main_arg4 : FVec F S1x1024 .f32) (main_arg5 : FVec F S1x1024 .f32) (main_arg6 : FVec F S1x1024 .f32) (main_arg7 : FVec F S1x1024x1024 .f32) (main_arg8 : FVec F S1x1024 .f32) (main_arg9 : FVec F S1x1024 .f32) (main_arg10 : FVec F S1x1024x4096 .f32) (main_arg11 : FVec F S1x4096x1024 .f32) (main_arg12 : FVec F S1x1024 .f32) (main_arg13 : FVec F S1x1024 .f32) : IVec S1x8192x1024 1 × IVec S1x8192x1024 1 × IVec S1x8192x1024 1 × IVec S1x1024 1 × IVec S1x1024 1 × IVec S1x1024 1 × IVec S1x1024 1 × IVec S1x1024x1024 1 × IVec S1x1024 1 × IVec S1x1024 1 × IVec S1x1024x4096 1 × IVec S1x4096x1024 1 × IVec S1x1024 1 × IVec S1x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_arg11 main_arg12 main_arg13 main_v2 main_v5 main_v8 main_v11 main_v14 main_v17
-- ==== Kernel.lean ====
abbrev S1x8192x1024 : Shape := ⟨3, ![1, 8192, 1024]⟩
abbrev S1x1024 : Shape := ⟨2, ![1, 1024]⟩
abbrev S1x1024x3600 : Shape := ⟨3, ![1, 1024, 3600]⟩
abbrev S1x8192x3600 : Shape := ⟨3, ![1, 8192, 3600]⟩
abbrev S1024x3600 : Shape := ⟨2, ![1024, 3600]⟩
abbrev S3600x1024 : Shape := ⟨2, ![3600, 1024]⟩
abbrev S8192x3600 : Shape := ⟨2, ![8192, 3600]⟩
abbrev S_ : Shape := ⟨0, ![]⟩
abbrev S8192x3712 : Shape := ⟨2, ![8192, 3712]⟩
abbrev S8192x1024 : Shape := ⟨2, ![8192, 1024]⟩
abbrev S8x128 : Shape := ⟨2, ![8, 128]⟩
abbrev S8x1024 : Shape := ⟨2, ![8, 1024]⟩
abbrev S1024x3712 : Shape := ⟨2, ![1024, 3712]⟩
abbrev S1024x1024 : Shape := ⟨2, ![1024, 1024]⟩
abbrev S3712x1024 : Shape := ⟨2, ![3712, 1024]⟩
abbrev S1 : Shape := ⟨1, ![1]⟩
abbrev S112x1024 : Shape := ⟨2, ![112, 1024]⟩
abbrev S1024 : Shape := ⟨1, ![1024]⟩
abbrev S1024x1 : Shape := ⟨2, ![1024, 1]⟩

abbrev nBuf : Space → Nat
  | .hbm => 23
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024x3600, .f32⟩
  | .hbm, ⟨4, _⟩ => ⟨S1x8192x1024, .f32⟩
  | .hbm, ⟨5, _⟩ => ⟨S1x8192x3600, .f32⟩
  | .hbm, ⟨6, _⟩ => ⟨S1024x3600, .f32⟩
  | .hbm, ⟨7, _⟩ => ⟨S3600x1024, .f32⟩
  | .hbm, ⟨8, _⟩ => ⟨S3600x1024, .bf16⟩
  | .hbm, ⟨9, _⟩ => ⟨S8192x3600, .f32⟩
  | .hbm, ⟨10, _⟩ => ⟨S_, .i32⟩
  | .hbm, ⟨11, _⟩ => ⟨S_, .f32⟩
  | .hbm, ⟨12, _⟩ => ⟨S8192x3712, .f32⟩
  | .hbm, ⟨13, _⟩ => ⟨S8192x3712, .bf16⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S8x128, .f32⟩
  | .hbm, ⟨21, _⟩ => ⟨S8192x1024, .f32⟩
  | .hbm, ⟨22, _⟩ => ⟨S8x1024, .f32⟩
  | .local _ .vmem, ⟨0, _⟩ => ⟨S1024x3712, .bf16⟩
  | .local _ .vmem, ⟨1, _⟩ => ⟨S1024x3712, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | .local _ .vmem, ⟨10, _⟩ => ⟨S3712x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x8192x1024 : Shape := ⟨3, ![1, 8192, 1024]⟩
abbrev S1x1024 : Shape := ⟨2, ![1, 1024]⟩
abbrev S1x1024x3600 : Shape := ⟨3, ![1, 1024, 3600]⟩
abbrev S1x8192x3600 : Shape := ⟨3, ![1, 8192, 3600]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3600 : Shape := ⟨2, ![1024, 3600]⟩
abbrev S1024 : Shape := ⟨1, ![1024]⟩
abbrev S8192 : Shape := ⟨1, ![8192]⟩
abbrev S8192x1024 : Shape := ⟨2, ![8192, 1024]⟩
abbrev S6x1024 : Shape := ⟨2, ![6, 1024]⟩
abbrev S8x1024 : Shape := ⟨2, ![8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024x3600, .f32⟩
  | .hbm, ⟨4, _⟩ => ⟨S1x8192x1024, .f32⟩
  | .hbm, ⟨5, _⟩ => ⟨S1x8192x3600, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S_, .f32⟩
  | .hbm, ⟨16, _⟩ => ⟨S1x8192x1024, .f32⟩
  | .hbm, ⟨17, _⟩ => ⟨S1x8192x1024, .f32⟩
  | .hbm, ⟨18, _⟩ => ⟨S_, .f32⟩
  | .hbm, ⟨19, _⟩ => ⟨S1x8192, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1024, .f32⟩
  | .hbm, ⟨25, _⟩ => ⟨S1x8192x1024, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S_, .f32⟩
  | .hbm, ⟨38, _⟩ => ⟨S1x1x1024, .f32⟩
  | .hbm, ⟨39, _⟩ => ⟨S1x1x1024, .f32⟩
  | .hbm, ⟨40, _⟩ => ⟨S1x8192x1024, .f32⟩
  | .hbm, ⟨41, _⟩ => ⟨S1x8192x1024, .f32⟩
  | .hbm, ⟨42, _⟩ => ⟨S1x1x1024, .f32⟩
  | .hbm, ⟨43, _⟩ => ⟨S1x8192x1024, .f32⟩
  | .hbm, ⟨44, _⟩ => ⟨S1x8192x1024, .f32⟩
  | .hbm, ⟨45, _⟩ => ⟨S1024x3600, .f32⟩
  | .hbm, ⟨46, _⟩ => ⟨S1x8192x3600, .f32⟩
  | .hbm, ⟨47, _⟩ => ⟨S1x8192x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S1x8192x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x8192x1024, .f32⟩
  | .hbm, ⟨64, _⟩ => ⟨S_, .f32⟩
  | .hbm, ⟨65, _⟩ => ⟨S1x8192, .f32⟩
  | .hbm, ⟨66, _⟩ => ⟨S1x8192x1, .f32⟩
  | .hbm, ⟨67, _⟩ => ⟨S1x8192x1024, .f32⟩
  | .hbm, ⟨68, _⟩ => ⟨S1x8192x1024, .f32⟩
  | .hbm, ⟨69, _⟩ => ⟨S1x8192x1, .f32⟩
  | .hbm, ⟨70, _⟩ => ⟨S1x8192x1024, .f32⟩
  | .hbm, ⟨71, _⟩ => ⟨S_, .f32⟩
  | .hbm, ⟨72, _⟩ => ⟨S1x8192, .f32⟩
  | .hbm, ⟨73, _⟩ => ⟨S1x8192x1, .f32⟩
  | .hbm, ⟨74, _⟩ => ⟨S1x8192x1024, .f32⟩
  | .hbm, ⟨75, _⟩ => ⟨S_, .f32⟩
  | .hbm, ⟨76, _⟩ => ⟨S1x8192x1, .f32⟩
  | .hbm, ⟨77, _⟩ => ⟨S1x8192x1, .f32⟩
  | .hbm, ⟨78, _⟩ => ⟨S_, .f32⟩
  | .hbm, ⟨79, _⟩ => ⟨S8192, .f32⟩
  | .hbm, ⟨80, _⟩ => ⟨S1x8192, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S_, .f32⟩
  | .hbm, ⟨85, _⟩ => ⟨S1x8192, .f32⟩
  | .hbm, ⟨86, _⟩ => ⟨S1x8192x1, .f32⟩
  | .hbm, ⟨87, _⟩ => ⟨S1x8192x1024, .f32⟩
  | .hbm, ⟨88, _⟩ => ⟨S1x8192x1, .f32⟩
  | .hbm, ⟨89, _⟩ => ⟨S_, .f32⟩
  | .hbm, ⟨90, _⟩ => ⟨S1x8192x1, .f32⟩
  | .hbm, ⟨91, _⟩ => ⟨S1x8192x1, .f32⟩
  | .hbm, ⟨92, _⟩ => ⟨S_, .f32⟩
  | .hbm, ⟨93, _⟩ => ⟨S8192, .f32⟩
  | .hbm, ⟨94, _⟩ => ⟨S1x8192, .f32⟩
  | .hbm, ⟨95, _⟩ => ⟨S1x8192x1024, .f32⟩
  | .hbm, ⟨96, _⟩ => ⟨S1x8192x1024, .f32⟩
  | .hbm, ⟨97, _⟩ => ⟨S8192x1024, .f32⟩
  | .hbm, ⟨98, _⟩ => ⟨S_, .f32⟩
  | .hbm, ⟨99, _⟩ => ⟨S6x1024, .f32⟩
  | .hbm, ⟨100, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_18 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== FfnKernel.lean ====
abbrev S1x8192x1024 : Shape := ⟨3, ![1, 8192, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S_ : Shape := ⟨0, ![]⟩
abbrev S4x1024 : Shape := ⟨2, ![4, 1024]⟩
abbrev S8x1024 : Shape := ⟨2, ![8, 1024]⟩
abbrev S8192x1024 : Shape := ⟨2, ![8192, 1024]⟩
abbrev S1x1x1024 : Shape := ⟨3, ![1, 1, 1024]⟩
abbrev S1x8192 : Shape := ⟨2, ![1, 8192]⟩
abbrev S1x8192x1 : Shape := ⟨3, ![1, 8192, 1]⟩
abbrev S1024 : Shape := ⟨1, ![1024]⟩
abbrev S1x8192x4096 : Shape := ⟨3, ![1, 8192, 4096]⟩
abbrev S8192x4096 : Shape := ⟨2, ![8192, 4096]⟩
abbrev S8192x1 : Shape := ⟨2, ![8192, 1]⟩
abbrev S512x1024 : Shape := ⟨2, ![512, 1024]⟩
abbrev S512x4096 : Shape := ⟨2, ![512, 4096]⟩
abbrev S512x1 : Shape := ⟨2, ![512, 1]⟩
abbrev S3 : Shape := ⟨1, ![3]⟩
abbrev S1 : Shape := ⟨1, ![1]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩

abbrev nBuf : Space → Nat
  | .hbm => 114
  | .vmem => 25
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1x8192x1024, .f32⟩
  | .hbm, ⟨11, _⟩ => ⟨S1x8192x1024, .f32⟩
  | .hbm, ⟨12, _⟩ => ⟨S1024x1024, .f32⟩
  | .hbm, ⟨13, _⟩ => ⟨S1024x1024, .bf16⟩
  | .hbm, ⟨14, _⟩ => ⟨S4096x1024, .f32⟩
  | .hbm, ⟨15, _⟩ => ⟨S4096x1024, .bf16⟩
  | .hbm, ⟨16, _⟩ => ⟨S1024x4096, .f32⟩
  | .hbm, ⟨17, _⟩ => ⟨S1024x8x512, .f32⟩
  | .hbm, ⟨18, _⟩ => ⟨S8x1024x512, .f32⟩
  | .hbm, ⟨19, _⟩ => ⟨S8x1024x512, .bf16⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S4x1024, .f32⟩
  | .hbm, ⟨25, _⟩ => ⟨S8x1024, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S1024x1024, .f32⟩
  | .hbm, ⟨30, _⟩ => ⟨S1x8192x1024, .f32⟩
  | .hbm, ⟨31, _⟩ => ⟨S_, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S_, .f32⟩
  | .hbm, ⟨42, _⟩ => ⟨S1x8192x1, .f32⟩
  | .hbm, ⟨43, _⟩ => ⟨S1x8192x1, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S_, .f32⟩
  | .hbm, ⟨48, _⟩ => ⟨S1x8192, .f32⟩
  | .hbm, ⟨49, _⟩ => ⟨S1x8192x1, .f32⟩
  | .hbm, ⟨50, _⟩ => ⟨S_, .f32⟩
  | .hbm, ⟨51, _⟩ => ⟨S1x8192x1, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S1x8192x1, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S1x8192x1024, .f32⟩
  | .hbm, ⟨61, _⟩ => ⟨S1024, .f32⟩
  | .hbm, ⟨62, _⟩ => ⟨S1x1x1024, .f32⟩
  | .hbm, ⟨63, _⟩ => ⟨S1x8192x1024, .f32⟩
  | .hbm, ⟨64, _⟩ => ⟨S1x8192x1024, .f32⟩
  | .hbm, ⟨65, _⟩ => ⟨S1024, .f32⟩
  | .hbm, ⟨66, _⟩ => ⟨S1x1x1024, .f32⟩
  | .hbm, ⟨67, _⟩ => ⟨S1x8192x1024, .f32⟩
  | .hbm, ⟨68, _⟩ => ⟨S1x8192x1024, .f32⟩
  | .hbm, ⟨69, _⟩ => ⟨S_, .f32⟩
  | .hbm, ⟨70, _⟩ => ⟨S1x8192, .f32⟩
  | .hbm, ⟨71, _⟩ => ⟨S1x8192x1, .f32⟩
  | .hbm, ⟨72, _⟩ => ⟨S_, .f32⟩
  | .hbm, ⟨73, _⟩ => ⟨S1x8192x1, .f32⟩
  | .hbm, ⟨74, _⟩ => ⟨S1x8192x1, .f32⟩
  | .hbm, ⟨75, _⟩ => ⟨S1x8192x1024, .f32⟩
  | .hbm, ⟨76, _⟩ => ⟨S1x8192x1024, .f32⟩
  | .hbm, ⟨77, _⟩ => ⟨S1x8192x1024, .f32⟩
  | .hbm, ⟨78, _⟩ => ⟨S_, .f32⟩
  | .hbm, ⟨79, _⟩ => ⟨S1x8192, .f32⟩
  | .hbm, ⟨80, _⟩ => ⟨S1x8192x1, .f32⟩
  | .hbm, ⟨81, _⟩ => ⟨S_, .f32⟩
  | .hbm, ⟨82, _⟩ => ⟨S1x8192x1, .f32⟩
  | .hbm, ⟨83, _⟩ => ⟨S1x8192x1, .f32⟩
  | .hbm, ⟨84, _⟩ => ⟨S1x8192x1024, .f32⟩
  | .hbm, ⟨85, _⟩ => ⟨S1x8192x1024, .f32⟩
  | .hbm, ⟨86, _⟩ => ⟨S_, .f32⟩
  | .hbm, ⟨87, _⟩ => ⟨S1x8192x1, .f32⟩
  | .hbm, ⟨88, _⟩ => ⟨S1x8192x1, .f32⟩
  | .hbm, ⟨89, _⟩ => ⟨S1x8192x1, .f32⟩
  | .hbm, ⟨90, _⟩ => ⟨S1x8192x1024, .f32⟩
  | .hbm, ⟨91, _⟩ => ⟨S1x8192x1024, .f32⟩
  | .hbm, ⟨92, _⟩ => ⟨S1x1x1024, .f32⟩
  | .hbm, ⟨93, _⟩ => ⟨S_, .f32⟩
  | .hbm, ⟨94, _⟩ => ⟨S1x1x1024, .f32⟩
  | .hbm, ⟨95, _⟩ => ⟨S1x1x1024, .f32⟩
  | .hbm, ⟨96, _⟩ => ⟨S1x8192x1024, .f32⟩
  | .hbm, ⟨97, _⟩ => ⟨S1x8192x1024, .f32⟩
  | .hbm, ⟨98, _⟩ => ⟨S1x1x1024, .f32⟩
  | .hbm, ⟨99, _⟩ => ⟨S1x8192x1024, .f32⟩
  | .hbm, ⟨100, _⟩ => ⟨S1x8192x1024, .f32⟩
  | .hbm, ⟨101, _⟩ => ⟨S1024x4096, .f32⟩
  | .hbm, ⟨102, _⟩ => ⟨S1x8192x4096, .f32⟩
  | .hbm, ⟨103, _⟩ => ⟨S8192x4096, .f32⟩
  | .hbm, ⟨104, _⟩ => ⟨S8192x4096, .bf16⟩
  | .hbm, ⟨105, _⟩ => ⟨S8192x1024, .f32⟩
  | .hbm, ⟨106, _⟩ => ⟨S8192x1, .f32⟩
  | .hbm, ⟨107, _⟩ => ⟨S8192x1024, .f32⟩
  | .hbm, ⟨108, _⟩ => ⟨S8192x1024, .bf16⟩
  | .hbm, ⟨109, _⟩ => ⟨S8192x4096, .bf16⟩
  | .hbm, ⟨110, _⟩ => ⟨S8192x1024, .bf16⟩
  | .hbm, ⟨111, _⟩ => ⟨S8192x1024, .f32⟩
  | .hbm, ⟨112, _⟩ => ⟨S8192x1024, .f32⟩
  | .hbm, ⟨113, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S512x4096, .bf16⟩
  | .local _ .vmem, ⟨14, _⟩ => ⟨S512x4096, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | .local _ .vmem, ⟨22, _⟩ => ⟨S1024x1024, .bf16⟩
  | .local _ .vmem, ⟨23, _⟩ => ⟨S8x1024x512, .bf16⟩
  | .local _ .vmem, ⟨24, _⟩ => ⟨S4096x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83_0 : Ref sig .tc := ⟨.hbm, 109, rfl⟩
abbrev main_v83_1 : Ref sig .tc := ⟨.hbm, 110, rfl⟩
abbrev main_v83_2 : Ref sig .tc := ⟨.hbm, 111, rfl⟩
abbrev main_v83_3 : Ref sig .tc := ⟨.hbm, 112, rfl⟩
abbrev main_v83_4 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S1x8192x1024 : Shape := ⟨3, ![1, 8192, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩
abbrev S1x8192x4096 : Shape := ⟨3, ![1, 8192, 4096]⟩
abbrev S1024x1024 : Shape := ⟨2, ![1024, 1024]⟩
abbrev S1x1x1024 : Shape := ⟨3, ![1, 1, 1024]⟩
abbrev S1024 : Shape := ⟨1, ![1024]⟩
abbrev S1x8192 : Shape := ⟨2, ![1, 8192]⟩
abbrev S1x8192x1 : Shape := ⟨3, ![1, 8192, 1]⟩
abbrev S1024x4096 : Shape := ⟨2, ![1024, 4096]⟩
abbrev S4096x1024 : Shape := ⟨2, ![4096, 1024]⟩
abbrev S8192 : Shape := ⟨1, ![8192]⟩
abbrev S3x1024 : Shape := ⟨2, ![3, 1024]⟩
abbrev S8x1024 : Shape := ⟨2, ![8, 1024]⟩
abbrev S8192x4096 : Shape := ⟨2, ![8192, 4096]⟩
abbrev S8192x1024 : Shape := ⟨2, ![8192, 1024]⟩

abbrev nBuf : Space → Nat
  | .hbm => 251
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x1024, .f32⟩
  | 3 => ⟨S1x1024, .f32⟩
  | 4 => ⟨S1x1024, .f32⟩
  | 5 => ⟨S1x1024x1024, .f32⟩
  | 6 => ⟨S1x1024, .f32⟩
  | 7 => ⟨S1x1024, .f32⟩
  | 8 => ⟨S1x1024x4096, .f32⟩
  | 9 => ⟨S1x4096x1024, .f32⟩
  | 10 => ⟨S1x8192x1024, .f32⟩
  | 11 => ⟨S1x8192x1024, .f32⟩
  | 12 => ⟨S_, .f32⟩
  | 13 => ⟨S1x8192x1024, .f32⟩
  | 14 => ⟨S_, .f32⟩
  | 15 => ⟨S1x8192x4096, .f32⟩
  | 16 => ⟨S1024x1024, .f32⟩
  | 17 => ⟨S1x8192x1024, .f32⟩
  | 18 => ⟨S1x8192x1024, .f32⟩
  | 19 => ⟨S_, .f32⟩
  | 20 => ⟨S1x8192x1024, .f32⟩
  | 21 => ⟨S1x8192x1024, .f32⟩
  | 22 => ⟨S1x1x1024, .f32⟩
  | 23 => ⟨S1x8192x1024, .f32⟩
  | 24 => ⟨S1x8192x1024, .f32⟩
  | 25 => ⟨S1x8192x1024, .f32⟩
  | 26 => ⟨S1024, .f32⟩
  | 27 => ⟨S1024, .f32⟩
  | 28 => ⟨S_, .f32⟩
  | 29 => ⟨S1x8192, .f32⟩
  | 30 => ⟨S1x8192x1, .f32⟩
  | 31 => ⟨S_, .f32⟩
  | 32 => ⟨S1x8192x1, .f32⟩
  | 33 => ⟨S1x8192x1, .f32⟩
  | 34 => ⟨S1x8192x1024, .f32⟩
  | 35 => ⟨S1x8192x1024, .f32⟩
  | 36 => ⟨S1x8192x1024, .f32⟩
  | 37 => ⟨S_, .f32⟩
  | 38 => ⟨S1x8192x1024, .f32⟩
  | 39 => ⟨S1x8192x1024, .f32⟩
  | 40 => ⟨S_, .f32⟩
  | 41 => ⟨S1x8192, .f32⟩
  | 42 => ⟨S1x8192x1, .f32⟩
  | 43 => ⟨S_, .f32⟩
  | 44 => ⟨S1x8192x1, .f32⟩
  | 45 => ⟨S1x8192x1, .f32⟩
  | 46 => ⟨S1x8192x1024, .f32⟩
  | 47 => ⟨S1x8192x1024, .f32⟩
  | 48 => ⟨S_, .f32⟩
  | 49 => ⟨S1x8192x1, .f32⟩
  | 50 => ⟨S1x8192x1, .f32⟩
  | 51 => ⟨S1x8192x1, .f32⟩
  | 52 => ⟨S1x8192x1, .f32⟩
  | 53 => ⟨S_, .f32⟩
  | 54 => ⟨S1x8192x1, .f32⟩
  | 55 => ⟨S1x8192x1, .f32⟩
  | 56 => ⟨S1x8192x1024, .f32⟩
  | 57 => ⟨S1x8192x1024, .f32⟩
  | 58 => ⟨S1x1x1024, .f32⟩
  | 59 => ⟨S1x8192x1024, .f32⟩
  | 60 => ⟨S1x8192x1024, .f32⟩
  | 61 => ⟨S1x1x1024, .f32⟩
  | 62 => ⟨S1x8192x1024, .f32⟩
  | 63 => ⟨S1x8192x1024, .f32⟩
  | 64 => ⟨S_, .f32⟩
  | 65 => ⟨S1x8192, .f32⟩
  | 66 => ⟨S1x8192x1, .f32⟩
  | 67 => ⟨S_, .f32⟩
  | 68 => ⟨S1x8192x1, .f32⟩
  | 69 => ⟨S1x8192x1, .f32⟩
  | 70 => ⟨S1x8192x1024, .f32⟩
  | 71 => ⟨S1x8192x1024, .f32⟩
  | 72 => ⟨S1x8192x1024, .f32⟩
  | 73 => ⟨S_, .f32⟩
  | 74 => ⟨S1x8192x1024, .f32⟩
  | 75 => ⟨S1x8192x1024, .f32⟩
  | 76 => ⟨S_, .f32⟩
  | 77 => ⟨S1x8192, .f32⟩
  | 78 => ⟨S1x8192x1, .f32⟩
  | 79 => ⟨S_, .f32⟩
  | 80 => ⟨S1x8192x1, .f32⟩
  | 81 => ⟨S1x8192x1, .f32⟩
  | 82 => ⟨S1x8192x1024, .f32⟩
  | 83 => ⟨S1x8192x1024, .f32⟩
  | 84 => ⟨S_, .f32⟩
  | 85 => ⟨S1x8192x1, .f32⟩
  | 86 => ⟨S1x8192x1, .f32⟩
  | 87 => ⟨S1x8192x1, .f32⟩
  | 88 => ⟨S1x8192x1, .f32⟩
  | 89 => ⟨S_, .f32⟩
  | 90 => ⟨S1x8192x1, .f32⟩
  | 91 => ⟨S1x8192x1, .f32⟩
  | 92 => ⟨S1x8192x1024, .f32⟩
  | 93 => ⟨S1x8192x1024, .f32⟩
  | 94 => ⟨S1x1x1024, .f32⟩
  | 95 => ⟨S_, .f32⟩
  | 96 => ⟨S1x1x1024, .f32⟩
  | 97 => ⟨S1x1x1024, .f32⟩
  | 98 => ⟨S1x8192x1024, .f32⟩
  | 99 => ⟨S1x8192x1024, .f32⟩
  | 100 => ⟨S1x1x1024, .f32⟩
  | 101 => ⟨S1x8192x1024, .f32⟩
  | 102 => ⟨S1x8192x1024, .f32⟩
  | 103 => ⟨S1024x4096, .f32⟩
  | 104 => ⟨S1x8192x4096, .f32⟩
  | 105 => ⟨S1x8192x4096, .f32⟩
  | 106 => ⟨S_, .f32⟩
  | 107 => ⟨S1x8192x1024, .f32⟩
  | 108 => ⟨S1x8192x1024, .f32⟩
  | 109 => ⟨S_, .f32⟩
  | 110 => ⟨S1x8192x4096, .f32⟩
  | 111 => ⟨S1x8192x4096, .f32⟩
  | 112 => ⟨S_, .f32⟩
  | 113 => ⟨S1x8192x4096, .f32⟩
  | 114 => ⟨S1x8192x4096, .i1⟩
  | 115 => ⟨S_, .f32⟩
  | 116 => ⟨S1x8192x4096, .f32⟩
  | 117 => ⟨S1x8192x4096, .f32⟩
  | 118 => ⟨S_, .f32⟩
  | 119 => ⟨S1x8192x4096, .f32⟩
  | 120 => ⟨S1x8192x4096, .f32⟩
  | 121 => ⟨S4096x1024, .f32⟩
  | 122 => ⟨S1x8192x1024, .f32⟩
  | 123 => ⟨S1x8192x4096, .f32⟩
  | 124 => ⟨S1x8192x4096, .f32⟩
  | 125 => ⟨S_, .f32⟩
  | 126 => ⟨S1x8192x4096, .f32⟩
  | 127 => ⟨S1x8192x4096, .f32⟩
  | _ => ⟨S1x8192x1024, .f32⟩

abbrev hbmTy0_1 (i : Nat) : BufTy := match i % 128 with
  | 0 => ⟨S_, .f32⟩
  | 1 => ⟨S1x8192x1024, .f32⟩
  | 2 => ⟨S1x8192x1024, .f32⟩
  | 3 => ⟨S1x8192x1024, .f32⟩
  | 4 => ⟨S_, .f32⟩
  | 5 => ⟨S1x1024, .f32⟩
  | 6 => ⟨S1x1x1024, .f32⟩
  | 7 => ⟨S_, .f32⟩
  | 8 => ⟨S1024, .f32⟩
  | 9 => ⟨S1x1024, .f32⟩
  | 10 => ⟨S1x8192x1024, .f32⟩
  | 11 => ⟨S_, .f32⟩
  | 12 => ⟨S1x1024, .f32⟩
  | 13 => ⟨S1x1x1024, .f32⟩
  | 14 => ⟨S1x8192x1024, .f32⟩
  | 15 => ⟨S1x8192x1024, .f32⟩
  | 16 => ⟨S_, .f32⟩
  | 17 => ⟨S1024, .f32⟩
  | 18 => ⟨S1x1024, .f32⟩
  | 19 => ⟨S1x8192x1024, .f32⟩
  | 20 => ⟨S_, .f32⟩
  | 21 => ⟨S1x8192, .f32⟩
  | 22 => ⟨S1x8192x1, .f32⟩
  | 23 => ⟨S1x8192x1024, .f32⟩
  | 24 => ⟨S1x8192x1024, .f32⟩
  | 25 => ⟨S1x8192x1, .f32⟩
  | 26 => ⟨S1x8192x1024, .f32⟩
  | 27 => ⟨S_, .f32⟩
  | 28 => ⟨S1x8192, .f32⟩
  | 29 => ⟨S1x8192x1, .f32⟩
  | 30 => ⟨S1x8192x1024, .f32⟩
  | 31 => ⟨S_, .f32⟩
  | 32 => ⟨S1x8192x1, .f32⟩
  | 33 => ⟨S1x8192x1, .f32⟩
  | 34 => ⟨S_, .f32⟩
  | 35 => ⟨S8192, .f32⟩
  | 36 => ⟨S1x8192, .f32⟩
  | 37 => ⟨S1x8192x1024, .f32⟩
  | 38 => ⟨S1x8192x1024, .f32⟩
  | 39 => ⟨S1x8192x1024, .f32⟩
  | 40 => ⟨S_, .f32⟩
  | 41 => ⟨S1x8192, .f32⟩
  | 42 => ⟨S1x8192x1, .f32⟩
  | 43 => ⟨S1x8192x1024, .f32⟩
  | 44 => ⟨S1x8192x1, .f32⟩
  | 45 => ⟨S_, .f32⟩
  | 46 => ⟨S1x8192x1, .f32⟩
  | 47 => ⟨S1x8192x1, .f32⟩
  | 48 => ⟨S_, .f32⟩
  | 49 => ⟨S8192, .f32⟩
  | 50 => ⟨S1x8192, .f32⟩
  | 51 => ⟨S1x8192x1024, .f32⟩
  | 52 => ⟨S1x8192x1024, .f32⟩
  | 53 => ⟨S_, .f32⟩
  | 54 => ⟨S1x1024, .f32⟩
  | 55 => ⟨S1x1x1024, .f32⟩
  | 56 => ⟨S_, .f32⟩
  | 57 => ⟨S1024, .f32⟩
  | 58 => ⟨S1x8192x1024, .f32⟩
  | 59 => ⟨S_, .f32⟩
  | 60 => ⟨S1x1024, .f32⟩
  | 61 => ⟨S1x1x1024, .f32⟩
  | 62 => ⟨S1x8192x1024, .f32⟩
  | 63 => ⟨S1x8192x1024, .f32⟩
  | 64 => ⟨S_, .f32⟩
  | 65 => ⟨S1024, .f32⟩
  | 66 => ⟨S1x8192x1024, .f32⟩
  | 67 => ⟨S_, .f32⟩
  | 68 => ⟨S1x8192, .f32⟩
  | 69 => ⟨S1x8192x1, .f32⟩
  | 70 => ⟨S1x8192x1024, .f32⟩
  | 71 => ⟨S1x8192x1024, .f32⟩
  | 72 => ⟨S1x8192x1, .f32⟩
  | 73 => ⟨S1x8192x1024, .f32⟩
  | 74 => ⟨S_, .f32⟩
  | 75 => ⟨S1x8192, .f32⟩
  | 76 => ⟨S1x8192x1, .f32⟩
  | 77 => ⟨S_, .f32⟩
  | 78 => ⟨S1x8192x1, .f32⟩
  | 79 => ⟨S1x8192x1, .f32⟩
  | 80 => ⟨S_, .f32⟩
  | 81 => ⟨S8192, .f32⟩
  | 82 => ⟨S1x8192, .f32⟩
  | 83 => ⟨S1x8192x1024, .f32⟩
  | 84 => ⟨S1x8192x1024, .f32⟩
  | 85 => ⟨S1x8192x1024, .f32⟩
  | 86 => ⟨S_, .f32⟩
  | 87 => ⟨S1x8192, .f32⟩
  | 88 => ⟨S1x8192x1, .f32⟩
  | 89 => ⟨S1x8192x1024, .f32⟩
  | 90 => ⟨S1x8192x1, .f32⟩
  | 91 => ⟨S_, .f32⟩
  | 92 => ⟨S1x8192x1, .f32⟩
  | 93 => ⟨S1x8192x1, .f32⟩
  | 94 => ⟨S_, .f32⟩
  | 95 => ⟨S8192, .f32⟩
  | 96 => ⟨S1x8192, .f32⟩
  | 97 => ⟨S1x8192x1024, .f32⟩
  | 98 => ⟨S1x8192x1024, .f32⟩
  | 99 => ⟨S1x1024, .f32⟩
  | 100 => ⟨S1x1024, .f32⟩
  | 101 => ⟨S1x8192x1024, .f32⟩
  | 102 => ⟨S1x8192x1024, .f32⟩
  | 103 => ⟨S1x8192x1024, .f32⟩
  | 104 => ⟨S_, .f32⟩
  | 105 => ⟨S1x1024, .f32⟩
  | 106 => ⟨S1x1x1024, .f32⟩
  | 107 => ⟨S_, .f32⟩
  | 108 => ⟨S1024, .f32⟩
  | 109 => ⟨S1x1024, .f32⟩
  | 110 => ⟨S_, .f32⟩
  | 111 => ⟨S1x8192x1024, .f32⟩
  | 112 => ⟨S1x8192x1024, .f32⟩
  | 113 => ⟨S1x8192x1024, .f32⟩
  | 114 => ⟨S_, .f32⟩
  | 115 => ⟨S3x1024, .f32⟩
  | 116 => ⟨S8x1024, .f32⟩
  | 117 => ⟨S8192x4096, .f32⟩
  | 118 => ⟨S8192x4096, .bf16⟩
  | 119 => ⟨S8192x1024, .f32⟩
  | 120 => ⟨S8192x1024, .bf16⟩
  | 121 => ⟨S8192x1024, .f32⟩
  | 122 => ⟨S8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_call0_cst : Ref sig .tc := ⟨.hbm, 109, rfl⟩
abbrev main_call0_v0 : Ref sig .tc := ⟨.hbm, 110, rfl⟩
abbrev main_v78 : Ref sig .tc := ⟨.hbm, 111, rfl⟩
abbrev main_cst_18 : Ref sig .tc := ⟨.hbm, 112, rfl⟩
abbrev main_v79 : Ref sig .tc := ⟨.hbm, 113, rfl⟩
abbrev main_v80 : Ref sig .tc := ⟨.hbm, 114, rfl⟩
abbrev main_cst_19 : Ref sig .tc := ⟨.hbm, 115, rfl⟩
abbrev main_v81 : Ref sig .tc := ⟨.hbm, 116, rfl⟩
abbrev main_v82 : Ref sig .tc := ⟨.hbm, 117, rfl⟩
abbrev main_cst_20 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_cst_22 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_23 : Ref sig .tc := ⟨.hbm, 132, rfl⟩
abbrev main_v94 : Ref sig .tc := ⟨.hbm, 133, rfl⟩
abbrev main_v95 : Ref sig .tc := ⟨.hbm, 134, rfl⟩
abbrev main_cst_24 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_25 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_26 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_27 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_28 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_29 : Ref sig .tc := ⟨.hbm, 159, rfl⟩
abbrev main_v115 : Ref sig .tc := ⟨.hbm, 160, rfl⟩
abbrev main_v116 : Ref sig .tc := ⟨.hbm, 161, rfl⟩
abbrev main_cst_30 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_31 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_32 : Ref sig .tc := ⟨.hbm, 173, rfl⟩
abbrev main_v126 : Ref sig .tc := ⟨.hbm, 174, rfl⟩
abbrev main_v127 : Ref sig .tc := ⟨.hbm, 175, rfl⟩
abbrev main_cst_33 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_34 : Ref sig .tc := ⟨.hbm, 181, rfl⟩
abbrev main_v132 : Ref sig .tc := ⟨.hbm, 182, rfl⟩
abbrev main_v133 : Ref sig .tc := ⟨.hbm, 183, rfl⟩
abbrev main_cst_35 : Ref sig .tc := ⟨.hbm, 184, rfl⟩
abbrev main_v134 : Ref sig .tc := ⟨.hbm, 185, rfl⟩
abbrev main_v135 : Ref sig .tc := ⟨.hbm, 186, rfl⟩
abbrev main_cst_36 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_37 : Ref sig .tc := ⟨.hbm, 192, rfl⟩
abbrev main_v140 : Ref sig .tc := ⟨.hbm, 193, rfl⟩
abbrev main_v141 : Ref sig .tc := ⟨.hbm, 194, rfl⟩
abbrev main_cst_38 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_39 : Ref sig .tc := ⟨.hbm, 202, rfl⟩
abbrev main_v148 : Ref sig .tc := ⟨.hbm, 203, rfl⟩
abbrev main_v149 : Ref sig .tc := ⟨.hbm, 204, rfl⟩
abbrev main_cst_40 : Ref sig .tc := ⟨.hbm, 205, rfl⟩
abbrev main_v150 : Ref sig .tc := ⟨.hbm, 206, rfl⟩
abbrev main_v151 : Ref sig .tc := ⟨.hbm, 207, rfl⟩
abbrev main_cst_41 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_42 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_cst_43 : Ref sig .tc := ⟨.hbm, 219, rfl⟩
abbrev main_v161 : Ref sig .tc := ⟨.hbm, 220, rfl⟩
abbrev main_v162 : Ref sig .tc := ⟨.hbm, 221, rfl⟩
abbrev main_cst_44 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_45 : Ref sig .tc := ⟨.hbm, 232, rfl⟩
abbrev main_v172 : Ref sig .tc := ⟨.hbm, 233, rfl⟩
abbrev main_v173 : Ref sig .tc := ⟨.hbm, 234, rfl⟩
abbrev main_cst_46 : Ref sig .tc := ⟨.hbm, 235, rfl⟩
abbrev main_v174 : Ref sig .tc := ⟨.hbm, 236, rfl⟩
abbrev main_v175 : Ref sig .tc := ⟨.hbm, 237, rfl⟩
abbrev main_cst_47 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_cst_48 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩

abbrev nD : Nat := 1
abbrev τ : Topo := Topo.v7x

variable {F : FTy → Type} [FloatOps F]
-- ==== MidKernel.lean ====
abbrev S1x8192x1024 : Shape := ⟨3, ![1, 8192, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S_ : Shape := ⟨0, ![]⟩
abbrev S8x1024 : Shape := ⟨2, ![8, 1024]⟩
abbrev S8192x1024 : Shape := ⟨2, ![8192, 1024]⟩
abbrev S8192x1 : Shape := ⟨2, ![8192, 1]⟩
abbrev S8192x4096 : Shape := ⟨2, ![8192, 4096]⟩
abbrev S512x1024 : Shape := ⟨2, ![512, 1024]⟩
abbrev S512x1 : Shape := ⟨2, ![512, 1]⟩
abbrev S512x4096 : Shape := ⟨2, ![512, 4096]⟩
abbrev S3 : Shape := ⟨1, ![3]⟩
abbrev S1 : Shape := ⟨1, ![1]⟩
abbrev S512 : Shape := ⟨1, ![512]⟩
abbrev S1x1024x512 : Shape := ⟨3, ![1, 1024, 512]⟩
abbrev S1024x512 : Shape := ⟨2, ![1024, 512]⟩
abbrev S512x512 : Shape := ⟨2, ![512, 512]⟩
abbrev S1024 : Shape := ⟨1, ![1024]⟩

abbrev nBuf : Space → Nat
  | .hbm => 38
  | .vmem => 25
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S4096x1024, .f32⟩
  | .hbm, ⟨17, _⟩ => ⟨S4096x1024, .bf16⟩
  | .hbm, ⟨18, _⟩ => ⟨S1024x4096, .f32⟩
  | .hbm, ⟨19, _⟩ => ⟨S1024x8x512, .f32⟩
  | .hbm, ⟨20, _⟩ => ⟨S8x1024x512, .f32⟩
  | .hbm, ⟨21, _⟩ => ⟨S8x1024x512, .bf16⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8x1024, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x1024, .f32⟩
  | .hbm, ⟨32, _⟩ => ⟨S8192x1, .f32⟩
  | .hbm, ⟨33, _⟩ => ⟨S8192x1024, .bf16⟩
  | .hbm, ⟨34, _⟩ => ⟨S8192x4096, .bf16⟩
  | .hbm, ⟨35, _⟩ => ⟨S8192x1024, .bf16⟩
  | .hbm, ⟨36, _⟩ => ⟨S8192x1024, .f32⟩
  | .hbm, ⟨37, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | .local _ .vmem, ⟨15, _⟩ => ⟨S512x4096, .bf16⟩
  | .local _ .vmem, ⟨16, _⟩ => ⟨S512x4096, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | .local _ .vmem, ⟨22, _⟩ => ⟨S1024x1024, .bf16⟩
  | .local _ .vmem, ⟨23, _⟩ => ⟨S8x1024x512, .bf16⟩
  | .local _ .vmem, ⟨24, _⟩ => ⟨S4096x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev main_v15_4 : Ref sig .tc := ⟨.hbm, 34, rfl⟩
abbrev main_v15_5 : Ref sig .tc := ⟨.hbm, 35, rfl⟩
abbrev main_v15_6 : Ref sig .tc := ⟨.hbm, 36, rfl⟩
abbrev main_v15_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MidReferenceIdeal.lean ====
abbrev S1x8192x1024 : Shape := ⟨3, ![1, 8192, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S_ : Shape := ⟨0, ![]⟩
abbrev S1x1x1024 : Shape := ⟨3, ![1, 1, 1024]⟩
abbrev S1x8192 : Shape := ⟨2, ![1, 8192]⟩
abbrev S1x8192x1 : Shape := ⟨3, ![1, 8192, 1]⟩
abbrev S1024 : Shape := ⟨1, ![1024]⟩
abbrev S1024x4096 : Shape := ⟨2, ![1024, 4096]⟩
abbrev S1x8192x4096 : Shape := ⟨3, ![1, 8192, 4096]⟩
abbrev S4096x1024 : Shape := ⟨2, ![4096, 1024]⟩
abbrev S8192 : Shape := ⟨1, ![8192]⟩
abbrev S4x1024 : Shape := ⟨2, ![4, 1024]⟩
abbrev S8x1024 : Shape := ⟨2, ![8, 1024]⟩
abbrev S8192x1024 : Shape := ⟨2, ![8192, 1024]⟩
abbrev S8192x1 : Shape := ⟨2, ![8192, 1]⟩
abbrev S8192x4096 : Shape := ⟨2, ![8192, 4096]⟩

abbrev nBuf : Space → Nat
  | .hbm => 278
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x8192x1024, .f32⟩
  | 3 => ⟨S1x1024, .f32⟩
  | 4 => ⟨S1x1024, .f32⟩
  | 5 => ⟨S1x1024, .f32⟩
  | 6 => ⟨S1x1024, .f32⟩
  | 7 => ⟨S1x1024x1024, .f32⟩
  | 8 => ⟨S1x1024, .f32⟩
  | 9 => ⟨S1x1024, .f32⟩
  | 10 => ⟨S1x1024x4096, .f32⟩
  | 11 => ⟨S1x4096x1024, .f32⟩
  | 12 => ⟨S1x1024, .f32⟩
  | 13 => ⟨S1x1024, .f32⟩
  | 14 => ⟨S1024x1024, .f32⟩
  | 15 => ⟨S1x8192x1024, .f32⟩
  | 16 => ⟨S_, .f32⟩
  | 17 => ⟨S1x8192x1024, .f32⟩
  | 18 => ⟨S1x8192x1024, .f32⟩
  | 19 => ⟨S1x1x1024, .f32⟩
  | 20 => ⟨S1x8192x1024, .f32⟩
  | 21 => ⟨S1x8192x1024, .f32⟩
  | 22 => ⟨S1x8192x1024, .f32⟩
  | 23 => ⟨S_, .f32⟩
  | 24 => ⟨S1x8192, .f32⟩
  | 25 => ⟨S1x8192x1, .f32⟩
  | 26 => ⟨S_, .f32⟩
  | 27 => ⟨S1x8192x1, .f32⟩
  | 28 => ⟨S1x8192x1, .f32⟩
  | 29 => ⟨S1x8192x1024, .f32⟩
  | 30 => ⟨S1x8192x1024, .f32⟩
  | 31 => ⟨S1x8192x1024, .f32⟩
  | 32 => ⟨S_, .f32⟩
  | 33 => ⟨S1x8192, .f32⟩
  | 34 => ⟨S1x8192x1, .f32⟩
  | 35 => ⟨S_, .f32⟩
  | 36 => ⟨S1x8192x1, .f32⟩
  | 37 => ⟨S1x8192x1, .f32⟩
  | 38 => ⟨S_, .f32⟩
  | 39 => ⟨S1x8192x1, .f32⟩
  | 40 => ⟨S1x8192x1, .f32⟩
  | 41 => ⟨S1x8192x1, .f32⟩
  | 42 => ⟨S1x8192x1024, .f32⟩
  | 43 => ⟨S1x8192x1024, .f32⟩
  | 44 => ⟨S1x8192x1024, .f32⟩
  | 45 => ⟨S1x8192x1024, .f32⟩
  | 46 => ⟨S1024, .f32⟩
  | 47 => ⟨S1x1x1024, .f32⟩
  | 48 => ⟨S1x8192x1024, .f32⟩
  | 49 => ⟨S1x8192x1024, .f32⟩
  | 50 => ⟨S1024, .f32⟩
  | 51 => ⟨S1x1x1024, .f32⟩
  | 52 => ⟨S1x8192x1024, .f32⟩
  | 53 => ⟨S1x8192x1024, .f32⟩
  | 54 => ⟨S_, .f32⟩
  | 55 => ⟨S1x8192, .f32⟩
  | 56 => ⟨S1x8192x1, .f32⟩
  | 57 => ⟨S_, .f32⟩
  | 58 => ⟨S1x8192x1, .f32⟩
  | 59 => ⟨S1x8192x1, .f32⟩
  | 60 => ⟨S1x8192x1024, .f32⟩
  | 61 => ⟨S1x8192x1024, .f32⟩
  | 62 => ⟨S1x8192x1024, .f32⟩
  | 63 => ⟨S_, .f32⟩
  | 64 => ⟨S1x8192, .f32⟩
  | 65 => ⟨S1x8192x1, .f32⟩
  | 66 => ⟨S_, .f32⟩
  | 67 => ⟨S1x8192x1, .f32⟩
  | 68 => ⟨S1x8192x1, .f32⟩
  | 69 => ⟨S1x8192x1024, .f32⟩
  | 70 => ⟨S1x8192x1024, .f32⟩
  | 71 => ⟨S_, .f32⟩
  | 72 => ⟨S1x8192x1, .f32⟩
  | 73 => ⟨S1x8192x1, .f32⟩
  | 74 => ⟨S1x8192x1, .f32⟩
  | 75 => ⟨S1x8192x1024, .f32⟩
  | 76 => ⟨S1x8192x1024, .f32⟩
  | 77 => ⟨S1x1x1024, .f32⟩
  | 78 => ⟨S_, .f32⟩
  | 79 => ⟨S1x1x1024, .f32⟩
  | 80 => ⟨S1x1x1024, .f32⟩
  | 81 => ⟨S1x8192x1024, .f32⟩
  | 82 => ⟨S1x8192x1024, .f32⟩
  | 83 => ⟨S1x1x1024, .f32⟩
  | 84 => ⟨S1x8192x1024, .f32⟩
  | 85 => ⟨S1x8192x1024, .f32⟩
  | 86 => ⟨S1024x4096, .f32⟩
  | 87 => ⟨S1x8192x4096, .f32⟩
  | 88 => ⟨S_, .f32⟩
  | 89 => ⟨S1x8192x4096, .f32⟩
  | 90 => ⟨S1x8192x4096, .f32⟩
  | 91 => ⟨S1x8192x4096, .f32⟩
  | 92 => ⟨S4096x1024, .f32⟩
  | 93 => ⟨S1x8192x1024, .f32⟩
  | 94 => ⟨S_, .f32⟩
  | 95 => ⟨S1x8192x1024, .f32⟩
  | 96 => ⟨S1x8192x1024, .f32⟩
  | 97 => ⟨S1x1x1024, .f32⟩
  | 98 => ⟨S1x8192x1024, .f32⟩
  | 99 => ⟨S1x8192x1024, .f32⟩
  | 100 => ⟨S1x8192x1024, .f32⟩
  | 101 => ⟨S1024, .f32⟩
  | 102 => ⟨S1024, .f32⟩
  | 103 => ⟨S_, .f32⟩
  | 104 => ⟨S1x8192, .f32⟩
  | 105 => ⟨S1x8192x1, .f32⟩
  | 106 => ⟨S_, .f32⟩
  | 107 => ⟨S1x8192x1, .f32⟩
  | 108 => ⟨S1x8192x1, .f32⟩
  | 109 => ⟨S1x8192x1024, .f32⟩
  | 110 => ⟨S1x8192x1024, .f32⟩
  | 111 => ⟨S1x8192x1024, .f32⟩
  | 112 => ⟨S_, .f32⟩
  | 113 => ⟨S1x8192x1024, .f32⟩
  | 114 => ⟨S1x8192x1024, .f32⟩
  | 115 => ⟨S_, .f32⟩
  | 116 => ⟨S1x8192, .f32⟩
  | 117 => ⟨S1x8192x1, .f32⟩
  | 118 => ⟨S_, .f32⟩
  | 119 => ⟨S1x8192x1, .f32⟩
  | 120 => ⟨S1x8192x1, .f32⟩
  | 121 => ⟨S1x8192x1024, .f32⟩
  | 122 => ⟨S1x8192x1024, .f32⟩
  | 123 => ⟨S_, .f32⟩
  | 124 => ⟨S1x8192x1, .f32⟩
  | 125 => ⟨S1x8192x1, .f32⟩
  | 126 => ⟨S1x8192x1, .f32⟩
  | 127 => ⟨S1x8192x1, .f32⟩
  | _ => ⟨S1x8192x1024, .f32⟩

abbrev hbmTy0_1 (i : Nat) : BufTy := match i % 128 with
  | 0 => ⟨S_, .f32⟩
  | 1 => ⟨S1x8192x1, .f32⟩
  | 2 => ⟨S1x8192x1, .f32⟩
  | 3 => ⟨S1x8192x1024, .f32⟩
  | 4 => ⟨S1x8192x1024, .f32⟩
  | 5 => ⟨S1x1x1024, .f32⟩
  | 6 => ⟨S1x8192x1024, .f32⟩
  | 7 => ⟨S1x8192x1024, .f32⟩
  | 8 => ⟨S1x1x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S_, .f32⟩
  | 14 => ⟨S1x8192x1024, .f32⟩
  | 15 => ⟨S1x8192x1024, .f32⟩
  | 16 => ⟨S_, .f32⟩
  | 17 => ⟨S1x8192, .f32⟩
  | 18 => ⟨S_, .f32⟩
  | 19 => ⟨S1x8192, .f32⟩
  | 20 => ⟨S1x8192, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1x8192, .f32⟩
  | 29 => ⟨S_, .f32⟩
  | 30 => ⟨S1x8192, .f32⟩
  | 31 => ⟨S1x8192, .f32⟩
  | 32 => ⟨S1x8192x1024, .f32⟩
  | 33 => ⟨S1x8192x1024, .f32⟩
  | 34 => ⟨S_, .f32⟩
  | 35 => ⟨S1x1024, .f32⟩
  | 36 => ⟨S1x1x1024, .f32⟩
  | 37 => ⟨S_, .f32⟩
  | 38 => ⟨S1024, .f32⟩
  | 39 => ⟨S1x8192x1024, .f32⟩
  | 40 => ⟨S_, .f32⟩
  | 41 => ⟨S1x1024, .f32⟩
  | 42 => ⟨S1x1x1024, .f32⟩
  | 43 => ⟨S1x8192x1024, .f32⟩
  | 44 => ⟨S1x8192x1024, .f32⟩
  | 45 => ⟨S_, .f32⟩
  | 46 => ⟨S1024, .f32⟩
  | 47 => ⟨S1x8192x1024, .f32⟩
  | 48 => ⟨S_, .f32⟩
  | 49 => ⟨S1x8192, .f32⟩
  | 50 => ⟨S1x8192x1, .f32⟩
  | 51 => ⟨S1x8192x1024, .f32⟩
  | 52 => ⟨S1x8192x1024, .f32⟩
  | 53 => ⟨S1x8192x1, .f32⟩
  | 54 => ⟨S1x8192x1024, .f32⟩
  | 55 => ⟨S_, .f32⟩
  | 56 => ⟨S1x8192, .f32⟩
  | 57 => ⟨S1x8192x1, .f32⟩
  | 58 => ⟨S_, .f32⟩
  | 59 => ⟨S1x8192x1, .f32⟩
  | 60 => ⟨S1x8192x1, .f32⟩
  | 61 => ⟨S_, .f32⟩
  | 62 => ⟨S8192, .f32⟩
  | 63 => ⟨S1x8192, .f32⟩
  | 64 => ⟨S1x8192x1024, .f32⟩
  | 65 => ⟨S1x8192x1024, .f32⟩
  | 66 => ⟨S1x8192x1024, .f32⟩
  | 67 => ⟨S_, .f32⟩
  | 68 => ⟨S1x8192, .f32⟩
  | 69 => ⟨S1x8192x1, .f32⟩
  | 70 => ⟨S1x8192x1024, .f32⟩
  | 71 => ⟨S1x8192x1, .f32⟩
  | 72 => ⟨S_, .f32⟩
  | 73 => ⟨S1x8192x1, .f32⟩
  | 74 => ⟨S1x8192x1, .f32⟩
  | 75 => ⟨S_, .f32⟩
  | 76 => ⟨S8192, .f32⟩
  | 77 => ⟨S1x8192, .f32⟩
  | 78 => ⟨S1x8192x1024, .f32⟩
  | 79 => ⟨S1x8192x1024, .f32⟩
  | 80 => ⟨S1x1024, .f32⟩
  | 81 => ⟨S1x1024, .f32⟩
  | 82 => ⟨S1x8192x1024, .f32⟩
  | 83 => ⟨S1x8192x1024, .f32⟩
  | 84 => ⟨S1x8192x1024, .f32⟩
  | 85 => ⟨S_, .f32⟩
  | 86 => ⟨S1x1024, .f32⟩
  | 87 => ⟨S1x1x1024, .f32⟩
  | 88 => ⟨S_, .f32⟩
  | 89 => ⟨S1024, .f32⟩
  | 90 => ⟨S1x1024, .f32⟩
  | 91 => ⟨S_, .f32⟩
  | 92 => ⟨S1x8192x1024, .f32⟩
  | 93 => ⟨S1x8192x1024, .f32⟩
  | 94 => ⟨S1x1x1024, .f32⟩
  | 95 => ⟨S1x8192x1024, .f32⟩
  | 96 => ⟨S1x8192x1024, .f32⟩
  | 97 => ⟨S1x8192x1024, .f32⟩
  | 98 => ⟨S1024, .f32⟩
  | 99 => ⟨S1024, .f32⟩
  | 100 => ⟨S_, .f32⟩
  | 101 => ⟨S1x8192, .f32⟩
  | 102 => ⟨S1x8192x1, .f32⟩
  | 103 => ⟨S_, .f32⟩
  | 104 => ⟨S1x8192x1, .f32⟩
  | 105 => ⟨S1x8192x1, .f32⟩
  | 106 => ⟨S1x8192x1024, .f32⟩
  | 107 => ⟨S1x8192x1024, .f32⟩
  | 108 => ⟨S1x8192x1024, .f32⟩
  | 109 => ⟨S_, .f32⟩
  | 110 => ⟨S1x8192, .f32⟩
  | 111 => ⟨S1x8192x1, .f32⟩
  | 112 => ⟨S_, .f32⟩
  | 113 => ⟨S1x8192x1, .f32⟩
  | 114 => ⟨S1x8192x1, .f32⟩
  | 115 => ⟨S1x8192x1024, .f32⟩
  | 116 => ⟨S1x8192x1024, .f32⟩
  | 117 => ⟨S_, .f32⟩
  | 118 => ⟨S1x8192x1, .f32⟩
  | 119 => ⟨S1x8192x1, .f32⟩
  | 120 => ⟨S1x8192x1, .f32⟩
  | 121 => ⟨S1x8192x1024, .f32⟩
  | 122 => ⟨S1x8192x1024, .f32⟩
  | 123 => ⟨S1x1x1024, .f32⟩
  | 124 => ⟨S1x8192x1024, .f32⟩
  | 125 => ⟨S1x8192x1024, .f32⟩
  | 126 => ⟨S1x1x1024, .f32⟩
  | 127 => ⟨S1x8192x1024, .f32⟩
  | _ => ⟨S1x8192x1024, .f32⟩

abbrev hbmTy0_2 (i : Nat) : BufTy := match i % 128 with
  | 0 => ⟨S1x8192x1024, .f32⟩
  | 1 => ⟨S1x8192x1024, .f32⟩
  | 2 => ⟨S1x8192x1024, .f32⟩
  | 3 => ⟨S_, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S4x1024, .f32⟩
  | 10 => ⟨S8x1024, .f32⟩
  | 11 => ⟨S8192x1024, .f32⟩
  | 12 => ⟨S8192x1024, .bf16⟩
  | 13 => ⟨S8192x1024, .f32⟩
  | 14 => ⟨S8192x1, .f32⟩
  | 15 => ⟨S8192x1024, .f32⟩
  | 16 => ⟨S8192x1024, .bf16⟩
  | 17 => ⟨S8192x4096, .f32⟩
  | 18 => ⟨S8192x4096, .bf16⟩
  | 19 => ⟨S8192x1024, .f32⟩
  | 20 => ⟨S8192x1024, .bf16⟩
  | 21 => ⟨S8192x1024, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call0_cst : Ref sig .tc := ⟨.hbm, 88, rfl⟩
abbrev main_call0_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_18 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_19 : Ref sig .tc := ⟨.hbm, 141, rfl⟩
abbrev main_v105 : Ref sig .tc := ⟨.hbm, 142, rfl⟩
abbrev main_v106 : Ref sig .tc := ⟨.hbm, 143, rfl⟩
abbrev main_cst_20 : Ref sig .tc := ⟨.hbm, 144, rfl⟩
abbrev main_v107 : Ref sig .tc := ⟨.hbm, 145, rfl⟩
abbrev main_cst_21 : Ref sig .tc := ⟨.hbm, 146, rfl⟩
abbrev main_v108 : Ref sig .tc := ⟨.hbm, 147, rfl⟩
abbrev main_v109 : Ref sig .tc := ⟨.hbm, 148, rfl⟩
abbrev main_cst_22 : Ref sig .tc := ⟨.hbm, 149, rfl⟩
abbrev main_v110 : Ref sig .tc := ⟨.hbm, 150, rfl⟩
abbrev main_cst_23 : Ref sig .tc := ⟨.hbm, 151, rfl⟩
abbrev main_v111 : Ref sig .tc := ⟨.hbm, 152, rfl⟩
abbrev main_cst_24 : Ref sig .tc := ⟨.hbm, 153, rfl⟩
abbrev main_cst_25 : Ref sig .tc := ⟨.hbm, 154, rfl⟩
abbrev main_v112 : Ref sig .tc := ⟨.hbm, 155, rfl⟩
abbrev main_v113 : Ref sig .tc := ⟨.hbm, 156, rfl⟩
abbrev main_cst_26 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_27 : Ref sig .tc := ⟨.hbm, 162, rfl⟩
abbrev main_v118 : Ref sig .tc := ⟨.hbm, 163, rfl⟩
abbrev main_v119 : Ref sig .tc := ⟨.hbm, 164, rfl⟩
abbrev main_cst_28 : Ref sig .tc := ⟨.hbm, 165, rfl⟩
abbrev main_v120 : Ref sig .tc := ⟨.hbm, 166, rfl⟩
abbrev main_v121 : Ref sig .tc := ⟨.hbm, 167, rfl⟩
abbrev main_cst_29 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_30 : Ref sig .tc := ⟨.hbm, 173, rfl⟩
abbrev main_v126 : Ref sig .tc := ⟨.hbm, 174, rfl⟩
abbrev main_v127 : Ref sig .tc := ⟨.hbm, 175, rfl⟩
abbrev main_cst_31 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_32 : Ref sig .tc := ⟨.hbm, 183, rfl⟩
abbrev main_v134 : Ref sig .tc := ⟨.hbm, 184, rfl⟩
abbrev main_v135 : Ref sig .tc := ⟨.hbm, 185, rfl⟩
abbrev main_cst_33 : Ref sig .tc := ⟨.hbm, 186, rfl⟩
abbrev main_v136 : Ref sig .tc := ⟨.hbm, 187, rfl⟩
abbrev main_v137 : Ref sig .tc := ⟨.hbm, 188, rfl⟩
abbrev main_cst_34 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_35 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_36 : Ref sig .tc := ⟨.hbm, 200, rfl⟩
abbrev main_v147 : Ref sig .tc := ⟨.hbm, 201, rfl⟩
abbrev main_v148 : Ref sig .tc := ⟨.hbm, 202, rfl⟩
abbrev main_cst_37 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_38 : Ref sig .tc := ⟨.hbm, 213, rfl⟩
abbrev main_v158 : Ref sig .tc := ⟨.hbm, 214, rfl⟩
abbrev main_v159 : Ref sig .tc := ⟨.hbm, 215, rfl⟩
abbrev main_cst_39 : Ref sig .tc := ⟨.hbm, 216, rfl⟩
abbrev main_v160 : Ref sig .tc := ⟨.hbm, 217, rfl⟩
abbrev main_v161 : Ref sig .tc := ⟨.hbm, 218, rfl⟩
abbrev main_cst_40 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_41 : Ref sig .tc := ⟨.hbm, 228, rfl⟩
abbrev main_v170 : Ref sig .tc := ⟨.hbm, 229, rfl⟩
abbrev main_v171 : Ref sig .tc := ⟨.hbm, 230, rfl⟩
abbrev main_cst_42 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_43 : Ref sig .tc := ⟨.hbm, 237, rfl⟩
abbrev main_v177 : Ref sig .tc := ⟨.hbm, 238, rfl⟩
abbrev main_v178 : Ref sig .tc := ⟨.hbm, 239, rfl⟩
abbrev main_cst_44 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_cst_45 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_cst_46 : Ref sig .tc := ⟨.hbm, 259, rfl⟩
abbrev main_v196 : Ref sig .tc := ⟨.hbm, 260, rfl⟩
abbrev main_cst_47 : Ref sig .tc := ⟨.hbm, 261, rfl⟩
abbrev main_v197 : Ref sig .tc := ⟨.hbm, 262, rfl⟩
abbrev main_v198 : Ref sig .tc := ⟨.hbm, 263, rfl⟩
abbrev main_cst_48 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩

abbrev nD : Nat := 1
abbrev τ : Topo := Topo.v7x

variable {F : FTy → Type} [FloatOps F]
-- ==== MixKernel.lean ====
abbrev S1x8192x3600 : Shape := ⟨3, ![1, 8192, 3600]⟩
abbrev S1x16x256 : Shape := ⟨3, ![1, 16, 256]⟩
abbrev S1x256 : Shape := ⟨2, ![1, 256]⟩
abbrev S1x512 : Shape := ⟨2, ![1, 512]⟩
abbrev S8192x3600 : Shape := ⟨2, ![8192, 3600]⟩
abbrev S_ : Shape := ⟨0, ![]⟩
abbrev S8192x3712 : Shape := ⟨2, ![8192, 3712]⟩
abbrev S128x256 : Shape := ⟨2, ![128, 256]⟩
abbrev S16x256 : Shape := ⟨2, ![16, 256]⟩
abbrev S1 : Shape := ⟨1, ![1]⟩
abbrev S256x256 : Shape := ⟨2, ![256, 256]⟩
abbrev S256x128 : Shape := ⟨2, ![256, 128]⟩
abbrev S1x256x256 : Shape := ⟨3, ![1, 256, 256]⟩
abbrev S4x256x256 : Shape := ⟨3, ![4, 256, 256]⟩
abbrev S1x256x128 : Shape := ⟨3, ![1, 256, 128]⟩
abbrev S8x256x128 : Shape := ⟨3, ![8, 256, 128]⟩
abbrev S63 : Shape := ⟨1, ![63]⟩
abbrev S64 : Shape := ⟨1, ![64]⟩
abbrev S256 : Shape := ⟨1, ![256]⟩
abbrev S256x1 : Shape := ⟨2, ![256, 1]⟩
abbrev S1x64 : Shape := ⟨2, ![1, 64]⟩
abbrev S256x64 : Shape := ⟨2, ![256, 64]⟩
abbrev S32 : Shape := ⟨1, ![32]⟩
abbrev S32x1 : Shape := ⟨2, ![32, 1]⟩
abbrev S32x64 : Shape := ⟨2, ![32, 64]⟩
abbrev S4x256x128 : Shape := ⟨3, ![4, 256, 128]⟩
abbrev S32x256 : Shape := ⟨2, ![32, 256]⟩
abbrev S32x1x256 : Shape := ⟨3, ![32, 1, 256]⟩
abbrev S32x8x256 : Shape := ⟨3, ![32, 8, 256]⟩
abbrev S8192x1024 : Shape := ⟨2, ![8192, 1024]⟩
abbrev S8192x512 : Shape := ⟨2, ![8192, 512]⟩
abbrev S32x512x128 : Shape := ⟨3, ![32, 512, 128]⟩
abbrev S64x128x256 : Shape := ⟨3, ![64, 128, 256]⟩
abbrev S512x512 : Shape := ⟨2, ![512, 512]⟩
abbrev S512x256 : Shape := ⟨2, ![512, 256]⟩
abbrev S512x128 : Shape := ⟨2, ![512, 128]⟩
abbrev S2x8x256 : Shape := ⟨3, ![2, 8, 256]⟩
abbrev S512x1024 : Shape := ⟨2, ![512, 1024]⟩
abbrev S2x512x128 : Shape := ⟨3, ![2, 512, 128]⟩
abbrev S4x128x256 : Shape := ⟨3, ![4, 128, 256]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 195
  | .vmem => 41
  | .smem => 0
  | _ => 0

abbrev hbmTy0_0 (i : Nat) : BufTy := match i % 128 with
  | 0 => ⟨S1x8192x3600, .f32⟩
  | 1 => ⟨S1x16x256, .f32⟩
  | 2 => ⟨S1x256, .f32⟩
  | 3 => ⟨S1x512, .f32⟩
  | 4 => ⟨S1x512, .f32⟩
  | 5 => ⟨S8192x3600, .f32⟩
  | 6 => ⟨S_, .i32⟩
  | 7 => ⟨S_, .f32⟩
  | 8 => ⟨S8192x3712, .f32⟩
  | 9 => ⟨S_, .f32⟩
  | 10 => ⟨S128x256, .f32⟩
  | 11 => ⟨S16x256, .f32⟩
  | 12 => ⟨S_, .i32⟩
  | 13 => ⟨S1, .i32⟩
  | 14 => ⟨S128x256, .f32⟩
  | 15 => ⟨S256x256, .i32⟩
  | 16 => ⟨S256x256, .i32⟩
  | 17 => ⟨S_, .i32⟩
  | 18 => ⟨S256x256, .i32⟩
  | 19 => ⟨S256x256, .i32⟩
  | 20 => ⟨S_, .i32⟩
  | 21 => ⟨S256x256, .i32⟩
  | 22 => ⟨S256x256, .i32⟩
  | 23 => ⟨S256x256, .i1⟩
  | 24 => ⟨S256x256, .i32⟩
  | 25 => ⟨S256x256, .i32⟩
  | 26 => ⟨S256x256, .f32⟩
  | 27 => ⟨S256x128, .i32⟩
  | 28 => ⟨S256x128, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S256x256, .f32⟩
  | 38 => ⟨S256x256, .f32⟩
  | 39 => ⟨S256x256, .f32⟩
  | 40 => ⟨S_, .f32⟩
  | 41 => ⟨S_, .f32⟩
  | 42 => ⟨S256x256, .f32⟩
  | 43 => ⟨S256x256, .f32⟩
  | 44 => ⟨S256x256, .f32⟩
  | 45 => ⟨S256x256, .f32⟩
  | 46 => ⟨S256x256, .f32⟩
  | 47 => ⟨S_, .f32⟩
  | 48 => ⟨S_, .f32⟩
  | 49 => ⟨S256x256, .f32⟩
  | 50 => ⟨S256x256, .f32⟩
  | 51 => ⟨S256x256, .f32⟩
  | 52 => ⟨S256x256, .f32⟩
  | 53 => ⟨S256x256, .f32⟩
  | 54 => ⟨S_, .f32⟩
  | 55 => ⟨S_, .f32⟩
  | 56 => ⟨S256x256, .f32⟩
  | 57 => ⟨S256x256, .f32⟩
  | 58 => ⟨S256x256, .f32⟩
  | 59 => ⟨S256x256, .f32⟩
  | 60 => ⟨S256x256, .f32⟩
  | 61 => ⟨S_, .f32⟩
  | 62 => ⟨S_, .f32⟩
  | 63 => ⟨S256x256, .f32⟩
  | 64 => ⟨S256x256, .f32⟩
  | 65 => ⟨S1x256x256, .f32⟩
  | 66 => ⟨S1x256x256, .f32⟩
  | 67 => ⟨S1x256x256, .f32⟩
  | 68 => ⟨S1x256x256, .f32⟩
  | 69 => ⟨S4x256x256, .f32⟩
  | 70 => ⟨S_, .f32⟩
  | 71 => ⟨S256x128, .f32⟩
  | 72 => ⟨S256x128, .f32⟩
  | 73 => ⟨S256x128, .f32⟩
  | 74 => ⟨S256x128, .f32⟩
  | 75 => ⟨S256x128, .f32⟩
  | 76 => ⟨S_, .f32⟩
  | 77 => ⟨S256x128, .f32⟩
  | 78 => ⟨S256x128, .f32⟩
  | 79 => ⟨S256x128, .f32⟩
  | 80 => ⟨S256x128, .f32⟩
  | 81 => ⟨S256x128, .f32⟩
  | 82 => ⟨S_, .f32⟩
  | 83 => ⟨S256x128, .f32⟩
  | 84 => ⟨S256x128, .f32⟩
  | 85 => ⟨S256x128, .f32⟩
  | 86 => ⟨S256x128, .f32⟩
  | 87 => ⟨S256x128, .f32⟩
  | 88 => ⟨S_, .f32⟩
  | 89 => ⟨S256x128, .f32⟩
  | 90 => ⟨S256x128, .f32⟩
  | 91 => ⟨S256x128, .f32⟩
  | 92 => ⟨S256x128, .f32⟩
  | 93 => ⟨S256x128, .f32⟩
  | 94 => ⟨S_, .f32⟩
  | 95 => ⟨S256x128, .f32⟩
  | 96 => ⟨S256x128, .f32⟩
  | 97 => ⟨S256x128, .f32⟩
  | 98 => ⟨S256x128, .f32⟩
  | 99 => ⟨S256x128, .f32⟩
  | 100 => ⟨S_, .f32⟩
  | 101 => ⟨S256x128, .f32⟩
  | 102 => ⟨S256x128, .f32⟩
  | 103 => ⟨S256x128, .f32⟩
  | 104 => ⟨S256x128, .f32⟩
  | 105 => ⟨S256x128, .f32⟩
  | 106 => ⟨S_, .f32⟩
  | 107 => ⟨S256x128, .f32⟩
  | 108 => ⟨S256x128, .f32⟩
  | 109 => ⟨S256x128, .f32⟩
  | 110 => ⟨S256x128, .f32⟩
  | 111 => ⟨S256x128, .f32⟩
  | 112 => ⟨S_, .f32⟩
  | 113 => ⟨S256x128, .f32⟩
  | 114 => ⟨S256x128, .f32⟩
  | 115 => ⟨S256x128, .f32⟩
  | 116 => ⟨S256x128, .f32⟩
  | 117 => ⟨S256x128, .f32⟩
  | 118 => ⟨S1x256x128, .f32⟩
  | 119 => ⟨S1x256x128, .f32⟩
  | 120 => ⟨S1x256x128, .f32⟩
  | 121 => ⟨S1x256x128, .f32⟩
  | 122 => ⟨S1x256x128, .f32⟩
  | 123 => ⟨S1x256x128, .f32⟩
  | 124 => ⟨S1x256x128, .f32⟩
  | 125 => ⟨S1x256x128, .f32⟩
  | 126 => ⟨S8x256x128, .f32⟩
  | 127 => ⟨S_, .f32⟩
  | _ => ⟨S1x8192x3600, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S63, .f32⟩
  | 7 => ⟨S_, .f32⟩
  | 8 => ⟨S63, .f32⟩
  | 9 => ⟨S63, .f32⟩
  | 10 => ⟨S1, .f32⟩
  | 11 => ⟨S_, .f32⟩
  | 12 => ⟨S63, .f32⟩
  | 13 => ⟨S63, .f32⟩
  | 14 => ⟨S63, .f32⟩
  | 15 => ⟨S63, .f32⟩
  | 16 => ⟨S1, .f32⟩
  | 17 => ⟨S63, .f32⟩
  | 18 => ⟨S63, .f32⟩
  | 19 => ⟨S63, .f32⟩
  | 20 => ⟨S1, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S256, .f32⟩
  | 29 => ⟨S256x1, .f32⟩
  | 30 => ⟨S1x64, .f32⟩
  | 31 => ⟨S256x64, .f32⟩
  | 32 => ⟨S256x64, .f32⟩
  | 33 => ⟨S256x64, .f32⟩
  | 34 => ⟨S32, .f32⟩
  | 35 => ⟨S_, .f32⟩
  | 36 => ⟨S32, .f32⟩
  | 37 => ⟨S32, .f32⟩
  | 38 => ⟨S32x1, .f32⟩
  | 39 => ⟨S1x64, .f32⟩
  | 40 => ⟨S32x64, .f32⟩
  | 41 => ⟨S32x64, .f32⟩
  | 42 => ⟨S32x64, .f32⟩
  | 43 => ⟨S256x64, .f32⟩
  | 44 => ⟨S256x64, .f32⟩
  | 45 => ⟨S256x128, .f32⟩
  | 46 => ⟨S256x128, .f32⟩
  | 47 => ⟨S256x64, .f32⟩
  | 48 => ⟨S256x128, .f32⟩
  | 49 => ⟨S256x64, .f32⟩
  | 50 => ⟨S256x128, .f32⟩
  | 51 => ⟨S1x256x128, .f32⟩
  | 52 => ⟨S1x256x128, .f32⟩
  | 53 => ⟨S1x256x128, .f32⟩
  | 54 => ⟨S1x256x128, .f32⟩
  | 55 => ⟨S4x256x128, .f32⟩
  | 56 => ⟨S32x64, .f32⟩
  | 57 => ⟨S32x64, .f32⟩
  | 58 => ⟨S32x256, .f32⟩
  | 59 => ⟨S32x1x256, .f32⟩
  | 60 => ⟨S32x8x256, .f32⟩
  | 61 => ⟨S8192x1024, .bf16⟩
  | 62 => ⟨S8192x1024, .f32⟩
  | 63 => ⟨S8192x512, .bf16⟩
  | 64 => ⟨S8192x512, .bf16⟩
  | 65 => ⟨S32x512x128, .f32⟩
  | 66 => ⟨S64x128x256, .f32⟩
  | _ => ⟨S1x8192x3600, .f32⟩

abbrev hbmTy (i : Nat) : BufTy := match i / 128 with
  | 0 => hbmTy0_0 i
  | 1 => hbmTy0_1 i
  | _ => ⟨S1x8192x3600, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S4x256x256, .f32⟩
  | .local _ .vmem, ⟨19, _⟩ => ⟨S8x256x128, .f32⟩
  | .local _ .vmem, ⟨20, _⟩ => ⟨S4x256x128, .f32⟩
  | .local _ .vmem, ⟨21, _⟩ => ⟨S2x8x256, .f32⟩
  | .local _ .vmem, ⟨22, _⟩ => ⟨S2x8x256, .f32⟩
  | .local _ .vmem, ⟨23, _⟩ => ⟨S128x256, .f32⟩
  | .local _ .vmem, ⟨24, _⟩ => ⟨S1x256, .f32⟩
  | .local _ .vmem, ⟨25, _⟩ => ⟨S1x512, .f32⟩
  | .local _ .vmem, ⟨26, _⟩ => ⟨S1x512, .f32⟩
  | .local _ .vmem, ⟨27, _⟩ => ⟨S512x1024, .bf16⟩
  | .local _ .vmem, ⟨28, _⟩ => ⟨S512x1024, .bf16⟩
  | .local _ .vmem, ⟨29, _⟩ => ⟨S512x1024, .f32⟩
  | .local _ .vmem, ⟨30, _⟩ => ⟨S512x1024, .f32⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S2x512x128, .f32⟩
  | .local _ .vmem, ⟨36, _⟩ => ⟨S2x512x128, .f32⟩
  | .local _ .vmem, ⟨37, _⟩ => ⟨S4x128x256, .f32⟩
  | .local _ .vmem, ⟨38, _⟩ => ⟨S4x128x256, .f32⟩
  | .local _ .vmem, ⟨39, _⟩ => ⟨S512x128, .f32⟩
  | .local _ .vmem, ⟨40, _⟩ => ⟨S128x256, .f32⟩
  | _, _ => ⟨S1x8192x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_call2_v0 : Ref sig .tc := ⟨.hbm, 48, rfl⟩
abbrev main_call2_v1 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_call3_v0 : Ref sig .tc := ⟨.hbm, 55, rfl⟩
abbrev main_call3_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_10 : Ref sig .tc := ⟨.hbm, 61, rfl⟩
abbrev main_call4_v0 : Ref sig .tc := ⟨.hbm, 62, rfl⟩
abbrev main_call4_v1 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_19 : Ref sig .tc := ⟨.hbm, 127, rfl⟩
abbrev main_cst_20 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_cst : Ref sig .tc := ⟨.hbm, 132, rfl⟩
abbrev main_call5_v3 : Ref sig .tc := ⟨.hbm, 133, rfl⟩
abbrev main_call5_v4 : Ref sig .tc := ⟨.hbm, 134, rfl⟩
abbrev main_call5_cst_0 : Ref sig .tc := ⟨.hbm, 135, rfl⟩
abbrev main_call5_v5 : Ref sig .tc := ⟨.hbm, 136, rfl⟩
abbrev main_call5_v6 : Ref sig .tc := ⟨.hbm, 137, rfl⟩
abbrev main_call5_v7 : Ref sig .tc := ⟨.hbm, 138, rfl⟩
abbrev main_call5_cst_1 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_v12 : Ref sig .tc := ⟨.hbm, 144, rfl⟩
abbrev main_call5_v13 : Ref sig .tc := ⟨.hbm, 145, rfl⟩
abbrev main_call5_v14 : Ref sig .tc := ⟨.hbm, 146, rfl⟩
abbrev main_call5_v15 : Ref sig .tc := ⟨.hbm, 147, rfl⟩
abbrev main_call5_v16 : Ref sig .tc := ⟨.hbm, 148, rfl⟩
abbrev main_v92 : Ref sig .tc := ⟨.hbm, 149, rfl⟩
abbrev main_cst_21 : Ref sig .tc := ⟨.hbm, 150, rfl⟩
abbrev main_v93 : Ref sig .tc := ⟨.hbm, 151, rfl⟩
abbrev main_v94 : Ref sig .tc := ⟨.hbm, 152, rfl⟩
abbrev main_cst_22 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_23 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129_0 : Ref sig .tc := ⟨.hbm, 189, rfl⟩
abbrev main_v129_1 : Ref sig .tc := ⟨.hbm, 190, rfl⟩
abbrev main_v129_2 : Ref sig .tc := ⟨.hbm, 191, rfl⟩
abbrev main_v129_3 : Ref sig .tc := ⟨.hbm, 192, rfl⟩
abbrev main_v129_4 : Ref sig .tc := ⟨.hbm, 193, rfl⟩
abbrev main_v129_5 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4x128x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== MixKernelIdeal.lean ====
variable {F : FTy → Type} [FloatOps F] [Named F]
def κ : String → Option EReal := fun
  | "tile_gamma_0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "tile_gamma_1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "tile_gamma_2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "tile_gamma_3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== MixReferenceIdeal.lean ====
abbrev S1x8192x3600 : Shape := ⟨3, ![1, 8192, 3600]⟩
abbrev S1x16x256 : Shape := ⟨3, ![1, 16, 256]⟩
abbrev S1x256 : Shape := ⟨2, ![1, 256]⟩
abbrev S1x512 : Shape := ⟨2, ![1, 512]⟩
abbrev S1x8192x512 : Shape := ⟨3, ![1, 8192, 512]⟩
abbrev S1x8192x256 : Shape := ⟨3, ![1, 8192, 256]⟩
abbrev S1x8192x16 : Shape := ⟨3, ![1, 8192, 16]⟩
abbrev S8192 : Shape := ⟨1, ![8192]⟩
abbrev S1x8192x4x128 : Shape := ⟨4, ![1, 8192, 4, 128]⟩
abbrev S_ : Shape := ⟨0, ![]⟩
abbrev S63 : Shape := ⟨1, ![63]⟩
abbrev S1 : Shape := ⟨1, ![1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S1x8192x4x64 : Shape := ⟨4, ![1, 8192, 4, 64]⟩
abbrev S1x8192x1x64 : Shape := ⟨4, ![1, 8192, 1, 64]⟩
abbrev S1x8192 : Shape := ⟨2, ![1, 8192]⟩
abbrev S8192x8192 : Shape := ⟨2, ![8192, 8192]⟩
abbrev S4 : Shape := ⟨1, ![4]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S1x4x8192x8192 : Shape := ⟨4, ![1, 4, 8192, 8192]⟩
abbrev S1x4x128x8192 : Shape := ⟨4, ![1, 4, 128, 8192]⟩
abbrev S512 : Shape := ⟨1, ![512]⟩
abbrev S1x8192x4 : Shape := ⟨3, ![1, 8192, 4]⟩
abbrev S1x8192x4x1 : Shape := ⟨4, ![1, 8192, 4, 1]⟩
abbrev S1x1x512 : Shape := ⟨3, ![1, 1, 512]⟩
abbrev S16x256 : Shape := ⟨2, ![16, 256]⟩
abbrev S256 : Shape := ⟨1, ![256]⟩
abbrev S1x1x256 : Shape := ⟨3, ![1, 1, 256]⟩
abbrev S1x4x64x8192 : Shape := ⟨4, ![1, 4, 64, 8192]⟩
abbrev S1x8192x1x4x64 : Shape := ⟨5, ![1, 8192, 1, 4, 64]⟩
abbrev S1x1x8192x4x64 : Shape := ⟨5, ![1, 1, 8192, 4, 64]⟩
abbrev S1x8192x8192x4x64 : Shape := ⟨5, ![1, 8192, 8192, 4, 64]⟩
abbrev S1x8192x8192x4 : Shape := ⟨4, ![1, 8192, 8192, 4]⟩
abbrev S1x8192x8192x1 : Shape := ⟨4, ![1, 8192, 8192, 1]⟩
abbrev S1x8192x1024 : Shape := ⟨3, ![1, 8192, 1024]⟩
abbrev S32 : Shape := ⟨1, ![32]⟩
abbrev S32x1 : Shape := ⟨2, ![32, 1]⟩
abbrev S32x8192 : Shape := ⟨2, ![32, 8192]⟩
abbrev S1x32x8192 : Shape := ⟨3, ![1, 32, 8192]⟩
abbrev S4x32x8192 : Shape := ⟨3, ![4, 32, 8192]⟩
abbrev S1x4x32x8192x1 : Shape := ⟨5, ![1, 4, 32, 8192, 1]⟩
abbrev S1x4x8192x128 : Shape := ⟨4, ![1, 4, 8192, 128]⟩
abbrev S1x4x1x8192x128 : Shape := ⟨5, ![1, 4, 1, 8192, 128]⟩
abbrev S1x4x32x8192x128 : Shape := ⟨5, ![1, 4, 32, 8192, 128]⟩
abbrev S1x4x32x128x128 : Shape := ⟨5, ![1, 4, 32, 128, 128]⟩
abbrev S1x64x128x4x64 : Shape := ⟨5, ![1, 64, 128, 4, 64]⟩
abbrev S1x64x1x4x64 : Shape := ⟨5, ![1, 64, 1, 4, 64]⟩
abbrev S1x64x4x64 : Shape := ⟨4, ![1, 64, 4, 64]⟩
abbrev S1x63x4x64 : Shape := ⟨4, ![1, 63, 4, 64]⟩
abbrev S64x1 : Shape := ⟨2, ![64, 1]⟩
abbrev S64x8192 : Shape := ⟨2, ![64, 8192]⟩
abbrev S1x64x8192x1x1 : Shape := ⟨5, ![1, 64, 8192, 1, 1]⟩
abbrev S1x64x8192x4x64 : Shape := ⟨5, ![1, 64, 8192, 4, 64]⟩
abbrev S1x4x128x64x64 : Shape := ⟨5, ![1, 4, 128, 64, 64]⟩
abbrev S8192x1024 : Shape := ⟨2, ![8192, 1024]⟩
abbrev S8192x512 : Shape := ⟨2, ![8192, 512]⟩
abbrev S4x32x128x128 : Shape := ⟨4, ![4, 32, 128, 128]⟩
abbrev S32x4x128x128 : Shape := ⟨4, ![32, 4, 128, 128]⟩
abbrev S32x512x128 : Shape := ⟨3, ![32, 512, 128]⟩
abbrev S64x128x256 : Shape := ⟨3, ![64, 128, 256]⟩

abbrev nBuf : Space → Nat
  | .hbm => 440
  | .vmem => 0
  | .smem => 0
  | _ => 0

abbrev hbmTy0_0 (i : Nat) : BufTy := match i % 128 with
  | 0 => ⟨S1x8192x3600, .f32⟩
  | 1 => ⟨S1x16x256, .f32⟩
  | 2 => ⟨S1x256, .f32⟩
  | 3 => ⟨S1x512, .f32⟩
  | 4 => ⟨S1x512, .f32⟩
  | 5 => ⟨S1x8192x512, .f32⟩
  | 6 => ⟨S1x8192x512, .f32⟩
  | 7 => ⟨S1x8192x512, .f32⟩
  | 8 => ⟨S1x8192x512, .f32⟩
  | 9 => ⟨S1x8192x256, .f32⟩
  | 10 => ⟨S1x8192x256, .f32⟩
  | 11 => ⟨S1x8192x512, .f32⟩
  | 12 => ⟨S1x8192x512, .f32⟩
  | 13 => ⟨S1x8192x16, .f32⟩
  | 14 => ⟨S8192, .f32⟩
  | 15 => ⟨S1x8192x4x128, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S63, .f32⟩
  | 24 => ⟨S_, .f32⟩
  | 25 => ⟨S63, .f32⟩
  | 26 => ⟨S63, .f32⟩
  | 27 => ⟨S1, .f32⟩
  | 28 => ⟨S_, .f32⟩
  | 29 => ⟨S63, .f32⟩
  | 30 => ⟨S63, .f32⟩
  | 31 => ⟨S63, .f32⟩
  | 32 => ⟨S63, .f32⟩
  | 33 => ⟨S1, .f32⟩
  | 34 => ⟨S63, .f32⟩
  | 35 => ⟨S63, .f32⟩
  | 36 => ⟨S63, .f32⟩
  | 37 => ⟨S1, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S8192x1, .f32⟩
  | 46 => ⟨S1x64, .f32⟩
  | 47 => ⟨S8192x64, .f32⟩
  | 48 => ⟨S8192x64, .f32⟩
  | 49 => ⟨S8192x64, .f32⟩
  | 50 => ⟨S8192x64, .f32⟩
  | 51 => ⟨S8192x1x64, .f32⟩
  | 52 => ⟨S8192x64, .f32⟩
  | 53 => ⟨S8192x1x64, .f32⟩
  | 54 => ⟨S1x8192x4x64, .f32⟩
  | 55 => ⟨S1x8192x4x64, .f32⟩
  | 56 => ⟨S1x8192x1x64, .f32⟩
  | 57 => ⟨S1x8192x4x64, .f32⟩
  | 58 => ⟨S1x8192x4x64, .f32⟩
  | 59 => ⟨S1x8192x1x64, .f32⟩
  | 60 => ⟨S1x8192x4x64, .f32⟩
  | 61 => ⟨S1x8192x4x64, .f32⟩
  | 62 => ⟨S1x8192x4x64, .f32⟩
  | 63 => ⟨S1x8192x1x64, .f32⟩
  | 64 => ⟨S1x8192x4x64, .f32⟩
  | 65 => ⟨S1x8192x4x64, .f32⟩
  | 66 => ⟨S1x8192x1x64, .f32⟩
  | 67 => ⟨S1x8192x4x64, .f32⟩
  | 68 => ⟨S1x8192x4x64, .f32⟩
  | 69 => ⟨S1x8192x4x64, .f32⟩
  | 70 => ⟨S1x8192x4x128, .f32⟩
  | 71 => ⟨S_, .f32⟩
  | 72 => ⟨S1x8192x4x128, .f32⟩
  | 73 => ⟨S1x8192x4x128, .f32⟩
  | 74 => ⟨S1x8192x4x128, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S63, .f32⟩
  | 83 => ⟨S_, .f32⟩
  | 84 => ⟨S63, .f32⟩
  | 85 => ⟨S63, .f32⟩
  | 86 => ⟨S1, .f32⟩
  | 87 => ⟨S_, .f32⟩
  | 88 => ⟨S63, .f32⟩
  | 89 => ⟨S63, .f32⟩
  | 90 => ⟨S63, .f32⟩
  | 91 => ⟨S63, .f32⟩
  | 92 => ⟨S1, .f32⟩
  | 93 => ⟨S63, .f32⟩
  | 94 => ⟨S63, .f32⟩
  | 95 => ⟨S63, .f32⟩
  | 96 => ⟨S1, .f32⟩
  | 97 => ⟨S64, .f32⟩
  | 98 => ⟨S_, .f32⟩
  | 99 => ⟨S64, .f32⟩
  | 100 => ⟨S64, .f32⟩
  | 101 => ⟨S_, .f32⟩
  | 102 => ⟨S64, .f32⟩
  | 103 => ⟨S64, .f32⟩
  | 104 => ⟨S8192x1, .f32⟩
  | 105 => ⟨S1x64, .f32⟩
  | 106 => ⟨S8192x64, .f32⟩
  | 107 => ⟨S8192x64, .f32⟩
  | 108 => ⟨S8192x64, .f32⟩
  | 109 => ⟨S8192x64, .f32⟩
  | 110 => ⟨S8192x1x64, .f32⟩
  | 111 => ⟨S8192x64, .f32⟩
  | 112 => ⟨S8192x1x64, .f32⟩
  | 113 => ⟨S1x8192x4x64, .f32⟩
  | 114 => ⟨S1x8192x4x64, .f32⟩
  | 115 => ⟨S1x8192x1x64, .f32⟩
  | 116 => ⟨S1x8192x4x64, .f32⟩
  | 117 => ⟨S1x8192x4x64, .f32⟩
  | 118 => ⟨S1x8192x1x64, .f32⟩
  | 119 => ⟨S1x8192x4x64, .f32⟩
  | 120 => ⟨S1x8192x4x64, .f32⟩
  | 121 => ⟨S1x8192x4x64, .f32⟩
  | 122 => ⟨S1x8192x1x64, .f32⟩
  | 123 => ⟨S1x8192x4x64, .f32⟩
  | 124 => ⟨S1x8192x4x64, .f32⟩
  | 125 => ⟨S1x8192x1x64, .f32⟩
  | 126 => ⟨S1x8192x4x64, .f32⟩
  | 127 => ⟨S1x8192x4x64, .f32⟩
  | _ => ⟨S1x8192x3600, .f32⟩

abbrev hbmTy0_1 (i : Nat) : BufTy := match i % 128 with
  | 0 => ⟨S1x8192x4x64, .f32⟩
  | 1 => ⟨S1x8192x4x128, .f32⟩
  | 2 => ⟨S1x8192x4x128, .f32⟩
  | 3 => ⟨S8192, .f32⟩
  | 4 => ⟨S8192, .i32⟩
  | 5 => ⟨S_, .i32⟩
  | 6 => ⟨S_, .i32⟩
  | 7 => ⟨S8192, .i32⟩
  | 8 => ⟨S8192, .i32⟩
  | 9 => ⟨S8192, .i32⟩
  | 10 => ⟨S_, .i32⟩
  | 11 => ⟨S8192, .i32⟩
  | 12 => ⟨S8192, .i1⟩
  | 13 => ⟨S8192, .i32⟩
  | 14 => ⟨S8192, .i32⟩
  | 15 => ⟨S_, .i32⟩
  | 16 => ⟨S8192, .i32⟩
  | 17 => ⟨S8192, .i1⟩
  | 18 => ⟨S8192, .i1⟩
  | 19 => ⟨S_, .i32⟩
  | 20 => ⟨S8192, .i32⟩
  | 21 => ⟨S8192, .i32⟩
  | 22 => ⟨S8192, .i32⟩
  | 23 => ⟨S1x8192, .i32⟩
  | 24 => ⟨S8192x1, .i32⟩
  | 25 => ⟨S8192x8192, .i32⟩
  | 26 => ⟨S8192x8192, .i32⟩
  | 27 => ⟨S8192x8192, .i1⟩
  | 28 => ⟨S4, .f32⟩
  | 29 => ⟨S_, .f32⟩
  | 30 => ⟨S4, .f32⟩
  | 31 => ⟨S4, .f32⟩
  | 32 => ⟨S_, .f32⟩
  | 33 => ⟨S4, .f32⟩
  | 34 => ⟨S4, .f32⟩
  | 35 => ⟨S_, .f32⟩
  | 36 => ⟨S4, .f32⟩
  | 37 => ⟨S4, .f32⟩
  | 38 => ⟨S4, .f32⟩
  | 39 => ⟨S4x1x1, .f32⟩
  | 40 => ⟨S8192x1, .f32⟩
  | 41 => ⟨S1x8192, .f32⟩
  | 42 => ⟨S8192x8192, .f32⟩
  | 43 => ⟨S8192x8192, .f32⟩
  | 44 => ⟨S8192x8192, .f32⟩
  | 45 => ⟨S8192x8192, .f32⟩
  | 46 => ⟨S1x8192x8192, .f32⟩
  | 47 => ⟨S4x8192x8192, .f32⟩
  | 48 => ⟨S4x8192x8192, .f32⟩
  | 49 => ⟨S4x8192x8192, .f32⟩
  | 50 => ⟨S4x8192x8192, .f32⟩
  | 51 => ⟨S_, .f32⟩
  | 52 => ⟨S_, .f32⟩
  | 53 => ⟨S4x8192x8192, .i1⟩
  | 54 => ⟨S4x8192x8192, .f32⟩
  | 55 => ⟨S4x8192x8192, .f32⟩
  | 56 => ⟨S1x4x8192x8192, .f32⟩
  | 57 => ⟨S1x4x8192x8192, .f32⟩
  | 58 => ⟨S1x4x8192x8192, .f32⟩
  | 59 => ⟨S1x4x128x8192, .f32⟩
  | 60 => ⟨S1x8192x4x128, .f32⟩
  | 61 => ⟨S512, .f32⟩
  | 62 => ⟨S_, .f32⟩
  | 63 => ⟨S1x8192x4, .f32⟩
  | 64 => ⟨S1x8192x4x1, .f32⟩
  | 65 => ⟨S_, .f32⟩
  | 66 => ⟨S1x8192x4x1, .f32⟩
  | 67 => ⟨S1x8192x4x1, .f32⟩
  | 68 => ⟨S1x8192x4x128, .f32⟩
  | 69 => ⟨S1x8192x4x128, .f32⟩
  | 70 => ⟨S1x8192x4x128, .f32⟩
  | 71 => ⟨S_, .f32⟩
  | 72 => ⟨S1x8192x4, .f32⟩
  | 73 => ⟨S1x8192x4x1, .f32⟩
  | 74 => ⟨S_, .f32⟩
  | 75 => ⟨S1x8192x4x1, .f32⟩
  | 76 => ⟨S1x8192x4x1, .f32⟩
  | 77 => ⟨S_, .f32⟩
  | 78 => ⟨S1x8192x4x1, .f32⟩
  | 79 => ⟨S1x8192x4x1, .f32⟩
  | 80 => ⟨S1x8192x4x1, .f32⟩
  | 81 => ⟨S1x8192x4x128, .f32⟩
  | 82 => ⟨S1x8192x4x128, .f32⟩
  | 83 => ⟨S1x8192x512, .f32⟩
  | 84 => ⟨S1x1x512, .f32⟩
  | 85 => ⟨S1x8192x512, .f32⟩
  | 86 => ⟨S1x8192x512, .f32⟩
  | 87 => ⟨S1x8192x512, .f32⟩
  | 88 => ⟨S1x8192x512, .f32⟩
  | 89 => ⟨S_, .f32⟩
  | 90 => ⟨S1x8192x512, .f32⟩
  | 91 => ⟨S1x8192x512, .f32⟩
  | 92 => ⟨S_, .f32⟩
  | 93 => ⟨S1x8192x512, .f32⟩
  | 94 => ⟨S1x8192x512, .f32⟩
  | 95 => ⟨S1x8192x512, .f32⟩
  | 96 => ⟨S1x8192x512, .f32⟩
  | 97 => ⟨S16x256, .f32⟩
  | 98 => ⟨S1x8192x256, .f32⟩
  | 99 => ⟨S256, .f32⟩
  | 100 => ⟨S1x1x256, .f32⟩
  | 101 => ⟨S1x8192x256, .f32⟩
  | 102 => ⟨S1x8192x256, .f32⟩
  | 103 => ⟨S1x8192x256, .f32⟩
  | 104 => ⟨S_, .f32⟩
  | 105 => ⟨S1x8192x256, .f32⟩
  | 106 => ⟨S1x8192x256, .f32⟩
  | 107 => ⟨S1x8192x256, .f32⟩
  | 108 => ⟨S1x8192x256, .f32⟩
  | 109 => ⟨S1x8192x256, .i1⟩
  | 110 => ⟨S1x8192x256, .f32⟩
  | 111 => ⟨S1x8192x256, .f32⟩
  | 112 => ⟨S1x8192x256, .f32⟩
  | 113 => ⟨S1x8192x256, .f32⟩
  | 114 => ⟨S1x8192x256, .f32⟩
  | 115 => ⟨S1x8192x256, .f32⟩
  | 116 => ⟨S1x8192x256, .f32⟩
  | 117 => ⟨S1x8192x256, .f32⟩
  | 118 => ⟨S1x8192x256, .f32⟩
  | 119 => ⟨S_, .f32⟩
  | 120 => ⟨S1x8192x256, .f32⟩
  | 121 => ⟨S1x8192x256, .f32⟩
  | 122 => ⟨S1x8192x4x64, .f32⟩
  | 123 => ⟨S8192, .i32⟩
  | 124 => ⟨S1x8192, .i32⟩
  | 125 => ⟨S8192x1, .i32⟩
  | 126 => ⟨S8192x8192, .i32⟩
  | 127 => ⟨S8192x8192, .i32⟩
  | _ => ⟨S1x8192x3600, .f32⟩

abbrev hbmTy0_2 (i : Nat) : BufTy := match i % 128 with
  | 0 => ⟨S8192x8192, .i1⟩
  | 1 => ⟨S_, .f32⟩
  | 2 => ⟨S_, .f32⟩
  | 3 => ⟨S8192x8192, .f32⟩
  | 4 => ⟨S8192x8192, .f32⟩
  | 5 => ⟨S8192x8192, .f32⟩
  | 6 => ⟨S1x4x64x8192, .f32⟩
  | 7 => ⟨S1x8192x4x64, .f32⟩
  | 8 => ⟨S1x8192x4x64, .f32⟩
  | 9 => ⟨S_, .f32⟩
  | 10 => ⟨S1x8192x4x64, .f32⟩
  | 11 => ⟨S1x8192x4x64, .f32⟩
  | 12 => ⟨S1x8192x4x64, .f32⟩
  | 13 => ⟨S1x8192x4x128, .f32⟩
  | 14 => ⟨S1x8192x1x4x64, .f32⟩
  | 15 => ⟨S1x1x8192x4x64, .f32⟩
  | 16 => ⟨S1x8192x8192x4x64, .f32⟩
  | 17 => ⟨S1x8192x8192x4x64, .f32⟩
  | 18 => ⟨S1x8192x8192x4x64, .f32⟩
  | 19 => ⟨S1x8192x8192x4x64, .f32⟩
  | 20 => ⟨S1x8192x8192x4x64, .f32⟩
  | 21 => ⟨S1x8192x8192x4x64, .f32⟩
  | 22 => ⟨S1x8192x1x4x64, .f32⟩
  | 23 => ⟨S1x1x8192x4x64, .f32⟩
  | 24 => ⟨S1x8192x8192x4x64, .f32⟩
  | 25 => ⟨S1x8192x8192x4x64, .f32⟩
  | 26 => ⟨S1x8192x8192x4x64, .f32⟩
  | 27 => ⟨S1x8192x8192x4x64, .f32⟩
  | 28 => ⟨S_, .f32⟩
  | 29 => ⟨S1x8192x8192x4, .f32⟩
  | 30 => ⟨S8192, .i32⟩
  | 31 => ⟨S_, .i32⟩
  | 32 => ⟨S_, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i1⟩
  | 39 => ⟨S8192, .i32⟩
  | 40 => ⟨S8192, .i32⟩
  | 41 => ⟨S_, .i32⟩
  | 42 => ⟨S8192, .i32⟩
  | 43 => ⟨S8192, .i1⟩
  | 44 => ⟨S8192, .i1⟩
  | 45 => ⟨S_, .i32⟩
  | 46 => ⟨S8192, .i32⟩
  | 47 => ⟨S8192, .i32⟩
  | 48 => ⟨S8192, .i32⟩
  | 49 => ⟨S1x8192, .i32⟩
  | 50 => ⟨S8192x1, .i32⟩
  | 51 => ⟨S8192x8192, .i32⟩
  | 52 => ⟨S8192x8192, .i32⟩
  | 53 => ⟨S8192x8192, .i1⟩
  | 54 => ⟨S1x8192x8192x1, .i1⟩
  | 55 => ⟨S_, .f32⟩
  | 56 => ⟨S_, .f32⟩
  | 57 => ⟨S1x8192x8192x4, .i1⟩
  | 58 => ⟨S1x8192x8192x4, .f32⟩
  | 59 => ⟨S1x8192x8192x4, .f32⟩
  | 60 => ⟨S1x4x128x8192, .f32⟩
  | 61 => ⟨S1x8192x4x128, .f32⟩
  | 62 => ⟨S512, .f32⟩
  | 63 => ⟨S1x8192x4x128, .f32⟩
  | 64 => ⟨S_, .f32⟩
  | 65 => ⟨S1x8192x4, .f32⟩
  | 66 => ⟨S1x8192x4x1, .f32⟩
  | 67 => ⟨S_, .f32⟩
  | 68 => ⟨S1x8192x4x1, .f32⟩
  | 69 => ⟨S1x8192x4x1, .f32⟩
  | 70 => ⟨S_, .f32⟩
  | 71 => ⟨S1x8192x4x1, .f32⟩
  | 72 => ⟨S1x8192x4x1, .f32⟩
  | 73 => ⟨S1x8192x4x1, .f32⟩
  | 74 => ⟨S1x8192x4x128, .f32⟩
  | 75 => ⟨S1x8192x4x128, .f32⟩
  | 76 => ⟨S1x8192x512, .f32⟩
  | 77 => ⟨S1x1x512, .f32⟩
  | 78 => ⟨S1x8192x512, .f32⟩
  | 79 => ⟨S1x8192x512, .f32⟩
  | 80 => ⟨S1x8192x512, .f32⟩
  | 81 => ⟨S1x8192x512, .f32⟩
  | 82 => ⟨S_, .f32⟩
  | 83 => ⟨S1x8192x512, .f32⟩
  | 84 => ⟨S1x8192x512, .f32⟩
  | 85 => ⟨S_, .f32⟩
  | 86 => ⟨S1x8192x512, .f32⟩
  | 87 => ⟨S1x8192x512, .f32⟩
  | 88 => ⟨S1x8192x512, .f32⟩
  | 89 => ⟨S1x8192x512, .f32⟩
  | 90 => ⟨S1x8192x1024, .f32⟩
  | 91 => ⟨S1x8192x1024, .bf16⟩
  | 92 => ⟨S1x8192x512, .f32⟩
  | 93 => ⟨S1x8192x512, .f32⟩
  | 94 => ⟨S1x8192x1024, .f32⟩
  | 95 => ⟨S32, .f32⟩
  | 96 => ⟨S32x1, .f32⟩
  | 97 => ⟨S_, .f32⟩
  | 98 => ⟨S32x1, .f32⟩
  | 99 => ⟨S32x1, .f32⟩
  | 100 => ⟨S_, .f32⟩
  | 101 => ⟨S32x1, .f32⟩
  | 102 => ⟨S32x1, .f32⟩
  | 103 => ⟨S8192, .f32⟩
  | 104 => ⟨S1x8192, .f32⟩
  | 105 => ⟨S32x8192, .f32⟩
  | 106 => ⟨S32x8192, .f32⟩
  | 107 => ⟨S32x8192, .f32⟩
  | 108 => ⟨S_, .f32⟩
  | 109 => ⟨S32x8192, .f32⟩
  | 110 => ⟨S32x8192, .i1⟩
  | 111 => ⟨S4, .f32⟩
  | 112 => ⟨S_, .f32⟩
  | 113 => ⟨S4, .f32⟩
  | 114 => ⟨S4, .f32⟩
  | 115 => ⟨S_, .f32⟩
  | 116 => ⟨S4, .f32⟩
  | 117 => ⟨S4, .f32⟩
  | 118 => ⟨S_, .f32⟩
  | 119 => ⟨S4, .f32⟩
  | 120 => ⟨S4, .f32⟩
  | 121 => ⟨S4, .f32⟩
  | 122 => ⟨S4x1x1, .f32⟩
  | 123 => ⟨S1x32x8192, .f32⟩
  | 124 => ⟨S4x32x8192, .f32⟩
  | 125 => ⟨S4x32x8192, .f32⟩
  | 126 => ⟨S4x32x8192, .f32⟩
  | 127 => ⟨S4x32x8192, .f32⟩
  | _ => ⟨S1x8192x3600, .f32⟩

abbrev hbmTy0_3 (i : Nat) : BufTy := match i % 128 with
  | 0 => ⟨S_, .f32⟩
  | 1 => ⟨S_, .f32⟩
  | 2 => ⟨S4x32x8192, .i1⟩
  | 3 => ⟨S4x32x8192, .f32⟩
  | 4 => ⟨S4x32x8192, .f32⟩
  | 5 => ⟨S1x4x32x8192x1, .f32⟩
  | 6 => ⟨S1x4x8192x128, .f32⟩
  | 7 => ⟨S1x4x1x8192x128, .f32⟩
  | 8 => ⟨S1x4x32x8192x128, .f32⟩
  | 9 => ⟨S1x4x32x8192x128, .f32⟩
  | 10 => ⟨S1x4x32x8192x128, .f32⟩
  | 11 => ⟨S1x4x32x128x128, .f32⟩
  | 12 => ⟨S1x64x128x4x64, .f32⟩
  | 13 => ⟨S1x64x1x4x64, .f32⟩
  | 14 => ⟨S1x64x4x64, .f32⟩
  | 15 => ⟨S1x63x4x64, .f32⟩
  | 16 => ⟨S_, .i32⟩
  | 17 => ⟨S_, .f32⟩
  | 18 => ⟨S1x64x4x64, .f32⟩
  | 19 => ⟨S8192, .i32⟩
  | 20 => ⟨S1x8192, .i32⟩
  | 21 => ⟨S64, .i32⟩
  | 22 => ⟨S64x1, .i32⟩
  | 23 => ⟨S_, .i32⟩
  | 24 => ⟨S64x1, .i32⟩
  | 25 => ⟨S64x1, .i32⟩
  | 26 => ⟨S64x8192, .i32⟩
  | 27 => ⟨S64x8192, .i32⟩
  | 28 => ⟨S64x8192, .i1⟩
  | 29 => ⟨S1x64x8192x1x1, .i1⟩
  | 30 => ⟨S1x64x1x4x64, .f32⟩
  | 31 => ⟨S1x1x8192x4x64, .f32⟩
  | 32 => ⟨S1x64x8192x4x64, .f32⟩
  | 33 => ⟨S1x64x8192x4x64, .f32⟩
  | 34 => ⟨S1x64x8192x4x64, .f32⟩
  | 35 => ⟨S1x64x8192x4x64, .f32⟩
  | 36 => ⟨S_, .f32⟩
  | 37 => ⟨S_, .f32⟩
  | 38 => ⟨S1x64x8192x4x64, .i1⟩
  | 39 => ⟨S1x64x8192x4x64, .f32⟩
  | 40 => ⟨S1x64x8192x4x64, .f32⟩
  | 41 => ⟨S1x1x8192x4x64, .f32⟩
  | 42 => ⟨S1x64x8192x4x64, .f32⟩
  | 43 => ⟨S1x64x8192x4x64, .f32⟩
  | 44 => ⟨S1x4x128x64x64, .f32⟩
  | 45 => ⟨S1x64x128x4x64, .f32⟩
  | 46 => ⟨S8192x1024, .bf16⟩
  | 47 => ⟨S8192x1024, .f32⟩
  | 48 => ⟨S8192x512, .f32⟩
  | 49 => ⟨S8192x512, .bf16⟩
  | 50 => ⟨S8192x512, .f32⟩
  | 51 => ⟨S8192x512, .bf16⟩
  | 52 => ⟨S4x32x128x128, .f32⟩
  | 53 => ⟨S32x4x128x128, .f32⟩
  | 54 => ⟨S32x512x128, .f32⟩
  | 55 => ⟨S64x128x256, .f32⟩
  | _ => ⟨S1x8192x3600, .f32⟩

abbrev hbmTy (i : Nat) : BufTy := match i / 128 with
  | 0 => hbmTy0_0 i
  | 1 => hbmTy0_1 i
  | 2 => hbmTy0_2 i
  | 3 => hbmTy0_3 i
  | _ => ⟨S1x8192x3600, .f32⟩

abbrev bufTy : (tb : Table) → Fin (tcTables nBuf tb) → BufTy
  | .hbm, ⟨i, _⟩ => hbmTy i
  | _, _ => ⟨S1x8192x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_4 : Ref sig .tc := ⟨.hbm, 75, rfl⟩
abbrev main_cst_5 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_cst : Ref sig .tc := ⟨.hbm, 80, rfl⟩
abbrev main_call1_v3 : Ref sig .tc := ⟨.hbm, 81, rfl⟩
abbrev main_call1_v4 : Ref sig .tc := ⟨.hbm, 82, rfl⟩
abbrev main_call1_cst_0 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_v15 : Ref sig .tc := ⟨.hbm, 95, rfl⟩
abbrev main_call1_v16 : Ref sig .tc := ⟨.hbm, 96, rfl⟩
abbrev main_v45 : Ref sig .tc := ⟨.hbm, 97, rfl⟩
abbrev main_cst_6 : Ref sig .tc := ⟨.hbm, 98, rfl⟩
abbrev main_v46 : Ref sig .tc := ⟨.hbm, 99, rfl⟩
abbrev main_v47 : Ref sig .tc := ⟨.hbm, 100, rfl⟩
abbrev main_cst_7 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_c : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_c : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_c_0 : Ref sig .tc := ⟨.hbm, 147, rfl⟩
abbrev main_call2_v12 : Ref sig .tc := ⟨.hbm, 148, rfl⟩
abbrev main_call2_v13 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_cst_8 : Ref sig .tc := ⟨.hbm, 157, rfl⟩
abbrev main_v86 : Ref sig .tc := ⟨.hbm, 158, rfl⟩
abbrev main_v87 : Ref sig .tc := ⟨.hbm, 159, rfl⟩
abbrev main_cst_9 : Ref sig .tc := ⟨.hbm, 160, rfl⟩
abbrev main_v88 : Ref sig .tc := ⟨.hbm, 161, rfl⟩
abbrev main_v89 : Ref sig .tc := ⟨.hbm, 162, rfl⟩
abbrev main_cst_10 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_cst_11 : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_12 : Ref sig .tc := ⟨.hbm, 190, rfl⟩
abbrev main_v112 : Ref sig .tc := ⟨.hbm, 191, rfl⟩
abbrev main_v113 : Ref sig .tc := ⟨.hbm, 192, rfl⟩
abbrev main_cst_13 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_cst_14 : Ref sig .tc := ⟨.hbm, 199, rfl⟩
abbrev main_v119 : Ref sig .tc := ⟨.hbm, 200, rfl⟩
abbrev main_v120 : Ref sig .tc := ⟨.hbm, 201, rfl⟩
abbrev main_cst_15 : Ref sig .tc := ⟨.hbm, 202, rfl⟩
abbrev main_v121 : Ref sig .tc := ⟨.hbm, 203, rfl⟩
abbrev main_v122 : Ref sig .tc := ⟨.hbm, 204, rfl⟩
abbrev main_cst_16 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_call4_v0 : Ref sig .tc := ⟨.hbm, 215, rfl⟩
abbrev main_call4_v1 : Ref sig .tc := ⟨.hbm, 216, rfl⟩
abbrev main_call4_cst : Ref sig .tc := ⟨.hbm, 217, rfl⟩
abbrev main_call4_v2 : Ref sig .tc := ⟨.hbm, 218, rfl⟩
abbrev main_call4_v3 : Ref sig .tc := ⟨.hbm, 219, rfl⟩
abbrev main_call4_cst_0 : Ref sig .tc := ⟨.hbm, 220, rfl⟩
abbrev main_call4_v4 : Ref sig .tc := ⟨.hbm, 221, rfl⟩
abbrev main_call4_v5 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_call5_v0 : Ref sig .tc := ⟨.hbm, 231, rfl⟩
abbrev main_call5_call0_cst : Ref sig .tc := ⟨.hbm, 232, rfl⟩
abbrev main_call5_call0_v0 : Ref sig .tc := ⟨.hbm, 233, rfl⟩
abbrev main_call5_call0_v1 : Ref sig .tc := ⟨.hbm, 234, rfl⟩
abbrev main_call5_call0_v2 : Ref sig .tc := ⟨.hbm, 235, rfl⟩
abbrev main_call5_call0_v3 : Ref sig .tc := ⟨.hbm, 236, rfl⟩
abbrev main_call5_call0_v4 : Ref sig .tc := ⟨.hbm, 237, rfl⟩
abbrev main_call5_call0_v5 : Ref sig .tc := ⟨.hbm, 238, rfl⟩
abbrev main_call5_call0_v6 : Ref sig .tc := ⟨.hbm, 239, rfl⟩
abbrev main_call5_call0_v7 : Ref sig .tc := ⟨.hbm, 240, rfl⟩
abbrev main_call5_call0_v8 : Ref sig .tc := ⟨.hbm, 241, rfl⟩
abbrev main_call5_call0_v9 : Ref sig .tc := ⟨.hbm, 242, rfl⟩
abbrev main_call5_call0_v10 : Ref sig .tc := ⟨.hbm, 243, rfl⟩
abbrev main_call5_call0_v11 : Ref sig .tc := ⟨.hbm, 244, rfl⟩
abbrev main_call5_v1 : Ref sig .tc := ⟨.hbm, 245, rfl⟩
abbrev main_v140 : Ref sig .tc := ⟨.hbm, 246, rfl⟩
abbrev main_cst_17 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_cst_18 : Ref sig .tc := ⟨.hbm, 257, rfl⟩
abbrev main_cst_19 : Ref sig .tc := ⟨.hbm, 258, rfl⟩
abbrev main_call6_v0 : Ref sig .tc := ⟨.hbm, 259, rfl⟩
abbrev main_call6_v1 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_cst_20 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_cst_21 : Ref sig .tc := ⟨.hbm, 284, rfl⟩
abbrev main_v172 : Ref sig .tc := ⟨.hbm, 285, rfl⟩
abbrev main_v173 : Ref sig .tc := ⟨.hbm, 286, rfl⟩
abbrev main_c_22 : Ref sig .tc := ⟨.hbm, 287, rfl⟩
abbrev main_call7_v0 : Ref sig .tc := ⟨.hbm, 288, rfl⟩
abbrev main_call7_v1 : Ref sig .tc := ⟨.hbm, 289, rfl⟩
abbrev main_call7_v2 : Ref sig .tc := ⟨.hbm, 290, rfl⟩
abbrev main_call7_v3 : Ref sig .tc := ⟨.hbm, 291, rfl⟩
abbrev main_call7_v4 : Ref sig .tc := ⟨.hbm, 292, rfl⟩
abbrev main_call7_v5 : Ref sig .tc := ⟨.hbm, 293, rfl⟩
abbrev main_call7_v6 : Ref sig .tc := ⟨.hbm, 294, rfl⟩
abbrev main_call7_v7 : Ref sig .tc := ⟨.hbm, 295, rfl⟩
abbrev main_call7_v8 : Ref sig .tc := ⟨.hbm, 296, rfl⟩
abbrev main_call7_c : Ref sig .tc := ⟨.hbm, 297, rfl⟩
abbrev main_call7_v9 : Ref sig .tc := ⟨.hbm, 298, rfl⟩
abbrev main_call7_v10 : Ref sig .tc := ⟨.hbm, 299, rfl⟩
abbrev main_call7_v11 : Ref sig .tc := ⟨.hbm, 300, rfl⟩
abbrev main_call7_c_0 : Ref sig .tc := ⟨.hbm, 301, rfl⟩
abbrev main_call7_v12 : Ref sig .tc := ⟨.hbm, 302, rfl⟩
abbrev main_call7_v13 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_v180 : Ref sig .tc := ⟨.hbm, 310, rfl⟩
abbrev main_cst_23 : Ref sig .tc := ⟨.hbm, 311, rfl⟩
abbrev main_call8_v0 : Ref sig .tc := ⟨.hbm, 312, rfl⟩
abbrev main_call8_v1 : Ref sig .tc := ⟨.hbm, 313, rfl⟩
abbrev main_call8_v2 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_cst_24 : Ref sig .tc := ⟨.hbm, 320, rfl⟩
abbrev main_v186 : Ref sig .tc := ⟨.hbm, 321, rfl⟩
abbrev main_v187 : Ref sig .tc := ⟨.hbm, 322, rfl⟩
abbrev main_cst_25 : Ref sig .tc := ⟨.hbm, 323, rfl⟩
abbrev main_v188 : Ref sig .tc := ⟨.hbm, 324, rfl⟩
abbrev main_v189 : Ref sig .tc := ⟨.hbm, 325, rfl⟩
abbrev main_cst_26 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_v196 : Ref sig .tc := ⟨.hbm, 333, rfl⟩
abbrev main_v197 : Ref sig .tc := ⟨.hbm, 334, rfl⟩
abbrev main_v198 : Ref sig .tc := ⟨.hbm, 335, rfl⟩
abbrev main_call9_v0 : Ref sig .tc := ⟨.hbm, 336, rfl⟩
abbrev main_call9_v1 : Ref sig .tc := ⟨.hbm, 337, rfl⟩
abbrev main_call9_cst : Ref sig .tc := ⟨.hbm, 338, rfl⟩
abbrev main_call9_v2 : Ref sig .tc := ⟨.hbm, 339, rfl⟩
abbrev main_call9_v3 : Ref sig .tc := ⟨.hbm, 340, rfl⟩
abbrev main_call9_cst_0 : Ref sig .tc := ⟨.hbm, 341, rfl⟩
abbrev main_call9_v4 : Ref sig .tc := ⟨.hbm, 342, rfl⟩
abbrev main_call9_v5 : Ref sig .tc := ⟨.hbm, 343, rfl⟩
abbrev main_v199 : Ref sig .tc := ⟨.hbm, 344, rfl⟩
abbrev main_v200 : Ref sig .tc := ⟨.hbm, 345, rfl⟩
abbrev main_v201 : Ref sig .tc := ⟨.hbm, 346, rfl⟩
abbrev main_v202 : Ref sig .tc := ⟨.hbm, 347, rfl⟩
abbrev main_v203 : Ref sig .tc := ⟨.hbm, 348, rfl⟩
abbrev main_v204 : Ref sig .tc := ⟨.hbm, 349, rfl⟩
abbrev main_v205 : Ref sig .tc := ⟨.hbm, 350, rfl⟩
abbrev main_v206 : Ref sig .tc := ⟨.hbm, 351, rfl⟩
abbrev main_v207 : Ref sig .tc := ⟨.hbm, 352, rfl⟩
abbrev main_cst_27 : Ref sig .tc := ⟨.hbm, 353, rfl⟩
abbrev main_v208 : Ref sig .tc := ⟨.hbm, 354, rfl⟩
abbrev main_v209 : Ref sig .tc := ⟨.hbm, 355, rfl⟩
abbrev main_cst_28 : Ref sig .tc := ⟨.hbm, 356, rfl⟩
abbrev main_v210 : Ref sig .tc := ⟨.hbm, 357, rfl⟩
abbrev main_v211 : Ref sig .tc := ⟨.hbm, 358, rfl⟩
abbrev main_v212 : Ref sig .tc := ⟨.hbm, 359, rfl⟩
abbrev main_v213 : Ref sig .tc := ⟨.hbm, 360, rfl⟩
abbrev main_v214 : Ref sig .tc := ⟨.hbm, 361, rfl⟩
abbrev main_v215 : Ref sig .tc := ⟨.hbm, 362, rfl⟩
abbrev main_v216 : Ref sig .tc := ⟨.hbm, 363, rfl⟩
abbrev main_cst_29 : Ref sig .tc := ⟨.hbm, 364, rfl⟩
abbrev main_v217 : Ref sig .tc := ⟨.hbm, 365, rfl⟩
abbrev main_v218 : Ref sig .tc := ⟨.hbm, 366, rfl⟩
abbrev main_v219 : Ref sig .tc := ⟨.hbm, 367, rfl⟩
abbrev main_cst_30 : Ref sig .tc := ⟨.hbm, 368, rfl⟩
abbrev main_v220 : Ref sig .tc := ⟨.hbm, 369, rfl⟩
abbrev main_v221 : Ref sig .tc := ⟨.hbm, 370, rfl⟩
abbrev main_cst_31 : Ref sig .tc := ⟨.hbm, 371, rfl⟩
abbrev main_v222 : Ref sig .tc := ⟨.hbm, 372, rfl⟩
abbrev main_v223 : Ref sig .tc := ⟨.hbm, 373, rfl⟩
abbrev main_cst_32 : Ref sig .tc := ⟨.hbm, 374, rfl⟩
abbrev main_v224 : Ref sig .tc := ⟨.hbm, 375, rfl⟩
abbrev main_v225 : Ref sig .tc := ⟨.hbm, 376, rfl⟩
abbrev main_v226 : Ref sig .tc := ⟨.hbm, 377, rfl⟩
abbrev main_v227 : Ref sig .tc := ⟨.hbm, 378, rfl⟩
abbrev main_v228 : Ref sig .tc := ⟨.hbm, 379, rfl⟩
abbrev main_v229 : Ref sig .tc := ⟨.hbm, 380, rfl⟩
abbrev main_v230 : Ref sig .tc := ⟨.hbm, 381, rfl⟩
abbrev main_v231 : Ref sig .tc := ⟨.hbm, 382, rfl⟩
abbrev main_v232 : Ref sig .tc := ⟨.hbm, 383, rfl⟩
abbrev main_cst_33 : Ref sig .tc := ⟨.hbm, 384, rfl⟩
abbrev main_call10_v0 : Ref sig .tc := ⟨.hbm, 385, rfl⟩
abbrev main_call10_v1 : Ref sig .tc := ⟨.hbm, 386, rfl⟩
abbrev main_call10_v2 : Ref sig .tc := ⟨.hbm, 387, rfl⟩
abbrev main_v233 : Ref sig .tc := ⟨.hbm, 388, rfl⟩
abbrev main_v234 : Ref sig .tc := ⟨.hbm, 389, rfl⟩
abbrev main_v235 : Ref sig .tc := ⟨.hbm, 390, rfl⟩
abbrev main_v236 : Ref sig .tc := ⟨.hbm, 391, rfl⟩
abbrev main_v237 : Ref sig .tc := ⟨.hbm, 392, rfl⟩
abbrev main_v238 : Ref sig .tc := ⟨.hbm, 393, rfl⟩
abbrev main_v239 : Ref sig .tc := ⟨.hbm, 394, rfl⟩
abbrev main_v240 : Ref sig .tc := ⟨.hbm, 395, rfl⟩
abbrev main_v241 : Ref sig .tc := ⟨.hbm, 396, rfl⟩
abbrev main_v242 : Ref sig .tc := ⟨.hbm, 397, rfl⟩
abbrev main_v243 : Ref sig .tc := ⟨.hbm, 398, rfl⟩
abbrev main_v244 : Ref sig .tc := ⟨.hbm, 399, rfl⟩
abbrev main_c_34 : Ref sig .tc := ⟨.hbm, 400, rfl⟩
abbrev main_call11_v0 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_v248 : Ref sig .tc := ⟨.hbm, 405, rfl⟩
abbrev main_v249 : Ref sig .tc := ⟨.hbm, 406, rfl⟩
abbrev main_c_35 : Ref sig .tc := ⟨.hbm, 407, rfl⟩
abbrev main_v250 : Ref sig .tc := ⟨.hbm, 408, rfl⟩
abbrev main_v251 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_v256 : Ref sig .tc := ⟨.hbm, 414, rfl⟩
abbrev main_v257 : Ref sig .tc := ⟨.hbm, 415, rfl⟩
abbrev main_v258 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_cst_36 : Ref sig .tc := ⟨.hbm, 420, rfl⟩
abbrev main_call12_v0 : Ref sig .tc := ⟨.hbm, 421, rfl⟩
abbrev main_call12_v1 : Ref sig .tc := ⟨.hbm, 422, rfl⟩
abbrev main_call12_v2 : Ref sig .tc := ⟨.hbm, 423, rfl⟩
abbrev main_v262 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_v266 : Ref sig .tc := ⟨.hbm, 428, rfl⟩
abbrev main_v267 : Ref sig .tc := ⟨.hbm, 429, rfl⟩
abbrev main_v268 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_v272 : Ref sig .tc := ⟨.hbm, 434, rfl⟩
abbrev main_v273 : Ref sig .tc := ⟨.hbm, 435, rfl⟩
abbrev main_v274 : Ref sig .tc := ⟨.hbm, 436, rfl⟩
abbrev main_v275 : Ref sig .tc := ⟨.hbm, 437, rfl⟩
abbrev main_v276 : Ref sig .tc := ⟨.hbm, 438, rfl⟩
abbrev main_v277 : Ref sig .tc := ⟨.hbm, 439, rfl⟩

abbrev nD : Nat := 1
abbrev τ : Topo := Topo.v7x

variable {F : FTy → Type} [FloatOps F]
-- ==== FwdKernel.lean ====
abbrev S1x8192x1024 : Shape := ⟨3, ![1, 8192, 1024]⟩
abbrev S1x1024 : Shape := ⟨2, ![1, 1024]⟩
abbrev S1x1024x3600 : Shape := ⟨3, ![1, 1024, 3600]⟩
abbrev S1024x3600 : Shape := ⟨2, ![1024, 3600]⟩
abbrev S3600x1024 : Shape := ⟨2, ![3600, 1024]⟩
abbrev S8192x1024 : Shape := ⟨2, ![8192, 1024]⟩
abbrev S_ : Shape := ⟨0, ![]⟩
abbrev S8x128 : Shape := ⟨2, ![8, 128]⟩
abbrev S8192x3712 : Shape := ⟨2, ![8192, 3712]⟩
abbrev S512x1024 : Shape := ⟨2, ![512, 1024]⟩
abbrev S512x3712 : Shape := ⟨2, ![512, 3712]⟩
abbrev S3712x1024 : Shape := ⟨2, ![3712, 1024]⟩
abbrev S1 : Shape := ⟨1, ![1]⟩
abbrev S112x1024 : Shape := ⟨2, ![112, 1024]⟩
abbrev S512 : Shape := ⟨1, ![512]⟩
abbrev S512x1 : Shape := ⟨2, ![512, 1]⟩

abbrev nBuf : Space → Nat
  | .hbm => 15
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024x3600, .f32⟩
  | .hbm, ⟨4, _⟩ => ⟨S1024x3600, .f32⟩
  | .hbm, ⟨5, _⟩ => ⟨S3600x1024, .f32⟩
  | .hbm, ⟨6, _⟩ => ⟨S3600x1024, .bf16⟩
  | .hbm, ⟨7, _⟩ => ⟨S8192x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S8x128, .f32⟩
  | .hbm, ⟨13, _⟩ => ⟨S8192x3712, .f32⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x3712, .f32⟩
  | .local _ .vmem, ⟨5, _⟩ => ⟨S512x3712, .f32⟩
  | .local _ .vmem, ⟨6, _⟩ => ⟨S512x1024, .bf16⟩
  | .local _ .vmem, ⟨7, _⟩ => ⟨S512x1024, .bf16⟩
  | .local _ .vmem, ⟨8, _⟩ => ⟨S3712x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdReferenceIdeal.lean ====
abbrev S1x8192x1024 : Shape := ⟨3, ![1, 8192, 1024]⟩
abbrev S1x1024 : Shape := ⟨2, ![1, 1024]⟩
abbrev S1x1024x3600 : Shape := ⟨3, ![1, 1024, 3600]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3600 : Shape := ⟨2, ![1024, 3600]⟩
abbrev S1x8192x3600 : Shape := ⟨3, ![1, 8192, 3600]⟩
abbrev S8192x3600 : Shape := ⟨2, ![8192, 3600]⟩
abbrev S8192x3712 : Shape := ⟨2, ![8192, 3712]⟩
abbrev S8192x1024 : Shape := ⟨2, ![8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024x3600, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S_, .f32⟩
  | .hbm, ⟨14, _⟩ => ⟨S1x8192, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1024x3600, .f32⟩
  | .hbm, ⟨37, _⟩ => ⟨S1x8192x3600, .f32⟩
  | .hbm, ⟨38, _⟩ => ⟨S8192x3600, .f32⟩
  | .hbm, ⟨39, _⟩ => ⟨S_, .i32⟩
  | .hbm, ⟨40, _⟩ => ⟨S_, .f32⟩
  | .hbm, ⟨41, _⟩ => ⟨S8192x3712, .f32⟩
  | .hbm, ⟨42, _⟩ => ⟨S8192x1024, .f32⟩
  | .hbm, ⟨43, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== OutKernel.lean ====
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OutReferenceIdeal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== BwdKernel.lean ====
abbrev S1x8192x3600 : Shape := ⟨3, ![1, 8192, 3600]⟩
abbrev S8192x512 : Shape := ⟨2, ![8192, 512]⟩
abbrev S8192x1024 : Shape := ⟨2, ![8192, 1024]⟩
abbrev S32x512x128 : Shape := ⟨3, ![32, 512, 128]⟩
abbrev S64x128x256 : Shape := ⟨3, ![64, 128, 256]⟩
abbrev S1x16x256 : Shape := ⟨3, ![1, 16, 256]⟩
abbrev S1x256 : Shape := ⟨2, ![1, 256]⟩
abbrev S1x512 : Shape := ⟨2, ![1, 512]⟩
abbrev S1x8192x1024 : Shape := ⟨3, ![1, 8192, 1024]⟩
abbrev S8192x3600 : Shape := ⟨2, ![8192, 3600]⟩
abbrev S_ : Shape := ⟨0, ![]⟩
abbrev S8192x3712 : Shape := ⟨2, ![8192, 3712]⟩
abbrev S128x256 : Shape := ⟨2, ![128, 256]⟩
abbrev S16x256 : Shape := ⟨2, ![16, 256]⟩
abbrev S1 : Shape := ⟨1, ![1]⟩
abbrev S256x256 : Shape := ⟨2, ![256, 256]⟩
abbrev S256x128 : Shape := ⟨2, ![256, 128]⟩
abbrev S1x256x256 : Shape := ⟨3, ![1, 256, 256]⟩
abbrev S4x256x256 : Shape := ⟨3, ![4, 256, 256]⟩
abbrev S1x256x128 : Shape := ⟨3, ![1, 256, 128]⟩
abbrev S8x256x128 : Shape := ⟨3, ![8, 256, 128]⟩
abbrev S63 : Shape := ⟨1, ![63]⟩
abbrev S64 : Shape := ⟨1, ![64]⟩
abbrev S256 : Shape := ⟨1, ![256]⟩
abbrev S256x1 : Shape := ⟨2, ![256, 1]⟩
abbrev S1x64 : Shape := ⟨2, ![1, 64]⟩
abbrev S256x64 : Shape := ⟨2, ![256, 64]⟩
abbrev S32 : Shape := ⟨1, ![32]⟩
abbrev S32x1 : Shape := ⟨2, ![32, 1]⟩
abbrev S32x64 : Shape := ⟨2, ![32, 64]⟩
abbrev S4x256x128 : Shape := ⟨3, ![4, 256, 128]⟩
abbrev S32x256 : Shape := ⟨2, ![32, 256]⟩
abbrev S32x1x256 : Shape := ⟨3, ![32, 1, 256]⟩
abbrev S32x8x256 : Shape := ⟨3, ![32, 8, 256]⟩
abbrev S8x128 : Shape := ⟨2, ![8, 128]⟩
abbrev S8x512 : Shape := ⟨2, ![8, 512]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S2x8x256 : Shape := ⟨3, ![2, 8, 256]⟩
abbrev S2x512x128 : Shape := ⟨3, ![2, 512, 128]⟩
abbrev S4x128x256 : Shape := ⟨3, ![4, 128, 256]⟩
abbrev S512x3712 : Shape := ⟨2, ![512, 3712]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S1x128x128 : Shape := ⟨3, ![1, 128, 128]⟩
abbrev S1x128x256 : Shape := ⟨3, ![1, 128, 256]⟩
abbrev S128x1 : Shape := ⟨2, ![128, 1]⟩

abbrev nBuf : Space → Nat
  | .hbm => 201
  | .vmem => 41
  | .smem => 0
  | _ => 0

abbrev hbmTy0_0 (i : Nat) : BufTy := match i % 128 with
  | 0 => ⟨S1x8192x3600, .f32⟩
  | 1 => ⟨S8192x512, .bf16⟩
  | 2 => ⟨S8192x512, .bf16⟩
  | 3 => ⟨S8192x1024, .f32⟩
  | 4 => ⟨S32x512x128, .f32⟩
  | 5 => ⟨S64x128x256, .f32⟩
  | 6 => ⟨S1x16x256, .f32⟩
  | 7 => ⟨S1x256, .f32⟩
  | 8 => ⟨S1x512, .f32⟩
  | 9 => ⟨S1x512, .f32⟩
  | 10 => ⟨S1x8192x1024, .f32⟩
  | 11 => ⟨S8192x3600, .f32⟩
  | 12 => ⟨S_, .i32⟩
  | 13 => ⟨S_, .f32⟩
  | 14 => ⟨S8192x3712, .f32⟩
  | 15 => ⟨S_, .f32⟩
  | 16 => ⟨S128x256, .f32⟩
  | 17 => ⟨S16x256, .f32⟩
  | 18 => ⟨S_, .i32⟩
  | 19 => ⟨S1, .i32⟩
  | 20 => ⟨S128x256, .f32⟩
  | 21 => ⟨S256x256, .i32⟩
  | 22 => ⟨S256x256, .i32⟩
  | 23 => ⟨S_, .i32⟩
  | 24 => ⟨S256x256, .i32⟩
  | 25 => ⟨S256x256, .i32⟩
  | 26 => ⟨S_, .i32⟩
  | 27 => ⟨S256x256, .i32⟩
  | 28 => ⟨S256x256, .i32⟩
  | 29 => ⟨S256x256, .i1⟩
  | 30 => ⟨S256x256, .i32⟩
  | 31 => ⟨S256x256, .i32⟩
  | 32 => ⟨S256x256, .f32⟩
  | 33 => ⟨S256x128, .i32⟩
  | 34 => ⟨S256x128, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S256x256, .f32⟩
  | 44 => ⟨S256x256, .f32⟩
  | 45 => ⟨S256x256, .f32⟩
  | 46 => ⟨S_, .f32⟩
  | 47 => ⟨S_, .f32⟩
  | 48 => ⟨S256x256, .f32⟩
  | 49 => ⟨S256x256, .f32⟩
  | 50 => ⟨S256x256, .f32⟩
  | 51 => ⟨S256x256, .f32⟩
  | 52 => ⟨S256x256, .f32⟩
  | 53 => ⟨S_, .f32⟩
  | 54 => ⟨S_, .f32⟩
  | 55 => ⟨S256x256, .f32⟩
  | 56 => ⟨S256x256, .f32⟩
  | 57 => ⟨S256x256, .f32⟩
  | 58 => ⟨S256x256, .f32⟩
  | 59 => ⟨S256x256, .f32⟩
  | 60 => ⟨S_, .f32⟩
  | 61 => ⟨S_, .f32⟩
  | 62 => ⟨S256x256, .f32⟩
  | 63 => ⟨S256x256, .f32⟩
  | 64 => ⟨S256x256, .f32⟩
  | 65 => ⟨S256x256, .f32⟩
  | 66 => ⟨S256x256, .f32⟩
  | 67 => ⟨S_, .f32⟩
  | 68 => ⟨S_, .f32⟩
  | 69 => ⟨S256x256, .f32⟩
  | 70 => ⟨S256x256, .f32⟩
  | 71 => ⟨S1x256x256, .f32⟩
  | 72 => ⟨S1x256x256, .f32⟩
  | 73 => ⟨S1x256x256, .f32⟩
  | 74 => ⟨S1x256x256, .f32⟩
  | 75 => ⟨S4x256x256, .f32⟩
  | 76 => ⟨S_, .f32⟩
  | 77 => ⟨S256x128, .f32⟩
  | 78 => ⟨S256x128, .f32⟩
  | 79 => ⟨S256x128, .f32⟩
  | 80 => ⟨S256x128, .f32⟩
  | 81 => ⟨S256x128, .f32⟩
  | 82 => ⟨S_, .f32⟩
  | 83 => ⟨S256x128, .f32⟩
  | 84 => ⟨S256x128, .f32⟩
  | 85 => ⟨S256x128, .f32⟩
  | 86 => ⟨S256x128, .f32⟩
  | 87 => ⟨S256x128, .f32⟩
  | 88 => ⟨S_, .f32⟩
  | 89 => ⟨S256x128, .f32⟩
  | 90 => ⟨S256x128, .f32⟩
  | 91 => ⟨S256x128, .f32⟩
  | 92 => ⟨S256x128, .f32⟩
  | 93 => ⟨S256x128, .f32⟩
  | 94 => ⟨S_, .f32⟩
  | 95 => ⟨S256x128, .f32⟩
  | 96 => ⟨S256x128, .f32⟩
  | 97 => ⟨S256x128, .f32⟩
  | 98 => ⟨S256x128, .f32⟩
  | 99 => ⟨S256x128, .f32⟩
  | 100 => ⟨S_, .f32⟩
  | 101 => ⟨S256x128, .f32⟩
  | 102 => ⟨S256x128, .f32⟩
  | 103 => ⟨S256x128, .f32⟩
  | 104 => ⟨S256x128, .f32⟩
  | 105 => ⟨S256x128, .f32⟩
  | 106 => ⟨S_, .f32⟩
  | 107 => ⟨S256x128, .f32⟩
  | 108 => ⟨S256x128, .f32⟩
  | 109 => ⟨S256x128, .f32⟩
  | 110 => ⟨S256x128, .f32⟩
  | 111 => ⟨S256x128, .f32⟩
  | 112 => ⟨S_, .f32⟩
  | 113 => ⟨S256x128, .f32⟩
  | 114 => ⟨S256x128, .f32⟩
  | 115 => ⟨S256x128, .f32⟩
  | 116 => ⟨S256x128, .f32⟩
  | 117 => ⟨S256x128, .f32⟩
  | 118 => ⟨S_, .f32⟩
  | 119 => ⟨S256x128, .f32⟩
  | 120 => ⟨S256x128, .f32⟩
  | 121 => ⟨S256x128, .f32⟩
  | 122 => ⟨S256x128, .f32⟩
  | 123 => ⟨S256x128, .f32⟩
  | 124 => ⟨S1x256x128, .f32⟩
  | 125 => ⟨S1x256x128, .f32⟩
  | 126 => ⟨S1x256x128, .f32⟩
  | 127 => ⟨S1x256x128, .f32⟩
  | _ => ⟨S1x8192x3600, .f32⟩

abbrev hbmTy0_1 (i : Nat) : BufTy := match i % 128 with
  | 0 => ⟨S1x256x128, .f32⟩
  | 1 => ⟨S1x256x128, .f32⟩
  | 2 => ⟨S1x256x128, .f32⟩
  | 3 => ⟨S1x256x128, .f32⟩
  | 4 => ⟨S8x256x128, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S63, .f32⟩
  | 13 => ⟨S_, .f32⟩
  | 14 => ⟨S63, .f32⟩
  | 15 => ⟨S63, .f32⟩
  | 16 => ⟨S1, .f32⟩
  | 17 => ⟨S_, .f32⟩
  | 18 => ⟨S63, .f32⟩
  | 19 => ⟨S63, .f32⟩
  | 20 => ⟨S63, .f32⟩
  | 21 => ⟨S63, .f32⟩
  | 22 => ⟨S1, .f32⟩
  | 23 => ⟨S63, .f32⟩
  | 24 => ⟨S63, .f32⟩
  | 25 => ⟨S63, .f32⟩
  | 26 => ⟨S1, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S256, .f32⟩
  | 35 => ⟨S256x1, .f32⟩
  | 36 => ⟨S1x64, .f32⟩
  | 37 => ⟨S256x64, .f32⟩
  | 38 => ⟨S256x64, .f32⟩
  | 39 => ⟨S256x64, .f32⟩
  | 40 => ⟨S32, .f32⟩
  | 41 => ⟨S_, .f32⟩
  | 42 => ⟨S32, .f32⟩
  | 43 => ⟨S32, .f32⟩
  | 44 => ⟨S32x1, .f32⟩
  | 45 => ⟨S1x64, .f32⟩
  | 46 => ⟨S32x64, .f32⟩
  | 47 => ⟨S32x64, .f32⟩
  | 48 => ⟨S32x64, .f32⟩
  | 49 => ⟨S256x64, .f32⟩
  | 50 => ⟨S256x64, .f32⟩
  | 51 => ⟨S256x128, .f32⟩
  | 52 => ⟨S256x128, .f32⟩
  | 53 => ⟨S256x64, .f32⟩
  | 54 => ⟨S256x128, .f32⟩
  | 55 => ⟨S256x64, .f32⟩
  | 56 => ⟨S256x128, .f32⟩
  | 57 => ⟨S1x256x128, .f32⟩
  | 58 => ⟨S1x256x128, .f32⟩
  | 59 => ⟨S1x256x128, .f32⟩
  | 60 => ⟨S1x256x128, .f32⟩
  | 61 => ⟨S4x256x128, .f32⟩
  | 62 => ⟨S32x64, .f32⟩
  | 63 => ⟨S32x64, .f32⟩
  | 64 => ⟨S32x256, .f32⟩
  | 65 => ⟨S32x1x256, .f32⟩
  | 66 => ⟨S32x8x256, .f32⟩
  | 67 => ⟨S8192x1024, .f32⟩
  | 68 => ⟨S_, .f32⟩
  | 69 => ⟨S8x128, .f32⟩
  | 70 => ⟨S8192x3712, .bf16⟩
  | 71 => ⟨S128x256, .f32⟩
  | 72 => ⟨S8x512, .f32⟩
  | _ => ⟨S1x8192x3600, .f32⟩

abbrev hbmTy (i : Nat) : BufTy := match i / 128 with
  | 0 => hbmTy0_0 i
  | 1 => hbmTy0_1 i
  | _ => ⟨S1x8192x3600, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | .local _ .vmem, ⟨20, _⟩ => ⟨S512x1024, .f32⟩
  | .local _ .vmem, ⟨21, _⟩ => ⟨S512x1024, .f32⟩
  | .local _ .vmem, ⟨22, _⟩ => ⟨S4x256x256, .f32⟩
  | .local _ .vmem, ⟨23, _⟩ => ⟨S8x256x128, .f32⟩
  | .local _ .vmem, ⟨24, _⟩ => ⟨S4x256x128, .f32⟩
  | .local _ .vmem, ⟨25, _⟩ => ⟨S2x8x256, .f32⟩
  | .local _ .vmem, ⟨26, _⟩ => ⟨S2x8x256, .f32⟩
  | .local _ .vmem, ⟨27, _⟩ => ⟨S2x512x128, .f32⟩
  | .local _ .vmem, ⟨28, _⟩ => ⟨S2x512x128, .f32⟩
  | .local _ .vmem, ⟨29, _⟩ => ⟨S4x128x256, .f32⟩
  | .local _ .vmem, ⟨30, _⟩ => ⟨S4x128x256, .f32⟩
  | .local _ .vmem, ⟨31, _⟩ => ⟨S128x256, .f32⟩
  | .local _ .vmem, ⟨32, _⟩ => ⟨S1x256, .f32⟩
  | .local _ .vmem, ⟨33, _⟩ => ⟨S1x512, .f32⟩
  | .local _ .vmem, ⟨34, _⟩ => ⟨S1x512, .f32⟩
  | .local _ .vmem, ⟨35, _⟩ => ⟨S512x3712, .bf16⟩
  | .local _ .vmem, ⟨36, _⟩ => ⟨S512x3712, .bf16⟩
  | .local _ .vmem, ⟨37, _⟩ => ⟨S128x256, .f32⟩
  | .local _ .vmem, ⟨38, _⟩ => ⟨S8x512, .f32⟩
  | .local _ .vmem, ⟨39, _⟩ => ⟨S512x128, .f32⟩
  | .local _ .vmem, ⟨40, _⟩ => ⟨S128x256, .f32⟩
  | _, _ => ⟨S1x8192x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_call3_v0 : Ref sig .tc := ⟨.hbm, 61, rfl⟩
abbrev main_call3_v1 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_10 : Ref sig .tc := ⟨.hbm, 67, rfl⟩
abbrev main_call4_v0 : Ref sig .tc := ⟨.hbm, 68, rfl⟩
abbrev main_call4_v1 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_11 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_12 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_13 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_14 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_15 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_16 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_17 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_18 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_19 : Ref sig .tc := ⟨.hbm, 133, rfl⟩
abbrev main_cst_20 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_call5_cst : Ref sig .tc := ⟨.hbm, 138, rfl⟩
abbrev main_call5_v3 : Ref sig .tc := ⟨.hbm, 139, rfl⟩
abbrev main_call5_v4 : Ref sig .tc := ⟨.hbm, 140, rfl⟩
abbrev main_call5_cst_0 : Ref sig .tc := ⟨.hbm, 141, rfl⟩
abbrev main_call5_v5 : Ref sig .tc := ⟨.hbm, 142, rfl⟩
abbrev main_call5_v6 : Ref sig .tc := ⟨.hbm, 143, rfl⟩
abbrev main_call5_v7 : Ref sig .tc := ⟨.hbm, 144, rfl⟩
abbrev main_call5_cst_1 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_call5_v15 : Ref sig .tc := ⟨.hbm, 153, rfl⟩
abbrev main_call5_v16 : Ref sig .tc := ⟨.hbm, 154, rfl⟩
abbrev main_v92 : Ref sig .tc := ⟨.hbm, 155, rfl⟩
abbrev main_cst_21 : Ref sig .tc := ⟨.hbm, 156, rfl⟩
abbrev main_v93 : Ref sig .tc := ⟨.hbm, 157, rfl⟩
abbrev main_v94 : Ref sig .tc := ⟨.hbm, 158, rfl⟩
abbrev main_cst_22 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_23 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_cst_24 : Ref sig .tc := ⟨.hbm, 196, rfl⟩
abbrev main_v130 : Ref sig .tc := ⟨.hbm, 197, rfl⟩
abbrev main_v131_0 : Ref sig .tc := ⟨.hbm, 198, rfl⟩
abbrev main_v131_1 : Ref sig .tc := ⟨.hbm, 199, rfl⟩
abbrev main_v131_2 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem21_1 : DmaSem sig := 36
abbrev cc0_sem22_0 : DmaSem sig := 37
abbrev cc0_sem23_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let c0_i32 : BitVec 32 := 0#32
  ![v0.toNat, c8_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c9_i32 : BitVec 32 := 9#32
  let c0_i32 : BitVec 32 := 0#32
  ![v0.toNat, c9_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c28_i32 : BitVec 32 := 28#32
  let c0_i32 : BitVec 32 := 0#32
  ![v0.toNat, c28_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x3712 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== BwdReferenceIdeal.lean ====
abbrev S1x8192x3600 : Shape := ⟨3, ![1, 8192, 3600]⟩
abbrev S1x16x256 : Shape := ⟨3, ![1, 16, 256]⟩
abbrev S1x256 : Shape := ⟨2, ![1, 256]⟩
abbrev S1x512 : Shape := ⟨2, ![1, 512]⟩
abbrev S1x8192x1024 : Shape := ⟨3, ![1, 8192, 1024]⟩
abbrev S1x8192x512 : Shape := ⟨3, ![1, 8192, 512]⟩
abbrev S1x8192x256 : Shape := ⟨3, ![1, 8192, 256]⟩
abbrev S1x8192x16 : Shape := ⟨3, ![1, 8192, 16]⟩
abbrev S8192 : Shape := ⟨1, ![8192]⟩
abbrev S1x8192x4x128 : Shape := ⟨4, ![1, 8192, 4, 128]⟩
abbrev S_ : Shape := ⟨0, ![]⟩
abbrev S63 : Shape := ⟨1, ![63]⟩
abbrev S1 : Shape := ⟨1, ![1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S1x8192x4x64 : Shape := ⟨4, ![1, 8192, 4, 64]⟩
abbrev S1x8192x1x64 : Shape := ⟨4, ![1, 8192, 1, 64]⟩
abbrev S1x8192 : Shape := ⟨2, ![1, 8192]⟩
abbrev S8192x8192 : Shape := ⟨2, ![8192, 8192]⟩
abbrev S4 : Shape := ⟨1, ![4]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S1x4x8192x8192 : Shape := ⟨4, ![1, 4, 8192, 8192]⟩
abbrev S1x4x128x8192 : Shape := ⟨4, ![1, 4, 128, 8192]⟩
abbrev S16x256 : Shape := ⟨2, ![16, 256]⟩
abbrev S256 : Shape := ⟨1, ![256]⟩
abbrev S1x1x256 : Shape := ⟨3, ![1, 1, 256]⟩
abbrev S1x4x64x8192 : Shape := ⟨4, ![1, 4, 64, 8192]⟩
abbrev S1x8192x1x4x64 : Shape := ⟨5, ![1, 8192, 1, 4, 64]⟩
abbrev S1x1x8192x4x64 : Shape := ⟨5, ![1, 1, 8192, 4, 64]⟩
abbrev S1x8192x8192x4x64 : Shape := ⟨5, ![1, 8192, 8192, 4, 64]⟩
abbrev S1x8192x8192x4 : Shape := ⟨4, ![1, 8192, 8192, 4]⟩
abbrev S1x8192x8192x1 : Shape := ⟨4, ![1, 8192, 8192, 1]⟩
abbrev S512 : Shape := ⟨1, ![512]⟩
abbrev S1x8192x4 : Shape := ⟨3, ![1, 8192, 4]⟩
abbrev S1x8192x4x1 : Shape := ⟨4, ![1, 8192, 4, 1]⟩
abbrev S1x1x512 : Shape := ⟨3, ![1, 1, 512]⟩
abbrev S8192x4 : Shape := ⟨2, ![8192, 4]⟩
abbrev S8192x4x64 : Shape := ⟨3, ![8192, 4, 64]⟩
abbrev S256x16 : Shape := ⟨2, ![256, 16]⟩
abbrev S1x4x8192x128 : Shape := ⟨4, ![1, 4, 8192, 128]⟩
abbrev S5x512 : Shape := ⟨2, ![5, 512]⟩
abbrev S8x512 : Shape := ⟨2, ![8, 512]⟩
abbrev S8192x3600 : Shape := ⟨2, ![8192, 3600]⟩
abbrev S8192x3712 : Shape := ⟨2, ![8192, 3712]⟩
abbrev S128x256 : Shape := ⟨2, ![128, 256]⟩

abbrev nBuf : Space → Nat
  | .hbm => 627
  | .vmem => 0
  | .smem => 0
  | _ => 0

abbrev hbmTy0_0 (i : Nat) : BufTy := match i % 128 with
  | 0 => ⟨S1x8192x3600, .f32⟩
  | 1 => ⟨S1x16x256, .f32⟩
  | 2 => ⟨S1x256, .f32⟩
  | 3 => ⟨S1x512, .f32⟩
  | 4 => ⟨S1x512, .f32⟩
  | 5 => ⟨S1x8192x1024, .f32⟩
  | 6 => ⟨S1x8192x512, .f32⟩
  | 7 => ⟨S1x8192x512, .f32⟩
  | 8 => ⟨S1x8192x512, .f32⟩
  | 9 => ⟨S1x8192x512, .f32⟩
  | 10 => ⟨S1x8192x256, .f32⟩
  | 11 => ⟨S1x8192x256, .f32⟩
  | 12 => ⟨S1x8192x512, .f32⟩
  | 13 => ⟨S1x8192x512, .f32⟩
  | 14 => ⟨S1x8192x16, .f32⟩
  | 15 => ⟨S8192, .f32⟩
  | 16 => ⟨S1x8192x4x128, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S63, .f32⟩
  | 25 => ⟨S_, .f32⟩
  | 26 => ⟨S63, .f32⟩
  | 27 => ⟨S63, .f32⟩
  | 28 => ⟨S1, .f32⟩
  | 29 => ⟨S_, .f32⟩
  | 30 => ⟨S63, .f32⟩
  | 31 => ⟨S63, .f32⟩
  | 32 => ⟨S63, .f32⟩
  | 33 => ⟨S63, .f32⟩
  | 34 => ⟨S1, .f32⟩
  | 35 => ⟨S63, .f32⟩
  | 36 => ⟨S63, .f32⟩
  | 37 => ⟨S63, .f32⟩
  | 38 => ⟨S1, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S8192x1, .f32⟩
  | 47 => ⟨S1x64, .f32⟩
  | 48 => ⟨S8192x64, .f32⟩
  | 49 => ⟨S8192x64, .f32⟩
  | 50 => ⟨S8192x64, .f32⟩
  | 51 => ⟨S8192x64, .f32⟩
  | 52 => ⟨S8192x1x64, .f32⟩
  | 53 => ⟨S8192x64, .f32⟩
  | 54 => ⟨S8192x1x64, .f32⟩
  | 55 => ⟨S1x8192x4x64, .f32⟩
  | 56 => ⟨S1x8192x4x64, .f32⟩
  | 57 => ⟨S1x8192x1x64, .f32⟩
  | 58 => ⟨S1x8192x4x64, .f32⟩
  | 59 => ⟨S1x8192x4x64, .f32⟩
  | 60 => ⟨S1x8192x1x64, .f32⟩
  | 61 => ⟨S1x8192x4x64, .f32⟩
  | 62 => ⟨S1x8192x4x64, .f32⟩
  | 63 => ⟨S1x8192x4x64, .f32⟩
  | 64 => ⟨S1x8192x1x64, .f32⟩
  | 65 => ⟨S1x8192x4x64, .f32⟩
  | 66 => ⟨S1x8192x4x64, .f32⟩
  | 67 => ⟨S1x8192x1x64, .f32⟩
  | 68 => ⟨S1x8192x4x64, .f32⟩
  | 69 => ⟨S1x8192x4x64, .f32⟩
  | 70 => ⟨S1x8192x4x64, .f32⟩
  | 71 => ⟨S1x8192x4x128, .f32⟩
  | 72 => ⟨S_, .f32⟩
  | 73 => ⟨S1x8192x4x128, .f32⟩
  | 74 => ⟨S1x8192x4x128, .f32⟩
  | 75 => ⟨S1x8192x4x128, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S63, .f32⟩
  | 84 => ⟨S_, .f32⟩
  | 85 => ⟨S63, .f32⟩
  | 86 => ⟨S63, .f32⟩
  | 87 => ⟨S1, .f32⟩
  | 88 => ⟨S_, .f32⟩
  | 89 => ⟨S63, .f32⟩
  | 90 => ⟨S63, .f32⟩
  | 91 => ⟨S63, .f32⟩
  | 92 => ⟨S63, .f32⟩
  | 93 => ⟨S1, .f32⟩
  | 94 => ⟨S63, .f32⟩
  | 95 => ⟨S63, .f32⟩
  | 96 => ⟨S63, .f32⟩
  | 97 => ⟨S1, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S8192x1, .f32⟩
  | 106 => ⟨S1x64, .f32⟩
  | 107 => ⟨S8192x64, .f32⟩
  | 108 => ⟨S8192x64, .f32⟩
  | 109 => ⟨S8192x64, .f32⟩
  | 110 => ⟨S8192x64, .f32⟩
  | 111 => ⟨S8192x1x64, .f32⟩
  | 112 => ⟨S8192x64, .f32⟩
  | 113 => ⟨S8192x1x64, .f32⟩
  | 114 => ⟨S1x8192x4x64, .f32⟩
  | 115 => ⟨S1x8192x4x64, .f32⟩
  | 116 => ⟨S1x8192x1x64, .f32⟩
  | 117 => ⟨S1x8192x4x64, .f32⟩
  | 118 => ⟨S1x8192x4x64, .f32⟩
  | 119 => ⟨S1x8192x1x64, .f32⟩
  | 120 => ⟨S1x8192x4x64, .f32⟩
  | 121 => ⟨S1x8192x4x64, .f32⟩
  | 122 => ⟨S1x8192x4x64, .f32⟩
  | 123 => ⟨S1x8192x1x64, .f32⟩
  | 124 => ⟨S1x8192x4x64, .f32⟩
  | 125 => ⟨S1x8192x4x64, .f32⟩
  | 126 => ⟨S1x8192x1x64, .f32⟩
  | 127 => ⟨S1x8192x4x64, .f32⟩
  | _ => ⟨S1x8192x3600, .f32⟩

abbrev hbmTy0_1 (i : Nat) : BufTy := match i % 128 with
  | 0 => ⟨S1x8192x4x64, .f32⟩
  | 1 => ⟨S1x8192x4x64, .f32⟩
  | 2 => ⟨S1x8192x4x128, .f32⟩
  | 3 => ⟨S1x8192x4x128, .f32⟩
  | 4 => ⟨S8192, .f32⟩
  | 5 => ⟨S8192, .i32⟩
  | 6 => ⟨S_, .i32⟩
  | 7 => ⟨S_, .i32⟩
  | 8 => ⟨S8192, .i32⟩
  | 9 => ⟨S8192, .i32⟩
  | 10 => ⟨S8192, .i32⟩
  | 11 => ⟨S_, .i32⟩
  | 12 => ⟨S8192, .i32⟩
  | 13 => ⟨S8192, .i1⟩
  | 14 => ⟨S8192, .i32⟩
  | 15 => ⟨S8192, .i32⟩
  | 16 => ⟨S_, .i32⟩
  | 17 => ⟨S8192, .i32⟩
  | 18 => ⟨S8192, .i1⟩
  | 19 => ⟨S8192, .i1⟩
  | 20 => ⟨S_, .i32⟩
  | 21 => ⟨S8192, .i32⟩
  | 22 => ⟨S8192, .i32⟩
  | 23 => ⟨S8192, .i32⟩
  | 24 => ⟨S1x8192, .i32⟩
  | 25 => ⟨S8192x1, .i32⟩
  | 26 => ⟨S8192x8192, .i32⟩
  | 27 => ⟨S8192x8192, .i32⟩
  | 28 => ⟨S8192x8192, .i1⟩
  | 29 => ⟨S4, .f32⟩
  | 30 => ⟨S_, .f32⟩
  | 31 => ⟨S4, .f32⟩
  | 32 => ⟨S4, .f32⟩
  | 33 => ⟨S_, .f32⟩
  | 34 => ⟨S4, .f32⟩
  | 35 => ⟨S4, .f32⟩
  | 36 => ⟨S_, .f32⟩
  | 37 => ⟨S4, .f32⟩
  | 38 => ⟨S4, .f32⟩
  | 39 => ⟨S4, .f32⟩
  | 40 => ⟨S4x1x1, .f32⟩
  | 41 => ⟨S8192x1, .f32⟩
  | 42 => ⟨S1x8192, .f32⟩
  | 43 => ⟨S8192x8192, .f32⟩
  | 44 => ⟨S8192x8192, .f32⟩
  | 45 => ⟨S8192x8192, .f32⟩
  | 46 => ⟨S8192x8192, .f32⟩
  | 47 => ⟨S1x8192x8192, .f32⟩
  | 48 => ⟨S4x8192x8192, .f32⟩
  | 49 => ⟨S4x8192x8192, .f32⟩
  | 50 => ⟨S4x8192x8192, .f32⟩
  | 51 => ⟨S4x8192x8192, .f32⟩
  | 52 => ⟨S_, .f32⟩
  | 53 => ⟨S_, .f32⟩
  | 54 => ⟨S4x8192x8192, .i1⟩
  | 55 => ⟨S4x8192x8192, .f32⟩
  | 56 => ⟨S4x8192x8192, .f32⟩
  | 57 => ⟨S1x4x8192x8192, .f32⟩
  | 58 => ⟨S1x4x8192x8192, .f32⟩
  | 59 => ⟨S1x4x8192x8192, .f32⟩
  | 60 => ⟨S1x4x128x8192, .f32⟩
  | 61 => ⟨S1x8192x4x128, .f32⟩
  | 62 => ⟨S16x256, .f32⟩
  | 63 => ⟨S1x8192x256, .f32⟩
  | 64 => ⟨S256, .f32⟩
  | 65 => ⟨S1x1x256, .f32⟩
  | 66 => ⟨S1x8192x256, .f32⟩
  | 67 => ⟨S1x8192x256, .f32⟩
  | 68 => ⟨S1x8192x256, .f32⟩
  | 69 => ⟨S_, .f32⟩
  | 70 => ⟨S1x8192x256, .f32⟩
  | 71 => ⟨S1x8192x256, .f32⟩
  | 72 => ⟨S1x8192x256, .f32⟩
  | 73 => ⟨S1x8192x256, .f32⟩
  | 74 => ⟨S1x8192x256, .i1⟩
  | 75 => ⟨S1x8192x256, .f32⟩
  | 76 => ⟨S1x8192x256, .f32⟩
  | 77 => ⟨S1x8192x256, .f32⟩
  | 78 => ⟨S1x8192x256, .f32⟩
  | 79 => ⟨S1x8192x256, .f32⟩
  | 80 => ⟨S1x8192x256, .f32⟩
  | 81 => ⟨S1x8192x256, .f32⟩
  | 82 => ⟨S1x8192x256, .f32⟩
  | 83 => ⟨S_, .f32⟩
  | 84 => ⟨S1x8192x256, .f32⟩
  | 85 => ⟨S1x8192x256, .i1⟩
  | 86 => ⟨S_, .f32⟩
  | 87 => ⟨S1x8192x256, .f32⟩
  | 88 => ⟨S1x8192x256, .f32⟩
  | 89 => ⟨S_, .f32⟩
  | 90 => ⟨S1x8192x256, .f32⟩
  | 91 => ⟨S1x8192x256, .i1⟩
  | 92 => ⟨S_, .f32⟩
  | 93 => ⟨S1x8192x256, .f32⟩
  | 94 => ⟨S1x8192x256, .f32⟩
  | 95 => ⟨S1x8192x256, .f32⟩
  | 96 => ⟨S1x8192x256, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S1x8192x256, .f32⟩
  | 105 => ⟨S1x8192x256, .i1⟩
  | 106 => ⟨S_, .f32⟩
  | 107 => ⟨S1x8192x256, .f32⟩
  | 108 => ⟨S1x8192x256, .f32⟩
  | 109 => ⟨S1x8192x256, .f32⟩
  | 110 => ⟨S1x8192x256, .f32⟩
  | 111 => ⟨S1x8192x256, .f32⟩
  | 112 => ⟨S_, .f32⟩
  | 113 => ⟨S1x8192x256, .f32⟩
  | 114 => ⟨S1x8192x256, .f32⟩
  | 115 => ⟨S1x8192x256, .f32⟩
  | 116 => ⟨S_, .f32⟩
  | 117 => ⟨S1x8192x256, .f32⟩
  | 118 => ⟨S1x8192x256, .f32⟩
  | 119 => ⟨S1x8192x4x64, .f32⟩
  | 120 => ⟨S8192, .i32⟩
  | 121 => ⟨S1x8192, .i32⟩
  | 122 => ⟨S8192x1, .i32⟩
  | 123 => ⟨S8192x8192, .i32⟩
  | 124 => ⟨S8192x8192, .i32⟩
  | 125 => ⟨S8192x8192, .i1⟩
  | 126 => ⟨S_, .f32⟩
  | 127 => ⟨S_, .f32⟩
  | _ => ⟨S1x8192x3600, .f32⟩

abbrev hbmTy0_2 (i : Nat) : BufTy := match i % 128 with
  | 0 => ⟨S8192x8192, .f32⟩
  | 1 => ⟨S8192x8192, .f32⟩
  | 2 => ⟨S8192x8192, .f32⟩
  | 3 => ⟨S1x4x64x8192, .f32⟩
  | 4 => ⟨S1x8192x4x64, .f32⟩
  | 5 => ⟨S1x8192x4x64, .f32⟩
  | 6 => ⟨S_, .f32⟩
  | 7 => ⟨S1x8192x4x64, .f32⟩
  | 8 => ⟨S1x8192x4x64, .f32⟩
  | 9 => ⟨S1x8192x4x64, .f32⟩
  | 10 => ⟨S1x8192x4x128, .f32⟩
  | 11 => ⟨S1x8192x1x4x64, .f32⟩
  | 12 => ⟨S1x1x8192x4x64, .f32⟩
  | 13 => ⟨S1x8192x8192x4x64, .f32⟩
  | 14 => ⟨S1x8192x8192x4x64, .f32⟩
  | 15 => ⟨S1x8192x8192x4x64, .f32⟩
  | 16 => ⟨S1x8192x8192x4x64, .f32⟩
  | 17 => ⟨S_, .f32⟩
  | 18 => ⟨S1x8192x8192x4x64, .f32⟩
  | 19 => ⟨S1x8192x8192x4x64, .i1⟩
  | 20 => ⟨S1x8192x8192x4x64, .f32⟩
  | 21 => ⟨S1x8192x8192x4x64, .f32⟩
  | 22 => ⟨S1x8192x1x4x64, .f32⟩
  | 23 => ⟨S1x1x8192x4x64, .f32⟩
  | 24 => ⟨S1x8192x8192x4x64, .f32⟩
  | 25 => ⟨S1x8192x8192x4x64, .f32⟩
  | 26 => ⟨S1x8192x8192x4x64, .f32⟩
  | 27 => ⟨S1x8192x8192x4x64, .f32⟩
  | 28 => ⟨S_, .f32⟩
  | 29 => ⟨S1x8192x8192x4, .f32⟩
  | 30 => ⟨S8192, .i32⟩
  | 31 => ⟨S_, .i32⟩
  | 32 => ⟨S_, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i1⟩
  | 39 => ⟨S8192, .i32⟩
  | 40 => ⟨S8192, .i32⟩
  | 41 => ⟨S_, .i32⟩
  | 42 => ⟨S8192, .i32⟩
  | 43 => ⟨S8192, .i1⟩
  | 44 => ⟨S8192, .i1⟩
  | 45 => ⟨S_, .i32⟩
  | 46 => ⟨S8192, .i32⟩
  | 47 => ⟨S8192, .i32⟩
  | 48 => ⟨S8192, .i32⟩
  | 49 => ⟨S1x8192, .i32⟩
  | 50 => ⟨S8192x1, .i32⟩
  | 51 => ⟨S8192x8192, .i32⟩
  | 52 => ⟨S8192x8192, .i32⟩
  | 53 => ⟨S8192x8192, .i1⟩
  | 54 => ⟨S1x8192x8192x1, .i1⟩
  | 55 => ⟨S_, .f32⟩
  | 56 => ⟨S_, .f32⟩
  | 57 => ⟨S1x8192x8192x4, .i1⟩
  | 58 => ⟨S1x8192x8192x4, .f32⟩
  | 59 => ⟨S1x8192x8192x4, .f32⟩
  | 60 => ⟨S_, .f32⟩
  | 61 => ⟨S1x8192x8192x4, .f32⟩
  | 62 => ⟨S1x4x128x8192, .f32⟩
  | 63 => ⟨S1x8192x4x128, .f32⟩
  | 64 => ⟨S512, .f32⟩
  | 65 => ⟨S_, .f32⟩
  | 66 => ⟨S1x8192x4, .f32⟩
  | 67 => ⟨S1x8192x4x1, .f32⟩
  | 68 => ⟨S_, .f32⟩
  | 69 => ⟨S1x8192x4x1, .f32⟩
  | 70 => ⟨S1x8192x4x1, .f32⟩
  | 71 => ⟨S1x8192x4x128, .f32⟩
  | 72 => ⟨S1x8192x4x128, .f32⟩
  | 73 => ⟨S1x8192x4x128, .f32⟩
  | 74 => ⟨S_, .f32⟩
  | 75 => ⟨S1x8192x4x128, .f32⟩
  | 76 => ⟨S1x8192x4x128, .f32⟩
  | 77 => ⟨S_, .f32⟩
  | 78 => ⟨S1x8192x4, .f32⟩
  | 79 => ⟨S1x8192x4x1, .f32⟩
  | 80 => ⟨S_, .f32⟩
  | 81 => ⟨S1x8192x4x1, .f32⟩
  | 82 => ⟨S1x8192x4x1, .f32⟩
  | 83 => ⟨S_, .f32⟩
  | 84 => ⟨S1x8192x4x1, .f32⟩
  | 85 => ⟨S1x8192x4x1, .f32⟩
  | 86 => ⟨S1x8192x4x1, .f32⟩
  | 87 => ⟨S1x8192x4x1, .f32⟩
  | 88 => ⟨S_, .f32⟩
  | 89 => ⟨S1x8192x4x1, .f32⟩
  | 90 => ⟨S1x8192x4x1, .f32⟩
  | 91 => ⟨S1x8192x4x128, .f32⟩
  | 92 => ⟨S1x8192x4x128, .f32⟩
  | 93 => ⟨S1x8192x512, .f32⟩
  | 94 => ⟨S1x1x512, .f32⟩
  | 95 => ⟨S1x8192x512, .f32⟩
  | 96 => ⟨S1x8192x512, .f32⟩
  | 97 => ⟨S1x8192x512, .f32⟩
  | 98 => ⟨S1x8192x512, .f32⟩
  | 99 => ⟨S_, .f32⟩
  | 100 => ⟨S1x8192x512, .f32⟩
  | 101 => ⟨S1x8192x512, .f32⟩
  | 102 => ⟨S_, .f32⟩
  | 103 => ⟨S1x8192x512, .f32⟩
  | 104 => ⟨S1x8192x512, .f32⟩
  | 105 => ⟨S_, .f32⟩
  | 106 => ⟨S1x8192x512, .f32⟩
  | 107 => ⟨S1x8192x512, .f32⟩
  | 108 => ⟨S1x8192x512, .f32⟩
  | 109 => ⟨S1x8192x512, .f32⟩
  | 110 => ⟨S1x8192x512, .f32⟩
  | 111 => ⟨S512, .f32⟩
  | 112 => ⟨S1x8192x4x128, .f32⟩
  | 113 => ⟨S_, .f32⟩
  | 114 => ⟨S1x8192x4x128, .f32⟩
  | 115 => ⟨S1x8192x4x128, .f32⟩
  | 116 => ⟨S_, .f32⟩
  | 117 => ⟨S1x8192x4, .f32⟩
  | 118 => ⟨S1x8192x4x1, .f32⟩
  | 119 => ⟨S_, .f32⟩
  | 120 => ⟨S1x8192x4x1, .f32⟩
  | 121 => ⟨S1x8192x4x1, .f32⟩
  | 122 => ⟨S_, .f32⟩
  | 123 => ⟨S1x8192x4x1, .f32⟩
  | 124 => ⟨S1x8192x4x1, .f32⟩
  | 125 => ⟨S1x8192x4x1, .f32⟩
  | 126 => ⟨S1x8192x4x1, .f32⟩
  | 127 => ⟨S_, .f32⟩
  | _ => ⟨S1x8192x3600, .f32⟩

abbrev hbmTy0_3 (i : Nat) : BufTy := match i % 128 with
  | 0 => ⟨S1x8192x4x1, .f32⟩
  | 1 => ⟨S1x8192x4x1, .f32⟩
  | 2 => ⟨S1x8192x4x128, .f32⟩
  | 3 => ⟨S1x8192x4x128, .f32⟩
  | 4 => ⟨S1x8192x512, .f32⟩
  | 5 => ⟨S1x1x512, .f32⟩
  | 6 => ⟨S1x8192x512, .f32⟩
  | 7 => ⟨S1x8192x512, .f32⟩
  | 8 => ⟨S1x8192x512, .f32⟩
  | 9 => ⟨S1x8192x512, .f32⟩
  | 10 => ⟨S_, .f32⟩
  | 11 => ⟨S1x8192x512, .f32⟩
  | 12 => ⟨S1x8192x512, .f32⟩
  | 13 => ⟨S_, .f32⟩
  | 14 => ⟨S1x8192x512, .f32⟩
  | 15 => ⟨S1x8192x512, .f32⟩
  | 16 => ⟨S_, .f32⟩
  | 17 => ⟨S1x8192x512, .f32⟩
  | 18 => ⟨S1x8192x512, .f32⟩
  | 19 => ⟨S1x8192x512, .f32⟩
  | 20 => ⟨S1x8192x512, .f32⟩
  | 21 => ⟨S1x8192x512, .f32⟩
  | 22 => ⟨S1x8192x1024, .f32⟩
  | 23 => ⟨S1x8192x512, .f32⟩
  | 24 => ⟨S1x8192x512, .f32⟩
  | 25 => ⟨S1x8192x512, .f32⟩
  | 26 => ⟨S1x8192x512, .f32⟩
  | 27 => ⟨S1x8192x512, .f32⟩
  | 28 => ⟨S1x8192x512, .f32⟩
  | 29 => ⟨S1x8192x512, .f32⟩
  | 30 => ⟨S1x8192x512, .f32⟩
  | 31 => ⟨S1x8192x512, .f32⟩
  | 32 => ⟨S_, .f32⟩
  | 33 => ⟨S1x512, .f32⟩
  | 34 => ⟨S1x1x512, .f32⟩
  | 35 => ⟨S1x8192x512, .f32⟩
  | 36 => ⟨S1x8192x512, .f32⟩
  | 37 => ⟨S_, .f32⟩
  | 38 => ⟨S512, .f32⟩
  | 39 => ⟨S1x8192x4x128, .f32⟩
  | 40 => ⟨S1x8192x4x128, .f32⟩
  | 41 => ⟨S_, .f32⟩
  | 42 => ⟨S1x8192x4, .f32⟩
  | 43 => ⟨S1x8192x4x1, .f32⟩
  | 44 => ⟨S1x8192x4x128, .f32⟩
  | 45 => ⟨S1x8192x4x128, .f32⟩
  | 46 => ⟨S1x8192x4x1, .f32⟩
  | 47 => ⟨S_, .f32⟩
  | 48 => ⟨S1x8192x4x1, .f32⟩
  | 49 => ⟨S1x8192x4x1, .f32⟩
  | 50 => ⟨S_, .f32⟩
  | 51 => ⟨S8192x4, .f32⟩
  | 52 => ⟨S1x8192x4, .f32⟩
  | 53 => ⟨S1x8192x4x128, .f32⟩
  | 54 => ⟨S1x8192x4x128, .f32⟩
  | 55 => ⟨S1x8192x4x128, .f32⟩
  | 56 => ⟨S1x512, .f32⟩
  | 57 => ⟨S1x8192x512, .f32⟩
  | 58 => ⟨S1x8192x512, .f32⟩
  | 59 => ⟨S1x8192x512, .f32⟩
  | 60 => ⟨S1x8192x512, .f32⟩
  | 61 => ⟨S1x8192x512, .f32⟩
  | 62 => ⟨S1x8192x512, .f32⟩
  | 63 => ⟨S1x8192x512, .f32⟩
  | 64 => ⟨S_, .f32⟩
  | 65 => ⟨S1x512, .f32⟩
  | 66 => ⟨S1x1x512, .f32⟩
  | 67 => ⟨S1x8192x512, .f32⟩
  | 68 => ⟨S1x8192x512, .f32⟩
  | 69 => ⟨S_, .f32⟩
  | 70 => ⟨S512, .f32⟩
  | 71 => ⟨S1x8192x4x128, .f32⟩
  | 72 => ⟨S1x8192x4x128, .f32⟩
  | 73 => ⟨S_, .f32⟩
  | 74 => ⟨S1x8192x4, .f32⟩
  | 75 => ⟨S1x8192x4x1, .f32⟩
  | 76 => ⟨S1x8192x4x128, .f32⟩
  | 77 => ⟨S1x8192x4x128, .f32⟩
  | 78 => ⟨S1x8192x4x1, .f32⟩
  | 79 => ⟨S_, .f32⟩
  | 80 => ⟨S1x8192x4x1, .f32⟩
  | 81 => ⟨S1x8192x4x1, .f32⟩
  | 82 => ⟨S_, .f32⟩
  | 83 => ⟨S8192x4, .f32⟩
  | 84 => ⟨S1x8192x4, .f32⟩
  | 85 => ⟨S1x8192x4x128, .f32⟩
  | 86 => ⟨S1x8192x4x128, .f32⟩
  | 87 => ⟨S1x8192x4x128, .f32⟩
  | 88 => ⟨S1x8192x4x128, .f32⟩
  | 89 => ⟨S_, .f32⟩
  | 90 => ⟨S1x8192x4, .f32⟩
  | 91 => ⟨S1x8192x4x1, .f32⟩
  | 92 => ⟨S_, .f32⟩
  | 93 => ⟨S1x8192x4x1, .f32⟩
  | 94 => ⟨S1x8192x4x1, .f32⟩
  | 95 => ⟨S_, .f32⟩
  | 96 => ⟨S8192x4, .f32⟩
  | 97 => ⟨S1x8192x4, .f32⟩
  | 98 => ⟨S1x8192x4x128, .f32⟩
  | 99 => ⟨S1x8192x4x128, .f32⟩
  | 100 => ⟨S1x512, .f32⟩
  | 101 => ⟨S1x4x128x8192, .f32⟩
  | 102 => ⟨S1x4x8192x8192, .f32⟩
  | 103 => ⟨S1x8192x8192x4, .f32⟩
  | 104 => ⟨S1x4x128x8192, .f32⟩
  | 105 => ⟨S1x8192x4x128, .f32⟩
  | 106 => ⟨S_, .f32⟩
  | 107 => ⟨S1x8192x8192x4, .f32⟩
  | 108 => ⟨S1x8192x8192x4, .f32⟩
  | 109 => ⟨S1x8192x8192x4x64, .f32⟩
  | 110 => ⟨S1x8192x8192x4x64, .f32⟩
  | 111 => ⟨S1x8192x8192x4x64, .f32⟩
  | 112 => ⟨S1x8192x8192x4x64, .f32⟩
  | 113 => ⟨S1x8192x8192x4x64, .f32⟩
  | 114 => ⟨S_, .f32⟩
  | 115 => ⟨S1x8192x4x64, .f32⟩
  | 116 => ⟨S1x1x8192x4x64, .f32⟩
  | 117 => ⟨S1x8192x8192x4x64, .f32⟩
  | 118 => ⟨S1x8192x8192x4x64, .f32⟩
  | 119 => ⟨S_, .f32⟩
  | 120 => ⟨S1x8192x4x64, .f32⟩
  | 121 => ⟨S1x8192x1x4x64, .f32⟩
  | 122 => ⟨S_, .f32⟩
  | 123 => ⟨S8192x4x64, .f32⟩
  | 124 => ⟨S1x8192x4x64, .f32⟩
  | 125 => ⟨S_, .f32⟩
  | 126 => ⟨S8192x4x64, .f32⟩
  | 127 => ⟨S1x8192x4x64, .f32⟩
  | _ => ⟨S1x8192x3600, .f32⟩

abbrev hbmTy0_4 (i : Nat) : BufTy := match i % 128 with
  | 0 => ⟨S1x8192x8192x4x64, .f32⟩
  | 1 => ⟨S1x8192x8192x4x64, .f32⟩
  | 2 => ⟨S_, .f32⟩
  | 3 => ⟨S1x8192x8192x4x64, .f32⟩
  | 4 => ⟨S1x8192x8192x4x64, .f32⟩
  | 5 => ⟨S1x8192x8192x4x64, .f32⟩
  | 6 => ⟨S1x8192x8192x4x64, .f32⟩
  | 7 => ⟨S1x8192x8192x4x64, .f32⟩
  | 8 => ⟨S_, .f32⟩
  | 9 => ⟨S1x8192x4x64, .f32⟩
  | 10 => ⟨S1x8192x1x4x64, .f32⟩
  | 11 => ⟨S1x8192x8192x4x64, .f32⟩
  | 12 => ⟨S_, .f32⟩
  | 13 => ⟨S1x8192x4x64, .f32⟩
  | 14 => ⟨S1x1x8192x4x64, .f32⟩
  | 15 => ⟨S_, .f32⟩
  | 16 => ⟨S8192x4x64, .f32⟩
  | 17 => ⟨S1x8192x4x64, .f32⟩
  | 18 => ⟨S_, .f32⟩
  | 19 => ⟨S8192x4x64, .f32⟩
  | 20 => ⟨S1x8192x4x64, .f32⟩
  | 21 => ⟨S1x8192x4x64, .f32⟩
  | 22 => ⟨S1x8192x512, .f32⟩
  | 23 => ⟨S1x8192x256, .f32⟩
  | 24 => ⟨S_, .f32⟩
  | 25 => ⟨S1x8192x4x64, .f32⟩
  | 26 => ⟨S1x8192x4x64, .f32⟩
  | 27 => ⟨S1x8192x256, .f32⟩
  | 28 => ⟨S1x4x64x8192, .f32⟩
  | 29 => ⟨S1x4x64x8192, .f32⟩
  | 30 => ⟨S1x8192x4x64, .f32⟩
  | 31 => ⟨S1x8192x256, .f32⟩
  | 32 => ⟨S_, .f32⟩
  | 33 => ⟨S1x8192x256, .f32⟩
  | 34 => ⟨S1x8192x256, .f32⟩
  | 35 => ⟨S1x8192x256, .f32⟩
  | 36 => ⟨S1x8192x256, .f32⟩
  | 37 => ⟨S1x8192x256, .f32⟩
  | 38 => ⟨S_, .f32⟩
  | 39 => ⟨S1x256, .f32⟩
  | 40 => ⟨S1x1x256, .f32⟩
  | 41 => ⟨S_, .f32⟩
  | 42 => ⟨S256, .f32⟩
  | 43 => ⟨S1x256, .f32⟩
  | 44 => ⟨S256x16, .f32⟩
  | 45 => ⟨S16x256, .f32⟩
  | 46 => ⟨S1x8192x16, .f32⟩
  | 47 => ⟨S1x16x256, .f32⟩
  | 48 => ⟨S1x4x128x8192, .f32⟩
  | 49 => ⟨S1x4x8192x8192, .f32⟩
  | 50 => ⟨S1x4x128x8192, .f32⟩
  | 51 => ⟨S1x8192x4x128, .f32⟩
  | 52 => ⟨S1x4x8192x8192, .f32⟩
  | 53 => ⟨S1x4x8192x128, .f32⟩
  | 54 => ⟨S1x8192x4x128, .f32⟩
  | 55 => ⟨S1x4x8192x128, .f32⟩
  | 56 => ⟨S1x8192x4x128, .f32⟩
  | 57 => ⟨S1x8192x512, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S_, .f32⟩
  | 72 => ⟨S1x8192x4x128, .f32⟩
  | 73 => ⟨S_, .f32⟩
  | 74 => ⟨S1x8192x4x128, .f32⟩
  | 75 => ⟨S1x8192x4x128, .f32⟩
  | 76 => ⟨S1x8192x512, .f32⟩
  | 77 => ⟨S_, .f32⟩
  | 78 => ⟨S1x8192x4x128, .f32⟩
  | 79 => ⟨S1x8192x4x128, .f32⟩
  | 80 => ⟨S1x8192x4x64, .f32⟩
  | 81 => ⟨S1x8192x4x64, .f32⟩
  | 82 => ⟨S1x8192x4x64, .f32⟩
  | 83 => ⟨S1x8192x4x64, .f32⟩
  | 84 => ⟨S1x8192x4x64, .f32⟩
  | 85 => ⟨S1x8192x4x64, .f32⟩
  | 86 => ⟨S1x8192x4x64, .f32⟩
  | 87 => ⟨S1x8192x4x64, .f32⟩
  | 88 => ⟨S1x8192x4x64, .f32⟩
  | 89 => ⟨S1x8192x4x64, .f32⟩
  | 90 => ⟨S1x8192x4x64, .f32⟩
  | 91 => ⟨S1x8192x4x64, .f32⟩
  | 92 => ⟨S1x8192x4x64, .f32⟩
  | 93 => ⟨S_, .f32⟩
  | 94 => ⟨S1x8192x4x128, .f32⟩
  | 95 => ⟨S_, .f32⟩
  | 96 => ⟨S1x8192x4x128, .f32⟩
  | 97 => ⟨S1x8192x4x128, .f32⟩
  | 98 => ⟨S1x8192x512, .f32⟩
  | 99 => ⟨S1x8192x3600, .f32⟩
  | 100 => ⟨S_, .i32⟩
  | 101 => ⟨S_, .f32⟩
  | 102 => ⟨S1x512, .f32⟩
  | 103 => ⟨S_, .f32⟩
  | 104 => ⟨S5x512, .f32⟩
  | 105 => ⟨S8x512, .f32⟩
  | 106 => ⟨S8192x3600, .f32⟩
  | 107 => ⟨S_, .i32⟩
  | 108 => ⟨S_, .f32⟩
  | 109 => ⟨S8192x3712, .f32⟩
  | 110 => ⟨S8192x3712, .bf16⟩
  | 111 => ⟨S16x256, .f32⟩
  | 112 => ⟨S_, .i32⟩
  | 113 => ⟨S_, .f32⟩
  | 114 => ⟨S128x256, .f32⟩
  | _ => ⟨S1x8192x3600, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x8192x3600, .f32⟩

abbrev bufTy : (tb : Table) → Fin (tcTables nBuf tb) → BufTy
  | .hbm, ⟨i, _⟩ => hbmTy i
  | _, _ => ⟨S1x8192x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_cst : Ref sig .tc := ⟨.hbm, 22, rfl⟩
abbrev main_call0_v3 : Ref sig .tc := ⟨.hbm, 23, rfl⟩
abbrev main_call0_v4 : Ref sig .tc := ⟨.hbm, 24, rfl⟩
abbrev main_call0_cst_0 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_3 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_cst_5 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_cst : Ref sig .tc := ⟨.hbm, 81, rfl⟩
abbrev main_call1_v3 : Ref sig .tc := ⟨.hbm, 82, rfl⟩
abbrev main_call1_v4 : Ref sig .tc := ⟨.hbm, 83, rfl⟩
abbrev main_call1_cst_0 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_v15 : Ref sig .tc := ⟨.hbm, 96, rfl⟩
abbrev main_call1_v16 : Ref sig .tc := ⟨.hbm, 97, rfl⟩
abbrev main_v45 : Ref sig .tc := ⟨.hbm, 98, rfl⟩
abbrev main_cst_6 : Ref sig .tc := ⟨.hbm, 99, rfl⟩
abbrev main_v46 : Ref sig .tc := ⟨.hbm, 100, rfl⟩
abbrev main_v47 : Ref sig .tc := ⟨.hbm, 101, rfl⟩
abbrev main_cst_7 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_v7 : Ref sig .tc := ⟨.hbm, 142, rfl⟩
abbrev main_call2_v8 : Ref sig .tc := ⟨.hbm, 143, rfl⟩
abbrev main_call2_c : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_c_0 : Ref sig .tc := ⟨.hbm, 148, rfl⟩
abbrev main_call2_v12 : Ref sig .tc := ⟨.hbm, 149, rfl⟩
abbrev main_call2_v13 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_8 : Ref sig .tc := ⟨.hbm, 158, rfl⟩
abbrev main_v86 : Ref sig .tc := ⟨.hbm, 159, rfl⟩
abbrev main_v87 : Ref sig .tc := ⟨.hbm, 160, rfl⟩
abbrev main_cst_9 : Ref sig .tc := ⟨.hbm, 161, rfl⟩
abbrev main_v88 : Ref sig .tc := ⟨.hbm, 162, rfl⟩
abbrev main_v89 : Ref sig .tc := ⟨.hbm, 163, rfl⟩
abbrev main_cst_10 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_cst_11 : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_call4_v0 : Ref sig .tc := ⟨.hbm, 196, rfl⟩
abbrev main_call4_call0_cst : Ref sig .tc := ⟨.hbm, 197, rfl⟩
abbrev main_call4_call0_v0 : Ref sig .tc := ⟨.hbm, 198, rfl⟩
abbrev main_call4_call0_v1 : Ref sig .tc := ⟨.hbm, 199, rfl⟩
abbrev main_call4_call0_v2 : Ref sig .tc := ⟨.hbm, 200, rfl⟩
abbrev main_call4_call0_v3 : Ref sig .tc := ⟨.hbm, 201, rfl⟩
abbrev main_call4_call0_v4 : Ref sig .tc := ⟨.hbm, 202, rfl⟩
abbrev main_call4_call0_v5 : Ref sig .tc := ⟨.hbm, 203, rfl⟩
abbrev main_call4_call0_v6 : Ref sig .tc := ⟨.hbm, 204, rfl⟩
abbrev main_call4_call0_v7 : Ref sig .tc := ⟨.hbm, 205, rfl⟩
abbrev main_call4_call0_v8 : Ref sig .tc := ⟨.hbm, 206, rfl⟩
abbrev main_call4_call0_v9 : Ref sig .tc := ⟨.hbm, 207, rfl⟩
abbrev main_call4_call0_v10 : Ref sig .tc := ⟨.hbm, 208, rfl⟩
abbrev main_call4_call0_v11 : Ref sig .tc := ⟨.hbm, 209, rfl⟩
abbrev main_call4_v1_0 : Ref sig .tc := ⟨.hbm, 210, rfl⟩
abbrev main_call4_call0_cst_0 : Ref sig .tc := ⟨.hbm, 211, rfl⟩
abbrev main_call4_call0_v13 : Ref sig .tc := ⟨.hbm, 212, rfl⟩
abbrev main_call4_call0_v14 : Ref sig .tc := ⟨.hbm, 213, rfl⟩
abbrev main_call4_call0_cst_1 : Ref sig .tc := ⟨.hbm, 214, rfl⟩
abbrev main_call4_call0_v15 : Ref sig .tc := ⟨.hbm, 215, rfl⟩
abbrev main_call4_call0_v16 : Ref sig .tc := ⟨.hbm, 216, rfl⟩
abbrev main_call4_call0_cst_2 : Ref sig .tc := ⟨.hbm, 217, rfl⟩
abbrev main_call4_call0_v17 : Ref sig .tc := ⟨.hbm, 218, rfl⟩
abbrev main_call4_call0_v18 : Ref sig .tc := ⟨.hbm, 219, rfl⟩
abbrev main_call4_call0_cst_3 : Ref sig .tc := ⟨.hbm, 220, rfl⟩
abbrev main_call4_call0_v19 : Ref sig .tc := ⟨.hbm, 221, rfl⟩
abbrev main_call4_call0_v20 : Ref sig .tc := ⟨.hbm, 222, rfl⟩
abbrev main_call4_call0_v21 : Ref sig .tc := ⟨.hbm, 223, rfl⟩
abbrev main_v117_1 : Ref sig .tc := ⟨.hbm, 224, rfl⟩
abbrev main_call4_call0_cst_4 : Ref sig .tc := ⟨.hbm, 225, rfl⟩
abbrev main_call4_call0_cst_5 : Ref sig .tc := ⟨.hbm, 226, rfl⟩
abbrev main_call4_call0_v23 : Ref sig .tc := ⟨.hbm, 227, rfl⟩
abbrev main_call4_call0_cst_6 : Ref sig .tc := ⟨.hbm, 228, rfl⟩
abbrev main_call4_call0_cst_7 : Ref sig .tc := ⟨.hbm, 229, rfl⟩
abbrev main_call4_call0_v24 : Ref sig .tc := ⟨.hbm, 230, rfl⟩
abbrev main_call4_call0_cst_8 : Ref sig .tc := ⟨.hbm, 231, rfl⟩
abbrev main_call4_call0_v25 : Ref sig .tc := ⟨.hbm, 232, rfl⟩
abbrev main_call4_call0_v26 : Ref sig .tc := ⟨.hbm, 233, rfl⟩
abbrev main_call4_call0_cst_9 : Ref sig .tc := ⟨.hbm, 234, rfl⟩
abbrev main_call4_call0_v27 : Ref sig .tc := ⟨.hbm, 235, rfl⟩
abbrev main_call4_call0_v28 : Ref sig .tc := ⟨.hbm, 236, rfl⟩
abbrev main_call4_call0_v29 : Ref sig .tc := ⟨.hbm, 237, rfl⟩
abbrev main_call4_call0_v30 : Ref sig .tc := ⟨.hbm, 238, rfl⟩
abbrev main_call4_call0_v31 : Ref sig .tc := ⟨.hbm, 239, rfl⟩
abbrev main_call4_call0_cst_10 : Ref sig .tc := ⟨.hbm, 240, rfl⟩
abbrev main_call4_call0_v32 : Ref sig .tc := ⟨.hbm, 241, rfl⟩
abbrev main_v117_2 : Ref sig .tc := ⟨.hbm, 242, rfl⟩
abbrev main_v117_0 : Ref sig .tc := ⟨.hbm, 243, rfl⟩
abbrev main_cst_12 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_v123 : Ref sig .tc := ⟨.hbm, 250, rfl⟩
abbrev main_v124 : Ref sig .tc := ⟨.hbm, 251, rfl⟩
abbrev main_v125 : Ref sig .tc := ⟨.hbm, 252, rfl⟩
abbrev main_v126 : Ref sig .tc := ⟨.hbm, 253, rfl⟩
abbrev main_cst_13 : Ref sig .tc := ⟨.hbm, 254, rfl⟩
abbrev main_cst_14 : Ref sig .tc := ⟨.hbm, 255, rfl⟩
abbrev main_call5_v0 : Ref sig .tc := ⟨.hbm, 256, rfl⟩
abbrev main_call5_v1 : Ref sig .tc := ⟨.hbm, 257, rfl⟩
abbrev main_v127 : Ref sig .tc := ⟨.hbm, 258, rfl⟩
abbrev main_v128 : Ref sig .tc := ⟨.hbm, 259, rfl⟩
abbrev main_v129 : Ref sig .tc := ⟨.hbm, 260, rfl⟩
abbrev main_v130 : Ref sig .tc := ⟨.hbm, 261, rfl⟩
abbrev main_cst_15 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_cst_16 : Ref sig .tc := ⟨.hbm, 273, rfl⟩
abbrev main_v141 : Ref sig .tc := ⟨.hbm, 274, rfl⟩
abbrev main_v142 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_cst_17 : Ref sig .tc := ⟨.hbm, 284, rfl⟩
abbrev main_v151 : Ref sig .tc := ⟨.hbm, 285, rfl⟩
abbrev main_v152 : Ref sig .tc := ⟨.hbm, 286, rfl⟩
abbrev main_c_18 : Ref sig .tc := ⟨.hbm, 287, rfl⟩
abbrev main_call6_v0 : Ref sig .tc := ⟨.hbm, 288, rfl⟩
abbrev main_call6_v1 : Ref sig .tc := ⟨.hbm, 289, rfl⟩
abbrev main_call6_v2 : Ref sig .tc := ⟨.hbm, 290, rfl⟩
abbrev main_call6_v3 : Ref sig .tc := ⟨.hbm, 291, rfl⟩
abbrev main_call6_v4 : Ref sig .tc := ⟨.hbm, 292, rfl⟩
abbrev main_call6_v5 : Ref sig .tc := ⟨.hbm, 293, rfl⟩
abbrev main_call6_v6 : Ref sig .tc := ⟨.hbm, 294, rfl⟩
abbrev main_call6_v7 : Ref sig .tc := ⟨.hbm, 295, rfl⟩
abbrev main_call6_v8 : Ref sig .tc := ⟨.hbm, 296, rfl⟩
abbrev main_call6_c : Ref sig .tc := ⟨.hbm, 297, rfl⟩
abbrev main_call6_v9 : Ref sig .tc := ⟨.hbm, 298, rfl⟩
abbrev main_call6_v10 : Ref sig .tc := ⟨.hbm, 299, rfl⟩
abbrev main_call6_v11 : Ref sig .tc := ⟨.hbm, 300, rfl⟩
abbrev main_call6_c_0 : Ref sig .tc := ⟨.hbm, 301, rfl⟩
abbrev main_call6_v12 : Ref sig .tc := ⟨.hbm, 302, rfl⟩
abbrev main_call6_v13 : Ref sig .tc := ⟨.hbm, 303, rfl⟩
abbrev main_v153 : Ref sig .tc := ⟨.hbm, 304, rfl⟩
abbrev main_v154 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev main_v158 : Ref sig .tc := ⟨.hbm, 309, rfl⟩
abbrev main_v159 : Ref sig .tc := ⟨.hbm, 310, rfl⟩
abbrev main_cst_19 : Ref sig .tc := ⟨.hbm, 311, rfl⟩
abbrev main_call7_v0 : Ref sig .tc := ⟨.hbm, 312, rfl⟩
abbrev main_v160_1 : Ref sig .tc := ⟨.hbm, 313, rfl⟩
abbrev main_call7_v2 : Ref sig .tc := ⟨.hbm, 314, rfl⟩
abbrev main_v160_0 : Ref sig .tc := ⟨.hbm, 315, rfl⟩
abbrev main_call7_cst : Ref sig .tc := ⟨.hbm, 316, rfl⟩
abbrev main_v160_2 : Ref sig .tc := ⟨.hbm, 317, rfl⟩
abbrev main_v161 : Ref sig .tc := ⟨.hbm, 318, rfl⟩
abbrev main_v162 : Ref sig .tc := ⟨.hbm, 319, rfl⟩
abbrev main_v163 : Ref sig .tc := ⟨.hbm, 320, rfl⟩
abbrev main_cst_20 : Ref sig .tc := ⟨.hbm, 321, rfl⟩
abbrev main_v164 : Ref sig .tc := ⟨.hbm, 322, rfl⟩
abbrev main_v165 : Ref sig .tc := ⟨.hbm, 323, rfl⟩
abbrev main_cst_21 : Ref sig .tc := ⟨.hbm, 324, rfl⟩
abbrev main_v166 : Ref sig .tc := ⟨.hbm, 325, rfl⟩
abbrev main_v167 : Ref sig .tc := ⟨.hbm, 326, rfl⟩
abbrev main_v168 : Ref sig .tc := ⟨.hbm, 327, rfl⟩
abbrev main_v169 : Ref sig .tc := ⟨.hbm, 328, rfl⟩
abbrev main_v170 : Ref sig .tc := ⟨.hbm, 329, rfl⟩
abbrev main_cst_22 : Ref sig .tc := ⟨.hbm, 330, rfl⟩
abbrev main_v171 : Ref sig .tc := ⟨.hbm, 331, rfl⟩
abbrev main_v172 : Ref sig .tc := ⟨.hbm, 332, rfl⟩
abbrev main_cst_23 : Ref sig .tc := ⟨.hbm, 333, rfl⟩
abbrev main_v173 : Ref sig .tc := ⟨.hbm, 334, rfl⟩
abbrev main_v174 : Ref sig .tc := ⟨.hbm, 335, rfl⟩
abbrev main_cst_24 : Ref sig .tc := ⟨.hbm, 336, rfl⟩
abbrev main_v175 : Ref sig .tc := ⟨.hbm, 337, rfl⟩
abbrev main_v176 : Ref sig .tc := ⟨.hbm, 338, rfl⟩
abbrev main_cst_25 : Ref sig .tc := ⟨.hbm, 339, rfl⟩
abbrev main_v177 : Ref sig .tc := ⟨.hbm, 340, rfl⟩
abbrev main_v178 : Ref sig .tc := ⟨.hbm, 341, rfl⟩
abbrev main_v179 : Ref sig .tc := ⟨.hbm, 342, rfl⟩
abbrev main_v180 : Ref sig .tc := ⟨.hbm, 343, rfl⟩
abbrev main_cst_26 : Ref sig .tc := ⟨.hbm, 344, rfl⟩
abbrev main_v181 : Ref sig .tc := ⟨.hbm, 345, rfl⟩
abbrev main_v182 : Ref sig .tc := ⟨.hbm, 346, rfl⟩
abbrev main_v183 : Ref sig .tc := ⟨.hbm, 347, rfl⟩
abbrev main_v184 : Ref sig .tc := ⟨.hbm, 348, rfl⟩
abbrev main_v185 : Ref sig .tc := ⟨.hbm, 349, rfl⟩
abbrev main_v186 : Ref sig .tc := ⟨.hbm, 350, rfl⟩
abbrev main_v187 : Ref sig .tc := ⟨.hbm, 351, rfl⟩
abbrev main_v188 : Ref sig .tc := ⟨.hbm, 352, rfl⟩
abbrev main_call8_v0 : Ref sig .tc := ⟨.hbm, 353, rfl⟩
abbrev main_call8_v1 : Ref sig .tc := ⟨.hbm, 354, rfl⟩
abbrev main_call8_cst : Ref sig .tc := ⟨.hbm, 355, rfl⟩
abbrev main_call8_v2 : Ref sig .tc := ⟨.hbm, 356, rfl⟩
abbrev main_call8_v3 : Ref sig .tc := ⟨.hbm, 357, rfl⟩
abbrev main_call8_cst_0 : Ref sig .tc := ⟨.hbm, 358, rfl⟩
abbrev main_call8_v4 : Ref sig .tc := ⟨.hbm, 359, rfl⟩
abbrev main_v189_2 : Ref sig .tc := ⟨.hbm, 360, rfl⟩
abbrev main_call8_cst_1 : Ref sig .tc := ⟨.hbm, 361, rfl⟩
abbrev main_call8_v6 : Ref sig .tc := ⟨.hbm, 362, rfl⟩
abbrev main_call8_v7 : Ref sig .tc := ⟨.hbm, 363, rfl⟩
abbrev main_v189_1 : Ref sig .tc := ⟨.hbm, 364, rfl⟩
abbrev main_v189_0 : Ref sig .tc := ⟨.hbm, 365, rfl⟩
abbrev main_v190 : Ref sig .tc := ⟨.hbm, 366, rfl⟩
abbrev main_v191 : Ref sig .tc := ⟨.hbm, 367, rfl⟩
abbrev main_v192 : Ref sig .tc := ⟨.hbm, 368, rfl⟩
abbrev main_cst_27 : Ref sig .tc := ⟨.hbm, 369, rfl⟩
abbrev main_v193 : Ref sig .tc := ⟨.hbm, 370, rfl⟩
abbrev main_v194 : Ref sig .tc := ⟨.hbm, 371, rfl⟩
abbrev main_cst_28 : Ref sig .tc := ⟨.hbm, 372, rfl⟩
abbrev main_v195 : Ref sig .tc := ⟨.hbm, 373, rfl⟩
abbrev main_v196 : Ref sig .tc := ⟨.hbm, 374, rfl⟩
abbrev main_cst_29 : Ref sig .tc := ⟨.hbm, 375, rfl⟩
abbrev main_v197 : Ref sig .tc := ⟨.hbm, 376, rfl⟩
abbrev main_v198 : Ref sig .tc := ⟨.hbm, 377, rfl⟩
abbrev main_cst_30 : Ref sig .tc := ⟨.hbm, 378, rfl⟩
abbrev main_v199 : Ref sig .tc := ⟨.hbm, 379, rfl⟩
abbrev main_v200 : Ref sig .tc := ⟨.hbm, 380, rfl⟩
abbrev main_v201 : Ref sig .tc := ⟨.hbm, 381, rfl⟩
abbrev main_v202 : Ref sig .tc := ⟨.hbm, 382, rfl⟩
abbrev main_cst_31 : Ref sig .tc := ⟨.hbm, 383, rfl⟩
abbrev main_v203 : Ref sig .tc := ⟨.hbm, 384, rfl⟩
abbrev main_v204 : Ref sig .tc := ⟨.hbm, 385, rfl⟩
abbrev main_v205 : Ref sig .tc := ⟨.hbm, 386, rfl⟩
abbrev main_v206 : Ref sig .tc := ⟨.hbm, 387, rfl⟩
abbrev main_v207 : Ref sig .tc := ⟨.hbm, 388, rfl⟩
abbrev main_v208 : Ref sig .tc := ⟨.hbm, 389, rfl⟩
abbrev main_v209 : Ref sig .tc := ⟨.hbm, 390, rfl⟩
abbrev main_v210 : Ref sig .tc := ⟨.hbm, 391, rfl⟩
abbrev main_call9_v0 : Ref sig .tc := ⟨.hbm, 392, rfl⟩
abbrev main_call9_v1 : Ref sig .tc := ⟨.hbm, 393, rfl⟩
abbrev main_call9_cst : Ref sig .tc := ⟨.hbm, 394, rfl⟩
abbrev main_call9_v2 : Ref sig .tc := ⟨.hbm, 395, rfl⟩
abbrev main_call9_v3 : Ref sig .tc := ⟨.hbm, 396, rfl⟩
abbrev main_call9_cst_0 : Ref sig .tc := ⟨.hbm, 397, rfl⟩
abbrev main_call9_v4 : Ref sig .tc := ⟨.hbm, 398, rfl⟩
abbrev main_v211_2 : Ref sig .tc := ⟨.hbm, 399, rfl⟩
abbrev main_call9_cst_1 : Ref sig .tc := ⟨.hbm, 400, rfl⟩
abbrev main_call9_v6 : Ref sig .tc := ⟨.hbm, 401, rfl⟩
abbrev main_call9_v7 : Ref sig .tc := ⟨.hbm, 402, rfl⟩
abbrev main_v211_1 : Ref sig .tc := ⟨.hbm, 403, rfl⟩
abbrev main_v211_0 : Ref sig .tc := ⟨.hbm, 404, rfl⟩
abbrev main_v212 : Ref sig .tc := ⟨.hbm, 405, rfl⟩
abbrev main_v213 : Ref sig .tc := ⟨.hbm, 406, rfl⟩
abbrev main_v214 : Ref sig .tc := ⟨.hbm, 407, rfl⟩
abbrev main_v215 : Ref sig .tc := ⟨.hbm, 408, rfl⟩
abbrev main_v216 : Ref sig .tc := ⟨.hbm, 409, rfl⟩
abbrev main_v217 : Ref sig .tc := ⟨.hbm, 410, rfl⟩
abbrev main_call10_v0 : Ref sig .tc := ⟨.hbm, 411, rfl⟩
abbrev main_call10_v1 : Ref sig .tc := ⟨.hbm, 412, rfl⟩
abbrev main_call10_v2 : Ref sig .tc := ⟨.hbm, 413, rfl⟩
abbrev main_v218 : Ref sig .tc := ⟨.hbm, 414, rfl⟩
abbrev main_v219 : Ref sig .tc := ⟨.hbm, 415, rfl⟩
abbrev main_cst_32 : Ref sig .tc := ⟨.hbm, 416, rfl⟩
abbrev main_v220 : Ref sig .tc := ⟨.hbm, 417, rfl⟩
abbrev main_v221 : Ref sig .tc := ⟨.hbm, 418, rfl⟩
abbrev main_v222 : Ref sig .tc := ⟨.hbm, 419, rfl⟩
abbrev main_v223 : Ref sig .tc := ⟨.hbm, 420, rfl⟩
abbrev main_cst_33 : Ref sig .tc := ⟨.hbm, 421, rfl⟩
abbrev main_v224 : Ref sig .tc := ⟨.hbm, 422, rfl⟩
abbrev main_v225 : Ref sig .tc := ⟨.hbm, 423, rfl⟩
abbrev main_v226 : Ref sig .tc := ⟨.hbm, 424, rfl⟩
abbrev main_cst_34 : Ref sig .tc := ⟨.hbm, 425, rfl⟩
abbrev main_v227 : Ref sig .tc := ⟨.hbm, 426, rfl⟩
abbrev main_v228 : Ref sig .tc := ⟨.hbm, 427, rfl⟩
abbrev main_v229 : Ref sig .tc := ⟨.hbm, 428, rfl⟩
abbrev main_v230 : Ref sig .tc := ⟨.hbm, 429, rfl⟩
abbrev main_v231 : Ref sig .tc := ⟨.hbm, 430, rfl⟩
abbrev main_cst_35 : Ref sig .tc := ⟨.hbm, 431, rfl⟩
abbrev main_v232 : Ref sig .tc := ⟨.hbm, 432, rfl⟩
abbrev main_v233 : Ref sig .tc := ⟨.hbm, 433, rfl⟩
abbrev main_cst_36 : Ref sig .tc := ⟨.hbm, 434, rfl⟩
abbrev main_v234 : Ref sig .tc := ⟨.hbm, 435, rfl⟩
abbrev main_v235 : Ref sig .tc := ⟨.hbm, 436, rfl⟩
abbrev main_v236 : Ref sig .tc := ⟨.hbm, 437, rfl⟩
abbrev main_v237 : Ref sig .tc := ⟨.hbm, 438, rfl⟩
abbrev main_v238 : Ref sig .tc := ⟨.hbm, 439, rfl⟩
abbrev main_v239 : Ref sig .tc := ⟨.hbm, 440, rfl⟩
abbrev main_v240 : Ref sig .tc := ⟨.hbm, 441, rfl⟩
abbrev main_v241 : Ref sig .tc := ⟨.hbm, 442, rfl⟩
abbrev main_call11_v0 : Ref sig .tc := ⟨.hbm, 443, rfl⟩
abbrev main_call11_v1 : Ref sig .tc := ⟨.hbm, 444, rfl⟩
abbrev main_call11_v2 : Ref sig .tc := ⟨.hbm, 445, rfl⟩
abbrev main_v242 : Ref sig .tc := ⟨.hbm, 446, rfl⟩
abbrev main_v243 : Ref sig .tc := ⟨.hbm, 447, rfl⟩
abbrev main_cst_37 : Ref sig .tc := ⟨.hbm, 448, rfl⟩
abbrev main_v244 : Ref sig .tc := ⟨.hbm, 449, rfl⟩
abbrev main_v245 : Ref sig .tc := ⟨.hbm, 450, rfl⟩
abbrev main_v246 : Ref sig .tc := ⟨.hbm, 451, rfl⟩
abbrev main_v247 : Ref sig .tc := ⟨.hbm, 452, rfl⟩
abbrev main_cst_38 : Ref sig .tc := ⟨.hbm, 453, rfl⟩
abbrev main_v248 : Ref sig .tc := ⟨.hbm, 454, rfl⟩
abbrev main_v249 : Ref sig .tc := ⟨.hbm, 455, rfl⟩
abbrev main_v250 : Ref sig .tc := ⟨.hbm, 456, rfl⟩
abbrev main_cst_39 : Ref sig .tc := ⟨.hbm, 457, rfl⟩
abbrev main_v251 : Ref sig .tc := ⟨.hbm, 458, rfl⟩
abbrev main_v252 : Ref sig .tc := ⟨.hbm, 459, rfl⟩
abbrev main_v253 : Ref sig .tc := ⟨.hbm, 460, rfl⟩
abbrev main_v254 : Ref sig .tc := ⟨.hbm, 461, rfl⟩
abbrev main_v255 : Ref sig .tc := ⟨.hbm, 462, rfl⟩
abbrev main_cst_40 : Ref sig .tc := ⟨.hbm, 463, rfl⟩
abbrev main_v256 : Ref sig .tc := ⟨.hbm, 464, rfl⟩
abbrev main_v257 : Ref sig .tc := ⟨.hbm, 465, rfl⟩
abbrev main_cst_41 : Ref sig .tc := ⟨.hbm, 466, rfl⟩
abbrev main_v258 : Ref sig .tc := ⟨.hbm, 467, rfl⟩
abbrev main_v259 : Ref sig .tc := ⟨.hbm, 468, rfl⟩
abbrev main_v260 : Ref sig .tc := ⟨.hbm, 469, rfl⟩
abbrev main_v261 : Ref sig .tc := ⟨.hbm, 470, rfl⟩
abbrev main_v262 : Ref sig .tc := ⟨.hbm, 471, rfl⟩
abbrev main_v263 : Ref sig .tc := ⟨.hbm, 472, rfl⟩
abbrev main_cst_42 : Ref sig .tc := ⟨.hbm, 473, rfl⟩
abbrev main_v264 : Ref sig .tc := ⟨.hbm, 474, rfl⟩
abbrev main_v265 : Ref sig .tc := ⟨.hbm, 475, rfl⟩
abbrev main_cst_43 : Ref sig .tc := ⟨.hbm, 476, rfl⟩
abbrev main_v266 : Ref sig .tc := ⟨.hbm, 477, rfl⟩
abbrev main_v267 : Ref sig .tc := ⟨.hbm, 478, rfl⟩
abbrev main_cst_44 : Ref sig .tc := ⟨.hbm, 479, rfl⟩
abbrev main_v268 : Ref sig .tc := ⟨.hbm, 480, rfl⟩
abbrev main_v269 : Ref sig .tc := ⟨.hbm, 481, rfl⟩
abbrev main_v270 : Ref sig .tc := ⟨.hbm, 482, rfl⟩
abbrev main_v271 : Ref sig .tc := ⟨.hbm, 483, rfl⟩
abbrev main_v272 : Ref sig .tc := ⟨.hbm, 484, rfl⟩
abbrev main_v273 : Ref sig .tc := ⟨.hbm, 485, rfl⟩
abbrev main_v274 : Ref sig .tc := ⟨.hbm, 486, rfl⟩
abbrev main_v275 : Ref sig .tc := ⟨.hbm, 487, rfl⟩
abbrev main_v276 : Ref sig .tc := ⟨.hbm, 488, rfl⟩
abbrev main_v277 : Ref sig .tc := ⟨.hbm, 489, rfl⟩
abbrev main_call12_cst : Ref sig .tc := ⟨.hbm, 490, rfl⟩
abbrev main_call12_v0 : Ref sig .tc := ⟨.hbm, 491, rfl⟩
abbrev main_v278 : Ref sig .tc := ⟨.hbm, 492, rfl⟩
abbrev main_v279 : Ref sig .tc := ⟨.hbm, 493, rfl⟩
abbrev main_v280 : Ref sig .tc := ⟨.hbm, 494, rfl⟩
abbrev main_v281 : Ref sig .tc := ⟨.hbm, 495, rfl⟩
abbrev main_v282 : Ref sig .tc := ⟨.hbm, 496, rfl⟩
abbrev main_v283 : Ref sig .tc := ⟨.hbm, 497, rfl⟩
abbrev main_cst_45 : Ref sig .tc := ⟨.hbm, 498, rfl⟩
abbrev main_v284 : Ref sig .tc := ⟨.hbm, 499, rfl⟩
abbrev main_v285 : Ref sig .tc := ⟨.hbm, 500, rfl⟩
abbrev main_v286 : Ref sig .tc := ⟨.hbm, 501, rfl⟩
abbrev main_v287 : Ref sig .tc := ⟨.hbm, 502, rfl⟩
abbrev main_cst_46 : Ref sig .tc := ⟨.hbm, 503, rfl⟩
abbrev main_v288 : Ref sig .tc := ⟨.hbm, 504, rfl⟩
abbrev main_v289 : Ref sig .tc := ⟨.hbm, 505, rfl⟩
abbrev main_cst_47 : Ref sig .tc := ⟨.hbm, 506, rfl⟩
abbrev main_v290 : Ref sig .tc := ⟨.hbm, 507, rfl⟩
abbrev main_v291 : Ref sig .tc := ⟨.hbm, 508, rfl⟩
abbrev main_cst_48 : Ref sig .tc := ⟨.hbm, 509, rfl⟩
abbrev main_v292 : Ref sig .tc := ⟨.hbm, 510, rfl⟩
abbrev main_v293 : Ref sig .tc := ⟨.hbm, 511, rfl⟩
abbrev main_v294 : Ref sig .tc := ⟨.hbm, 512, rfl⟩
abbrev main_v295 : Ref sig .tc := ⟨.hbm, 513, rfl⟩
abbrev main_cst_49 : Ref sig .tc := ⟨.hbm, 514, rfl⟩
abbrev main_v296 : Ref sig .tc := ⟨.hbm, 515, rfl⟩
abbrev main_v297 : Ref sig .tc := ⟨.hbm, 516, rfl⟩
abbrev main_v298 : Ref sig .tc := ⟨.hbm, 517, rfl⟩
abbrev main_v299 : Ref sig .tc := ⟨.hbm, 518, rfl⟩
abbrev main_v300 : Ref sig .tc := ⟨.hbm, 519, rfl⟩
abbrev main_cst_50 : Ref sig .tc := ⟨.hbm, 520, rfl⟩
abbrev main_v301 : Ref sig .tc := ⟨.hbm, 521, rfl⟩
abbrev main_v302 : Ref sig .tc := ⟨.hbm, 522, rfl⟩
abbrev main_v303 : Ref sig .tc := ⟨.hbm, 523, rfl⟩
abbrev main_cst_51 : Ref sig .tc := ⟨.hbm, 524, rfl⟩
abbrev main_v304 : Ref sig .tc := ⟨.hbm, 525, rfl⟩
abbrev main_v305 : Ref sig .tc := ⟨.hbm, 526, rfl⟩
abbrev main_cst_52 : Ref sig .tc := ⟨.hbm, 527, rfl⟩
abbrev main_v306 : Ref sig .tc := ⟨.hbm, 528, rfl⟩
abbrev main_v307 : Ref sig .tc := ⟨.hbm, 529, rfl⟩
abbrev main_cst_53 : Ref sig .tc := ⟨.hbm, 530, rfl⟩
abbrev main_v308 : Ref sig .tc := ⟨.hbm, 531, rfl⟩
abbrev main_v309 : Ref sig .tc := ⟨.hbm, 532, rfl⟩
abbrev main_v310 : Ref sig .tc := ⟨.hbm, 533, rfl⟩
abbrev main_v311 : Ref sig .tc := ⟨.hbm, 534, rfl⟩
abbrev main_v312 : Ref sig .tc := ⟨.hbm, 535, rfl⟩
abbrev main_cst_54 : Ref sig .tc := ⟨.hbm, 536, rfl⟩
abbrev main_v313 : Ref sig .tc := ⟨.hbm, 537, rfl⟩
abbrev main_v314 : Ref sig .tc := ⟨.hbm, 538, rfl⟩
abbrev main_v315 : Ref sig .tc := ⟨.hbm, 539, rfl⟩
abbrev main_v316 : Ref sig .tc := ⟨.hbm, 540, rfl⟩
abbrev main_v317 : Ref sig .tc := ⟨.hbm, 541, rfl⟩
abbrev main_v318 : Ref sig .tc := ⟨.hbm, 542, rfl⟩
abbrev main_v319 : Ref sig .tc := ⟨.hbm, 543, rfl⟩
abbrev main_cst_55 : Ref sig .tc := ⟨.hbm, 544, rfl⟩
abbrev main_v320 : Ref sig .tc := ⟨.hbm, 545, rfl⟩
abbrev main_v321 : Ref sig .tc := ⟨.hbm, 546, rfl⟩
abbrev main_call13_v0 : Ref sig .tc := ⟨.hbm, 547, rfl⟩
abbrev main_call13_v1 : Ref sig .tc := ⟨.hbm, 548, rfl⟩
abbrev main_v322 : Ref sig .tc := ⟨.hbm, 549, rfl⟩
abbrev main_cst_56 : Ref sig .tc := ⟨.hbm, 550, rfl⟩
abbrev main_v323 : Ref sig .tc := ⟨.hbm, 551, rfl⟩
abbrev main_v324 : Ref sig .tc := ⟨.hbm, 552, rfl⟩
abbrev main_cst_57 : Ref sig .tc := ⟨.hbm, 553, rfl⟩
abbrev main_v325 : Ref sig .tc := ⟨.hbm, 554, rfl⟩
abbrev main_v326 : Ref sig .tc := ⟨.hbm, 555, rfl⟩
abbrev main_v327 : Ref sig .tc := ⟨.hbm, 556, rfl⟩
abbrev main_v328 : Ref sig .tc := ⟨.hbm, 557, rfl⟩
abbrev main_v329 : Ref sig .tc := ⟨.hbm, 558, rfl⟩
abbrev main_v330 : Ref sig .tc := ⟨.hbm, 559, rfl⟩
abbrev main_v331 : Ref sig .tc := ⟨.hbm, 560, rfl⟩
abbrev main_v332 : Ref sig .tc := ⟨.hbm, 561, rfl⟩
abbrev main_v333 : Ref sig .tc := ⟨.hbm, 562, rfl⟩
abbrev main_v334 : Ref sig .tc := ⟨.hbm, 563, rfl⟩
abbrev main_v335 : Ref sig .tc := ⟨.hbm, 564, rfl⟩
abbrev main_v336 : Ref sig .tc := ⟨.hbm, 565, rfl⟩
abbrev main_v337 : Ref sig .tc := ⟨.hbm, 566, rfl⟩
abbrev main_v338 : Ref sig .tc := ⟨.hbm, 567, rfl⟩
abbrev main_v339 : Ref sig .tc := ⟨.hbm, 568, rfl⟩
abbrev main_v340 : Ref sig .tc := ⟨.hbm, 569, rfl⟩
abbrev main_v341 : Ref sig .tc := ⟨.hbm, 570, rfl⟩
abbrev main_v342 : Ref sig .tc := ⟨.hbm, 571, rfl⟩
abbrev main_v343 : Ref sig .tc := ⟨.hbm, 572, rfl⟩
abbrev main_v344 : Ref sig .tc := ⟨.hbm, 573, rfl⟩
abbrev main_v345 : Ref sig .tc := ⟨.hbm, 574, rfl⟩
abbrev main_v346 : Ref sig .tc := ⟨.hbm, 575, rfl⟩
abbrev main_v347 : Ref sig .tc := ⟨.hbm, 576, rfl⟩
abbrev main_v348 : Ref sig .tc := ⟨.hbm, 577, rfl⟩
abbrev main_v349 : Ref sig .tc := ⟨.hbm, 578, rfl⟩
abbrev main_v350 : Ref sig .tc := ⟨.hbm, 579, rfl⟩
abbrev main_v351 : Ref sig .tc := ⟨.hbm, 580, rfl⟩
abbrev main_v352 : Ref sig .tc := ⟨.hbm, 581, rfl⟩
abbrev main_v353 : Ref sig .tc := ⟨.hbm, 582, rfl⟩
abbrev main_cst_58 : Ref sig .tc := ⟨.hbm, 583, rfl⟩
abbrev main_v354 : Ref sig .tc := ⟨.hbm, 584, rfl⟩
abbrev main_cst_59 : Ref sig .tc := ⟨.hbm, 585, rfl⟩
abbrev main_v355 : Ref sig .tc := ⟨.hbm, 586, rfl⟩
abbrev main_v356 : Ref sig .tc := ⟨.hbm, 587, rfl⟩
abbrev main_v357 : Ref sig .tc := ⟨.hbm, 588, rfl⟩
abbrev main_cst_60 : Ref sig .tc := ⟨.hbm, 589, rfl⟩
abbrev main_v358 : Ref sig .tc := ⟨.hbm, 590, rfl⟩
abbrev main_v359 : Ref sig .tc := ⟨.hbm, 591, rfl⟩
abbrev main_v360 : Ref sig .tc := ⟨.hbm, 592, rfl⟩
abbrev main_v361 : Ref sig .tc := ⟨.hbm, 593, rfl⟩
abbrev main_v362 : Ref sig .tc := ⟨.hbm, 594, rfl⟩
abbrev main_v363 : Ref sig .tc := ⟨.hbm, 595, rfl⟩
abbrev main_v364 : Ref sig .tc := ⟨.hbm, 596, rfl⟩
abbrev main_v365 : Ref sig .tc := ⟨.hbm, 597, rfl⟩
abbrev main_v366 : Ref sig .tc := ⟨.hbm, 598, rfl⟩
abbrev main_v367 : Ref sig .tc := ⟨.hbm, 599, rfl⟩
abbrev main_v368 : Ref sig .tc := ⟨.hbm, 600, rfl⟩
abbrev main_v369 : Ref sig .tc := ⟨.hbm, 601, rfl⟩
abbrev main_v370 : Ref sig .tc := ⟨.hbm, 602, rfl⟩
abbrev main_v371 : Ref sig .tc := ⟨.hbm, 603, rfl⟩
abbrev main_v372 : Ref sig .tc := ⟨.hbm, 604, rfl⟩
abbrev main_cst_61 : Ref sig .tc := ⟨.hbm, 605, rfl⟩
abbrev main_v373 : Ref sig .tc := ⟨.hbm, 606, rfl⟩
abbrev main_cst_62 : Ref sig .tc := ⟨.hbm, 607, rfl⟩
abbrev main_v374 : Ref sig .tc := ⟨.hbm, 608, rfl⟩
abbrev main_v375 : Ref sig .tc := ⟨.hbm, 609, rfl⟩
abbrev main_v376 : Ref sig .tc := ⟨.hbm, 610, rfl⟩
abbrev main_v377 : Ref sig .tc := ⟨.hbm, 611, rfl⟩
abbrev main_c_63 : Ref sig .tc := ⟨.hbm, 612, rfl⟩
abbrev main_call14_v0 : Ref sig .tc := ⟨.hbm, 613, rfl⟩
abbrev main_v378 : Ref sig .tc := ⟨.hbm, 614, rfl⟩
abbrev main_cst_64 : Ref sig .tc := ⟨.hbm, 615, rfl⟩
abbrev main_v379 : Ref sig .tc := ⟨.hbm, 616, rfl⟩
abbrev main_v380 : Ref sig .tc := ⟨.hbm, 617, rfl⟩
abbrev main_v381 : Ref sig .tc := ⟨.hbm, 618, rfl⟩
abbrev main_c_65 : Ref sig .tc := ⟨.hbm, 619, rfl⟩
abbrev main_call15_v0 : Ref sig .tc := ⟨.hbm, 620, rfl⟩
abbrev main_v382 : Ref sig .tc := ⟨.hbm, 621, rfl⟩
abbrev main_v383 : Ref sig .tc := ⟨.hbm, 622, rfl⟩
abbrev main_v384 : Ref sig .tc := ⟨.hbm, 623, rfl⟩
abbrev main_c_66 : Ref sig .tc := ⟨.hbm, 624, rfl⟩
abbrev main_call16_v0 : Ref sig .tc := ⟨.hbm, 625, rfl⟩
abbrev main_v385 : Ref sig .tc := ⟨.hbm, 626, rfl⟩

abbrev nD : Nat := 1
abbrev τ : Topo := Topo.v7x

variable {F : FTy → Type} [FloatOps F]
-- ==== Proof.RowStore.lean ====
/-
  A buffer of rows into which single whole rows are stored, read at an index.
-/
module

public import Idealize.ShloMosaic.Lib.Pointwise
public import Idealize.ShloMosaic.Lib.WritesUnit
public import Idealize.ShloMosaic.Lib.VecWindow
public import Idealize.ShloMosaic.Lib.Pipeline.Value

@[expose] public section

noncomputable section

namespace Cert.RowStore

open Idealize.ShloMosaic

variable {sig : RefSig} {κ : Kind} {sp : Space} {e : EltTy} {Val : EltTy → Type} {a n : ℕ}

/-- Row `o` of a buffer of rows. -/
def row (x : (⟨2, ![a, n]⟩ : Shape).Idx → Val e) (o : Fin a) : (⟨2, ![1, n]⟩ : Shape).Idx → Val e := fun j => x (ix2 o (j 1))

/-- A load of row `o` reads that row. -/
theorem ld_row (x : (⟨2, ![a, n]⟩ : Shape).Idx → Val e) (o : Fin a)
    (inb : ∀ k : Fin 2, (![o.val, 0] : Fin 2 → ℕ) k + (![1, n] : Fin 2 → ℕ) k ≤ (⟨2, ![a, n]⟩ : Shape).size k) :
    View.ld x (Rect.unit (s := ⟨2, ![a, n]⟩) ![o.val, 0] ![1, n] inb) = row x o := by
  funext j
  unfold row View.ld
  congr 1
  funext k
  apply Fin.ext
  match k with
  | ⟨0, _⟩ => show o.val + 1 * (j 0).val = o.val; have h : (j 0).val < 1 := (j 0).isLt; omega
  | ⟨1, _⟩ => show 0 + 1 * (j 1).val = (j 1).val; omega

/-- After the store of a row, that row reads the payload and every other row what was there. -/
theorem read_row (v : View sig κ sp ⟨2, ![a, n]⟩ e) (f : v.ty.Contents Val) (o : ℕ)
    (inb : ∀ k : Fin 2, (![o, 0] : Fin 2 → ℕ) k + (![1, n] : Fin 2 → ℕ) k ≤ (⟨2, ![a, n]⟩ : Shape).size k)
    (w : (⟨2, ![1, n]⟩ : Shape).Idx → Val e) (L : List (View.Piece Val ⟨2, ![a, n]⟩ e)) (r : Fin a) (l : Fin n) :
    v.read Val (v.writes Val f ((⟨Rect.unit (s := ⟨2, ![a, n]⟩) ![o, 0] ![1, n] inb, w⟩ : View.Piece Val ⟨2, ![a, n]⟩ e) :: L)) (ix2 r l)
      = if r.val = o then w (ix2 0 l) else v.read Val (v.writes Val f L) (ix2 r l) := by
  split
  · next h => exact View.read_writes_cons_rows_of_mem v f inb w L (ix2 r l) (ix2 0 l) rfl (by show r.val = o + 0; omega) rfl
  · next h => exact View.read_writes_cons_rows_of_not_mem (W := 1) v f inb w L (ix2 r l) rfl rfl (by show r.val < o ∨ o + 1 ≤ r.val; omega)

/-- After the store of `W` rows from row `o` on, those rows read the payload and every other row what was there. -/
theorem read_rows (v : View sig κ sp ⟨2, ![a, n]⟩ e) (f : v.ty.Contents Val) (o W : ℕ)
    (inb : ∀ k : Fin 2, (![o, 0] : Fin 2 → ℕ) k + (![W, n] : Fin 2 → ℕ) k ≤ (⟨2, ![a, n]⟩ : Shape).size k)
    (w : (⟨2, ![W, n]⟩ : Shape).Idx → Val e) (L : List (View.Piece Val ⟨2, ![a, n]⟩ e)) (r : Fin a) (l : Fin n) :
    v.read Val (v.writes Val f ((⟨Rect.unit (s := ⟨2, ![a, n]⟩) ![o, 0] ![W, n] inb, w⟩ : View.Piece Val ⟨2, ![a, n]⟩ e) :: L)) (ix2 r l)
      = if h : o ≤ r.val ∧ r.val < o + W then w (ix2 ⟨r.val - o, by omega⟩ l) else v.read Val (v.writes Val f L) (ix2 r l) := by
  split
  · next h => exact View.read_writes_cons_rows_of_mem v f inb w L (ix2 r l) (ix2 ⟨r.val - o, by omega⟩ l) rfl (by show r.val = o + (r.val - o); omega) rfl
  · next h => exact View.read_writes_cons_rows_of_not_mem (W := W) v f inb w L (ix2 r l) rfl rfl (by show r.val < o ∨ o + W ≤ r.val; omega)

/-- A load of row `o` out of what stores left, read at a column. -/
theorem readAt_row (v : View sig κ sp ⟨2, ![a, n]⟩ e) (f : v.ty.Contents Val) (o : Fin a)
    (inb : ∀ k : Fin 2, (![o.val, 0] : Fin 2 → ℕ) k + (![1, n] : Fin 2 → ℕ) k ≤ (⟨2, ![a, n]⟩ : Shape).size k) :
    v.readAt Val (Rect.unit (s := ⟨2, ![a, n]⟩) ![o.val, 0] ![1, n] inb).toLoadRect f = row (v.read Val f) o :=
  ld_row _ _ _

/-- A load out of a buffer that was stored whole reads the payload. -/
theorem readCov_whole [∀ e, Nonempty (Val e)] {S : Shape} (v : View sig κ sp S e) {off : Fin S.rank → ℕ}
    (inb : ∀ k, off k + S.size k ≤ S.size k) (w : (Rect.unit off S.size inb).shape.Idx → Val e) (B : Rect S) :
    v.readCov [⟨Rect.unit off S.size inb, w⟩] B.toLoadRect = View.ld (Val := Val) (S := S) w B := by
  unfold View.readCov
  rw [View.readAt_eq_ld, View.read_writes_full]

/-- A load out of a buffer that was copied to whole reads what was copied. -/
theorem readCov_all [∀ e, Nonempty (Val e)] {S : Shape} (v : View sig κ sp S e) (w : S.Idx → Val e) (B : Rect S) :
    v.readCov [⟨Rect.whole S, w⟩] B.toLoadRect = View.ld (Val := Val) (S := S) w B :=
  readCov_whole v (off := fun _ => 0) (fun k => (Nat.zero_add _).le) w B

/-- A buffer that was copied to whole holds what was copied. -/
theorem read_all {S : Shape} (v : View sig κ sp S e) (f : v.ty.Contents Val) (w : S.Idx → Val e) :
    v.read Val (v.writes Val f [⟨Rect.whole S, w⟩]) = w :=
  View.read_writes_full (off := fun _ => 0) v f (fun k => (Nat.zero_add _).le) w []

/-- A load of row `o` after the store of another row reads what the earlier stores left. -/
theorem readCov_row_ne [∀ e, Nonempty (Val e)] (v : View sig κ sp ⟨2, ![a, n]⟩ e) (o p : ℕ) (h : o ≠ p)
    (inb : ∀ k : Fin 2, (![o, 0] : Fin 2 → ℕ) k + (![1, n] : Fin 2 → ℕ) k ≤ (⟨2, ![a, n]⟩ : Shape).size k)
    (inb' : ∀ k : Fin 2, (![p, 0] : Fin 2 → ℕ) k + (![1, n] : Fin 2 → ℕ) k ≤ (⟨2, ![a, n]⟩ : Shape).size k)
    (w : (⟨2, ![1, n]⟩ : Shape).Idx → Val e) (L : List (View.Piece Val ⟨2, ![a, n]⟩ e)) :
    v.readCov ((⟨Rect.unit (s := ⟨2, ![a, n]⟩) ![p, 0] ![1, n] inb', w⟩ : View.Piece Val ⟨2, ![a, n]⟩ e) :: L)
        (Rect.unit (s := ⟨2, ![a, n]⟩) ![o, 0] ![1, n] inb).toLoadRect
      = v.readCov L (Rect.unit (s := ⟨2, ![a, n]⟩) ![o, 0] ![1, n] inb).toLoadRect := by
  have ho : o < a := by have := inb 0; exact this
  unfold View.readCov
  have e1 := fun f => readAt_row (Val := Val) (e := e) (a := a) (n := n) v f ⟨o, ho⟩ inb
  refine (e1 _).trans (Eq.trans ?_ (e1 _).symm)
  funext j
  exact (read_row v _ p inb' w L ⟨o, ho⟩ (j 1)).trans (if_neg h)

/-- Row `o` of a list of rows, as a load of that row reads it. -/
theorem ld_row_at (x : (⟨2, ![a, n]⟩ : Shape).Idx → Val e) (o : ℕ)
    (inb : ∀ k : Fin 2, (![o, 0] : Fin 2 → ℕ) k + (![1, n] : Fin 2 → ℕ) k ≤ (⟨2, ![a, n]⟩ : Shape).size k) :
    View.ld x (Rect.unit (s := ⟨2, ![a, n]⟩) ![o, 0] ![1, n] inb) = row x ⟨o, by have := inb 0; exact this⟩ :=
  ld_row x ⟨o, _⟩ inb

/-- A map that tells each number at one place is injective. -/
theorem inj_of {N : ℕ} {ι : Type} (f : Fin N → ι → ℕ) (i : ι) (h : ∀ t, f t i = t.val) {t t' : Fin N} (e : f t = f t') : t = t' :=
  Fin.ext ((h t).symm.trans ((congrFun e i).trans (h t')))

end Cert.RowStore
-- ==== Proof.InBlock.lean ====
/-
  What one grid point of the input projection's gradient leaves in its result blocks and in the scratch buffer.
-/
module

public import proofs.«01_k».proof.Proof.Gen.KernelIdeal.Value
public import proofs.«01_k».proof.Proof.RowStore

@[expose] public section

set_option maxRecDepth 16384

noncomputable section

namespace Cert.InBlock

open Cert.RowStore Cert.KernelIdeal Cert.KernelIdeal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a1 : Memref sig .tc .vmem S1024x3712 .bf16) (h1 : a1.IsWhole)
  (a2 : Memref sig .tc .vmem S1024x1024 .f32) (h2 : a2.IsWhole) (a3 : Memref sig .tc .vmem S1024x1024 .f32)
  (h3 : a3.IsWhole) (a4 : Memref sig .tc .vmem S1x1024 .f32) (h4 : a4.IsWhole)
  (a7 : Memref sig .tc .vmem S1024x1024 .f32) (h7 : a7.IsWhole) (a8 : Memref sig .tc .vmem S8x1024 .f32)
  (h8 : a8.IsWhole) (a9 : Memref sig .tc .vmem S3712x1024 .bf16) (h9 : a9.IsWhole)
  (x0 : Vec F S1024x3712 .bf16) (x1 : Vec F S1024x1024 .f32) (x2 : Vec F S1024x1024 .f32) (x3 : Vec F S1x1024 .f32)
  (xo : Vec F S8x1024 .f32) (xs : Vec F S3712x1024 .bf16) (f0 : HbBuf0 (F := F) c hbM0_0) (f1 : HbBuf0 (F := F) c hbM0_1)

/-- A later point leaves in the block of the first result the gradient of its rows. -/
theorem grad_B (hc0 : ¬cond0_0 i) (hc1 : ¬cond0_1 i) (hc2 : ¬cond0_2 i) :
    out0_B_4 c i a1 h1 a2 h2 a3 h3 a4 h4 a7 h7 a8 h8 a9 h9 hc0 hc1 hc2 x0 x1 x2 x3 xo xs f0 f1
      = k0_pay1 (k0_pay8 x1) (k0_pay9 x1) (k0_pay10 x2) (k0_pay11 x0 xs x3) := by
  unfold out0_B_4
  unfold kernelRun0_B
  dsimp only
  sl_unfold_words
  refine (View.read_writes_full ..).trans ?_
  simp only [View.readAt_eq_ld, h1.read_unread, h2.read_unread, h3.read_unread, h4.read_unread, h9.read_unread,
    View.ld_unit_zero (S := S1024x3712) hz, View.ld_unit_zero (S := S3712x1024) hz, View.ld_unit_zero (S := S1024x1024) hz,
    View.ld_unit_zero (S := S1x1024) hz]

/-- A later point adds to row 0 of the second result its rows' share of the scale's gradient and to row 1 the shift's. -/
theorem acc_B (hc0 : ¬cond0_0 i) (hc1 : ¬cond0_1 i) (hc2 : ¬cond0_2 i) (r : Fin 8) (l : Fin 1024) :
    out0_B_5 c i a1 h1 a2 h2 a3 h3 a4 h4 a7 h7 a8 h8 a9 h9 hc0 hc1 hc2 x0 x1 x2 x3 xo xs f0 f1 (ix2 r l)
      = if r.val = 1 then k0_pay3 (k0_pay6 x0 xs) (row xo 1) (ix2 0 l)
        else if r.val = 0 then k0_pay2 (k0_pay6 x0 xs) (k0_pay9 x1) (row xo 0) (ix2 0 l) else xo (ix2 r l) := by
  unfold out0_B_5
  unfold kernelRun0_B
  dsimp only
  sl_unfold_words
  simp only [View.readAt_eq_ld, h1.read_unread, h2.read_unread, h3.read_unread, h4.read_unread, h8.read_unread, h9.read_unread,
    View.ld_unit_zero (S := S1024x3712) hz, View.ld_unit_zero (S := S3712x1024) hz, View.ld_unit_zero (S := S1024x1024) hz,
    View.ld_unit_zero (S := S1x1024) hz]
  have e0 := ld_row (Val := Elt F) (e := .f32) (a := 8) (n := 1024) xo 0 inb_S8x1024_S1x1024_0_0
  have e1 := ld_row (Val := Elt F) (e := .f32) (a := 8) (n := 1024) xo 1 inb_S8x1024_S1x1024_1_0
  rw [read_row (a := 8) (n := 1024), read_row (a := 8) (n := 1024)]
  rw [View.writes_nil, h8.read_unread, ← e0, ← e1]
  rfl

/-- The weights as the scratch buffer holds them: 3600 rows of weights, then 112 rows of zeros. -/
def padded (w : Vec F S3600x1024 .bf16) : Vec F S3712x1024 .bf16 := fun j =>
  if h : (j 0).val < 3600 then w (ix2 ⟨(j 0).val, h⟩ (j 1)) else k0_pay4 (ix2 0 0)

theorem padded_read {sg : RefSig} {κ : Kind} {sp : Space} (v : View sg κ sp S3712x1024 .bf16) (f : v.ty.Contents (Elt F))
    (w : Vec F S3600x1024 .bf16) :
    v.read (Elt F) (v.writes (Elt F) f
        [⟨Rect.unit ![0, 0] ![3600, 1024] inb_S3712x1024_S3600x1024_0_0, w⟩,
          ⟨Rect.unit ![3600, 0] ![112, 1024] inb_S3712x1024_S112x1024_3600_0, k0_pay4⟩]) = padded w := by
  funext j
  idx_vars j
  unfold padded
  have hj := j0.isLt
  rw [read_rows (a := 3712) (n := 1024), read_rows (a := 3712) (n := 1024)]
  by_cases h : j0.val < 3600
  · rw [dif_pos ⟨Nat.zero_le _, by omega⟩]
    rw [dif_pos (show (ix2 j0 j1 0).val < 3600 from h)]
    rfl
  · rw [dif_neg (fun h' => h (by omega)), dif_pos ⟨by omega, by omega⟩]
    rw [dif_neg (show ¬ (ix2 j0 j1 0).val < 3600 from h)]
    rfl

theorem padded_load {sg : RefSig} {κ : Kind} {sp : Space} (v : View sg κ sp S3712x1024 .bf16) (w : Vec F S3600x1024 .bf16) :
    v.readCov
        [⟨Rect.unit ![0, 0] ![3600, 1024] inb_S3712x1024_S3600x1024_0_0, w⟩,
          ⟨Rect.unit ![3600, 0] ![112, 1024] inb_S3712x1024_S112x1024_3600_0, k0_pay4⟩]
        (Rect.unit ![0, 0] ![3712, 1024] inb_S3712x1024_S3712x1024_0_0).toLoadRect = padded w := by
  unfold View.readCov
  rw [View.readAt_eq_ld, View.ld_unit_zero (S := S3712x1024) hz, padded_read]

/-- The weights as the kernel's copy reads them. -/
abbrev wts (f0 : HbBuf0 (F := F) c hbM0_0) : Vec F S3600x1024 .bf16 := ReadAs.same.apply (View.read (Elt F) (View.whole main_v2) f0)

/-- The first point leaves the weights in the scratch buffer. -/
theorem scr_A (hc0 : cond0_0 i) (hc1 : cond0_1 i) (hc2 : cond0_2 i) :
    sout0_A_0 c i a1 h1 a2 h2 a3 h3 a4 h4 a7 h7 a8 h8 a9 h9 hc0 hc1 hc2 x0 x1 x2 x3 f0 f1 = padded (wts c f0) := by
  unfold sout0_A_0
  unfold kernelRun0_A
  dsimp only
  sl_unfold_words
  exact padded_read ..

/-- The first point leaves in the block of the first result the gradient of its rows. -/
theorem grad_A (hc0 : cond0_0 i) (hc1 : cond0_1 i) (hc2 : cond0_2 i) :
    out0_A_4 c i a1 h1 a2 h2 a3 h3 a4 h4 a7 h7 a8 h8 a9 h9 hc0 hc1 hc2 x0 x1 x2 x3 f0 f1
      = k0_pay1 (k0_pay8 x1) (k0_pay9 x1) (k0_pay10 x2) (k0_pay11 x0 (padded (wts c f0)) x3) := by
  unfold out0_A_4
  unfold kernelRun0_A
  dsimp only
  sl_unfold_words
  refine (View.read_writes_full ..).trans ?_
  rw [padded_load]
  simp only [View.readAt_eq_ld, h1.read_unread, h2.read_unread, h3.read_unread, h4.read_unread,
    View.ld_unit_zero (S := S1024x3712) hz, View.ld_unit_zero (S := S1024x1024) hz, View.ld_unit_zero (S := S1x1024) hz]

/-- The first point starts both sums of the second result from zero. -/
theorem acc_A (hc0 : cond0_0 i) (hc1 : cond0_1 i) (hc2 : cond0_2 i) (r : Fin 8) (l : Fin 1024) :
    out0_A_5 c i a1 h1 a2 h2 a3 h3 a4 h4 a7 h7 a8 h8 a9 h9 hc0 hc1 hc2 x0 x1 x2 x3 f0 f1 (ix2 r l)
      = if r.val = 1 then k0_pay3 (k0_pay6 x0 (padded (wts c f0))) (row k0_pay5 1) (ix2 0 l)
        else if r.val = 0 then k0_pay2 (k0_pay6 x0 (padded (wts c f0))) (k0_pay9 x1) (row k0_pay5 0) (ix2 0 l)
        else k0_pay5 (ix2 r l) := by
  unfold out0_A_5
  unfold kernelRun0_A
  dsimp only
  sl_unfold_words
  simp only [padded_load, View.readAt_eq_ld, h1.read_unread, h2.read_unread, h3.read_unread, h4.read_unread, h8.read_unread,
    View.ld_unit_zero (S := S1024x3712) hz, View.ld_unit_zero (S := S1024x1024) hz,
    View.ld_unit_zero (S := S1x1024) hz]
  have full : ∀ (v : View sig .tc .vmem S8x1024 .f32) (f : v.ty.Contents (Elt F)), v.read (Elt F) (v.writes (Elt F) f
      [⟨Rect.unit ![0, 0] ![8, 1024] inb_S8x1024_S8x1024_0_0, k0_pay5⟩]) = k0_pay5 := fun v f => View.read_writes_full ..
  rw [read_row (a := 8) (n := 1024), read_row (a := 8) (n := 1024)]
  unfold View.readCov
  have e0 := fun f => readAt_row (Val := Elt F) (e := .f32) (a := 8) (n := 1024) a8.view f 0 inb_S8x1024_S1x1024_0_0
  have e1 := fun f => readAt_row (Val := Elt F) (e := .f32) (a := 8) (n := 1024) a8.view f 1 inb_S8x1024_S1x1024_1_0
  have e2 : ∀ f w, row (Val := Elt F) (e := .f32) (a8.view.read (Elt F) (a8.view.writes (Elt F) f
      [⟨Rect.unit ![0, 0] ![1, 1024] inb_S8x1024_S1x1024_0_0, w⟩,
       ⟨Rect.unit ![0, 0] ![8, 1024] inb_S8x1024_S8x1024_0_0, k0_pay5⟩])) 1 = row k0_pay5 1 := fun f w => by
    funext j
    show a8.view.read (Elt F) _ (ix2 (1 : Fin 8) (show Fin 1024 from j 1)) = k0_pay5 (ix2 (1 : Fin 8) (show Fin 1024 from j 1))
    rw [read_row (a := 8) (n := 1024), if_neg (by decide), full]
  rw [full]
  refine (if_congr Iff.rfl (congrFun (congrArg _ ((e1 _).trans (e2 _ _))) _) (if_congr Iff.rfl (congrFun (congrArg _ ((e0 _).trans ?_)) _) rfl))
  rw [full]
end
end Cert.InBlock
-- ==== Proof.RowMath.lean ====
/-
  Mathematics of one row of a layer normalisation over 1024 columns, and of its gradient: the two ways of writing the
  gradient that a backward call and a derived derivative use are the same real number.
-/
module

public import Idealize.ShloMosaic.Lib.Pointwise

@[expose] public section

noncomputable section

namespace Cert.RowMath

open Idealize.ShloMosaic

/-- The mean of a row. -/
def mean (f : Fin 1024 → ℝ) : ℝ := (∑ k, f k) / 1024
/-- The number added to the variance: the 32-bit float nearest to one part in a hundred thousand. -/
def eps : ℝ := 10995116 / 2 ^ 40
/-- A row less its mean. -/
def dev (x : Fin 1024 → ℝ) (k : Fin 1024) : ℝ := x k - mean x
/-- The variance of a row, plus `eps`. -/
def vare (x : Fin 1024 → ℝ) : ℝ := mean (fun k => dev x k * dev x k) + eps
/-- One over the standard deviation of a row. -/
def rstd (x : Fin 1024 → ℝ) : ℝ := (√(vare x))⁻¹
/-- The gradient of the normalised row against the cotangent `p`. -/
def lnGrad (x p : Fin 1024 → ℝ) (k : Fin 1024) : ℝ :=
  rstd x * (p k - mean p - dev x k * rstd x * mean fun k => p k * (dev x k * rstd x))

theorem eps_pos : 0 < eps := by unfold eps; positivity

theorem vare_pos (x : Fin 1024 → ℝ) : 0 < vare x := by
  have h : 0 ≤ mean (fun k => dev x k * dev x k) :=
    div_nonneg (Finset.sum_nonneg fun k _ => mul_self_nonneg _) (by norm_num)
  have := eps_pos
  unfold vare; linarith

/-- The deviations of a row from its mean add up to nothing. -/
theorem sum_dev (x : Fin 1024 → ℝ) : ∑ k, dev x k = 0 := by
  unfold dev mean
  rw [Finset.sum_sub_distrib, Finset.sum_const, Finset.card_univ, Fintype.card_fin, nsmul_eq_mul]
  push_cast; ring

/-- The square of the inverse deviation times the variance is one. -/
theorem rstd_sq (x : Fin 1024 → ℝ) : rstd x * rstd x * vare x = 1 := by
  have h := vare_pos x
  have hs := Real.mul_self_sqrt h.le
  have hn : √(vare x) ≠ 0 := (Real.sqrt_pos.mpr h).ne'
  unfold rstd
  field_simp
  nlinarith

theorem rstd_div (x : Fin 1024 → ℝ) : rstd x / vare x = rstd x * rstd x * rstd x := by
  have h := (vare_pos x).ne'
  rw [div_eq_iff h]
  linear_combination -(rstd x) * rstd_sq x

/-- The derivative as the chain rule writes it — through the deviation, through the variance and through the mean — is
    the closed form of the gradient. -/
theorem chain_eq (x p : Fin 1024 → ℝ) (l : Fin 1024) :
    p l * rstd x + (∑ k, dev x k * p k) * (-(1 / 2) * (rstd x / vare x)) / 1024 * (2 * dev x l)
      + ((∑ k, -(p k * rstd x))
          + ∑ k, -((∑ k, dev x k * p k) * (-(1 / 2) * (rstd x / vare x)) / 1024 * (2 * dev x k))) / 1024
      = lnGrad x p l := by
  have e1 : ∑ k, -(p k * rstd x) = -((∑ k, p k) * rstd x) := by rw [Finset.sum_neg_distrib, ← Finset.sum_mul]
  have e2 : ∀ a : ℝ, ∑ k, -(a * (2 * dev x k)) = 0 := fun a => by
    rw [Finset.sum_neg_distrib, ← Finset.mul_sum, ← Finset.mul_sum, sum_dev]; ring
  have e3 : ∑ k, p k * (dev x k * rstd x) = (∑ k, dev x k * p k) * rstd x := by
    rw [Finset.sum_mul]; exact Finset.sum_congr rfl fun k _ => by ring
  rw [e1, e2, rstd_div]
  unfold lnGrad mean
  rw [e3]
  ring

/-! ## Real numbers among the extended reals -/

theorem word_1024 : Ideal.ofBits .f32 0x44800000#32 = ((1024 : ℝ) : EReal) := by
  simp [Ideal.ofBits, Ideal.ieee, -EReal.coe_mul]; norm_num
theorem word_eps : Ideal.ofBits .f32 0x3727C5AC#32 = (eps : EReal) := by
  simp [Ideal.ofBits, Ideal.ieee, eps, -EReal.coe_mul]; norm_num
theorem word_two : Ideal.ofBits .f32 0x40000000#32 = ((2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num

theorem sum_coe {n : ℕ} (f : Fin n → ℝ) : ∑ k, ((f k : ℝ) : EReal) = ((∑ k, f k : ℝ) : EReal) :=
  (map_sum (⟨⟨fun a : ℝ => (a : EReal), rfl⟩, EReal.coe_add⟩ : ℝ →+ EReal) f Finset.univ).symm

theorem div_coe_coe {b : ℝ} (a : ℝ) (h : b ≠ 0) : Ideal.div (a : EReal) (b : EReal) = ((a / b : ℝ) : EReal) := by
  rw [Ideal.div_coe h, ← EReal.coe_mul]; congr 1; ring

theorem rsqrt_coe {a : ℝ} (h : 0 < a) : Ideal.rsqrt (a : EReal) = (((√a)⁻¹ : ℝ) : EReal) := by
  rw [Ideal.rsqrt_coe, if_neg h.not_gt, if_neg h.ne']

end Cert.RowMath
-- ==== Proof.InPay.lean ====
/-
  What the arithmetic of one block of the input projection's gradient computes, element by element.
-/
module

public import proofs.«01_k».proof.Proof.Gen.KernelIdeal.Skeleton
public import proofs.«01_k».proof.Proof.RowMath

@[expose] public section

set_option maxRecDepth 16384

noncomputable section

namespace Cert.InBlock

open Cert.RowMath Cert.KernelIdeal Cert.KernelIdeal.Gen Idealize.ShloMosaic

variable (x : FVec Ideal S1024x1024 .f32) (x' : Fin 1024 → ℝ) (r : Fin 1024)

/-- A row less its mean. -/
theorem dev_apply (hx : ∀ k, x (ix2 r k) = (x' k : EReal)) (l : Fin 1024) :
    k0_pay7 (F := Ideal) x (ix2 r l) = (dev x' l : EReal) := by
  pointwise [k0_pay7]
  simp only [hx, word_1024, sum_coe]
  rw [div_coe_coe _ (by norm_num), ← EReal.coe_sub]
  rfl

/-- One over the row's standard deviation. -/
theorem rstd_apply (hx : ∀ k, x (ix2 r k) = (x' k : EReal)) :
    k0_pay8 (F := Ideal) x (ix2 r 0) = (rstd x' : EReal) := by
  pointwise [k0_pay8]
  simp only [dev_apply x x' r hx, word_1024, word_eps, ← EReal.coe_mul, sum_coe]
  rw [div_coe_coe _ (by norm_num), ← EReal.coe_add]
  exact rsqrt_coe (vare_pos x')

/-- The normalised row. -/
theorem norm_apply (hx : ∀ k, x (ix2 r k) = (x' k : EReal)) (l : Fin 1024) :
    k0_pay9 (F := Ideal) x (ix2 r l) = ((dev x' l * rstd x' : ℝ) : EReal) := by
  pointwise [k0_pay9]
  rw [dev_apply x x' r hx, rstd_apply x x' r hx, EReal.coe_mul]

/-- The cotangent of the modulated input: the product with the padded weights. -/
theorem prod_apply (p : FVec Ideal S1024x3712 .bf16) (w : FVec Ideal S3712x1024 .bf16) (l : Fin 1024) :
    k0_pay6 (F := Ideal) p w (ix2 r l) = ∑ k : Fin 3712, p (ix2 r k) * w (ix2 k l) := by
  pointwise [k0_pay6]

theorem scaled_apply (p : FVec Ideal S1024x3712 .bf16) (w : FVec Ideal S3712x1024 .bf16) (s : FVec Ideal S1x1024 .f32) (l : Fin 1024) :
    k0_pay11 (F := Ideal) p w s (ix2 r l) = k0_pay6 (F := Ideal) p w (ix2 r l) * s (ix2 0 l) := by
  pointwise [k0_pay11]

/-- The gradient of the row. -/
theorem grad_apply (d p : FVec Ideal S1024x1024 .f32) (p' : Fin 1024 → ℝ) (hx : ∀ k, x (ix2 r k) = (x' k : EReal))
    (hp : ∀ k, p (ix2 r k) = (p' k : EReal)) (l : Fin 1024) :
    k0_pay1 (F := Ideal) (k0_pay8 x) (k0_pay9 x) (k0_pay10 d) p (ix2 r l) = d (ix2 r l) + (lnGrad x' p' l : EReal) := by
  pointwise [k0_pay1, k0_pay10]
  simp only [norm_apply x x' r hx, rstd_apply x x' r hx, hp, word_1024, ← EReal.coe_mul, sum_coe]
  rw [div_coe_coe _ (by norm_num), div_coe_coe _ (by norm_num), ← EReal.coe_mul, ← EReal.coe_sub, ← EReal.coe_sub, ← EReal.coe_mul]
  rfl

theorem scale_apply (g h : FVec Ideal S1024x1024 .f32) (a : FVec Ideal S1x1024 .f32) (l : Fin 1024) :
    k0_pay2 (F := Ideal) g h a (ix2 0 l) = a (ix2 0 l) + ∑ k : Fin 1024, g (ix2 k l) * h (ix2 k l) := by
  pointwise [k0_pay2]

theorem shift_apply (g : FVec Ideal S1024x1024 .f32) (a : FVec Ideal S1x1024 .f32) (l : Fin 1024) :
    k0_pay3 (F := Ideal) g a (ix2 0 l) = a (ix2 0 l) + ∑ k : Fin 1024, g (ix2 k l) := by
  pointwise [k0_pay3]

end Cert.InBlock
-- ==== Proof.InArray.lean ====
/-
  The arrays the kernel of the input projection's gradient is called with, and the blocks a grid point reads of them.
-/
module

public import proofs.«01_k».proof.Proof.InBlock
public import proofs.«01_k».proof.Proof.InPay
public import Idealize.ShloMosaic.Lib.Tactic
public import Idealize.ShloMosaic.Lib.KernelVsHost
public import Idealize.ShloMosaic.Lib.Claim

@[expose] public section

set_option maxRecDepth 16384

noncomputable section

namespace Cert.InBlock

open Cert.RowMath Cert.RowStore Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arrays the kernel is called with -/

abbrev argX : FVec Ideal S1x8192x1024 .f32 := m ((c : Thread nD τ).loc main_arg0)
abbrev argS : FVec Ideal S1x1024 .f32 := m ((c : Thread nD τ).loc main_arg1)
abbrev argW : FVec Ideal S1x1024x3600 .f32 := m ((c : Thread nD τ).loc main_arg3)
abbrev argA : FVec Ideal S1x8192x1024 .f32 := m ((c : Thread nD τ).loc main_arg4)
abbrev argP : FVec Ideal S1x8192x3600 .f32 := m ((c : Thread nD τ).loc main_arg5)

theorem rows_apply (x : FVec Ideal S1x8192x1024 .f32) (n : Fin 8192) (l : Fin 1024) :
    shapeCast S8192x1024 x shapeCasts_S1x8192x1024_S8192x1024 (ix2 n l) = x (ix3 0 n l) := by pointwise

theorem weights_apply (w : FVec Ideal S1x1024x3600 .f32) (k : Fin 3600) (l : Fin 1024) :
    truncf (F := Ideal) .bf16 (transpose S3600x1024 [1, 0] (shapeCast S1024x3600 w shapeCasts_S1x1024x3600_S1024x3600)
      transposes_S1024x3600_S3600x1024_1_0) bitsLt_bf16_f32 (ix2 k l) = w (ix3 0 l k) := by pointwise

theorem cotangent_apply (p : FVec Ideal S1x8192x3600 .f32) (n : Fin 8192) (k : Fin 3712) :
    truncf (F := Ideal) .bf16 (pad S8192x3712 ![0, 0] ![0, 112] ![0, 0] (shapeCast S8192x3600 p shapeCasts_S1x8192x3600_S8192x3600)
      (sitofp (F := Ideal) .f32 (constantI S_ 32 0#32)) pads_S8192x3600_S8192x3712_000_01120 h_S_) bitsLt_bf16_f32 (ix2 n k)
      = if h : k.val < 3600 then p (ix3 0 n ⟨k.val, h⟩) else 0 := by
  pointwise
  exact dite_congr rfl (fun _ => rfl) (fun _ => sitofp_zero (φ := .f32))

theorem host_w (k : Fin 3600) (l : Fin 1024) : (V m c main_v2 : FVec Ideal S3600x1024 .bf16) (ix2 k l) = argW m c (ix3 0 l k) := by
  have e : @Eq (FVec Ideal S3600x1024 .bf16) (V m c main_v2) (truncf (F := Ideal) .bf16 (transpose S3600x1024 [1, 0]
      (shapeCast S1024x3600 (argW m c) shapeCasts_S1x1024x3600_S1024x3600)
      transposes_S1024x3600_S3600x1024_1_0) bitsLt_bf16_f32) := by
    show StableHlo.after _ _ _ = _
    simp only [hostOps0, hostOps0_1, hostOps0_2, List.flatten_cons, List.flatten_nil, List.append_nil, List.cons_append,
      List.nil_append, StableHlo.after_cons, StableHlo.after_nil]
    after_results_simp
    rfl
  rw [e, weights_apply]

theorem host_dp (n : Fin 8192) (k : Fin 3712) : (V m c main_v5 : FVec Ideal S8192x3712 .bf16) (ix2 n k)
    = if h : k.val < 3600 then argP m c (ix3 0 n ⟨k.val, h⟩) else 0 := by
  have e : @Eq (FVec Ideal S8192x3712 .bf16) (V m c main_v5) (truncf (F := Ideal) .bf16 (pad S8192x3712 ![0, 0] ![0, 112] ![0, 0]
      (shapeCast S8192x3600 (argP m c) shapeCasts_S1x8192x3600_S8192x3600)
      (sitofp (F := Ideal) .f32 (constantI S_ 32 0#32)) pads_S8192x3600_S8192x3712_000_01120 h_S_) bitsLt_bf16_f32) := by
    show StableHlo.after _ _ _ = _
    simp only [hostOps0, hostOps0_1, hostOps0_2, List.flatten_cons, List.flatten_nil, List.append_nil, List.cons_append,
      List.nil_append, StableHlo.after_cons, StableHlo.after_nil]
    after_results_simp
    rfl
  rw [e, cotangent_apply]

theorem host_x (n : Fin 8192) (l : Fin 1024) : (V m c main_v6 : FVec Ideal S8192x1024 .f32) (ix2 n l) = argX m c (ix3 0 n l) := by
  have e : @Eq (FVec Ideal S8192x1024 .f32) (V m c main_v6) (shapeCast S8192x1024 (argX m c) shapeCasts_S1x8192x1024_S8192x1024) := by
    show StableHlo.after _ _ _ = _
    simp only [hostOps0, hostOps0_1, hostOps0_2, List.flatten_cons, List.flatten_nil, List.append_nil, List.cons_append,
      List.nil_append, StableHlo.after_cons, StableHlo.after_nil]
    after_results_simp
    rfl
  rw [e, rows_apply]

theorem host_dxa (n : Fin 8192) (l : Fin 1024) : (V m c main_v7 : FVec Ideal S8192x1024 .f32) (ix2 n l) = argA m c (ix3 0 n l) := by
  have e : @Eq (FVec Ideal S8192x1024 .f32) (V m c main_v7) (shapeCast S8192x1024 (argA m c) shapeCasts_S1x8192x1024_S8192x1024) := by
    show StableHlo.after _ _ _ = _
    simp only [hostOps0, hostOps0_1, hostOps0_2, List.flatten_cons, List.flatten_nil, List.append_nil, List.cons_append,
      List.nil_append, StableHlo.after_cons, StableHlo.after_nil]
    after_results_simp
    rfl
  rw [e, rows_apply]

theorem host_scale (l : Fin 1024) : (V m c main_v9 : FVec Ideal S1x1024 .f32) (ix2 0 l) = (1 : EReal) + argS m c (ix2 0 l) := by
  have e : @Eq (FVec Ideal S1x1024 .f32) (V m c main_v9)
      (addf (broadcastInDim S1x1024 ![] bcast_S_S1x1024 (constant (F := Ideal) S_ .f32 0x3F800000#32)) (argS m c)) := by
    show StableHlo.after _ _ _ = _
    simp only [hostOps0, hostOps0_1, hostOps0_2, List.flatten_cons, List.flatten_nil, List.append_nil, List.cons_append,
      List.nil_append, StableHlo.after_cons, StableHlo.after_nil]
    after_results_simp
  rw [e]
  pointwise

/-! ## The blocks -/

variable (t : Fin cfg0.N)

theorem idx0 : win0_0.index t 0 = t.val ∧ win0_0.index t 1 = 0 := (by decide +kernel : ∀ t : Fin grid0.N, win0_0.index t 0 = t.val ∧ win0_0.index t 1 = 0) t
theorem idx1 : win0_1.index t 0 = t.val ∧ win0_1.index t 1 = 0 := (by decide +kernel : ∀ t : Fin grid0.N, win0_1.index t 0 = t.val ∧ win0_1.index t 1 = 0) t
theorem idx2 : win0_2.index t 0 = t.val ∧ win0_2.index t 1 = 0 := (by decide +kernel : ∀ t : Fin grid0.N, win0_2.index t 0 = t.val ∧ win0_2.index t 1 = 0) t
theorem idx3 : win0_3.index t 0 = 0 ∧ win0_3.index t 1 = 0 := (by decide +kernel : ∀ t : Fin grid0.N, win0_3.index t 0 = 0 ∧ win0_3.index t 1 = 0) t
theorem idx4 : win0_4.index t 0 = t.val ∧ win0_4.index t 1 = 0 := (by decide +kernel : ∀ t : Fin grid0.N, win0_4.index t 0 = t.val ∧ win0_4.index t 1 = 0) t

/-- Row `r` of block `t` is row `1024 t + r` of the array. -/
def at_ (r : Fin 1024) : Fin 8192 := ⟨1024 * t.val + r.val, by have := t.isLt; have : cfg0.N = 8 := N_0; omega⟩

theorem blk_dp (r : Fin 1024) (k : Fin 3712) : (iblk m c 0 t : FVec Ideal S1024x3712 .bf16) (ix2 r k) = V m c main_v5 (ix2 (at_ t r) k) := by
  unfold iblk
  rw [View.read_apply]
  show V m c main_v5 _ = V m c main_v5 _
  congr 1
  funext a
  apply Fin.ext
  match a with
  | ⟨0, _⟩ => show win0_0.index t 0 * 1024 + 1 * r.val = 1024 * t.val + r.val; rw [(idx0 t).1]; omega
  | ⟨1, _⟩ => show win0_0.index t 1 * 3712 + 1 * k.val = k.val; rw [(idx0 t).2]; omega

theorem blk_x (r : Fin 1024) (k : Fin 1024) : (iblk m c 1 t : FVec Ideal S1024x1024 .f32) (ix2 r k) = V m c main_v6 (ix2 (at_ t r) k) := by
  unfold iblk
  rw [View.read_apply]
  show V m c main_v6 _ = V m c main_v6 _
  congr 1
  funext a
  apply Fin.ext
  match a with
  | ⟨0, _⟩ => show win0_1.index t 0 * 1024 + 1 * r.val = 1024 * t.val + r.val; rw [(idx1 t).1]; omega
  | ⟨1, _⟩ => show win0_1.index t 1 * 1024 + 1 * k.val = k.val; rw [(idx1 t).2]; omega

theorem blk_dxa (r : Fin 1024) (k : Fin 1024) : (iblk m c 2 t : FVec Ideal S1024x1024 .f32) (ix2 r k) = V m c main_v7 (ix2 (at_ t r) k) := by
  unfold iblk
  rw [View.read_apply]
  show V m c main_v7 _ = V m c main_v7 _
  congr 1
  funext a
  apply Fin.ext
  match a with
  | ⟨0, _⟩ => show win0_2.index t 0 * 1024 + 1 * r.val = 1024 * t.val + r.val; rw [(idx2 t).1]; omega
  | ⟨1, _⟩ => show win0_2.index t 1 * 1024 + 1 * k.val = k.val; rw [(idx2 t).2]; omega

theorem blk_scale (k : Fin 1024) : (iblk m c 3 t : FVec Ideal S1x1024 .f32) (ix2 0 k) = V m c main_v9 (ix2 0 k) := by
  unfold iblk
  rw [View.read_apply]
  show V m c main_v9 _ = V m c main_v9 _
  congr 1
  funext a
  apply Fin.ext
  match a with
  | ⟨0, _⟩ => show win0_3.index t 0 * 1 + 1 * 0 = 0; rw [(idx3 t).1]
  | ⟨1, _⟩ => show win0_3.index t 1 * 1024 + 1 * k.val = k.val; rw [(idx3 t).2]; omega

end Cert.InBlock
-- ==== Proof.InSum.lean ====
/-
  What the kernel of the input projection's gradient leaves in its two result arrays.
-/
module

public import proofs.«01_k».proof.Proof.InArray

@[expose] public section

set_option maxRecDepth 16384

noncomputable section

namespace Cert.InBlock

open Cert.RowMath Cert.RowStore Cert.KernelIdeal Cert.KernelIdeal.Gen Idealize.ShloMosaic Idealize.ShloMosaic.TcCoe Idealize.SL.Sem
open Idealize.ShloMosaic.Pipeline (Dat)

/-- The real numbers behind one device's arguments: activations, scale, transposed weights, cotangent of the projection. -/
structure Reals where
  X : Fin 8192 → Fin 1024 → ℝ
  S : Fin 1024 → ℝ
  W : Fin 3600 → Fin 1024 → ℝ
  P : Fin 8192 → Fin 3600 → ℝ

namespace Reals
variable (q : Reals)

/-- The cotangent of the modulated input. -/
def G (n : Fin 8192) (l : Fin 1024) : ℝ := ∑ k, q.P n k * q.W k l
/-- The cotangent of the normalised input. -/
def N (n : Fin 8192) (l : Fin 1024) : ℝ := q.G n l * (1 + q.S l)
/-- The normalised input. -/
def xhat (n : Fin 8192) (l : Fin 1024) : ℝ := dev (q.X n) l * rstd (q.X n)
/-- Sum of a column over the rows below `b`. -/
def below (f : Fin 8192 → ℝ) (b : ℕ) : ℝ := ∑ n ∈ Finset.range b, if h : n < 8192 then f ⟨n, h⟩ else 0

theorem below_zero (f : Fin 8192 → ℝ) : below f 0 = 0 := by simp [below]

theorem below_all (f : Fin 8192 → ℝ) : below f 8192 = ∑ n, f n := by
  unfold below
  rw [Finset.sum_range]
  exact Finset.sum_congr rfl fun n _ => dif_pos n.isLt

theorem below_add (f : Fin 8192 → ℝ) (t : Fin cfg0.N) :
    below f (1024 * t.val + 1024) = below f (1024 * t.val) + ∑ r : Fin 1024, f (at_ t r) := by
  unfold below
  rw [Finset.sum_range_add, Finset.sum_range (n := 1024)]
  congr 1
  refine Finset.sum_congr rfl fun r _ => ?_
  have h : 1024 * t.val + r.val < 8192 := (at_ t r).isLt
  rw [dif_pos h]
  rfl

end Reals

variable (m : (ℓ : Loc nD τ sig) → Buf (Elt Ideal) ℓ) (c : Dev nD)

/-- The arguments of device `c` are these reals. -/
structure Reals.Of (q : Reals) : Prop where
  x : ∀ n l, argX m c (ix3 0 n l) = (q.X n l : EReal)
  s : ∀ l, argS m c (ix2 0 l) = (q.S l : EReal)
  w : ∀ k l, argW m c (ix3 0 l k) = (q.W k l : EReal)
  p : ∀ n k, argP m c (ix3 0 n k) = (q.P n k : EReal)

variable (q : Reals) (hq : Reals.Of m c q) (t : Fin cfg0.N)

theorem wts_eq : wts (F := Ideal) c (V m c main_v2) = V m c main_v2 := rfl

/-- The padding columns of the cotangent and the padding rows of the weights meet in zero terms. -/
theorem sum_padded (f : Fin 3712 → EReal) (g : Fin 3600 → EReal) (h1 : ∀ (k : Fin 3712) (h : k.val < 3600), f k = g ⟨k.val, h⟩)
    (h2 : ∀ k : Fin 3712, ¬ k.val < 3600 → f k = 0) : ∑ k, f k = ∑ k, g k := by
  have e := Fin.sum_univ_add (a := 3600) (b := 112) f
  refine e.trans ?_
  rw [show (∑ i : Fin 112, f (Fin.natAdd 3600 i)) = 0 from Finset.sum_eq_zero fun i _ => h2 _ (by simp), add_zero]
  exact Finset.sum_congr rfl fun i _ => h1 _ _

include hq in
theorem g_apply (r l : Fin 1024) :
    k0_pay6 (F := Ideal) (iblk m c 0 t) (padded (wts c (V m c main_v2))) (ix2 r l) = (q.G (at_ t r) l : EReal) := by
  rw [prod_apply, wts_eq]
  refine (sum_padded _ (fun k => ((q.P (at_ t r) k * q.W k l : ℝ) : EReal)) (fun k h => ?_) (fun k h => ?_)).trans (sum_coe _)
  · rw [blk_dp, host_dp, dif_pos h, hq.p]
    unfold padded
    rw [dif_pos (show (ix2 k l 0).val < 3600 from h)]
    refine (congrArg _ (host_w m c ⟨k.val, h⟩ l)).trans ?_
    rw [hq.w, EReal.coe_mul]
  · rw [blk_dp, host_dp, dif_neg h, zero_mul]

include hq in
theorem x_apply (r l : Fin 1024) : (iblk m c 1 t : FVec Ideal S1024x1024 .f32) (ix2 r l) = (q.X (at_ t r) l : EReal) := by
  rw [blk_x, host_x, hq.x]

include hq in
theorem n_apply (r l : Fin 1024) :
    k0_pay11 (F := Ideal) (iblk m c 0 t) (padded (wts c (V m c main_v2))) (iblk m c 3 t) (ix2 r l) = (q.N (at_ t r) l : EReal) := by
  rw [scaled_apply, g_apply m c q hq, blk_scale, host_scale, hq.s]
  unfold Reals.N
  rw [EReal.coe_mul, EReal.coe_add, EReal.coe_one]

/-- The weights in the scratch buffer's layout. -/
abbrev weights : FVec Ideal S3712x1024 .bf16 := padded (F := Ideal) (wts (F := Ideal) c (V m c main_v2))

theorem scr_first (h0 : t.val % 8 = 0) : (outsAt0 m c t.val t.isLt).2.2 = weights m c := by
  rw [outsAt0_A m c t h0 h0 h0]
  dsimp only
  exact scr_A (F := Ideal) ..

theorem scr_later (h0 : ¬t.val % 8 = 0) : (outsAt0 m c t.val t.isLt).2.2
    = (outsAt0 m c (t.val - 1) (Nat.lt_of_le_of_lt (Nat.sub_le _ _) t.isLt)).2.2 := by
  rw [outsAt0_B m c t h0 h0 h0]
  dsimp only
  rfl

/-- After every point the scratch buffer holds the weights. -/
theorem scr_all (n : ℕ) (hn : n < cfg0.N) : (outsAt0 m c n hn).2.2 = weights m c := by
  have hN := lt_of_lt_of_eq hn (show cfg0.N = 8 from N_0)
  induction n with
  | zero => exact scr_first m c ⟨0, hn⟩ rfl
  | succ n ih => exact (scr_later m c ⟨n + 1, hn⟩ (show ¬ (n + 1) % 8 = 0 by omega)).trans (ih (by omega) (by omega))

/-- What a point leaves of the first result: the gradient of its rows. -/
theorem grad_all : (outsAt0 m c t.val t.isLt).1
    = k0_pay1 (F := Ideal) (k0_pay8 (iblk m c 1 t)) (k0_pay9 (iblk m c 1 t)) (k0_pay10 (iblk m c 2 t))
        (k0_pay11 (iblk m c 0 t) (weights m c) (iblk m c 3 t)) := by
  by_cases h0 : t.val % 8 = 0
  · rw [outsAt0_A m c t h0 h0 h0]
    dsimp only
    exact grad_A (F := Ideal) ..
  · rw [outsAt0_B m c t h0 h0 h0]
    dsimp only
    refine (grad_B (F := Ideal) ..).trans ?_
    rw [scr_all]

theorem acc_first (h0 : t.val % 8 = 0) (r : Fin 8) (l : Fin 1024) : @Eq EReal ((outsAt0 m c t.val t.isLt).2.1 (ix2 r l))
    (if r.val = 1 then k0_pay3 (F := Ideal) (k0_pay6 (iblk m c 0 t) (weights m c)) (row (k0_pay5 (F := Ideal)) 1) (ix2 0 l)
      else if r.val = 0 then k0_pay2 (F := Ideal) (k0_pay6 (iblk m c 0 t) (weights m c)) (k0_pay9 (iblk m c 1 t)) (row (k0_pay5 (F := Ideal)) 0) (ix2 0 l)
      else k0_pay5 (F := Ideal) (ix2 r l)) := by
  rw [outsAt0_A m c t h0 h0 h0]
  dsimp only
  exact acc_A (F := Ideal) ..

/-- The second result's block as the point before left it. -/
abbrev before : FVec Ideal S8x1024 .f32 := (outsAt0 m c (t.val - 1) (Nat.lt_of_le_of_lt (Nat.sub_le _ _) t.isLt)).2.1

theorem acc_later (h0 : ¬t.val % 8 = 0) (r : Fin 8) (l : Fin 1024) : @Eq EReal ((outsAt0 m c t.val t.isLt).2.1 (ix2 r l))
    (if r.val = 1 then k0_pay3 (F := Ideal) (k0_pay6 (iblk m c 0 t) (weights m c)) (row (before m c t) 1) (ix2 0 l)
      else if r.val = 0 then k0_pay2 (F := Ideal) (k0_pay6 (iblk m c 0 t) (weights m c)) (k0_pay9 (iblk m c 1 t)) (row (before m c t) 0) (ix2 0 l)
      else before m c t (ix2 r l)) := by
  rw [outsAt0_B m c t h0 h0 h0]
  dsimp only
  refine (acc_B (F := Ideal) ..).trans ?_
  rw [scr_all]

include hq in
theorem add_scale (a : FVec Ideal S1x1024 .f32) (l : Fin 1024) (b : ℝ) (h : a (ix2 0 l) = (b : EReal)) :
    k0_pay2 (F := Ideal) (k0_pay6 (iblk m c 0 t) (weights m c)) (k0_pay9 (iblk m c 1 t)) a (ix2 0 l)
      = ((b + ∑ r : Fin 1024, q.G (at_ t r) l * q.xhat (at_ t r) l : ℝ) : EReal) := by
  rw [scale_apply, h, EReal.coe_add]
  refine congrArg _ (.trans (Finset.sum_congr rfl fun r _ => ?_) (sum_coe _))
  rw [g_apply m c q hq, norm_apply _ _ r (x_apply m c q hq t r), EReal.coe_mul]
  rfl

include hq in
theorem add_shift (a : FVec Ideal S1x1024 .f32) (l : Fin 1024) (b : ℝ) (h : a (ix2 0 l) = (b : EReal)) :
    k0_pay3 (F := Ideal) (k0_pay6 (iblk m c 0 t) (weights m c)) a (ix2 0 l)
      = ((b + ∑ r : Fin 1024, q.G (at_ t r) l : ℝ) : EReal) := by
  rw [shift_apply, h, EReal.coe_add]
  refine congrArg _ (.trans (Finset.sum_congr rfl fun r _ => ?_) (sum_coe _))
  rw [g_apply m c q hq]

/-- The second result's block: row 0 the scale's gradient and row 1 the shift's over the rows below `b`, the other rows zero. -/
def partials (b : ℕ) (r : Fin 8) (l : Fin 1024) : EReal :=
  if r.val = 1 then (Reals.below (fun n => q.G n l) b : EReal)
  else if r.val = 0 then (Reals.below (fun n => q.G n l * q.xhat n l) b : EReal) else 0

theorem partials_step (r : Fin 8) (l : Fin 1024) (x y z : EReal)
    (hx : x = ((Reals.below (fun n => q.G n l) (1024 * t.val) + ∑ r : Fin 1024, q.G (at_ t r) l : ℝ) : EReal))
    (hy : y = ((Reals.below (fun n => q.G n l * q.xhat n l) (1024 * t.val) + ∑ r : Fin 1024, q.G (at_ t r) l * q.xhat (at_ t r) l : ℝ) : EReal))
    (hz : r.val ≠ 1 → r.val ≠ 0 → z = 0) :
    (if r.val = 1 then x else if r.val = 0 then y else z) = partials q (1024 * t.val + 1024) r l := by
  unfold partials
  rw [Reals.below_add, Reals.below_add, hx, hy]
  split_ifs with h1 h0
  · rfl
  · rfl
  · exact hz h1 h0

include hq in
/-- What the points up to `t` leave of the second result. -/
theorem acc_all (n : ℕ) (hn : n < cfg0.N) (r : Fin 8) (l : Fin 1024) :
    @Eq EReal ((outsAt0 m c n hn).2.1 (ix2 r l)) (partials q (1024 * n + 1024) r l) := by
  have hN := lt_of_lt_of_eq hn (show cfg0.N = 8 from N_0)
  induction n generalizing r with
  | zero =>
    have h5 : ∀ j, k0_pay5 (F := Ideal) j = (0 : EReal) := fun j => by pointwise [k0_pay5]
    refine (acc_first m c ⟨0, hn⟩ rfl r l).trans ?_
    refine partials_step q ⟨0, hn⟩ r l _ _ _ ?_ ?_ fun _ _ => h5 _
    · rw [add_shift m c q hq ⟨0, hn⟩ _ l 0 (h5 _)]; simp [Reals.below_zero]
    · rw [add_scale m c q hq ⟨0, hn⟩ _ l 0 (h5 _)]; simp [Reals.below_zero]
  | succ n ih =>
    have ih' : ∀ r, before m c ⟨n + 1, hn⟩ (ix2 r l) = partials q (1024 * (n + 1)) r l := fun r => ih (by omega) r (by omega)
    refine (acc_later m c ⟨n + 1, hn⟩ (show ¬ (n + 1) % 8 = 0 by omega) r l).trans ?_
    refine partials_step q ⟨n + 1, hn⟩ r l _ _ _ ?_ ?_ fun h1 h0 => (ih' r).trans ?_
    · exact add_shift m c q hq ⟨n + 1, hn⟩ _ l _ (ih' 1)
    · exact add_scale m c q hq ⟨n + 1, hn⟩ _ l _ (ih' 0)
    · unfold partials; rw [if_neg h1, if_neg h0]

end Cert.InBlock
-- ==== Proof.InFinal.lean ====
/-
  The two result arrays of the input projection's gradient after the run.
-/
module

public import proofs.«01_k».proof.Proof.InSum

@[expose] public section

set_option maxRecDepth 16384

noncomputable section

namespace Cert.InBlock

open Cert.RowMath Cert.RowStore Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (q : Reals) (hq : Reals.Of m c q)

/-- Row `r` of block `t` of the first result array is what point `t` left in that row. -/
theorem grad_block (t : Fin cfg0.N) (r l : Fin 1024) :
    @Eq EReal ((dats m 0 c).arrAt 4 cfg0.N (ix2 (at_ t r) l)) ((outsAt0 m c t.val t.isLt).1 (ix2 r l)) := by
  have e := congrFun (Cert.KernelIdeal.Value.blocks4 m c t (flush0_4 t)) (ix2 r l)
  rw [Cert.KernelIdeal.Value.flushed4] at e
  refine Eq.trans ?_ e
  rw [View.read_apply]
  show (dats m 0 c).arrAt 4 cfg0.N _ = (dats m 0 c).arrAt 4 cfg0.N _
  congr 1
  funext a
  apply Fin.ext
  match a with
  | ⟨0, _⟩ => show 1024 * t.val + r.val = win0_4.index t 0 * 1024 + 1 * r.val; rw [(idx4 t).1]; omega
  | ⟨1, _⟩ => show l.val = win0_4.index t 1 * 1024 + 1 * l.val; rw [(idx4 t).2]; omega

include hq in
/-- The gradient of the layer's input. -/
theorem final_grad (n : Fin 8192) (l : Fin 1024) : @Eq EReal ((dats m 0 c).arrAt 4 cfg0.N (ix2 n l))
    (argA m c (ix3 0 n l) + (lnGrad (q.X n) (q.N n) l : EReal)) := by
  have hN : cfg0.N = 8 := N_0
  obtain ⟨t, r, rfl⟩ : ∃ (t : Fin cfg0.N) (r : Fin 1024), n = at_ t r :=
    ⟨⟨n.val / 1024, by omega⟩, ⟨n.val % 1024, by omega⟩, Fin.ext (show n.val = 1024 * (n.val / 1024) + n.val % 1024 by omega)⟩
  rw [grad_block, grad_all, grad_apply (iblk m c 1 t) (q.X (at_ t r)) r _ _ (q.N (at_ t r)) (x_apply m c q hq t r) (n_apply m c q hq t r),
    blk_dxa, host_dxa]

theorem idx5 (t : Fin cfg0.N) : win0_5.index t 0 = 0 ∧ win0_5.index t 1 = 0 :=
  (by decide +kernel : ∀ t : Fin grid0.N, win0_5.index t 0 = 0 ∧ win0_5.index t 1 = 0) t

include hq in
/-- The scale's gradient, the shift's, and six rows of zeros. -/
theorem final_acc (r : Fin 8) (l : Fin 1024) : @Eq EReal ((dats m 0 c).arrAt 5 cfg0.N (ix2 r l))
    (if r.val = 1 then ((∑ n, q.G n l : ℝ) : EReal) else if r.val = 0 then ((∑ n, q.G n l * q.xhat n l : ℝ) : EReal) else 0) := by
  have hN : cfg0.N = 8 := N_0
  have h7 : 7 < cfg0.N := by omega
  have e := congrFun ((dats m 0 c).read_blk_arrAt_eq_flushed 5 (fun t t' h h' hne => absurd (Fin.ext (by
      have := (flush0_5 t).mp h; have := (flush0_5 t').mp h'; have := t.isLt; have := t'.isLt; omega)) hne)
    cfg0.N ⟨7, h7⟩ h7 ((flush0_5 ⟨7, h7⟩).mpr rfl)) (ix2 r l)
  rw [Cert.KernelIdeal.Value.flushed5] at e
  refine Eq.trans ?_ (e.trans ((acc_all m c q hq 7 h7 r l).trans ?_))
  · rw [View.read_apply]
    show (dats m 0 c).arrAt 5 cfg0.N _ = (dats m 0 c).arrAt 5 cfg0.N _
    congr 1
    funext a
    apply Fin.ext
    match a with
    | ⟨0, _⟩ => show r.val = win0_5.index ⟨7, h7⟩ 0 * 8 + 1 * r.val; rw [(idx5 ⟨7, h7⟩).1]; omega
    | ⟨1, _⟩ => show l.val = win0_5.index ⟨7, h7⟩ 1 * 1024 + 1 * l.val; rw [(idx5 ⟨7, h7⟩).2]; omega
  · unfold partials
    rw [show 1024 * 7 + 1024 = 8192 from rfl, Reals.below_all, Reals.below_all]

end Cert.InBlock
-- ==== Proof.InRef.lean ====
/-
  The reference of the input projection's gradient, read element by element over variables.
-/
module

public import proofs.«01_k».proof.Proof.Gen.ReferenceIdeal.Run
public import proofs.«01_k».proof.Proof.RowMath
public import Idealize.ShloMosaic.Lib.Tactic

@[expose] public section

set_option maxRecDepth 16384

noncomputable section

namespace Cert.InRef

open Cert.RowMath Cert.ReferenceIdeal Cert.ReferenceIdeal.Gen Idealize.ShloMosaic Idealize.ShloMosaic.TcCoe Idealize.SL.Sem

abbrev Mat := FVec Ideal S1x8192x1024 .f32
abbrev Col := FVec Ideal S1x8192x1 .f32

/-- The value of a scalar word in every row. -/
def col (w : BitVec 32) : Col := broadcastInDim S1x8192x1 ![] bcast_S_S1x8192x1 (constant S_ .f32 w)
/-- A column spread over the rows. -/
def spread (x : Col) : Mat := broadcastInDim S1x8192x1024 ![0, 1, 2] bcast_S1x8192x1_S1x8192x1024_0_1_2 x
def rowSum (x : Mat) : FVec Ideal S1x8192 .f32 := Host.reduceAdd x (constant S_ .f32 0x00000000#32) reducesTo_S1x8192x1024_S1x8192_d2 h_S_
def sumB (x : Mat) : Col := broadcastInDim S1x8192x1 ![0, 1] bcast_S1x8192_S1x8192x1_0_1 (rowSum x)
def sumC (x : Mat) : Col := shapeCast _ (rowSum x) shapeCasts_S1x8192_S1x8192x1
/-- A column summed over its one entry a row and spread again. -/
def respread (x : Col) : Mat := broadcastInDim S1x8192x1024 ![0, 1] bcast_S1x8192_S1x8192x1024_0_1
  (broadcastInDim S1x8192 ![1] bcast_S8192_S1x8192_1 (Host.reduceAdd x (constant S_ .f32 0x00000000#32) reducesTo_S1x8192x1_S8192_d0_2 h_S_))

variable (x a : Mat) (s : FVec Ideal S1x1024 .f32) (w : FVec Ideal S1x1024x3600 .f32) (p : FVec Ideal S1x8192x3600 .f32)

def devs : Mat := subf x (spread (Host.divf (sumB x) (col 0x44800000#32)))
def vars : Col := addf (Host.divf (sumB (mulf (devs x) (devs x))) (col 0x44800000#32)) (col 0x3727C5AC#32)
def invs : Col := Host.rsqrt (vars x)
def grads : Mat := Host.dotGeneral dot_S1x8192x3600_S1024x3600_S1x8192x1024_2_1_01_0_n_n none p (shapeCast _ w shapeCasts_S1x1024x3600_S1024x3600)
def onePlus : Mat := broadcastInDim S1x8192x1024 ![0, 1, 2] bcast_S1x1x1024_S1x8192x1024_0_1_2 (addf (broadcastInDim S1x1x1024 ![] bcast_S_S1x1x1024 (constant S_ .f32 0x3F800000#32)) (broadcastInDim S1x1x1024 ![0, 2] bcast_S1x1024_S1x1x1024_0_2 s))

/-- The gradient through a row's mean and variance, from the cotangent `g` of the normalised row. -/
def direct (x g : Mat) : Mat := mulf g (spread (invs x))
def viaVar (x g : Mat) : Mat := mulf
  (respread (Host.divf (mulf (sumC (mulf (devs x) g)) (mulf (col 0xBF000000#32) (Host.divf (invs x) (vars x)))) (col 0x44800000#32)))
  (mulf (broadcastInDim S1x8192x1024 ![] bcast_S_S1x8192x1024 (constant S_ .f32 0x40000000#32)) (devs x))
def viaMean (x g : Mat) : Mat := respread (Host.divf (addf (sumC (Host.negf (direct x g))) (sumC (Host.negf (viaVar x g)))) (col 0x44800000#32))
def total (x a g : Mat) : FVec Ideal S8192x1024 .f32 :=
  shapeCast _ (addf (addf (addf a (direct x g)) (viaVar x g)) (viaMean x g)) shapeCasts_S1x8192x1024_S8192x1024

def colSum (x : Mat) : FVec Ideal S1x1024 .f32 := broadcastInDim S1x1024 ![1] bcast_S1024_S1x1024_1
  (Host.reduceAdd (shapeCast _ (Host.reduceAdd x (constant S_ .f32 0x00000000#32) reducesTo_S1x8192x1024_S1x1024_d1 h_S_) shapeCasts_S1x1024_S1x1x1024) (constant S_ .f32 0x00000000#32) reducesTo_S1x1x1024_S1024_d0_1 h_S_)
def stacked (d e : FVec Ideal S1x1024 .f32) : FVec Ideal S8x1024 .f32 := concatenate S8x1024 0
  [⟨S1x1024, (d : (⟨S1x1024, .f32⟩ : BufTy).Contents (Elt Ideal))⟩, ⟨S1x1024, (e : (⟨S1x1024, .f32⟩ : BufTy).Contents (Elt Ideal))⟩,
   ⟨S6x1024, ((broadcastInDim S6x1024 ![] bcast_S_S6x1024 (constant (F := Ideal) S_ .f32 0x00000000#32)) : (⟨S6x1024, .f32⟩ : BufTy).Contents (Elt Ideal))⟩]
  concatenates_S1x1024_S1x1024_S6x1024_S8x1024_d0

theorem sumB_apply (y : Mat) (n : Fin 8192) : sumB y (ix3 0 n 0) = ∑ l : Fin 1024, y (ix3 0 n l) := by
  pointwise [sumB, rowSum]
theorem sumC_apply (y : Mat) (n : Fin 8192) : sumC y (ix3 0 n 0) = ∑ l : Fin 1024, y (ix3 0 n l) := by
  pointwise [sumC, rowSum]
theorem spread_apply (y : Col) (n : Fin 8192) (l : Fin 1024) : spread y (ix3 0 n l) = y (ix3 0 n 0) := by
  pointwise [spread]
/-- A sum over axes of length one has one term. -/
theorem reduce_single {s t : Shape} {axes : List (Fin s.rank)} (h : s.ReducesTo axes t) (x : s.Idx → EReal) (j : t.Idx) (i₀ : s.Idx)
    (hi : ∀ i, h.drop i = j ↔ i = i₀) : Ideal.hostReduceAdd h x 0 j = x i₀ := by
  unfold Ideal.hostReduceAdd
  rw [zero_add, Finset.filter_congr (q := fun i => i = i₀) (fun i _ => hi i), Finset.filter_eq' Finset.univ i₀, if_pos (Finset.mem_univ _), Finset.sum_singleton]

theorem respread_apply (y : Col) (n : Fin 8192) (l : Fin 1024) : respread y (ix3 0 n l) = y (ix3 0 n 0) := by
  pointwise [respread]
  refine reduce_single _ _ _ _ fun i => ?_
  idx_vars i
  refine ⟨fun h => ?_, fun h => ?_⟩
  · have e : i1 = n := congrFun h 0
    rw [Subsingleton.elim i0 0, Subsingleton.elim i2 0, e]
  · have e : i1 = n := congrFun h 1
    rw [e]
    funext a
    fin_cases a
    rfl
theorem colSum_apply (y : Mat) (l : Fin 1024) : colSum y (ix2 0 l) = ∑ n : Fin 8192, y (ix3 0 n l) := by
  pointwise [colSum]
  refine (reduce_single _ _ _ (ix3 0 0 l) fun i => ?_).trans (by pointwise)
  idx_vars i
  refine ⟨fun h => ?_, fun h => ?_⟩
  · have e : i2 = l := congrFun h 0
    rw [Subsingleton.elim i0 0, Subsingleton.elim i1 0, e]
  · have e : i2 = l := congrFun h 2
    rw [e]
    funext a
    fin_cases a
    rfl
theorem grads_apply (n : Fin 8192) (l : Fin 1024) : grads w p (ix3 0 n l) = ∑ k : Fin 3600, p (ix3 0 n k) * w (ix3 0 l k) := by
  pointwise [grads]
theorem onePlus_apply (n : Fin 8192) (l : Fin 1024) : onePlus s (ix3 0 n l) = 1 + s (ix2 0 l) := by
  pointwise [onePlus]
theorem col_apply (v : BitVec 32) (n : Fin 8192) : col v (ix3 0 n 0) = Ideal.ofBits .f32 v := by
  pointwise [col]
theorem stacked_apply (d e : FVec Ideal S1x1024 .f32) (r : Fin 8) (l : Fin 1024) :
    stacked d e (ix2 r l) = if r.val = 1 then e (ix2 0 l) else if r.val = 0 then d (ix2 0 l) else 0 := by
  pointwise [stacked]
  by_cases h0 : r.val = 0
  · refine (dif_pos (show r.val < 1 by omega)).trans ?_
    refine (congrArg (fun k => d (ix2 k l)) (Subsingleton.elim _ 0)).trans (Eq.symm ?_)
    exact (if_neg (by rw [h0]; decide)).trans (if_pos h0)
  · refine (dif_neg (show ¬ r.val < 1 by omega)).trans ?_
    by_cases h1 : r.val = 1
    · refine (dif_pos (show r.val - 1 < 1 by omega)).trans ?_
      exact (congrArg (fun k => e (ix2 k l)) (Subsingleton.elim _ 0)).trans (if_pos h1).symm
    · refine (dif_neg (show ¬ r.val - 1 < 1 by omega)).trans ?_
      exact ((if_neg h1).trans (if_neg h0)).symm

/-! ## The values over the reals -/

variable (x' g' : Fin 1024 → ℝ) (g : Mat) (n : Fin 8192)

theorem devs_apply (hx : ∀ l, x (ix3 0 n l) = (x' l : EReal)) (l : Fin 1024) : devs x (ix3 0 n l) = (dev x' l : EReal) := by
  pointwise [devs]
  rw [spread_apply]
  pointwise
  rw [sumB_apply, col_apply]
  simp only [hx, word_1024, sum_coe]
  rw [div_coe_coe _ (by norm_num), ← EReal.coe_sub]
  rfl

theorem vars_apply (hx : ∀ l, x (ix3 0 n l) = (x' l : EReal)) : vars x (ix3 0 n 0) = (vare x' : EReal) := by
  pointwise [vars]
  rw [sumB_apply, col_apply, col_apply]
  pointwise
  simp only [devs_apply x x' n hx, word_1024, word_eps, ← EReal.coe_mul, sum_coe]
  rw [div_coe_coe _ (by norm_num), ← EReal.coe_add]
  rfl

theorem invs_apply (hx : ∀ l, x (ix3 0 n l) = (x' l : EReal)) : invs x (ix3 0 n 0) = (rstd x' : EReal) := by
  pointwise [invs]
  rw [vars_apply x x' n hx]
  exact rsqrt_coe (vare_pos x')

theorem direct_apply (hx : ∀ l, x (ix3 0 n l) = (x' l : EReal)) (hg : ∀ l, g (ix3 0 n l) = (g' l : EReal)) (l : Fin 1024) :
    direct x g (ix3 0 n l) = ((g' l * rstd x' : ℝ) : EReal) := by
  pointwise [direct]
  rw [spread_apply, invs_apply x x' n hx, hg, EReal.coe_mul]

theorem viaVar_apply (hx : ∀ l, x (ix3 0 n l) = (x' l : EReal)) (hg : ∀ l, g (ix3 0 n l) = (g' l : EReal)) (l : Fin 1024) :
    viaVar x g (ix3 0 n l)
      = (((∑ k, dev x' k * g' k) * (-(1/2) * (rstd x' / vare x')) / 1024 * (2 * dev x' l) : ℝ) : EReal) := by
  pointwise [viaVar]
  rw [respread_apply]
  pointwise
  rw [sumC_apply, col_apply, col_apply, devs_apply x x' n hx, invs_apply x x' n hx, vars_apply x x' n hx]
  pointwise
  simp only [devs_apply x x' n hx, hg, word_1024, word_two, word_neg_half, ← EReal.coe_mul, sum_coe]
  rw [div_coe_coe _ (vare_pos x').ne', ← EReal.coe_mul, ← EReal.coe_mul, div_coe_coe _ (by norm_num), ← EReal.coe_mul]

theorem viaMean_apply (hx : ∀ l, x (ix3 0 n l) = (x' l : EReal)) (hg : ∀ l, g (ix3 0 n l) = (g' l : EReal)) (l : Fin 1024) :
    viaMean x g (ix3 0 n l)
      = (((∑ k, -(g' k * rstd x') + ∑ k, -((∑ k, dev x' k * g' k) * (-(1/2) * (rstd x' / vare x')) / 1024 * (2 * dev x' k))) / 1024 : ℝ) : EReal) := by
  pointwise [viaMean]
  rw [respread_apply]
  pointwise
  rw [sumC_apply, sumC_apply, col_apply]
  pointwise
  simp only [direct_apply x x' g' g n hx hg, viaVar_apply x x' g' g n hx hg, word_1024, ← EReal.coe_neg, sum_coe]
  rw [← EReal.coe_add, div_coe_coe _ (by norm_num)]

/-- The gradient of the input: what reaches it directly and through the normalisation. -/
theorem total_apply (hx : ∀ l, x (ix3 0 n l) = (x' l : EReal)) (hg : ∀ l, g (ix3 0 n l) = (g' l : EReal)) (l : Fin 1024) :
    total x a g (ix2 n l) = a (ix3 0 n l) + (lnGrad x' g' l : EReal) := by
  pointwise [total]
  rw [direct_apply x x' g' g n hx hg, viaVar_apply x x' g' g n hx hg, viaMean_apply x x' g' g n hx hg, add_assoc, add_assoc,
    ← EReal.coe_add, ← EReal.coe_add, ← add_assoc, chain_eq]

variable (m : (ℓ : Loc nD τ sig) → Buf (Elt Ideal) ℓ) (c : Dev nD)

abbrev argX : Mat := m ((c.tc : Thread nD τ).loc main_arg0)
abbrev argS : FVec Ideal S1x1024 .f32 := m ((c.tc : Thread nD τ).loc main_arg1)
abbrev argW : FVec Ideal S1x1024x3600 .f32 := m ((c.tc : Thread nD τ).loc main_arg3)
abbrev argA : Mat := m ((c.tc : Thread nD τ).loc main_arg4)
abbrev argP : FVec Ideal S1x8192x3600 .f32 := m ((c.tc : Thread nD τ).loc main_arg5)

/-- The reference's run, its results by the names above. -/
theorem run (ρ : Dev nD → PrngReg) :
    θ_run defs (onTc (τ := τ) (main (F := Ideal))) ⟨m, fun _ => 0, ρ⟩ fun r => ∀ c : Dev nD,
      r.2.mem ((c.tc : Thread nD τ).loc main_v72) = total (argX m c) (argA m c) (mulf (grads (argW m c) (argP m c)) (onePlus (argS m c)))
      ∧ r.2.mem ((c.tc : Thread nD τ).loc main_v74) = stacked (colSum (mulf (mulf (devs (argX m c)) (spread (invs (argX m c)))) (grads (argW m c) (argP m c)))) (colSum (grads (argW m c) (argP m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run (F := Ideal) m ρ

end Cert.InRef
-- ==== Proof.Finite.lean ====
/-
  What the precondition says of one element: it is a real number.
-/
module

public import Idealize.ShloMosaic.PureOps
public import Idealize.ShloMosaic.Lib.Tactic
public import Idealize.ShloMosaic.Lib.KernelVsHost

@[expose] public section

noncomputable section

namespace Cert.Finite

open Idealize.ShloMosaic

/-- The word the precondition compares with is infinity. -/
theorem word_inf : Ideal.ofBits .f32 0x7F800000#32 = (⊤ : EReal) := by
  simp [Ideal.ofBits, Ideal.ieee]

/-- An element whose absolute value compares below infinity is a real number. -/
theorem coe_of_finite (x : EReal) (h : Ideal.cmp .olt (max x (-x)) (Ideal.ofBits .f32 0x7F800000#32) = 1#1) : x = (x.toReal : EReal) := by
  rw [word_inf] at h
  induction x with
  | bot => simp [Ideal.cmp] at h
  | top => simp [Ideal.cmp] at h
  | coe x => simp

end Cert.Finite

end
-- ==== Proof.RowFfn.lean ====
/-
  The forward layer around the feed-forward network and its gradient, as real numbers: what each row of the step's
  intermediate arrays is.
-/
module

public import proofs.«01_k».proof.Proof.RowMath

@[expose] public section

noncomputable section

namespace Cert.RowFfn

open Cert.RowMath Idealize.ShloMosaic

/-- The factor of the residual branches: the 32-bit float nearest to the fourth root of two. -/
def alpha : ℝ := 9975792 / 2 ^ 23

theorem word_alpha : Ideal.ofBits .f32 0x3F9837F0#32 = (alpha : EReal) := by
  simp [Ideal.ofBits, Ideal.ieee, alpha, -EReal.coe_mul]; norm_num

theorem word_zero : Ideal.ofBits .f32 0x00000000#32 = ((0 : ℝ) : EReal) := by
  simp [Ideal.ofBits, Ideal.ieee]

theorem max_coe (a b : ℝ) : max (a : EReal) (b : EReal) = ((max a b : ℝ) : EReal) :=
  (Monotone.map_max (f := fun x : ℝ => (x : EReal)) EReal.coe_strictMono.monotone).symm

/-- The real numbers behind the forward arguments. -/
structure Net where
  mixed : Fin 8192 → Fin 1024 → ℝ
  x : Fin 8192 → Fin 1024 → ℝ
  gate : Fin 1024 → ℝ
  scale : Fin 1024 → ℝ
  shift : Fin 1024 → ℝ
  wo : Fin 1024 → Fin 1024 → ℝ
  w : Fin 1024 → ℝ
  b : Fin 1024 → ℝ
  w1 : Fin 1024 → Fin 4096 → ℝ
  w2 : Fin 4096 → Fin 1024 → ℝ

namespace Net
variable (q : Net) (n : Fin 8192)

/-- The mixer's output. -/
def m (l : Fin 1024) : ℝ := ∑ k, q.mixed n k * q.wo k l
/-- The first residual sum. -/
def h1 (l : Fin 1024) : ℝ := alpha * q.x n l + q.gate l * q.m n l
/-- The first residual sum normalised. -/
def x1n (l : Fin 1024) : ℝ := dev (q.h1 n) l * rstd (q.h1 n)
/-- The first layer normalisation. -/
def x1 (l : Fin 1024) : ℝ := q.x1n n l * q.w l + q.b l
/-- The first layer normalisation's result, normalised again. -/
def x2n (l : Fin 1024) : ℝ := dev (q.x1 n) l * rstd (q.x1 n)
/-- The network's input. -/
def u2 (l : Fin 1024) : ℝ := q.x2n n l * (1 + q.scale l) + q.shift l
/-- The network's hidden values. -/
def a (j : Fin 4096) : ℝ := ∑ k, q.u2 n k * q.w1 k j

/-! The gradient against the cotangents `df` of the network's output and `dh` of the second residual sum. -/

variable (df dh : Fin 8192 → Fin 1024 → ℝ)

/-- The cotangent of the hidden values. -/
def da (j : Fin 4096) : ℝ := (∑ k, df n k * q.w2 j k) * (2 * max (q.a n j) 0)
/-- The cotangent of the network's input. -/
def du2 (l : Fin 1024) : ℝ := ∑ j, q.da n df j * q.w1 l j
/-- The cotangent of the first layer normalisation. -/
def dx1 (l : Fin 1024) : ℝ := alpha * dh n l + lnGrad (q.x1 n) (fun k => q.du2 n df k * (1 + q.scale k)) l
/-- The cotangent of the first residual sum. -/
def dh1 (l : Fin 1024) : ℝ := lnGrad (q.h1 n) (fun k => q.dx1 n df dh k * q.w k) l
end Net

/-- Sum of a column over the rows below `b`. -/
def below (f : Fin 8192 → ℝ) (b : ℕ) : ℝ := ∑ n ∈ Finset.range b, if h : n < 8192 then f ⟨n, h⟩ else 0

theorem below_zero (f : Fin 8192 → ℝ) : below f 0 = 0 := by simp [below]

theorem below_all (f : Fin 8192 → ℝ) : below f 8192 = ∑ n, f n := by
  unfold below
  rw [Finset.sum_range]
  exact Finset.sum_congr rfl fun n _ => dif_pos n.isLt

/-- Row `r` of block `t` of 512 rows. -/
def at_ (t : ℕ) (ht : t < 16) (r : Fin 512) : Fin 8192 := ⟨512 * t + r.val, by omega⟩

theorem below_add (f : Fin 8192 → ℝ) (t : ℕ) (ht : t < 16) :
    below f (512 * t + 512) = below f (512 * t) + ∑ r : Fin 512, f (at_ t ht r) := by
  unfold below
  rw [Finset.sum_range_add, Finset.sum_range (n := 512)]
  congr 1
  refine Finset.sum_congr rfl fun r _ => ?_
  have h : 512 * t + r.val < 8192 := (at_ t ht r).isLt
  rw [dif_pos h]
  rfl

/-- A sum over 4096 columns, slab by slab of 512. -/
theorem sum_slabs {M : Type} [AddCommMonoid M] (f : Fin 4096 → M) :
    ∑ j, f j = ∑ s : Fin 8, ∑ k : Fin 512, f ⟨512 * s.val + k.val, by omega⟩ := by
  rw [← (finProdFinEquiv (m := 8) (n := 512)).sum_comp f, Fintype.sum_prod_type]
  refine Finset.sum_congr rfl fun s _ => Finset.sum_congr rfl fun k _ => congrArg f (Fin.ext ?_)
  show k.val + 512 * s.val = _
  exact Nat.add_comm _ _

/-- The five sums over the rows below `b`: second scale and shift, first weight and bias, gate. -/
def sums (q : Net) (df dh : Fin 8192 → Fin 1024 → ℝ) (b : ℕ) (r : Fin 8) (l : Fin 1024) : ℝ :=
  if r.val = 4 then below (fun n => q.dh1 n df dh l * q.m n l) b
  else if r.val = 3 then below (fun n => q.dx1 n df dh l) b
  else if r.val = 2 then below (fun n => q.dx1 n df dh l * q.x1n n l) b
  else if r.val = 1 then below (fun n => q.du2 n df l) b
  else if r.val = 0 then below (fun n => q.du2 n df l * q.x2n n l) b
  else 0

end Cert.RowFfn

end
-- ==== Proof.FfnPay.lean ====
/-
  What the arithmetic of one block of the feed-forward gradient computes, element by element.
-/
module

public import proofs.«01_k».proof.Proof.Gen.FfnKernelIdeal.Skeleton
public import proofs.«01_k».proof.Proof.RowFfn

@[expose] public section

set_option maxRecDepth 16384

noncomputable section

namespace Cert.FfnBlock

open Cert.RowMath Cert.RowFfn Cert.FfnKernelIdeal Cert.FfnKernelIdeal.Gen Idealize.ShloMosaic

/-- One slab's share of the hidden cotangent: the slab's columns `g` of the weights and `h` of the hidden values. -/
theorem da_apply (v w : FVec Ideal S512x1024 .bf16) (h : FVec Ideal S512x512 .bf16) (r k : Fin 512) :
    k0_pay12 (F := Ideal) v w h (ix2 r k)
      = (∑ l : Fin 1024, v (ix2 r l) * w (ix2 k l)) * (Ideal.ofBits .f32 0x40000000#32 * max (h (ix2 r k)) (Ideal.ofBits .f32 0x00000000#32)) := by
  pointwise [k0_pay12]

theorem sq_apply (x : FVec Ideal S1x1024x512 .bf16) (l : Fin 1024) (k : Fin 512) :
    k0_pay11 (F := Ideal) x (ix2 l k) = x (ix3 0 l k) := by pointwise [k0_pay11]

/-- Two slabs' shares of the cotangent of the network's input, added to what the earlier slabs gave. -/
theorem two_apply (v w : FVec Ideal S512x1024 .bf16) (h d : FVec Ideal S512x512 .bf16) (p : FVec Ideal S1024x512 .bf16)
    (acc : FVec Ideal S512x1024 .f32) (x : FVec Ideal S1x1024x512 .bf16) (r : Fin 512) (l : Fin 1024) :
    k0_pay13 (F := Ideal) v acc d p w h x (ix2 r l)
      = acc (ix2 r l) + ∑ k : Fin 512, d (ix2 r k) * p (ix2 l k) + ∑ k : Fin 512, k0_pay12 (F := Ideal) v w h (ix2 r k) * x (ix3 0 l k) := by
  pointwise [k0_pay13]

variable (x : FVec Ideal S512x1024 .f32) (a b : FVec Ideal S1x1024 .f32) (x' : Fin 1024 → ℝ) (r : Fin 512)

/-- The affine row less its mean. -/
theorem dev_apply (hx : ∀ k, x (ix2 r k) * a (ix2 0 k) + b (ix2 0 k) = (x' k : EReal)) (l : Fin 1024) :
    k0_pay27 (F := Ideal) a b x (ix2 r l) = (dev x' l : EReal) := by
  pointwise [k0_pay27, k0_pay26]
  simp only [hx, word_1024, sum_coe]
  rw [div_coe_coe _ (by norm_num), ← EReal.coe_sub]
  rfl

theorem rstd_apply (hx : ∀ k, x (ix2 r k) * a (ix2 0 k) + b (ix2 0 k) = (x' k : EReal)) :
    k0_pay28 (F := Ideal) a b x (ix2 r 0) = (rstd x' : EReal) := by
  pointwise [k0_pay28]
  simp only [dev_apply x a b x' r hx, word_1024, word_eps, ← EReal.coe_mul, sum_coe]
  rw [div_coe_coe _ (by norm_num), ← EReal.coe_add]
  exact rsqrt_coe (vare_pos x')

variable (d h p y : FVec Ideal S512x1024 .f32) (i : FVec Ideal S512x1 .f32) (s : FVec Ideal S1x1024 .f32) (d' h' p' : Fin 1024 → ℝ) (i' : ℝ)

theorem norm_apply (hd : ∀ k, d (ix2 r k) = (dev x' k : EReal)) (hi : i (ix2 r 0) = (rstd x' : EReal)) (l : Fin 1024) :
    k0_pay29 (F := Ideal) d i (ix2 r l) = ((dev x' l * rstd x' : ℝ) : EReal) := by
  pointwise [k0_pay29]
  rw [hd, hi, EReal.coe_mul]

/-- The cotangent of the first normalisation's result: the residual branch and the gradient through the second normalisation. -/
theorem dx1_apply (hd : ∀ k, d (ix2 r k) = (dev x' k : EReal)) (hi : i (ix2 r 0) = (rstd x' : EReal))
    (hp : ∀ k, p (ix2 r k) * s (ix2 0 k) = (p' k : EReal)) (hh : ∀ k, h (ix2 r k) = (h' k : EReal)) (l : Fin 1024) :
    k0_pay30 (F := Ideal) s p d i h (ix2 r l) = ((alpha * h' l + lnGrad x' p' l : ℝ) : EReal) := by
  pointwise [k0_pay30]
  simp only [norm_apply x' r d i hd hi, hi, hp, hh, word_1024, word_alpha, ← EReal.coe_mul, sum_coe]
  rw [div_coe_coe _ (by norm_num), div_coe_coe _ (by norm_num), ← EReal.coe_mul, ← EReal.coe_sub, ← EReal.coe_sub, ← EReal.coe_mul,
    ← EReal.coe_add]
  rfl

/-- The cotangent of the first residual sum, from the saved normalised rows `y` and their inverse deviation `j`. -/
theorem dh1_apply (j : FVec Ideal S512x1 .f32) (w : FVec Ideal S1x1024 .f32)
    (hy : ∀ k, y (ix2 r k) = ((dev x' k * rstd x' : ℝ) : EReal)) (hj : j (ix2 r 0) = (rstd x' : EReal))
    (hg : ∀ k, k0_pay30 (F := Ideal) s p d i h (ix2 r k) * w (ix2 0 k) = (p' k : EReal)) (l : Fin 1024) :
    k0_pay31 (F := Ideal) s w p y d i h j (ix2 r l) = (lnGrad x' p' l : EReal) := by
  pointwise [k0_pay31]
  simp only [hy, hj, hg, word_1024, ← EReal.coe_mul, sum_coe]
  rw [div_coe_coe _ (by norm_num), div_coe_coe _ (by norm_num), ← EReal.coe_mul, ← EReal.coe_sub, ← EReal.coe_sub, ← EReal.coe_mul]
  rfl

theorem dxa_apply (l : Fin 1024) : k0_pay33 (F := Ideal) h k0_pay32 (ix2 r l) = (alpha : EReal) * h (ix2 r l) := by
  pointwise [k0_pay33, k0_pay32]
  rw [word_alpha]

theorem dm_apply (l : Fin 1024) : k0_pay34 (F := Ideal) a h (ix2 r l) = h (ix2 r l) * a (ix2 0 l) := by
  pointwise [k0_pay34]

theorem dmix_apply (w : FVec Ideal S1024x1024 .bf16) (l : Fin 1024) :
    k0_pay35 (F := Ideal) a h w (ix2 r l) = ∑ k : Fin 1024, k0_pay34 (F := Ideal) a h (ix2 r k) * w (ix2 l k) := by
  pointwise [k0_pay35]

/-! The five rows of sums over a block's rows. -/

theorem acc0_apply (l : Fin 1024) :
    k0_pay36 (F := Ideal) p y a (ix2 0 l) = a (ix2 0 l) + ∑ r : Fin 512, p (ix2 r l) * y (ix2 r l) := by pointwise [k0_pay36]
theorem acc1_apply (l : Fin 1024) :
    k0_pay37 (F := Ideal) p a (ix2 0 l) = a (ix2 0 l) + ∑ r : Fin 512, p (ix2 r l) := by pointwise [k0_pay37]
theorem acc2_apply (l : Fin 1024) :
    k0_pay38 (F := Ideal) y p a (ix2 0 l) = a (ix2 0 l) + ∑ r : Fin 512, p (ix2 r l) * y (ix2 r l) := by pointwise [k0_pay38]
theorem acc3_apply (l : Fin 1024) :
    k0_pay1 (F := Ideal) p a (ix2 0 l) = a (ix2 0 l) + ∑ r : Fin 512, p (ix2 r l) := by pointwise [k0_pay1]
theorem acc4_apply (z : FVec Ideal S512x1024 .bf16) (l : Fin 1024) :
    k0_pay2 (F := Ideal) p a z (ix2 0 l) = a (ix2 0 l) + ∑ r : Fin 512, p (ix2 r l) * z (ix2 r l) := by pointwise [k0_pay2]

end Cert.FfnBlock

end
-- ==== Proof.FfnBlock.lean ====
/-
  What one grid point of the feed-forward gradient leaves in its result blocks and in the scratch buffers.
-/
module

public import proofs.«01_k».proof.Proof.Gen.FfnKernelIdeal.Frame
public import proofs.«01_k».proof.Proof.RowStore
public import proofs.«01_k».proof.Proof.FfnPay

@[expose] public section

set_option maxRecDepth 16384

noncomputable section

namespace Cert.FfnBlock

open Cert.RowStore Cert.FfnKernelIdeal Cert.FfnKernelIdeal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- 512 rows of the second weights, from row `o` on. -/
def rows2 (w : Vec F S4096x1024 .bf16) (o : ℕ) (h : o + 512 ≤ 4096) : Vec F S512x1024 .bf16 := fun y =>
  w (ix2 ⟨o + (y 0).val, Nat.lt_of_lt_of_le (Nat.add_lt_add_left (y 0).isLt o) h⟩ (y 1))

/-- 512 columns of the hidden values, from column `o` on. -/
def cols (a : Vec F S512x4096 .bf16) (o : ℕ) (h : o + 512 ≤ 4096) : Vec F S512x512 .bf16 := fun y =>
  a (ix2 (y 0) ⟨o + (y 1).val, Nat.lt_of_lt_of_le (Nat.add_lt_add_left (y 1).isLt o) h⟩)

/-- One slab of the first weights. -/
def slab (w : Vec F S8x1024x512 .bf16) (o : ℕ) (h : o + 1 ≤ 8) : Vec F S1x1024x512 .bf16 := fun y =>
  w (ix3 ⟨o, h⟩ (y 1) (y 2))

theorem ld_rows2 (w : Vec F S4096x1024 .bf16) (o : ℕ) (inb : ∀ k : Fin 2, (![o, 0] : Fin 2 → ℕ) k + (![512, 1024] : Fin 2 → ℕ) k ≤ S4096x1024.size k) :
    View.ld (Val := Elt F) (S := S4096x1024) w (Rect.unit ![o, 0] ![512, 1024] inb) = rows2 w o (inb 0) := by
  funext y
  unfold rows2 View.ld
  congr 1
  funext k
  apply Fin.ext
  match k with
  | ⟨0, _⟩ => show o + 1 * (y 0).val = o + (y 0).val; omega
  | ⟨1, _⟩ => show 0 + 1 * (y 1).val = (y 1).val; omega

theorem ld_cols (a : Vec F S512x4096 .bf16) (o : ℕ) (inb : ∀ k : Fin 2, (![0, o] : Fin 2 → ℕ) k + (![512, 512] : Fin 2 → ℕ) k ≤ S512x4096.size k) :
    View.ld (Val := Elt F) (S := S512x4096) a (Rect.unit ![0, o] ![512, 512] inb) = cols a o (inb 1) := by
  funext y
  unfold cols View.ld
  congr 1
  funext k
  apply Fin.ext
  match k with
  | ⟨0, _⟩ => show 0 + 1 * (y 0).val = (y 0).val; omega
  | ⟨1, _⟩ => show o + 1 * (y 1).val = o + (y 1).val; omega

theorem ld_slab (w : Vec F S8x1024x512 .bf16) (o : ℕ)
    (inb : ∀ k : Fin 3, (![o, 0, 0] : Fin 3 → ℕ) k + (![1, 1024, 512] : Fin 3 → ℕ) k ≤ S8x1024x512.size k) :
    View.ld (Val := Elt F) (S := S8x1024x512) w (Rect.unit ![o, 0, 0] ![1, 1024, 512] inb) = slab w o (inb 0) := by
  funext y
  unfold slab View.ld
  congr 1
  funext k
  apply Fin.ext
  match k with
  | ⟨0, _⟩ => show o + 1 * (y 0).val = o; have h : (y 0).val < 1 := (y 0).isLt; omega
  | ⟨1, _⟩ => show 0 + 1 * (y 1).val = (y 1).val; omega
  | ⟨2, _⟩ => show 0 + 1 * (y 2).val = (y 2).val; omega

theorem ld_vec (x : Vec F S8x1024 .f32) (o : ℕ) (inb : ∀ k : Fin 2, (![o, 0] : Fin 2 → ℕ) k + (![1, 1024] : Fin 2 → ℕ) k ≤ S8x1024.size k) :
    View.ld (Val := Elt F) (S := S8x1024) x (Rect.unit ![o, 0] ![1, 1024] inb) = row (a := 8) (n := 1024) x ⟨o, inb 0⟩ :=
  ld_row_at (Val := Elt F) (e := .f32) (a := 8) (n := 1024) x o inb

/-- A load of a row of sums out of what a whole store left. -/
theorem load_first {sg : RefSig} {κ : Kind} {sp : Space} (v : View sg κ sp S8x1024 .f32) (w : Vec F S8x1024 .f32) (o : ℕ)
    (inb' : ∀ k : Fin 2, (![0, 0] : Fin 2 → ℕ) k + (![8, 1024] : Fin 2 → ℕ) k ≤ S8x1024.size k)
    (inb : ∀ k : Fin 2, (![o, 0] : Fin 2 → ℕ) k + (![1, 1024] : Fin 2 → ℕ) k ≤ S8x1024.size k) :
    v.readCov (Val := Elt F) [⟨Rect.unit ![0, 0] ![8, 1024] inb', w⟩] (Rect.unit ![o, 0] ![1, 1024] inb).toLoadRect
      = row (a := 8) (n := 1024) w ⟨o, inb 0⟩ :=
  (readCov_whole (S := S8x1024) v inb' w _).trans (ld_vec w o inb)

/-- A load of a row of sums past the store of another row. -/
theorem load_other {sg : RefSig} {κ : Kind} {sp : Space} (v : View sg κ sp S8x1024 .f32) (o p : ℕ) (h : o ≠ p)
    (inb' : ∀ k : Fin 2, (![p, 0] : Fin 2 → ℕ) k + (![1, 1024] : Fin 2 → ℕ) k ≤ S8x1024.size k)
    (inb : ∀ k : Fin 2, (![o, 0] : Fin 2 → ℕ) k + (![1, 1024] : Fin 2 → ℕ) k ≤ S8x1024.size k)
    (w : Vec F S1x1024 .f32) (L : List (View.Piece (Elt F) S8x1024 .f32)) :
    v.readCov (Val := Elt F) (⟨Rect.unit ![p, 0] ![1, 1024] inb', w⟩ :: L) (Rect.unit ![o, 0] ![1, 1024] inb).toLoadRect
      = v.readCov L (Rect.unit ![o, 0] ![1, 1024] inb).toLoadRect :=
  readCov_row_ne (a := 8) (n := 1024) v o p h inb inb' w L

section
variable (x0 : Vec F S512x1024 .bf16) (x1 : Vec F S512x4096 .bf16) (x2 x3 : Vec F S512x1024 .f32)
  (x4 : Vec F S512x1 .f32) (x5 : Vec F S512x1024 .bf16) (x6 : Vec F S8x1024 .f32)
  (wo : Vec F S1024x1024 .bf16) (w1 : Vec F S8x1024x512 .bf16) (w2 : Vec F S4096x1024 .bf16)

/-- The cotangent of the columns from `o` on of the hidden values. -/
abbrev daBlk (o : ℕ) (h : o + 512 ≤ 4096) : FVec F S512x512 .bf16 := k0_pay12 (k0_pay8 x0) (rows2 w2 o h) (cols x1 o h)

/-- Two slabs' share of the cotangent of the network's input, added to `acc`: slabs `o` and `p`, whose columns start at `i` and `j`. -/
abbrev pair (acc : FVec F S512x1024 .f32) (o p i j : ℕ) (ho : o + 1 ≤ 8) (hp : p + 1 ≤ 8) (hi : i + 512 ≤ 4096) (hj : j + 512 ≤ 4096) :
    FVec F S512x1024 .f32 :=
  k0_pay13 (k0_pay8 x0) acc (daBlk x0 x1 w2 i hi) (k0_pay11 (slab w1 o ho)) (rows2 w2 j hj) (cols x1 j hj) (slab w1 p hp)

/-- The cotangent of the network's input. -/
def duBlk : FVec F S512x1024 .f32 :=
  pair x0 x1 w1 w2 (pair x0 x1 w1 w2 (pair x0 x1 w1 w2 (pair x0 x1 w1 w2 k0_pay9 0 1 0 512 (by decide) (by decide) (by decide) (by decide))
    2 3 1024 1536 (by decide) (by decide) (by decide) (by decide)) 4 5 2048 2560 (by decide) (by decide) (by decide) (by decide))
    6 7 3072 3584 (by decide) (by decide) (by decide) (by decide)

/-- The recomputed input of the second normalisation less its mean. -/
abbrev devBlk : FVec F S512x1024 .f32 := k0_pay27 (k0_pay6 (row x6 2)) (k0_pay7 (row x6 3)) x3
/-- One over its standard deviation. -/
abbrev invBlk : FVec F S512x1 .f32 := k0_pay28 (k0_pay6 (row x6 2)) (k0_pay7 (row x6 3)) x3

/-- The cotangent of the first normalisation's result. -/
abbrev dx1Blk : FVec F S512x1024 .f32 :=
  k0_pay30 (k0_pay5 (row x6 1)) (duBlk x0 x1 w1 w2) (devBlk x3 x6) (invBlk x3 x6) x2

/-- The cotangent of the first residual sum. -/
abbrev dh1Blk : FVec F S512x1024 .f32 :=
  k0_pay31 (k0_pay5 (row x6 1)) (k0_pay6 (row x6 2)) (duBlk x0 x1 w1 w2) (k0_pay26 x3) (devBlk x3 x6) (invBlk x3 x6) x2 x4

/-- The eight rows of sums once the block's rows are added to those of `z`. -/
def accBlk (z : Vec F S8x1024 .f32) (r : Fin 8) (l : Fin 1024) : F .f32 :=
  if r.val = 4 then k0_pay2 (dh1Blk x0 x1 x2 x3 x4 x6 w1 w2) (row z 4) x5 (ix2 0 l)
  else if r.val = 3 then k0_pay1 (dx1Blk x0 x1 x2 x3 x6 w1 w2) (row z 3) (ix2 0 l)
  else if r.val = 2 then k0_pay38 (k0_pay26 x3) (dx1Blk x0 x1 x2 x3 x6 w1 w2) (row z 2) (ix2 0 l)
  else if r.val = 1 then k0_pay37 (duBlk x0 x1 w1 w2) (row z 1) (ix2 0 l)
  else if r.val = 0 then k0_pay36 (duBlk x0 x1 w1 w2) (k0_pay29 (devBlk x3 x6) (invBlk x3 x6)) (row z 0) (ix2 0 l)
  else z (ix2 r l)
end

section
variable (v : FVec F S512x1024 .bf16) (w : Vec F S512x1024 .bf16) (h d : FVec F S512x512 .bf16) (acc : FVec F S512x1024 .f32)
  (p : FVec F S1024x512 .bf16) (s : Vec F S1x1024x512 .bf16)
theorem pay10_eq : k0_pay10 v w h = k0_pay12 (k0_pay8 v) w h := rfl
theorem pay14_eq : k0_pay14 v w h = k0_pay12 v w h := rfl
theorem pay18_eq : k0_pay18 v w h = k0_pay12 v w h := rfl
theorem pay22_eq : k0_pay22 v w h = k0_pay12 v w h := rfl
theorem pay16_eq : k0_pay16 v w h = k0_pay12 v w h := rfl
theorem pay20_eq : k0_pay20 v w h = k0_pay12 v w h := rfl
theorem pay24_eq : k0_pay24 v w h = k0_pay12 v w h := rfl
theorem pay15_eq : k0_pay15 s = k0_pay11 s := rfl
theorem pay19_eq : k0_pay19 s = k0_pay11 s := rfl
theorem pay23_eq : k0_pay23 s = k0_pay11 s := rfl
theorem pay17_eq : k0_pay17 v acc d p w h s = k0_pay13 v acc d p w h s := rfl
theorem pay21_eq : k0_pay21 v acc d p w h s = k0_pay13 v acc d p w h s := rfl
theorem pay25_eq : k0_pay25 v acc d p w h s = k0_pay13 v acc d p w h s := rfl
end

variable (c : Dev nD) (i : grid0.Coords) (a1 : Memref sig .tc .vmem S512x1024 .bf16) (h1 : a1.IsWhole)
  (a2 : Memref sig .tc .vmem S512x4096 .bf16) (h2 : a2.IsWhole) (a3 : Memref sig .tc .vmem S512x1024 .f32) (h3 : a3.IsWhole)
  (a4 : Memref sig .tc .vmem S512x1024 .f32) (h4 : a4.IsWhole) (a5 : Memref sig .tc .vmem S512x1 .f32) (h5 : a5.IsWhole)
  (a6 : Memref sig .tc .vmem S512x1024 .bf16) (h6 : a6.IsWhole) (a7 : Memref sig .tc .vmem S8x1024 .f32) (h7 : a7.IsWhole)
  (a11 : Memref sig .tc .vmem S512x4096 .bf16) (h11 : a11.IsWhole) (a12 : Memref sig .tc .vmem S512x1024 .bf16) (h12 : a12.IsWhole)
  (a13 : Memref sig .tc .vmem S512x1024 .f32) (h13 : a13.IsWhole) (a14 : Memref sig .tc .vmem S512x1024 .f32) (h14 : a14.IsWhole)
  (a15 : Memref sig .tc .vmem S8x1024 .f32) (h15 : a15.IsWhole) (a16 : Memref sig .tc .vmem S1024x1024 .bf16) (h16 : a16.IsWhole)
  (a17 : Memref sig .tc .vmem S8x1024x512 .bf16) (h17 : a17.IsWhole) (a18 : Memref sig .tc .vmem S4096x1024 .bf16) (h18 : a18.IsWhole)
  (x0 : Vec F S512x1024 .bf16) (x1 : Vec F S512x4096 .bf16) (x2 x3 : Vec F S512x1024 .f32)
  (x4 : Vec F S512x1 .f32) (x5 : Vec F S512x1024 .bf16) (x6 xo : Vec F S8x1024 .f32)
  (wo : Vec F S1024x1024 .bf16) (w1 : Vec F S8x1024x512 .bf16) (w2 : Vec F S4096x1024 .bf16)
  (f0 : HbBuf0 (F := F) c hbM0_0) (f1 : HbBuf0 (F := F) c hbM0_1) (f2 : HbBuf0 (F := F) c hbM0_2)

/-- The weights as the kernel's copies read them. -/
abbrev cpWo (f0 : HbBuf0 (F := F) c hbM0_0) : Vec F S1024x1024 .bf16 := ReadAs.same.apply (View.read (Elt F) (View.whole main_v1) f0)
abbrev cpW1 (f1 : HbBuf0 (F := F) c hbM0_1) : Vec F S8x1024x512 .bf16 := ReadAs.same.apply (View.read (Elt F) (View.whole main_v7) f1)
abbrev cpW2 (f2 : HbBuf0 (F := F) c hbM0_2) : Vec F S4096x1024 .bf16 := ReadAs.same.apply (View.read (Elt F) (View.whole main_v3) f2)

/-- A load of a whole block. -/
theorem ld_tall {e : EltTy} (w : Vec F S512x1024 e) (inb : ∀ k : Fin 2, (![0, 0] : Fin 2 → ℕ) k + (![512, 1024] : Fin 2 → ℕ) k ≤ S512x1024.size k) :
    View.ld (Val := Elt F) (S := S512x1024) w (Rect.unit ![0, 0] ![512, 1024] inb) = w := View.ld_unit_zero (S := S512x1024) hz inb w
/-- A load of a whole block. -/
theorem ld_thin {e : EltTy} (w : Vec F S512x1 e) (inb : ∀ k : Fin 2, (![0, 0] : Fin 2 → ℕ) k + (![512, 1] : Fin 2 → ℕ) k ≤ S512x1.size k) :
    View.ld (Val := Elt F) (S := S512x1) w (Rect.unit ![0, 0] ![512, 1] inb) = w := View.ld_unit_zero (S := S512x1) hz inb w
/-- A load of a whole block. -/
theorem ld_square {e : EltTy} (w : Vec F S1024x1024 e) (inb : ∀ k : Fin 2, (![0, 0] : Fin 2 → ℕ) k + (![1024, 1024] : Fin 2 → ℕ) k ≤ S1024x1024.size k) :
    View.ld (Val := Elt F) (S := S1024x1024) w (Rect.unit ![0, 0] ![1024, 1024] inb) = w := View.ld_unit_zero (S := S1024x1024) hz inb w
/-- What the loads of a grid point read. -/
theorem loads : type_of% @View.readAt_eq_ld
    ∧ type_of% @Memref.IsWhole.read_unread
    ∧ type_of% @ld_rows2
    ∧ type_of% @ld_cols
    ∧ type_of% @ld_slab
    ∧ type_of% @ld_vec
    ∧ type_of% @ld_tall
    ∧ type_of% @ld_thin
    ∧ type_of% @ld_square
    ∧ type_of% @pay10_eq
    ∧ type_of% @pay14_eq
    ∧ type_of% @pay16_eq
    ∧ type_of% @pay18_eq
    ∧ type_of% @pay20_eq
    ∧ type_of% @pay22_eq
    ∧ type_of% @pay24_eq
    ∧ type_of% @pay15_eq
    ∧ type_of% @pay19_eq
    ∧ type_of% @pay23_eq
    ∧ type_of% @pay17_eq
    ∧ type_of% @pay21_eq
    ∧ type_of% @pay25_eq :=
  ⟨@View.readAt_eq_ld, @Memref.IsWhole.read_unread, @ld_rows2, @ld_cols, @ld_slab, @ld_vec, @ld_tall, @ld_thin, @ld_square, @pay10_eq, @pay14_eq, @pay16_eq, @pay18_eq, @pay20_eq, @pay22_eq, @pay24_eq, @pay15_eq, @pay19_eq, @pay23_eq, @pay17_eq, @pay21_eq, @pay25_eq⟩
/-- What a load past stores reads. -/
theorem stores : type_of% @readCov_all
    ∧ type_of% @load_first
    ∧ type_of% @load_other :=
  ⟨@readCov_all, @load_first, @load_other⟩

section
variable (hc0 : ¬cond0_0 i) (hc1 : ¬cond0_1 i)

/-- A later point leaves the cotangent of the product with the output weights. -/
theorem dm_B : out0_B_8 c i _ h1 _ h2 _ h3 _ h4 _ h5 _ h6 _ h7 _ h11 _ h12 _ h13 _ h14 _ h15 _ h16 _ h17 _ h18
      hc0 hc1 x0 x1 x2 x3 x4 x5 x6 xo wo w1 w2 f0 f1 f2
    = k0_pay34 (k0_pay4 (row x6 0)) (dh1Blk x0 x1 x2 x3 x4 x6 w1 w2) := by
  unfold out0_B_8 kernelRun0_B; dsimp only; sl_unfold_words
  refine (View.read_writes_full ..).trans ?_
  simp only [loads]
  rfl
/-- A later point leaves the cotangent of the mixer's output. -/
theorem dmix_B : out0_B_9 c i _ h1 _ h2 _ h3 _ h4 _ h5 _ h6 _ h7 _ h11 _ h12 _ h13 _ h14 _ h15 _ h16 _ h17 _ h18
      hc0 hc1 x0 x1 x2 x3 x4 x5 x6 xo wo w1 w2 f0 f1 f2
    = k0_pay35 (k0_pay4 (row x6 0)) (dh1Blk x0 x1 x2 x3 x4 x6 w1 w2) wo := by
  unfold out0_B_9 kernelRun0_B; dsimp only; sl_unfold_words
  refine (View.read_writes_full ..).trans ?_
  simp only [loads]
  rfl
/-- A later point leaves the residual branch of the input's cotangent. -/
theorem dxa_B : out0_B_10 c i _ h1 _ h2 _ h3 _ h4 _ h5 _ h6 _ h7 _ h11 _ h12 _ h13 _ h14 _ h15 _ h16 _ h17 _ h18
      hc0 hc1 x0 x1 x2 x3 x4 x5 x6 xo wo w1 w2 f0 f1 f2
    = k0_pay33 (dh1Blk x0 x1 x2 x3 x4 x6 w1 w2) k0_pay32 := by
  unfold out0_B_10 kernelRun0_B; dsimp only; sl_unfold_words
  refine (View.read_writes_full ..).trans ?_
  simp only [loads]
  rfl
/-- A later point adds its rows' share to the five sums. -/
theorem acc_B (r : Fin 8) (l : Fin 1024) : out0_B_11 c i _ h1 _ h2 _ h3 _ h4 _ h5 _ h6 _ h7 _ h11 _ h12 _ h13 _ h14 _ h15 _ h16 _ h17 _ h18
      hc0 hc1 x0 x1 x2 x3 x4 x5 x6 xo wo w1 w2 f0 f1 f2 (ix2 r l)
    = accBlk x0 x1 x2 x3 x4 x5 x6 w1 w2 xo r l := by
  unfold out0_B_11 kernelRun0_B; dsimp only; sl_unfold_words
  simp only [loads]
  iterate 5 refine (read_row (a := 8) (n := 1024) ..).trans (if_congr Iff.rfl rfl ?_)
  rw [View.writes_nil, h15.read_unread]

end

section
variable (hc0 : cond0_0 i) (hc1 : cond0_1 i)

/-- The first point leaves the cotangent of the product with the output weights. -/
theorem dm_A : out0_A_8 c i _ h1 _ h2 _ h3 _ h4 _ h5 _ h6 _ h7 _ h11 _ h12 _ h13 _ h14 _ h15 _ h16 _ h17 _ h18
      hc0 hc1 x0 x1 x2 x3 x4 x5 x6 f0 f1 f2
    = k0_pay34 (k0_pay4 (row x6 0)) (dh1Blk x0 x1 x2 x3 x4 x6 (cpW1 c f1) (cpW2 c f2)) := by
  unfold out0_A_8 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
  rfl
/-- The first point leaves the cotangent of the mixer's output. -/
theorem dmix_A : out0_A_9 c i _ h1 _ h2 _ h3 _ h4 _ h5 _ h6 _ h7 _ h11 _ h12 _ h13 _ h14 _ h15 _ h16 _ h17 _ h18
      hc0 hc1 x0 x1 x2 x3 x4 x5 x6 f0 f1 f2
    = k0_pay35 (k0_pay4 (row x6 0)) (dh1Blk x0 x1 x2 x3 x4 x6 (cpW1 c f1) (cpW2 c f2)) (cpWo c f0) := by
  unfold out0_A_9 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
  rfl
/-- The first point leaves the residual branch of the input's cotangent. -/
theorem dxa_A : out0_A_10 c i _ h1 _ h2 _ h3 _ h4 _ h5 _ h6 _ h7 _ h11 _ h12 _ h13 _ h14 _ h15 _ h16 _ h17 _ h18
      hc0 hc1 x0 x1 x2 x3 x4 x5 x6 f0 f1 f2
    = k0_pay33 (dh1Blk x0 x1 x2 x3 x4 x6 (cpW1 c f1) (cpW2 c f2)) k0_pay32 := by
  unfold out0_A_10 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
  rfl
/-- The first point starts the five sums from zero. -/
theorem acc_A (r : Fin 8) (l : Fin 1024) : out0_A_11 c i _ h1 _ h2 _ h3 _ h4 _ h5 _ h6 _ h7 _ h11 _ h12 _ h13 _ h14 _ h15 _ h16 _ h17 _ h18
      hc0 hc1 x0 x1 x2 x3 x4 x5 x6 f0 f1 f2 (ix2 r l)
    = accBlk x0 x1 x2 x3 x4 x5 x6 (cpW1 c f1) (cpW2 c f2) k0_pay3 r l := by
  unfold out0_A_11 kernelRun0_A; dsimp only; sl_unfold_words
  simp only [loads, stores, ne_eq, Nat.reduceEqDiff, not_false_eq_true, OfNat.ofNat_ne_zero, OfNat.ofNat_ne_one, one_ne_zero]
  iterate 5 refine (read_row (a := 8) (n := 1024) ..).trans (if_congr Iff.rfl rfl ?_)
  rw [View.read_writes_full]

/-- The first point leaves the output weights in their scratch buffer. -/
theorem scr_wo_A : sout0_A_0 c i _ h1 _ h2 _ h3 _ h4 _ h5 _ h6 _ h7 _ h11 _ h12 _ h13 _ h14 _ h15 _ h16 _ h17 _ h18
      hc0 hc1 x0 x1 x2 x3 x4 x5 x6 f0 f1 f2
    = cpWo c f0 := by
  unfold sout0_A_0 kernelRun0_A; dsimp only; sl_unfold_words
  exact read_all ..
/-- The first point leaves the first weights in their scratch buffer. -/
theorem scr_w1_A : sout0_A_1 c i _ h1 _ h2 _ h3 _ h4 _ h5 _ h6 _ h7 _ h11 _ h12 _ h13 _ h14 _ h15 _ h16 _ h17 _ h18
      hc0 hc1 x0 x1 x2 x3 x4 x5 x6 f0 f1 f2
    = cpW1 c f1 := by
  unfold sout0_A_1 kernelRun0_A; dsimp only; sl_unfold_words
  exact read_all ..
/-- The first point leaves the second weights in their scratch buffer. -/
theorem scr_w2_A : sout0_A_2 c i _ h1 _ h2 _ h3 _ h4 _ h5 _ h6 _ h7 _ h11 _ h12 _ h13 _ h14 _ h15 _ h16 _ h17 _ h18
      hc0 hc1 x0 x1 x2 x3 x4 x5 x6 f0 f1 f2
    = cpW2 c f2 := by
  unfold sout0_A_2 kernelRun0_A; dsimp only; sl_unfold_words
  exact read_all ..
end
end

/-! The cotangent of the hidden values, stored slab by slab. -/

section
variable (c : Dev nD) (i : grid0.Coords) (a1 : Memref sig .tc .vmem S512x1024 .bf16) (h1 : a1.IsWhole)
  (a2 : Memref sig .tc .vmem S512x4096 .bf16) (h2 : a2.IsWhole) (a3 : Memref sig .tc .vmem S512x1024 .f32) (h3 : a3.IsWhole)
  (a4 : Memref sig .tc .vmem S512x1024 .f32) (h4 : a4.IsWhole) (a5 : Memref sig .tc .vmem S512x1 .f32) (h5 : a5.IsWhole)
  (a6 : Memref sig .tc .vmem S512x1024 .bf16) (h6 : a6.IsWhole) (a7 : Memref sig .tc .vmem S8x1024 .f32) (h7 : a7.IsWhole)
  (a11 : Memref sig .tc .vmem S512x4096 .bf16) (h11 : a11.IsWhole) (a12 : Memref sig .tc .vmem S512x1024 .bf16) (h12 : a12.IsWhole)
  (a13 : Memref sig .tc .vmem S512x1024 .f32) (h13 : a13.IsWhole) (a14 : Memref sig .tc .vmem S512x1024 .f32) (h14 : a14.IsWhole)
  (a15 : Memref sig .tc .vmem S8x1024 .f32) (h15 : a15.IsWhole) (a16 : Memref sig .tc .vmem S1024x1024 .bf16) (h16 : a16.IsWhole)
  (a17 : Memref sig .tc .vmem S8x1024x512 .bf16) (h17 : a17.IsWhole) (a18 : Memref sig .tc .vmem S4096x1024 .bf16) (h18 : a18.IsWhole)
  (x0 : Vec Ideal S512x1024 .bf16) (x1 : Vec Ideal S512x4096 .bf16) (x2 x3 : Vec Ideal S512x1024 .f32)
  (x4 : Vec Ideal S512x1 .f32) (x5 : Vec Ideal S512x1024 .bf16) (x6 xo : Vec Ideal S8x1024 .f32)
  (wo : Vec Ideal S1024x1024 .bf16) (w1 : Vec Ideal S8x1024x512 .bf16) (w2 : Vec Ideal S4096x1024 .bf16)
  (f0 : HbBuf0 (F := Ideal) c hbM0_0) (f1 : HbBuf0 (F := Ideal) c hbM0_1) (f2 : HbBuf0 (F := Ideal) c hbM0_2)

/-- One element of the cotangent of the hidden values. -/
def daVal (x0 : Vec Ideal S512x1024 .bf16) (x1 : Vec Ideal S512x4096 .bf16) (w2 : Vec Ideal S4096x1024 .bf16) (r : Fin 512) (j : Fin 4096) : EReal :=
  (∑ l : Fin 1024, x0 (ix2 r l) * w2 (ix2 j l)) * (Ideal.ofBits .f32 0x40000000#32 * max (x1 (ix2 r j)) (Ideal.ofBits .f32 0x00000000#32))

theorem daBlk_apply (o : ℕ) (h : o + 512 ≤ 4096) (r k : Fin 512) :
    daBlk (F := Ideal) x0 x1 w2 o h (ix2 r k) = daVal x0 x1 w2 r ⟨o + k.val, by omega⟩ := by
  refine (da_apply (k0_pay8 (F := Ideal) x0) (rows2 (F := Ideal) w2 o h) (cols (F := Ideal) x1 o h) r k).trans ?_
  have e : ∀ l, k0_pay8 (F := Ideal) x0 (ix2 r l) = x0 (ix2 r l) := fun l => by pointwise [k0_pay8]
  simp only [e]
  rfl

/-- The store of one slab, read at an index. -/
theorem da_piece (v : View sig .tc .vmem S512x4096 .bf16) (f : v.ty.Contents (Elt Ideal)) (o : ℕ) (h : o + 512 ≤ 4096)
    (inb : ∀ k : Fin 2, (![0, o] : Fin 2 → ℕ) k + (![512, 512] : Fin 2 → ℕ) k ≤ S512x4096.size k) (L : List (View.Piece (Elt Ideal) S512x4096 .bf16))
    (r : Fin 512) (j : Fin 4096) (hL : j.val < o ∨ o + 512 ≤ j.val → v.read (Elt Ideal) (v.writes (Elt Ideal) f L) (ix2 r j) = daVal x0 x1 w2 r j) :
    v.read (Elt Ideal) (v.writes (Elt Ideal) f (⟨Rect.unit ![0, o] ![512, 512] inb, daBlk (F := Ideal) x0 x1 w2 o h⟩ :: L)) (ix2 r j)
      = daVal x0 x1 w2 r j := by
  by_cases hj : o ≤ j.val ∧ j.val < o + 512
  · refine (View.read_writes_cons_unit_of_mem v f inb _ L (ix2 r j) (ix2 r ⟨j.val - o, by omega⟩) rfl fun a => ?_).trans ?_
    · match a with
      | ⟨0, _⟩ => show r.val = 0 + r.val; omega
      | ⟨1, _⟩ => show j.val = o + (j.val - o); omega
    · rw [daBlk_apply]
      congr 1
      exact Fin.ext (by show o + (j.val - o) = j.val; omega)
  · refine (View.read_writes_cons_unit_of_not_mem v f inb _ L (ix2 r j) rfl (a := 1) ?_).trans (hL (by omega))
    show j.val < o ∨ o + 512 ≤ j.val
    omega

/-- The eight slabs' stores, read at an index. -/
theorem da_read (v : View sig .tc .vmem S512x4096 .bf16) (f : v.ty.Contents (Elt Ideal)) (r : Fin 512) (j : Fin 4096) :
    v.read (Elt Ideal) (v.writes (Elt Ideal) f
        [⟨Rect.unit ![0, 3584] ![512, 512] inb_S512x4096_S512x512_0_3584, daBlk (F := Ideal) x0 x1 w2 3584 (by decide)⟩,
          ⟨Rect.unit ![0, 3072] ![512, 512] inb_S512x4096_S512x512_0_3072, daBlk (F := Ideal) x0 x1 w2 3072 (by decide)⟩,
          ⟨Rect.unit ![0, 2560] ![512, 512] inb_S512x4096_S512x512_0_2560, daBlk (F := Ideal) x0 x1 w2 2560 (by decide)⟩,
          ⟨Rect.unit ![0, 2048] ![512, 512] inb_S512x4096_S512x512_0_2048, daBlk (F := Ideal) x0 x1 w2 2048 (by decide)⟩,
          ⟨Rect.unit ![0, 1536] ![512, 512] inb_S512x4096_S512x512_0_1536, daBlk (F := Ideal) x0 x1 w2 1536 (by decide)⟩,
          ⟨Rect.unit ![0, 1024] ![512, 512] inb_S512x4096_S512x512_0_1024, daBlk (F := Ideal) x0 x1 w2 1024 (by decide)⟩,
          ⟨Rect.unit ![0, 512] ![512, 512] inb_S512x4096_S512x512_0_512, daBlk (F := Ideal) x0 x1 w2 512 (by decide)⟩,
          ⟨Rect.unit ![0, 0] ![512, 512] inb_S512x4096_S512x512_0_0, daBlk (F := Ideal) x0 x1 w2 0 (by decide)⟩])
        (ix2 r j) = daVal x0 x1 w2 r j := by
  have hj := j.isLt
  refine da_piece (x0 := x0) (x1 := x1) (w2 := w2) v f 3584 (by decide) _ _ r j fun h7 => ?_
  refine da_piece (x0 := x0) (x1 := x1) (w2 := w2) v f 3072 (by decide) _ _ r j fun h6 => ?_
  refine da_piece (x0 := x0) (x1 := x1) (w2 := w2) v f 2560 (by decide) _ _ r j fun h5 => ?_
  refine da_piece (x0 := x0) (x1 := x1) (w2 := w2) v f 2048 (by decide) _ _ r j fun h4 => ?_
  refine da_piece (x0 := x0) (x1 := x1) (w2 := w2) v f 1536 (by decide) _ _ r j fun h3 => ?_
  refine da_piece (x0 := x0) (x1 := x1) (w2 := w2) v f 1024 (by decide) _ _ r j fun h2 => ?_
  refine da_piece (x0 := x0) (x1 := x1) (w2 := w2) v f 512 (by decide) _ _ r j fun h1 => ?_
  refine da_piece (x0 := x0) (x1 := x1) (w2 := w2) v f 0 (by decide) _ _ r j fun h0 => ?_
  omega

/-- A later point leaves the cotangent of the hidden values. -/
theorem da_B (hc0 : ¬cond0_0 i) (hc1 : ¬cond0_1 i) (r : Fin 512) (j : Fin 4096) :
    out0_B_7 (F := Ideal) c i _ h1 _ h2 _ h3 _ h4 _ h5 _ h6 _ h7 _ h11 _ h12 _ h13 _ h14 _ h15 _ h16 _ h17 _ h18
      hc0 hc1 x0 x1 x2 x3 x4 x5 x6 xo wo w1 w2 f0 f1 f2 (ix2 r j)
      = daVal x0 x1 w2 r j := by
  unfold out0_B_7 kernelRun0_B; dsimp only; sl_unfold_words
  simp only [loads]
  exact da_read (x0 := x0) (x1 := x1) (w2 := w2) ..

/-- The first point leaves the cotangent of the hidden values. -/
theorem da_A (hc0 : cond0_0 i) (hc1 : cond0_1 i) (r : Fin 512) (j : Fin 4096) :
    out0_A_7 (F := Ideal) c i _ h1 _ h2 _ h3 _ h4 _ h5 _ h6 _ h7 _ h11 _ h12 _ h13 _ h14 _ h15 _ h16 _ h17 _ h18
      hc0 hc1 x0 x1 x2 x3 x4 x5 x6 f0 f1 f2 (ix2 r j)
      = daVal x0 x1 (cpW2 (F := Ideal) c f2) r j := by
  unfold out0_A_7 kernelRun0_A; dsimp only; sl_unfold_words
  simp only [loads, readCov_all]
  exact da_read (x0 := x0) (x1 := x1) (w2 := (cpW2 (F := Ideal) c f2)) ..

end
end Cert.FfnBlock
-- ==== Proof.FfnRow.lean ====
/-
  One row of a block of the feed-forward gradient over the reals.
-/
module

public import proofs.«01_k».proof.Proof.FfnBlock

@[expose] public section

set_option maxRecDepth 16384

noncomputable section

namespace Cert.FfnBlock

open Cert.RowMath Cert.RowFfn Cert.RowStore Cert.FfnKernelIdeal Cert.FfnKernelIdeal.Gen Idealize.ShloMosaic

variable (q : Net) (df dh : Fin 8192 → Fin 1024 → ℝ) (n : Fin 8192) (r : Fin 512)
  (x0 : FVec Ideal S512x1024 .bf16) (x1 : FVec Ideal S512x4096 .bf16) (x2 : FVec Ideal S512x1024 .f32) (x3 : FVec Ideal S512x1024 .f32)
  (x4 : FVec Ideal S512x1 .f32) (x5 : FVec Ideal S512x1024 .bf16) (x6 : FVec Ideal S8x1024 .f32)
  (wo : FVec Ideal S1024x1024 .bf16) (w1 : FVec Ideal S8x1024x512 .bf16) (w2 : FVec Ideal S4096x1024 .bf16)

/-- Row `r` of the blocks a point reads is row `n` of the arrays, and the arrays are these reals. -/
structure RowOf : Prop where
  df : ∀ l, x0 (ix2 r l) = (df n l : EReal)
  a : ∀ j, x1 (ix2 r j) = (q.a n j : EReal)
  dh : ∀ l, x2 (ix2 r l) = (dh n l : EReal)
  x1n : ∀ l, x3 (ix2 r l) = (q.x1n n l : EReal)
  inv : x4 (ix2 r 0) = (rstd (q.h1 n) : EReal)
  m : ∀ l, x5 (ix2 r l) = (q.m n l : EReal)
  gate : ∀ l, x6 (ix2 0 l) = (q.gate l : EReal)
  scale : ∀ l, x6 (ix2 1 l) = ((1 + q.scale l : ℝ) : EReal)
  w : ∀ l, x6 (ix2 2 l) = (q.w l : EReal)
  b : ∀ l, x6 (ix2 3 l) = (q.b l : EReal)
  wo : ∀ k l, wo (ix2 k l) = (q.wo k l : EReal)
  w1 : ∀ s k j, w1 (ix3 s k j) = (q.w1 k ⟨512 * s.val + j.val, by omega⟩ : EReal)
  w2 : ∀ j l, w2 (ix2 j l) = (q.w2 j l : EReal)

variable {q df dh n r x0 x1 x2 x3 x4 x5 x6 wo w1 w2}
variable (h : RowOf q df dh n r x0 x1 x2 x3 x4 x5 x6 wo w1 w2)

section
variable (y : FVec Ideal S1x1024 .f32) (z : FVec Ideal S512x1024 .f32) (i : Fin 1) (r : Fin 512) (l : Fin 1024)
theorem pay4_id : k0_pay4 (F := Ideal) y (ix2 i l) = y (ix2 i l) := by pointwise [k0_pay4]
theorem pay5_id : k0_pay5 (F := Ideal) y (ix2 i l) = y (ix2 i l) := by pointwise [k0_pay5]
theorem pay6_id : k0_pay6 (F := Ideal) y (ix2 i l) = y (ix2 i l) := by pointwise [k0_pay6]
theorem pay7_id : k0_pay7 (F := Ideal) y (ix2 i l) = y (ix2 i l) := by pointwise [k0_pay7]
theorem pay26_id : k0_pay26 (F := Ideal) z (ix2 r l) = z (ix2 r l) := by pointwise [k0_pay26]
theorem pay9_id : k0_pay9 (F := Ideal) (ix2 r l) = (0 : EReal) := by pointwise [k0_pay9]
end

include h

/-- The cotangent of the hidden values. -/
theorem RowOf.da (j : Fin 4096) : daVal x0 x1 w2 r j = (q.da n df j : EReal) := by
  unfold daVal
  simp only [h.df, h.w2, h.a, word_two, word_zero, max_coe, ← EReal.coe_mul, sum_coe]
  rfl

/-- Columns `512 s` on of one row's sum for the cotangent of the network's input. -/
theorem RowOf.part (s : Fin 8) (o : ℕ) (ho : o + 512 ≤ 4096) (e : o = 512 * s.val) (l : Fin 1024) :
    ∑ k : Fin 512, daBlk (F := Ideal) x0 x1 w2 o ho (ix2 r k) * w1 (ix3 s l k)
      = ((∑ k : Fin 512, q.da n df ⟨512 * s.val + k.val, by omega⟩ * q.w1 l ⟨512 * s.val + k.val, by omega⟩ : ℝ) : EReal) := by
  subst e
  simp only [daBlk_apply, h.da, h.w1, ← EReal.coe_mul, sum_coe]

theorem RowOf.pair (acc : FVec Ideal S512x1024 .f32) (o p : Fin 8) (i j : ℕ) (ho : o.val + 1 ≤ 8) (hp : p.val + 1 ≤ 8) (hi : i + 512 ≤ 4096) (hj : j + 512 ≤ 4096)
    (ei : i = 512 * o.val) (ej : j = 512 * p.val) (l : Fin 1024) (a : ℝ) (ha : acc (ix2 r l) = (a : EReal)) :
    Cert.FfnBlock.pair (F := Ideal) x0 x1 w1 w2 acc o.val p.val i j ho hp hi hj (ix2 r l)
      = ((a + ∑ k : Fin 512, q.da n df ⟨512 * o.val + k.val, by omega⟩ * q.w1 l ⟨512 * o.val + k.val, by omega⟩
          + ∑ k : Fin 512, q.da n df ⟨512 * p.val + k.val, by omega⟩ * q.w1 l ⟨512 * p.val + k.val, by omega⟩ : ℝ) : EReal) := by
  refine (two_apply (k0_pay8 (F := Ideal) x0) (rows2 (F := Ideal) w2 j hj) (cols (F := Ideal) x1 j hj) (daBlk (F := Ideal) x0 x1 w2 i hi)
    (k0_pay11 (F := Ideal) (slab (F := Ideal) w1 o.val ho)) acc (slab (F := Ideal) w1 p.val hp) r l).trans ?_
  rw [EReal.coe_add, EReal.coe_add, ha, ← h.part o i hi ei l, ← h.part p j hj ej l]
  refine congrArg₂ (· + ·) (congrArg₂ (· + ·) rfl (Finset.sum_congr rfl fun k _ => ?_)) rfl
  rw [sq_apply]
  rfl

/-- The cotangent of the network's input. -/
theorem RowOf.du (l : Fin 1024) : duBlk (F := Ideal) x0 x1 w1 w2 (ix2 r l) = (q.du2 n df l : EReal) := by
  unfold duBlk
  refine (h.pair _ 6 7 3072 3584 _ _ _ _ rfl rfl l _ (h.pair _ 4 5 2048 2560 _ _ _ _ rfl rfl l _ (h.pair _ 2 3 1024 1536 _ _ _ _ rfl rfl l _
    (h.pair _ 0 1 0 512 _ _ _ _ rfl rfl l 0 (pay9_id r l))))).trans ?_
  unfold Net.du2
  rw [sum_slabs, Fin.sum_univ_eight]
  congr 1
  simp only [add_assoc, zero_add]

theorem RowOf.aff (k : Fin 1024) :
    x3 (ix2 r k) * k0_pay6 (F := Ideal) (row (a := 8) (n := 1024) x6 2) (ix2 0 k) + k0_pay7 (F := Ideal) (row (a := 8) (n := 1024) x6 3) (ix2 0 k)
      = (q.x1 n k : EReal) := by
  rw [pay6_id, pay7_id]
  refine (congrArg₂ (· + ·) (congrArg₂ (· * ·) (h.x1n k) (h.w k)) (h.b k)).trans ?_
  rw [← EReal.coe_mul, ← EReal.coe_add]
  rfl
theorem RowOf.dev (k : Fin 1024) : devBlk (F := Ideal) x3 x6 (ix2 r k) = (dev (q.x1 n) k : EReal) :=
  dev_apply _ _ _ _ _ h.aff k
theorem RowOf.invs : invBlk (F := Ideal) x3 x6 (ix2 r 0) = (rstd (q.x1 n) : EReal) :=
  rstd_apply _ _ _ _ _ h.aff
theorem RowOf.norm (l : Fin 1024) : k0_pay29 (F := Ideal) (devBlk (F := Ideal) x3 x6) (invBlk (F := Ideal) x3 x6) (ix2 r l) = (q.x2n n l : EReal) :=
  norm_apply _ _ _ _ h.dev h.invs l

/-- The cotangent of the first normalisation's result. -/
theorem RowOf.dx1 (l : Fin 1024) : dx1Blk (F := Ideal) x0 x1 x2 x3 x6 w1 w2 (ix2 r l) = (q.dx1 n df dh l : EReal) :=
  dx1_apply (q.x1 n) r _ _ _ _ _ (dh n) (fun k => q.du2 n df k * (1 + q.scale k)) h.dev h.invs
    (fun k => by rw [h.du, pay5_id]; exact (congrArg _ (h.scale k)).trans (EReal.coe_mul _ _).symm) h.dh l

/-- The cotangent of the first residual sum. -/
theorem RowOf.dh1 (l : Fin 1024) : dh1Blk (F := Ideal) x0 x1 x2 x3 x4 x6 w1 w2 (ix2 r l) = (q.dh1 n df dh l : EReal) :=
  dh1_apply (q.h1 n) r _ _ _ _ _ _ (fun k => q.dx1 n df dh k * q.w k) _ _ (fun k => (pay26_id x3 r k).trans (h.x1n k)) h.inv
    (fun k => by rw [pay6_id]; exact (congrArg₂ (· * ·) (h.dx1 k) (h.w k)).trans (EReal.coe_mul _ _).symm) l

/-- The cotangent of the product with the output weights. -/
theorem RowOf.dm (l : Fin 1024) : k0_pay34 (F := Ideal) (k0_pay4 (F := Ideal) (row (a := 8) (n := 1024) x6 0)) (dh1Blk (F := Ideal) x0 x1 x2 x3 x4 x6 w1 w2) (ix2 r l)
    = ((q.gate l * q.dh1 n df dh l : ℝ) : EReal) := by
  rw [dm_apply, h.dh1, pay4_id]
  refine (congrArg _ (h.gate l)).trans ?_
  rw [← EReal.coe_mul, mul_comm]

/-- The cotangent of the mixer's output. -/
theorem RowOf.dmix (l : Fin 1024) : k0_pay35 (F := Ideal) (k0_pay4 (F := Ideal) (row (a := 8) (n := 1024) x6 0)) (dh1Blk (F := Ideal) x0 x1 x2 x3 x4 x6 w1 w2) wo (ix2 r l)
    = ((∑ k, q.gate k * q.dh1 n df dh k * q.wo l k : ℝ) : EReal) := by
  rw [dmix_apply]
  simp only [h.dm, h.wo, ← EReal.coe_mul, sum_coe]

/-- The residual branch of the input's cotangent. -/
theorem RowOf.dxa (l : Fin 1024) : k0_pay33 (F := Ideal) (dh1Blk (F := Ideal) x0 x1 x2 x3 x4 x6 w1 w2) k0_pay32 (ix2 r l)
    = ((alpha * q.dh1 n df dh l : ℝ) : EReal) := by
  rw [dxa_apply, h.dh1, EReal.coe_mul]

end Cert.FfnBlock

end
-- ==== Proof.FfnState.lean ====
/-
  What each grid point of the feed-forward gradient leaves, in terms of the blocks it reads.
-/
module

public import proofs.«01_k».proof.Proof.FfnRow

@[expose] public section

set_option maxRecDepth 16384

noncomputable section

namespace Cert.FfnBlock

open Cert.RowMath Cert.RowFfn Cert.RowStore Cert.FfnKernelIdeal Cert.FfnKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The blocks point `t` reads and the weights, by their types. -/
abbrev bDf : FVec Ideal S512x1024 .bf16 := iblk m c 0 t
abbrev bA : FVec Ideal S512x4096 .bf16 := iblk m c 1 t
abbrev bDh : FVec Ideal S512x1024 .f32 := iblk m c 2 t
abbrev bX1n : FVec Ideal S512x1024 .f32 := iblk m c 3 t
abbrev bInv : FVec Ideal S512x1 .f32 := iblk m c 4 t
abbrev bM : FVec Ideal S512x1024 .bf16 := iblk m c 5 t
abbrev bVec : FVec Ideal S8x1024 .f32 := iblk m c 6 t
abbrev wWo : FVec Ideal S1024x1024 .bf16 := V m c main_v1
abbrev wW1 : FVec Ideal S8x1024x512 .bf16 := V m c main_v7
abbrev wW2 : FVec Ideal S4096x1024 .bf16 := V m c main_v3
/-- The cotangent of the first residual sum in block `t`. -/
abbrev bDh1 : FVec Ideal S512x1024 .f32 :=
  dh1Blk (F := Ideal) (bDf m c t) (bA m c t) (bDh m c t) (bX1n m c t) (bInv m c t) (bVec m c t) (wW1 m c) (wW2 m c)

/-- After every point the scratch buffer of the output weights holds them. -/
theorem scr_wo (n : ℕ) (hn : n < cfg0.N) : (outsAt0 m c n hn).2.2.2.2.2.1 = wWo m c := by
  have hN := lt_of_lt_of_eq hn (show cfg0.N = 16 from N_0)
  have first : ∀ t : Fin cfg0.N, t.val % 16 = 0 → (outsAt0 m c t.val t.isLt).2.2.2.2.2.1 = wWo m c := fun t h0 => by
    rw [outsAt0_A m c t h0 h0]
    dsimp only
    exact scr_wo_A (F := Ideal) ..
  have later : ∀ t : Fin cfg0.N, ¬t.val % 16 = 0 → (outsAt0 m c t.val t.isLt).2.2.2.2.2.1
      = (outsAt0 m c (t.val - 1) (Nat.lt_of_le_of_lt (Nat.sub_le _ _) t.isLt)).2.2.2.2.2.1 := fun t h0 => by
    rw [outsAt0_B m c t h0 h0]
    dsimp only
    rfl
  induction n with
  | zero => exact first ⟨0, hn⟩ rfl
  | succ n ih => exact (later ⟨n + 1, hn⟩ (show ¬ (n + 1) % 16 = 0 by omega)).trans (ih (by omega) (by omega))

/-- After every point the scratch buffer of the first weights holds them. -/
theorem scr_w1 (n : ℕ) (hn : n < cfg0.N) : (outsAt0 m c n hn).2.2.2.2.2.2.1 = wW1 m c := by
  have hN := lt_of_lt_of_eq hn (show cfg0.N = 16 from N_0)
  have first : ∀ t : Fin cfg0.N, t.val % 16 = 0 → (outsAt0 m c t.val t.isLt).2.2.2.2.2.2.1 = wW1 m c := fun t h0 => by
    rw [outsAt0_A m c t h0 h0]
    dsimp only
    exact scr_w1_A (F := Ideal) ..
  have later : ∀ t : Fin cfg0.N, ¬t.val % 16 = 0 → (outsAt0 m c t.val t.isLt).2.2.2.2.2.2.1
      = (outsAt0 m c (t.val - 1) (Nat.lt_of_le_of_lt (Nat.sub_le _ _) t.isLt)).2.2.2.2.2.2.1 := fun t h0 => by
    rw [outsAt0_B m c t h0 h0]
    dsimp only
    rfl
  induction n with
  | zero => exact first ⟨0, hn⟩ rfl
  | succ n ih => exact (later ⟨n + 1, hn⟩ (show ¬ (n + 1) % 16 = 0 by omega)).trans (ih (by omega) (by omega))

/-- After every point the scratch buffer of the second weights holds them. -/
theorem scr_w2 (n : ℕ) (hn : n < cfg0.N) : (outsAt0 m c n hn).2.2.2.2.2.2.2 = wW2 m c := by
  have hN := lt_of_lt_of_eq hn (show cfg0.N = 16 from N_0)
  have first : ∀ t : Fin cfg0.N, t.val % 16 = 0 → (outsAt0 m c t.val t.isLt).2.2.2.2.2.2.2 = wW2 m c := fun t h0 => by
    rw [outsAt0_A m c t h0 h0]
    dsimp only
    exact scr_w2_A (F := Ideal) ..
  have later : ∀ t : Fin cfg0.N, ¬t.val % 16 = 0 → (outsAt0 m c t.val t.isLt).2.2.2.2.2.2.2
      = (outsAt0 m c (t.val - 1) (Nat.lt_of_le_of_lt (Nat.sub_le _ _) t.isLt)).2.2.2.2.2.2.2 := fun t h0 => by
    rw [outsAt0_B m c t h0 h0]
    dsimp only
    rfl
  induction n with
  | zero => exact first ⟨0, hn⟩ rfl
  | succ n ih => exact (later ⟨n + 1, hn⟩ (show ¬ (n + 1) % 16 = 0 by omega)).trans (ih (by omega) (by omega))

/-- Every point leaves the cotangent of the hidden values. -/
theorem da_all (r : Fin 512) (j : Fin 4096) : @Eq EReal ((outsAt0 m c t.val t.isLt).1 (ix2 r j)) (daVal (bDf m c t) (bA m c t) (wW2 m c) r j) := by
  by_cases h0 : t.val % 16 = 0
  · rw [outsAt0_A m c t h0 h0]
    dsimp only
    exact da_A ..
  · rw [outsAt0_B m c t h0 h0]
    dsimp only
    refine (da_B ..).trans ?_
    rw [scr_w2]

set_option maxHeartbeats 1000000 in  -- a tuple of eight long terms is read at one of them
theorem dm_later (h0 : ¬t.val % 16 = 0) : (outsAt0 m c t.val t.isLt).2.1 = k0_pay34 (F := Ideal) (k0_pay4 (F := Ideal) (row (a := 8) (n := 1024) (bVec m c t) 0)) (dh1Blk (F := Ideal) (bDf m c t) (bA m c t) (bDh m c t) (bX1n m c t) (bInv m c t) (bVec m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  rw [outsAt0_B m c t h0 h0]
  dsimp only
  exact dm_B (F := Ideal) ..

set_option maxHeartbeats 1000000 in
/-- Every point leaves the cotangent of the product with the output weights. -/
theorem dm_all : (outsAt0 m c t.val t.isLt).2.1 = k0_pay34 (F := Ideal) (k0_pay4 (F := Ideal) (row (a := 8) (n := 1024) (bVec m c t) 0)) (bDh1 m c t) := by
  by_cases h0 : t.val % 16 = 0
  · rw [outsAt0_A m c t h0 h0]
    dsimp only
    exact dm_A (F := Ideal) ..
  · rw [dm_later m c t h0, scr_w1, scr_w2]

set_option maxHeartbeats 1000000 in  -- a tuple of eight long terms is read at one of them
theorem dmix_later (h0 : ¬t.val % 16 = 0) : (outsAt0 m c t.val t.isLt).2.2.1 = k0_pay35 (F := Ideal) (k0_pay4 (F := Ideal) (row (a := 8) (n := 1024) (bVec m c t) 0)) (dh1Blk (F := Ideal) (bDf m c t) (bA m c t) (bDh m c t) (bX1n m c t) (bInv m c t) (bVec m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) (outsAt0 m c (t.val - 1) (Nat.lt_of_le_of_lt (Nat.sub_le _ _) t.isLt)).2.2.2.2.2.1 := by
  rw [outsAt0_B m c t h0 h0]
  dsimp only
  exact dmix_B (F := Ideal) ..

set_option maxHeartbeats 1000000 in
/-- Every point leaves the cotangent of the mixer's output. -/
theorem dmix_all : (outsAt0 m c t.val t.isLt).2.2.1 = k0_pay35 (F := Ideal) (k0_pay4 (F := Ideal) (row (a := 8) (n := 1024) (bVec m c t) 0)) (bDh1 m c t) (wWo m c) := by
  by_cases h0 : t.val % 16 = 0
  · rw [outsAt0_A m c t h0 h0]
    dsimp only
    exact dmix_A (F := Ideal) ..
  · rw [dmix_later m c t h0, scr_w1, scr_w2, scr_wo]

set_option maxHeartbeats 1000000 in  -- a tuple of eight long terms is read at one of them
theorem dxa_later (h0 : ¬t.val % 16 = 0) : (outsAt0 m c t.val t.isLt).2.2.2.1 = k0_pay33 (F := Ideal) (dh1Blk (F := Ideal) (bDf m c t) (bA m c t) (bDh m c t) (bX1n m c t) (bInv m c t) (bVec m c t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) k0_pay32 := by
  rw [outsAt0_B m c t h0 h0]
  dsimp only
  exact dxa_B (F := Ideal) ..

set_option maxHeartbeats 1000000 in
/-- Every point leaves the residual branch of the input's cotangent. -/
theorem dxa_all : (outsAt0 m c t.val t.isLt).2.2.2.1 = k0_pay33 (F := Ideal) (bDh1 m c t) k0_pay32 := by
  by_cases h0 : t.val % 16 = 0
  · rw [outsAt0_A m c t h0 h0]
    dsimp only
    exact dxa_A (F := Ideal) ..
  · rw [dxa_later m c t h0, scr_w1, scr_w2]

/-- The rows of sums once the rows of block `t` are added to those of `z`. -/
abbrev bAcc (z : FVec Ideal S8x1024 .f32) (r : Fin 8) (l : Fin 1024) : EReal :=
  accBlk (F := Ideal) (bDf m c t) (bA m c t) (bDh m c t) (bX1n m c t) (bInv m c t) (bM m c t) (bVec m c t) (wW1 m c) (wW2 m c) z r l

set_option maxHeartbeats 1000000 in
theorem acc_first (h0 : t.val % 16 = 0) (r : Fin 8) (l : Fin 1024) :
    @Eq EReal ((outsAt0 m c t.val t.isLt).2.2.2.2.1 (ix2 r l)) (bAcc m c t (k0_pay3 (F := Ideal)) r l) := by
  rw [outsAt0_A m c t h0 h0]
  dsimp only
  exact acc_A (F := Ideal) ..

set_option maxHeartbeats 1000000 in
theorem acc_later (h0 : ¬t.val % 16 = 0) (r : Fin 8) (l : Fin 1024) :
    @Eq EReal ((outsAt0 m c t.val t.isLt).2.2.2.2.1 (ix2 r l))
      (bAcc m c t (outsAt0 m c (t.val - 1) (Nat.lt_of_le_of_lt (Nat.sub_le _ _) t.isLt)).2.2.2.2.1 r l) := by
  rw [outsAt0_B m c t h0 h0]
  dsimp only
  refine (acc_B (F := Ideal) ..).trans ?_
  rw [scr_w1, scr_w2]

end Cert.FfnBlock

end
-- ==== Proof.HostFfn.lean ====
/-
  The forward layer around the feed-forward network as the host writes it, operation by operation over variables, and
  what its rows are over the reals.
-/
module

public import proofs.«01_k».proof.Proof.Gen.FfnReferenceIdeal.Run
public import proofs.«01_k».proof.Proof.InRef
public import proofs.«01_k».proof.Proof.RowFfn

@[expose] public section

set_option maxRecDepth 16384

noncomputable section

namespace Cert.HostFfn

open Cert.RowMath Cert.RowFfn Cert.FfnReferenceIdeal Cert.FfnReferenceIdeal.Gen Idealize.ShloMosaic
open Cert.InRef (Mat Col devs vars invs spread direct viaVar viaMean colSum onePlus)

abbrev Vec1 := FVec Ideal S1x1024 .f32
abbrev Wide := FVec Ideal S1x8192x4096 .f32

/-- The residual factor in every entry. -/
def alphas : Mat := broadcastInDim S1x8192x1024 ![] bcast_S_S1x8192x1024 (constant (F := Ideal) S_ .f32 0x3F9837F0#32)
def zeros : Mat := broadcastInDim S1x8192x1024 ![] bcast_S_S1x8192x1024 (constant (F := Ideal) S_ .f32 0x00000000#32)
def wideZeros : Wide := broadcastInDim S1x8192x4096 ![] bcast_S_S1x8192x4096 (constant (F := Ideal) S_ .f32 0x00000000#32)
/-- A per-device row in every row of the matrix. -/
def rows (s : Vec1) : Mat := broadcastInDim S1x8192x1024 ![0, 1, 2] bcast_S1x1x1024_S1x8192x1024_0_1_2
  (broadcastInDim S1x1x1024 ![0, 2] bcast_S1x1024_S1x1x1024_0_2 s)
/-- A row of weights in every row of the matrix. -/
def wrows (w : Vec1) : Mat := broadcastInDim S1x8192x1024 ![0, 1, 2] bcast_S1x1x1024_S1x8192x1024_0_1_2
  (broadcastInDim S1x1x1024 ![2] bcast_S1024_S1x1x1024_2 (shapeCast _ w shapeCasts_S1x1024_S1024))
def proj (x : Mat) (w : FVec Ideal S1x1024x1024 .f32) : Mat :=
  Host.dotGeneral dot_S1x8192x1024_S1024x1024_S1x8192x1024_2_0_01_1_n_n none x (shapeCast _ w shapeCasts_S1x1024x1024_S1024x1024)
def resid (x : Mat) (s : Vec1) (y : Mat) : Mat := addf (mulf alphas x) (mulf (rows s) y)
def norm (x : Mat) : Mat := mulf (devs x) (spread (invs x))
def affine (y : Mat) (w b : Vec1) : Mat := addf (mulf y (wrows w)) (wrows b)
def modul (y : Mat) (s t : Vec1) : Mat := addf (mulf y (onePlus s)) (rows t)
def hidden (u : Mat) (w : FVec Ideal S1x1024x4096 .f32) : Wide :=
  Host.dotGeneral dot_S1x8192x1024_S1024x4096_S1x8192x4096_2_0_01_1_n_n none u (shapeCast _ w shapeCasts_S1x1024x4096_S1024x4096)

variable (x y : Mat) (s t w b : Vec1) (n : Fin 8192) (l : Fin 1024) (j : Fin 4096)

theorem alphas_apply : alphas (ix3 0 n l) = (alpha : EReal) := by pointwise [alphas]; rw [word_alpha]
theorem zeros_apply : zeros (ix3 0 n l) = ((0 : ℝ) : EReal) := by pointwise [zeros]; exact EReal.coe_zero.symm
theorem wideZeros_apply : wideZeros (ix3 0 n j) = ((0 : ℝ) : EReal) := by pointwise [wideZeros]; exact EReal.coe_zero.symm
theorem rows_apply : rows s (ix3 0 n l) = s (ix2 0 l) := by pointwise [rows]
theorem wrows_apply : wrows w (ix3 0 n l) = w (ix2 0 l) := by pointwise [wrows]
theorem proj_apply (w : FVec Ideal S1x1024x1024 .f32) : proj x w (ix3 0 n l) = ∑ k : Fin 1024, x (ix3 0 n k) * w (ix3 0 k l) := by
  pointwise [proj]
theorem hidden_apply (w : FVec Ideal S1x1024x4096 .f32) : hidden x w (ix3 0 n j) = ∑ k : Fin 1024, x (ix3 0 n k) * w (ix3 0 k j) := by
  pointwise [hidden]

variable (x' : Fin 1024 → ℝ)
theorem norm_apply (hx : ∀ l, x (ix3 0 n l) = (x' l : EReal)) : norm x (ix3 0 n l) = ((dev x' l * rstd x' : ℝ) : EReal) := by
  pointwise [norm]
  rw [Cert.InRef.spread_apply, Cert.InRef.devs_apply x x' n hx, Cert.InRef.invs_apply x x' n hx, EReal.coe_mul]

/-- The forward arguments of one device are these reals. -/
structure Of (q : Net) (mixed x : Mat) (gate scale shift : Vec1) (wo : FVec Ideal S1x1024x1024 .f32) (w b : Vec1)
    (w1 : FVec Ideal S1x1024x4096 .f32) (w2 : FVec Ideal S1x4096x1024 .f32) : Prop where
  mixed : ∀ n l, mixed (ix3 0 n l) = (q.mixed n l : EReal)
  x : ∀ n l, x (ix3 0 n l) = (q.x n l : EReal)
  gate : ∀ l, gate (ix2 0 l) = (q.gate l : EReal)
  scale : ∀ l, scale (ix2 0 l) = (q.scale l : EReal)
  shift : ∀ l, shift (ix2 0 l) = (q.shift l : EReal)
  wo : ∀ k l, wo (ix3 0 k l) = (q.wo k l : EReal)
  w : ∀ l, w (ix2 0 l) = (q.w l : EReal)
  b : ∀ l, b (ix2 0 l) = (q.b l : EReal)
  w1 : ∀ k j, w1 (ix3 0 k j) = (q.w1 k j : EReal)
  w2 : ∀ j l, w2 (ix3 0 j l) = (q.w2 j l : EReal)

section
variable {q : Net} {mixed x : Mat} {gate scale shift w b : Vec1} {wo : FVec Ideal S1x1024x1024 .f32}
  {w1 : FVec Ideal S1x1024x4096 .f32} {w2 : FVec Ideal S1x4096x1024 .f32} (h : Of q mixed x gate scale shift wo w b w1 w2) (y : Mat)

include h
theorem Of.m : proj mixed wo (ix3 0 n l) = (q.m n l : EReal) := by
  rw [proj_apply]
  simp only [h.mixed, h.wo, ← EReal.coe_mul, sum_coe]
  rfl
theorem Of.h1 (hy : ∀ l, y (ix3 0 n l) = (q.m n l : EReal)) : resid x gate y (ix3 0 n l) = (q.h1 n l : EReal) := by
  pointwise [resid]
  rw [alphas_apply, rows_apply, h.x, h.gate, hy, ← EReal.coe_mul, ← EReal.coe_mul, ← EReal.coe_add]
  rfl
theorem Of.x1 (hy : ∀ l, y (ix3 0 n l) = (q.x1n n l : EReal)) : affine y w b (ix3 0 n l) = (q.x1 n l : EReal) := by
  pointwise [affine]
  rw [wrows_apply, wrows_apply, h.w, h.b, hy, ← EReal.coe_mul, ← EReal.coe_add]
  rfl
theorem Of.one : onePlus scale (ix3 0 n l) = ((1 + q.scale l : ℝ) : EReal) := by
  rw [Cert.InRef.onePlus_apply, h.scale, EReal.coe_add, EReal.coe_one]
theorem Of.u2 (hy : ∀ l, y (ix3 0 n l) = (q.x2n n l : EReal)) : modul y scale shift (ix3 0 n l) = (q.u2 n l : EReal) := by
  pointwise [modul]
  rw [h.one, rows_apply, h.shift, hy, ← EReal.coe_mul, ← EReal.coe_add]
  rfl
theorem Of.a (hy : ∀ l, y (ix3 0 n l) = (q.u2 n l : EReal)) : hidden y w1 (ix3 0 n j) = (q.a n j : EReal) := by
  rw [hidden_apply]
  simp only [hy, h.w1, ← EReal.coe_mul, sum_coe]
  rfl
end

end Cert.HostFfn

end
-- ==== Proof.FfnArray.lean ====
/-
  The arrays the kernel of the feed-forward gradient is called with.
-/
module

public import proofs.«01_k».proof.Proof.FfnBlock
public import proofs.«01_k».proof.Proof.HostFfn
public import Idealize.ShloMosaic.Lib.Tactic
public import Idealize.ShloMosaic.Lib.KernelVsHost
public import Idealize.ShloMosaic.Lib.Claim

@[expose] public section

set_option maxRecDepth 16384

noncomputable section

namespace Cert.FfnBlock

open Cert.RowMath Cert.RowStore Cert.FfnKernelIdeal Cert.FfnKernelIdeal.Gen Idealize.ShloMosaic Idealize.ShloMosaic.TcCoe Idealize.SL.Sem
open Cert.HostFfn (Vec1 Wide proj resid norm affine modul hidden)
open Cert.InRef (Mat Col invs)

variable (m : (ℓ : Loc nD τ sig) → Buf (Elt Ideal) ℓ) (c : Dev nD)

abbrev argMixed : Mat := m ((c : Thread nD τ).loc main_arg0)
abbrev argX : Mat := m ((c : Thread nD τ).loc main_arg1)
abbrev argGate : Vec1 := m ((c : Thread nD τ).loc main_arg2)
abbrev argScale : Vec1 := m ((c : Thread nD τ).loc main_arg3)
abbrev argShift : Vec1 := m ((c : Thread nD τ).loc main_arg4)
abbrev argWo : FVec Ideal S1x1024x1024 .f32 := m ((c : Thread nD τ).loc main_arg5)
abbrev argLw : Vec1 := m ((c : Thread nD τ).loc main_arg6)
abbrev argLb : Vec1 := m ((c : Thread nD τ).loc main_arg7)
abbrev argW1 : FVec Ideal S1x1024x4096 .f32 := m ((c : Thread nD τ).loc main_arg8)
abbrev argW2 : FVec Ideal S1x4096x1024 .f32 := m ((c : Thread nD τ).loc main_arg9)
abbrev argDf : Mat := m ((c : Thread nD τ).loc main_arg10)
abbrev argDh : Mat := m ((c : Thread nD τ).loc main_arg11)

/-- The first residual sum as the host computes it. -/
abbrev hostH1 : Mat := resid (argX m c) (argGate m c) (proj (argMixed m c) (argWo m c))
/-- The first normalisation's result. -/
abbrev hostX1 : Mat := affine (norm (hostH1 m c)) (argLw m c) (argLb m c)

section
variable (x : Mat)
theorem sq_rows (n : Fin 8192) (l : Fin 1024) : shapeCast S8192x1024 x shapeCasts_S1x8192x1024_S8192x1024 (ix2 n l) = x (ix3 0 n l) := by pointwise
theorem sq_rows_bf (n : Fin 8192) (l : Fin 1024) :
    truncf (F := Ideal) .bf16 (shapeCast S8192x1024 x shapeCasts_S1x8192x1024_S8192x1024) bitsLt_bf16_f32 (ix2 n l) = x (ix3 0 n l) := by pointwise
theorem sq_col (x : Col) (n : Fin 8192) : shapeCast S8192x1 x shapeCasts_S1x8192x1_S8192x1 (ix2 n 0) = x (ix3 0 n 0) := by pointwise
theorem sq_wide_bf (x : Wide) (n : Fin 8192) (j : Fin 4096) :
    truncf (F := Ideal) .bf16 (shapeCast S8192x4096 x shapeCasts_S1x8192x4096_S8192x4096) bitsLt_bf16_f32 (ix2 n j) = x (ix3 0 n j) := by pointwise
theorem sq_wo (x : FVec Ideal S1x1024x1024 .f32) (k l : Fin 1024) :
    truncf (F := Ideal) .bf16 (shapeCast S1024x1024 x shapeCasts_S1x1024x1024_S1024x1024) bitsLt_bf16_f32 (ix2 k l) = x (ix3 0 k l) := by pointwise
theorem sq_w2 (x : FVec Ideal S1x4096x1024 .f32) (j : Fin 4096) (l : Fin 1024) :
    truncf (F := Ideal) .bf16 (shapeCast S4096x1024 x shapeCasts_S1x4096x1024_S4096x1024) bitsLt_bf16_f32 (ix2 j l) = x (ix3 0 j l) := by pointwise
/-- The first weights slab by slab: slab `s` holds columns `512 s` on. -/
def slabs (x : FVec Ideal S1x1024x4096 .f32) : FVec Ideal S8x1024x512 .bf16 :=
  truncf (F := Ideal) .bf16 (transpose S8x1024x512 [1, 0, 2] (shapeCast S1024x8x512 (shapeCast S1024x4096 x shapeCasts_S1x1024x4096_S1024x4096)
    shapeCasts_S1024x4096_S1024x8x512) transposes_S1024x8x512_S8x1024x512_1_0_2) bitsLt_bf16_f32
theorem slabs_apply (x : FVec Ideal S1x1024x4096 .f32) (s : Fin 8) (k : Fin 1024) (j : Fin 512) :
    slabs x (ix3 s k j) = x (ix3 0 k ⟨512 * s.val + j.val, by omega⟩) := by
  pointwise [slabs]
  exact congrArg (fun z => x (ix3 0 k z)) (Fin.ext (by show s.val * 512 + j.val = 512 * s.val + j.val; omega))
/-- The vectors of the call as rows of one array. -/
def vecs (g s w b : Vec1) : FVec Ideal S8x1024 .f32 := concatenate S8x1024 0
  [⟨S1x1024, (g : (⟨S1x1024, .f32⟩ : BufTy).Contents (Elt Ideal))⟩,
   ⟨S1x1024, ((addf (broadcastInDim S1x1024 ![] bcast_S_S1x1024 (constant (F := Ideal) S_ .f32 0x3F800000#32)) s) : (⟨S1x1024, .f32⟩ : BufTy).Contents (Elt Ideal))⟩,
   ⟨S1x1024, (w : (⟨S1x1024, .f32⟩ : BufTy).Contents (Elt Ideal))⟩, ⟨S1x1024, (b : (⟨S1x1024, .f32⟩ : BufTy).Contents (Elt Ideal))⟩,
   ⟨S4x1024, ((broadcastInDim S4x1024 ![] bcast_S_S4x1024 (constant (F := Ideal) S_ .f32 0x00000000#32)) : (⟨S4x1024, .f32⟩ : BufTy).Contents (Elt Ideal))⟩]
  concatenates_S1x1024_S1x1024_S1x1024_S1x1024_S4x1024_S8x1024_d0
variable (g s w b : Vec1) (l : Fin 1024)
theorem vecs_0 : vecs g s w b (ix2 0 l) = g (ix2 0 l) := by pointwise [vecs]
theorem vecs_1 : vecs g s w b (ix2 1 l) = 1 + s (ix2 0 l) := by pointwise [vecs]
theorem vecs_2 : vecs g s w b (ix2 2 l) = w (ix2 0 l) := by pointwise [vecs]
theorem vecs_3 : vecs g s w b (ix2 3 l) = b (ix2 0 l) := by pointwise [vecs]
end

/-- The arrays as the host's operations leave them. -/
structure Host : Prop where
  a : @Eq (FVec Ideal S8192x4096 .bf16) (V m c main_v78)
    (truncf (F := Ideal) .bf16 (shapeCast S8192x4096 (hidden (modul (norm (hostX1 m c)) (argScale m c) (argShift m c)) (argW1 m c)) shapeCasts_S1x8192x4096_S8192x4096) bitsLt_bf16_f32)
  df : @Eq (FVec Ideal S8192x1024 .bf16) (V m c main_v13)
    (truncf (F := Ideal) .bf16 (shapeCast S8192x1024 (argDf m c) shapeCasts_S1x8192x1024_S8192x1024) bitsLt_bf16_f32)
  dh : @Eq (FVec Ideal S8192x1024 .f32) (V m c main_v14)
    (shapeCast S8192x1024 (argDh m c) shapeCasts_S1x8192x1024_S8192x1024)
  x1n : @Eq (FVec Ideal S8192x1024 .f32) (V m c main_v79)
    (shapeCast S8192x1024 (norm (hostH1 m c)) shapeCasts_S1x8192x1024_S8192x1024)
  rstd : @Eq (FVec Ideal S8192x1 .f32) (V m c main_v80)
    (shapeCast S8192x1 (invs (hostH1 m c)) shapeCasts_S1x8192x1_S8192x1)
  mo : @Eq (FVec Ideal S8192x1024 .bf16) (V m c main_v82)
    (truncf (F := Ideal) .bf16 (shapeCast S8192x1024 (proj (argMixed m c) (argWo m c)) shapeCasts_S1x8192x1024_S8192x1024) bitsLt_bf16_f32)
  vec : @Eq (FVec Ideal S8x1024 .f32) (V m c main_v11)
    (vecs (argGate m c) (argScale m c) (argLw m c) (argLb m c))
  wo : @Eq (FVec Ideal S1024x1024 .bf16) (V m c main_v1)
    (truncf (F := Ideal) .bf16 (shapeCast S1024x1024 (argWo m c) shapeCasts_S1x1024x1024_S1024x1024) bitsLt_bf16_f32)
  w2 : @Eq (FVec Ideal S4096x1024 .bf16) (V m c main_v3)
    (truncf (F := Ideal) .bf16 (shapeCast S4096x1024 (argW2 m c) shapeCasts_S1x4096x1024_S4096x1024) bitsLt_bf16_f32)
  w1 : @Eq (FVec Ideal S8x1024x512 .bf16) (V m c main_v7)
    (slabs (argW1 m c))
theorem host : Host m c := by
  constructor <;>
  · show StableHlo.after _ _ _ = _
    simp only [hostOps0, List.flatten_cons, List.flatten_nil, List.append_nil, List.cons_append,
      List.nil_append, StableHlo.after_cons, StableHlo.after_nil]
    after_results_simp
    try rfl

end Cert.FfnBlock

end
-- ==== Proof.FfnSum.lean ====
/-
  The blocks of the feed-forward gradient over the reals, and its sums over the points.
-/
module

public import proofs.«01_k».proof.Proof.FfnState
public import proofs.«01_k».proof.Proof.FfnArray

@[expose] public section

set_option maxRecDepth 16384

noncomputable section

namespace Cert.FfnBlock

open Cert.RowMath Cert.RowFfn Cert.RowStore Cert.FfnKernelIdeal Cert.FfnKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of block `t`. -/
abbrev rowAt (t : Fin cfg0.N) (r : Fin 512) : Fin 8192 := at_ t.val (lt_of_lt_of_eq t.isLt (show cfg0.N = 16 from N_0)) r

/-- One device's arguments are these reals. -/
structure Of (q : Net) (df dh : Fin 8192 → Fin 1024 → ℝ) : Prop where
  net : Cert.HostFfn.Of q (argMixed m c) (argX m c) (argGate m c) (argScale m c) (argShift m c) (argWo m c) (argLw m c) (argLb m c) (argW1 m c) (argW2 m c)
  df : ∀ n l, argDf m c (ix3 0 n l) = (df n l : EReal)
  dh : ∀ n l, argDh m c (ix3 0 n l) = (dh n l : EReal)

variable {q : Net} {df dh : Fin 8192 → Fin 1024 → ℝ} (h : Of m c q df dh) (t : Fin cfg0.N)

section
include h
theorem Of.h1 (n : Fin 8192) (l : Fin 1024) : hostH1 m c (ix3 0 n l) = (q.h1 n l : EReal) := h.net.h1 n l _ fun k => h.net.m n k
theorem Of.x1n (n : Fin 8192) (l : Fin 1024) : Cert.HostFfn.norm (hostH1 m c) (ix3 0 n l) = (q.x1n n l : EReal) :=
  Cert.HostFfn.norm_apply _ n l (q.h1 n) fun k => h.h1 m c n k
theorem Of.x1 (n : Fin 8192) (l : Fin 1024) : hostX1 m c (ix3 0 n l) = (q.x1 n l : EReal) := h.net.x1 n l _ fun k => h.x1n m c n k
theorem Of.a (n : Fin 8192) (j : Fin 4096) :
    Cert.HostFfn.hidden (Cert.HostFfn.modul (Cert.HostFfn.norm (hostX1 m c)) (argScale m c) (argShift m c)) (argW1 m c) (ix3 0 n j) = (q.a n j : EReal) :=
  h.net.a n j _ fun k => h.net.u2 n k _ fun k => Cert.HostFfn.norm_apply _ n k (q.x1 n) fun k => h.x1 m c n k
end

theorem idx0 : win0_0.index t 0 = t.val ∧ win0_0.index t 1 = 0 := (by decide +kernel : ∀ t : Fin grid0.N, win0_0.index t 0 = t.val ∧ win0_0.index t 1 = 0) t
theorem blk0 (r : Fin 512) (k : Fin 1024) : bDf m c t (ix2 r k) = V m c main_v13 (ix2 (rowAt t r) k) := by
  unfold bDf iblk
  rw [View.read_apply]
  show V m c main_v13 _ = V m c main_v13 _
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega
theorem idx1 : win0_1.index t 0 = t.val ∧ win0_1.index t 1 = 0 := (by decide +kernel : ∀ t : Fin grid0.N, win0_1.index t 0 = t.val ∧ win0_1.index t 1 = 0) t
theorem blk1 (r : Fin 512) (k : Fin 4096) : bA m c t (ix2 r k) = V m c main_v78 (ix2 (rowAt t r) k) := by
  unfold bA iblk
  rw [View.read_apply]
  show V m c main_v78 _ = V m c main_v78 _
  congr 1
  funext a
  apply Fin.ext
  match a with
  | ⟨0, _⟩ => show win0_1.index t 0 * 512 + 1 * r.val = 512 * t.val + r.val; rw [(idx1 t).1]; omega
  | ⟨1, _⟩ => show win0_1.index t 1 * 4096 + 1 * k.val = k.val; rw [(idx1 t).2]; omega
theorem idx2 : win0_2.index t 0 = t.val ∧ win0_2.index t 1 = 0 := (by decide +kernel : ∀ t : Fin grid0.N, win0_2.index t 0 = t.val ∧ win0_2.index t 1 = 0) t
theorem blk2 (r : Fin 512) (k : Fin 1024) : bDh m c t (ix2 r k) = V m c main_v14 (ix2 (rowAt t r) k) := by
  unfold bDh iblk
  rw [View.read_apply]
  show V m c main_v14 _ = V m c main_v14 _
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * k.val = k.val; rw [(idx2 t).2]; omega
theorem idx3 : win0_3.index t 0 = t.val ∧ win0_3.index t 1 = 0 := (by decide +kernel : ∀ t : Fin grid0.N, win0_3.index t 0 = t.val ∧ win0_3.index t 1 = 0) t
theorem blk3 (r : Fin 512) (k : Fin 1024) : bX1n m c t (ix2 r k) = V m c main_v79 (ix2 (rowAt t r) k) := by
  unfold bX1n iblk
  rw [View.read_apply]
  show V m c main_v79 _ = V m c main_v79 _
  congr 1
  funext a
  apply Fin.ext
  match a with
  | ⟨0, _⟩ => show win0_3.index t 0 * 512 + 1 * r.val = 512 * t.val + r.val; rw [(idx3 t).1]; omega
  | ⟨1, _⟩ => show win0_3.index t 1 * 1024 + 1 * k.val = k.val; rw [(idx3 t).2]; omega
theorem idx4 : win0_4.index t 0 = t.val ∧ win0_4.index t 1 = 0 := (by decide +kernel : ∀ t : Fin grid0.N, win0_4.index t 0 = t.val ∧ win0_4.index t 1 = 0) t
theorem blk4 (r : Fin 512) (k : Fin 1) : bInv m c t (ix2 r k) = V m c main_v80 (ix2 (rowAt t r) k) := by
  unfold bInv iblk
  rw [View.read_apply]
  show V m c main_v80 _ = V m c main_v80 _
  congr 1
  funext a
  apply Fin.ext
  match a with
  | ⟨0, _⟩ => show win0_4.index t 0 * 512 + 1 * r.val = 512 * t.val + r.val; rw [(idx4 t).1]; omega
  | ⟨1, _⟩ => show win0_4.index t 1 * 1 + 1 * k.val = k.val; rw [(idx4 t).2]; omega
theorem idx5 : win0_5.index t 0 = t.val ∧ win0_5.index t 1 = 0 := (by decide +kernel : ∀ t : Fin grid0.N, win0_5.index t 0 = t.val ∧ win0_5.index t 1 = 0) t
theorem blk5 (r : Fin 512) (k : Fin 1024) : bM m c t (ix2 r k) = V m c main_v82 (ix2 (rowAt t r) k) := by
  unfold bM iblk
  rw [View.read_apply]
  show V m c main_v82 _ = V m c main_v82 _
  congr 1
  funext a
  apply Fin.ext
  match a with
  | ⟨0, _⟩ => show win0_5.index t 0 * 512 + 1 * r.val = 512 * t.val + r.val; rw [(idx5 t).1]; omega
  | ⟨1, _⟩ => show win0_5.index t 1 * 1024 + 1 * k.val = k.val; rw [(idx5 t).2]; omega
theorem idx6 : win0_6.index t 0 = 0 ∧ win0_6.index t 1 = 0 := (by decide +kernel : ∀ t : Fin grid0.N, win0_6.index t 0 = 0 ∧ win0_6.index t 1 = 0) t
theorem blk6 (r : Fin 8) (k : Fin 1024) : bVec m c t (ix2 r k) = vecs (argGate m c) (argScale m c) (argLw m c) (argLb m c) (ix2 r k) := by
  rw [← (host m c).vec]
  unfold bVec iblk
  rw [View.read_apply]
  show V m c main_v11 _ = V m c main_v11 _
  congr 1
  funext a
  apply Fin.ext
  match a with
  | ⟨0, _⟩ => show win0_6.index t 0 * 8 + 1 * r.val = r.val; rw [(idx6 t).1]; omega
  | ⟨1, _⟩ => show win0_6.index t 1 * 1024 + 1 * k.val = k.val; rw [(idx6 t).2]; omega

include h

/-- Every row of every block. -/
theorem rowOf (r : Fin 512) : RowOf q df dh (rowAt t r) r (bDf m c t) (bA m c t) (bDh m c t) (bX1n m c t) (bInv m c t) (bM m c t) (bVec m c t)
    (wWo m c) (wW1 m c) (wW2 m c) where
  df l := by rw [blk0, (host m c).df, sq_rows_bf, h.df]
  a j := by rw [blk1, (host m c).a, sq_wide_bf, h.a]
  dh l := by rw [blk2, (host m c).dh, sq_rows, h.dh]
  x1n l := by rw [blk3, (host m c).x1n, sq_rows, h.x1n]
  inv := by rw [blk4, (host m c).rstd, sq_col]; exact Cert.InRef.invs_apply _ (q.h1 (rowAt t r)) _ fun k => h.h1 m c _ k
  m l := by rw [blk5, (host m c).mo, sq_rows_bf, h.net.m]
  gate l := by rw [blk6, vecs_0, h.net.gate]
  scale l := by rw [blk6, vecs_1, h.net.scale, EReal.coe_add, EReal.coe_one]
  w l := by rw [blk6, vecs_2, h.net.w]
  b l := by rw [blk6, vecs_3, h.net.b]
  wo k l := by unfold wWo; rw [(host m c).wo, sq_wo, h.net.wo]
  w1 s k j := by unfold wW1; rw [(host m c).w1, slabs_apply, h.net.w1]
  w2 j l := by unfold wW2; rw [(host m c).w2, sq_w2, h.net.w2]

/-- A block adds its rows to the sums. -/
theorem acc_step (z : FVec Ideal S8x1024 .f32) (l : Fin 1024) (hz : ∀ r, z (ix2 r l) = (sums q df dh (512 * t.val) r l : EReal)) (r : Fin 8) :
    bAcc m c t z r l = (sums q df dh (512 * t.val + 512) r l : EReal) := by
  have ht := lt_of_lt_of_eq t.isLt (show cfg0.N = 16 from N_0)
  have hr := fun r => rowOf m c h t r
  have step : ∀ (f : Fin 8192 → ℝ) (o : Fin 8) (e : sums q df dh (512 * t.val) o l = below f (512 * t.val)),
      @HAdd.hAdd EReal EReal EReal _ (z (ix2 o l)) (∑ r : Fin 512, ((f (rowAt t r) : ℝ) : EReal)) = (below f (512 * t.val + 512) : EReal) := fun f o e => by
    rw [below_add f t.val ht, EReal.coe_add, sum_coe, hz o, e]
  unfold bAcc accBlk sums
  split_ifs with h4 h3 h2 h1 h0
  · rw [acc4_apply]
    simp only [(hr _).dh1, (hr _).m, ← EReal.coe_mul]
    exact step (fun n => q.dh1 n df dh l * q.m n l) 4 rfl
  · rw [acc3_apply]
    simp only [(hr _).dx1]
    exact step (fun n => q.dx1 n df dh l) 3 rfl
  · rw [acc2_apply]
    simp only [(hr _).dx1, pay26_id, (hr _).x1n, ← EReal.coe_mul]
    exact step (fun n => q.dx1 n df dh l * q.x1n n l) 2 rfl
  · rw [acc1_apply]
    simp only [(hr _).du]
    exact step (fun n => q.du2 n df l) 1 rfl
  · rw [acc0_apply]
    simp only [(hr _).du, (hr _).norm, ← EReal.coe_mul]
    exact step (fun n => q.du2 n df l * q.x2n n l) 0 rfl
  · rw [hz]
    unfold sums
    rw [if_neg h4, if_neg h3, if_neg h2, if_neg h1, if_neg h0]

/-- What the points up to `n` leave of the sums. -/
theorem acc_all (n : ℕ) (hn : n < cfg0.N) (l : Fin 1024) (r : Fin 8) :
    @Eq EReal ((outsAt0 m c n hn).2.2.2.2.1 (ix2 r l)) (sums q df dh (512 * n + 512) r l : EReal) := by
  have hN := lt_of_lt_of_eq hn (show cfg0.N = 16 from N_0)
  induction n generalizing r with
  | zero =>
    refine (acc_first m c ⟨0, hn⟩ rfl r l).trans (acc_step m c h ⟨0, hn⟩ _ l (fun r => ?_) r)
    have h3 : k0_pay3 (F := Ideal) (ix2 r l) = (0 : EReal) := by pointwise [k0_pay3]
    rw [h3]
    unfold sums
    simp only [Nat.mul_zero, below_zero, ite_self, EReal.coe_zero]
  | succ n ih =>
    exact (acc_later m c ⟨n + 1, hn⟩ (show ¬ (n + 1) % 16 = 0 by omega) r l).trans
      (acc_step m c h ⟨n + 1, hn⟩ _ l (fun r => ih (by omega) r (by omega)) r)

end Cert.FfnBlock

end
-- ==== Proof.FfnFinal.lean ====
/-
  The result arrays of the feed-forward gradient after the run.
-/
module

public import proofs.«01_k».proof.Proof.FfnSum

@[expose] public section

set_option maxRecDepth 16384

noncomputable section

namespace Cert.FfnBlock

open Cert.RowMath Cert.RowFfn Cert.RowStore Cert.FfnKernelIdeal Cert.FfnKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)
variable {q : Net} {df dh : Fin 8192 → Fin 1024 → ℝ} (h : Of m c q df dh)

/-- Every row of an array lies in one block. -/
theorem rowAt_surj (n : Fin 8192) : ∃ (t : Fin cfg0.N) (r : Fin 512), n = rowAt t r := by
  have hN : cfg0.N = 16 := N_0
  exact ⟨⟨n.val / 512, by omega⟩, ⟨n.val % 512, by omega⟩, Fin.ext (show n.val = 512 * (n.val / 512) + n.val % 512 by omega)⟩

theorem idx7 (t : Fin cfg0.N) : win0_7.index t 0 = t.val ∧ win0_7.index t 1 = 0 := (by decide +kernel : ∀ t : Fin grid0.N, win0_7.index t 0 = t.val ∧ win0_7.index t 1 = 0) t
/-- Row `r` of block `t` of result 0 is what point `t` left in that row. -/
theorem da_block (t : Fin cfg0.N) (r : Fin 512) (l : Fin 4096) :
    @Eq EReal ((dats m 0 c).arrAt 7 cfg0.N (ix2 (rowAt t r) l)) ((outsAt0 m c t.val t.isLt).1 (ix2 r l)) := by
  have e := congrFun ((dats m 0 c).read_blk_arrAt_eq_flushed 7 (fun _ _ _ _ hne => (cfg0.win 7).disjoint_blk fun h => hne (Cert.RowStore.inj_of win0_7.index 0 (fun t => (idx7 t).1) h)) cfg0.N t t.isLt (flush0_7 t)) (ix2 r l)
  rw [show (dats m 0 c).flushed 7 t = (cfg0.win 7).cut (grid0.coords t) ((dats m 0 c).after 7 t) from rfl, after0_7] at e
  refine Eq.trans ?_ e
  rw [View.read_apply]
  refine congrArg ((dats m 0 c).arrAt 7 cfg0.N) (funext fun a => Fin.ext ?_)
  match a with
  | ⟨0, _⟩ => show 512 * t.val + r.val = win0_7.index t 0 * 512 + 1 * r.val; rw [(idx7 t).1]; omega
  | ⟨1, _⟩ => show l.val = win0_7.index t 1 * 4096 + 1 * l.val; rw [(idx7 t).2]; omega

theorem idx8 (t : Fin cfg0.N) : win0_8.index t 0 = t.val ∧ win0_8.index t 1 = 0 := (by decide +kernel : ∀ t : Fin grid0.N, win0_8.index t 0 = t.val ∧ win0_8.index t 1 = 0) t
/-- Row `r` of block `t` of result 1 is what point `t` left in that row. -/
theorem dm_block (t : Fin cfg0.N) (r : Fin 512) (l : Fin 1024) :
    @Eq EReal ((dats m 0 c).arrAt 8 cfg0.N (ix2 (rowAt t r) l)) ((outsAt0 m c t.val t.isLt).2.1 (ix2 r l)) := by
  have e := congrFun ((dats m 0 c).read_blk_arrAt_eq_flushed 8 (fun _ _ _ _ hne => (cfg0.win 8).disjoint_blk fun h => hne (Cert.RowStore.inj_of win0_8.index 0 (fun t => (idx8 t).1) h)) cfg0.N t t.isLt (flush0_8 t)) (ix2 r l)
  rw [show (dats m 0 c).flushed 8 t = (cfg0.win 8).cut (grid0.coords t) ((dats m 0 c).after 8 t) from rfl, after0_8] at e
  refine Eq.trans ?_ e
  rw [View.read_apply]
  refine congrArg ((dats m 0 c).arrAt 8 cfg0.N) (funext fun a => Fin.ext ?_)
  match a with
  | ⟨0, _⟩ => show 512 * t.val + r.val = win0_8.index t 0 * 512 + 1 * r.val; rw [(idx8 t).1]; omega
  | ⟨1, _⟩ => show l.val = win0_8.index t 1 * 1024 + 1 * l.val; rw [(idx8 t).2]; omega

theorem idx9 (t : Fin cfg0.N) : win0_9.index t 0 = t.val ∧ win0_9.index t 1 = 0 := (by decide +kernel : ∀ t : Fin grid0.N, win0_9.index t 0 = t.val ∧ win0_9.index t 1 = 0) t
/-- Row `r` of block `t` of result 2 is what point `t` left in that row. -/
theorem dmix_block (t : Fin cfg0.N) (r : Fin 512) (l : Fin 1024) :
    @Eq EReal ((dats m 0 c).arrAt 9 cfg0.N (ix2 (rowAt t r) l)) ((outsAt0 m c t.val t.isLt).2.2.1 (ix2 r l)) := by
  have e := congrFun ((dats m 0 c).read_blk_arrAt_eq_flushed 9 (fun _ _ _ _ hne => (cfg0.win 9).disjoint_blk fun h => hne (Cert.RowStore.inj_of win0_9.index 0 (fun t => (idx9 t).1) h)) cfg0.N t t.isLt (flush0_9 t)) (ix2 r l)
  rw [show (dats m 0 c).flushed 9 t = (cfg0.win 9).cut (grid0.coords t) ((dats m 0 c).after 9 t) from rfl, after0_9] at e
  refine Eq.trans ?_ e
  rw [View.read_apply]
  refine congrArg ((dats m 0 c).arrAt 9 cfg0.N) (funext fun a => Fin.ext ?_)
  match a with
  | ⟨0, _⟩ => show 512 * t.val + r.val = win0_9.index t 0 * 512 + 1 * r.val; rw [(idx9 t).1]; omega
  | ⟨1, _⟩ => show l.val = win0_9.index t 1 * 1024 + 1 * l.val; rw [(idx9 t).2]; omega

theorem idx10 (t : Fin cfg0.N) : win0_10.index t 0 = t.val ∧ win0_10.index t 1 = 0 := (by decide +kernel : ∀ t : Fin grid0.N, win0_10.index t 0 = t.val ∧ win0_10.index t 1 = 0) t
/-- Row `r` of block `t` of result 3 is what point `t` left in that row. -/
theorem dxa_block (t : Fin cfg0.N) (r : Fin 512) (l : Fin 1024) :
    @Eq EReal ((dats m 0 c).arrAt 10 cfg0.N (ix2 (rowAt t r) l)) ((outsAt0 m c t.val t.isLt).2.2.2.1 (ix2 r l)) := by
  have e := congrFun ((dats m 0 c).read_blk_arrAt_eq_flushed 10 (fun _ _ _ _ hne => (cfg0.win 10).disjoint_blk fun h => hne (Cert.RowStore.inj_of win0_10.index 0 (fun t => (idx10 t).1) h)) cfg0.N t t.isLt (flush0_10 t)) (ix2 r l)
  rw [show (dats m 0 c).flushed 10 t = (cfg0.win 10).cut (grid0.coords t) ((dats m 0 c).after 10 t) from rfl, after0_10] at e
  refine Eq.trans ?_ e
  rw [View.read_apply]
  refine congrArg ((dats m 0 c).arrAt 10 cfg0.N) (funext fun a => Fin.ext ?_)
  match a with
  | ⟨0, _⟩ => show 512 * t.val + r.val = win0_10.index t 0 * 512 + 1 * r.val; rw [(idx10 t).1]; omega
  | ⟨1, _⟩ => show l.val = win0_10.index t 1 * 1024 + 1 * l.val; rw [(idx10 t).2]; omega

include h

theorem final_da (n : Fin 8192) (l : Fin 4096) : @Eq EReal ((dats m 0 c).arrAt 7 cfg0.N (ix2 n l)) ((q.da n df l : ℝ) : EReal) := by
  obtain ⟨t, r, rfl⟩ := rowAt_surj n
  exact (da_block m c t r l).trans ((da_all m c t r l).trans ((rowOf m c h t r).da l))

theorem final_dm (n : Fin 8192) (l : Fin 1024) : @Eq EReal ((dats m 0 c).arrAt 8 cfg0.N (ix2 n l)) ((q.gate l * q.dh1 n df dh l : ℝ) : EReal) := by
  obtain ⟨t, r, rfl⟩ := rowAt_surj n
  exact (dm_block m c t r l).trans ((congrFun (dm_all m c t) (ix2 r l)).trans ((rowOf m c h t r).dm l))

theorem final_dmix (n : Fin 8192) (l : Fin 1024) : @Eq EReal ((dats m 0 c).arrAt 9 cfg0.N (ix2 n l)) ((∑ k, q.gate k * q.dh1 n df dh k * q.wo l k : ℝ) : EReal) := by
  obtain ⟨t, r, rfl⟩ := rowAt_surj n
  exact (dmix_block m c t r l).trans ((congrFun (dmix_all m c t) (ix2 r l)).trans ((rowOf m c h t r).dmix l))

theorem final_dxa (n : Fin 8192) (l : Fin 1024) : @Eq EReal ((dats m 0 c).arrAt 10 cfg0.N (ix2 n l)) ((alpha * q.dh1 n df dh l : ℝ) : EReal) := by
  obtain ⟨t, r, rfl⟩ := rowAt_surj n
  exact (dxa_block m c t r l).trans ((congrFun (dxa_all m c t) (ix2 r l)).trans ((rowOf m c h t r).dxa l))

omit h in
theorem idx11 (t : Fin cfg0.N) : win0_11.index t 0 = 0 ∧ win0_11.index t 1 = 0 :=
  (by decide +kernel : ∀ t : Fin grid0.N, win0_11.index t 0 = 0 ∧ win0_11.index t 1 = 0) t

/-- The five sums over all rows, and three rows of zeros. -/
theorem final_acc (r : Fin 8) (l : Fin 1024) : @Eq EReal ((dats m 0 c).arrAt 11 cfg0.N (ix2 r l)) (sums q df dh 8192 r l : EReal) := by
  have hN : cfg0.N = 16 := N_0
  have h15 : 15 < cfg0.N := by omega
  have e := congrFun ((dats m 0 c).read_blk_arrAt_eq_flushed 11 (fun t t' h h' hne => absurd (Fin.ext (by
      have := (flush0_11 t).mp h; have := (flush0_11 t').mp h'; have := t.isLt; have := t'.isLt; omega)) hne)
    cfg0.N ⟨15, h15⟩ h15 ((flush0_11 ⟨15, h15⟩).mpr rfl)) (ix2 r l)
  have f : (dats m 0 c).flushed 11 ⟨15, h15⟩ = (cfg0.win 11).cut (grid0.coords ⟨15, h15⟩) ((outsAt0 m c 15 h15).2.2.2.2.1) := by
    show (cfg0.win 11).cut (grid0.coords ⟨15, h15⟩) ((dats m 0 c).after 11 ⟨15, h15⟩) = _
    rw [after0_11]
  rw [f] at e
  refine Eq.trans ?_ (e.trans (acc_all m c h 15 h15 l r))
  rw [View.read_apply]
  show (dats m 0 c).arrAt 11 cfg0.N _ = (dats m 0 c).arrAt 11 cfg0.N _
  congr 1
  funext a
  apply Fin.ext
  match a with
  | ⟨0, _⟩ => show r.val = win0_11.index ⟨15, h15⟩ 0 * 8 + 1 * r.val; rw [(idx11 ⟨15, h15⟩).1]; omega
  | ⟨1, _⟩ => show l.val = win0_11.index ⟨15, h15⟩ 1 * 1024 + 1 * l.val; rw [(idx11 ⟨15, h15⟩).2]; omega

omit h
variable (ρ : Dev nD → PrngReg)

/-- The run, its results by the data of its last point and its arguments as launched. -/
theorem run_blocks : θ_run defs (onTc (τ := τ) (main (F := Ideal))) ⟨m, fun _ => 0, ρ⟩ fun r => ∀ c : Dev nD,
      r.2.mem ((c : Thread nD τ).loc main_v83_0) = (dats m 0 c).arrAt 7 cfg0.N
      ∧ r.2.mem ((c : Thread nD τ).loc main_v83_1) = (dats m 0 c).arrAt 8 cfg0.N
      ∧ r.2.mem ((c : Thread nD τ).loc main_v83_2) = (dats m 0 c).arrAt 9 cfg0.N
      ∧ r.2.mem ((c : Thread nD τ).loc main_v83_3) = (dats m 0 c).arrAt 10 cfg0.N
      ∧ r.2.mem ((c : Thread nD τ).loc main_v83_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1 7, (h c).1 8, (h c).1 9, (h c).1 10, (h c).1 11,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩)
    (run_main m ρ)

end Cert.FfnBlock

end
-- ==== Proof.FfnRef.lean ====
/-
  The reference of the feed-forward layer's gradient, read element by element over the reals.
-/
module

public import proofs.«01_k».proof.Proof.HostFfn

@[expose] public section

set_option maxRecDepth 16384

noncomputable section

namespace Cert.FfnRef

open Cert.RowMath Cert.RowFfn Cert.HostFfn Cert.FfnReferenceIdeal Cert.FfnReferenceIdeal.Gen Idealize.ShloMosaic Idealize.ShloMosaic.TcCoe Idealize.SL.Sem
open Cert.InRef (Mat onePlus direct viaVar viaMean colSum colSum_apply)

variable (x a dh p y : Mat) (s g w b : Vec1) (wo : FVec Ideal S1x1024x1024 .f32) (w1 : FVec Ideal S1x1024x4096 .f32) (w2 : FVec Ideal S1x4096x1024 .f32)
  (z d : Wide) (df : Mat)

/-- The gradient through a row's normalisation. -/
def back (x p : Mat) : Mat := addf (addf (direct x p) (viaVar x p)) (viaMean x p)
/-- The same, added to what reaches the row directly. -/
def backAdd (a x p : Mat) : Mat := addf (addf (addf a (direct x p)) (viaVar x p)) (viaMean x p)
def mixOut (a : Mat) (wo : FVec Ideal S1x1024x1024 .f32) : Mat := addf (proj a wo) zeros
def preAct (y : Mat) (w1 : FVec Ideal S1x1024x4096 .f32) : Wide := addf (hidden y w1) wideZeros
/-- The gradient of the squared positive part. -/
def dAct (z : Wide) (df : Mat) (w2 : FVec Ideal S1x4096x1024 .f32) : Wide :=
  select (cmpf .ogt z wideZeros) (mulf (Host.dotGeneral dot_S1x8192x1024_S4096x1024_S1x8192x4096_2_1_01_0_n_n none df (shapeCast _ w2 shapeCasts_S1x4096x1024_S4096x1024))
    (mulf (broadcastInDim S1x8192x4096 ![] bcast_S_S1x8192x4096 (constant (F := Ideal) S_ .f32 0x40000000#32)) (maximumf z wideZeros))) wideZeros
def dHidden (d : Wide) (w1 : FVec Ideal S1x1024x4096 .f32) : Mat :=
  Host.dotGeneral dot_S1x8192x4096_S1024x4096_S1x8192x1024_2_1_01_0_n_n none d (shapeCast _ w1 shapeCasts_S1x1024x4096_S1024x4096)
def dProj (p : Mat) (wo : FVec Ideal S1x1024x1024 .f32) : Mat :=
  Host.dotGeneral dot_S1x8192x1024_S1024x1024_S1x8192x1024_2_1_01_0_n_n none p (shapeCast _ wo shapeCasts_S1x1024x1024_S1024x1024)
def half (x : Mat) : FVec Ideal S8192x1024 .bf16 := truncf (F := Ideal) .bf16 (shapeCast _ x shapeCasts_S1x8192x1024_S8192x1024) bitsLt_bf16_f32
def full (x : Mat) : FVec Ideal S8192x1024 .f32 := shapeCast _ x shapeCasts_S1x8192x1024_S8192x1024
def halfWide (x : Wide) : FVec Ideal S8192x4096 .bf16 := truncf (F := Ideal) .bf16 (shapeCast _ x shapeCasts_S1x8192x4096_S8192x4096) bitsLt_bf16_f32
def stack5 (r0 r1 r2 r3 r4 : Vec1) : FVec Ideal S8x1024 .f32 := concatenate S8x1024 0
  [⟨S1x1024, (r0 : (⟨S1x1024, .f32⟩ : BufTy).Contents (Elt Ideal))⟩,
   ⟨S1x1024, (r1 : (⟨S1x1024, .f32⟩ : BufTy).Contents (Elt Ideal))⟩,
   ⟨S1x1024, (r2 : (⟨S1x1024, .f32⟩ : BufTy).Contents (Elt Ideal))⟩,
   ⟨S1x1024, (r3 : (⟨S1x1024, .f32⟩ : BufTy).Contents (Elt Ideal))⟩,
   ⟨S1x1024, (r4 : (⟨S1x1024, .f32⟩ : BufTy).Contents (Elt Ideal))⟩,
   ⟨S3x1024, ((broadcastInDim S3x1024 ![] bcast_S_S3x1024 (constant (F := Ideal) S_ .f32 0x00000000#32)) : (⟨S3x1024, .f32⟩ : BufTy).Contents (Elt Ideal))⟩]
  concatenates_S1x1024_S1x1024_S1x1024_S1x1024_S1x1024_S3x1024_S8x1024_d0

theorem half_apply (n : Fin 8192) (l : Fin 1024) : half x (ix2 n l) = x (ix3 0 n l) := by pointwise [half]
theorem full_apply (n : Fin 8192) (l : Fin 1024) : full x (ix2 n l) = x (ix3 0 n l) := by pointwise [full]
theorem halfWide_apply (n : Fin 8192) (j : Fin 4096) : halfWide z (ix2 n j) = z (ix3 0 n j) := by pointwise [halfWide]
theorem dHidden_apply (n : Fin 8192) (l : Fin 1024) : dHidden d w1 (ix3 0 n l) = ∑ j : Fin 4096, d (ix3 0 n j) * w1 (ix3 0 l j) := by pointwise [dHidden]
theorem dProj_apply (n : Fin 8192) (l : Fin 1024) : dProj p wo (ix3 0 n l) = ∑ k : Fin 1024, p (ix3 0 n k) * wo (ix3 0 l k) := by pointwise [dProj]

theorem stack5_apply (r0 r1 r2 r3 r4 : Vec1) (r : Fin 8) (l : Fin 1024) : stack5 r0 r1 r2 r3 r4 (ix2 r l)
    = if r.val = 4 then r4 (ix2 0 l) else if r.val = 3 then r3 (ix2 0 l) else if r.val = 2 then r2 (ix2 0 l)
      else if r.val = 1 then r1 (ix2 0 l) else if r.val = 0 then r0 (ix2 0 l) else 0 := by
  fin_cases r
  · show stack5 r0 r1 r2 r3 r4 (ix2 0 l) = r0 (ix2 0 l)
    pointwise [stack5]
  · show stack5 r0 r1 r2 r3 r4 (ix2 1 l) = r1 (ix2 0 l)
    pointwise [stack5]
  · show stack5 r0 r1 r2 r3 r4 (ix2 2 l) = r2 (ix2 0 l)
    pointwise [stack5]
  · show stack5 r0 r1 r2 r3 r4 (ix2 3 l) = r3 (ix2 0 l)
    pointwise [stack5]
  · show stack5 r0 r1 r2 r3 r4 (ix2 4 l) = r4 (ix2 0 l)
    pointwise [stack5]
  · show stack5 r0 r1 r2 r3 r4 (ix2 5 l) = 0
    pointwise [stack5]
  · show stack5 r0 r1 r2 r3 r4 (ix2 6 l) = 0
    pointwise [stack5]
  · show stack5 r0 r1 r2 r3 r4 (ix2 7 l) = 0
    pointwise [stack5]

variable (x' p' : Fin 1024 → ℝ) (n : Fin 8192)

theorem back_apply (hx : ∀ l, x (ix3 0 n l) = (x' l : EReal)) (hp : ∀ l, p (ix3 0 n l) = (p' l : EReal)) (l : Fin 1024) :
    back x p (ix3 0 n l) = (lnGrad x' p' l : EReal) := by
  pointwise [back]
  rw [Cert.InRef.direct_apply x x' p' p n hx hp, Cert.InRef.viaVar_apply x x' p' p n hx hp, Cert.InRef.viaMean_apply x x' p' p n hx hp,
    ← EReal.coe_add, ← EReal.coe_add, chain_eq]

theorem backAdd_apply (hx : ∀ l, x (ix3 0 n l) = (x' l : EReal)) (hp : ∀ l, p (ix3 0 n l) = (p' l : EReal)) (l : Fin 1024) :
    backAdd a x p (ix3 0 n l) = a (ix3 0 n l) + (lnGrad x' p' l : EReal) := by
  pointwise [backAdd]
  rw [Cert.InRef.direct_apply x x' p' p n hx hp, Cert.InRef.viaVar_apply x x' p' p n hx hp, Cert.InRef.viaMean_apply x x' p' p n hx hp, add_assoc, add_assoc,
    ← EReal.coe_add, ← EReal.coe_add, ← add_assoc, chain_eq]

/-- The gradient of the squared positive part over the reals: no case is left. -/
theorem dAct_apply (j : Fin 4096) (u v : ℝ) (hz : z (ix3 0 n j) = (u : EReal))
    (hd : ∑ k : Fin 1024, df (ix3 0 n k) * w2 (ix3 0 j k) = (v : EReal)) : dAct z df w2 (ix3 0 n j) = ((v * (2 * max u 0) : ℝ) : EReal) := by
  pointwise [dAct]
  rw [wideZeros_apply, hz, hd, word_two, max_coe, ← EReal.coe_mul, ← EReal.coe_mul]
  split_ifs with h
  · rfl
  · rw [max_eq_right (not_lt.mp fun e => h (EReal.coe_lt_coe_iff.mpr e)), mul_zero, mul_zero]

variable (m : (ℓ : Loc nD τ sig) → Buf (Elt Ideal) ℓ) (c : Dev nD)

abbrev argMixed : Mat := m ((c.tc : Thread nD τ).loc main_arg0)
abbrev argX : Mat := m ((c.tc : Thread nD τ).loc main_arg1)
abbrev argGate : Vec1 := m ((c.tc : Thread nD τ).loc main_arg2)
abbrev argScale : Vec1 := m ((c.tc : Thread nD τ).loc main_arg3)
abbrev argShift : Vec1 := m ((c.tc : Thread nD τ).loc main_arg4)
abbrev argWo : FVec Ideal S1x1024x1024 .f32 := m ((c.tc : Thread nD τ).loc main_arg5)
abbrev argLw : Vec1 := m ((c.tc : Thread nD τ).loc main_arg6)
abbrev argLb : Vec1 := m ((c.tc : Thread nD τ).loc main_arg7)
abbrev argW1 : FVec Ideal S1x1024x4096 .f32 := m ((c.tc : Thread nD τ).loc main_arg8)
abbrev argW2 : FVec Ideal S1x4096x1024 .f32 := m ((c.tc : Thread nD τ).loc main_arg9)
abbrev argDf : Mat := m ((c.tc : Thread nD τ).loc main_arg10)
abbrev argDh : Mat := m ((c.tc : Thread nD τ).loc main_arg11)

def rM : Mat := mixOut (argMixed m c) (argWo m c)
def rH1 : Mat := resid (argX m c) (argGate m c) (rM m c)
def rX1 : Mat := affine (norm (rH1 m c)) (argLw m c) (argLb m c)
def rA : Wide := preAct (modul (norm (rX1 m c)) (argScale m c) (argShift m c)) (argW1 m c)
def rDa : Wide := dAct (rA m c) (argDf m c) (argW2 m c)
def rDu : Mat := dHidden (rDa m c) (argW1 m c)
def rDx1 : Mat := backAdd (mulf alphas (argDh m c)) (rX1 m c) (mulf (rDu m c) (onePlus (argScale m c)))
def rDh1 : Mat := back (rH1 m c) (mulf (rDx1 m c) (wrows (argLw m c)))
def rDm : Mat := mulf (rows (argGate m c)) (rDh1 m c)

/-- The reference's run, its results by the names above. -/
theorem run (ρ : Dev nD → PrngReg) :
    θ_run defs (onTc (τ := τ) (main (F := Ideal))) ⟨m, fun _ => 0, ρ⟩ fun r => ∀ c : Dev nD,
      r.2.mem ((c.tc : Thread nD τ).loc main_v182) = halfWide (rDa m c)
      ∧ r.2.mem ((c.tc : Thread nD τ).loc main_v184) = half (rDm m c)
      ∧ r.2.mem ((c.tc : Thread nD τ).loc main_v185) = full (dProj (rDm m c) (argWo m c))
      ∧ r.2.mem ((c.tc : Thread nD τ).loc main_v186) = full (mulf alphas (rDh1 m c))
      ∧ r.2.mem ((c.tc : Thread nD τ).loc main_v180) = stack5 (colSum (mulf (norm (rX1 m c)) (rDu m c))) (colSum (rDu m c))
        (colSum (mulf (norm (rH1 m c)) (rDx1 m c))) (colSum (rDx1 m c)) (colSum (mulf (rDh1 m c) (rM m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.FfnReferenceIdeal.Value.run (F := Ideal) m ρ

/-! ## The values over the reals -/

variable {q : Net} {df' dh' : Fin 8192 → Fin 1024 → ℝ}
  (h : Cert.HostFfn.Of q (argMixed m c) (argX m c) (argGate m c) (argScale m c) (argShift m c) (argWo m c) (argLw m c) (argLb m c) (argW1 m c) (argW2 m c))
  (hdf : ∀ n l, argDf m c (ix3 0 n l) = (df' n l : EReal)) (hdh : ∀ n l, argDh m c (ix3 0 n l) = (dh' n l : EReal)) (l : Fin 1024)

include h
theorem rM_apply : rM m c (ix3 0 n l) = (q.m n l : EReal) := by
  unfold rM
  pointwise [mixOut]
  rw [h.m, zeros_apply, ← EReal.coe_add, add_zero]
theorem rH1_apply : rH1 m c (ix3 0 n l) = (q.h1 n l : EReal) := h.h1 n l _ fun k => rM_apply n m c h k
theorem rX1n_apply : norm (rH1 m c) (ix3 0 n l) = (q.x1n n l : EReal) := norm_apply _ n l (q.h1 n) fun k => rH1_apply n m c h k
theorem rX1_apply : rX1 m c (ix3 0 n l) = (q.x1 n l : EReal) := h.x1 n l _ fun k => rX1n_apply n m c h k
theorem rX2n_apply : norm (rX1 m c) (ix3 0 n l) = (q.x2n n l : EReal) := norm_apply _ n l (q.x1 n) fun k => rX1_apply n m c h k
theorem rA_apply (j : Fin 4096) : rA m c (ix3 0 n j) = (q.a n j : EReal) := by
  unfold rA
  pointwise [preAct]
  rw [h.a n j _ fun k => h.u2 n k _ fun k => rX2n_apply n m c h k, wideZeros_apply, ← EReal.coe_add, add_zero]

include hdf
theorem rDa_apply (j : Fin 4096) : rDa m c (ix3 0 n j) = (q.da n df' j : EReal) := by
  refine dAct_apply _ _ _ n j _ _ (rA_apply n m c h j) ?_
  simp only [hdf, h.w2, ← EReal.coe_mul, sum_coe]
theorem rDu_apply : rDu m c (ix3 0 n l) = (q.du2 n df' l : EReal) := by
  unfold rDu
  rw [dHidden_apply]
  simp only [rDa_apply n m c h hdf, h.w1, ← EReal.coe_mul, sum_coe]
  rfl

include hdh
theorem rDx1_apply : rDx1 m c (ix3 0 n l) = (q.dx1 n df' dh' l : EReal) := by
  unfold rDx1
  rw [backAdd_apply _ _ _ (q.x1 n) (fun k => q.du2 n df' k * (1 + q.scale k)) n (fun k => rX1_apply n m c h k) fun k => by
    pointwise
    rw [rDu_apply n m c h hdf, h.one, ← EReal.coe_mul]]
  pointwise
  rw [alphas_apply, hdh, ← EReal.coe_mul, ← EReal.coe_add]
  rfl
theorem rDh1_apply : rDh1 m c (ix3 0 n l) = (q.dh1 n df' dh' l : EReal) :=
  back_apply _ _ (q.h1 n) (fun k => q.dx1 n df' dh' k * q.w k) n (fun k => rH1_apply n m c h k) (fun k => by
    pointwise
    rw [rDx1_apply n m c h hdf hdh, wrows_apply, h.w, ← EReal.coe_mul]) l
theorem rDm_apply : rDm m c (ix3 0 n l) = ((q.gate l * q.dh1 n df' dh' l : ℝ) : EReal) := by
  unfold rDm
  pointwise
  rw [rDh1_apply n m c h hdf hdh, rows_apply, h.gate, ← EReal.coe_mul]

/-- The four row results and the sums. -/
theorem res_dmix : full (dProj (rDm m c) (argWo m c)) (ix2 n l) = ((∑ k, q.gate k * q.dh1 n df' dh' k * q.wo l k : ℝ) : EReal) := by
  rw [full_apply, dProj_apply]
  simp only [rDm_apply _ m c h hdf hdh, h.wo, ← EReal.coe_mul, sum_coe]
theorem res_dxa : full (mulf alphas (rDh1 m c)) (ix2 n l) = ((alpha * q.dh1 n df' dh' l : ℝ) : EReal) := by
  rw [full_apply]
  pointwise
  rw [alphas_apply, rDh1_apply n m c h hdf hdh, ← EReal.coe_mul]
theorem res_acc (r : Fin 8) : stack5 (colSum (mulf (norm (rX1 m c)) (rDu m c))) (colSum (rDu m c))
    (colSum (mulf (norm (rH1 m c)) (rDx1 m c))) (colSum (rDx1 m c)) (colSum (mulf (rDh1 m c) (rM m c))) (ix2 r l) = (sums q df' dh' 8192 r l : EReal) := by
  rw [stack5_apply]
  simp only [colSum_apply]
  unfold sums
  simp only [below_all]
  split_ifs
  · refine (Finset.sum_congr rfl fun n _ => ?_).trans (sum_coe _)
    pointwise
    rw [rDh1_apply n m c h hdf hdh, rM_apply n m c h, ← EReal.coe_mul]
  · exact (Finset.sum_congr rfl fun n _ => rDx1_apply n m c h hdf hdh l).trans (sum_coe _)
  · refine (Finset.sum_congr rfl fun n _ => ?_).trans (sum_coe _)
    pointwise
    rw [rDx1_apply n m c h hdf hdh, rX1n_apply n m c h, ← EReal.coe_mul, mul_comm]
  · exact (Finset.sum_congr rfl fun n _ => rDu_apply n m c h hdf l).trans (sum_coe _)
  · refine (Finset.sum_congr rfl fun n _ => ?_).trans (sum_coe _)
    pointwise
    rw [rDu_apply n m c h hdf, rX2n_apply n m c h, ← EReal.coe_mul, mul_comm]
  · rfl

end Cert.FfnRef

end
-- ==== Proof.ClaimFfn.lean ====
/-
  Over the reals the kernel of the feed-forward layer's gradient and its reference give the same five results.
-/
module

public import proofs.«01_k».proof.Defs
public import proofs.«01_k».proof.Proof.FfnFinal
public import proofs.«01_k».proof.Proof.FfnRef
public import proofs.«01_k».proof.Proof.Finite

@[expose] public section

set_option maxRecDepth 16384

noncomputable section

namespace Cert.ClaimFfn

open Idealize.ShloMosaic Idealize.SL.Sem Cert.RowMath Cert.RowFfn Cert.Finite

instance facts : Cert.Pre_finite_ffn.Facts := by constructor <;> decide

theorem frame_reference : Cert.quiescent_FfnReferenceIdeal := fun m ρ _ =>
  (θ_run Cert.FfnReferenceIdeal.defs _ _).mono
    (fun r h => ⟨fun c => (h c).2.2.2.2.2, sem_eq_zero_of_no_sems (by decide) r.2⟩) (Cert.FfnReferenceIdeal.Value.run (F := Ideal) m ρ)

section
open Cert.FfnBlock
/-- The real numbers behind a device's arguments, under the precondition. -/
theorem reals (m : (ℓ : Loc Cert.FfnKernelIdeal.nD Cert.FfnKernelIdeal.τ Cert.FfnKernelIdeal.sig) → Buf (Elt Ideal) ℓ)
    (h : Cert.Pre_FfnKernelIdeal_finite_ffn m) (c : Dev Cert.FfnKernelIdeal.nD) : ∃ q df dh, Cert.FfnBlock.Of m c q df dh := by
  obtain ⟨h0, h1, h2, h3, h4, h5, h6, h7, h8, h9, h10, h11⟩ := h c
  refine ⟨⟨fun n l => (argMixed m c (ix3 0 n l)).toReal, fun n l => (argX m c (ix3 0 n l)).toReal, fun l => (argGate m c (ix2 0 l)).toReal,
    fun l => (argScale m c (ix2 0 l)).toReal, fun l => (argShift m c (ix2 0 l)).toReal, fun k l => (argWo m c (ix3 0 k l)).toReal,
    fun l => (argLw m c (ix2 0 l)).toReal, fun l => (argLb m c (ix2 0 l)).toReal, fun k j => (argW1 m c (ix3 0 k j)).toReal,
    fun j l => (argW2 m c (ix3 0 j l)).toReal⟩, fun n l => (argDf m c (ix3 0 n l)).toReal, fun n l => (argDh m c (ix3 0 n l)).toReal,
    ⟨?_, ?_, ?_, ?_, ?_, ?_, ?_, ?_, ?_, ?_⟩, ?_, ?_⟩
  · exact fun n l => coe_of_finite _ (congrFun h0 (ix3 0 n l))
  · exact fun n l => coe_of_finite _ (congrFun h1 (ix3 0 n l))
  · exact fun l => coe_of_finite _ (congrFun h2 (ix2 0 l))
  · exact fun l => coe_of_finite _ (congrFun h3 (ix2 0 l))
  · exact fun l => coe_of_finite _ (congrFun h4 (ix2 0 l))
  · exact fun k l => coe_of_finite _ (congrFun h5 (ix3 0 k l))
  · exact fun l => coe_of_finite _ (congrFun h6 (ix2 0 l))
  · exact fun l => coe_of_finite _ (congrFun h7 (ix2 0 l))
  · exact fun k j => coe_of_finite _ (congrFun h8 (ix3 0 k j))
  · exact fun j l => coe_of_finite _ (congrFun h9 (ix3 0 j l))
  · exact fun n l => coe_of_finite _ (congrFun h10 (ix3 0 n l))
  · exact fun n l => coe_of_finite _ (congrFun h11 (ix3 0 n l))
end

set_option maxHeartbeats 2000000 in  -- five results, each under the same twelve argument equalities
theorem algebraic : Cert.algebraic_FfnKernelIdeal_FfnReferenceIdeal_pre_finite_ffn := by
  intro m ρ m' ρ' hpre hagree
  refine ⟨_, _, _, _, _, Cert.FfnBlock.run_blocks m ρ, ?_⟩
  refine (θ_run Cert.FfnReferenceIdeal.defs _ _).mono (fun r h c => ?_) (Cert.FfnRef.run m' ρ')
  obtain ⟨h0, h1, h2, h3, h4, hargs⟩ := h c
  refine ⟨h0.trans ?_, h1.trans ?_, h2.trans ?_, h3.trans ?_, h4.trans ?_, hargs⟩
  all_goals
    obtain ⟨q, df, dh, hq⟩ := reals m hpre c
    obtain ⟨e0, e1, e2, e3, e4, e5, e6, e7, e8, e9, e10, e11⟩ := hagree c
    have hn : Cert.HostFfn.Of q (Cert.FfnRef.argMixed m' c) (Cert.FfnRef.argX m' c) (Cert.FfnRef.argGate m' c) (Cert.FfnRef.argScale m' c)
        (Cert.FfnRef.argShift m' c) (Cert.FfnRef.argWo m' c) (Cert.FfnRef.argLw m' c) (Cert.FfnRef.argLb m' c) (Cert.FfnRef.argW1 m' c) (Cert.FfnRef.argW2 m' c) :=
      ⟨fun n l => (congrFun e0 _).trans (hq.net.mixed n l), fun n l => (congrFun e1 _).trans (hq.net.x n l), fun l => (congrFun e2 _).trans (hq.net.gate l),
        fun l => (congrFun e3 _).trans (hq.net.scale l), fun l => (congrFun e4 _).trans (hq.net.shift l), fun k l => (congrFun e5 _).trans (hq.net.wo k l),
        fun l => (congrFun e6 _).trans (hq.net.w l), fun l => (congrFun e7 _).trans (hq.net.b l), fun k j => (congrFun e8 _).trans (hq.net.w1 k j),
        fun j l => (congrFun e9 _).trans (hq.net.w2 j l)⟩
    have hf : ∀ n l, Cert.FfnRef.argDf m' c (ix3 0 n l) = (df n l : EReal) := fun n l => (congrFun e10 _).trans (hq.df n l)
    have hh : ∀ n l, Cert.FfnRef.argDh m' c (ix3 0 n l) = (dh n l : EReal) := fun n l => (congrFun e11 _).trans (hq.dh n l)
    funext j
    revert j
  · show ∀ j : Cert.FfnKernelIdeal.S8192x4096.Idx, _
    intro j
    idx_vars j
    exact ((Cert.FfnRef.halfWide_apply _ j0 j1).trans (Cert.FfnRef.rDa_apply j0 m' c hn hf j1)).trans (Cert.FfnBlock.final_da m c hq j0 j1).symm
  · show ∀ j : Cert.FfnKernelIdeal.S8192x1024.Idx, _
    intro j
    idx_vars j
    exact ((Cert.FfnRef.half_apply _ j0 j1).trans (Cert.FfnRef.rDm_apply j0 m' c hn hf hh j1)).trans (Cert.FfnBlock.final_dm m c hq j0 j1).symm
  · show ∀ j : Cert.FfnKernelIdeal.S8192x1024.Idx, _
    intro j
    idx_vars j
    exact (Cert.FfnRef.res_dmix j0 m' c hn hf hh j1).trans (Cert.FfnBlock.final_dmix m c hq j0 j1).symm
  · show ∀ j : Cert.FfnKernelIdeal.S8192x1024.Idx, _
    intro j
    idx_vars j
    exact (Cert.FfnRef.res_dxa j0 m' c hn hf hh j1).trans (Cert.FfnBlock.final_dxa m c hq j0 j1).symm
  · show ∀ j : Cert.FfnKernelIdeal.S8x1024.Idx, _
    intro j
    idx_vars j
    exact (Cert.FfnRef.res_acc m' c hn hf hh j1 j0).trans (Cert.FfnBlock.final_acc m c hq j0 j1).symm

end Cert.ClaimFfn

end
-- ==== Proof.RowMid.lean ====
/-
  The real numbers of the middle step: the network's output, the last normalisation, the loss and its gradient.
-/
module

public import proofs.«01_k».proof.Proof.RowFfn

@[expose] public section

noncomputable section

namespace Cert.RowMid

open Cert.RowMath Cert.RowFfn Idealize.ShloMosaic

/-- One over the number of columns. -/
def unit : ℝ := 1 / 1024
/-- Half of it. -/
def half : ℝ := 1 / 2048

theorem word_unit : Ideal.ofBits .f32 0x3A800000#32 = (unit : EReal) := by
  simp [Ideal.ofBits, Ideal.ieee, unit, -EReal.coe_mul, -EReal.coe_div]; norm_num
theorem word_half : Ideal.ofBits .f32 0x3A000000#32 = (half : EReal) := by
  simp [Ideal.ofBits, Ideal.ieee, half, -EReal.coe_mul, -EReal.coe_div]; norm_num

/-- The real numbers behind the arguments. -/
structure Mid extends Net where
  target : Fin 8192 → Fin 1024 → ℝ
  gate2 : Fin 1024 → ℝ
  lw : Fin 1024 → ℝ
  lb : Fin 1024 → ℝ

namespace Mid
variable (q : Mid) (n : Fin 8192)

/-- The network's output. -/
def f (l : Fin 1024) : ℝ := ∑ j, max (q.toNet.a n j) 0 * max (q.toNet.a n j) 0 * q.w2 j l
/-- The second residual sum. -/
def h2 (l : Fin 1024) : ℝ := alpha * q.toNet.x1 n l + q.gate2 l * q.f n l
/-- The second residual sum, normalised. -/
def y (l : Fin 1024) : ℝ := dev (q.h2 n) l * rstd (q.h2 n)
/-- The layer's output less the target. -/
def e (l : Fin 1024) : ℝ := q.y n l * q.lw l + q.lb l - q.target n l
/-- The cotangent of the layer's output. -/
def dy (l : Fin 1024) : ℝ := q.e n l * unit
/-- The cotangent of the second residual sum. -/
def dh2 (l : Fin 1024) : ℝ := lnGrad (q.h2 n) (fun k => q.dy n k * q.lw k) l
/-- The cotangent of the network's output. -/
def df (l : Fin 1024) : ℝ := q.dh2 n l * q.gate2 l

/-- The four sums over the rows below `b`: last weight and bias, second gate, loss. -/
def sums (b : ℕ) (r : Fin 8) (l : Fin 1024) : ℝ :=
  if r.val = 3 then below (fun n => q.e n l * q.e n l * half) b
  else if r.val = 2 then below (fun n => q.dh2 n l * q.f n l) b
  else if r.val = 1 then below (fun n => q.dy n l) b
  else if r.val = 0 then below (fun n => q.dy n l * q.y n l) b
  else 0
end Mid

end Cert.RowMid

end
-- ==== Proof.MidPay.lean ====
/-
  What the arithmetic of one block of the middle step computes, element by element.
-/
module

public import proofs.«01_k».proof.Proof.Gen.MidKernelIdeal.Skeleton
public import proofs.«01_k».proof.Proof.RowFfn

@[expose] public section

set_option maxRecDepth 16384

noncomputable section

namespace Cert.MidBlock

open Cert.RowMath Cert.RowFfn Cert.MidKernelIdeal Cert.MidKernelIdeal.Gen Idealize.ShloMosaic

/-- The square of the positive part. -/
def relu2 (a : EReal) : EReal := max a 0 * max a 0

theorem mix_apply (v : FVec Ideal S512x1024 .bf16) (w : FVec Ideal S1024x1024 .bf16) (r : Fin 512) (l : Fin 1024) :
    k0_pay12 (F := Ideal) v w (ix2 r l) = ∑ k : Fin 1024, v (ix2 r k) * w (ix2 k l) := by pointwise [k0_pay12]

section
variable (u : FVec Ideal S512x1024 .bf16) (s t : FVec Ideal S1x1024x512 .bf16) (acc : FVec Ideal S512x1024 .f32)
  (w z : FVec Ideal S512x1024 .bf16) (h : FVec Ideal S512x512 .f32) (r k : Fin 512) (l : Fin 1024)

/-- A slab of the hidden values. -/
theorem act_apply : k0_pay39 (F := Ideal) u s (ix2 r k) = ∑ l : Fin 1024, u (ix2 r l) * s (ix3 0 l k) := by pointwise [k0_pay39]

theorem sq_apply : k0_pay33 (F := Ideal) u s (ix2 r k) = relu2 (k0_pay39 (F := Ideal) u s (ix2 r k)) := by
  pointwise [k0_pay33]
  rfl

theorem zero_two_apply (a b : FVec Ideal S1x1024 .f32) (d i : FVec Ideal S512x1024 .f32) :
    k0_pay25 (F := Ideal) a b d i s w t z (ix2 r l)
      = ∑ k : Fin 512, relu2 (k0_pay39 (F := Ideal) (k0_pay20 a b d i) s (ix2 r k)) * w (ix2 k l)
          + ∑ k : Fin 512, relu2 (k0_pay39 (F := Ideal) (k0_pay20 a b d i) t (ix2 r k)) * z (ix2 k l) := by
  pointwise [k0_pay25]
  rfl

theorem two_apply :
    k0_pay30 (F := Ideal) u acc s w t z (ix2 r l)
      = acc (ix2 r l) + ∑ k : Fin 512, relu2 (k0_pay39 (F := Ideal) u s (ix2 r k)) * w (ix2 k l)
          + ∑ k : Fin 512, relu2 (k0_pay39 (F := Ideal) u t (ix2 r k)) * z (ix2 k l) := by
  pointwise [k0_pay30]
  rfl

theorem three_apply (y : FVec Ideal S512x1024 .bf16) :
    k0_pay38 (F := Ideal) u acc h y s w t z (ix2 r l)
      = acc (ix2 r l) + ∑ k : Fin 512, h (ix2 r k) * y (ix2 k l) + ∑ k : Fin 512, relu2 (k0_pay39 (F := Ideal) u s (ix2 r k)) * w (ix2 k l)
          + ∑ k : Fin 512, relu2 (k0_pay39 (F := Ideal) u t (ix2 r k)) * z (ix2 k l) := by
  pointwise [k0_pay38]
  rfl

theorem one_apply :
    k0_pay41 (F := Ideal) acc h w (ix2 r l) = acc (ix2 r l) + ∑ k : Fin 512, relu2 (h (ix2 r k)) * w (ix2 k l) := by
  pointwise [k0_pay41]
  rfl
end

/-! The two normalisations of the feed-forward part's input. -/

section
variable (a b s t : FVec Ideal S1x1024 .f32) (m x d i : FVec Ideal S512x1024 .f32) (x' y' : Fin 1024 → ℝ) (r : Fin 512)
  (hx : ∀ k, (alpha : EReal) * x (ix2 r k) + a (ix2 0 k) * m (ix2 r k) = (x' k : EReal))
include hx

theorem dev_apply (l : Fin 1024) : k0_pay14 (F := Ideal) a m x (ix2 r l) = (dev x' l : EReal) := by
  pointwise [k0_pay14]
  simp only [word_alpha, hx, word_1024, sum_coe]
  rw [div_coe_coe _ (by norm_num), ← EReal.coe_sub]
  rfl

theorem rstd_apply : k0_pay15 (F := Ideal) a m x (ix2 r 0) = (rstd x' : EReal) := by
  pointwise [k0_pay15]
  simp only [dev_apply a m x x' r hx, word_1024, word_eps, ← EReal.coe_mul, sum_coe]
  rw [div_coe_coe _ (by norm_num), ← EReal.coe_add]
  exact rsqrt_coe (vare_pos x')

theorem norm_apply (l : Fin 1024) : k0_pay16 (F := Ideal) a m x (ix2 r l) = ((dev x' l * rstd x' : ℝ) : EReal) := by
  pointwise [k0_pay16]
  rw [dev_apply a m x x' r hx, rstd_apply a m x x' r hx, EReal.coe_mul]

variable (hy : ∀ k, ((dev x' k * rstd x' : ℝ) : EReal) * s (ix2 0 k) + t (ix2 0 k) = (y' k : EReal))
include hy

theorem aff_apply (l : Fin 1024) : k0_pay17 (F := Ideal) a s t m x (ix2 r l) = (y' l : EReal) := by
  pointwise [k0_pay17]
  rw [norm_apply a m x x' r hx, hy]

theorem dev2_apply (l : Fin 1024) : k0_pay18 (F := Ideal) a s t m x (ix2 r l) = (dev y' l : EReal) := by
  pointwise [k0_pay18]
  simp only [aff_apply a s t m x x' y' r hx hy, word_1024, sum_coe]
  rw [div_coe_coe _ (by norm_num), ← EReal.coe_sub]
  rfl

theorem rstd2_apply (l : Fin 1024) : k0_pay19 (F := Ideal) a s t m x (ix2 r l) = (rstd y' : EReal) := by
  pointwise [k0_pay19]
  simp only [dev2_apply a s t m x x' y' r hx hy, word_1024, word_eps, ← EReal.coe_mul, sum_coe]
  rw [div_coe_coe _ (by norm_num), ← EReal.coe_add]
  exact rsqrt_coe (vare_pos y')
end

theorem u2_apply (a b : FVec Ideal S1x1024 .f32) (d i : FVec Ideal S512x1024 .f32) (r : Fin 512) (l : Fin 1024) :
    k0_pay20 (F := Ideal) a b d i (ix2 r l) = d (ix2 r l) * i (ix2 r l) * a (ix2 0 l) + b (ix2 0 l) := by pointwise [k0_pay20]

/-! The last normalisation, the loss and its gradient. -/

section
variable (g : FVec Ideal S1x1024 .f32) (x acc : FVec Ideal S512x1024 .f32) (h : FVec Ideal S512x512 .f32) (w : FVec Ideal S512x1024 .bf16)
  (x' : Fin 1024 → ℝ) (r : Fin 512)
  (hx : ∀ k, (alpha : EReal) * x (ix2 r k) + g (ix2 0 k) * k0_pay41 (F := Ideal) acc h w (ix2 r k) = (x' k : EReal))
include hx

theorem dev3_apply (l : Fin 1024) : k0_pay42 (F := Ideal) g x acc h w (ix2 r l) = (dev x' l : EReal) := by
  pointwise [k0_pay42]
  simp only [word_alpha, hx, word_1024, sum_coe]
  rw [div_coe_coe _ (by norm_num), ← EReal.coe_sub]
  rfl

theorem rstd3_apply : k0_pay43 (F := Ideal) g x acc h w (ix2 r 0) = (rstd x' : EReal) := by
  pointwise [k0_pay43]
  simp only [dev3_apply g x acc h w x' r hx, word_1024, word_eps, ← EReal.coe_mul, sum_coe]
  rw [div_coe_coe _ (by norm_num), ← EReal.coe_add]
  exact rsqrt_coe (vare_pos x')

theorem norm3_apply (l : Fin 1024) : k0_pay44 (F := Ideal) g x acc h w (ix2 r l) = ((dev x' l * rstd x' : ℝ) : EReal) := by
  pointwise [k0_pay44]
  rw [dev3_apply g x acc h w x' r hx, rstd3_apply g x acc h w x' r hx, EReal.coe_mul]
end

section
variable (g s t : FVec Ideal S1x1024 .f32) (x acc y : FVec Ideal S512x1024 .f32) (h : FVec Ideal S512x512 .f32) (w : FVec Ideal S512x1024 .bf16)
  (r : Fin 512) (l : Fin 1024)

theorem err_apply : k0_pay45 (F := Ideal) g s t x acc h w y (ix2 r l)
    = k0_pay44 (F := Ideal) g x acc h w (ix2 r l) * s (ix2 0 l) + t (ix2 0 l) - y (ix2 r l) := by pointwise [k0_pay45]
theorem dy_apply : k0_pay46 (F := Ideal) g s t x acc h w y (ix2 r l)
    = k0_pay45 (F := Ideal) g s t x acc h w y (ix2 r l) * Ideal.ofBits .f32 0x3A800000#32 := by pointwise [k0_pay46]
theorem dyw_apply : k0_pay47 (F := Ideal) g s t x acc h w y (ix2 r l)
    = k0_pay46 (F := Ideal) g s t x acc h w y (ix2 r l) * s (ix2 0 l) := by pointwise [k0_pay47]
theorem sum_apply : k0_pay48 (F := Ideal) g s t x acc h w y (ix2 r 0)
    = ∑ l : Fin 1024, k0_pay47 (F := Ideal) g s t x acc h w y (ix2 r l) := by pointwise [k0_pay48]
end

section
variable (i : FVec Ideal S512x1 .f32) (y p f : FVec Ideal S512x1024 .f32) (s : FVec Ideal S512x1 .f32) (a : FVec Ideal S1x1024 .f32)
  (x' p' : Fin 1024 → ℝ) (r : Fin 512)

theorem dh2_apply (hy : ∀ k, y (ix2 r k) = ((dev x' k * rstd x' : ℝ) : EReal)) (hi : i (ix2 r 0) = (rstd x' : EReal))
    (hp : ∀ k, p (ix2 r k) = (p' k : EReal)) (hs : s (ix2 r 0) = ∑ k, p (ix2 r k)) (l : Fin 1024) :
    k0_pay49 (F := Ideal) i y p s (ix2 r l) = (lnGrad x' p' l : EReal) := by
  pointwise [k0_pay49]
  simp only [hs, hy, hi, hp, word_1024, ← EReal.coe_mul, sum_coe]
  rw [div_coe_coe _ (by norm_num), div_coe_coe _ (by norm_num), ← EReal.coe_mul, ← EReal.coe_sub, ← EReal.coe_sub, ← EReal.coe_mul]
  rfl

theorem df_apply (l : Fin 1024) : k0_pay50 (F := Ideal) a i y p s (ix2 r l) = k0_pay49 (F := Ideal) i y p s (ix2 r l) * a (ix2 0 l) := by
  pointwise [k0_pay50]

/-! The four rows of sums over a block's rows. -/

theorem acc0_apply (l : Fin 1024) :
    k0_pay51 (F := Ideal) y p a (ix2 0 l) = a (ix2 0 l) + ∑ r : Fin 512, p (ix2 r l) * y (ix2 r l) := by pointwise [k0_pay51]
theorem acc1_apply (l : Fin 1024) :
    k0_pay52 (F := Ideal) p a (ix2 0 l) = a (ix2 0 l) + ∑ r : Fin 512, p (ix2 r l) := by pointwise [k0_pay52]
theorem acc2_apply (l : Fin 1024) :
    k0_pay1 (F := Ideal) (k0_pay53 a) (k0_pay54 f i y p s) (ix2 0 l)
      = a (ix2 0 l) + ∑ r : Fin 512, k0_pay49 (F := Ideal) i y p s (ix2 r l) * f (ix2 r l) := by
  pointwise [k0_pay1, k0_pay53, k0_pay54]
theorem acc3_apply (l : Fin 1024) :
    k0_pay2 (F := Ideal) p a (ix2 0 l) = a (ix2 0 l) + (∑ r : Fin 512, p (ix2 r l) * p (ix2 r l)) * Ideal.ofBits .f32 0x3A000000#32 := by
  pointwise [k0_pay2]
end

end Cert.MidBlock

end
-- ==== Proof.MidBlock.lean ====
/-
  What one grid point of the middle step leaves in its result blocks and in the scratch buffers.
-/
module

public import proofs.«01_k».proof.Proof.Gen.MidKernelIdeal.Frame
public import proofs.«01_k».proof.Proof.RowStore
public import proofs.«01_k».proof.Proof.MidPay

@[expose] public section

set_option maxRecDepth 16384

noncomputable section

namespace Cert.MidBlock

open Cert.RowStore Cert.MidKernelIdeal Cert.MidKernelIdeal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- 512 rows of the second weights, from row `o` on. -/
def rows2 (w : Vec F S4096x1024 .bf16) (o : ℕ) (h : o + 512 ≤ 4096) : Vec F S512x1024 .bf16 := fun y =>
  w (ix2 ⟨o + (y 0).val, Nat.lt_of_lt_of_le (Nat.add_lt_add_left (y 0).isLt o) h⟩ (y 1))

/-- One slab of the first weights. -/
def slab (w : Vec F S8x1024x512 .bf16) (o : ℕ) (h : o + 1 ≤ 8) : Vec F S1x1024x512 .bf16 := fun y =>
  w (ix3 ⟨o, h⟩ (y 1) (y 2))

theorem ld_rows2 (w : Vec F S4096x1024 .bf16) (o : ℕ) (inb : ∀ k : Fin 2, (![o, 0] : Fin 2 → ℕ) k + (![512, 1024] : Fin 2 → ℕ) k ≤ S4096x1024.size k) :
    View.ld (Val := Elt F) (S := S4096x1024) w (Rect.unit ![o, 0] ![512, 1024] inb) = rows2 w o (inb 0) := by
  funext y
  unfold rows2 View.ld
  congr 1
  funext k
  apply Fin.ext
  match k with
  | ⟨0, _⟩ => show o + 1 * (y 0).val = o + (y 0).val; omega
  | ⟨1, _⟩ => show 0 + 1 * (y 1).val = (y 1).val; omega

theorem ld_slab (w : Vec F S8x1024x512 .bf16) (o : ℕ)
    (inb : ∀ k : Fin 3, (![o, 0, 0] : Fin 3 → ℕ) k + (![1, 1024, 512] : Fin 3 → ℕ) k ≤ S8x1024x512.size k) :
    View.ld (Val := Elt F) (S := S8x1024x512) w (Rect.unit ![o, 0, 0] ![1, 1024, 512] inb) = slab w o (inb 0) := by
  funext y
  unfold slab View.ld
  congr 1
  funext k
  apply Fin.ext
  match k with
  | ⟨0, _⟩ => show o + 1 * (y 0).val = o; have h : (y 0).val < 1 := (y 0).isLt; omega
  | ⟨1, _⟩ => show 0 + 1 * (y 1).val = (y 1).val; omega
  | ⟨2, _⟩ => show 0 + 1 * (y 2).val = (y 2).val; omega

theorem ld_vec (x : Vec F S8x1024 .f32) (o : ℕ) (inb : ∀ k : Fin 2, (![o, 0] : Fin 2 → ℕ) k + (![1, 1024] : Fin 2 → ℕ) k ≤ S8x1024.size k) :
    View.ld (Val := Elt F) (S := S8x1024) x (Rect.unit ![o, 0] ![1, 1024] inb) = row (a := 8) (n := 1024) x ⟨o, inb 0⟩ :=
  ld_row_at (Val := Elt F) (e := .f32) (a := 8) (n := 1024) x o inb

/-- A load of a row of sums out of what a whole store left. -/
theorem load_first {sg : RefSig} {κ : Kind} {sp : Space} (v : View sg κ sp S8x1024 .f32) (w : Vec F S8x1024 .f32) (o : ℕ)
    (inb' : ∀ k : Fin 2, (![0, 0] : Fin 2 → ℕ) k + (![8, 1024] : Fin 2 → ℕ) k ≤ S8x1024.size k)
    (inb : ∀ k : Fin 2, (![o, 0] : Fin 2 → ℕ) k + (![1, 1024] : Fin 2 → ℕ) k ≤ S8x1024.size k) :
    v.readCov (Val := Elt F) [⟨Rect.unit ![0, 0] ![8, 1024] inb', w⟩] (Rect.unit ![o, 0] ![1, 1024] inb).toLoadRect
      = row (a := 8) (n := 1024) w ⟨o, inb 0⟩ :=
  (readCov_whole (S := S8x1024) v inb' w _).trans (ld_vec w o inb)

/-- A load of a row of sums past the store of another row. -/
theorem load_other {sg : RefSig} {κ : Kind} {sp : Space} (v : View sg κ sp S8x1024 .f32) (o p : ℕ) (h : o ≠ p)
    (inb' : ∀ k : Fin 2, (![p, 0] : Fin 2 → ℕ) k + (![1, 1024] : Fin 2 → ℕ) k ≤ S8x1024.size k)
    (inb : ∀ k : Fin 2, (![o, 0] : Fin 2 → ℕ) k + (![1, 1024] : Fin 2 → ℕ) k ≤ S8x1024.size k)
    (w : Vec F S1x1024 .f32) (L : List (View.Piece (Elt F) S8x1024 .f32)) :
    v.readCov (Val := Elt F) (⟨Rect.unit ![p, 0] ![1, 1024] inb', w⟩ :: L) (Rect.unit ![o, 0] ![1, 1024] inb).toLoadRect
      = v.readCov L (Rect.unit ![o, 0] ![1, 1024] inb).toLoadRect :=
  readCov_row_ne (a := 8) (n := 1024) v o p h inb inb' w L

section
variable (x0 : Vec F S512x1024 .bf16) (x1 x2 : Vec F S512x1024 .f32) (x3 : Vec F S8x1024 .f32)
  (wo : Vec F S1024x1024 .bf16) (w1 : Vec F S8x1024x512 .bf16) (w2 : Vec F S4096x1024 .bf16)

/-- The first residual sum, normalised. -/
abbrev x1nBlk : FVec F S512x1024 .f32 := k0_pay16 (k0_pay4 (row x3 0)) (k0_pay12 x0 wo) x1
/-- One over the first residual sum's standard deviation. -/
abbrev invBlk : FVec F S512x1 .f32 := k0_pay15 (k0_pay4 (row x3 0)) (k0_pay12 x0 wo) x1
/-- The first layer normalisation. -/
abbrev x1Blk : FVec F S512x1024 .f32 := k0_pay17 (k0_pay4 (row x3 0)) (k0_pay8 (row x3 4)) (k0_pay9 (row x3 5)) (k0_pay12 x0 wo) x1
/-- The first layer normalisation less its mean. -/
abbrev devBlk : FVec F S512x1024 .f32 := k0_pay18 (k0_pay4 (row x3 0)) (k0_pay8 (row x3 4)) (k0_pay9 (row x3 5)) (k0_pay12 x0 wo) x1
/-- One over its standard deviation, along each row. -/
abbrev inv2Blk : FVec F S512x1024 .f32 := k0_pay19 (k0_pay4 (row x3 0)) (k0_pay8 (row x3 4)) (k0_pay9 (row x3 5)) (k0_pay12 x0 wo) x1
/-- The network's input. -/
abbrev u2Blk : FVec F S512x1024 .bf16 := k0_pay20 (k0_pay5 (row x3 1)) (k0_pay6 (row x3 2)) (devBlk x0 x1 x3 wo) (inv2Blk x0 x1 x3 wo)
/-- The hidden values of slab `o`. -/
abbrev aBlk (o : ℕ) (h : o + 1 ≤ 8) : FVec F S512x512 .bf16 := k0_pay40 (k0_pay39 (u2Blk x0 x1 x3 wo) (slab w1 o h))
/-- The network's output from the first two slabs. -/
abbrev out2 : FVec F S512x1024 .f32 := k0_pay25 (k0_pay5 (row x3 1)) (k0_pay6 (row x3 2)) (devBlk x0 x1 x3 wo) (inv2Blk x0 x1 x3 wo)
  (slab w1 0 (by decide)) (rows2 w2 0 (by decide)) (slab w1 1 (by decide)) (rows2 w2 512 (by decide))
/-- The network's output from the first four slabs. -/
abbrev out4 : FVec F S512x1024 .f32 := k0_pay30 (u2Blk x0 x1 x3 wo) (out2 x0 x1 x3 wo w1 w2)
  (slab w1 2 (by decide)) (rows2 w2 1024 (by decide)) (slab w1 3 (by decide)) (rows2 w2 1536 (by decide))
/-- The network's output from the first seven slabs. -/
abbrev out7 : FVec F S512x1024 .f32 := k0_pay38 (u2Blk x0 x1 x3 wo) (out4 x0 x1 x3 wo w1 w2) (k0_pay33 (u2Blk x0 x1 x3 wo) (slab w1 4 (by decide)))
  (rows2 w2 2048 (by decide)) (slab w1 5 (by decide)) (rows2 w2 2560 (by decide)) (slab w1 6 (by decide)) (rows2 w2 3072 (by decide))
/-- The last slab of the hidden values. -/
abbrev act7 : FVec F S512x512 .f32 := k0_pay39 (u2Blk x0 x1 x3 wo) (slab w1 7 (by decide))
/-- The last rows of the second weights. -/
abbrev rows7 : Vec F S512x1024 .bf16 := rows2 w2 3584 (by decide)
/-- The network's output. -/
abbrev fBlk : FVec F S512x1024 .f32 := k0_pay41 (out7 x0 x1 x3 wo w1 w2) (act7 x0 x1 x3 wo w1) (rows7 w2)
/-- One over the second residual sum's standard deviation. -/
abbrev inv3Blk : FVec F S512x1 .f32 := k0_pay43 (k0_pay7 (row x3 3)) (x1Blk x0 x1 x3 wo) (out7 x0 x1 x3 wo w1 w2) (act7 x0 x1 x3 wo w1) (rows7 w2)
/-- The second residual sum, normalised. -/
abbrev yBlk : FVec F S512x1024 .f32 := k0_pay44 (k0_pay7 (row x3 3)) (x1Blk x0 x1 x3 wo) (out7 x0 x1 x3 wo w1 w2) (act7 x0 x1 x3 wo w1) (rows7 w2)
/-- The layer's output less the target. -/
abbrev eBlk : FVec F S512x1024 .f32 := k0_pay45 (k0_pay7 (row x3 3)) (k0_pay10 (row x3 6)) (k0_pay11 (row x3 7)) (x1Blk x0 x1 x3 wo)
  (out7 x0 x1 x3 wo w1 w2) (act7 x0 x1 x3 wo w1) (rows7 w2) x2
/-- The cotangent of the layer's output. -/
abbrev dyBlk : FVec F S512x1024 .f32 := k0_pay46 (k0_pay7 (row x3 3)) (k0_pay10 (row x3 6)) (k0_pay11 (row x3 7)) (x1Blk x0 x1 x3 wo)
  (out7 x0 x1 x3 wo w1 w2) (act7 x0 x1 x3 wo w1) (rows7 w2) x2
/-- The cotangent of the normalised second residual sum. -/
abbrev pBlk : FVec F S512x1024 .f32 := k0_pay47 (k0_pay7 (row x3 3)) (k0_pay10 (row x3 6)) (k0_pay11 (row x3 7)) (x1Blk x0 x1 x3 wo)
  (out7 x0 x1 x3 wo w1 w2) (act7 x0 x1 x3 wo w1) (rows7 w2) x2
/-- Its sum along each row. -/
abbrev sBlk : FVec F S512x1 .f32 := k0_pay48 (k0_pay7 (row x3 3)) (k0_pay10 (row x3 6)) (k0_pay11 (row x3 7)) (x1Blk x0 x1 x3 wo)
  (out7 x0 x1 x3 wo w1 w2) (act7 x0 x1 x3 wo w1) (rows7 w2) x2
/-- The cotangent of the second residual sum. -/
abbrev dh2Blk : FVec F S512x1024 .f32 := k0_pay49 (inv3Blk x0 x1 x3 wo w1 w2) (yBlk x0 x1 x3 wo w1 w2) (pBlk x0 x1 x2 x3 wo w1 w2) (sBlk x0 x1 x2 x3 wo w1 w2)
/-- The cotangent of the network's output. -/
abbrev dfBlk : FVec F S512x1024 .bf16 := k0_pay50 (k0_pay7 (row x3 3)) (inv3Blk x0 x1 x3 wo w1 w2) (yBlk x0 x1 x3 wo w1 w2) (pBlk x0 x1 x2 x3 wo w1 w2)
  (sBlk x0 x1 x2 x3 wo w1 w2)

/-- The eight rows of sums once the block's rows are added to those of `z`. -/
def accBlk (z : Vec F S8x1024 .f32) (r : Fin 8) (l : Fin 1024) : F .f32 :=
  if r.val = 3 then k0_pay2 (eBlk x0 x1 x2 x3 wo w1 w2) (row z 3) (ix2 0 l)
  else if r.val = 2 then k0_pay1 (k0_pay53 (row z 2)) (k0_pay54 (fBlk x0 x1 x3 wo w1 w2) (inv3Blk x0 x1 x3 wo w1 w2) (yBlk x0 x1 x3 wo w1 w2)
    (pBlk x0 x1 x2 x3 wo w1 w2) (sBlk x0 x1 x2 x3 wo w1 w2)) (ix2 0 l)
  else if r.val = 1 then k0_pay52 (dyBlk x0 x1 x2 x3 wo w1 w2) (row z 1) (ix2 0 l)
  else if r.val = 0 then k0_pay51 (yBlk x0 x1 x3 wo w1 w2) (dyBlk x0 x1 x2 x3 wo w1 w2) (row z 0) (ix2 0 l)
  else z (ix2 r l)
end

section
variable (u : FVec F S512x1024 .bf16) (s : Vec F S1x1024x512 .bf16) (a b : FVec F S1x1024 .f32) (d i : FVec F S512x1024 .f32)
theorem pay22_eq : k0_pay22 a b d i s = k0_pay40 (k0_pay39 (k0_pay20 a b d i) s) := rfl
theorem pay24_eq : k0_pay24 a b d i s = k0_pay40 (k0_pay39 (k0_pay20 a b d i) s) := rfl
theorem pay27_eq : k0_pay27 u s = k0_pay40 (k0_pay39 u s) := rfl
theorem pay29_eq : k0_pay29 u s = k0_pay40 (k0_pay39 u s) := rfl
theorem pay32_eq : k0_pay32 u s = k0_pay40 (k0_pay39 u s) := rfl
theorem pay35_eq : k0_pay35 u s = k0_pay40 (k0_pay39 u s) := rfl
theorem pay37_eq : k0_pay37 u s = k0_pay40 (k0_pay39 u s) := rfl
end

variable (c : Dev nD) (i : grid0.Coords)
  (a1 : Memref sig .tc .vmem S512x1024 .bf16) (h1 : a1.IsWhole) (a2 : Memref sig .tc .vmem S512x1024 .f32) (h2 : a2.IsWhole)
  (a3 : Memref sig .tc .vmem S512x1024 .f32) (h3 : a3.IsWhole) (a4 : Memref sig .tc .vmem S8x1024 .f32) (h4 : a4.IsWhole)
  (a8 : Memref sig .tc .vmem S512x1024 .bf16) (h8 : a8.IsWhole) (a9 : Memref sig .tc .vmem S512x1024 .f32) (h9 : a9.IsWhole)
  (a10 : Memref sig .tc .vmem S512x1 .f32) (h10 : a10.IsWhole) (a11 : Memref sig .tc .vmem S512x1024 .bf16) (h11 : a11.IsWhole)
  (a12 : Memref sig .tc .vmem S512x4096 .bf16) (h12 : a12.IsWhole) (a13 : Memref sig .tc .vmem S512x1024 .bf16) (h13 : a13.IsWhole)
  (a14 : Memref sig .tc .vmem S512x1024 .f32) (h14 : a14.IsWhole) (a15 : Memref sig .tc .vmem S8x1024 .f32) (h15 : a15.IsWhole)
  (a16 : Memref sig .tc .vmem S1024x1024 .bf16) (h16 : a16.IsWhole) (a17 : Memref sig .tc .vmem S8x1024x512 .bf16) (h17 : a17.IsWhole)
  (a18 : Memref sig .tc .vmem S4096x1024 .bf16) (h18 : a18.IsWhole)
  (x0 : Vec F S512x1024 .bf16) (x1 x2 : Vec F S512x1024 .f32) (x3 xo : Vec F S8x1024 .f32)
  (wo : Vec F S1024x1024 .bf16) (w1 : Vec F S8x1024x512 .bf16) (w2 : Vec F S4096x1024 .bf16)
  (f0 : HbBuf0 (F := F) c hbM0_0) (f1 : HbBuf0 (F := F) c hbM0_1) (f2 : HbBuf0 (F := F) c hbM0_2)

/-- The weights as the kernel's copies read them. -/
abbrev cpWo (f0 : HbBuf0 (F := F) c hbM0_0) : Vec F S1024x1024 .bf16 := ReadAs.same.apply (View.read (Elt F) (View.whole main_v1) f0)
abbrev cpW1 (f1 : HbBuf0 (F := F) c hbM0_1) : Vec F S8x1024x512 .bf16 := ReadAs.same.apply (View.read (Elt F) (View.whole main_v7) f1)
abbrev cpW2 (f2 : HbBuf0 (F := F) c hbM0_2) : Vec F S4096x1024 .bf16 := ReadAs.same.apply (View.read (Elt F) (View.whole main_v3) f2)

/-- A load of a whole block. -/
theorem ld_tall {e : EltTy} (w : Vec F S512x1024 e) (inb : ∀ k : Fin 2, (![0, 0] : Fin 2 → ℕ) k + (![512, 1024] : Fin 2 → ℕ) k ≤ S512x1024.size k) :
    View.ld (Val := Elt F) (S := S512x1024) w (Rect.unit ![0, 0] ![512, 1024] inb) = w := View.ld_unit_zero (S := S512x1024) hz inb w
/-- A load of a whole block. -/
theorem ld_square {e : EltTy} (w : Vec F S1024x1024 e) (inb : ∀ k : Fin 2, (![0, 0] : Fin 2 → ℕ) k + (![1024, 1024] : Fin 2 → ℕ) k ≤ S1024x1024.size k) :
    View.ld (Val := Elt F) (S := S1024x1024) w (Rect.unit ![0, 0] ![1024, 1024] inb) = w := View.ld_unit_zero (S := S1024x1024) hz inb w
/-- What the loads of a grid point read. -/
theorem loads : type_of% @View.readAt_eq_ld
    ∧ type_of% @Memref.IsWhole.read_unread
    ∧ type_of% @ld_rows2
    ∧ type_of% @ld_slab
    ∧ type_of% @ld_vec
    ∧ type_of% @ld_tall
    ∧ type_of% @ld_square
    ∧ type_of% @pay22_eq
    ∧ type_of% @pay24_eq
    ∧ type_of% @pay27_eq
    ∧ type_of% @pay29_eq
    ∧ type_of% @pay32_eq
    ∧ type_of% @pay35_eq
    ∧ type_of% @pay37_eq :=
  ⟨@View.readAt_eq_ld, @Memref.IsWhole.read_unread, @ld_rows2, @ld_slab, @ld_vec, @ld_tall, @ld_square, @pay22_eq, @pay24_eq, @pay27_eq, @pay29_eq, @pay32_eq, @pay35_eq, @pay37_eq⟩
/-- What a load past stores reads. -/
theorem stores : type_of% @readCov_all
    ∧ type_of% @load_first
    ∧ type_of% @load_other :=
  ⟨@readCov_all, @load_first, @load_other⟩

section
variable (hc0 : ¬cond0_0 i) (hc1 : ¬cond0_1 i)

/-- A later point leaves the mixer's output through the output weights. -/
theorem m_B : out0_B_4 c i _ h1 _ h2 _ h3 _ h4 _ h8 _ h9 _ h10 _ h11 _ h12 _ h13 _ h14 _ h15 _ h16 _ h17 _ h18
      hc0 hc1 x0 x1 x2 x3 xo wo w1 w2 f0 f1 f2
    = k0_pay13 x0 wo := by
  unfold out0_B_4 kernelRun0_B; dsimp only; sl_unfold_words
  refine (View.read_writes_full ..).trans ?_
  simp only [loads]
/-- A later point leaves the first residual sum, normalised. -/
theorem x1n_B : out0_B_5 c i _ h1 _ h2 _ h3 _ h4 _ h8 _ h9 _ h10 _ h11 _ h12 _ h13 _ h14 _ h15 _ h16 _ h17 _ h18
      hc0 hc1 x0 x1 x2 x3 xo wo w1 w2 f0 f1 f2
    = x1nBlk x0 x1 x3 wo := by
  unfold out0_B_5 kernelRun0_B; dsimp only; sl_unfold_words
  refine (View.read_writes_full ..).trans ?_
  simp only [loads]
  rfl
/-- A later point leaves one over the first residual sum's standard deviation. -/
theorem inv_B : out0_B_6 c i _ h1 _ h2 _ h3 _ h4 _ h8 _ h9 _ h10 _ h11 _ h12 _ h13 _ h14 _ h15 _ h16 _ h17 _ h18
      hc0 hc1 x0 x1 x2 x3 xo wo w1 w2 f0 f1 f2
    = invBlk x0 x1 x3 wo := by
  unfold out0_B_6 kernelRun0_B; dsimp only; sl_unfold_words
  refine (View.read_writes_full ..).trans ?_
  simp only [loads]
  rfl
/-- A later point leaves the network's input. -/
theorem u2_B : out0_B_7 c i _ h1 _ h2 _ h3 _ h4 _ h8 _ h9 _ h10 _ h11 _ h12 _ h13 _ h14 _ h15 _ h16 _ h17 _ h18
      hc0 hc1 x0 x1 x2 x3 xo wo w1 w2 f0 f1 f2
    = u2Blk x0 x1 x3 wo := by
  unfold out0_B_7 kernelRun0_B; dsimp only; sl_unfold_words
  refine (View.read_writes_full ..).trans ?_
  simp only [loads]
  rfl
/-- A later point leaves the cotangent of the network's output. -/
theorem df_B : out0_B_9 c i _ h1 _ h2 _ h3 _ h4 _ h8 _ h9 _ h10 _ h11 _ h12 _ h13 _ h14 _ h15 _ h16 _ h17 _ h18
      hc0 hc1 x0 x1 x2 x3 xo wo w1 w2 f0 f1 f2
    = dfBlk x0 x1 x2 x3 wo w1 w2 := by
  unfold out0_B_9 kernelRun0_B; dsimp only; sl_unfold_words
  refine (View.read_writes_full ..).trans ?_
  simp only [loads]
  rfl
/-- A later point leaves the cotangent of the second residual sum. -/
theorem dh2_B : out0_B_10 c i _ h1 _ h2 _ h3 _ h4 _ h8 _ h9 _ h10 _ h11 _ h12 _ h13 _ h14 _ h15 _ h16 _ h17 _ h18
      hc0 hc1 x0 x1 x2 x3 xo wo w1 w2 f0 f1 f2
    = dh2Blk x0 x1 x2 x3 wo w1 w2 := by
  unfold out0_B_10 kernelRun0_B; dsimp only; sl_unfold_words
  refine (View.read_writes_full ..).trans ?_
  simp only [loads]
  rfl
/-- A later point adds its rows' share to the four sums. -/
theorem acc_B (r : Fin 8) (l : Fin 1024) : out0_B_11 c i _ h1 _ h2 _ h3 _ h4 _ h8 _ h9 _ h10 _ h11 _ h12 _ h13 _ h14 _ h15 _ h16 _ h17 _ h18
      hc0 hc1 x0 x1 x2 x3 xo wo w1 w2 f0 f1 f2 (ix2 r l)
    = accBlk x0 x1 x2 x3 wo w1 w2 xo r l := by
  unfold out0_B_11 kernelRun0_B; dsimp only; sl_unfold_words
  simp only [loads]
  iterate 4 refine (read_row (a := 8) (n := 1024) ..).trans (if_congr Iff.rfl rfl ?_)
  rw [View.writes_nil, h15.read_unread]
end

section
variable (hc0 : cond0_0 i) (hc1 : cond0_1 i)

/-- The first point leaves the mixer's output through the output weights. -/
theorem m_A : out0_A_4 c i _ h1 _ h2 _ h3 _ h4 _ h8 _ h9 _ h10 _ h11 _ h12 _ h13 _ h14 _ h15 _ h16 _ h17 _ h18
      hc0 hc1 x0 x1 x2 x3 f0 f1 f2
    = k0_pay13 x0 (cpWo c f0) := by
  unfold out0_A_4 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
/-- The first point leaves the first residual sum, normalised. -/
theorem x1n_A : out0_A_5 c i _ h1 _ h2 _ h3 _ h4 _ h8 _ h9 _ h10 _ h11 _ h12 _ h13 _ h14 _ h15 _ h16 _ h17 _ h18
      hc0 hc1 x0 x1 x2 x3 f0 f1 f2
    = x1nBlk x0 x1 x3 (cpWo c f0) := by
  unfold out0_A_5 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
  rfl
/-- The first point leaves one over the first residual sum's standard deviation. -/
theorem inv_A : out0_A_6 c i _ h1 _ h2 _ h3 _ h4 _ h8 _ h9 _ h10 _ h11 _ h12 _ h13 _ h14 _ h15 _ h16 _ h17 _ h18
      hc0 hc1 x0 x1 x2 x3 f0 f1 f2
    = invBlk x0 x1 x3 (cpWo c f0) := by
  unfold out0_A_6 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
  rfl
/-- The first point leaves the network's input. -/
theorem u2_A : out0_A_7 c i _ h1 _ h2 _ h3 _ h4 _ h8 _ h9 _ h10 _ h11 _ h12 _ h13 _ h14 _ h15 _ h16 _ h17 _ h18
      hc0 hc1 x0 x1 x2 x3 f0 f1 f2
    = u2Blk x0 x1 x3 (cpWo c f0) := by
  unfold out0_A_7 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
  rfl
/-- The first point leaves the cotangent of the network's output. -/
theorem df_A : out0_A_9 c i _ h1 _ h2 _ h3 _ h4 _ h8 _ h9 _ h10 _ h11 _ h12 _ h13 _ h14 _ h15 _ h16 _ h17 _ h18
      hc0 hc1 x0 x1 x2 x3 f0 f1 f2
    = dfBlk x0 x1 x2 x3 (cpWo c f0) (cpW1 c f1) (cpW2 c f2) := by
  unfold out0_A_9 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
  rfl
/-- The first point leaves the cotangent of the second residual sum. -/
theorem dh2_A : out0_A_10 c i _ h1 _ h2 _ h3 _ h4 _ h8 _ h9 _ h10 _ h11 _ h12 _ h13 _ h14 _ h15 _ h16 _ h17 _ h18
      hc0 hc1 x0 x1 x2 x3 f0 f1 f2
    = dh2Blk x0 x1 x2 x3 (cpWo c f0) (cpW1 c f1) (cpW2 c f2) := by
  unfold out0_A_10 kernelRun0_A; dsimp only; sl_unfold_words
  refine (View.read_writes_full ..).trans ?_
  simp only [loads, stores, ne_eq, Nat.reduceEqDiff, not_false_eq_true, OfNat.ofNat_ne_zero, OfNat.ofNat_ne_one, one_ne_zero]
  rfl
/-- The first point starts the four sums from zero. -/
theorem acc_A (r : Fin 8) (l : Fin 1024) : out0_A_11 c i _ h1 _ h2 _ h3 _ h4 _ h8 _ h9 _ h10 _ h11 _ h12 _ h13 _ h14 _ h15 _ h16 _ h17 _ h18
      hc0 hc1 x0 x1 x2 x3 f0 f1 f2 (ix2 r l)
    = accBlk x0 x1 x2 x3 (cpWo c f0) (cpW1 c f1) (cpW2 c f2) k0_pay3 r l := by
  unfold out0_A_11 kernelRun0_A; dsimp only; sl_unfold_words
  simp only [loads, stores, ne_eq, Nat.reduceEqDiff, not_false_eq_true, OfNat.ofNat_ne_zero, OfNat.ofNat_ne_one, one_ne_zero]
  iterate 4 refine (read_row (a := 8) (n := 1024) ..).trans (if_congr Iff.rfl rfl ?_)
  rw [View.read_writes_full]
/-- The first point leaves the output weights in their scratch buffer. -/
theorem scr_wo_A : sout0_A_0 c i _ h1 _ h2 _ h3 _ h4 _ h8 _ h9 _ h10 _ h11 _ h12 _ h13 _ h14 _ h15 _ h16 _ h17 _ h18
      hc0 hc1 x0 x1 x2 x3 f0 f1 f2
    = (cpWo c f0) := by
  unfold sout0_A_0 kernelRun0_A; dsimp only; sl_unfold_words
  exact read_all ..
/-- The first point leaves the first weights in their scratch buffer. -/
theorem scr_w1_A : sout0_A_1 c i _ h1 _ h2 _ h3 _ h4 _ h8 _ h9 _ h10 _ h11 _ h12 _ h13 _ h14 _ h15 _ h16 _ h17 _ h18
      hc0 hc1 x0 x1 x2 x3 f0 f1 f2
    = (cpW1 c f1) := by
  unfold sout0_A_1 kernelRun0_A; dsimp only; sl_unfold_words
  exact read_all ..
/-- The first point leaves the second weights in their scratch buffer. -/
theorem scr_w2_A : sout0_A_2 c i _ h1 _ h2 _ h3 _ h4 _ h8 _ h9 _ h10 _ h11 _ h12 _ h13 _ h14 _ h15 _ h16 _ h17 _ h18
      hc0 hc1 x0 x1 x2 x3 f0 f1 f2
    = (cpW2 c f2) := by
  unfold sout0_A_2 kernelRun0_A; dsimp only; sl_unfold_words
  exact read_all ..
end

end

/-! The hidden values, stored slab by slab. -/

section
variable (c : Dev nD) (i : grid0.Coords)
  (a1 : Memref sig .tc .vmem S512x1024 .bf16) (h1 : a1.IsWhole) (a2 : Memref sig .tc .vmem S512x1024 .f32) (h2 : a2.IsWhole)
  (a3 : Memref sig .tc .vmem S512x1024 .f32) (h3 : a3.IsWhole) (a4 : Memref sig .tc .vmem S8x1024 .f32) (h4 : a4.IsWhole)
  (a8 : Memref sig .tc .vmem S512x1024 .bf16) (h8 : a8.IsWhole) (a9 : Memref sig .tc .vmem S512x1024 .f32) (h9 : a9.IsWhole)
  (a10 : Memref sig .tc .vmem S512x1 .f32) (h10 : a10.IsWhole) (a11 : Memref sig .tc .vmem S512x1024 .bf16) (h11 : a11.IsWhole)
  (a12 : Memref sig .tc .vmem S512x4096 .bf16) (h12 : a12.IsWhole) (a13 : Memref sig .tc .vmem S512x1024 .bf16) (h13 : a13.IsWhole)
  (a14 : Memref sig .tc .vmem S512x1024 .f32) (h14 : a14.IsWhole) (a15 : Memref sig .tc .vmem S8x1024 .f32) (h15 : a15.IsWhole)
  (a16 : Memref sig .tc .vmem S1024x1024 .bf16) (h16 : a16.IsWhole) (a17 : Memref sig .tc .vmem S8x1024x512 .bf16) (h17 : a17.IsWhole)
  (a18 : Memref sig .tc .vmem S4096x1024 .bf16) (h18 : a18.IsWhole)
  (x0 : Vec Ideal S512x1024 .bf16) (x1 x2 : Vec Ideal S512x1024 .f32) (x3 xo : Vec Ideal S8x1024 .f32)
  (wo : Vec Ideal S1024x1024 .bf16) (w1 : Vec Ideal S8x1024x512 .bf16) (w2 : Vec Ideal S4096x1024 .bf16)
  (f0 : HbBuf0 (F := Ideal) c hbM0_0) (f1 : HbBuf0 (F := Ideal) c hbM0_1) (f2 : HbBuf0 (F := Ideal) c hbM0_2)

/-- One element of the hidden values. -/
def aVal (u : FVec Ideal S512x1024 .bf16) (w1 : Vec Ideal S8x1024x512 .bf16) (r : Fin 512) (j : Fin 4096) : EReal :=
  ∑ l : Fin 1024, u (ix2 r l) * w1 (ix3 ⟨j.val / 512, by omega⟩ l ⟨j.val % 512, by omega⟩)

variable (u : FVec Ideal S512x1024 .bf16)

/-- The hidden values of slab `o`. -/
abbrev aSlab (u : FVec Ideal S512x1024 .bf16) (w1 : Vec Ideal S8x1024x512 .bf16) (o : ℕ) (h : o + 1 ≤ 8) : FVec Ideal S512x512 .bf16 :=
  k0_pay40 (F := Ideal) (k0_pay39 (F := Ideal) u (slab (F := Ideal) w1 o h))

theorem aSlab_apply (o : ℕ) (h : o + 1 ≤ 8) (r k : Fin 512) :
    aSlab u w1 o h (ix2 r k) = aVal u w1 r ⟨512 * o + k.val, by omega⟩ := by
  have e (y : FVec Ideal S512x512 .f32) : k0_pay40 (F := Ideal) y (ix2 r k) = y (ix2 r k) := by pointwise [k0_pay40]
  refine (e _).trans ((act_apply _ _ _ _).trans ?_)
  unfold aVal
  refine Finset.sum_congr rfl fun l _ => congrArg _ ?_
  show w1 (ix3 _ l k) = _
  refine congrArg₂ (fun (p : Fin 8) (q : Fin 512) => w1 (ix3 p l q)) (Fin.ext ?_) (Fin.ext ?_)
  · show o = (512 * o + k.val) / 512; omega
  · show k.val = (512 * o + k.val) % 512; omega

/-- The store of one slab, read at an index. -/
theorem a_piece (v : View sig .tc .vmem S512x4096 .bf16) (f : v.ty.Contents (Elt Ideal)) (o i : ℕ) (h : o + 1 ≤ 8) (hi : i = 512 * o)
    (inb : ∀ k : Fin 2, (![0, i] : Fin 2 → ℕ) k + (![512, 512] : Fin 2 → ℕ) k ≤ S512x4096.size k) (L : List (View.Piece (Elt Ideal) S512x4096 .bf16))
    (r : Fin 512) (j : Fin 4096) (hL : j.val < i ∨ i + 512 ≤ j.val → v.read (Elt Ideal) (v.writes (Elt Ideal) f L) (ix2 r j) = aVal u w1 r j) :
    v.read (Elt Ideal) (v.writes (Elt Ideal) f (⟨Rect.unit ![0, i] ![512, 512] inb, aSlab u w1 o h⟩ :: L)) (ix2 r j) = aVal u w1 r j := by
  by_cases hj : i ≤ j.val ∧ j.val < i + 512
  · refine (View.read_writes_cons_unit_of_mem v f inb _ L (ix2 r j) (ix2 r ⟨j.val - i, by omega⟩) rfl fun a => ?_).trans ?_
    · match a with
      | ⟨0, _⟩ => show r.val = 0 + r.val; omega
      | ⟨1, _⟩ => show j.val = i + (j.val - i); omega
    · rw [aSlab_apply]
      congr 1
      exact Fin.ext (by show 512 * o + (j.val - i) = j.val; omega)
  · refine (View.read_writes_cons_unit_of_not_mem v f inb _ L (ix2 r j) rfl (a := 1) ?_).trans (hL (by omega))
    show j.val < i ∨ i + 512 ≤ j.val
    omega

/-- The eight slabs' stores, read at an index. -/
theorem a_read (v : View sig .tc .vmem S512x4096 .bf16) (f : v.ty.Contents (Elt Ideal)) (r : Fin 512) (j : Fin 4096) :
    v.read (Elt Ideal) (v.writes (Elt Ideal) f
        [⟨Rect.unit ![0, 3584] ![512, 512] inb_S512x4096_S512x512_0_3584, aSlab u w1 7 (by decide)⟩,
          ⟨Rect.unit ![0, 3072] ![512, 512] inb_S512x4096_S512x512_0_3072, aSlab u w1 6 (by decide)⟩,
          ⟨Rect.unit ![0, 2560] ![512, 512] inb_S512x4096_S512x512_0_2560, aSlab u w1 5 (by decide)⟩,
          ⟨Rect.unit ![0, 2048] ![512, 512] inb_S512x4096_S512x512_0_2048, aSlab u w1 4 (by decide)⟩,
          ⟨Rect.unit ![0, 1536] ![512, 512] inb_S512x4096_S512x512_0_1536, aSlab u w1 3 (by decide)⟩,
          ⟨Rect.unit ![0, 1024] ![512, 512] inb_S512x4096_S512x512_0_1024, aSlab u w1 2 (by decide)⟩,
          ⟨Rect.unit ![0, 512] ![512, 512] inb_S512x4096_S512x512_0_512, aSlab u w1 1 (by decide)⟩,
          ⟨Rect.unit ![0, 0] ![512, 512] inb_S512x4096_S512x512_0_0, aSlab u w1 0 (by decide)⟩])
        (ix2 r j) = aVal u w1 r j := by
  have hj := j.isLt
  refine a_piece (u := u) (w1 := w1) v f 7 3584 (by decide) rfl _ _ r j fun h7 => ?_
  refine a_piece (u := u) (w1 := w1) v f 6 3072 (by decide) rfl _ _ r j fun h6 => ?_
  refine a_piece (u := u) (w1 := w1) v f 5 2560 (by decide) rfl _ _ r j fun h5 => ?_
  refine a_piece (u := u) (w1 := w1) v f 4 2048 (by decide) rfl _ _ r j fun h4 => ?_
  refine a_piece (u := u) (w1 := w1) v f 3 1536 (by decide) rfl _ _ r j fun h3 => ?_
  refine a_piece (u := u) (w1 := w1) v f 2 1024 (by decide) rfl _ _ r j fun h2 => ?_
  refine a_piece (u := u) (w1 := w1) v f 1 512 (by decide) rfl _ _ r j fun h1 => ?_
  refine a_piece (u := u) (w1 := w1) v f 0 0 (by decide) rfl _ _ r j fun h0 => ?_
  omega

/-- A later point leaves the hidden values. -/
theorem a_B (hc0 : ¬cond0_0 i) (hc1 : ¬cond0_1 i) (r : Fin 512) (j : Fin 4096) :
    out0_B_8 (F := Ideal) c i _ h1 _ h2 _ h3 _ h4 _ h8 _ h9 _ h10 _ h11 _ h12 _ h13 _ h14 _ h15 _ h16 _ h17 _ h18
      hc0 hc1 x0 x1 x2 x3 xo wo w1 w2 f0 f1 f2 (ix2 r j)
      = aVal (u2Blk (F := Ideal) x0 x1 x3 wo) w1 r j := by
  unfold out0_B_8 kernelRun0_B; dsimp only; sl_unfold_words
  simp only [loads]
  exact a_read (u := u2Blk (F := Ideal) x0 x1 x3 wo) (w1 := w1) ..

/-- The first point leaves the hidden values. -/
theorem a_A (hc0 : cond0_0 i) (hc1 : cond0_1 i) (r : Fin 512) (j : Fin 4096) :
    out0_A_8 (F := Ideal) c i _ h1 _ h2 _ h3 _ h4 _ h8 _ h9 _ h10 _ h11 _ h12 _ h13 _ h14 _ h15 _ h16 _ h17 _ h18
      hc0 hc1 x0 x1 x2 x3 f0 f1 f2 (ix2 r j)
      = aVal (u2Blk (F := Ideal) x0 x1 x3 (cpWo (F := Ideal) c f0)) (cpW1 (F := Ideal) c f1) r j := by
  unfold out0_A_8 kernelRun0_A; dsimp only; sl_unfold_words
  simp only [loads, stores, ne_eq, Nat.reduceEqDiff, not_false_eq_true, OfNat.ofNat_ne_zero, OfNat.ofNat_ne_one, one_ne_zero]
  exact a_read (u := u2Blk (F := Ideal) x0 x1 x3 (cpWo (F := Ideal) c f0)) (w1 := (cpW1 (F := Ideal) c f1)) ..

end
end Cert.MidBlock

end
-- ==== Proof.MidRow.lean ====
/-
  One row of one block of the middle step, over the reals.
-/
module

public import proofs.«01_k».proof.Proof.RowMid
public import proofs.«01_k».proof.Proof.MidBlock

@[expose] public section

set_option maxRecDepth 16384

noncomputable section

namespace Cert.MidBlock

open Cert.RowMath Cert.RowFfn Cert.RowMid Cert.RowStore Cert.MidKernelIdeal Cert.MidKernelIdeal.Gen Idealize.ShloMosaic

variable (q : Mid) (n : Fin 8192) (r : Fin 512)
  (x0 : FVec Ideal S512x1024 .bf16) (x1 x2 : FVec Ideal S512x1024 .f32) (x3 : FVec Ideal S8x1024 .f32)
  (wo : FVec Ideal S1024x1024 .bf16) (w1 : FVec Ideal S8x1024x512 .bf16) (w2 : FVec Ideal S4096x1024 .bf16)

/-- Row `r` of the blocks a point reads is row `n` of the arrays, and the arrays are these reals. -/
structure RowOf : Prop where
  mixed : ∀ l, x0 (ix2 r l) = (q.mixed n l : EReal)
  x : ∀ l, x1 (ix2 r l) = (q.x n l : EReal)
  target : ∀ l, x2 (ix2 r l) = (q.target n l : EReal)
  gate : ∀ l, x3 (ix2 0 l) = (q.gate l : EReal)
  scale : ∀ l, x3 (ix2 1 l) = ((1 + q.scale l : ℝ) : EReal)
  shift : ∀ l, x3 (ix2 2 l) = (q.shift l : EReal)
  gate2 : ∀ l, x3 (ix2 3 l) = (q.gate2 l : EReal)
  w : ∀ l, x3 (ix2 4 l) = (q.w l : EReal)
  b : ∀ l, x3 (ix2 5 l) = (q.b l : EReal)
  lw : ∀ l, x3 (ix2 6 l) = (q.lw l : EReal)
  lb : ∀ l, x3 (ix2 7 l) = (q.lb l : EReal)
  wo : ∀ k l, wo (ix2 k l) = (q.wo k l : EReal)
  w1 : ∀ s k j, w1 (ix3 s k j) = (q.w1 k ⟨512 * s.val + j.val, by omega⟩ : EReal)
  w2 : ∀ j l, w2 (ix2 j l) = (q.w2 j l : EReal)

variable {q n r x0 x1 x2 x3 wo w1 w2}
variable (h : RowOf q n r x0 x1 x2 x3 wo w1 w2)

section
variable (y : FVec Ideal S1x1024 .f32) (i : Fin 1) (l : Fin 1024)
theorem pay4_id : k0_pay4 (F := Ideal) y (ix2 i l) = y (ix2 i l) := by pointwise [k0_pay4]
theorem pay5_id : k0_pay5 (F := Ideal) y (ix2 i l) = y (ix2 i l) := by pointwise [k0_pay5]
theorem pay6_id : k0_pay6 (F := Ideal) y (ix2 i l) = y (ix2 i l) := by pointwise [k0_pay6]
theorem pay7_id : k0_pay7 (F := Ideal) y (ix2 i l) = y (ix2 i l) := by pointwise [k0_pay7]
theorem pay8_id : k0_pay8 (F := Ideal) y (ix2 i l) = y (ix2 i l) := by pointwise [k0_pay8]
theorem pay9_id : k0_pay9 (F := Ideal) y (ix2 i l) = y (ix2 i l) := by pointwise [k0_pay9]
theorem pay10_id : k0_pay10 (F := Ideal) y (ix2 i l) = y (ix2 i l) := by pointwise [k0_pay10]
theorem pay11_id : k0_pay11 (F := Ideal) y (ix2 i l) = y (ix2 i l) := by pointwise [k0_pay11]
end

theorem relu2_coe (a : ℝ) : relu2 (a : EReal) = ((max a 0 * max a 0 : ℝ) : EReal) := by
  unfold relu2
  rw [← EReal.coe_zero, max_coe, EReal.coe_mul]

include h

/-- The mixer's output through the output weights. -/
theorem RowOf.m (l : Fin 1024) : k0_pay12 (F := Ideal) x0 wo (ix2 r l) = (q.toNet.m n l : EReal) := by
  rw [mix_apply]
  simp only [h.mixed, h.wo, ← EReal.coe_mul, sum_coe]
  rfl

/-- The first residual sum. -/
theorem RowOf.h1 (k : Fin 1024) :
    (alpha : EReal) * x1 (ix2 r k) + k0_pay4 (F := Ideal) (row (a := 8) (n := 1024) x3 0) (ix2 0 k) * k0_pay12 (F := Ideal) x0 wo (ix2 r k)
      = (q.toNet.h1 n k : EReal) := by
  rw [h.x, h.m, pay4_id]
  refine (congrArg (fun z => _ + z * _) (h.gate k)).trans ?_
  rw [← EReal.coe_mul, ← EReal.coe_mul, ← EReal.coe_add]
  rfl

theorem RowOf.x1n (l : Fin 1024) : x1nBlk (F := Ideal) x0 x1 x3 wo (ix2 r l) = (q.toNet.x1n n l : EReal) :=
  norm_apply _ _ _ _ _ h.h1 l
theorem RowOf.inv : invBlk (F := Ideal) x0 x1 x3 wo (ix2 r 0) = (rstd (q.toNet.h1 n) : EReal) :=
  rstd_apply _ _ _ _ _ h.h1

theorem RowOf.aff (k : Fin 1024) :
    ((dev (q.toNet.h1 n) k * rstd (q.toNet.h1 n) : ℝ) : EReal) * k0_pay8 (F := Ideal) (row (a := 8) (n := 1024) x3 4) (ix2 0 k)
      + k0_pay9 (F := Ideal) (row (a := 8) (n := 1024) x3 5) (ix2 0 k) = (q.toNet.x1 n k : EReal) := by
  rw [pay8_id, pay9_id]
  refine (congrArg₂ (fun y z => _ * y + z) (h.w k) (h.b k)).trans ?_
  rw [← EReal.coe_mul, ← EReal.coe_add]
  rfl

theorem RowOf.ln1 (l : Fin 1024) : x1Blk (F := Ideal) x0 x1 x3 wo (ix2 r l) = (q.toNet.x1 n l : EReal) :=
  aff_apply _ _ _ _ _ _ _ _ h.h1 h.aff l
theorem RowOf.dev1 (l : Fin 1024) : devBlk (F := Ideal) x0 x1 x3 wo (ix2 r l) = (dev (q.toNet.x1 n) l : EReal) :=
  dev2_apply _ _ _ _ _ _ _ _ h.h1 h.aff l
theorem RowOf.inv2 (l : Fin 1024) : inv2Blk (F := Ideal) x0 x1 x3 wo (ix2 r l) = (rstd (q.toNet.x1 n) : EReal) :=
  rstd2_apply _ _ _ _ _ _ _ _ h.h1 h.aff l

/-- The network's input. -/
theorem RowOf.u2 (l : Fin 1024) : u2Blk (F := Ideal) x0 x1 x3 wo (ix2 r l) = (q.toNet.u2 n l : EReal) := by
  refine (u2_apply _ _ _ _ r l).trans ?_
  rw [h.dev1, h.inv2, pay5_id, pay6_id]
  refine (congrArg₂ (fun y z => _ * y + z) (h.scale l) (h.shift l)).trans ?_
  rw [← EReal.coe_mul, ← EReal.coe_mul, ← EReal.coe_add]
  rfl

/-- The hidden values. -/
theorem RowOf.a (j : Fin 4096) : aVal (u2Blk (F := Ideal) x0 x1 x3 wo) w1 r j = (q.toNet.a n j : EReal) := by
  unfold aVal
  simp only [h.u2, h.w1, ← EReal.coe_mul, sum_coe]
  unfold Net.a
  refine congrArg _ (Finset.sum_congr rfl fun k _ => congrArg (fun z => _ * q.toNet.w1 k z) (Fin.ext ?_))
  show 512 * (j.val / 512) + j.val % 512 = j.val
  omega

theorem RowOf.act (o : ℕ) (ho : o + 1 ≤ 8) (k : Fin 512) :
    k0_pay39 (F := Ideal) (u2Blk (F := Ideal) x0 x1 x3 wo) (slab (F := Ideal) w1 o ho) (ix2 r k) = (q.toNet.a n ⟨512 * o + k.val, by omega⟩ : EReal) := by
  refine (act_apply _ _ r k).trans ?_
  have e : ∀ l, slab (F := Ideal) w1 o ho (ix3 0 l k) = (q.w1 l ⟨512 * o + k.val, by omega⟩ : EReal) := fun l => h.w1 ⟨o, ho⟩ l k
  simp only [h.u2, e, ← EReal.coe_mul, sum_coe]
  rfl

/-- One slab's share of the network's output. -/
def share (q : Mid) (n : Fin 8192) (l : Fin 1024) (s : Fin 8) : ℝ :=
  ∑ k : Fin 512, max (q.toNet.a n ⟨512 * s.val + k.val, by omega⟩) 0 * max (q.toNet.a n ⟨512 * s.val + k.val, by omega⟩) 0
    * q.w2 ⟨512 * s.val + k.val, by omega⟩ l

theorem RowOf.part (s : Fin 8) (o i : ℕ) (ho : o + 1 ≤ 8) (hi : i + 512 ≤ 4096) (eo : o = s.val) (ei : i = 512 * s.val) (l : Fin 1024) :
    ∑ k : Fin 512, relu2 (k0_pay39 (F := Ideal) (u2Blk (F := Ideal) x0 x1 x3 wo) (slab (F := Ideal) w1 o ho) (ix2 r k)) * rows2 (F := Ideal) w2 i hi (ix2 k l)
      = (share q n l s : EReal) := by
  subst eo ei
  have e : ∀ k : Fin 512, rows2 (F := Ideal) w2 (512 * s.val) hi (ix2 k l) = (q.w2 ⟨512 * s.val + k.val, by omega⟩ l : EReal) := fun k => h.w2 _ l
  simp only [h.act, relu2_coe, e, ← EReal.coe_mul, sum_coe]
  rfl

theorem RowOf.part2 (l : Fin 1024) : out2 (F := Ideal) x0 x1 x3 wo w1 w2 (ix2 r l) = ((share q n l 0 + share q n l 1 : ℝ) : EReal) := by
  refine (zero_two_apply _ _ _ _ _ _ _ _ _ _).trans ?_
  rw [EReal.coe_add]
  exact congrArg₂ (· + ·) (h.part 0 0 0 (by decide) (by decide) rfl rfl l) (h.part 1 1 512 (by decide) (by decide) rfl rfl l)

theorem RowOf.part4 (l : Fin 1024) : out4 (F := Ideal) x0 x1 x3 wo w1 w2 (ix2 r l)
    = ((share q n l 0 + share q n l 1 + share q n l 2 + share q n l 3 : ℝ) : EReal) := by
  refine (two_apply _ _ _ _ _ _ _ _).trans ?_
  rw [EReal.coe_add, EReal.coe_add]
  exact congrArg₂ (· + ·) (congrArg₂ (· + ·) (h.part2 l) (h.part 2 2 1024 (by decide) (by decide) rfl rfl l)) (h.part 3 3 1536 (by decide) (by decide) rfl rfl l)

theorem RowOf.part7 (l : Fin 1024) : out7 (F := Ideal) x0 x1 x3 wo w1 w2 (ix2 r l)
    = ((share q n l 0 + share q n l 1 + share q n l 2 + share q n l 3 + share q n l 4 + share q n l 5 + share q n l 6 : ℝ) : EReal) := by
  refine (three_apply _ _ _ _ _ _ _ _ _ _).trans ?_
  rw [EReal.coe_add, EReal.coe_add, EReal.coe_add]
  refine congrArg₂ (· + ·) (congrArg₂ (· + ·) (congrArg₂ (· + ·) (h.part4 l) ?_) (h.part 5 5 2560 (by decide) (by decide) rfl rfl l)) (h.part 6 6 3072 (by decide) (by decide) rfl rfl l)
  refine (Finset.sum_congr rfl fun k _ => ?_).trans (h.part 4 4 2048 (by decide) (by decide) rfl rfl l)
  exact congrArg (fun z => z * _) (sq_apply _ _ _ _)

/-- The network's output. -/
theorem RowOf.f (l : Fin 1024) : fBlk (F := Ideal) x0 x1 x3 wo w1 w2 (ix2 r l) = (q.f n l : EReal) := by
  refine (one_apply _ _ _ _ _).trans ?_
  refine (congrArg₂ (· + ·) (h.part7 l) (h.part 7 7 3584 (by decide) (by decide) rfl rfl l)).trans ?_
  rw [← EReal.coe_add]
  unfold Mid.f
  rw [sum_slabs, Fin.sum_univ_eight]
  rfl

/-- The second residual sum. -/
theorem RowOf.h2 (k : Fin 1024) :
    (alpha : EReal) * x1Blk (F := Ideal) x0 x1 x3 wo (ix2 r k) + k0_pay7 (F := Ideal) (row (a := 8) (n := 1024) x3 3) (ix2 0 k)
      * fBlk (F := Ideal) x0 x1 x3 wo w1 w2 (ix2 r k) = (q.h2 n k : EReal) := by
  rw [h.ln1, h.f, pay7_id]
  refine (congrArg (fun z => _ + z * _) (h.gate2 k)).trans ?_
  rw [← EReal.coe_mul, ← EReal.coe_mul, ← EReal.coe_add]
  rfl

theorem RowOf.inv3 : inv3Blk (F := Ideal) x0 x1 x3 wo w1 w2 (ix2 r 0) = (rstd (q.h2 n) : EReal) :=
  rstd3_apply _ _ _ _ _ _ _ h.h2
theorem RowOf.y (l : Fin 1024) : yBlk (F := Ideal) x0 x1 x3 wo w1 w2 (ix2 r l) = (q.y n l : EReal) :=
  norm3_apply _ _ _ _ _ _ _ h.h2 l

/-- The layer's output less the target. -/
theorem RowOf.e (l : Fin 1024) : eBlk (F := Ideal) x0 x1 x2 x3 wo w1 w2 (ix2 r l) = (q.e n l : EReal) := by
  refine (err_apply _ _ _ _ _ _ _ _ r l).trans ?_
  refine (congrArg₂ (· - ·) (congrArg₂ (· + ·) (congrArg₂ (· * ·) (h.y l) ((pay10_id _ 0 l).trans (h.lw l)))
    ((pay11_id _ 0 l).trans (h.lb l))) (h.target l)).trans ?_
  rw [← EReal.coe_mul, ← EReal.coe_add, ← EReal.coe_sub]
  rfl
theorem RowOf.dy (l : Fin 1024) : dyBlk (F := Ideal) x0 x1 x2 x3 wo w1 w2 (ix2 r l) = (q.dy n l : EReal) :=
  (dy_apply _ _ _ _ _ _ _ _ r l).trans ((congrArg₂ (· * ·) (h.e l) word_unit).trans (EReal.coe_mul _ _).symm)
theorem RowOf.p (l : Fin 1024) : pBlk (F := Ideal) x0 x1 x2 x3 wo w1 w2 (ix2 r l) = ((q.dy n l * q.lw l : ℝ) : EReal) :=
  (dyw_apply _ _ _ _ _ _ _ _ r l).trans ((congrArg₂ (· * ·) (h.dy l) ((pay10_id _ 0 l).trans (h.lw l))).trans (EReal.coe_mul _ _).symm)

/-- The cotangent of the second residual sum. -/
theorem RowOf.dh2 (l : Fin 1024) : dh2Blk (F := Ideal) x0 x1 x2 x3 wo w1 w2 (ix2 r l) = (q.dh2 n l : EReal) :=
  dh2_apply _ _ _ _ (q.h2 n) (fun k => q.dy n k * q.lw k) r h.y h.inv3 h.p (sum_apply _ _ _ _ _ _ _ _ r) l

/-- The cotangent of the network's output. -/
theorem RowOf.df (l : Fin 1024) : dfBlk (F := Ideal) x0 x1 x2 x3 wo w1 w2 (ix2 r l) = (q.df n l : EReal) :=
  (df_apply _ _ _ _ _ r l).trans ((congrArg₂ (· * ·) (h.dh2 l) ((pay7_id _ 0 l).trans (h.gate2 l))).trans (EReal.coe_mul _ _).symm)

end Cert.MidBlock

end
-- ==== Proof.MidState.lean ====
/-
  What each grid point of the middle step leaves, in terms of the blocks it reads.
-/
module

public import proofs.«01_k».proof.Proof.MidRow

@[expose] public section

set_option maxRecDepth 16384

noncomputable section

namespace Cert.MidBlock

open Cert.RowMath Cert.RowFfn Cert.RowMid Cert.RowStore Cert.MidKernelIdeal Cert.MidKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)
variable (t : Fin cfg0.N)

/-- The blocks point `t` reads and the weights, by their types. -/
abbrev bMixed : FVec Ideal S512x1024 .bf16 := iblk m c 0 t
abbrev bX : FVec Ideal S512x1024 .f32 := iblk m c 1 t
abbrev bTarget : FVec Ideal S512x1024 .f32 := iblk m c 2 t
abbrev bVec : FVec Ideal S8x1024 .f32 := iblk m c 3 t
abbrev wWo : FVec Ideal S1024x1024 .bf16 := V m c main_v1
abbrev wW1 : FVec Ideal S8x1024x512 .bf16 := V m c main_v7
abbrev wW2 : FVec Ideal S4096x1024 .bf16 := V m c main_v3

/-- After every point the scratch buffer of the output weights holds them. -/
theorem scr_wo (n : ℕ) (hn : n < cfg0.N) : (outsAt0 m c n hn).2.2.2.2.2.2.2.2.1 = wWo m c := by
  have hN := lt_of_lt_of_eq hn (show cfg0.N = 16 from N_0)
  have first : ∀ t : Fin cfg0.N, t.val % 16 = 0 → (outsAt0 m c t.val t.isLt).2.2.2.2.2.2.2.2.1 = wWo m c := fun t h0 => by
    rw [outsAt0_A m c t h0 h0]
    dsimp only
    exact scr_wo_A (F := Ideal) ..
  have later : ∀ t : Fin cfg0.N, ¬t.val % 16 = 0 → (outsAt0 m c t.val t.isLt).2.2.2.2.2.2.2.2.1
      = (outsAt0 m c (t.val - 1) (Nat.lt_of_le_of_lt (Nat.sub_le _ _) t.isLt)).2.2.2.2.2.2.2.2.1 := fun t h0 => by
    rw [outsAt0_B m c t h0 h0]
    dsimp only
    rfl
  induction n with
  | zero => exact first ⟨0, hn⟩ rfl
  | succ n ih => exact (later ⟨n + 1, hn⟩ (show ¬ (n + 1) % 16 = 0 by omega)).trans (ih (by omega) (by omega))

/-- After every point the scratch buffer of the first weights holds them. -/
theorem scr_w1 (n : ℕ) (hn : n < cfg0.N) : (outsAt0 m c n hn).2.2.2.2.2.2.2.2.2.1 = wW1 m c := by
  have hN := lt_of_lt_of_eq hn (show cfg0.N = 16 from N_0)
  have first : ∀ t : Fin cfg0.N, t.val % 16 = 0 → (outsAt0 m c t.val t.isLt).2.2.2.2.2.2.2.2.2.1 = wW1 m c := fun t h0 => by
    rw [outsAt0_A m c t h0 h0]
    dsimp only
    exact scr_w1_A (F := Ideal) ..
  have later : ∀ t : Fin cfg0.N, ¬t.val % 16 = 0 → (outsAt0 m c t.val t.isLt).2.2.2.2.2.2.2.2.2.1
      = (outsAt0 m c (t.val - 1) (Nat.lt_of_le_of_lt (Nat.sub_le _ _) t.isLt)).2.2.2.2.2.2.2.2.2.1 := fun t h0 => by
    rw [outsAt0_B m c t h0 h0]
    dsimp only
    rfl
  induction n with
  | zero => exact first ⟨0, hn⟩ rfl
  | succ n ih => exact (later ⟨n + 1, hn⟩ (show ¬ (n + 1) % 16 = 0 by omega)).trans (ih (by omega) (by omega))

/-- After every point the scratch buffer of the second weights holds them. -/
theorem scr_w2 (n : ℕ) (hn : n < cfg0.N) : (outsAt0 m c n hn).2.2.2.2.2.2.2.2.2.2 = wW2 m c := by
  have hN := lt_of_lt_of_eq hn (show cfg0.N = 16 from N_0)
  have first : ∀ t : Fin cfg0.N, t.val % 16 = 0 → (outsAt0 m c t.val t.isLt).2.2.2.2.2.2.2.2.2.2 = wW2 m c := fun t h0 => by
    rw [outsAt0_A m c t h0 h0]
    dsimp only
    exact scr_w2_A (F := Ideal) ..
  have later : ∀ t : Fin cfg0.N, ¬t.val % 16 = 0 → (outsAt0 m c t.val t.isLt).2.2.2.2.2.2.2.2.2.2
      = (outsAt0 m c (t.val - 1) (Nat.lt_of_le_of_lt (Nat.sub_le _ _) t.isLt)).2.2.2.2.2.2.2.2.2.2 := fun t h0 => by
    rw [outsAt0_B m c t h0 h0]
    dsimp only
    rfl
  induction n with
  | zero => exact first ⟨0, hn⟩ rfl
  | succ n ih => exact (later ⟨n + 1, hn⟩ (show ¬ (n + 1) % 16 = 0 by omega)).trans (ih (by omega) (by omega))

set_option maxHeartbeats 1000000 in  -- a tuple of eleven long terms is read at one of them
theorem m_later (h0 : ¬t.val % 16 = 0) : (outsAt0 m c t.val t.isLt).1 = k0_pay13 (F := Ideal) (bMixed m c t) (outsAt0 m c (t.val - 1) (Nat.lt_of_le_of_lt (Nat.sub_le _ _) t.isLt)).2.2.2.2.2.2.2.2.1 := by
  rw [outsAt0_B m c t h0 h0]
  dsimp only
  exact m_B (F := Ideal) ..

set_option maxHeartbeats 1000000 in
/-- Every point leaves the mixer's output through the output weights. -/
theorem m_all : (outsAt0 m c t.val t.isLt).1 = k0_pay13 (F := Ideal) (bMixed m c t) (wWo m c) := by
  by_cases h0 : t.val % 16 = 0
  · rw [outsAt0_A m c t h0 h0]
    dsimp only
    exact m_A (F := Ideal) ..
  · rw [m_later m c t h0, scr_wo]

set_option maxHeartbeats 1000000 in
theorem x1n_later (h0 : ¬t.val % 16 = 0) : (outsAt0 m c t.val t.isLt).2.1 = x1nBlk (F := Ideal) (bMixed m c t) (bX m c t) (bVec m c t) (outsAt0 m c (t.val - 1) (Nat.lt_of_le_of_lt (Nat.sub_le _ _) t.isLt)).2.2.2.2.2.2.2.2.1 := by
  rw [outsAt0_B m c t h0 h0]
  dsimp only
  exact x1n_B (F := Ideal) ..

set_option maxHeartbeats 1000000 in
/-- Every point leaves the first residual sum, normalised. -/
theorem x1n_all : (outsAt0 m c t.val t.isLt).2.1 = x1nBlk (F := Ideal) (bMixed m c t) (bX m c t) (bVec m c t) (wWo m c) := by
  by_cases h0 : t.val % 16 = 0
  · rw [outsAt0_A m c t h0 h0]
    dsimp only
    exact x1n_A (F := Ideal) ..
  · rw [x1n_later m c t h0, scr_wo]

set_option maxHeartbeats 1000000 in
theorem inv_later (h0 : ¬t.val % 16 = 0) : (outsAt0 m c t.val t.isLt).2.2.1 = invBlk (F := Ideal) (bMixed m c t) (bX m c t) (bVec m c t) (outsAt0 m c (t.val - 1) (Nat.lt_of_le_of_lt (Nat.sub_le _ _) t.isLt)).2.2.2.2.2.2.2.2.1 := by
  rw [outsAt0_B m c t h0 h0]
  dsimp only
  exact inv_B (F := Ideal) ..

set_option maxHeartbeats 1000000 in
/-- Every point leaves one over the first residual sum's standard deviation. -/
theorem inv_all : (outsAt0 m c t.val t.isLt).2.2.1 = invBlk (F := Ideal) (bMixed m c t) (bX m c t) (bVec m c t) (wWo m c) := by
  by_cases h0 : t.val % 16 = 0
  · rw [outsAt0_A m c t h0 h0]
    dsimp only
    exact inv_A (F := Ideal) ..
  · rw [inv_later m c t h0, scr_wo]

set_option maxHeartbeats 1000000 in
theorem u2_later (h0 : ¬t.val % 16 = 0) : (outsAt0 m c t.val t.isLt).2.2.2.1 = u2Blk (F := Ideal) (bMixed m c t) (bX m c t) (bVec m c t) (outsAt0 m c (t.val - 1) (Nat.lt_of_le_of_lt (Nat.sub_le _ _) t.isLt)).2.2.2.2.2.2.2.2.1 := by
  rw [outsAt0_B m c t h0 h0]
  dsimp only
  exact u2_B (F := Ideal) ..

set_option maxHeartbeats 1000000 in
/-- Every point leaves the network's input. -/
theorem u2_all : (outsAt0 m c t.val t.isLt).2.2.2.1 = u2Blk (F := Ideal) (bMixed m c t) (bX m c t) (bVec m c t) (wWo m c) := by
  by_cases h0 : t.val % 16 = 0
  · rw [outsAt0_A m c t h0 h0]
    dsimp only
    exact u2_A (F := Ideal) ..
  · rw [u2_later m c t h0, scr_wo]

set_option maxHeartbeats 1000000 in
theorem df_later (h0 : ¬t.val % 16 = 0) : (outsAt0 m c t.val t.isLt).2.2.2.2.2.1 = dfBlk (F := Ideal) (bMixed m c t) (bX m c t) (bTarget m c t) (bVec m c t) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0 h0]
  dsimp only
  exact df_B (F := Ideal) ..

set_option maxHeartbeats 1000000 in
/-- Every point leaves the cotangent of the network's output. -/
theorem df_all : (outsAt0 m c t.val t.isLt).2.2.2.2.2.1 = dfBlk (F := Ideal) (bMixed m c t) (bX m c t) (bTarget m c t) (bVec m c t) (wWo m c) (wW1 m c) (wW2 m c) := by
  by_cases h0 : t.val % 16 = 0
  · rw [outsAt0_A m c t h0 h0]
    dsimp only
    exact df_A (F := Ideal) ..
  · rw [df_later m c t h0, scr_wo, scr_w1, scr_w2]

set_option maxHeartbeats 1000000 in
theorem dh2_later (h0 : ¬t.val % 16 = 0) : (outsAt0 m c t.val t.isLt).2.2.2.2.2.2.1 = dh2Blk (F := Ideal) (bMixed m c t) (bX m c t) (bTarget m c t) (bVec m c t) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0 h0]
  dsimp only
  exact dh2_B (F := Ideal) ..

set_option maxHeartbeats 1000000 in
/-- Every point leaves the cotangent of the second residual sum. -/
theorem dh2_all : (outsAt0 m c t.val t.isLt).2.2.2.2.2.2.1 = dh2Blk (F := Ideal) (bMixed m c t) (bX m c t) (bTarget m c t) (bVec m c t) (wWo m c) (wW1 m c) (wW2 m c) := by
  by_cases h0 : t.val % 16 = 0
  · rw [outsAt0_A m c t h0 h0]
    dsimp only
    exact dh2_A (F := Ideal) ..
  · rw [dh2_later m c t h0, scr_wo, scr_w1, scr_w2]

set_option maxHeartbeats 1000000 in
theorem a_later (h0 : ¬t.val % 16 = 0) (r : Fin 512) (j : Fin 4096) :
    @Eq EReal ((outsAt0 m c t.val t.isLt).2.2.2.2.1 (ix2 r j)) (aVal (u2Blk (F := Ideal) (bMixed m c t) (bX m c t) (bVec m c t) (outsAt0 m c (t.val - 1) (Nat.lt_of_le_of_lt (Nat.sub_le _ _) t.isLt)).2.2.2.2.2.2.2.2.1) (outsAt0 m c (t.val - 1) (Nat.lt_of_le_of_lt (Nat.sub_le _ _) t.isLt)).2.2.2.2.2.2.2.2.2.1 r j) := by
  rw [outsAt0_B m c t h0 h0]
  dsimp only
  exact a_B ..

set_option maxHeartbeats 1000000 in
/-- Every point leaves the hidden values. -/
theorem a_all (r : Fin 512) (j : Fin 4096) :
    @Eq EReal ((outsAt0 m c t.val t.isLt).2.2.2.2.1 (ix2 r j)) (aVal (u2Blk (F := Ideal) (bMixed m c t) (bX m c t) (bVec m c t) (wWo m c)) (wW1 m c) r j) := by
  by_cases h0 : t.val % 16 = 0
  · rw [outsAt0_A m c t h0 h0]
    dsimp only
    exact a_A ..
  · rw [a_later m c t h0, scr_wo, scr_w1]

/-- The rows of sums once the rows of block `t` are added to those of `z`. -/
abbrev bAcc (z : FVec Ideal S8x1024 .f32) (r : Fin 8) (l : Fin 1024) : EReal :=
  accBlk (F := Ideal) (bMixed m c t) (bX m c t) (bTarget m c t) (bVec m c t) (wWo m c) (wW1 m c) (wW2 m c) z r l

set_option maxHeartbeats 1000000 in
theorem acc_first (h0 : t.val % 16 = 0) (r : Fin 8) (l : Fin 1024) :
    @Eq EReal ((outsAt0 m c t.val t.isLt).2.2.2.2.2.2.2.1 (ix2 r l)) (bAcc m c t (k0_pay3 (F := Ideal)) r l) := by
  rw [outsAt0_A m c t h0 h0]
  dsimp only
  exact acc_A (F := Ideal) ..

set_option maxHeartbeats 1000000 in
theorem acc_later (h0 : ¬t.val % 16 = 0) (r : Fin 8) (l : Fin 1024) :
    @Eq EReal ((outsAt0 m c t.val t.isLt).2.2.2.2.2.2.2.1 (ix2 r l))
      (bAcc m c t (outsAt0 m c (t.val - 1) (Nat.lt_of_le_of_lt (Nat.sub_le _ _) t.isLt)).2.2.2.2.2.2.2.1 r l) := by
  rw [outsAt0_B m c t h0 h0]
  dsimp only
  refine (acc_B (F := Ideal) ..).trans ?_
  rw [scr_wo, scr_w1, scr_w2]

end Cert.MidBlock

end
-- ==== Proof.MidArray.lean ====
/-
  The arrays the middle step reads, as the host lays them out.
-/
module

public import proofs.«01_k».proof.Proof.MidRow
public import proofs.«01_k».proof.Proof.InRef

@[expose] public section

set_option maxRecDepth 16384

noncomputable section

namespace Cert.MidBlock

open Cert.RowMath Cert.RowFfn Cert.RowMid Cert.RowStore Cert.MidKernelIdeal Cert.MidKernelIdeal.Gen Idealize.ShloMosaic Idealize.ShloMosaic.TcCoe Idealize.SL.Sem
open Cert.InRef (Mat)

variable (m : (ℓ : Loc nD τ sig) → Buf (Elt Ideal) ℓ) (c : Dev nD)

abbrev Vec1 := FVec Ideal S1x1024 .f32
abbrev argMixed : Mat := m ((c : Thread nD τ).loc main_arg0)
abbrev argX : Mat := m ((c : Thread nD τ).loc main_arg1)
abbrev argTarget : Mat := m ((c : Thread nD τ).loc main_arg2)
abbrev argGate : Vec1 := m ((c : Thread nD τ).loc main_arg3)
abbrev argScale : Vec1 := m ((c : Thread nD τ).loc main_arg4)
abbrev argShift : Vec1 := m ((c : Thread nD τ).loc main_arg5)
abbrev argGate2 : Vec1 := m ((c : Thread nD τ).loc main_arg6)
abbrev argWo : FVec Ideal S1x1024x1024 .f32 := m ((c : Thread nD τ).loc main_arg7)
abbrev argLw : Vec1 := m ((c : Thread nD τ).loc main_arg8)
abbrev argLb : Vec1 := m ((c : Thread nD τ).loc main_arg9)
abbrev argW1 : FVec Ideal S1x1024x4096 .f32 := m ((c : Thread nD τ).loc main_arg10)
abbrev argW2 : FVec Ideal S1x4096x1024 .f32 := m ((c : Thread nD τ).loc main_arg11)
abbrev argLw2 : Vec1 := m ((c : Thread nD τ).loc main_arg12)
abbrev argLb2 : Vec1 := m ((c : Thread nD τ).loc main_arg13)

section
variable (x : Mat)
theorem sq_rows (n : Fin 8192) (l : Fin 1024) : shapeCast S8192x1024 x shapeCasts_S1x8192x1024_S8192x1024 (ix2 n l) = x (ix3 0 n l) := by pointwise
theorem sq_rows_bf (n : Fin 8192) (l : Fin 1024) :
    truncf (F := Ideal) .bf16 (shapeCast S8192x1024 x shapeCasts_S1x8192x1024_S8192x1024) bitsLt_bf16_f32 (ix2 n l) = x (ix3 0 n l) := by pointwise
theorem sq_wo (x : FVec Ideal S1x1024x1024 .f32) (k l : Fin 1024) :
    truncf (F := Ideal) .bf16 (shapeCast S1024x1024 x shapeCasts_S1x1024x1024_S1024x1024) bitsLt_bf16_f32 (ix2 k l) = x (ix3 0 k l) := by pointwise
theorem sq_w2 (x : FVec Ideal S1x4096x1024 .f32) (j : Fin 4096) (l : Fin 1024) :
    truncf (F := Ideal) .bf16 (shapeCast S4096x1024 x shapeCasts_S1x4096x1024_S4096x1024) bitsLt_bf16_f32 (ix2 j l) = x (ix3 0 j l) := by pointwise
/-- The first weights slab by slab: slab `s` holds columns `512 s` on. -/
def slabs (x : FVec Ideal S1x1024x4096 .f32) : FVec Ideal S8x1024x512 .bf16 :=
  truncf (F := Ideal) .bf16 (transpose S8x1024x512 [1, 0, 2] (shapeCast S1024x8x512 (shapeCast S1024x4096 x shapeCasts_S1x1024x4096_S1024x4096)
    shapeCasts_S1024x4096_S1024x8x512) transposes_S1024x8x512_S8x1024x512_1_0_2) bitsLt_bf16_f32
theorem slabs_apply (x : FVec Ideal S1x1024x4096 .f32) (s : Fin 8) (k : Fin 1024) (j : Fin 512) :
    slabs x (ix3 s k j) = x (ix3 0 k ⟨512 * s.val + j.val, by omega⟩) := by
  pointwise [slabs]
  exact congrArg (fun z => x (ix3 0 k z)) (Fin.ext (by show s.val * 512 + j.val = 512 * s.val + j.val; omega))
/-- The vectors of the call as rows of one array. -/
def vecs (g s t g2 w b w2 b2 : Vec1) : FVec Ideal S8x1024 .f32 := concatenate S8x1024 0
  [⟨S1x1024, (g : (⟨S1x1024, .f32⟩ : BufTy).Contents (Elt Ideal))⟩,
   ⟨S1x1024, ((addf (broadcastInDim S1x1024 ![] bcast_S_S1x1024 (constant (F := Ideal) S_ .f32 0x3F800000#32)) s) : (⟨S1x1024, .f32⟩ : BufTy).Contents (Elt Ideal))⟩,
   ⟨S1x1024, (t : (⟨S1x1024, .f32⟩ : BufTy).Contents (Elt Ideal))⟩,
   ⟨S1x1024, (g2 : (⟨S1x1024, .f32⟩ : BufTy).Contents (Elt Ideal))⟩,
   ⟨S1x1024, (w : (⟨S1x1024, .f32⟩ : BufTy).Contents (Elt Ideal))⟩,
   ⟨S1x1024, (b : (⟨S1x1024, .f32⟩ : BufTy).Contents (Elt Ideal))⟩,
   ⟨S1x1024, (w2 : (⟨S1x1024, .f32⟩ : BufTy).Contents (Elt Ideal))⟩,
   ⟨S1x1024, (b2 : (⟨S1x1024, .f32⟩ : BufTy).Contents (Elt Ideal))⟩] concatenates_S1x1024_S1x1024_S1x1024_S1x1024_S1x1024_S1x1024_S1x1024_S1x1024_S8x1024_d0
variable (g s t g2 w b w2 b2 : Vec1) (l : Fin 1024)
theorem vecs_0 : vecs g s t g2 w b w2 b2 (ix2 0 l) = g (ix2 0 l) := by pointwise [vecs]
theorem vecs_1 : vecs g s t g2 w b w2 b2 (ix2 1 l) = 1 + s (ix2 0 l) := by pointwise [vecs]
theorem vecs_2 : vecs g s t g2 w b w2 b2 (ix2 2 l) = t (ix2 0 l) := by pointwise [vecs]
theorem vecs_3 : vecs g s t g2 w b w2 b2 (ix2 3 l) = g2 (ix2 0 l) := by pointwise [vecs]
theorem vecs_4 : vecs g s t g2 w b w2 b2 (ix2 4 l) = w (ix2 0 l) := by pointwise [vecs]
theorem vecs_5 : vecs g s t g2 w b w2 b2 (ix2 5 l) = b (ix2 0 l) := by pointwise [vecs]
theorem vecs_6 : vecs g s t g2 w b w2 b2 (ix2 6 l) = w2 (ix2 0 l) := by pointwise [vecs]
theorem vecs_7 : vecs g s t g2 w b w2 b2 (ix2 7 l) = b2 (ix2 0 l) := by pointwise [vecs]
end

/-- The arrays as the host's operations leave them. -/
structure Host : Prop where
  mixed : @Eq (FVec Ideal S8192x1024 .bf16) (V m c main_v12)
    (truncf (F := Ideal) .bf16 (shapeCast S8192x1024 (argMixed m c) shapeCasts_S1x8192x1024_S8192x1024) bitsLt_bf16_f32)
  x : @Eq (FVec Ideal S8192x1024 .f32) (V m c main_v13)
    (shapeCast S8192x1024 (argX m c) shapeCasts_S1x8192x1024_S8192x1024)
  target : @Eq (FVec Ideal S8192x1024 .f32) (V m c main_v14)
    (shapeCast S8192x1024 (argTarget m c) shapeCasts_S1x8192x1024_S8192x1024)
  vec : @Eq (FVec Ideal S8x1024 .f32) (V m c main_v10)
    (vecs (argGate m c) (argScale m c) (argShift m c) (argGate2 m c) (argLw m c) (argLb m c) (argLw2 m c) (argLb2 m c))
  wo : @Eq (FVec Ideal S1024x1024 .bf16) (V m c main_v1)
    (truncf (F := Ideal) .bf16 (shapeCast S1024x1024 (argWo m c) shapeCasts_S1x1024x1024_S1024x1024) bitsLt_bf16_f32)
  w2 : @Eq (FVec Ideal S4096x1024 .bf16) (V m c main_v3)
    (truncf (F := Ideal) .bf16 (shapeCast S4096x1024 (argW2 m c) shapeCasts_S1x4096x1024_S4096x1024) bitsLt_bf16_f32)
  w1 : @Eq (FVec Ideal S8x1024x512 .bf16) (V m c main_v7)
    (slabs (argW1 m c))
theorem host : Host m c := by
  constructor <;>
  · show StableHlo.after _ _ _ = _
    simp only [hostOps0, List.flatten_cons, List.flatten_nil, List.append_nil, List.cons_append,
      List.nil_append, StableHlo.after_cons, StableHlo.after_nil]
    after_results_simp
    try rfl

end Cert.MidBlock

end
-- ==== Proof.MidSum.lean ====
/-
  The blocks of the middle step over the reals, and its sums over the points.
-/
module

public import proofs.«01_k».proof.Proof.MidState
public import proofs.«01_k».proof.Proof.MidArray
public import proofs.«01_k».proof.Proof.HostFfn

@[expose] public section

set_option maxRecDepth 16384

noncomputable section

namespace Cert.MidBlock

open Cert.RowMath Cert.RowFfn Cert.RowMid Cert.RowStore Cert.MidKernelIdeal Cert.MidKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of block `t`. -/
abbrev rowAt (t : Fin cfg0.N) (r : Fin 512) : Fin 8192 := at_ t.val (lt_of_lt_of_eq t.isLt (show cfg0.N = 16 from N_0)) r

/-- One device's arguments are these reals. -/
structure Of (q : Mid) : Prop where
  net : Cert.HostFfn.Of q.toNet (argMixed m c) (argX m c) (argGate m c) (argScale m c) (argShift m c) (argWo m c) (argLw m c) (argLb m c) (argW1 m c) (argW2 m c)
  target : ∀ n l, argTarget m c (ix3 0 n l) = (q.target n l : EReal)
  gate2 : ∀ l, argGate2 m c (ix2 0 l) = (q.gate2 l : EReal)
  lw : ∀ l, argLw2 m c (ix2 0 l) = (q.lw l : EReal)
  lb : ∀ l, argLb2 m c (ix2 0 l) = (q.lb l : EReal)

variable {q : Mid} (h : Of m c q) (t : Fin cfg0.N)

theorem idx0 : win0_0.index t 0 = t.val ∧ win0_0.index t 1 = 0 := (by decide +kernel : ∀ t : Fin grid0.N, win0_0.index t 0 = t.val ∧ win0_0.index t 1 = 0) t
theorem blk0 (r : Fin 512) (k : Fin 1024) : bMixed m c t (ix2 r k) = V m c main_v12 (ix2 (rowAt t r) k) := by
  unfold bMixed iblk
  rw [View.read_apply]
  show V m c main_v12 _ = V m c main_v12 _
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega
theorem idx1 : win0_1.index t 0 = t.val ∧ win0_1.index t 1 = 0 := (by decide +kernel : ∀ t : Fin grid0.N, win0_1.index t 0 = t.val ∧ win0_1.index t 1 = 0) t
theorem blk1 (r : Fin 512) (k : Fin 1024) : bX m c t (ix2 r k) = V m c main_v13 (ix2 (rowAt t r) k) := by
  unfold bX iblk
  rw [View.read_apply]
  show V m c main_v13 _ = V m c main_v13 _
  congr 1
  funext a
  apply Fin.ext
  match a with
  | ⟨0, _⟩ => show win0_1.index t 0 * 512 + 1 * r.val = 512 * t.val + r.val; rw [(idx1 t).1]; omega
  | ⟨1, _⟩ => show win0_1.index t 1 * 1024 + 1 * k.val = k.val; rw [(idx1 t).2]; omega
theorem idx2 : win0_2.index t 0 = t.val ∧ win0_2.index t 1 = 0 := (by decide +kernel : ∀ t : Fin grid0.N, win0_2.index t 0 = t.val ∧ win0_2.index t 1 = 0) t
theorem blk2 (r : Fin 512) (k : Fin 1024) : bTarget m c t (ix2 r k) = V m c main_v14 (ix2 (rowAt t r) k) := by
  unfold bTarget iblk
  rw [View.read_apply]
  show V m c main_v14 _ = V m c main_v14 _
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * k.val = k.val; rw [(idx2 t).2]; omega
theorem idx3 : win0_3.index t 0 = 0 ∧ win0_3.index t 1 = 0 := (by decide +kernel : ∀ t : Fin grid0.N, win0_3.index t 0 = 0 ∧ win0_3.index t 1 = 0) t
theorem blk3 (r : Fin 8) (k : Fin 1024) : bVec m c t (ix2 r k)
    = vecs (argGate m c) (argScale m c) (argShift m c) (argGate2 m c) (argLw m c) (argLb m c) (argLw2 m c) (argLb2 m c) (ix2 r k) := by
  rw [← (host m c).vec]
  unfold bVec iblk
  rw [View.read_apply]
  show V m c main_v10 _ = V m c main_v10 _
  congr 1
  funext a
  apply Fin.ext
  match a with
  | ⟨0, _⟩ => show win0_3.index t 0 * 8 + 1 * r.val = r.val; rw [(idx3 t).1]; omega
  | ⟨1, _⟩ => show win0_3.index t 1 * 1024 + 1 * k.val = k.val; rw [(idx3 t).2]; omega

include h

/-- Every row of every block. -/
theorem rowOf (r : Fin 512) : RowOf q (rowAt t r) r (bMixed m c t) (bX m c t) (bTarget m c t) (bVec m c t) (wWo m c) (wW1 m c) (wW2 m c) where
  mixed l := by rw [blk0, (host m c).mixed, sq_rows_bf, h.net.mixed]
  x l := by rw [blk1, (host m c).x, sq_rows, h.net.x]
  target l := by rw [blk2, (host m c).target, sq_rows, h.target]
  gate l := by rw [blk3, vecs_0, h.net.gate]
  scale l := by rw [blk3, vecs_1, h.net.scale, EReal.coe_add, EReal.coe_one]
  shift l := by rw [blk3, vecs_2, h.net.shift]
  gate2 l := by rw [blk3, vecs_3, h.gate2]
  w l := by rw [blk3, vecs_4, h.net.w]
  b l := by rw [blk3, vecs_5, h.net.b]
  lw l := by rw [blk3, vecs_6, h.lw]
  lb l := by rw [blk3, vecs_7, h.lb]
  wo k l := by unfold wWo; rw [(host m c).wo, sq_wo, h.net.wo]
  w1 s k j := by unfold wW1; rw [(host m c).w1, slabs_apply, h.net.w1]
  w2 j l := by unfold wW2; rw [(host m c).w2, sq_w2, h.net.w2]

/-- A block adds its rows to the sums. -/
theorem acc_step (z : FVec Ideal S8x1024 .f32) (l : Fin 1024) (hz : ∀ r, z (ix2 r l) = (q.sums (512 * t.val) r l : EReal)) (r : Fin 8) :
    bAcc m c t z r l = (q.sums (512 * t.val + 512) r l : EReal) := by
  have ht := lt_of_lt_of_eq t.isLt (show cfg0.N = 16 from N_0)
  have hr := fun r => rowOf m c h t r
  have step : ∀ (f : Fin 8192 → ℝ) (o : Fin 8) (e : q.sums (512 * t.val) o l = below f (512 * t.val)),
      @HAdd.hAdd EReal EReal EReal _ (z (ix2 o l)) (∑ r : Fin 512, ((f (rowAt t r) : ℝ) : EReal)) = (below f (512 * t.val + 512) : EReal) := fun f o e => by
    rw [below_add f t.val ht, EReal.coe_add, sum_coe, hz o, e]
  unfold bAcc accBlk Mid.sums
  split_ifs with h3 h2 h1 h0
  · rw [acc3_apply]
    simp only [(hr _).e, word_half, ← EReal.coe_mul, sum_coe, Finset.sum_mul]
    refine Eq.trans ?_ (step (fun n => q.e n l * q.e n l * half) 3 rfl)
    rw [sum_coe]
    rfl
  · rw [acc2_apply]
    simp only [(hr _).dh2, (hr _).f, ← EReal.coe_mul]
    exact step (fun n => q.dh2 n l * q.f n l) 2 rfl
  · rw [acc1_apply]
    simp only [(hr _).dy]
    exact step (fun n => q.dy n l) 1 rfl
  · rw [acc0_apply]
    simp only [(hr _).dy, (hr _).y, ← EReal.coe_mul]
    exact step (fun n => q.dy n l * q.y n l) 0 rfl
  · rw [hz]
    unfold Mid.sums
    rw [if_neg h3, if_neg h2, if_neg h1, if_neg h0]

/-- What the points up to `n` leave of the sums. -/
theorem acc_all (n : ℕ) (hn : n < cfg0.N) (l : Fin 1024) (r : Fin 8) :
    @Eq EReal ((outsAt0 m c n hn).2.2.2.2.2.2.2.1 (ix2 r l)) (q.sums (512 * n + 512) r l : EReal) := by
  have hN := lt_of_lt_of_eq hn (show cfg0.N = 16 from N_0)
  induction n generalizing r with
  | zero =>
    refine (acc_first m c ⟨0, hn⟩ rfl r l).trans (acc_step m c h ⟨0, hn⟩ _ l (fun r => ?_) r)
    have h3 : k0_pay3 (F := Ideal) (ix2 r l) = (0 : EReal) := by pointwise [k0_pay3]
    rw [h3]
    unfold Mid.sums
    simp only [Nat.mul_zero, below_zero, ite_self, EReal.coe_zero]
  | succ n ih =>
    exact (acc_later m c ⟨n + 1, hn⟩ (show ¬ (n + 1) % 16 = 0 by omega) r l).trans
      (acc_step m c h ⟨n + 1, hn⟩ _ l (fun r => ih (by omega) r (by omega)) r)

end Cert.MidBlock

end
-- ==== Proof.MidFinal.lean ====
/-
  The result arrays of the middle step after the run.
-/
module

public import proofs.«01_k».proof.Proof.MidSum

@[expose] public section

set_option maxRecDepth 16384

noncomputable section

namespace Cert.MidBlock

open Cert.RowMath Cert.RowFfn Cert.RowMid Cert.RowStore Cert.MidKernelIdeal Cert.MidKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)
variable {q : Mid} (h : Of m c q)

/-- Every row of an array lies in one block. -/
theorem rowAt_surj (n : Fin 8192) : ∃ (t : Fin cfg0.N) (r : Fin 512), n = rowAt t r := by
  have hN : cfg0.N = 16 := N_0
  exact ⟨⟨n.val / 512, by omega⟩, ⟨n.val % 512, by omega⟩, Fin.ext (show n.val = 512 * (n.val / 512) + n.val % 512 by omega)⟩

theorem idx4 (t : Fin cfg0.N) : win0_4.index t 0 = t.val ∧ win0_4.index t 1 = 0 := (by decide +kernel : ∀ t : Fin grid0.N, win0_4.index t 0 = t.val ∧ win0_4.index t 1 = 0) t
/-- Row `r` of block `t` of result 0 is what point `t` left in that row. -/
theorem m_block (t : Fin cfg0.N) (r : Fin 512) (l : Fin 1024) :
    @Eq EReal ((dats m 0 c).arrAt 4 cfg0.N (ix2 (rowAt t r) l)) ((outsAt0 m c t.val t.isLt).1 (ix2 r l)) := by
  have e := congrFun ((dats m 0 c).read_blk_arrAt_eq_flushed 4 (fun _ _ _ _ hne => (cfg0.win 4).disjoint_blk fun h => hne (Cert.RowStore.inj_of win0_4.index 0 (fun t => (idx4 t).1) h)) cfg0.N t t.isLt (flush0_4 t)) (ix2 r l)
  rw [show (dats m 0 c).flushed 4 t = (cfg0.win 4).cut (grid0.coords t) ((dats m 0 c).after 4 t) from rfl, after0_4] at e
  refine Eq.trans ?_ e
  rw [View.read_apply]
  refine congrArg ((dats m 0 c).arrAt 4 cfg0.N) (funext fun a => Fin.ext ?_)
  match a with
  | ⟨0, _⟩ => show 512 * t.val + r.val = win0_4.index t 0 * 512 + 1 * r.val; rw [(idx4 t).1]; omega
  | ⟨1, _⟩ => show l.val = win0_4.index t 1 * 1024 + 1 * l.val; rw [(idx4 t).2]; omega

theorem idx5 (t : Fin cfg0.N) : win0_5.index t 0 = t.val ∧ win0_5.index t 1 = 0 := (by decide +kernel : ∀ t : Fin grid0.N, win0_5.index t 0 = t.val ∧ win0_5.index t 1 = 0) t
/-- Row `r` of block `t` of result 1 is what point `t` left in that row. -/
theorem x1n_block (t : Fin cfg0.N) (r : Fin 512) (l : Fin 1024) :
    @Eq EReal ((dats m 0 c).arrAt 5 cfg0.N (ix2 (rowAt t r) l)) ((outsAt0 m c t.val t.isLt).2.1 (ix2 r l)) := by
  have e := congrFun ((dats m 0 c).read_blk_arrAt_eq_flushed 5 (fun _ _ _ _ hne => (cfg0.win 5).disjoint_blk fun h => hne (Cert.RowStore.inj_of win0_5.index 0 (fun t => (idx5 t).1) h)) cfg0.N t t.isLt (flush0_5 t)) (ix2 r l)
  rw [show (dats m 0 c).flushed 5 t = (cfg0.win 5).cut (grid0.coords t) ((dats m 0 c).after 5 t) from rfl, after0_5] at e
  refine Eq.trans ?_ e
  rw [View.read_apply]
  refine congrArg ((dats m 0 c).arrAt 5 cfg0.N) (funext fun a => Fin.ext ?_)
  match a with
  | ⟨0, _⟩ => show 512 * t.val + r.val = win0_5.index t 0 * 512 + 1 * r.val; rw [(idx5 t).1]; omega
  | ⟨1, _⟩ => show l.val = win0_5.index t 1 * 1024 + 1 * l.val; rw [(idx5 t).2]; omega

theorem idx6 (t : Fin cfg0.N) : win0_6.index t 0 = t.val ∧ win0_6.index t 1 = 0 := (by decide +kernel : ∀ t : Fin grid0.N, win0_6.index t 0 = t.val ∧ win0_6.index t 1 = 0) t
/-- Row `r` of block `t` of result 2 is what point `t` left in that row. -/
theorem inv_block (t : Fin cfg0.N) (r : Fin 512) (l : Fin 1) :
    @Eq EReal ((dats m 0 c).arrAt 6 cfg0.N (ix2 (rowAt t r) l)) ((outsAt0 m c t.val t.isLt).2.2.1 (ix2 r l)) := by
  have e := congrFun ((dats m 0 c).read_blk_arrAt_eq_flushed 6 (fun _ _ _ _ hne => (cfg0.win 6).disjoint_blk fun h => hne (Cert.RowStore.inj_of win0_6.index 0 (fun t => (idx6 t).1) h)) cfg0.N t t.isLt (flush0_6 t)) (ix2 r l)
  rw [show (dats m 0 c).flushed 6 t = (cfg0.win 6).cut (grid0.coords t) ((dats m 0 c).after 6 t) from rfl, after0_6] at e
  refine Eq.trans ?_ e
  rw [View.read_apply]
  refine congrArg ((dats m 0 c).arrAt 6 cfg0.N) (funext fun a => Fin.ext ?_)
  match a with
  | ⟨0, _⟩ => show 512 * t.val + r.val = win0_6.index t 0 * 512 + 1 * r.val; rw [(idx6 t).1]; omega
  | ⟨1, _⟩ => show l.val = win0_6.index t 1 * 1 + 1 * l.val; rw [(idx6 t).2]; omega

theorem idx7 (t : Fin cfg0.N) : win0_7.index t 0 = t.val ∧ win0_7.index t 1 = 0 := (by decide +kernel : ∀ t : Fin grid0.N, win0_7.index t 0 = t.val ∧ win0_7.index t 1 = 0) t
/-- Row `r` of block `t` of result 3 is what point `t` left in that row. -/
theorem u2_block (t : Fin cfg0.N) (r : Fin 512) (l : Fin 1024) :
    @Eq EReal ((dats m 0 c).arrAt 7 cfg0.N (ix2 (rowAt t r) l)) ((outsAt0 m c t.val t.isLt).2.2.2.1 (ix2 r l)) := by
  have e := congrFun ((dats m 0 c).read_blk_arrAt_eq_flushed 7 (fun _ _ _ _ hne => (cfg0.win 7).disjoint_blk fun h => hne (Cert.RowStore.inj_of win0_7.index 0 (fun t => (idx7 t).1) h)) cfg0.N t t.isLt (flush0_7 t)) (ix2 r l)
  rw [show (dats m 0 c).flushed 7 t = (cfg0.win 7).cut (grid0.coords t) ((dats m 0 c).after 7 t) from rfl, after0_7] at e
  refine Eq.trans ?_ e
  rw [View.read_apply]
  refine congrArg ((dats m 0 c).arrAt 7 cfg0.N) (funext fun a => Fin.ext ?_)
  match a with
  | ⟨0, _⟩ => show 512 * t.val + r.val = win0_7.index t 0 * 512 + 1 * r.val; rw [(idx7 t).1]; omega
  | ⟨1, _⟩ => show l.val = win0_7.index t 1 * 1024 + 1 * l.val; rw [(idx7 t).2]; omega

theorem idx8 (t : Fin cfg0.N) : win0_8.index t 0 = t.val ∧ win0_8.index t 1 = 0 := (by decide +kernel : ∀ t : Fin grid0.N, win0_8.index t 0 = t.val ∧ win0_8.index t 1 = 0) t
/-- Row `r` of block `t` of result 4 is what point `t` left in that row. -/
theorem a_block (t : Fin cfg0.N) (r : Fin 512) (l : Fin 4096) :
    @Eq EReal ((dats m 0 c).arrAt 8 cfg0.N (ix2 (rowAt t r) l)) ((outsAt0 m c t.val t.isLt).2.2.2.2.1 (ix2 r l)) := by
  have e := congrFun ((dats m 0 c).read_blk_arrAt_eq_flushed 8 (fun _ _ _ _ hne => (cfg0.win 8).disjoint_blk fun h => hne (Cert.RowStore.inj_of win0_8.index 0 (fun t => (idx8 t).1) h)) cfg0.N t t.isLt (flush0_8 t)) (ix2 r l)
  rw [show (dats m 0 c).flushed 8 t = (cfg0.win 8).cut (grid0.coords t) ((dats m 0 c).after 8 t) from rfl, after0_8] at e
  refine Eq.trans ?_ e
  rw [View.read_apply]
  refine congrArg ((dats m 0 c).arrAt 8 cfg0.N) (funext fun a => Fin.ext ?_)
  match a with
  | ⟨0, _⟩ => show 512 * t.val + r.val = win0_8.index t 0 * 512 + 1 * r.val; rw [(idx8 t).1]; omega
  | ⟨1, _⟩ => show l.val = win0_8.index t 1 * 4096 + 1 * l.val; rw [(idx8 t).2]; omega

theorem idx9 (t : Fin cfg0.N) : win0_9.index t 0 = t.val ∧ win0_9.index t 1 = 0 := (by decide +kernel : ∀ t : Fin grid0.N, win0_9.index t 0 = t.val ∧ win0_9.index t 1 = 0) t
/-- Row `r` of block `t` of result 5 is what point `t` left in that row. -/
theorem df_block (t : Fin cfg0.N) (r : Fin 512) (l : Fin 1024) :
    @Eq EReal ((dats m 0 c).arrAt 9 cfg0.N (ix2 (rowAt t r) l)) ((outsAt0 m c t.val t.isLt).2.2.2.2.2.1 (ix2 r l)) := by
  have e := congrFun ((dats m 0 c).read_blk_arrAt_eq_flushed 9 (fun _ _ _ _ hne => (cfg0.win 9).disjoint_blk fun h => hne (Cert.RowStore.inj_of win0_9.index 0 (fun t => (idx9 t).1) h)) cfg0.N t t.isLt (flush0_9 t)) (ix2 r l)
  rw [show (dats m 0 c).flushed 9 t = (cfg0.win 9).cut (grid0.coords t) ((dats m 0 c).after 9 t) from rfl, after0_9] at e
  refine Eq.trans ?_ e
  rw [View.read_apply]
  refine congrArg ((dats m 0 c).arrAt 9 cfg0.N) (funext fun a => Fin.ext ?_)
  match a with
  | ⟨0, _⟩ => show 512 * t.val + r.val = win0_9.index t 0 * 512 + 1 * r.val; rw [(idx9 t).1]; omega
  | ⟨1, _⟩ => show l.val = win0_9.index t 1 * 1024 + 1 * l.val; rw [(idx9 t).2]; omega

theorem idx10 (t : Fin cfg0.N) : win0_10.index t 0 = t.val ∧ win0_10.index t 1 = 0 := (by decide +kernel : ∀ t : Fin grid0.N, win0_10.index t 0 = t.val ∧ win0_10.index t 1 = 0) t
/-- Row `r` of block `t` of result 6 is what point `t` left in that row. -/
theorem dh2_block (t : Fin cfg0.N) (r : Fin 512) (l : Fin 1024) :
    @Eq EReal ((dats m 0 c).arrAt 10 cfg0.N (ix2 (rowAt t r) l)) ((outsAt0 m c t.val t.isLt).2.2.2.2.2.2.1 (ix2 r l)) := by
  have e := congrFun ((dats m 0 c).read_blk_arrAt_eq_flushed 10 (fun _ _ _ _ hne => (cfg0.win 10).disjoint_blk fun h => hne (Cert.RowStore.inj_of win0_10.index 0 (fun t => (idx10 t).1) h)) cfg0.N t t.isLt (flush0_10 t)) (ix2 r l)
  rw [show (dats m 0 c).flushed 10 t = (cfg0.win 10).cut (grid0.coords t) ((dats m 0 c).after 10 t) from rfl, after0_10] at e
  refine Eq.trans ?_ e
  rw [View.read_apply]
  refine congrArg ((dats m 0 c).arrAt 10 cfg0.N) (funext fun a => Fin.ext ?_)
  match a with
  | ⟨0, _⟩ => show 512 * t.val + r.val = win0_10.index t 0 * 512 + 1 * r.val; rw [(idx10 t).1]; omega
  | ⟨1, _⟩ => show l.val = win0_10.index t 1 * 1024 + 1 * l.val; rw [(idx10 t).2]; omega

theorem trunc_m (x : FVec Ideal S512x1024 .bf16) (w : FVec Ideal S1024x1024 .bf16) (r : Fin 512) (l : Fin 1024) :
    k0_pay13 (F := Ideal) x w (ix2 r l) = k0_pay12 (F := Ideal) x w (ix2 r l) := by pointwise [k0_pay13]

include h

theorem final_m (n : Fin 8192) (l : Fin 1024) : @Eq EReal ((dats m 0 c).arrAt 4 cfg0.N (ix2 n l)) ((q.toNet.m n l : ℝ) : EReal) := by
  obtain ⟨t, r, rfl⟩ := rowAt_surj n
  exact (m_block m c t r l).trans ((congrFun (m_all m c t) (ix2 r l)).trans ((trunc_m _ _ r l).trans ((rowOf m c h t r).m l)))

theorem final_x1n (n : Fin 8192) (l : Fin 1024) : @Eq EReal ((dats m 0 c).arrAt 5 cfg0.N (ix2 n l)) ((q.toNet.x1n n l : ℝ) : EReal) := by
  obtain ⟨t, r, rfl⟩ := rowAt_surj n
  exact (x1n_block m c t r l).trans ((congrFun (x1n_all m c t) (ix2 r l)).trans ((rowOf m c h t r).x1n l))

theorem final_inv (n : Fin 8192) : @Eq EReal ((dats m 0 c).arrAt 6 cfg0.N (ix2 n 0)) ((rstd (q.toNet.h1 n) : ℝ) : EReal) := by
  obtain ⟨t, r, rfl⟩ := rowAt_surj n
  exact (inv_block m c t r 0).trans ((congrFun (inv_all m c t) (ix2 r 0)).trans (rowOf m c h t r).inv)

theorem final_u2 (n : Fin 8192) (l : Fin 1024) : @Eq EReal ((dats m 0 c).arrAt 7 cfg0.N (ix2 n l)) ((q.toNet.u2 n l : ℝ) : EReal) := by
  obtain ⟨t, r, rfl⟩ := rowAt_surj n
  exact (u2_block m c t r l).trans ((congrFun (u2_all m c t) (ix2 r l)).trans ((rowOf m c h t r).u2 l))

theorem final_a (n : Fin 8192) (l : Fin 4096) : @Eq EReal ((dats m 0 c).arrAt 8 cfg0.N (ix2 n l)) ((q.toNet.a n l : ℝ) : EReal) := by
  obtain ⟨t, r, rfl⟩ := rowAt_surj n
  exact (a_block m c t r l).trans ((a_all m c t r l).trans ((rowOf m c h t r).a l))

theorem final_df (n : Fin 8192) (l : Fin 1024) : @Eq EReal ((dats m 0 c).arrAt 9 cfg0.N (ix2 n l)) ((q.df n l : ℝ) : EReal) := by
  obtain ⟨t, r, rfl⟩ := rowAt_surj n
  exact (df_block m c t r l).trans ((congrFun (df_all m c t) (ix2 r l)).trans ((rowOf m c h t r).df l))

theorem final_dh2 (n : Fin 8192) (l : Fin 1024) : @Eq EReal ((dats m 0 c).arrAt 10 cfg0.N (ix2 n l)) ((q.dh2 n l : ℝ) : EReal) := by
  obtain ⟨t, r, rfl⟩ := rowAt_surj n
  exact (dh2_block m c t r l).trans ((congrFun (dh2_all m c t) (ix2 r l)).trans ((rowOf m c h t r).dh2 l))

omit h in
theorem idx11 (t : Fin cfg0.N) : win0_11.index t 0 = 0 ∧ win0_11.index t 1 = 0 :=
  (by decide +kernel : ∀ t : Fin grid0.N, win0_11.index t 0 = 0 ∧ win0_11.index t 1 = 0) t

/-- The four sums over all rows, and four rows of zeros. -/
theorem final_acc (r : Fin 8) (l : Fin 1024) : @Eq EReal ((dats m 0 c).arrAt 11 cfg0.N (ix2 r l)) (q.sums 8192 r l : EReal) := by
  have hN : cfg0.N = 16 := N_0
  have h15 : 15 < cfg0.N := by omega
  have e := congrFun ((dats m 0 c).read_blk_arrAt_eq_flushed 11 (fun t t' h h' hne => absurd (Fin.ext (by
      have := (flush0_11 t).mp h; have := (flush0_11 t').mp h'; have := t.isLt; have := t'.isLt; omega)) hne)
    cfg0.N ⟨15, h15⟩ h15 ((flush0_11 ⟨15, h15⟩).mpr rfl)) (ix2 r l)
  have f : (dats m 0 c).flushed 11 ⟨15, h15⟩ = (cfg0.win 11).cut (grid0.coords ⟨15, h15⟩) ((outsAt0 m c 15 h15).2.2.2.2.2.2.2.1) := by
    show (cfg0.win 11).cut (grid0.coords ⟨15, h15⟩) ((dats m 0 c).after 11 ⟨15, h15⟩) = _
    rw [after0_11]
  rw [f] at e
  refine Eq.trans ?_ (e.trans (acc_all m c h 15 h15 l r))
  rw [View.read_apply]
  show (dats m 0 c).arrAt 11 cfg0.N _ = (dats m 0 c).arrAt 11 cfg0.N _
  congr 1
  funext a
  apply Fin.ext
  match a with
  | ⟨0, _⟩ => show r.val = win0_11.index ⟨15, h15⟩ 0 * 8 + 1 * r.val; rw [(idx11 ⟨15, h15⟩).1]; omega
  | ⟨1, _⟩ => show l.val = win0_11.index ⟨15, h15⟩ 1 * 1024 + 1 * l.val; rw [(idx11 ⟨15, h15⟩).2]; omega

omit h
variable (ρ : Dev nD → PrngReg)

/-- The run, its results by the data of its last point and its arguments as launched. -/
theorem run_blocks : θ_run defs (onTc (τ := τ) (main (F := Ideal))) ⟨m, fun _ => 0, ρ⟩ fun r => ∀ c : Dev nD,
      r.2.mem ((c : Thread nD τ).loc main_v15_0) = (dats m 0 c).arrAt 4 cfg0.N
      ∧ r.2.mem ((c : Thread nD τ).loc main_v15_1) = (dats m 0 c).arrAt 5 cfg0.N
      ∧ r.2.mem ((c : Thread nD τ).loc main_v15_2) = (dats m 0 c).arrAt 6 cfg0.N
      ∧ r.2.mem ((c : Thread nD τ).loc main_v15_3) = (dats m 0 c).arrAt 7 cfg0.N
      ∧ r.2.mem ((c : Thread nD τ).loc main_v15_4) = (dats m 0 c).arrAt 8 cfg0.N
      ∧ r.2.mem ((c : Thread nD τ).loc main_v15_5) = (dats m 0 c).arrAt 9 cfg0.N
      ∧ r.2.mem ((c : Thread nD τ).loc main_v15_6) = (dats m 0 c).arrAt 10 cfg0.N
      ∧ r.2.mem ((c : Thread nD τ).loc main_v15_7) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1 4, (h c).1 5, (h c).1 6, (h c).1 7, (h c).1 8, (h c).1 9, (h c).1 10, (h c).1 11,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩)
    (run_main m ρ)

end Cert.MidBlock

end
-- ==== Proof.MidRef.lean ====
/-
  The reference of the middle step, the loss and its gradient, read element by element over the reals.
-/
module

public import proofs.«01_k».proof.Proof.Gen.MidReferenceIdeal.Run
public import proofs.«01_k».proof.Proof.FfnRef
public import proofs.«01_k».proof.Proof.RowMid

@[expose] public section

set_option maxRecDepth 16384

noncomputable section

namespace Cert.MidRef

open Cert.RowMath Cert.RowFfn Cert.RowMid Cert.HostFfn Cert.FfnRef Cert.MidReferenceIdeal Cert.MidReferenceIdeal.Gen
open Idealize.ShloMosaic Idealize.ShloMosaic.TcCoe Idealize.SL.Sem
open Cert.InRef (Mat Col invs colSum colSum_apply)
open Cert.HostFfn (Vec1 Wide)

variable (x e y p : Mat) (s w b : Vec1) (w2 : FVec Ideal S1x4096x1024 .f32) (z : Wide)

def outNet (z : Wide) (w2 : FVec Ideal S1x4096x1024 .f32) : Mat :=
  Host.dotGeneral dot_S1x8192x4096_S4096x1024_S1x8192x1024_2_0_01_1_n_n none (mulf (maximumf z wideZeros) (maximumf z wideZeros))
    (shapeCast _ w2 shapeCasts_S1x4096x1024_S4096x1024)
/-- The cotangent of the layer's output: the derivative of half the mean square of `e` in each row. -/
def dyMat (e : Mat) : Mat :=
  mulf (broadcastInDim S1x8192x1024 ![0, 1] bcast_S1x8192_S1x8192x1024_0_1 (Host.divf
      (broadcastInDim S1x8192 ![] bcast_S_S1x8192 (mulf (constant (F := Ideal) S_ .f32 0x3F000000#32) (constant (F := Ideal) S_ .f32 0x3F800000#32)))
      (broadcastInDim S1x8192 ![] bcast_S_S1x8192 (constant (F := Ideal) S_ .f32 0x44800000#32))))
    (mulf (broadcastInDim S1x8192x1024 ![] bcast_S_S1x8192x1024 (constant (F := Ideal) S_ .f32 0x40000000#32)) e)
/-- What each column contributes to the loss. -/
def parts (e : Mat) : Vec1 :=
  mulf (broadcastInDim S1x1024 ![] bcast_S_S1x1024 (constant (F := Ideal) S_ .f32 0x3A000000#32))
    (Host.reduceAdd (mulf e e) (constant (F := Ideal) S_ .f32 0x00000000#32) reducesTo_S1x8192x1024_S1x1024_d1 h_S_)
def column (x : Col) : FVec Ideal S8192x1 .f32 := shapeCast _ x shapeCasts_S1x8192x1_S8192x1
def stack4 (r0 r1 r2 r3 : Vec1) : FVec Ideal S8x1024 .f32 := concatenate S8x1024 0
  [⟨S1x1024, (r0 : (⟨S1x1024, .f32⟩ : BufTy).Contents (Elt Ideal))⟩,
   ⟨S1x1024, (r1 : (⟨S1x1024, .f32⟩ : BufTy).Contents (Elt Ideal))⟩,
   ⟨S1x1024, (r2 : (⟨S1x1024, .f32⟩ : BufTy).Contents (Elt Ideal))⟩,
   ⟨S1x1024, (r3 : (⟨S1x1024, .f32⟩ : BufTy).Contents (Elt Ideal))⟩,
   ⟨S4x1024, ((broadcastInDim S4x1024 ![] bcast_S_S4x1024 (constant (F := Ideal) S_ .f32 0x00000000#32)) : (⟨S4x1024, .f32⟩ : BufTy).Contents (Elt Ideal))⟩]
  concatenates_S1x1024_S1x1024_S1x1024_S1x1024_S4x1024_S8x1024_d0

theorem word_frac : Ideal.ofBits .f32 0x3F000000#32 = ((1 / 2 : ℝ) : EReal) := by
  simp [Ideal.ofBits, Ideal.ieee, -EReal.coe_mul, -EReal.coe_div]; norm_num

variable (n : Fin 8192) (l : Fin 1024)

theorem outNet_apply : outNet z w2 (ix3 0 n l) = ∑ j : Fin 4096, max (z (ix3 0 n j)) (wideZeros (ix3 0 n j)) * max (z (ix3 0 n j)) (wideZeros (ix3 0 n j)) * w2 (ix3 0 j l) := by
  pointwise [outNet]
theorem dyMat_apply (u : ℝ) (he : e (ix3 0 n l) = (u : EReal)) : dyMat e (ix3 0 n l) = ((u * unit : ℝ) : EReal) := by
  pointwise [dyMat]
  rw [he, word_frac, word_1024, word_two]
  try rw [mul_one]
  rw [div_coe_coe _ (by norm_num), ← EReal.coe_mul, ← EReal.coe_mul]
  congr 1
  unfold unit
  ring
theorem parts_apply : parts e (ix2 0 l) = (half : EReal) * ∑ n : Fin 8192, e (ix3 0 n l) * e (ix3 0 n l) := by
  pointwise [parts]
  rw [word_half]
theorem column_apply (x : Col) : column x (ix2 n 0) = x (ix3 0 n 0) := by pointwise [column]
theorem stack4_apply (r0 r1 r2 r3 : Vec1) (r : Fin 8) (l : Fin 1024) : stack4 r0 r1 r2 r3 (ix2 r l)
    = if r.val = 3 then r3 (ix2 0 l) else if r.val = 2 then r2 (ix2 0 l)
      else if r.val = 1 then r1 (ix2 0 l) else if r.val = 0 then r0 (ix2 0 l) else 0 := by
  fin_cases r
  · show stack4 r0 r1 r2 r3 (ix2 0 l) = r0 (ix2 0 l)
    pointwise [stack4]
  · show stack4 r0 r1 r2 r3 (ix2 1 l) = r1 (ix2 0 l)
    pointwise [stack4]
  · show stack4 r0 r1 r2 r3 (ix2 2 l) = r2 (ix2 0 l)
    pointwise [stack4]
  · show stack4 r0 r1 r2 r3 (ix2 3 l) = r3 (ix2 0 l)
    pointwise [stack4]
  · show stack4 r0 r1 r2 r3 (ix2 4 l) = 0
    pointwise [stack4]
  · show stack4 r0 r1 r2 r3 (ix2 5 l) = 0
    pointwise [stack4]
  · show stack4 r0 r1 r2 r3 (ix2 6 l) = 0
    pointwise [stack4]
  · show stack4 r0 r1 r2 r3 (ix2 7 l) = 0
    pointwise [stack4]

variable (m : (ℓ : Loc nD τ sig) → Buf (Elt Ideal) ℓ) (c : Dev nD)

abbrev argMixed : Mat := m ((c.tc : Thread nD τ).loc main_arg0)
abbrev argX : Mat := m ((c.tc : Thread nD τ).loc main_arg1)
abbrev argTarget : Mat := m ((c.tc : Thread nD τ).loc main_arg2)
abbrev argGate : Vec1 := m ((c.tc : Thread nD τ).loc main_arg3)
abbrev argScale : Vec1 := m ((c.tc : Thread nD τ).loc main_arg4)
abbrev argShift : Vec1 := m ((c.tc : Thread nD τ).loc main_arg5)
abbrev argGate2 : Vec1 := m ((c.tc : Thread nD τ).loc main_arg6)
abbrev argWo : FVec Ideal S1x1024x1024 .f32 := m ((c.tc : Thread nD τ).loc main_arg7)
abbrev argLw : Vec1 := m ((c.tc : Thread nD τ).loc main_arg8)
abbrev argLb : Vec1 := m ((c.tc : Thread nD τ).loc main_arg9)
abbrev argW1 : FVec Ideal S1x1024x4096 .f32 := m ((c.tc : Thread nD τ).loc main_arg10)
abbrev argW2 : FVec Ideal S1x4096x1024 .f32 := m ((c.tc : Thread nD τ).loc main_arg11)
abbrev argLw2 : Vec1 := m ((c.tc : Thread nD τ).loc main_arg12)
abbrev argLb2 : Vec1 := m ((c.tc : Thread nD τ).loc main_arg13)

def rM : Mat := proj (argMixed m c) (argWo m c)
def rH1 : Mat := resid (argX m c) (argGate m c) (rM m c)
def rX1 : Mat := affine (norm (rH1 m c)) (argLw m c) (argLb m c)
def rU2 : Mat := modul (norm (rX1 m c)) (argScale m c) (argShift m c)
def rA : Wide := hidden (rU2 m c) (argW1 m c)
def rF : Mat := outNet (rA m c) (argW2 m c)
def rH2 : Mat := resid (rX1 m c) (argGate2 m c) (rF m c)
def rE : Mat := subf (affine (norm (rH2 m c)) (argLw2 m c) (argLb2 m c)) (argTarget m c)
def rDy : Mat := dyMat (rE m c)
def rDh2 : Mat := back (rH2 m c) (mulf (rDy m c) (wrows (argLw2 m c)))

/-- The reference's run, its results by the names above. -/
theorem run (ρ : Dev nD → PrngReg) :
    θ_run defs (onTc (τ := τ) (main (F := Ideal))) ⟨m, fun _ => 0, ρ⟩ fun r => ∀ c : Dev nD,
      r.2.mem ((c.tc : Thread nD τ).loc main_v202) = FfnRef.half (rM m c)
      ∧ r.2.mem ((c.tc : Thread nD τ).loc main_v203) = full (norm (rH1 m c))
      ∧ r.2.mem ((c.tc : Thread nD τ).loc main_v204) = column (invs (rH1 m c))
      ∧ r.2.mem ((c.tc : Thread nD τ).loc main_v206) = FfnRef.half (rU2 m c)
      ∧ r.2.mem ((c.tc : Thread nD τ).loc main_v208) = halfWide (rA m c)
      ∧ r.2.mem ((c.tc : Thread nD τ).loc main_v210) = FfnRef.half (mulf (rows (argGate2 m c)) (rDh2 m c))
      ∧ r.2.mem ((c.tc : Thread nD τ).loc main_v211) = full (rDh2 m c)
      ∧ r.2.mem ((c.tc : Thread nD τ).loc main_v200) = stack4 (colSum (mulf (norm (rH2 m c)) (rDy m c))) (colSum (rDy m c))
        (colSum (mulf (rDh2 m c) (rF m c))) (parts (rE m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  Cert.MidReferenceIdeal.Value.run (F := Ideal) m ρ

/-! ## The values over the reals -/

/-- One device's arguments are these reals. -/
structure Of (q : Mid) : Prop where
  net : Cert.HostFfn.Of q.toNet (argMixed m c) (argX m c) (argGate m c) (argScale m c) (argShift m c) (argWo m c) (argLw m c) (argLb m c) (argW1 m c) (argW2 m c)
  target : ∀ n l, argTarget m c (ix3 0 n l) = (q.target n l : EReal)
  gate2 : ∀ l, argGate2 m c (ix2 0 l) = (q.gate2 l : EReal)
  lw : ∀ l, argLw2 m c (ix2 0 l) = (q.lw l : EReal)
  lb : ∀ l, argLb2 m c (ix2 0 l) = (q.lb l : EReal)

variable {q : Mid} (h : Of m c q)

include h
theorem rM_apply : rM m c (ix3 0 n l) = (q.toNet.m n l : EReal) := h.net.m n l
theorem rH1_apply : rH1 m c (ix3 0 n l) = (q.toNet.h1 n l : EReal) := h.net.h1 n l _ fun k => rM_apply n k m c h
theorem rX1n_apply : norm (rH1 m c) (ix3 0 n l) = (q.toNet.x1n n l : EReal) := norm_apply _ n l (q.toNet.h1 n) fun k => rH1_apply n k m c h
theorem rX1_apply : rX1 m c (ix3 0 n l) = (q.toNet.x1 n l : EReal) := h.net.x1 n l _ fun k => rX1n_apply n k m c h
theorem rU2_apply : rU2 m c (ix3 0 n l) = (q.toNet.u2 n l : EReal) :=
  h.net.u2 n l _ fun k => norm_apply _ n k (q.toNet.x1 n) fun k => rX1_apply n k m c h
theorem rA_apply (j : Fin 4096) : rA m c (ix3 0 n j) = (q.toNet.a n j : EReal) := h.net.a n j _ fun k => rU2_apply n k m c h
theorem rF_apply : rF m c (ix3 0 n l) = (q.f n l : EReal) := by
  unfold rF
  rw [outNet_apply]
  simp only [rA_apply n m c h, wideZeros_apply, max_coe, h.net.w2, ← EReal.coe_mul, sum_coe]
  rfl
theorem rH2_apply : rH2 m c (ix3 0 n l) = (q.h2 n l : EReal) := by
  unfold rH2
  pointwise [resid]
  rw [alphas_apply, rows_apply, rX1_apply n l m c h, h.gate2, rF_apply n l m c h, ← EReal.coe_mul, ← EReal.coe_mul, ← EReal.coe_add]
  rfl
theorem rY_apply : norm (rH2 m c) (ix3 0 n l) = (q.y n l : EReal) := norm_apply _ n l (q.h2 n) fun k => rH2_apply n k m c h
theorem rE_apply : rE m c (ix3 0 n l) = (q.e n l : EReal) := by
  unfold rE
  pointwise [affine]
  rw [rY_apply n l m c h, wrows_apply, wrows_apply, h.lw, h.lb, h.target, ← EReal.coe_mul, ← EReal.coe_add, ← EReal.coe_sub]
  rfl
theorem rDy_apply : rDy m c (ix3 0 n l) = (q.dy n l : EReal) := dyMat_apply _ n l _ (rE_apply n l m c h)
theorem rDh2_apply : rDh2 m c (ix3 0 n l) = (q.dh2 n l : EReal) :=
  back_apply _ _ (q.h2 n) (fun k => q.dy n k * q.lw k) n (fun k => rH2_apply n k m c h) (fun k => by
    pointwise
    rw [rDy_apply n k m c h, wrows_apply, h.lw, ← EReal.coe_mul]) l

/-- The results, row by row, and the sums. -/
theorem res_m : FfnRef.half (rM m c) (ix2 n l) = (q.toNet.m n l : EReal) := (half_apply _ n l).trans (rM_apply n l m c h)
theorem res_x1n : full (norm (rH1 m c)) (ix2 n l) = (q.toNet.x1n n l : EReal) := (full_apply _ n l).trans (rX1n_apply n l m c h)
theorem res_inv : column (invs (rH1 m c)) (ix2 n 0) = (rstd (q.toNet.h1 n) : EReal) :=
  (column_apply n _).trans (Cert.InRef.invs_apply _ (q.toNet.h1 n) n fun k => rH1_apply n k m c h)
theorem res_u2 : FfnRef.half (rU2 m c) (ix2 n l) = (q.toNet.u2 n l : EReal) := (half_apply _ n l).trans (rU2_apply n l m c h)
theorem res_a (j : Fin 4096) : halfWide (rA m c) (ix2 n j) = (q.toNet.a n j : EReal) := (halfWide_apply _ n j).trans (rA_apply n m c h j)
theorem res_df : FfnRef.half (mulf (rows (argGate2 m c)) (rDh2 m c)) (ix2 n l) = (q.df n l : EReal) := by
  rw [half_apply]
  pointwise
  rw [rows_apply, h.gate2, rDh2_apply n l m c h, ← EReal.coe_mul, mul_comm]
  rfl
theorem res_dh2 : full (rDh2 m c) (ix2 n l) = (q.dh2 n l : EReal) := (full_apply _ n l).trans (rDh2_apply n l m c h)
theorem res_acc (r : Fin 8) : stack4 (colSum (mulf (norm (rH2 m c)) (rDy m c))) (colSum (rDy m c))
    (colSum (mulf (rDh2 m c) (rF m c))) (parts (rE m c)) (ix2 r l) = (q.sums 8192 r l : EReal) := by
  rw [stack4_apply, parts_apply]
  simp only [colSum_apply]
  unfold Mid.sums
  simp only [below_all]
  split_ifs
  · rw [← Finset.sum_mul, mul_comm, EReal.coe_mul]
    refine congrArg (· * _) ((Finset.sum_congr rfl fun n _ => ?_).trans (sum_coe _))
    rw [rE_apply n l m c h, ← EReal.coe_mul]
  · refine (Finset.sum_congr rfl fun n _ => ?_).trans (sum_coe _)
    pointwise
    rw [rDh2_apply n l m c h, rF_apply n l m c h, ← EReal.coe_mul]
  · exact (Finset.sum_congr rfl fun n _ => rDy_apply n l m c h).trans (sum_coe _)
  · refine (Finset.sum_congr rfl fun n _ => ?_).trans (sum_coe _)
    pointwise
    rw [rDy_apply n l m c h, rY_apply n l m c h, ← EReal.coe_mul, mul_comm]
  · rfl

end Cert.MidRef

end
-- ==== Proof.ClaimMid.lean ====
/-
  Over the reals the kernel of the middle step, the loss and its gradient, and its reference give the same eight results.
-/
module

public import proofs.«01_k».proof.Defs
public import proofs.«01_k».proof.Proof.MidFinal
public import proofs.«01_k».proof.Proof.MidRef
public import proofs.«01_k».proof.Proof.Finite

@[expose] public section

set_option maxRecDepth 16384

noncomputable section

namespace Cert.ClaimMid

open Idealize.ShloMosaic Idealize.SL.Sem Cert.RowMath Cert.RowFfn Cert.RowMid Cert.Finite

instance facts : Cert.Pre_finite_mid.Facts := by constructor <;> decide

theorem frame_reference : Cert.quiescent_MidReferenceIdeal := fun m ρ _ =>
  (θ_run Cert.MidReferenceIdeal.defs _ _).mono
    (fun r h => ⟨fun c => (h c).2.2.2.2.2.2.2.2, sem_eq_zero_of_no_sems (by decide) r.2⟩) (Cert.MidReferenceIdeal.Value.run (F := Ideal) m ρ)

section
open Cert.MidBlock
/-- The real numbers behind a device's arguments, under the precondition. -/
theorem reals (m : (ℓ : Loc Cert.MidKernelIdeal.nD Cert.MidKernelIdeal.τ Cert.MidKernelIdeal.sig) → Buf (Elt Ideal) ℓ)
    (h : Cert.Pre_MidKernelIdeal_finite_mid m) (c : Dev Cert.MidKernelIdeal.nD) : ∃ q, Cert.MidBlock.Of m c q := by
  obtain ⟨h0, h1, h2, h3, h4, h5, h6, h7, h8, h9, h10, h11, h12, h13⟩ := h c
  refine ⟨⟨⟨fun n l => (argMixed m c (ix3 0 n l)).toReal,
    fun n l => (argX m c (ix3 0 n l)).toReal,
    fun l => (argGate m c (ix2 0 l)).toReal,
    fun l => (argScale m c (ix2 0 l)).toReal,
    fun l => (argShift m c (ix2 0 l)).toReal,
    fun k l => (argWo m c (ix3 0 k l)).toReal,
    fun l => (argLw m c (ix2 0 l)).toReal,
    fun l => (argLb m c (ix2 0 l)).toReal,
    fun k j => (argW1 m c (ix3 0 k j)).toReal,
    fun j l => (argW2 m c (ix3 0 j l)).toReal⟩,
    fun n l => (argTarget m c (ix3 0 n l)).toReal,
    fun l => (argGate2 m c (ix2 0 l)).toReal,
    fun l => (argLw2 m c (ix2 0 l)).toReal,
    fun l => (argLb2 m c (ix2 0 l)).toReal⟩,
    ⟨⟨?_, ?_, ?_, ?_, ?_, ?_, ?_, ?_, ?_, ?_⟩, ?_, ?_, ?_, ?_⟩⟩
  · exact fun n l => coe_of_finite _ (congrFun h0 (ix3 0 n l))
  · exact fun n l => coe_of_finite _ (congrFun h1 (ix3 0 n l))
  · exact fun l => coe_of_finite _ (congrFun h3 (ix2 0 l))
  · exact fun l => coe_of_finite _ (congrFun h4 (ix2 0 l))
  · exact fun l => coe_of_finite _ (congrFun h5 (ix2 0 l))
  · exact fun k l => coe_of_finite _ (congrFun h7 (ix3 0 k l))
  · exact fun l => coe_of_finite _ (congrFun h8 (ix2 0 l))
  · exact fun l => coe_of_finite _ (congrFun h9 (ix2 0 l))
  · exact fun k j => coe_of_finite _ (congrFun h10 (ix3 0 k j))
  · exact fun j l => coe_of_finite _ (congrFun h11 (ix3 0 j l))
  · exact fun n l => coe_of_finite _ (congrFun h2 (ix3 0 n l))
  · exact fun l => coe_of_finite _ (congrFun h6 (ix2 0 l))
  · exact fun l => coe_of_finite _ (congrFun h12 (ix2 0 l))
  · exact fun l => coe_of_finite _ (congrFun h13 (ix2 0 l))
end

set_option maxHeartbeats 4000000 in  -- eight results, each under the same fourteen argument equalities
theorem algebraic : Cert.algebraic_MidKernelIdeal_MidReferenceIdeal_pre_finite_mid := by
  intro m ρ m' ρ' hpre hagree
  refine ⟨_, _, _, _, _, _, _, _, Cert.MidBlock.run_blocks m ρ, ?_⟩
  refine (θ_run Cert.MidReferenceIdeal.defs _ _).mono (fun r h c => ?_) (Cert.MidRef.run m' ρ')
  obtain ⟨h0, h1, h2, h3, h4, h5, h6, h7, hargs⟩ := h c
  obtain ⟨q, hq⟩ := reals m hpre c
  have hr : Cert.MidRef.Of m' c q := by
    obtain ⟨e0, e1, e2, e3, e4, e5, e6, e7, e8, e9, e10, e11, e12, e13⟩ := hagree c
    exact ⟨⟨fun n l => (congrFun e0 _).trans (hq.net.mixed n l),
      fun n l => (congrFun e1 _).trans (hq.net.x n l),
      fun l => (congrFun e3 _).trans (hq.net.gate l),
      fun l => (congrFun e4 _).trans (hq.net.scale l),
      fun l => (congrFun e5 _).trans (hq.net.shift l),
      fun k l => (congrFun e7 _).trans (hq.net.wo k l),
      fun l => (congrFun e8 _).trans (hq.net.w l),
      fun l => (congrFun e9 _).trans (hq.net.b l),
      fun k j => (congrFun e10 _).trans (hq.net.w1 k j),
      fun j l => (congrFun e11 _).trans (hq.net.w2 j l)⟩,
      fun n l => (congrFun e2 _).trans (hq.target n l),
      fun l => (congrFun e6 _).trans (hq.gate2 l),
      fun l => (congrFun e12 _).trans (hq.lw l),
      fun l => (congrFun e13 _).trans (hq.lb l)⟩
  refine ⟨h0.trans ?_, h1.trans ?_, h2.trans ?_, h3.trans ?_, h4.trans ?_, h5.trans ?_, h6.trans ?_, h7.trans ?_, hargs⟩
  all_goals
    funext j
    revert j
  · show ∀ j : Cert.MidKernelIdeal.S8192x1024.Idx, _
    intro j
    idx_vars j
    exact (Cert.MidRef.res_m j0 j1 m' c hr).trans (Cert.MidBlock.final_m m c hq j0 j1).symm
  · show ∀ j : Cert.MidKernelIdeal.S8192x1024.Idx, _
    intro j
    idx_vars j
    exact (Cert.MidRef.res_x1n j0 j1 m' c hr).trans (Cert.MidBlock.final_x1n m c hq j0 j1).symm
  · show ∀ j : Cert.MidKernelIdeal.S8192x1.Idx, _
    intro j
    idx_vars j
    rw [Subsingleton.elim j1 0]
    exact (Cert.MidRef.res_inv j0 m' c hr).trans (Cert.MidBlock.final_inv m c hq j0).symm
  · show ∀ j : Cert.MidKernelIdeal.S8192x1024.Idx, _
    intro j
    idx_vars j
    exact (Cert.MidRef.res_u2 j0 j1 m' c hr).trans (Cert.MidBlock.final_u2 m c hq j0 j1).symm
  · show ∀ j : Cert.MidKernelIdeal.S8192x4096.Idx, _
    intro j
    idx_vars j
    exact (Cert.MidRef.res_a j0 m' c hr j1).trans (Cert.MidBlock.final_a m c hq j0 j1).symm
  · show ∀ j : Cert.MidKernelIdeal.S8192x1024.Idx, _
    intro j
    idx_vars j
    exact (Cert.MidRef.res_df j0 j1 m' c hr).trans (Cert.MidBlock.final_df m c hq j0 j1).symm
  · show ∀ j : Cert.MidKernelIdeal.S8192x1024.Idx, _
    intro j
    idx_vars j
    exact (Cert.MidRef.res_dh2 j0 j1 m' c hr).trans (Cert.MidBlock.final_dh2 m c hq j0 j1).symm
  · show ∀ j : Cert.MidKernelIdeal.S8x1024.Idx, _
    intro j
    idx_vars j
    exact (Cert.MidRef.res_acc j1 m' c hr j0).trans (Cert.MidBlock.final_acc m c hq j0 j1).symm

end Cert.ClaimMid

end
-- ==== Proof.MixBlock.lean ====
/-
  What one grid point of the mixer leaves in the rotated query and key blocks, in the block of carried
  states and in the scratch buffer that carries the state.
-/
module

public import proofs.«01_k».proof.Proof.Gen.MixKernelIdeal.Frame
public import proofs.«01_k».proof.Proof.RowStore
public import Idealize.ShloMosaic.Lib.Pointwise

@[expose] public section

set_option maxRecDepth 16384

noncomputable section

namespace Cert.MixBlock

open Cert.RowStore Cert.MixKernelIdeal Cert.MixKernelIdeal.Gen Idealize.ShloMosaic Idealize.ShloMosaic.TcCoe Idealize.SL.Sem

section
variable {F : FTy → Type} [FloatOps F]

/-- The 256 × 128 piece of a block whose corner is at `(o, p)`. -/
def cut (x : Vec F S512x512 .f32) (o p : ℕ) : Vec F S256x128 .f32 := fun y =>
  x (ix2 ⟨(o + (y 0).val) % 512, Nat.mod_lt _ (by norm_num)⟩ ⟨(p + (y 1).val) % 512, Nat.mod_lt _ (by norm_num)⟩)
/-- The 128 rows of a block from row `o` on. -/
def rows (x : Vec F S512x128 .f32) (o : ℕ) : Vec F S128x128 .f32 := fun y =>
  x (ix2 ⟨(o + (y 0).val) % 512, Nat.mod_lt _ (by norm_num)⟩ (y 1))
/-- Table `o` of four. -/
def tab4 (x : Vec F S4x256x128 .f32) (o : ℕ) : Vec F S1x256x128 .f32 := fun y =>
  x (ix3 ⟨o % 4, Nat.mod_lt _ (by norm_num)⟩ (y 1) (y 2))
/-- Table `o` of eight. -/
def tab8 (x : Vec F S8x256x128 .f32) (o : ℕ) : Vec F S1x256x128 .f32 := fun y =>
  x (ix3 ⟨o % 8, Nat.mod_lt _ (by norm_num)⟩ (y 1) (y 2))
/-- The 128 values from column `p` of the first row of slab `o`. -/
def lane (x : Vec F S2x8x256 .f32) (o p : ℕ) : Vec F S1x1x128 .f32 := fun y =>
  x (ix3 ⟨o % 2, Nat.mod_lt _ (by norm_num)⟩ 0 ⟨(p + (y 2).val) % 256, Nat.mod_lt _ (by norm_num)⟩)

theorem ld_cut (x : Vec F S512x512 .f32) (o p : ℕ) (inb : ∀ k : Fin 2, (![o, p] : Fin 2 → ℕ) k + (![256, 128] : Fin 2 → ℕ) k ≤ S512x512.size k) :
    View.ld (Val := Elt F) (S := S512x512) x (Rect.unit ![o, p] ![256, 128] inb) = cut x o p := by
  have h0 : o + 256 ≤ 512 := inb 0
  have h1 : p + 128 ≤ 512 := inb 1
  funext y
  have hy0 : (y 0).val < 256 := (y 0).isLt
  have hy1 : (y 1).val < 128 := (y 1).isLt
  unfold cut View.ld
  congr 1
  funext k
  apply Fin.ext
  match k with
  | ⟨0, _⟩ => show o + 1 * (y 0).val = (o + (y 0).val) % 512; omega
  | ⟨1, _⟩ => show p + 1 * (y 1).val = (p + (y 1).val) % 512; omega

theorem ld_rows (x : Vec F S512x128 .f32) (o : ℕ) (inb : ∀ k : Fin 2, (![o, 0] : Fin 2 → ℕ) k + (![128, 128] : Fin 2 → ℕ) k ≤ S512x128.size k) :
    View.ld (Val := Elt F) (S := S512x128) x (Rect.unit ![o, 0] ![128, 128] inb) = rows x o := by
  have h0 : o + 128 ≤ 512 := inb 0
  funext y
  have hy0 : (y 0).val < 128 := (y 0).isLt
  unfold rows View.ld
  congr 1
  funext k
  apply Fin.ext
  match k with
  | ⟨0, _⟩ => show o + 1 * (y 0).val = (o + (y 0).val) % 512; omega
  | ⟨1, _⟩ => show 0 + 1 * (y 1).val = (y 1).val; omega

theorem ld_tab4 (x : Vec F S4x256x128 .f32) (o : ℕ) (inb : ∀ k : Fin 3, (![o, 0, 0] : Fin 3 → ℕ) k + (![1, 256, 128] : Fin 3 → ℕ) k ≤ S4x256x128.size k) :
    View.ld (Val := Elt F) (S := S4x256x128) x (Rect.unit ![o, 0, 0] ![1, 256, 128] inb) = tab4 x o := by
  have h0 : o + 1 ≤ 4 := inb 0
  funext y
  have hy0 : (y 0).val < 1 := (y 0).isLt
  unfold tab4 View.ld
  congr 1
  funext k
  apply Fin.ext
  match k with
  | ⟨0, _⟩ => show o + 1 * (y 0).val = o % 4; omega
  | ⟨1, _⟩ => show 0 + 1 * (y 1).val = (y 1).val; omega
  | ⟨2, _⟩ => show 0 + 1 * (y 2).val = (y 2).val; omega

theorem ld_tab8 (x : Vec F S8x256x128 .f32) (o : ℕ) (inb : ∀ k : Fin 3, (![o, 0, 0] : Fin 3 → ℕ) k + (![1, 256, 128] : Fin 3 → ℕ) k ≤ S8x256x128.size k) :
    View.ld (Val := Elt F) (S := S8x256x128) x (Rect.unit ![o, 0, 0] ![1, 256, 128] inb) = tab8 x o := by
  have h0 : o + 1 ≤ 8 := inb 0
  funext y
  have hy0 : (y 0).val < 1 := (y 0).isLt
  unfold tab8 View.ld
  congr 1
  funext k
  apply Fin.ext
  match k with
  | ⟨0, _⟩ => show o + 1 * (y 0).val = o % 8; omega
  | ⟨1, _⟩ => show 0 + 1 * (y 1).val = (y 1).val; omega
  | ⟨2, _⟩ => show 0 + 1 * (y 2).val = (y 2).val; omega

theorem ld_lane (x : Vec F S2x8x256 .f32) (o p : ℕ) (inb : ∀ k : Fin 3, (![o, 0, p] : Fin 3 → ℕ) k + (![1, 1, 128] : Fin 3 → ℕ) k ≤ S2x8x256.size k) :
    View.ld (Val := Elt F) (S := S2x8x256) x (Rect.unit ![o, 0, p] ![1, 1, 128] inb) = lane x o p := by
  have h0 : o + 1 ≤ 2 := inb 0
  have h2 : p + 128 ≤ 256 := inb 2
  funext y
  have hy0 : (y 0).val < 1 := (y 0).isLt
  have hy1 : (y 1).val < 1 := (y 1).isLt
  have hy2 : (y 2).val < 128 := (y 2).isLt
  unfold lane View.ld
  congr 1
  funext k
  apply Fin.ext
  match k with
  | ⟨0, _⟩ => show o + 1 * (y 0).val = o % 2; omega
  | ⟨1, _⟩ => show 0 + 1 * (y 1).val = 0; omega
  | ⟨2, _⟩ => show p + 1 * (y 2).val = (p + (y 2).val) % 256; omega

/-- A load of 128 rows out of what a whole store left. -/
theorem fill_rows {sg : RefSig} {κ : Kind} {sp : Space} (v : View sg κ sp S512x128 .f32) (w : Vec F S512x128 .f32) (o : ℕ)
    (inb' : ∀ k : Fin 2, (![0, 0] : Fin 2 → ℕ) k + (![512, 128] : Fin 2 → ℕ) k ≤ S512x128.size k)
    (inb : ∀ k : Fin 2, (![o, 0] : Fin 2 → ℕ) k + (![128, 128] : Fin 2 → ℕ) k ≤ S512x128.size k) :
    v.readCov (Val := Elt F) [⟨Rect.unit ![0, 0] ![512, 128] inb', w⟩] (Rect.unit ![o, 0] ![128, 128] inb).toLoadRect = rows w o :=
  (readCov_whole (S := S512x128) v inb' w _).trans (ld_rows w o inb)

/-- A load of 128 rows past the store of others. -/
theorem skip_rows {sg : RefSig} {κ : Kind} {sp : Space} (v : View sg κ sp S512x128 .f32) (o p : ℕ) (h : o + 128 ≤ p ∨ p + 128 ≤ o)
    (inb' : ∀ k : Fin 2, (![p, 0] : Fin 2 → ℕ) k + (![128, 128] : Fin 2 → ℕ) k ≤ S512x128.size k)
    (inb : ∀ k : Fin 2, (![o, 0] : Fin 2 → ℕ) k + (![128, 128] : Fin 2 → ℕ) k ≤ S512x128.size k)
    (w : Vec F S128x128 .f32) (L : List (View.Piece (Elt F) S512x128 .f32)) :
    v.readCov (Val := Elt F) (⟨Rect.unit ![p, 0] ![128, 128] inb', w⟩ :: L) (Rect.unit ![o, 0] ![128, 128] inb).toLoadRect
      = v.readCov L (Rect.unit ![o, 0] ![128, 128] inb).toLoadRect :=
  View.readCov_cons_of_disjoint v ⟨Rect.unit (s := S512x128) ![p, 0] ![128, 128] inb', w⟩ L (Rect.unit (s := S512x128) ![o, 0] ![128, 128] inb).toLoadRect
    (Rect.unit_disjoint (inb := inb') (inb' := inb) 0 h.symm)

/-- A block laid out as tiles of 256 rows by heads of 128 columns. -/
def tiles {α : Type} (f : ℕ → ℕ → S256x128.Idx → α) : S512x512.Idx → α := fun y =>
  f ((y 0).val / 256) ((y 1).val / 128) (ix2 ⟨(y 0).val % 256, Nat.mod_lt _ (by norm_num)⟩ ⟨(y 1).val % 128, Nat.mod_lt _ (by norm_num)⟩)
/-- A block laid out as heads of 128 rows. -/
def heads {α : Type} (f : ℕ → S128x128.Idx → α) : S512x128.Idx → α := fun y =>
  f ((y 0).val / 128) (ix2 ⟨(y 0).val % 128, Nat.mod_lt _ (by norm_num)⟩ (y 1))
/-- Two such blocks. -/
def slabs {α : Type} (f : ℕ → ℕ → S128x128.Idx → α) : S2x512x128.Idx → α := fun y =>
  f (y 0).val ((y 1).val / 128) (ix2 ⟨(y 1).val % 128, Nat.mod_lt _ (by norm_num)⟩ (y 2))

theorem tiles_at {α : Type} (f : ℕ → ℕ → S256x128.Idx → α) (o p i h : ℕ) (ho : o = 256 * i) (hp : p = 128 * h)
    (inb : ∀ k : Fin 2, (![o, p] : Fin 2 → ℕ) k + S256x128.size k ≤ S512x512.size k) (x : S256x128.Idx) :
    tiles f ((Rect.unit (s := S512x512) ![o, p] S256x128.size inb).emb x) = f i h x := by
  have hx0 : (x 0).val < 256 := (x 0).isLt
  have hx1 : (x 1).val < 128 := (x 1).isLt
  have e0 : (((Rect.unit (s := S512x512) ![o, p] S256x128.size inb).emb x) 0).val = o + 1 * (x 0).val := rfl
  have e1 : (((Rect.unit (s := S512x512) ![o, p] S256x128.size inb).emb x) 1).val = p + 1 * (x 1).val := rfl
  show f _ _ _ = f i h x
  have a0 : (((Rect.unit (s := S512x512) ![o, p] S256x128.size inb).emb x) 0).val / 256 = i := by omega
  have a1 : (((Rect.unit (s := S512x512) ![o, p] S256x128.size inb).emb x) 1).val / 128 = h := by omega
  rw [a0, a1]
  congr 1
  funext k
  apply Fin.ext
  match k with
  | ⟨0, _⟩ => show (o + 1 * (x 0).val) % 256 = (x 0).val; omega
  | ⟨1, _⟩ => show (p + 1 * (x 1).val) % 128 = (x 1).val; omega

theorem heads_at {α : Type} (f : ℕ → S128x128.Idx → α) (o h : ℕ) (ho : o = 128 * h)
    (inb : ∀ k : Fin 2, (![o, 0] : Fin 2 → ℕ) k + S128x128.size k ≤ S512x128.size k) (x : S128x128.Idx) :
    heads f ((Rect.unit (s := S512x128) ![o, 0] S128x128.size inb).emb x) = f h x := by
  have hx0 : (x 0).val < 128 := (x 0).isLt
  have e0 : (((Rect.unit (s := S512x128) ![o, 0] S128x128.size inb).emb x) 0).val = o + 1 * (x 0).val := rfl
  show f _ _ = f h x
  have a0 : (((Rect.unit (s := S512x128) ![o, 0] S128x128.size inb).emb x) 0).val / 128 = h := by omega
  rw [a0]
  congr 1
  funext k
  apply Fin.ext
  match k with
  | ⟨0, _⟩ => show (o + 1 * (x 0).val) % 128 = (x 0).val; omega
  | ⟨1, _⟩ => show 0 + 1 * (x 1).val = (x 1).val; omega

theorem slabs_at {α : Type} (f : ℕ → ℕ → S128x128.Idx → α) (i o h : ℕ) (ho : o = 128 * h)
    (inb : ∀ k : Fin 3, (![i, o, 0] : Fin 3 → ℕ) k + S1x128x128.size k ≤ S2x512x128.size k) (x : S1x128x128.Idx) :
    slabs f ((Rect.unit (s := S2x512x128) ![i, o, 0] S1x128x128.size inb).emb x) = f i h (ix2 (x 1) (x 2)) := by
  have hx0 : (x 0).val < 1 := (x 0).isLt
  have hx1 : (x 1).val < 128 := (x 1).isLt
  have e0 : (((Rect.unit (s := S2x512x128) ![i, o, 0] S1x128x128.size inb).emb x) 0).val = i + 1 * (x 0).val := rfl
  have e1 : (((Rect.unit (s := S2x512x128) ![i, o, 0] S1x128x128.size inb).emb x) 1).val = o + 1 * (x 1).val := rfl
  show f _ _ _ = f i h _
  have a0 : (((Rect.unit (s := S2x512x128) ![i, o, 0] S1x128x128.size inb).emb x) 0).val = i := by omega
  have a1 : (((Rect.unit (s := S2x512x128) ![i, o, 0] S1x128x128.size inb).emb x) 1).val / 128 = h := by omega
  rw [a0, a1]
  congr 1
  funext k
  apply Fin.ext
  match k with
  | ⟨0, _⟩ => show (o + 1 * (x 1).val) % 128 = (x 1).val; omega
  | ⟨1, _⟩ => show 0 + 1 * (x 2).val = (x 2).val; omega

/-- Four stores over whatever was there: where one of them covers a place and all agree with `G`, `G` is read. -/
theorem read_four {Val : EltTy → Type} {sg : RefSig} {κ : Kind} {sp : Space} {s : Shape} {e : EltTy} (v : View sg κ sp s e)
    (f : v.ty.Contents Val) (G : s.Idx → Val e) (p1 p2 p3 p4 : View.Piece Val s e) (L : List (View.Piece Val s e)) (y : s.Idx)
    (h : ∀ p ∈ [p1, p2, p3, p4], ∀ x : p.1.shape.Idx, p.2 x = G (p.1.emb x)) (hy : ∃ p ∈ [p1, p2, p3, p4], y ∈ p.1.set) :
    v.read Val (v.writes Val f (p1 :: p2 :: p3 :: p4 :: L)) y = G y :=
  View.read_writes_apply_of_pieces v (v.writes Val f L) G [p1, p2, p3, p4] h y hy

end

section
variable {F : FTy → Type} [FloatOps F] [Named F]

section
variable (x10 : Vec F S8x256x128 .f32) (x11 : Vec F S4x256x128 .f32) (x12 : Vec F S2x8x256 .f32)
/-- The cosines of tile `i`. -/
abbrev cosT (i : ℕ) : FVec F S256x128 .f32 := k0_pay16 (lane x12 i 0) (lane x12 i 128) (tab4 x11 0) (tab4 x11 1)
/-- The signed sines of tile `i`. -/
abbrev sinT (i : ℕ) : FVec F S256x128 .f32 := k0_pay17 (lane x12 i 0) (lane x12 i 128) (tab4 x11 2) (tab4 x11 3)
/-- The rotated, scaled queries of tile `i` and head `h`. -/
abbrev qT (x0 : Vec F S512x512 .f32) (i h : ℕ) : FVec F S256x128 .bf16 := k0_pay31 (cosT x11 x12 i) (sinT x11 x12 i) (cut x0 (256 * i) (128 * h))
/-- The rotated keys of tile `i` and head `h`. -/
abbrev kT (x1 : Vec F S512x512 .f32) (i h : ℕ) : FVec F S256x128 .f32 := k0_pay19 (cosT x11 x12 i) (sinT x11 x12 i) (cut x1 (256 * i) (128 * h))
/-- The values of tile `i` and head `h`. -/
abbrev vT (x2 : Vec F S512x512 .f32) (i h : ℕ) : FVec F S256x128 .bf16 := k0_pay20 (cut x2 (256 * i) (128 * h))
/-- A state decayed over one tile. -/
abbrev gam (h : ℕ) (s : Vec F S128x128 .f32) : FVec F S128x128 .f32 :=
  match h with
  | 0 => mulf (broadcast S128x128 (Named.named κ "tile_gamma_0" 0x399ACCA1#32 : F .f32)) s
  | 1 => mulf (broadcast S128x128 (Named.named κ "tile_gamma_1" 0x3C9160A5#32 : F .f32)) s
  | 2 => mulf (broadcast S128x128 (Named.named κ "tile_gamma_2" 0x3E097FCE#32 : F .f32)) s
  | _ => mulf (broadcast S128x128 (Named.named κ "tile_gamma_3" 0x3EBBFC5D#32 : F .f32)) s
/-- The state of head `h` after tile `i`, from the state before. -/
abbrev upd (x1 x2 : Vec F S512x512 .f32) (i h : ℕ) (s : Vec F S128x128 .f32) : FVec F S128x128 .f32 :=
  k0_pay26 (kT x11 x12 x1 i h) (vT x2 i h) (gam h s) (tab8 x10 (4 + h))
/-- The states at the start of tile `i` of the two, the block's first one starting from `z`. -/
abbrev atT (x1 x2 : Vec F S512x512 .f32) (z : Vec F S512x128 .f32) (i h : ℕ) : Vec F S128x128 .f32 :=
  match i with
  | 0 => rows z (128 * h)
  | _ => upd x10 x11 x12 x1 x2 0 h (rows z (128 * h))
end

theorem slab_at (w : Vec F S128x128 .f32) (x : S1x128x128.Idx) : k0_pay84 w x = w (ix2 (x 1) (x 2)) := by
  have hx : x = ix3 0 (x 1) (x 2) := by
    funext k
    match k with
    | ⟨0, _⟩ => exact Subsingleton.elim (α := Fin 1) _ _
    | ⟨1, _⟩ => rfl
    | ⟨2, _⟩ => rfl
  rw [hx]
  have h (a b : Fin 128) : k0_pay84 w (ix3 0 a b) = w (ix2 a b) := by
    pointwise [k0_pay84]
  exact h (x 1) (x 2)

variable (c : Dev nD) (i : grid0.Coords)
  (arg1 : Memref sig .tc .vmem S512x512 .f32) (h1 : arg1.IsWhole) (arg2 : Memref sig .tc .vmem S512x512 .f32) (h2 : arg2.IsWhole)
  (arg3 : Memref sig .tc .vmem S512x512 .f32) (h3 : arg3.IsWhole) (arg4 : Memref sig .tc .vmem S512x512 .f32) (h4 : arg4.IsWhole)
  (arg5 : Memref sig .tc .vmem S512x256 .f32) (h5 : arg5.IsWhole) (arg6 : Memref sig .tc .vmem S512x256 .f32) (h6 : arg6.IsWhole)
  (arg7 : Memref sig .tc .vmem S512x512 .f32) (h7 : arg7.IsWhole) (arg8 : Memref sig .tc .vmem S512x512 .f32) (h8 : arg8.IsWhole)
  (arg9 : Memref sig .tc .vmem S512x128 .f32) (h9 : arg9.IsWhole) (arg10 : Memref sig .tc .vmem S4x256x256 .f32) (h10 : arg10.IsWhole)
  (arg11 : Memref sig .tc .vmem S8x256x128 .f32) (h11 : arg11.IsWhole) (arg12 : Memref sig .tc .vmem S4x256x128 .f32) (h12 : arg12.IsWhole)
  (arg13 : Memref sig .tc .vmem S2x8x256 .f32) (h13 : arg13.IsWhole) (arg14 : Memref sig .tc .vmem S128x256 .f32) (h14 : arg14.IsWhole)
  (arg15 : Memref sig .tc .vmem S1x256 .f32) (h15 : arg15.IsWhole) (arg16 : Memref sig .tc .vmem S1x512 .f32) (h16 : arg16.IsWhole)
  (arg17 : Memref sig .tc .vmem S1x512 .f32) (h17 : arg17.IsWhole) (arg18 : Memref sig .tc .vmem S512x1024 .bf16) (h18 : arg18.IsWhole)
  (arg19 : Memref sig .tc .vmem S512x1024 .f32) (h19 : arg19.IsWhole) (arg20 : Memref sig .tc .vmem S512x512 .bf16) (h20 : arg20.IsWhole)
  (arg21 : Memref sig .tc .vmem S512x512 .bf16) (h21 : arg21.IsWhole) (arg22 : Memref sig .tc .vmem S2x512x128 .f32) (h22 : arg22.IsWhole)
  (arg23 : Memref sig .tc .vmem S4x128x256 .f32) (h23 : arg23.IsWhole) (arg24 : Memref sig .tc .vmem S512x128 .f32) (h24 : arg24.IsWhole)
  (arg25 : Memref sig .tc .vmem S128x256 .f32) (h25 : arg25.IsWhole)
  (x0 x1 x2 x3 : Vec F S512x512 .f32) (x4 x5 : Vec F S512x256 .f32) (x6 x7 : Vec F S512x512 .f32) (x8 : Vec F S512x128 .f32)
  (x9 : Vec F S4x256x256 .f32) (x10 : Vec F S8x256x128 .f32) (x11 : Vec F S4x256x128 .f32) (x12 : Vec F S2x8x256 .f32) (x13 : Vec F S128x256 .f32) (x14 : Vec F S1x256 .f32) (x15 x16 : Vec F S1x512 .f32)
  (xs0 : Vec F S512x128 .f32) (xs1 : Vec F S128x256 .f32)

section
variable (hc0 : ¬cond0_0 i)
/-- The rotated queries of a later point. -/
theorem blk19_B (y) : out0_B_19 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 xs0 xs1 y = tiles (qT x11 x12 x0) y := by
  unfold out0_B_19
  refine View.read_writes_apply_of_pieces _ _ (tiles (qT x11 x12 x0)) _ ?_ y (cover0_B_19 ..)
  unfold kernelRun0_B
  dsimp only
  sl_unfold_words
  simp only [List.forall_mem_cons, List.not_mem_nil, false_implies, implies_true, and_true]
  refine ⟨fun x => Eq.trans ?_ (tiles_at _ 256 384 1 3 rfl rfl _ x).symm,
    fun x => Eq.trans ?_ (tiles_at _ 256 256 1 2 rfl rfl _ x).symm,
    fun x => Eq.trans ?_ (tiles_at _ 256 128 1 1 rfl rfl _ x).symm,
    fun x => Eq.trans ?_ (tiles_at _ 256 0 1 0 rfl rfl _ x).symm,
    fun x => Eq.trans ?_ (tiles_at _ 0 384 0 3 rfl rfl _ x).symm,
    fun x => Eq.trans ?_ (tiles_at _ 0 256 0 2 rfl rfl _ x).symm,
    fun x => Eq.trans ?_ (tiles_at _ 0 128 0 1 rfl rfl _ x).symm,
    fun x => Eq.trans ?_ (tiles_at _ 0 0 0 0 rfl rfl _ x).symm⟩ <;>
  (simp only [View.readCov_cons_toLoadRect, View.readAt_eq_ld, Memref.IsWhole.read_unread, ld_cut, ld_rows,
    ld_tab4, ld_tab8, ld_lane]; rfl)
/-- The rotated keys of a later point. -/
theorem blk20_B (y) : out0_B_20 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 xs0 xs1 y = tiles (fun i h => k0_pay22 (cosT x11 x12 i) (sinT x11 x12 i) (cut x1 (256 * i) (128 * h))) y := by
  unfold out0_B_20
  refine View.read_writes_apply_of_pieces _ _ (tiles (fun i h => k0_pay22 (cosT x11 x12 i) (sinT x11 x12 i) (cut x1 (256 * i) (128 * h)))) _ ?_ y (cover0_B_20 ..)
  unfold kernelRun0_B
  dsimp only
  sl_unfold_words
  simp only [List.forall_mem_cons, List.not_mem_nil, false_implies, implies_true, and_true]
  refine ⟨fun x => Eq.trans ?_ (tiles_at _ 256 384 1 3 rfl rfl _ x).symm,
    fun x => Eq.trans ?_ (tiles_at _ 256 256 1 2 rfl rfl _ x).symm,
    fun x => Eq.trans ?_ (tiles_at _ 256 128 1 1 rfl rfl _ x).symm,
    fun x => Eq.trans ?_ (tiles_at _ 256 0 1 0 rfl rfl _ x).symm,
    fun x => Eq.trans ?_ (tiles_at _ 0 384 0 3 rfl rfl _ x).symm,
    fun x => Eq.trans ?_ (tiles_at _ 0 256 0 2 rfl rfl _ x).symm,
    fun x => Eq.trans ?_ (tiles_at _ 0 128 0 1 rfl rfl _ x).symm,
    fun x => Eq.trans ?_ (tiles_at _ 0 0 0 0 rfl rfl _ x).symm⟩ <;>
  (simp only [View.readCov_cons_toLoadRect, View.readAt_eq_ld, Memref.IsWhole.read_unread, ld_cut, ld_rows,
    ld_tab4, ld_tab8, ld_lane]; rfl)
/-- The states at the start of its tiles of a later point. -/
theorem blk21_B (y) : out0_B_21 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 xs0 xs1 y = slabs (atT x10 x11 x12 x1 x2 xs0) y := by
  unfold out0_B_21
  refine View.read_writes_apply_of_pieces _ _ (slabs (atT x10 x11 x12 x1 x2 xs0)) _ ?_ y (cover0_B_21 ..)
  unfold kernelRun0_B
  dsimp only
  sl_unfold_words
  simp only [List.forall_mem_cons, List.not_mem_nil, false_implies, implies_true, and_true]
  refine ⟨fun x => Eq.trans ((slab_at _ x).trans ?_) (slabs_at _ 1 384 3 rfl _ x).symm,
    fun x => Eq.trans ((slab_at _ x).trans ?_) (slabs_at _ 1 256 2 rfl _ x).symm,
    fun x => Eq.trans ((slab_at _ x).trans ?_) (slabs_at _ 1 128 1 rfl _ x).symm,
    fun x => Eq.trans ((slab_at _ x).trans ?_) (slabs_at _ 1 0 0 rfl _ x).symm,
    fun x => Eq.trans ((slab_at _ x).trans ?_) (slabs_at _ 0 384 3 rfl _ x).symm,
    fun x => Eq.trans ((slab_at _ x).trans ?_) (slabs_at _ 0 256 2 rfl _ x).symm,
    fun x => Eq.trans ((slab_at _ x).trans ?_) (slabs_at _ 0 128 1 rfl _ x).symm,
    fun x => Eq.trans ((slab_at _ x).trans ?_) (slabs_at _ 0 0 0 rfl _ x).symm⟩ <;>
  (simp only [skip_rows, Nat.reduceAdd, Nat.reduceLeDiff, or_true, true_or, fill_rows, View.readCov_cons_toLoadRect, View.readAt_eq_ld, Memref.IsWhole.read_unread, ld_cut, ld_rows,
    ld_tab4, ld_tab8, ld_lane]; first | rfl | exact congrFun (ld_rows _ _ _) _)
/-- The states a later point leaves. -/
theorem scr_B (y) : sout0_B_0 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 xs0 xs1 y = heads (fun h => upd x10 x11 x12 x1 x2 1 h (atT x10 x11 x12 x1 x2 xs0 1 h)) y := by
  unfold sout0_B_0 kernelRun0_B; dsimp only; sl_unfold_words
  refine read_four (e := .f32) (Val := Elt F) _ _ (heads (α := F .f32) (fun h => upd x10 x11 x12 x1 x2 1 h (atT x10 x11 x12 x1 x2 xs0 1 h))) _ _ _ _ _ y ?_ ?_
  swap
  · exact View.cover_of_tiledL _ ![128, 128] (by rfl) y
  simp only [List.forall_mem_cons, List.not_mem_nil, false_implies, implies_true, and_true]
  refine ⟨fun x => Eq.trans ?_ (heads_at _ 384 3 rfl _ x).symm,
    fun x => Eq.trans ?_ (heads_at _ 256 2 rfl _ x).symm,
    fun x => Eq.trans ?_ (heads_at _ 128 1 rfl _ x).symm,
    fun x => Eq.trans ?_ (heads_at _ 0 0 rfl _ x).symm⟩ <;>
  (simp only [skip_rows, Nat.reduceAdd, Nat.reduceLeDiff, or_true, true_or, fill_rows, View.readCov_cons_toLoadRect, View.readAt_eq_ld, Memref.IsWhole.read_unread, ld_cut, ld_rows,
    ld_tab4, ld_tab8, ld_lane]; rfl)
end

section
variable (hc0 : cond0_0 i)
/-- The rotated queries of a first point. -/
theorem blk19_A (y) : out0_A_19 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 y = tiles (qT x11 x12 x0) y := by
  unfold out0_A_19
  refine View.read_writes_apply_of_pieces _ _ (tiles (qT x11 x12 x0)) _ ?_ y (cover0_A_19 ..)
  unfold kernelRun0_A
  dsimp only
  sl_unfold_words
  simp only [List.forall_mem_cons, List.not_mem_nil, false_implies, implies_true, and_true]
  refine ⟨fun x => Eq.trans ?_ (tiles_at _ 256 384 1 3 rfl rfl _ x).symm,
    fun x => Eq.trans ?_ (tiles_at _ 256 256 1 2 rfl rfl _ x).symm,
    fun x => Eq.trans ?_ (tiles_at _ 256 128 1 1 rfl rfl _ x).symm,
    fun x => Eq.trans ?_ (tiles_at _ 256 0 1 0 rfl rfl _ x).symm,
    fun x => Eq.trans ?_ (tiles_at _ 0 384 0 3 rfl rfl _ x).symm,
    fun x => Eq.trans ?_ (tiles_at _ 0 256 0 2 rfl rfl _ x).symm,
    fun x => Eq.trans ?_ (tiles_at _ 0 128 0 1 rfl rfl _ x).symm,
    fun x => Eq.trans ?_ (tiles_at _ 0 0 0 0 rfl rfl _ x).symm⟩ <;>
  (simp only [View.readCov_cons_toLoadRect, View.readAt_eq_ld, Memref.IsWhole.read_unread, ld_cut, ld_rows,
    ld_tab4, ld_tab8, ld_lane]; rfl)
/-- The rotated keys of a first point. -/
theorem blk20_A (y) : out0_A_20 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 y = tiles (fun i h => k0_pay22 (cosT x11 x12 i) (sinT x11 x12 i) (cut x1 (256 * i) (128 * h))) y := by
  unfold out0_A_20
  refine View.read_writes_apply_of_pieces _ _ (tiles (fun i h => k0_pay22 (cosT x11 x12 i) (sinT x11 x12 i) (cut x1 (256 * i) (128 * h)))) _ ?_ y (cover0_A_20 ..)
  unfold kernelRun0_A
  dsimp only
  sl_unfold_words
  simp only [List.forall_mem_cons, List.not_mem_nil, false_implies, implies_true, and_true]
  refine ⟨fun x => Eq.trans ?_ (tiles_at _ 256 384 1 3 rfl rfl _ x).symm,
    fun x => Eq.trans ?_ (tiles_at _ 256 256 1 2 rfl rfl _ x).symm,
    fun x => Eq.trans ?_ (tiles_at _ 256 128 1 1 rfl rfl _ x).symm,
    fun x => Eq.trans ?_ (tiles_at _ 256 0 1 0 rfl rfl _ x).symm,
    fun x => Eq.trans ?_ (tiles_at _ 0 384 0 3 rfl rfl _ x).symm,
    fun x => Eq.trans ?_ (tiles_at _ 0 256 0 2 rfl rfl _ x).symm,
    fun x => Eq.trans ?_ (tiles_at _ 0 128 0 1 rfl rfl _ x).symm,
    fun x => Eq.trans ?_ (tiles_at _ 0 0 0 0 rfl rfl _ x).symm⟩ <;>
  (simp only [View.readCov_cons_toLoadRect, View.readAt_eq_ld, Memref.IsWhole.read_unread, ld_cut, ld_rows,
    ld_tab4, ld_tab8, ld_lane]; rfl)
/-- The states at the start of its tiles of a first point. -/
theorem blk21_A (y) : out0_A_21 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 y = slabs (atT x10 x11 x12 x1 x2 (k0_pay2 : FVec F S512x128 .f32)) y := by
  unfold out0_A_21
  refine View.read_writes_apply_of_pieces _ _ (slabs (atT x10 x11 x12 x1 x2 (k0_pay2 : FVec F S512x128 .f32))) _ ?_ y (cover0_A_21 ..)
  unfold kernelRun0_A
  dsimp only
  sl_unfold_words
  simp only [List.forall_mem_cons, List.not_mem_nil, false_implies, implies_true, and_true]
  refine ⟨fun x => Eq.trans ((slab_at _ x).trans ?_) (slabs_at _ 1 384 3 rfl _ x).symm,
    fun x => Eq.trans ((slab_at _ x).trans ?_) (slabs_at _ 1 256 2 rfl _ x).symm,
    fun x => Eq.trans ((slab_at _ x).trans ?_) (slabs_at _ 1 128 1 rfl _ x).symm,
    fun x => Eq.trans ((slab_at _ x).trans ?_) (slabs_at _ 1 0 0 rfl _ x).symm,
    fun x => Eq.trans ((slab_at _ x).trans ?_) (slabs_at _ 0 384 3 rfl _ x).symm,
    fun x => Eq.trans ((slab_at _ x).trans ?_) (slabs_at _ 0 256 2 rfl _ x).symm,
    fun x => Eq.trans ((slab_at _ x).trans ?_) (slabs_at _ 0 128 1 rfl _ x).symm,
    fun x => Eq.trans ((slab_at _ x).trans ?_) (slabs_at _ 0 0 0 rfl _ x).symm⟩ <;>
  (simp only [skip_rows, Nat.reduceAdd, Nat.reduceLeDiff, or_true, true_or, fill_rows, View.readCov_cons_toLoadRect, View.readAt_eq_ld, Memref.IsWhole.read_unread, ld_cut, ld_rows,
    ld_tab4, ld_tab8, ld_lane]; first | rfl | exact congrFun (ld_rows _ _ _) _)
/-- The states a first point leaves. -/
theorem scr_A (y) : sout0_A_0 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 y = heads (fun h => upd x10 x11 x12 x1 x2 1 h (atT x10 x11 x12 x1 x2 (k0_pay2 : FVec F S512x128 .f32) 1 h)) y := by
  unfold sout0_A_0 kernelRun0_A; dsimp only; sl_unfold_words
  refine read_four (e := .f32) (Val := Elt F) _ _ (heads (α := F .f32) (fun h => upd x10 x11 x12 x1 x2 1 h (atT x10 x11 x12 x1 x2 (k0_pay2 : FVec F S512x128 .f32) 1 h))) _ _ _ _ _ y ?_ ?_
  swap
  · exact View.cover_of_tiledL _ ![128, 128] (by rfl) y
  simp only [List.forall_mem_cons, List.not_mem_nil, false_implies, implies_true, and_true]
  refine ⟨fun x => Eq.trans ?_ (heads_at _ 384 3 rfl _ x).symm,
    fun x => Eq.trans ?_ (heads_at _ 256 2 rfl _ x).symm,
    fun x => Eq.trans ?_ (heads_at _ 128 1 rfl _ x).symm,
    fun x => Eq.trans ?_ (heads_at _ 0 0 rfl _ x).symm⟩ <;>
  (simp only [skip_rows, Nat.reduceAdd, Nat.reduceLeDiff, or_true, true_or, fill_rows, View.readCov_cons_toLoadRect, View.readAt_eq_ld, Memref.IsWhole.read_unread, ld_cut, ld_rows,
    ld_tab4, ld_tab8, ld_lane]; rfl)
end

end

end Cert.MixBlock
-- ==== Proof.MixMath.lean ====
/-
  The numbers behind the retention: the decay of each head, the rotary frequencies, the rotation of
  one row and the state carried from tile to tile.
-/
module

public import proofs.«01_k».proof.Proof.RowMath

@[expose] public section

noncomputable section

namespace Cert.MixMath

/-- The logarithm of the decay of head `h` over one row. -/
def lg (h : Fin 4) : ℝ := Real.log (1 - (2 : ℝ) ^ (-5 - (h.val : ℝ)))

/-- The decay over one row. -/
def base (h : Fin 4) : ℝ := (2 ^ (5 + h.val) - 1) / 2 ^ (5 + h.val)

theorem base_pos (h : Fin 4) : 0 < base h := by
  fin_cases h <;> norm_num [base]

theorem base_val (h : Fin 4) : 1 - (2 : ℝ) ^ (-5 - (h.val : ℝ)) = base h := by
  unfold base
  have e : (2 : ℝ) ^ (-5 - (h.val : ℝ)) = ((2 : ℝ) ^ (5 + h.val))⁻¹ := by
    rw [show (-5 - (h.val : ℝ)) = -((5 + h.val : ℕ) : ℝ) by push_cast; ring, Real.rpow_neg (by norm_num), Real.rpow_natCast]
  rw [e]
  have : (2 : ℝ) ^ (5 + h.val) ≠ 0 := by positivity
  field_simp

theorem lg_eq (h : Fin 4) : lg h = Real.log (base h) := congrArg Real.log (base_val h)

/-- The decay over `n` rows. -/
theorem exp_lg (h : Fin 4) (n : ℕ) : Real.exp (lg h * n) = base h ^ n := by
  rw [lg_eq, mul_comm, Real.exp_nat_mul, Real.exp_log (base_pos h)]

/-- The frequency of the `l`-th pair of columns. -/
def freq (l : Fin 64) : ℝ := 1 / (10000 : ℝ) ^ ((l.val : ℝ) / 63)

/-- The frequency of column `l`. -/
def frq (l : Fin 128) : ℝ := freq ⟨l.val % 64, Nat.mod_lt _ (by norm_num)⟩
/-- The sign of the sine in column `l`. -/
def sgn (l : Fin 128) : ℝ := if l.val < 64 then -1 else 1
/-- The column `l` is paired with. -/
def pair (l : Fin 128) : Fin 128 := ⟨(l.val + 64) % 128, Nat.mod_lt _ (by norm_num)⟩

/-- The row `x` at position `s`, rotated. -/
def rot (x : Fin 128 → ℝ) (s : ℝ) (l : Fin 128) : ℝ :=
  x l * Real.cos (s * frq l) + x (pair l) * (sgn l * Real.sin (s * frq l))

/-- A sum over the rows, tile by tile. -/
theorem sum_tiles {M : Type} [AddCommMonoid M] (n w : ℕ) (N : ℕ) (e : N = n * w) (f : Fin N → M) :
    ∑ s, f s = ∑ i : Fin n, ∑ r : Fin w, f ⟨w * i.val + r.val, by
      subst e
      calc w * i.val + r.val < w * i.val + w := by omega
        _ = (i.val + 1) * w := by ring
        _ ≤ n * w := Nat.mul_le_mul_right w i.isLt⟩ := by
  subst e
  rw [← finProdFinEquiv.sum_comp, Fintype.sum_prod_type]
  refine Finset.sum_congr rfl fun i _ => Finset.sum_congr rfl fun r _ => congrArg f (Fin.ext ?_)
  show r.val + w * i.val = w * i.val + r.val
  exact Nat.add_comm _ _

/-- The state before tile `n`: what the rows before it have added up to, decayed to its first row. -/
def state (a : ℝ) (k v : Fin 8192 → ℝ) (n : ℕ) : ℝ :=
  ∑ s : Fin 8192, (if s.val < 256 * n then Real.exp (a * (256 * n - 1 - s.val)) else 0) * k s * v s

theorem state_zero (a : ℝ) (k v : Fin 8192 → ℝ) : state a k v 0 = 0 :=
  Finset.sum_eq_zero fun s _ => by simp

theorem state_succ (a : ℝ) (k v : Fin 8192 → ℝ) (n : ℕ) (hn : n < 32) :
    state a k v (n + 1) = Real.exp (a * 256) * state a k v n
      + ∑ r : Fin 256, k ⟨256 * n + r.val, by omega⟩ * Real.exp (a * (255 - r.val)) * v ⟨256 * n + r.val, by omega⟩ := by
  unfold state
  rw [sum_tiles 32 256 8192 rfl, sum_tiles 32 256 8192 rfl, Finset.mul_sum]
  have single : ∑ r : Fin 256, k ⟨256 * n + r.val, by omega⟩ * Real.exp (a * (255 - r.val)) * v ⟨256 * n + r.val, by omega⟩
      = ∑ i : Fin 32, if i = ⟨n, hn⟩ then (∑ r : Fin 256, k ⟨256 * i.val + r.val, by omega⟩ * Real.exp (a * (255 - r.val)) * v ⟨256 * i.val + r.val, by omega⟩) else 0 := by
    rw [Finset.sum_ite_eq' Finset.univ (⟨n, hn⟩ : Fin 32), if_pos (Finset.mem_univ _)]
  rw [single, ← Finset.sum_add_distrib]
  refine Finset.sum_congr rfl fun i _ => ?_
  by_cases hi : i = ⟨n, hn⟩
  · subst hi
    rw [if_pos rfl, Finset.mul_sum, ← Finset.sum_add_distrib]
    refine Finset.sum_congr rfl fun r _ => ?_
    have h1 : 256 * n + r.val < 256 * (n + 1) := by omega
    have h2 : ¬ 256 * n + r.val < 256 * n := by omega
    simp only [h1, h2, if_true, if_false]
    have e : a * (256 * ((n + 1 : ℕ) : ℝ) - 1 - ((256 * n + r.val : ℕ) : ℝ)) = a * (255 - r.val) := by push_cast; ring
    rw [e]
    ring
  · rw [if_neg hi, add_zero, Finset.mul_sum]
    refine Finset.sum_congr rfl fun r _ => ?_
    have hne : i.val ≠ n := fun h => hi (Fin.ext h)
    by_cases h : i.val < n
    · have h1 : 256 * i.val + r.val < 256 * (n + 1) := by omega
      have h2 : 256 * i.val + r.val < 256 * n := by omega
      simp only [h1, h2, if_true]
      have e : a * (256 * ((n + 1 : ℕ) : ℝ) - 1 - ((256 * i.val + r.val : ℕ) : ℝ))
          = a * 256 + a * (256 * (n : ℝ) - 1 - ((256 * i.val + r.val : ℕ) : ℝ)) := by push_cast; ring
      rw [e, Real.exp_add]
      ring
    · have h1 : ¬ 256 * i.val + r.val < 256 * (n + 1) := by omega
      have h2 : ¬ 256 * i.val + r.val < 256 * n := by omega
      simp only [h1, h2, if_false]
      ring

/-- Column `l` of head `h` of the projections that start at column `o`. -/
def col (o : ℕ) (h : Fin 4) (l : Fin 128) : Fin 3600 := ⟨(o + 128 * h.val + l.val) % 3600, Nat.mod_lt _ (by norm_num)⟩
/-- The query's scale, as rounded. -/
def scale : ℝ := 11863283 / 134217728
section
variable (p : Fin 8192 → Fin 3600 → ℝ) (h : Fin 4) (n : Fin 8192)
/-- The rotated queries. -/
def qry (l : Fin 128) : ℝ := rot (fun l => p n (col 0 h l)) n.val l * scale
/-- The rotated keys. -/
def key (l : Fin 128) : ℝ := rot (fun l => p n (col 512 h l)) n.val l
/-- The values. -/
def vlu (l : Fin 128) : ℝ := p n (col 1024 h l)
end

/-- A rotation by the sum of two angles. -/
theorem cos_add' (a b f : ℝ) : Real.cos (a * f) * Real.cos (b * f) - Real.sin (a * f) * Real.sin (b * f) = Real.cos ((a + b) * f) := by
  rw [add_mul, Real.cos_add]
theorem sin_add' (a b f g : ℝ) : Real.sin (a * f) * (g * Real.cos (b * f)) + Real.cos (a * f) * (g * Real.sin (b * f)) = g * Real.sin ((a + b) * f) := by
  rw [add_mul, Real.sin_add]; ring

end Cert.MixMath

end
-- ==== Proof.MixHost.lean ====
/-
  The tables the host makes for the mixer: frequencies, angles and decays.
-/
module

public import proofs.«01_k».proof.Proof.Gen.MixKernelIdeal.Frame.Runs
public import proofs.«01_k».proof.Proof.MixMath
public import Idealize.ShloMosaic.Lib.Pointwise

@[expose] public section

set_option maxRecDepth 16384

noncomputable section

namespace Cert.MixHost

open Cert.RowMath Cert.MixMath Cert.MixKernelIdeal Cert.MixKernelIdeal.Gen Idealize.ShloMosaic Idealize.ShloMosaic.TcCoe

abbrev zero : FVec Ideal S_ .f32 := constant (F := Ideal) S_ .f32 0x00000000#32
abbrev one : FVec Ideal S_ .f32 := constant (F := Ideal) S_ .f32 0x3F800000#32
/-- The sixty-three steps from nought. -/
def steps : FVec Ideal S63 .f32 :=
  Host.divf (sitofp .f32 (iotaInDim S63 32 0)) (broadcastInDim S63 ![] bcast_S_S63 (constant (F := Ideal) S_ .f32 0x427C0000#32))
/-- Sixty-four numbers from nought to one. -/
def lin : FVec Ideal S64 .f32 := concatenate S64 0
  [⟨S63, (addf (mulf (broadcastInDim S63 ![0] bcast_S1_S63_0 (shapeCast S1 zero shapeCasts_S_S1))
      (subf (broadcastInDim S63 ![] bcast_S_S63 one) steps)) (mulf (broadcastInDim S63 ![0] bcast_S1_S63_0 (shapeCast S1 one shapeCasts_S_S1)) steps)
      : (⟨S63, .f32⟩ : BufTy).Contents (Elt Ideal))⟩,
   ⟨S1, (broadcastInDim S1 ![] bcast_S_S1 one : (⟨S1, .f32⟩ : BufTy).Contents (Elt Ideal))⟩] concatenates_S63_S1_S64_d0
/-- The frequencies. -/
def inv : FVec Ideal S64 .f32 := Host.divf (broadcastInDim S64 ![] bcast_S_S64 one)
  (Host.powf (broadcastInDim S64 ![] bcast_S_S64 (constant (F := Ideal) S_ .f32 0x461C4000#32)) lin)

/-- A count as a number. -/
theorem count (n : ℕ) (h : n < 2 ^ 31) : (FloatOps.sitofp (F := Ideal) .f32 (BitVec.ofNat 32 n) : EReal) = ((n : ℝ) : EReal) := by
  show (((BitVec.ofNat 32 n).toInt : ℝ) : EReal) = _
  have e : (BitVec.ofNat 32 n).toInt = (n : ℤ) := by
    rw [BitVec.toInt_eq_toNat_of_lt]
    · rw [BitVec.toNat_ofNat, Nat.mod_eq_of_lt (show n < 2 ^ 32 by omega)]
    · simp only [BitVec.toNat_ofNat]; omega
  rw [e]; norm_num

theorem word_63 : Ideal.ofBits .f32 0x427C0000#32 = ((63 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_255 : Ideal.ofBits .f32 0x437F0000#32 = ((255 : ℝ) : EReal) := by
  simp [Ideal.ofBits, Ideal.ieee, -EReal.coe_mul]; norm_num
theorem word_10000 : Ideal.ofBits .f32 0x461C4000#32 = ((10000 : ℝ) : EReal) := by
  simp [Ideal.ofBits, Ideal.ieee, -EReal.coe_mul]; norm_num

theorem steps_apply (l : Fin 63) : steps (ix1 l) = (((l.val : ℝ) / 63 : ℝ) : EReal) := by
  pointwise [steps]
  rw [count _ (by omega), word_63, div_coe_coe _ (by norm_num)]
theorem lin_apply (l : Fin 64) : lin (ix1 l) = (((l.val : ℝ) / 63 : ℝ) : EReal) := by
  pointwise [lin]
  split_ifs with h
  · rw [steps_apply]
    have e : (0 : EReal) * (1 - (((l.val : ℝ) / 63 : ℝ) : EReal)) = 0 := zero_mul _
    exact (congrArg (· + _) e).trans (zero_add _)
  · have e : (l.val : ℝ) = 63 := by exact_mod_cast (show l.val = 63 by omega)
    rw [e]; norm_num
theorem inv_apply (l : Fin 64) : inv (ix1 l) = ((freq l : ℝ) : EReal) := by
  pointwise [inv]
  rw [lin_apply, word_10000]
  show Ideal.div 1 ((Real.rpow 10000 ((l.val : ℝ) / 63) : ℝ) : EReal) = _
  rw [show (1 : EReal) = ((1 : ℝ) : EReal) from rfl, div_coe_coe]
  · rfl
  · exact (Real.rpow_pos_of_pos (by norm_num) _).ne'
/-- The angles inside one tile. -/
def off (iv : FVec Ideal S64 .f32) : FVec Ideal S256x64 .f32 := mulf (broadcastInDim S256x64 ![0, 1] bcast_S256x1_S256x64_0_1
    (broadcastInDim S256x1 ![0] bcast_S256_S256x1_0 (sitofp .f32 (iotaInDim S256 32 0))))
  (broadcastInDim S256x64 ![0, 1] bcast_S1x64_S256x64_0_1 (broadcastInDim S1x64 ![1] bcast_S64_S1x64_1 iv))
/-- The angles at the start of each tile. -/
def start (iv : FVec Ideal S64 .f32) : FVec Ideal S32x64 .f32 := mulf (broadcastInDim S32x64 ![0, 1] bcast_S32x1_S32x64_0_1
    (broadcastInDim S32x1 ![0] bcast_S32_S32x1_0 (mulf (sitofp .f32 (iotaInDim S32 32 0))
      (broadcastInDim S32 ![] bcast_S_S32 (constant (F := Ideal) S_ .f32 0x43800000#32)))))
  (broadcastInDim S32x64 ![0, 1] bcast_S1x64_S32x64_0_1 (broadcastInDim S1x64 ![1] bcast_S64_S1x64_1 iv))
/-- Two halves side by side. -/
def side (a b : FVec Ideal S256x64 .f32) : FVec Ideal S1x256x128 .f32 := broadcastInDim S1x256x128 ![1, 2] bcast_S256x128_S1x256x128_1_2
  (concatenate S256x128 1 [⟨S256x64, (a : (⟨S256x64, .f32⟩ : BufTy).Contents (Elt Ideal))⟩,
    ⟨S256x64, (b : (⟨S256x64, .f32⟩ : BufTy).Contents (Elt Ideal))⟩] concatenates_S256x64_S256x64_S256x128_d1)
/-- The table inside one tile. -/
def rotIn (o : FVec Ideal S256x64 .f32) : FVec Ideal S4x256x128 .f32 := concatenate S4x256x128 0
  [⟨S1x256x128, (side (Host.cos o) (Host.cos o) : (⟨S1x256x128, .f32⟩ : BufTy).Contents (Elt Ideal))⟩,
   ⟨S1x256x128, (side (Host.sin o) (Host.sin o) : (⟨S1x256x128, .f32⟩ : BufTy).Contents (Elt Ideal))⟩,
   ⟨S1x256x128, (side (Host.negf (Host.cos o)) (Host.cos o) : (⟨S1x256x128, .f32⟩ : BufTy).Contents (Elt Ideal))⟩,
   ⟨S1x256x128, (side (Host.negf (Host.sin o)) (Host.sin o) : (⟨S1x256x128, .f32⟩ : BufTy).Contents (Elt Ideal))⟩]
  concatenates_S1x256x128_S1x256x128_S1x256x128_S1x256x128_S4x256x128_d0
/-- The table of the tiles' starts. -/
def rotTile (s : FVec Ideal S32x64 .f32) : FVec Ideal S32x8x256 .f32 := broadcastInDim S32x8x256 ![0, 1, 2] bcast_S32x1x256_S32x8x256_0_1_2
  (broadcastInDim S32x1x256 ![0, 2] bcast_S32x256_S32x1x256_0_2 (concatenate S32x256 1
    [⟨S32x64, (Host.cos s : (⟨S32x64, .f32⟩ : BufTy).Contents (Elt Ideal))⟩, ⟨S32x64, (Host.cos s : (⟨S32x64, .f32⟩ : BufTy).Contents (Elt Ideal))⟩,
     ⟨S32x64, (Host.sin s : (⟨S32x64, .f32⟩ : BufTy).Contents (Elt Ideal))⟩, ⟨S32x64, (Host.sin s : (⟨S32x64, .f32⟩ : BufTy).Contents (Elt Ideal))⟩]
    concatenates_S32x64_S32x64_S32x64_S32x64_S32x256_d1))

section
variable (iv : FVec Ideal S64 .f32) (o : FVec Ideal S256x64 .f32) (s : FVec Ideal S32x64 .f32)
theorem off_apply (r : Fin 256) (l : Fin 64) : off inv (ix2 r l) = (((r.val : ℝ) * freq l : ℝ) : EReal) := by
  have h (iv : FVec Ideal S64 .f32) : off iv (ix2 r l) = FloatOps.sitofp (F := Ideal) .f32 (BitVec.ofNat 32 r.val) * iv (ix1 l) := by
    pointwise [off]
  rw [h, inv_apply, count _ (by omega), EReal.coe_mul]
theorem start_apply (n : Fin 32) (l : Fin 64) : start inv (ix2 n l) = (((256 * n.val : ℝ) * freq l : ℝ) : EReal) := by
  have h (iv : FVec Ideal S64 .f32) : start iv (ix2 n l)
      = FloatOps.sitofp (F := Ideal) .f32 (BitVec.ofNat 32 n.val) * Ideal.ofBits .f32 0x43800000#32 * iv (ix1 l) := by
    pointwise [start]
  rw [h, inv_apply, count _ (by omega), word_256, ← EReal.coe_mul, ← EReal.coe_mul, mul_comm (n.val : ℝ) 256]
theorem frq_lt (l : Fin 128) (h : l.val < 64) : freq ⟨l.val, h⟩ = frq l := congrArg freq (Fin.ext (Nat.mod_eq_of_lt h).symm)
theorem frq_ge (l : Fin 128) (h : ¬ l.val < 64) (h' : l.val - 64 < 64) : freq ⟨l.val - 64, h'⟩ = frq l :=
  congrArg freq (Fin.ext (by show l.val - 64 = l.val % 64; omega))
theorem rotIn_0 (r : Fin 256) (l : Fin 128) : rotIn (off inv) (ix3 0 r l) = ((Real.cos (r.val * frq l) : ℝ) : EReal) := by
  pointwise [rotIn, side]
  split_ifs
  all_goals first
    | omega
    | (rw [off_apply, frq_lt l ‹_›]; rfl)
    | (rw [off_apply, frq_ge l ‹_›]; rfl)
theorem rotIn_1 (r : Fin 256) (l : Fin 128) : rotIn (off inv) (ix3 1 r l) = ((Real.sin (r.val * frq l) : ℝ) : EReal) := by
  pointwise [rotIn, side]
  split_ifs
  all_goals first
    | omega
    | (rw [off_apply, frq_lt l ‹_›]; rfl)
    | (rw [off_apply, frq_ge l ‹_›]; rfl)
theorem rotIn_2 (r : Fin 256) (l : Fin 128) : rotIn (off inv) (ix3 2 r l) = ((sgn l * Real.cos (r.val * frq l) : ℝ) : EReal) := by
  pointwise [rotIn, side]
  split_ifs
  all_goals first
    | omega
    | (rw [off_apply, frq_lt l ‹_›, sgn, if_pos ‹_›, neg_one_mul]; rfl)
    | (rw [off_apply, frq_ge l ‹_›, sgn, if_neg ‹_›, one_mul]; rfl)
theorem rotIn_3 (r : Fin 256) (l : Fin 128) : rotIn (off inv) (ix3 3 r l) = ((sgn l * Real.sin (r.val * frq l) : ℝ) : EReal) := by
  pointwise [rotIn, side]
  split_ifs
  all_goals first
    | omega
    | (rw [off_apply, frq_lt l ‹_›, sgn, if_pos ‹_›, neg_one_mul]; rfl)
    | (rw [off_apply, frq_ge l ‹_›, sgn, if_neg ‹_›, one_mul]; rfl)
theorem rotTile_cos (n : Fin 32) (z : Fin 8) (l : Fin 128) :
    rotTile (start inv) (ix3 n z ⟨l.val, by omega⟩) = ((Real.cos (256 * n.val * frq l) : ℝ) : EReal) := by
  pointwise [rotTile]
  split_ifs
  all_goals first
    | omega
    | exact absurd l.isLt (by omega)
    | (rw [start_apply, frq_lt l ‹_›]; rfl)
    | (rw [start_apply, frq_ge l ‹_›]; rfl)
theorem rotTile_sin (n : Fin 32) (z : Fin 8) (l : Fin 128) :
    rotTile (start inv) (ix3 n z ⟨128 + l.val, by omega⟩) = ((Real.sin (256 * n.val * frq l) : ℝ) : EReal) := by
  pointwise [rotTile]
  split_ifs
  all_goals first
    | omega
    | exact absurd l.isLt (by omega)
    | (rw [start_apply, show freq ⟨128 + l.val - 64 - 64, by omega⟩ = frq l from
        congrArg freq (Fin.ext (by show 128 + l.val - 64 - 64 = l.val % 64; omega))]; rfl)
    | (rw [start_apply, show freq ⟨128 + l.val - 64 - 64 - 64, by omega⟩ = frq l from
        congrArg freq (Fin.ext (by show 128 + l.val - 64 - 64 - 64 = l.val % 64; omega))]; rfl)
end

/-- The logarithms of the decays. -/
abbrev lgv (w : BitVec 32) : FVec Ideal S_ .f32 := Host.log (constant (F := Ideal) S_ .f32 w)
abbrev rowf : FVec Ideal S256x128 .f32 := sitofp .f32 (iotaInDim S256x128 32 0)
/-- The decay from the start of a tile to each row's end. -/
def upT (w : BitVec 32) : FVec Ideal S1x256x128 .f32 := broadcastInDim S1x256x128 ![1, 2] bcast_S256x128_S1x256x128_1_2
  (Host.exp (mulf (broadcastInDim S256x128 ![] bcast_S_S256x128 (lgv w)) (addf rowf (broadcastInDim S256x128 ![] bcast_S_S256x128 one))))
/-- The decay from each row to the end of the tile. -/
def downT (w : BitVec 32) : FVec Ideal S1x256x128 .f32 := broadcastInDim S1x256x128 ![1, 2] bcast_S256x128_S1x256x128_1_2
  (Host.exp (mulf (broadcastInDim S256x128 ![] bcast_S_S256x128 (lgv w)) (subf (broadcastInDim S256x128 ![] bcast_S_S256x128 (constant (F := Ideal) S_ .f32 0x437F0000#32)) rowf)))
/-- The table of decays. -/
def qkdT : FVec Ideal S8x256x128 .f32 := concatenate S8x256x128 0
  [⟨S1x256x128, (upT 0x3F780000#32 : (⟨S1x256x128, .f32⟩ : BufTy).Contents (Elt Ideal))⟩,
   ⟨S1x256x128, (upT 0x3F7C0000#32 : (⟨S1x256x128, .f32⟩ : BufTy).Contents (Elt Ideal))⟩,
   ⟨S1x256x128, (upT 0x3F7E0000#32 : (⟨S1x256x128, .f32⟩ : BufTy).Contents (Elt Ideal))⟩,
   ⟨S1x256x128, (upT 0x3F7F0000#32 : (⟨S1x256x128, .f32⟩ : BufTy).Contents (Elt Ideal))⟩,
   ⟨S1x256x128, (downT 0x3F780000#32 : (⟨S1x256x128, .f32⟩ : BufTy).Contents (Elt Ideal))⟩,
   ⟨S1x256x128, (downT 0x3F7C0000#32 : (⟨S1x256x128, .f32⟩ : BufTy).Contents (Elt Ideal))⟩,
   ⟨S1x256x128, (downT 0x3F7E0000#32 : (⟨S1x256x128, .f32⟩ : BufTy).Contents (Elt Ideal))⟩,
   ⟨S1x256x128, (downT 0x3F7F0000#32 : (⟨S1x256x128, .f32⟩ : BufTy).Contents (Elt Ideal))⟩]
  concatenates_S1x256x128_S1x256x128_S1x256x128_S1x256x128_S1x256x128_S1x256x128_S1x256x128_S1x256x128_S8x256x128_d0
/-- The words of the decays. -/
abbrev wrd (h : Fin 4) : BitVec 32 := match h with | 0 => 0x3F780000#32 | 1 => 0x3F7C0000#32 | 2 => 0x3F7E0000#32 | 3 => 0x3F7F0000#32
theorem log_wrd (h : Fin 4) : Ideal.log (Ideal.ofBits .f32 (wrd h)) = ((lg h : ℝ) : EReal) := by
  have e : Ideal.ofBits .f32 (wrd h) = ((base h : ℝ) : EReal) := by
    match h with
    | 0 => show Ideal.ofBits .f32 0x3F780000#32 = _; simp [Ideal.ofBits, Ideal.ieee, base, -EReal.coe_mul]; norm_num
    | 1 => show Ideal.ofBits .f32 0x3F7C0000#32 = _; simp [Ideal.ofBits, Ideal.ieee, base, -EReal.coe_mul]; norm_num
    | 2 => show Ideal.ofBits .f32 0x3F7E0000#32 = _; simp [Ideal.ofBits, Ideal.ieee, base, -EReal.coe_mul]; norm_num
    | 3 => show Ideal.ofBits .f32 0x3F7F0000#32 = _; simp [Ideal.ofBits, Ideal.ieee, base, -EReal.coe_mul]; norm_num
  rw [e, lg_eq]
  show (if base h ≤ 0 then (⊥ : EReal) else ((Real.log (base h) : ℝ) : EReal)) = _
  rw [if_neg (not_le.mpr (base_pos h))]
theorem upT_apply (h : Fin 4) (r : Fin 256) (l : Fin 128) : upT (wrd h) (ix3 0 r l) = ((Real.exp (lg h * (r.val + 1)) : ℝ) : EReal) := by
  have e (w : BitVec 32) : upT w (ix3 0 r l) = Ideal.exp (Ideal.log (Ideal.ofBits .f32 w) * (FloatOps.sitofp (F := Ideal) .f32 (BitVec.ofNat 32 r.val) + 1)) := by
    pointwise [upT]
  rw [e, log_wrd, count _ (by omega)]
  rfl
theorem downT_apply (h : Fin 4) (r : Fin 256) (l : Fin 128) : downT (wrd h) (ix3 0 r l) = ((Real.exp (lg h * (255 - r.val)) : ℝ) : EReal) := by
  have e (w : BitVec 32) : downT w (ix3 0 r l)
      = Ideal.exp (Ideal.log (Ideal.ofBits .f32 w) * (Ideal.ofBits .f32 0x437F0000#32 - FloatOps.sitofp (F := Ideal) .f32 (BitVec.ofNat 32 r.val))) := by
    pointwise [downT]
  rw [e, log_wrd, count _ (by omega), word_255]
  rfl
theorem qkd_up (h : Fin 4) (r : Fin 256) (l : Fin 128) : qkdT (ix3 ⟨h.val, by omega⟩ r l) = ((Real.exp (lg h * (r.val + 1)) : ℝ) : EReal) := by
  rw [← upT_apply h r l]
  fin_cases h <;> (show qkdT (ix3 _ r l) = _; pointwise [qkdT])
theorem qkd_down (h : Fin 4) (r : Fin 256) (l : Fin 128) : qkdT (ix3 ⟨4 + h.val, by omega⟩ r l) = ((Real.exp (lg h * (255 - r.val)) : ℝ) : EReal) := by
  rw [← downT_apply h r l]
  fin_cases h <;> (show qkdT (ix3 _ r l) = _; pointwise [qkdT])

/-- The projections, with 112 columns of noughts. -/
def padded (x : FVec Ideal S1x8192x3600 .f32) : FVec Ideal S8192x3712 .f32 :=
  pad S8192x3712 ![0, 0] ![0, 112] ![0, 0] (shapeCast S8192x3600 x shapeCasts_S1x8192x3600_S8192x3600) (sitofp .f32 (constantI S_ 32 0#32))
    pads_S8192x3600_S8192x3712_000_01120 h_S_
theorem padded_apply (x : FVec Ideal S1x8192x3600 .f32) (n : Fin 8192) (l : Fin 3712) (h : l.val < 3600) : padded x (ix2 n l) = x (ix3 0 n ⟨l.val, h⟩) := by
  pointwise [padded]
  split_ifs
  rfl
end Cert.MixHost

end
-- ==== Proof.MixPay.lean ====
/-
  The mixer's retention tiles, element by element, over the reals.
-/
module

public import proofs.«01_k».proof.Proof.MixBlock
public import proofs.«01_k».proof.Proof.MixHost

@[expose] public section

set_option maxRecDepth 16384

noncomputable section

namespace Cert.MixBlock

open Cert.RowMath Cert.MixMath Cert.MixHost Cert.MixKernelIdeal Cert.MixKernelIdeal.Gen Idealize.ShloMosaic Idealize.ShloMosaic.TcCoe

theorem word_scale : Ideal.ofBits .f32 0x3DB504F3#32 = (scale : EReal) := by
  simp [Ideal.ofBits, Ideal.ieee, scale, -EReal.coe_mul]; norm_num

section
variable (cs sn x : FVec Ideal S256x128 .f32) (r : Fin 256) (l : Fin 128)

theorem pair_eq (h : (l.val + 128 - 64) % 128 < 128) : (⟨(l.val + 128 - 64) % 128, h⟩ : Fin 128) = pair l :=
  Fin.ext (by show (l.val + 128 - 64) % 128 = (l.val + 64) % 128; omega)
theorem rot_apply : k0_pay19 (F := Ideal) cs sn x (ix2 r l) = x (ix2 r l) * cs (ix2 r l) + x (ix2 r (pair l)) * sn (ix2 r l) := by
  pointwise [k0_pay19]
  rw [← pair_eq]
theorem rot_bf_apply : k0_pay22 (F := Ideal) cs sn x (ix2 r l) = x (ix2 r l) * cs (ix2 r l) + x (ix2 r (pair l)) * sn (ix2 r l) :=
  rot_apply cs sn x r l
theorem rot_scaled_apply : k0_pay31 (F := Ideal) cs sn x (ix2 r l)
    = (x (ix2 r l) * cs (ix2 r l) + x (ix2 r (pair l)) * sn (ix2 r l)) * Ideal.ofBits .f32 0x3DB504F3#32 := by
  pointwise [k0_pay31, k0_pay28]
  rw [← pair_eq]
theorem val_apply : k0_pay20 (F := Ideal) x (ix2 r l) = x (ix2 r l) := by pointwise [k0_pay20]
theorem cos_apply (a b : FVec Ideal S1x1x128 .f32) (u w : FVec Ideal S1x256x128 .f32) :
    k0_pay16 (F := Ideal) a b u w (ix2 r l) = a (ix3 0 0 l) * u (ix3 0 r l) - b (ix3 0 0 l) * w (ix3 0 r l) := by
  pointwise [k0_pay16, k0_pay14, k0_pay15]
theorem sin_apply (a b : FVec Ideal S1x1x128 .f32) (u w : FVec Ideal S1x256x128 .f32) :
    k0_pay17 (F := Ideal) a b u w (ix2 r l) = b (ix3 0 0 l) * u (ix3 0 r l) + a (ix3 0 0 l) * w (ix3 0 r l) := by
  pointwise [k0_pay17, k0_pay14, k0_pay15]
end
theorem st_apply (k : FVec Ideal S256x128 .f32) (v : FVec Ideal S256x128 .bf16) (g : FVec Ideal S128x128 .f32) (w : FVec Ideal S1x256x128 .f32) (d e : Fin 128) :
    k0_pay26 (F := Ideal) k v g w (ix2 d e) = g (ix2 d e) + ∑ x, k (ix2 x d) * w (ix3 0 x d) * v (ix2 x e) := by
  pointwise [k0_pay26]

/-- Row `r` of block `t`. -/
abbrev row16 (t : Fin 16) (r : Fin 512) : Fin 8192 := ⟨512 * t.val + r.val, by omega⟩
/-- Tile `i` of block `t`. -/
abbrev tile (t : Fin 16) (i : Fin 2) : Fin 32 := ⟨2 * t.val + i.val, by omega⟩
/-- Row `r` of tile `n`. -/
abbrev rowT (n : Fin 32) (r : Fin 256) : Fin 8192 := ⟨256 * n.val + r.val, by omega⟩

/-- What one grid point reads, over the reals. -/
structure Reads (p : Fin 8192 → Fin 3600 → ℝ) (t : Fin 16) (x0 x1 x2 : FVec Ideal S512x512 .f32) (x10 : FVec Ideal S8x256x128 .f32)
    (x11 : FVec Ideal S4x256x128 .f32) (x12 : FVec Ideal S2x8x256 .f32) : Prop where
  q : ∀ r (l : Fin 512), x0 (ix2 r l) = (p (row16 t r) ⟨l.val, by omega⟩ : EReal)
  k : ∀ r (l : Fin 512), x1 (ix2 r l) = (p (row16 t r) ⟨512 + l.val, by omega⟩ : EReal)
  v : ∀ r (l : Fin 512), x2 (ix2 r l) = (p (row16 t r) ⟨1024 + l.val, by omega⟩ : EReal)
  dec : x10 = qkdT
  rin : x11 = rotIn (off inv)
  rti : ∀ (i : Fin 2) l, x12 (ix3 i 0 l) = rotTile (start inv) (ix3 (tile t i) 0 l)

variable {p : Fin 8192 → Fin 3600 → ℝ} {t : Fin 16} {x0 x1 x2 : FVec Ideal S512x512 .f32} {x10 : FVec Ideal S8x256x128 .f32}
  {x11 : FVec Ideal S4x256x128 .f32} {x12 : FVec Ideal S2x8x256 .f32}
variable (R : Reads p t x0 x1 x2 x10 x11 x12)

theorem rowT_tile (i : Fin 2) (r : Fin 256) (h : (256 * i.val + r.val) % 512 < 512) : row16 t ⟨(256 * i.val + r.val) % 512, h⟩ = rowT (tile t i) r :=
  Fin.ext (by show 512 * t.val + (256 * i.val + r.val) % 512 = 256 * (2 * t.val + i.val) + r.val; omega)

include R
section
variable (i : Fin 2) (h : Fin 4) (r : Fin 256) (l : Fin 128)
theorem Reads.lane0 : lane (F := Ideal) x12 i.val 0 (ix3 0 0 l) = ((Real.cos (256 * (tile t i).val * frq l) : ℝ) : EReal) := by
  refine Eq.trans ?_ (rotTile_cos (tile t i) 0 l)
  rw [← R.rti]
  exact congrArg x12 (congrArg₂ (fun a b => ix3 a 0 b) (Fin.ext (Nat.mod_eq_of_lt i.isLt)) (Fin.ext (by show (0 + l.val) % 256 = l.val; omega)))
theorem Reads.lane128 : lane (F := Ideal) x12 i.val 128 (ix3 0 0 l) = ((Real.sin (256 * (tile t i).val * frq l) : ℝ) : EReal) := by
  refine Eq.trans ?_ (rotTile_sin (tile t i) 0 l)
  rw [← R.rti]
  exact congrArg x12 (congrArg₂ (fun a b => ix3 a 0 b) (Fin.ext (Nat.mod_eq_of_lt i.isLt)) (Fin.ext (by show (128 + l.val) % 256 = 128 + l.val; omega)))
theorem Reads.at_ : (256 * (tile t i).val : ℝ) + r.val = (rowT (tile t i) r).val := by push_cast; ring
theorem Reads.cosT : cosT (F := Ideal) x11 x12 i.val (ix2 r l) = ((Real.cos ((rowT (tile t i) r).val * frq l) : ℝ) : EReal) := by
  have e0 : tab4 (F := Ideal) x11 0 (ix3 0 r l) = _ := (congrFun R.rin _).trans (rotIn_0 r l)
  have e1 : tab4 (F := Ideal) x11 1 (ix3 0 r l) = _ := (congrFun R.rin _).trans (rotIn_1 r l)
  refine (cos_apply ..).trans ?_
  rw [R.lane0, R.lane128, e0, e1, ← EReal.coe_mul, ← EReal.coe_mul, ← EReal.coe_sub, cos_add', R.at_]
theorem Reads.sinT : sinT (F := Ideal) x11 x12 i.val (ix2 r l) = ((sgn l * Real.sin ((rowT (tile t i) r).val * frq l) : ℝ) : EReal) := by
  have e2 : tab4 (F := Ideal) x11 2 (ix3 0 r l) = _ := (congrFun R.rin _).trans (rotIn_2 r l)
  have e3 : tab4 (F := Ideal) x11 3 (ix3 0 r l) = _ := (congrFun R.rin _).trans (rotIn_3 r l)
  refine (sin_apply ..).trans ?_
  rw [R.lane0, R.lane128, e2, e3, ← EReal.coe_mul, ← EReal.coe_mul, ← EReal.coe_add, sin_add', R.at_]
theorem Reads.cut0 : cut (F := Ideal) x0 (256 * i.val) (128 * h.val) (ix2 r l) = (p (rowT (tile t i) r) (col 0 h l) : EReal) := by
  refine (R.q _ _).trans (congrArg _ (congrArg₂ p (rowT_tile i r _) (Fin.ext ?_)))
  show (128 * h.val + l.val) % 512 = (0 + 128 * h.val + l.val) % 3600
  rw [Nat.mod_eq_of_lt (by omega), Nat.mod_eq_of_lt (by omega)]
  omega
theorem Reads.cut1 : cut (F := Ideal) x1 (256 * i.val) (128 * h.val) (ix2 r l) = (p (rowT (tile t i) r) (col 512 h l) : EReal) := by
  refine (R.k _ _).trans (congrArg _ (congrArg₂ p (rowT_tile i r _) (Fin.ext ?_)))
  show 512 + (128 * h.val + l.val) % 512 = (512 + 128 * h.val + l.val) % 3600
  rw [Nat.mod_eq_of_lt (by omega), Nat.mod_eq_of_lt (by omega)]
  omega
theorem Reads.cut2 : cut (F := Ideal) x2 (256 * i.val) (128 * h.val) (ix2 r l) = (p (rowT (tile t i) r) (col 1024 h l) : EReal) := by
  refine (R.v _ _).trans (congrArg _ (congrArg₂ p (rowT_tile i r _) (Fin.ext ?_)))
  show 1024 + (128 * h.val + l.val) % 512 = (1024 + 128 * h.val + l.val) % 3600
  rw [Nat.mod_eq_of_lt (by omega), Nat.mod_eq_of_lt (by omega)]
  omega
theorem Reads.qT : qT (F := Ideal) x11 x12 x0 i.val h.val (ix2 r l) = (qry p h (rowT (tile t i) r) l : EReal) := by
  refine (rot_scaled_apply ..).trans ?_
  rw [R.cosT, R.sinT, R.cut0, R.cut0, word_scale, ← EReal.coe_mul, ← EReal.coe_mul, ← EReal.coe_add, ← EReal.coe_mul]
  rfl
theorem Reads.kT : kT (F := Ideal) x11 x12 x1 i.val h.val (ix2 r l) = (key p h (rowT (tile t i) r) l : EReal) := by
  refine (rot_apply ..).trans ?_
  rw [R.cosT, R.sinT, R.cut1, R.cut1, ← EReal.coe_mul, ← EReal.coe_mul, ← EReal.coe_add]
  rfl
theorem Reads.vT : vT (F := Ideal) x2 i.val h.val (ix2 r l) = (vlu p h (rowT (tile t i) r) l : EReal) := by
  refine (val_apply ..).trans ?_
  rw [R.cut2]
  rfl
theorem Reads.down : tab8 (F := Ideal) x10 (4 + h.val) (ix3 0 r l) = ((Real.exp (lg h * (255 - r.val)) : ℝ) : EReal) := by
  refine Eq.trans ?_ (qkd_down h r l)
  rw [← R.dec]
  exact congrArg (fun a => x10 (ix3 a r l)) (Fin.ext (by show (4 + h.val) % 8 = 4 + h.val; omega))
end
omit R
theorem gam_apply (h : Fin 4) (s : FVec Ideal S128x128 .f32) (d e : Fin 128) :
    gam (F := Ideal) h.val s (ix2 d e) = ((base h ^ 256 : ℝ) : EReal) * s (ix2 d e) := by
  match h with
  | 0 =>
    refine congrArg (· * s (ix2 d e)) ((IdealRules.named_const.ideal_named_scalar (κ := κ) (name := "tile_gamma_0") _ _ rfl).trans (congrArg _ ?_))
    norm_num [base]
  | 1 =>
    refine congrArg (· * s (ix2 d e)) ((IdealRules.named_const.ideal_named_scalar (κ := κ) (name := "tile_gamma_1") _ _ rfl).trans (congrArg _ ?_))
    norm_num [base]
  | 2 =>
    refine congrArg (· * s (ix2 d e)) ((IdealRules.named_const.ideal_named_scalar (κ := κ) (name := "tile_gamma_2") _ _ rfl).trans (congrArg _ ?_))
    norm_num [base]
  | 3 =>
    refine congrArg (· * s (ix2 d e)) ((IdealRules.named_const.ideal_named_scalar (κ := κ) (name := "tile_gamma_3") _ _ rfl).trans (congrArg _ ?_))
    norm_num [base]
include R

/-- The state `n` of head `h` at key `d` and value `e`. -/
theorem Reads.upd (i : Fin 2) (h : Fin 4) (s : FVec Ideal S128x128 .f32) (d e : Fin 128)
    (hs : s (ix2 d e) = ((state (lg h) (fun n => key p h n d) (fun n => vlu p h n e) (tile t i).val : ℝ) : EReal)) :
    upd (F := Ideal) x10 x11 x12 x1 x2 i.val h.val s (ix2 d e)
      = ((state (lg h) (fun n => key p h n d) (fun n => vlu p h n e) ((tile t i).val + 1) : ℝ) : EReal) := by
  refine (st_apply ..).trans ?_
  rw [gam_apply, hs]
  simp only [R.kT, R.vT, R.down, ← EReal.coe_mul, sum_coe]
  rw [← EReal.coe_add, state_succ _ _ _ _ (tile t i).isLt, ← exp_lg]
  norm_num

end Cert.MixBlock

end
-- ==== Proof.MixArray.lean ====
/-
  What the launch finds in its arrays.
-/
module

public import proofs.«01_k».proof.Proof.MixHost
public import proofs.«01_k».proof.Proof.MixBlock

@[expose] public section

set_option maxRecDepth 16384

noncomputable section

namespace Cert.MixHost

open Cert.RowMath Cert.MixMath Cert.MixKernelIdeal Cert.MixKernelIdeal.Gen Idealize.ShloMosaic Idealize.ShloMosaic.TcCoe

variable (m : (ℓ : Loc nD τ sig) → Buf (Elt Ideal) ℓ) (c : Dev nD)
abbrev argProj : FVec Ideal S1x8192x3600 .f32 := m ((c : Thread nD τ).loc main_arg0)

set_option maxHeartbeats 2000000 in
theorem V_proj : @Eq (FVec Ideal S8192x3712 .f32) (V m c main_v1) (padded (argProj m c)) := by
  show StableHlo.after _ _ _ = _
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append, StableHlo.after_cons, StableHlo.after_nil]
  after_results_simp
  (try rfl)
set_option maxHeartbeats 2000000 in
theorem V_qkd : @Eq (FVec Ideal S8x256x128 .f32) (V m c main_v91) (qkdT) := by
  show StableHlo.after _ _ _ = _
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append, StableHlo.after_cons, StableHlo.after_nil]
  after_results_simp
  (try rfl)
set_option maxHeartbeats 2000000 in
theorem V_rotIn : @Eq (FVec Ideal S4x256x128 .f32) (V m c main_v123) (rotIn (off inv)) := by
  show StableHlo.after _ _ _ = _
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append, StableHlo.after_cons, StableHlo.after_nil]
  after_results_simp
  (try rfl)
set_option maxHeartbeats 2000000 in
theorem V_rotTile : @Eq (FVec Ideal S32x8x256 .f32) (V m c main_v128) (rotTile (start inv)) := by
  show StableHlo.after _ _ _ = _
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append, StableHlo.after_cons, StableHlo.after_nil]
  after_results_simp
  (try rfl)
end Cert.MixHost

end
-- ==== Proof.MixState.lean ====
/-
  What each grid point of the mixer reads and leaves, over the reals.
-/
module

public import proofs.«01_k».proof.Proof.MixPay
public import proofs.«01_k».proof.Proof.MixArray

@[expose] public section

set_option maxRecDepth 16384

noncomputable section

namespace Cert.MixBlock

open Cert.RowMath Cert.MixMath Cert.MixHost Cert.MixKernelIdeal Cert.MixKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- One device's projections are these reals. -/
def Of (p : Fin 8192 → Fin 3600 → ℝ) : Prop := ∀ n k, argProj m c (ix3 0 n k) = (p n k : EReal)

variable {p : Fin 8192 → Fin 3600 → ℝ} (H : Of m c p) (t : Fin cfg0.N)

/-- The point, as one of sixteen. -/
abbrev pt : Fin 16 := ⟨t.val, lt_of_lt_of_eq t.isLt (show cfg0.N = 16 from N_0)⟩

abbrev bQ : FVec Ideal S512x512 .f32 := X0_0 m c t
abbrev bK : FVec Ideal S512x512 .f32 := X0_1 m c t
abbrev bV : FVec Ideal S512x512 .f32 := X0_2 m c t
abbrev bDec : FVec Ideal S8x256x128 .f32 := iblk m c 10 t
abbrev bIn : FVec Ideal S4x256x128 .f32 := iblk m c 11 t
abbrev bTile : FVec Ideal S2x8x256 .f32 := iblk m c 12 t

theorem idx0 : win0_0.index t 0 = t.val ∧ win0_0.index t 1 = 0 := (by decide +kernel : ∀ t : Fin grid0.N, win0_0.index t 0 = t.val ∧ win0_0.index t 1 = 0) t
theorem blk0 (r : Fin 512) (l : Fin 512) : bQ m c t (ix2 r l) = padded (argProj m c) (ix2 (row16 (pt t) r) ⟨0 + l.val, by omega⟩) := by
  rw [← V_proj]
  unfold bQ X0_0 Pipeline.Window.fill
  rw [dif_pos (moved0_0 t _)]
  unfold iblk
  rw [View.read_apply]
  show V m c main_v1 _ = V m c main_v1 _
  congr 1
  funext a
  apply Fin.ext
  match a with
  | ⟨0, _⟩ => show win0_0.index t 0 * 512 + 1 * r.val = 512 * t.val + r.val; rw [(idx0 t).1]; omega
  | ⟨1, _⟩ => show win0_0.index t 1 * 512 + 1 * l.val = 0 + l.val; rw [(idx0 t).2]; omega
theorem idx1 : win0_1.index t 0 = t.val ∧ win0_1.index t 1 = 1 := (by decide +kernel : ∀ t : Fin grid0.N, win0_1.index t 0 = t.val ∧ win0_1.index t 1 = 1) t
theorem blk1 (r : Fin 512) (l : Fin 512) : bK m c t (ix2 r l) = padded (argProj m c) (ix2 (row16 (pt t) r) ⟨512 + l.val, by omega⟩) := by
  rw [← V_proj]
  unfold bK X0_1 Pipeline.Window.fill
  rw [dif_pos (moved0_1 t _)]
  unfold iblk
  rw [View.read_apply]
  show V m c main_v1 _ = V m c main_v1 _
  congr 1
  funext a
  apply Fin.ext
  match a with
  | ⟨0, _⟩ => show win0_1.index t 0 * 512 + 1 * r.val = 512 * t.val + r.val; rw [(idx1 t).1]; omega
  | ⟨1, _⟩ => show win0_1.index t 1 * 512 + 1 * l.val = 512 + l.val; rw [(idx1 t).2]; omega
theorem idx2 : win0_2.index t 0 = t.val ∧ win0_2.index t 1 = 2 := (by decide +kernel : ∀ t : Fin grid0.N, win0_2.index t 0 = t.val ∧ win0_2.index t 1 = 2) t
theorem blk2 (r : Fin 512) (l : Fin 512) : bV m c t (ix2 r l) = padded (argProj m c) (ix2 (row16 (pt t) r) ⟨1024 + l.val, by omega⟩) := by
  rw [← V_proj]
  unfold bV X0_2 Pipeline.Window.fill
  rw [dif_pos (moved0_2 t _)]
  unfold iblk
  rw [View.read_apply]
  show V m c main_v1 _ = V m c main_v1 _
  congr 1
  funext a
  apply Fin.ext
  match a with
  | ⟨0, _⟩ => show win0_2.index t 0 * 512 + 1 * r.val = 512 * t.val + r.val; rw [(idx2 t).1]; omega
  | ⟨1, _⟩ => show win0_2.index t 1 * 512 + 1 * l.val = 1024 + l.val; rw [(idx2 t).2]; omega
theorem idx10 : win0_10.index t 0 = 0 ∧ win0_10.index t 1 = 0 ∧ win0_10.index t 2 = 0 := (by decide +kernel : ∀ t : Fin grid0.N, win0_10.index t 0 = 0 ∧ win0_10.index t 1 = 0 ∧ win0_10.index t 2 = 0) t
theorem blk10 : bDec m c t = qkdT := by
  rw [← V_qkd m c]
  unfold bDec iblk
  funext y
  rw [View.read_apply]
  show V m c main_v91 _ = V m c main_v91 _
  congr 1
  funext a
  apply Fin.ext
  match a with
  | ⟨0, _⟩ => show win0_10.index t 0 * 8 + 1 * (y 0).val = (y 0).val; rw [(idx10 t).1]; omega
  | ⟨1, _⟩ => show win0_10.index t 1 * 256 + 1 * (y 1).val = (y 1).val; rw [(idx10 t).2.1]; omega
  | ⟨2, _⟩ => show win0_10.index t 2 * 128 + 1 * (y 2).val = (y 2).val; rw [(idx10 t).2.2]; omega
theorem idx11 : win0_11.index t 0 = 0 ∧ win0_11.index t 1 = 0 ∧ win0_11.index t 2 = 0 := (by decide +kernel : ∀ t : Fin grid0.N, win0_11.index t 0 = 0 ∧ win0_11.index t 1 = 0 ∧ win0_11.index t 2 = 0) t
theorem blk11 : bIn m c t = rotIn (off inv) := by
  rw [← V_rotIn m c]
  unfold bIn iblk
  funext y
  rw [View.read_apply]
  show V m c main_v123 _ = V m c main_v123 _
  congr 1
  funext a
  apply Fin.ext
  match a with
  | ⟨0, _⟩ => show win0_11.index t 0 * 4 + 1 * (y 0).val = (y 0).val; rw [(idx11 t).1]; omega
  | ⟨1, _⟩ => show win0_11.index t 1 * 256 + 1 * (y 1).val = (y 1).val; rw [(idx11 t).2.1]; omega
  | ⟨2, _⟩ => show win0_11.index t 2 * 128 + 1 * (y 2).val = (y 2).val; rw [(idx11 t).2.2]; omega
theorem idx12 : win0_12.index t 0 = t.val ∧ win0_12.index t 1 = 0 ∧ win0_12.index t 2 = 0 := (by decide +kernel : ∀ t : Fin grid0.N, win0_12.index t 0 = t.val ∧ win0_12.index t 1 = 0 ∧ win0_12.index t 2 = 0) t
theorem blk12 (i : Fin 2) (z : Fin 8) (l : Fin 256) : bTile m c t (ix3 i z l) = rotTile (start inv) (ix3 (tile (pt t) i) z l) := by
  rw [← V_rotTile m c]
  unfold bTile iblk
  rw [View.read_apply]
  show V m c main_v128 _ = V m c main_v128 _
  congr 1
  funext a
  apply Fin.ext
  match a with
  | ⟨0, _⟩ => show win0_12.index t 0 * 2 + 1 * i.val = 2 * t.val + i.val; rw [(idx12 t).1]; omega
  | ⟨1, _⟩ => show win0_12.index t 1 * 8 + 1 * z.val = z.val; rw [(idx12 t).2.1]; omega
  | ⟨2, _⟩ => show win0_12.index t 2 * 256 + 1 * l.val = l.val; rw [(idx12 t).2.2]; omega

include H in
/-- What point `t` reads. -/
theorem reads : Reads p (pt t) (bQ m c t) (bK m c t) (bV m c t) (bDec m c t) (bIn m c t) (bTile m c t) where
  q r l := by
    rw [blk0, padded_apply _ _ _ (show 0 + l.val < 3600 by omega), H]
    exact congrArg (fun z => ((p _ z : ℝ) : EReal)) (Fin.ext (Nat.zero_add _))
  k r l := by
    rw [blk1, padded_apply _ _ _ (show 512 + l.val < 3600 by omega), H]
  v r l := by
    rw [blk2, padded_apply _ _ _ (show 1024 + l.val < 3600 by omega), H]
  dec := blk10 m c t
  rin := blk11 m c t
  rti i l := blk12 m c t i 0 l

/-- The rows of one head in a block of the states. -/
abbrev rowH (h : Fin 4) (d : Fin 128) : Fin 512 := ⟨128 * h.val + d.val, by omega⟩
/-- The rows of one tile in a block. -/
abbrev rowB (i : Fin 2) (r : Fin 256) : Fin 512 := ⟨256 * i.val + r.val, by omega⟩
theorem heads_apply {α : Type} (f : ℕ → S128x128.Idx → α) (h : Fin 4) (d e : Fin 128) : heads f (ix2 (rowH h d) e) = f h.val (ix2 d e) := by
  show f ((128 * h.val + d.val) / 128) (ix2 ⟨(128 * h.val + d.val) % 128, _⟩ e) = _
  have e1 : (128 * h.val + d.val) / 128 = h.val := by omega
  have e2 : (⟨(128 * h.val + d.val) % 128, Nat.mod_lt _ (by norm_num)⟩ : Fin 128) = d := Fin.ext (by show (128 * h.val + d.val) % 128 = d.val; omega)
  rw [e1, e2]
theorem slabs_apply {α : Type} (f : ℕ → ℕ → S128x128.Idx → α) (i : Fin 2) (h : Fin 4) (d e : Fin 128) :
    slabs f (ix3 i (rowH h d) e) = f i.val h.val (ix2 d e) := heads_apply (f i.val) h d e
theorem tiles_apply {α : Type} (f : ℕ → ℕ → S256x128.Idx → α) (i : Fin 2) (h : Fin 4) (r : Fin 256) (l : Fin 128) :
    tiles f (ix2 (rowB i r) (rowH h l)) = f i.val h.val (ix2 r l) := by
  show f ((256 * i.val + r.val) / 256) ((128 * h.val + l.val) / 128) (ix2 ⟨(256 * i.val + r.val) % 256, _⟩ ⟨(128 * h.val + l.val) % 128, _⟩) = _
  have e1 : (128 * h.val + l.val) / 128 = h.val := by omega
  have e2 : (⟨(128 * h.val + l.val) % 128, Nat.mod_lt _ (by norm_num)⟩ : Fin 128) = l := Fin.ext (by show (128 * h.val + l.val) % 128 = l.val; omega)
  have e3 : (256 * i.val + r.val) / 256 = i.val := by omega
  have e4 : (⟨(256 * i.val + r.val) % 256, Nat.mod_lt _ (by norm_num)⟩ : Fin 256) = r := Fin.ext (by show (256 * i.val + r.val) % 256 = r.val; omega)
  rw [e1, e2, e3, e4]
theorem rows_apply (z : FVec Ideal S512x128 .f32) (h : Fin 4) (d e : Fin 128) : rows (F := Ideal) z (128 * h.val) (ix2 d e) = z (ix2 (rowH h d) e) :=
  congrArg (fun a => z (ix2 a e)) (Fin.ext (by show (128 * h.val + d.val) % 512 = 128 * h.val + d.val; omega))

/-- The state before tile `n`, from the projections. -/
def stp (p : Fin 8192 → Fin 3600 → ℝ) (h : Fin 4) (d e : Fin 128) (n : ℕ) : ℝ := state (lg h) (fun n => key p h n d) (fun n => vlu p h n e) n

include H in
/-- The states at the start of either tile of a block, from the state at its start. -/
theorem atT_apply (z : FVec Ideal S512x128 .f32) (hz : ∀ h d e, z (ix2 (rowH h d) e) = ((stp p h d e (2 * t.val) : ℝ) : EReal)) (i : Fin 2) (h : Fin 4) (d e : Fin 128) :
    atT (F := Ideal) (bDec m c t) (bIn m c t) (bTile m c t) (bK m c t) (bV m c t) z i.val h.val (ix2 d e) = ((stp p h d e (2 * t.val + i.val) : ℝ) : EReal) := by
  match i with
  | 0 => exact (rows_apply z h d e).trans (hz h d e)
  | 1 => exact (reads m c H t).upd 0 h _ d e ((rows_apply z h d e).trans (hz h d e))

include H in
theorem upd_apply (z : FVec Ideal S512x128 .f32) (hz : ∀ h d e, z (ix2 (rowH h d) e) = ((stp p h d e (2 * t.val) : ℝ) : EReal)) (h : Fin 4) (d e : Fin 128) :
    upd (F := Ideal) (bDec m c t) (bIn m c t) (bTile m c t) (bK m c t) (bV m c t) 1 h.val
      (atT (F := Ideal) (bDec m c t) (bIn m c t) (bTile m c t) (bK m c t) (bV m c t) z 1 h.val) (ix2 d e) = ((stp p h d e (2 * t.val + 2) : ℝ) : EReal) :=
  (reads m c H t).upd 1 h _ d e (atT_apply m c H t z hz 1 h d e)

theorem zero_apply (h : Fin 4) (d e : Fin 128) : k0_pay2 (F := Ideal) (ix2 (rowH h d) e) = ((stp p h d e 0 : ℝ) : EReal) := by
  rw [stp, state_zero]
  pointwise [k0_pay2]
  rfl

set_option maxHeartbeats 1000000 in  -- a tuple of eight long terms is read at one of them
theorem scr_first (h0 : t.val % 16 = 0) (y) : (outsAt0 m c t.val t.isLt).2.2.2.2.2.2.1 y
    = heads (fun h => upd (F := Ideal) (bDec m c t) (bIn m c t) (bTile m c t) (bK m c t) (bV m c t) 1 h
      (atT (F := Ideal) (bDec m c t) (bIn m c t) (bTile m c t) (bK m c t) (bV m c t) (k0_pay2 (F := Ideal)) 1 h)) y := by
  rw [outsAt0_A m c t h0]
  dsimp only
  exact scr_A (F := Ideal) ..
set_option maxHeartbeats 1000000 in
theorem scr_later (h0 : ¬t.val % 16 = 0) (y) : (outsAt0 m c t.val t.isLt).2.2.2.2.2.2.1 y
    = heads (fun h => upd (F := Ideal) (bDec m c t) (bIn m c t) (bTile m c t) (bK m c t) (bV m c t) 1 h
      (atT (F := Ideal) (bDec m c t) (bIn m c t) (bTile m c t) (bK m c t) (bV m c t)
        (outsAt0 m c (t.val - 1) (Nat.lt_of_le_of_lt (Nat.sub_le _ _) t.isLt)).2.2.2.2.2.2.1 1 h)) y := by
  rw [outsAt0_B m c t h0]
  dsimp only
  exact scr_B (F := Ideal) ..
set_option maxHeartbeats 1000000 in
theorem rst_first (h0 : t.val % 16 = 0) (y) : (outsAt0 m c t.val t.isLt).2.2.2.2.1 y
    = slabs (atT (F := Ideal) (bDec m c t) (bIn m c t) (bTile m c t) (bK m c t) (bV m c t) (k0_pay2 (F := Ideal))) y := by
  rw [outsAt0_A m c t h0]
  dsimp only
  exact blk21_A (F := Ideal) ..
set_option maxHeartbeats 1000000 in
theorem rst_later (h0 : ¬t.val % 16 = 0) (y) : (outsAt0 m c t.val t.isLt).2.2.2.2.1 y
    = slabs (atT (F := Ideal) (bDec m c t) (bIn m c t) (bTile m c t) (bK m c t) (bV m c t)
        (outsAt0 m c (t.val - 1) (Nat.lt_of_le_of_lt (Nat.sub_le _ _) t.isLt)).2.2.2.2.2.2.1) y := by
  rw [outsAt0_B m c t h0]
  dsimp only
  exact blk21_B (F := Ideal) ..
set_option maxHeartbeats 1000000 in
theorem qrb_first (h0 : t.val % 16 = 0) (y) : (outsAt0 m c t.val t.isLt).2.2.1 y = tiles (qT (F := Ideal) (bIn m c t) (bTile m c t) (bQ m c t)) y := by
  rw [outsAt0_A m c t h0]
  dsimp only
  exact blk19_A (F := Ideal) ..
set_option maxHeartbeats 1000000 in
theorem qrb_later (h0 : ¬t.val % 16 = 0) (y) : (outsAt0 m c t.val t.isLt).2.2.1 y = tiles (qT (F := Ideal) (bIn m c t) (bTile m c t) (bQ m c t)) y := by
  rw [outsAt0_B m c t h0]
  dsimp only
  exact blk19_B (F := Ideal) ..
set_option maxHeartbeats 1000000 in
theorem krb_first (h0 : t.val % 16 = 0) (y) : (outsAt0 m c t.val t.isLt).2.2.2.1 y = tiles (fun i h => k0_pay22 (F := Ideal) (cosT (F := Ideal) (bIn m c t) (bTile m c t) i) (sinT (F := Ideal) (bIn m c t) (bTile m c t) i) (cut (F := Ideal) (bK m c t) (256 * i) (128 * h))) y := by
  rw [outsAt0_A m c t h0]
  dsimp only
  exact blk20_A (F := Ideal) ..
set_option maxHeartbeats 1000000 in
theorem krb_later (h0 : ¬t.val % 16 = 0) (y) : (outsAt0 m c t.val t.isLt).2.2.2.1 y = tiles (fun i h => k0_pay22 (F := Ideal) (cosT (F := Ideal) (bIn m c t) (bTile m c t) i) (sinT (F := Ideal) (bIn m c t) (bTile m c t) i) (cut (F := Ideal) (bK m c t) (256 * i) (128 * h))) y := by
  rw [outsAt0_B m c t h0]
  dsimp only
  exact blk20_B (F := Ideal) ..

include H in
/-- After point `n` the scratch buffer holds the states before the next block. -/
theorem scr_all (n : ℕ) (hn : n < cfg0.N) (h : Fin 4) (d e : Fin 128) :
    (outsAt0 m c n hn).2.2.2.2.2.2.1 (ix2 (rowH h d) e) = ((stp p h d e (2 * n + 2) : ℝ) : EReal) := by
  have hN := lt_of_lt_of_eq hn (show cfg0.N = 16 from N_0)
  induction n generalizing h d e with
  | zero => exact (scr_first m c ⟨0, hn⟩ rfl _).trans ((heads_apply _ h d e).trans (upd_apply m c H ⟨0, hn⟩ _ (fun h d e => zero_apply h d e) h d e))
  | succ n ih =>
    exact (scr_later m c ⟨n + 1, hn⟩ (show ¬ (n + 1) % 16 = 0 by omega) _).trans ((heads_apply _ h d e).trans
      (upd_apply m c H ⟨n + 1, hn⟩ _ (fun h d e => ih (by omega) h d e (by omega)) h d e))
include H in
theorem rst_all (i : Fin 2) (h : Fin 4) (d e : Fin 128) :
    (outsAt0 m c t.val t.isLt).2.2.2.2.1 (ix3 i (rowH h d) e) = ((stp p h d e (2 * t.val + i.val) : ℝ) : EReal) := by
  have hN := lt_of_lt_of_eq t.isLt (show cfg0.N = 16 from N_0)
  by_cases h0 : t.val % 16 = 0
  · refine (rst_first m c t h0 _).trans ((slabs_apply _ i h d e).trans (atT_apply m c H t _ (fun h d e => ?_) i h d e))
    rw [show t.val = 0 by omega]
    exact zero_apply h d e
  · refine (rst_later m c t h0 _).trans ((slabs_apply _ i h d e).trans (atT_apply m c H t _ (fun h d e => ?_) i h d e))
    rw [scr_all m c H]
    exact congrArg (fun n => ((stp p h d e n : ℝ) : EReal)) (by omega)
include H in
theorem qrb_all (i : Fin 2) (h : Fin 4) (r : Fin 256) (l : Fin 128) :
    (outsAt0 m c t.val t.isLt).2.2.1 (ix2 (rowB i r) (rowH h l)) = (qry p h (rowT (tile (pt t) i) r) l : EReal) := by
  by_cases h0 : t.val % 16 = 0
  · exact (qrb_first m c t h0 _).trans ((tiles_apply _ i h r l).trans ((reads m c H t).qT i h r l))
  · exact (qrb_later m c t h0 _).trans ((tiles_apply _ i h r l).trans ((reads m c H t).qT i h r l))
include H in
theorem krb_all (i : Fin 2) (h : Fin 4) (r : Fin 256) (l : Fin 128) :
    (outsAt0 m c t.val t.isLt).2.2.2.1 (ix2 (rowB i r) (rowH h l)) = (key p h (rowT (tile (pt t) i) r) l : EReal) := by
  by_cases h0 : t.val % 16 = 0
  · exact (krb_first m c t h0 _).trans ((tiles_apply _ i h r l).trans ((reads m c H t).kT i h r l))
  · exact (krb_later m c t h0 _).trans ((tiles_apply _ i h r l).trans ((reads m c H t).kT i h r l))

end Cert.MixBlock

end
-- ==== Proof.MixGla.lean ====
/-
  The sums of the mixer over the reals: retention and gated linear attention of one row as a sum over all
  rows, and the same sum as the rows of its tile and a state carried from the tiles before.
-/
module

public import proofs.«01_k».proof.Proof.MixMath

@[expose] public section

noncomputable section

namespace Cert.MixMath

/-- A sum over the rows in which those past tile `T` count nothing: the rows before the tile, and the tile. -/
theorem split_tile {M : Type} [AddCommMonoid M] (n w N T : ℕ) (e : N = n * w) (hT : T < n) (hN : w * T + w ≤ N) (f : Fin N → M)
    (h0 : ∀ s : Fin N, w * T + w ≤ s.val → f s = 0) :
    ∑ s, f s = (∑ s : Fin N, if s.val < w * T then f s else 0) + ∑ r : Fin w, f ⟨w * T + r.val, by omega⟩ := by
  have single : ∑ r : Fin w, f ⟨w * T + r.val, by omega⟩ = ∑ s : Fin N, if w * T ≤ s.val ∧ s.val < w * T + w then f s else 0 := by
    rw [← Finset.sum_filter]
    refine Finset.sum_bij (fun r _ => ⟨w * T + r.val, by omega⟩) (fun r _ => ?_) (fun r _ r' _ h => ?_) (fun s hs => ?_) (fun r _ => rfl)
    · rw [Finset.mem_filter]
      exact ⟨Finset.mem_univ _, by show w * T ≤ w * T + r.val ∧ w * T + r.val < w * T + w; omega⟩
    · have := congrArg Fin.val h
      exact Fin.ext (by simpa using this)
    · rw [Finset.mem_filter] at hs
      exact ⟨⟨s.val - w * T, by omega⟩, Finset.mem_univ _, Fin.ext (by show w * T + (s.val - w * T) = s.val; omega)⟩
  rw [single, ← Finset.sum_add_distrib]
  refine Finset.sum_congr rfl fun s _ => ?_
  by_cases h1 : s.val < w * T
  · rw [if_pos h1, if_neg (by omega), add_zero]
  · by_cases h2 : s.val < w * T + w
    · rw [if_neg h1, if_pos ⟨by omega, h2⟩, zero_add]
    · rw [if_neg h1, if_neg (by omega), h0 s (by omega), add_zero]

/-- The weight of row `s` in row `n`. -/
def wt (a : ℝ) (n s : ℕ) : ℝ := if s / 64 ≤ n / 64 then Real.exp (a * |(n : ℝ) - s|) else 0

theorem wt_shift (a : ℝ) (T n s : ℕ) : wt a (256 * T + n) (256 * T + s) = wt a n s := by
  unfold wt
  have e : (((256 * T + n : ℕ) : ℝ) - ((256 * T + s : ℕ) : ℝ)) = (n : ℝ) - s := by push_cast; ring
  rw [e]
  exact if_congr (by omega) rfl rfl

/-- Retention of one row. -/
def retO (a : ℝ) (q : Fin 128 → ℝ) (k : Fin 8192 → Fin 128 → ℝ) (v : Fin 8192 → ℝ) (n : Fin 8192) : ℝ :=
  ∑ s : Fin 8192, (∑ d, q d * k s d) * wt a n.val s.val * v s

theorem retO_tile (a : ℝ) (q : Fin 128 → ℝ) (k : Fin 8192 → Fin 128 → ℝ) (v : Fin 8192 → ℝ) (T : ℕ) (hT : T < 32) (r : Fin 256) :
    retO a q k v ⟨256 * T + r.val, by omega⟩
      = (∑ r' : Fin 256, (∑ d, q d * k ⟨256 * T + r'.val, by omega⟩ d) * wt a r.val r'.val * v ⟨256 * T + r'.val, by omega⟩)
        + ∑ d, q d * Real.exp (a * (r.val + 1)) * state a (fun s => k s d) v T := by
  unfold retO
  rw [split_tile 32 256 8192 T rfl hT (by omega) _ fun s hs => ?_]
  · rw [add_comm]
    refine congrArg₂ (· + ·) ?_ ?_
    · exact Finset.sum_congr rfl fun r' _ => by rw [wt_shift]
    · unfold state
      simp only [Finset.mul_sum]
      rw [Finset.sum_comm]
      refine Finset.sum_congr rfl fun s _ => ?_
      by_cases h : s.val < 256 * T
      · simp only [if_pos h, Finset.sum_mul]
        refine Finset.sum_congr rfl fun d _ => ?_
        have c : s.val / 64 ≤ (256 * T + r.val) / 64 := by omega
        unfold wt
        rw [if_pos c]
        have hle : (s.val : ℝ) ≤ ((256 * T + r.val : ℕ) : ℝ) := by exact_mod_cast (by omega : s.val ≤ 256 * T + r.val)
        rw [abs_of_nonneg (by linarith)]
        have e : a * (((256 * T + r.val : ℕ) : ℝ) - s.val) = a * (r.val + 1) + a * (256 * T - 1 - s.val) := by push_cast; ring
        rw [e, Real.exp_add]
        ring
      · simp only [if_neg h]
        simp
  · unfold wt
    rw [if_neg (by show ¬ s.val / 64 ≤ (256 * T + r.val) / 64; omega)]
    simp

/-- What the rows before row `n` add up to. -/
def upto (x : Fin 8192 → ℝ) (n : ℕ) : ℝ := ∑ s : Fin 8192, if s.val < n then x s else 0

theorem upto_succ (x : Fin 8192 → ℝ) (n : ℕ) (hn : n < 8192) : upto x (n + 1) = upto x n + x ⟨n, hn⟩ := by
  unfold upto
  have single : x ⟨n, hn⟩ = ∑ s : Fin 8192, if s = ⟨n, hn⟩ then x s else 0 := by
    rw [Finset.sum_ite_eq' Finset.univ (⟨n, hn⟩ : Fin 8192), if_pos (Finset.mem_univ _)]
  rw [single, ← Finset.sum_add_distrib]
  refine Finset.sum_congr rfl fun s _ => ?_
  by_cases h : s = ⟨n, hn⟩
  · subst h
    simp
  · have hne : s.val ≠ n := fun e => h (Fin.ext e)
    rw [if_neg h, add_zero]
    exact if_congr (by omega) rfl rfl

theorem upto_range (x : Fin 8192 → ℝ) (hx : ∀ s, x s ≤ 0) (hb : ∀ s, -(5 / 4) ≤ x s) (m k : ℕ) (h : m + k ≤ 8192) :
    upto x (m + k) ≤ upto x m ∧ upto x m - 5 / 4 * k ≤ upto x (m + k) := by
  induction k with
  | zero => simp
  | succ k ih =>
    obtain ⟨h1, h2⟩ := ih (by omega)
    have e : upto x (m + (k + 1)) = upto x (m + k) + x ⟨m + k, by omega⟩ := upto_succ x (m + k) (by omega)
    have := hx ⟨m + k, by omega⟩
    have := hb ⟨m + k, by omega⟩
    rw [e]
    push_cast
    constructor <;> linarith

/-- The cumulative gate inside tile `j`. -/
def inB (x : Fin 8192 → ℝ) (j r : ℕ) : ℝ := upto x (128 * j + r + 1) - upto x (128 * j)

theorem inB_sum (x : Fin 8192 → ℝ) (j : ℕ) (hj : j < 64) (r : Fin 128) :
    ∑ r' : Fin 128, (if r'.val ≤ r.val then 1 else 0) * x ⟨128 * j + r'.val, by omega⟩ = inB x j r.val := by
  unfold inB upto
  rw [split_tile 64 128 8192 j rfl hj (by omega) (fun s => if s.val < 128 * j + r.val + 1 then x s else 0) fun s hs => if_neg (by omega)]
  have e : ∀ s : Fin 8192, (if s.val < 128 * j then (if s.val < 128 * j + r.val + 1 then x s else 0) else 0) = if s.val < 128 * j then x s else 0 := by
    intro s
    by_cases h : s.val < 128 * j
    · rw [if_pos h, if_pos h, if_pos (by omega)]
    · rw [if_neg h, if_neg h]
  simp only [e]
  rw [add_sub_cancel_left]
  refine Finset.sum_congr rfl fun r' _ => ?_
  show _ = if 128 * j + r'.val < 128 * j + r.val + 1 then _ else _
  by_cases h : r'.val ≤ r.val
  · rw [if_pos h, if_pos (by omega), one_mul]
  · rw [if_neg h, if_neg (by omega), zero_mul]

section
variable (x : Fin 8192 → ℝ) (hx : ∀ s, x s ≤ 0) (hb : ∀ s, -(5 / 4) ≤ x s)
include hx hb
theorem upto_anti (m n : ℕ) (h : m ≤ n) (hn : n ≤ 8192) : upto x n ≤ upto x m := by
  have := (upto_range x hx hb m (n - m) (by omega)).1
  rwa [show m + (n - m) = n by omega] at this
theorem inB_anti (j : ℕ) (hj : j < 64) (r r' : Fin 128) (h : r'.val ≤ r.val) : inB x j r.val ≤ inB x j r'.val := by
  have := upto_anti x hx hb (128 * j + r'.val + 1) (128 * j + r.val + 1) (by omega) (by omega)
  unfold inB
  linarith
/-- Inside a tile the cumulative gate stays within 80 of its middle. -/
theorem inB_mid (j : ℕ) (hj : j < 64) (r : Fin 128) : -80 ≤ inB x j r.val - inB x j 63 ∧ inB x j r.val - inB x j 63 ≤ 80 := by
  unfold inB
  by_cases h : r.val ≤ 63
  · have := upto_range x hx hb (128 * j + r.val + 1) (63 - r.val) (by omega)
    rw [show 128 * j + r.val + 1 + (63 - r.val) = 128 * j + 63 + 1 by omega] at this
    have c : ((63 - r.val : ℕ) : ℝ) ≤ 64 := by exact_mod_cast (by omega : 63 - r.val ≤ 64)
    constructor <;> linarith [this.1, this.2]
  · have := upto_range x hx hb (128 * j + 63 + 1) (r.val - 63) (by omega)
    rw [show 128 * j + 63 + 1 + (r.val - 63) = 128 * j + r.val + 1 by omega] at this
    have c : ((r.val - 63 : ℕ) : ℝ) ≤ 64 := by exact_mod_cast (by omega : r.val - 63 ≤ 64)
    constructor <;> linarith [this.1, this.2]
end

/-- The state of gated linear attention before tile `j`. -/
def glaS (k v x : Fin 8192 → ℝ) (j : ℕ) : ℝ :=
  ∑ s : Fin 8192, (if s.val < 128 * j then Real.exp (upto x (128 * j) - upto x (s.val + 1)) else 0) * k s * v s

theorem glaS_zero (k v x : Fin 8192 → ℝ) : glaS k v x 0 = 0 := Finset.sum_eq_zero fun s _ => by simp

theorem glaS_succ (k v x : Fin 8192 → ℝ) (j : ℕ) (hj : j < 64) :
    glaS k v x (j + 1) = glaS k v x j * Real.exp (inB x j 127)
      + ∑ r : Fin 128, v ⟨128 * j + r.val, by omega⟩ * (k ⟨128 * j + r.val, by omega⟩ * Real.exp (inB x j 127 - inB x j r.val)) := by
  unfold glaS
  rw [split_tile 64 128 8192 j rfl hj (by omega) _ fun s hs => by rw [if_neg (by omega)]; ring, Finset.sum_mul]
  refine congrArg₂ (· + ·) ?_ ?_
  · refine Finset.sum_congr rfl fun s _ => ?_
    by_cases h : s.val < 128 * j
    · rw [if_pos h, if_pos h, if_pos (by omega)]
      have e : upto x (128 * (j + 1)) - upto x (s.val + 1) = (upto x (128 * j) - upto x (s.val + 1)) + inB x j 127 := by
        unfold inB
        rw [show 128 * j + 127 + 1 = 128 * (j + 1) by omega]
        ring
      rw [e, Real.exp_add]
      ring
    · rw [if_neg h, if_neg h]
      ring
  · refine Finset.sum_congr rfl fun r _ => ?_
    have h : 128 * j + r.val < 128 * (j + 1) := by omega
    simp only [h, if_true]
    have e : upto x (128 * (j + 1)) - upto x (128 * j + r.val + 1) = inB x j 127 - inB x j r.val := by
      unfold inB
      rw [show 128 * j + 127 + 1 = 128 * (j + 1) by omega]
      ring
    rw [e]
    ring

/-- Gated linear attention of one row. -/
def glaO (q : Fin 64 → ℝ) (k : Fin 8192 → Fin 64 → ℝ) (v : Fin 8192 → ℝ) (x : Fin 64 → Fin 8192 → ℝ) (n : Fin 8192) : ℝ :=
  ∑ s : Fin 8192, (if s.val / 64 ≤ n.val / 64 then ∑ d, q d * k s d * Real.exp (-|upto (x d) (n.val + 1) - upto (x d) (s.val + 1)|) else 0) * v s

theorem glaO_tile (q : Fin 64 → ℝ) (k : Fin 8192 → Fin 64 → ℝ) (v : Fin 8192 → ℝ) (x : Fin 64 → Fin 8192 → ℝ)
    (hx : ∀ d s, x d s ≤ 0) (hb : ∀ d s, -(5 / 4) ≤ x d s) (j : ℕ) (hj : j < 64) (r : Fin 128) :
    glaO q k v x ⟨128 * j + r.val, by omega⟩
      = (∑ r' : Fin 128, (if r'.val ≤ r.val then ∑ d, q d * Real.exp (inB (x d) j r.val - inB (x d) j 63) * (k ⟨128 * j + r'.val, by omega⟩ d * Real.exp (inB (x d) j 63 - inB (x d) j r'.val))
          else if r'.val / 64 = r.val / 64 then ∑ d, q d * Real.exp (inB (x d) j 63 - inB (x d) j r.val) * (k ⟨128 * j + r'.val, by omega⟩ d * Real.exp (inB (x d) j r'.val - inB (x d) j 63))
          else 0) * v ⟨128 * j + r'.val, by omega⟩)
        + ∑ d, q d * Real.exp (inB (x d) j r.val) * glaS (fun s => k s d) v (x d) j := by
  unfold glaO
  rw [split_tile 64 128 8192 j rfl hj (by omega) _ fun s hs => by rw [if_neg (by show ¬ s.val / 64 ≤ (128 * j + r.val) / 64; omega), zero_mul], add_comm]
  refine congrArg₂ (· + ·) ?_ ?_
  · refine Finset.sum_congr rfl fun r' _ => congrArg (· * _) ?_
    show (if (128 * j + r'.val) / 64 ≤ (128 * j + r.val) / 64 then ∑ d, q d * k _ d * Real.exp (-|upto (x d) (128 * j + r.val + 1) - upto (x d) (128 * j + r'.val + 1)|) else 0) = _
    have e : ∀ d, upto (x d) (128 * j + r.val + 1) - upto (x d) (128 * j + r'.val + 1) = inB (x d) j r.val - inB (x d) j r'.val := fun d => by unfold inB; ring
    simp only [e]
    by_cases h : r'.val ≤ r.val
    · rw [if_pos h, if_pos (by omega)]
      refine Finset.sum_congr rfl fun d _ => ?_
      rw [abs_of_nonpos (by linarith [inB_anti (x d) (hx d) (hb d) j hj r r' h]), neg_neg]
      rw [show inB (x d) j r.val - inB (x d) j r'.val = (inB (x d) j r.val - inB (x d) j 63) + (inB (x d) j 63 - inB (x d) j r'.val) by ring, Real.exp_add]
      ring
    · rw [if_neg h]
      by_cases h2 : r'.val / 64 = r.val / 64
      · rw [if_pos h2, if_pos (by omega)]
        refine Finset.sum_congr rfl fun d _ => ?_
        rw [abs_of_nonneg (by linarith [inB_anti (x d) (hx d) (hb d) j hj r' r (by omega)])]
        rw [show -(inB (x d) j r.val - inB (x d) j r'.val) = (inB (x d) j 63 - inB (x d) j r.val) + (inB (x d) j r'.val - inB (x d) j 63) by ring, Real.exp_add]
        ring
      · rw [if_neg h2, if_neg (by omega)]
  · unfold glaS
    simp only [Finset.mul_sum]
    rw [Finset.sum_comm]
    refine Finset.sum_congr rfl fun s _ => ?_
    by_cases h : s.val < 128 * j
    · simp only [if_pos h]
      rw [if_pos (by show s.val / 64 ≤ (128 * j + r.val) / 64; omega), Finset.sum_mul]
      refine Finset.sum_congr rfl fun d _ => ?_
      have ha := upto_anti (x d) (hx d) (hb d) (s.val + 1) (128 * j + r.val + 1) (by omega) (by omega)
      show q d * k s d * Real.exp (-|upto (x d) (128 * j + r.val + 1) - upto (x d) (s.val + 1)|) * v s = _
      rw [abs_of_nonpos (by linarith), neg_neg]
      have e : upto (x d) (128 * j + r.val + 1) - upto (x d) (s.val + 1) = inB (x d) j r.val + (upto (x d) (128 * j) - upto (x d) (s.val + 1)) := by unfold inB; ring
      rw [e, Real.exp_add]
      ring
    · simp only [if_neg h]
      simp

/-- The gate's logarithm before its scale. -/
def lsg (z : ℝ) : ℝ := min z 0 - Real.log (1 + Real.exp (-|z|))

theorem lsg_le (z : ℝ) : lsg z ≤ 0 := by
  have h1 : min z 0 ≤ 0 := min_le_right _ _
  have h2 : 0 ≤ Real.log (1 + Real.exp (-|z|)) := Real.log_nonneg (by linarith [Real.exp_pos (-|z|)])
  unfold lsg
  linarith
theorem lsg_ge (z : ℝ) (hz : -19 ≤ z) : -20 ≤ lsg z := by
  have h1 : -19 ≤ min z 0 := le_min hz (by norm_num)
  have h2 : Real.exp (-|z|) ≤ 1 := Real.exp_le_one_iff.mpr (by linarith [abs_nonneg z])
  have h3 : Real.log (1 + Real.exp (-|z|)) ≤ 1 := by
    have := Real.log_le_sub_one_of_pos (show 0 < 1 + Real.exp (-|z|) by linarith [Real.exp_pos (-|z|)])
    linarith
  unfold lsg
  linarith

/-- Column `c` of the projections that start at column `o`. -/
def at_ (o c : ℕ) : Fin 3600 := ⟨(o + c) % 3600, Nat.mod_lt _ (by norm_num)⟩
/-- Key column `d` of head `h`. -/
def kc (h : Fin 4) (d : Fin 64) : Fin 256 := ⟨64 * h.val + d.val, by omega⟩
section
variable (p : Fin 8192 → Fin 3600 → ℝ) (gw : Fin 16 → Fin 256 → ℝ) (gb : Fin 256 → ℝ) (h : Fin 4) (n : Fin 8192)
/-- The gate's logit. -/
def zg (c : Fin 256) : ℝ := (∑ k : Fin 16, p n (at_ 3584 k.val) * gw k c) + gb c
/-- The logarithm of the gate. -/
def la (c : Fin 256) : ℝ := lsg (zg p gw gb n c) / 16
/-- The scaled queries of gated linear attention, its keys and its values. -/
def gqr (c : Fin 256) : ℝ := p n (at_ 2048 c.val) / 8
def gke (c : Fin 256) : ℝ := p n (at_ 2304 c.val)
def gvl (l : Fin 128) : ℝ := p n (col 2560 h l)
/-- The two attentions of one row. -/
def rto (e : Fin 128) : ℝ := retO (lg h) (qry p h n) (key p h) (fun s => vlu p h s e) n
def glo (e : Fin 128) : ℝ := glaO (fun d => gqr p n (kc h d)) (fun s d => gke p s (kc h d)) (fun s => gvl p h s e) (fun d s => la p gw gb s (kc h d)) n
/-- The state of gated linear attention before tile `j`. -/
def gls (c : Fin 256) (e : Fin 128) (j : ℕ) : ℝ :=
  glaS (fun s => gke p s c) (fun s => gvl p ⟨c.val / 64, by omega⟩ s e) (fun s => la p gw gb s c) j
theorem la_le (c : Fin 256) : la p gw gb n c ≤ 0 := by unfold la; linarith [lsg_le (zg p gw gb n c)]
theorem la_ge (c : Fin 256) (hz : -19 ≤ zg p gw gb n c) : -(5 / 4) ≤ la p gw gb n c := by unfold la; linarith [lsg_ge _ hz]
end

end Cert.MixMath

end
-- ==== Proof.MixTab.lean ====
/-
  The padded gate weights and the decay tables, as the host makes them.
-/
module

public import proofs.«01_k».proof.Proof.MixArray
public import proofs.«01_k».proof.Proof.MixGla
public import Idealize.ShloMosaic.Lib.Routing.OpsOne

@[expose] public section

set_option maxRecDepth 16384

noncomputable section

namespace Cert.MixHost

open Cert.RowMath Cert.MixMath Cert.MixKernelIdeal Cert.MixKernelIdeal.Gen Idealize.ShloMosaic Idealize.ShloMosaic.TcCoe

variable (m : (ℓ : Loc nD τ sig) → Buf (Elt Ideal) ℓ) (c : Dev nD)
abbrev argW : FVec Ideal S1x16x256 .f32 := m ((c : Thread nD τ).loc main_arg1)

abbrev scD : ScatterDims S128x256 S1 S16x256 := scatter_S128x256_S1_S16x256_01_n_0_0

/-- The gate's weights above 112 rows of noughts. -/
def gwPad (x : FVec Ideal S1x16x256 .f32) : FVec Ideal S128x256 .f32 :=
  Host.scatter scD (fun _ b => b) (broadcastInDim S128x256 ![] bcast_S_S128x256 (constant (F := Ideal) S_ .f32 0x00000000#32))
    (broadcastInDim S1 ![] bcast_S_S1 (constantI S_ 32 0#32)) (shapeCast S16x256 x shapeCasts_S1x16x256_S16x256)

theorem lands (idx : IVec S1 32) (hi : idx (ix1 0) = 0#32) (a : Fin 16) (b : Fin 256) (k : Fin 128) (c : Fin 256) :
    scD.resultIdx? (ix2 a b) idx = some (ix2 k c) ↔ a.val = k.val ∧ b.val = c.val := by
  have w0 : scD.window (ix2 a b) 0 = a.val := rfl
  have w1 : scD.window (ix2 a b) 1 = b.val := rfl
  have s1 : scD.start (ix2 a b) idx 1 = 0 := rfl
  have s0 : scD.start (ix2 a b) idx 0 = 0 := by
    unfold ScatterDims.start
    rw [dif_pos (by decide)]
    have e : ∀ j, idx j = 0#32 := fun j => by
      have : j = ix1 0 := by
        funext q
        match q with
        | ⟨0, _⟩ => exact Subsingleton.elim (α := Fin 1) _ _
      rw [this, hi]
    rw [e]; rfl
  refine (Routing.resultIdx?_ix2 (R := 128) (C := 256) scD (ix2 a b) idx k c).trans ?_
  rw [s0, s1, w0, w1]
  omega

theorem gwPad_apply (x : FVec Ideal S1x16x256 .f32) (k : Fin 128) (c : Fin 256) :
    gwPad x (ix2 k c) = if h : k.val < 16 then x (ix3 0 ⟨k.val, h⟩ c) else 0 := by
  unfold gwPad
  have hi : (broadcastInDim S1 ![] bcast_S_S1 (constantI S_ 32 0#32)) (ix1 0) = 0#32 := rfl
  have hx (a : Fin 16) (b : Fin 256) : shapeCast S16x256 x shapeCasts_S1x16x256_S16x256 (ix2 a b) = x (ix3 0 a b) := by pointwise []
  split_ifs with h
  · rw [Routing.scatter_set_hit _ _ _ _ _ (x (ix3 0 ⟨k.val, h⟩ c)) ?_ (ix2 ⟨k.val, h⟩ c) ((lands _ hi _ _ _ _).2 ⟨rfl, rfl⟩)]
    intro j hj
    idx_vars j
    obtain ⟨e1, e2⟩ := (lands _ hi _ _ _ _).1 hj
    rw [hx]
    refine congrArg₂ (fun a b => x (ix3 0 a b)) (Fin.ext e1) (Fin.ext e2)
  · rw [Routing.scatter_set_miss]
    · have e (u : FVec Ideal S_ .f32) : broadcastInDim S128x256 ![] bcast_S_S128x256 u (ix2 k c) = u ix0 := by pointwise []
      rw [e]; exact Ideal.ofBits_zero .f32
    · intro j hj
      idx_vars j
      obtain ⟨e1, e2⟩ := (lands _ hi _ _ _ _).1 hj
      omega

set_option maxHeartbeats 2000000 in
theorem V_gw : @Eq (FVec Ideal S128x256 .f32) (V m c main_v5) (gwPad (argW m c)) := by
  show StableHlo.after _ _ _ = _
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append, StableHlo.after_cons, StableHlo.after_nil]
  after_results_simp
  (try rfl)

/-- Whether a row sees another of its tile. -/
abbrev seenT : IVec S256x256 1 := cmpi .sle (Host.shrsi (iotaInDim S256x256 32 1) (broadcastInDim S256x256 ![] bcast_S_S256x256 (constantI S_ 32 6#32)))
  (Host.shrsi (iotaInDim S256x256 32 0) (broadcastInDim S256x256 ![] bcast_S_S256x256 (constantI S_ 32 6#32)))
/-- The distance of two rows. -/
abbrev distT : FVec Ideal S256x256 .f32 := sitofp .f32 (absi (subi (iotaInDim S256x256 32 0) (iotaInDim S256x256 32 1)))
/-- The decays between the rows of one tile. -/
def decH (w : BitVec 32) : FVec Ideal S256x256 .f32 :=
  select seenT (Host.exp (mulf (broadcastInDim S256x256 ![] bcast_S_S256x256 (lgv w)) distT)) (broadcastInDim S256x256 ![] bcast_S_S256x256 zero)
def decT : FVec Ideal S4x256x256 .f32 := concatenate S4x256x256 0
  [⟨S1x256x256, (broadcastInDim S1x256x256 ![1, 2] bcast_S256x256_S1x256x256_1_2 (decH 0x3F780000#32) : (⟨S1x256x256, .f32⟩ : BufTy).Contents (Elt Ideal))⟩,
   ⟨S1x256x256, (broadcastInDim S1x256x256 ![1, 2] bcast_S256x256_S1x256x256_1_2 (decH 0x3F7C0000#32) : (⟨S1x256x256, .f32⟩ : BufTy).Contents (Elt Ideal))⟩,
   ⟨S1x256x256, (broadcastInDim S1x256x256 ![1, 2] bcast_S256x256_S1x256x256_1_2 (decH 0x3F7E0000#32) : (⟨S1x256x256, .f32⟩ : BufTy).Contents (Elt Ideal))⟩,
   ⟨S1x256x256, (broadcastInDim S1x256x256 ![1, 2] bcast_S256x256_S1x256x256_1_2 (decH 0x3F7F0000#32) : (⟨S1x256x256, .f32⟩ : BufTy).Contents (Elt Ideal))⟩]
  concatenates_S1x256x256_S1x256x256_S1x256x256_S1x256x256_S4x256x256_d0
set_option maxHeartbeats 2000000 in
theorem V_dec : @Eq (FVec Ideal S4x256x256 .f32) (V m c main_v42) decT := by
  show StableHlo.after _ _ _ = _
  simp only [hostOps0, hostOps0_1, hostOps0_2, hostOps0_3, hostOps0_4, hostOps0_5, hostOps0_6, hostOps0_7, hostOps0_8, hostOps0_9, hostOps0_10, hostOps0_11,
    hostOps0_12, List.flatten_cons, List.flatten_nil, List.append_nil, List.cons_append, List.nil_append, StableHlo.after_cons, StableHlo.after_nil]
  after_results_simp
  (try rfl)

theorem chunk_word : ∀ s : Fin 256, IntOp.shrsi ArithUnit.host (BitVec.ofNat 32 s.val) 6#32 = BitVec.ofNat 32 (s.val / 64) := by
  decide +kernel
theorem sees_word : ∀ a b : Fin 4, IntOp.cmpi CmpIPredicate.sle (BitVec.ofNat 32 a.val) (BitVec.ofNat 32 b.val) = if a.val ≤ b.val then 1#1 else 0#1 := by
  decide +kernel
theorem abs_word : ∀ d : Fin 256, IntOp.absi (BitVec.ofNat 32 d.val) = BitVec.ofNat 32 d.val := by
  decide +kernel
theorem abs_neg_word : ∀ d : Fin 256, IntOp.absi (IntOp.subi 0#32 (BitVec.ofNat 32 d.val)) = BitVec.ofNat 32 d.val := by
  decide +kernel
/-- The distance of two rows as a number. -/
theorem dist_word (r s : Fin 256) : (FloatOps.sitofp (F := Ideal) .f32 (IntOp.absi (IntOp.subi (BitVec.ofNat 32 r.val) (BitVec.ofNat 32 s.val))) : EReal) = ((|(r.val : ℝ) - s.val| : ℝ) : EReal) := by
  have hr := r.isLt
  have hs := s.isLt
  by_cases h : s.val ≤ r.val
  · have e : IntOp.subi (BitVec.ofNat 32 r.val) (BitVec.ofNat 32 s.val) = BitVec.ofNat 32 (r.val - s.val) := by
      show BitVec.ofNat 32 r.val - BitVec.ofNat 32 s.val = _
      apply BitVec.eq_of_toNat_eq
      simp only [BitVec.toNat_sub, BitVec.toNat_ofNat]
      omega
    rw [e, abs_word ⟨r.val - s.val, by omega⟩, MixHost.count _ (by omega), Nat.cast_sub h, abs_of_nonneg (by rw [sub_nonneg]; exact_mod_cast h)]
  · have e : IntOp.subi (BitVec.ofNat 32 r.val) (BitVec.ofNat 32 s.val) = IntOp.subi 0#32 (BitVec.ofNat 32 (s.val - r.val)) := by
      show BitVec.ofNat 32 r.val - BitVec.ofNat 32 s.val = 0#32 - BitVec.ofNat 32 (s.val - r.val)
      apply BitVec.eq_of_toNat_eq
      simp only [BitVec.toNat_sub, BitVec.toNat_ofNat]
      omega
    rw [e, abs_neg_word ⟨s.val - r.val, by omega⟩, MixHost.count _ (by omega), Nat.cast_sub (by omega), abs_of_nonpos (by rw [sub_nonpos]; exact_mod_cast (by omega : r.val ≤ s.val)), neg_sub]
theorem decH_apply (h : Fin 4) (r s : Fin 256) : decH (wrd h) (ix2 r s) = ((wt (lg h) r.val s.val : ℝ) : EReal) := by
  have e (w : BitVec 32) : decH w (ix2 r s) = Scalar.select (IntOp.cmpi CmpIPredicate.sle (IntOp.shrsi ArithUnit.host (BitVec.ofNat 32 s.val) 6#32)
        (IntOp.shrsi ArithUnit.host (BitVec.ofNat 32 r.val) 6#32)) (Ideal.exp (Ideal.log (Ideal.ofBits .f32 w)
          * FloatOps.sitofp (F := Ideal) .f32 (IntOp.absi (IntOp.subi (BitVec.ofNat 32 r.val) (BitVec.ofNat 32 s.val))))) 0 := by
    pointwise [decH, seenT, distT]
  rw [e, log_wrd, dist_word, chunk_word, chunk_word, sees_word ⟨s.val / 64, by omega⟩ ⟨r.val / 64, by omega⟩]
  unfold wt
  by_cases p : s.val / 64 ≤ r.val / 64
  · simp only [p, if_true]; rfl
  · simp only [p, if_false]; rfl
/-- The table holds the retention's weights. -/
theorem decT_apply (h : Fin 4) (r s : Fin 256) : decT (ix3 h r s) = ((wt (lg h) r.val s.val : ℝ) : EReal) := by
  rw [← decH_apply]
  fin_cases h <;> (show decT (ix3 _ r s) = _; pointwise [decT])

end Cert.MixHost

end
-- ==== Proof.MixOut.lean ====
/-
  What one grid point of the mixer leaves in the blocks of outputs, in the block of gated states and in the
  scratch buffer that carries the gated state.
-/
module

public import proofs.«01_k».proof.Proof.MixBlock

@[expose] public section

set_option maxRecDepth 16384

noncomputable section

namespace Cert.MixBlock

open Cert.RowStore Cert.MixKernelIdeal Cert.MixKernelIdeal.Gen Idealize.ShloMosaic Idealize.ShloMosaic.TcCoe Idealize.SL.Sem

section
variable {F : FTy → Type} [FloatOps F]

/-- The 128 × 128 piece of a block whose corner is at `(o, p)`. -/
def sq (x : Vec F S512x512 .f32) (o p : ℕ) : Vec F S128x128 .f32 := fun y =>
  x (ix2 ⟨(o + (y 0).val) % 512, Nat.mod_lt _ (by norm_num)⟩ ⟨(p + (y 1).val) % 512, Nat.mod_lt _ (by norm_num)⟩)
/-- The 128 rows of a block of 256 columns from row `o` on. -/
def wide (x : Vec F S512x256 .f32) (o : ℕ) : Vec F S128x256 .f32 := fun y =>
  x (ix2 ⟨(o + (y 0).val) % 512, Nat.mod_lt _ (by norm_num)⟩ (y 1))
/-- Decay table `o`. -/
def dec (x : Vec F S4x256x256 .f32) (o : ℕ) : Vec F S1x256x256 .f32 := fun y =>
  x (ix3 ⟨o % 4, Nat.mod_lt _ (by norm_num)⟩ (y 1) (y 2))
/-- The 128 values of a row from column `p` on. -/
def lanes (x : Vec F S1x512 .f32) (p : ℕ) : Vec F S1x128 .f32 := fun y =>
  x (ix2 0 ⟨(p + (y 1).val) % 512, Nat.mod_lt _ (by norm_num)⟩)

theorem ld_sq (x : Vec F S512x512 .f32) (o p : ℕ) (inb : ∀ k : Fin 2, (![o, p] : Fin 2 → ℕ) k + (![128, 128] : Fin 2 → ℕ) k ≤ S512x512.size k) :
    View.ld (Val := Elt F) (S := S512x512) x (Rect.unit ![o, p] ![128, 128] inb) = sq x o p := by
  have h0 : o + 128 ≤ 512 := inb 0
  have h1 : p + 128 ≤ 512 := inb 1
  funext y
  have hy0 : (y 0).val < 128 := (y 0).isLt
  have hy1 : (y 1).val < 128 := (y 1).isLt
  unfold sq View.ld
  congr 1
  funext k
  apply Fin.ext
  match k with
  | ⟨0, _⟩ => show o + 1 * (y 0).val = (o + (y 0).val) % 512; omega
  | ⟨1, _⟩ => show p + 1 * (y 1).val = (p + (y 1).val) % 512; omega

theorem ld_wide (x : Vec F S512x256 .f32) (o : ℕ) (inb : ∀ k : Fin 2, (![o, 0] : Fin 2 → ℕ) k + (![128, 256] : Fin 2 → ℕ) k ≤ S512x256.size k) :
    View.ld (Val := Elt F) (S := S512x256) x (Rect.unit ![o, 0] ![128, 256] inb) = wide x o := by
  have h0 : o + 128 ≤ 512 := inb 0
  funext y
  have hy0 : (y 0).val < 128 := (y 0).isLt
  unfold wide View.ld
  congr 1
  funext k
  apply Fin.ext
  match k with
  | ⟨0, _⟩ => show o + 1 * (y 0).val = (o + (y 0).val) % 512; omega
  | ⟨1, _⟩ => show 0 + 1 * (y 1).val = (y 1).val; omega

theorem ld_dec (x : Vec F S4x256x256 .f32) (o : ℕ) (inb : ∀ k : Fin 3, (![o, 0, 0] : Fin 3 → ℕ) k + (![1, 256, 256] : Fin 3 → ℕ) k ≤ S4x256x256.size k) :
    View.ld (Val := Elt F) (S := S4x256x256) x (Rect.unit ![o, 0, 0] ![1, 256, 256] inb) = dec x o := by
  have h0 : o + 1 ≤ 4 := inb 0
  funext y
  have hy0 : (y 0).val < 1 := (y 0).isLt
  unfold dec View.ld
  congr 1
  funext k
  apply Fin.ext
  match k with
  | ⟨0, _⟩ => show o + 1 * (y 0).val = o % 4; omega
  | ⟨1, _⟩ => show 0 + 1 * (y 1).val = (y 1).val; omega
  | ⟨2, _⟩ => show 0 + 1 * (y 2).val = (y 2).val; omega

theorem ld_lanes (x : Vec F S1x512 .f32) (p : ℕ) (inb : ∀ k : Fin 2, (![0, p] : Fin 2 → ℕ) k + (![1, 128] : Fin 2 → ℕ) k ≤ S1x512.size k) :
    View.ld (Val := Elt F) (S := S1x512) x (Rect.unit ![0, p] ![1, 128] inb) = lanes x p := by
  have h1 : p + 128 ≤ 512 := inb 1
  funext y
  have hy0 : (y 0).val < 1 := (y 0).isLt
  have hy1 : (y 1).val < 128 := (y 1).isLt
  unfold lanes View.ld
  congr 1
  funext k
  apply Fin.ext
  match k with
  | ⟨0, _⟩ => show 0 + 1 * (y 0).val = 0; omega
  | ⟨1, _⟩ => show p + 1 * (y 1).val = (p + (y 1).val) % 512; omega

/-- A load of everything. -/
theorem ld_whole {a b : ℕ} (x : Vec F ⟨2, ![a, b]⟩ .f32) (inb : ∀ k : Fin 2, (![0, 0] : Fin 2 → ℕ) k + (![a, b] : Fin 2 → ℕ) k ≤ (⟨2, ![a, b]⟩ : Shape).size k) :
    View.ld (Val := Elt F) (S := ⟨2, ![a, b]⟩) x (Rect.unit ![0, 0] ![a, b] inb) = x := by
  funext y
  unfold View.ld
  congr 1
  funext k
  apply Fin.ext
  match k with
  | ⟨0, _⟩ => show 0 + 1 * (y 0).val = (y 0).val; omega
  | ⟨1, _⟩ => show 0 + 1 * (y 1).val = (y 1).val; omega

/-- A block whose left half is laid out as `tiles` and whose right half as tiles of 128 rows by heads of 128 columns. -/
def both {α : Type} (f : ℕ → ℕ → S256x128.Idx → α) (g : ℕ → ℕ → S128x128.Idx → α) : S512x1024.Idx → α := fun y =>
  if (y 1).val < 512 then f ((y 0).val / 256) ((y 1).val / 128) (ix2 ⟨(y 0).val % 256, Nat.mod_lt _ (by norm_num)⟩ ⟨(y 1).val % 128, Nat.mod_lt _ (by norm_num)⟩)
  else g ((y 0).val / 128) (((y 1).val - 512) / 128) (ix2 ⟨(y 0).val % 128, Nat.mod_lt _ (by norm_num)⟩ ⟨(y 1).val % 128, Nat.mod_lt _ (by norm_num)⟩)
/-- The last store of everything is what is read. -/
theorem read_one {sg : RefSig} {κ : Kind} {sp : Space} (v : View sg κ sp S128x256 .f32) (f : v.ty.Contents (Elt F)) (w : Vec F S128x256 .f32)
    (inb : ∀ k : Fin 2, (![0, 0] : Fin 2 → ℕ) k + (![128, 256] : Fin 2 → ℕ) k ≤ S128x256.size k) (L : List (View.Piece (Elt F) S128x256 .f32)) (y : S128x256.Idx) :
    v.read (Elt F) (v.writes (Elt F) f (⟨Rect.unit (s := S128x256) ![0, 0] ![128, 256] inb, w⟩ :: L)) y = w y := by
  refine View.read_writes_apply_of_pieces v (v.writes (Elt F) f L) w [⟨Rect.unit (s := S128x256) ![0, 0] ![128, 256] inb, w⟩] ?_ y ?_
  · simp only [List.forall_mem_cons, List.not_mem_nil, false_implies, implies_true, and_true]
    intro x
    exact (congrFun (ld_whole (a := 128) (b := 256) w inb) x).symm
  · exact View.cover_of_tiledL _ ![128, 256] (by rfl) y
/-- Four blocks of 128 × 256. -/
def four {α : Type} (f : ℕ → S128x256.Idx → α) : S4x128x256.Idx → α := fun y => f (y 0).val (ix2 (y 1) (y 2))

theorem both_left {α : Type} (f : ℕ → ℕ → S256x128.Idx → α) (g : ℕ → ℕ → S128x128.Idx → α) (o p i h : ℕ) (ho : o = 256 * i) (hp : p = 128 * h) (hh : h < 4)
    (inb : ∀ k : Fin 2, (![o, p] : Fin 2 → ℕ) k + S256x128.size k ≤ S512x1024.size k) (x : S256x128.Idx) :
    both f g ((Rect.unit (s := S512x1024) ![o, p] S256x128.size inb).emb x) = f i h x := by
  have hx0 : (x 0).val < 256 := (x 0).isLt
  have hx1 : (x 1).val < 128 := (x 1).isLt
  have e0 : (((Rect.unit (s := S512x1024) ![o, p] S256x128.size inb).emb x) 0).val = o + 1 * (x 0).val := rfl
  have e1 : (((Rect.unit (s := S512x1024) ![o, p] S256x128.size inb).emb x) 1).val = p + 1 * (x 1).val := rfl
  unfold both
  have a0 : (((Rect.unit (s := S512x1024) ![o, p] S256x128.size inb).emb x) 0).val / 256 = i := by omega
  have a1 : (((Rect.unit (s := S512x1024) ![o, p] S256x128.size inb).emb x) 1).val / 128 = h := by omega
  rw [if_pos (by omega), a0, a1]
  congr 1
  funext k
  apply Fin.ext
  match k with
  | ⟨0, _⟩ => show (o + 1 * (x 0).val) % 256 = (x 0).val; omega
  | ⟨1, _⟩ => show (p + 1 * (x 1).val) % 128 = (x 1).val; omega

theorem both_right {α : Type} (f : ℕ → ℕ → S256x128.Idx → α) (g : ℕ → ℕ → S128x128.Idx → α) (o p i h : ℕ) (ho : o = 128 * i) (hp : p = 512 + 128 * h)
    (inb : ∀ k : Fin 2, (![o, p] : Fin 2 → ℕ) k + S128x128.size k ≤ S512x1024.size k) (x : S128x128.Idx) :
    both f g ((Rect.unit (s := S512x1024) ![o, p] S128x128.size inb).emb x) = g i h x := by
  have hx0 : (x 0).val < 128 := (x 0).isLt
  have hx1 : (x 1).val < 128 := (x 1).isLt
  have e0 : (((Rect.unit (s := S512x1024) ![o, p] S128x128.size inb).emb x) 0).val = o + 1 * (x 0).val := rfl
  have e1 : (((Rect.unit (s := S512x1024) ![o, p] S128x128.size inb).emb x) 1).val = p + 1 * (x 1).val := rfl
  unfold both
  have a0 : (((Rect.unit (s := S512x1024) ![o, p] S128x128.size inb).emb x) 0).val / 128 = i := by omega
  have a1 : ((((Rect.unit (s := S512x1024) ![o, p] S128x128.size inb).emb x) 1).val - 512) / 128 = h := by omega
  rw [if_neg (by omega), a0, a1]
  congr 1
  funext k
  apply Fin.ext
  match k with
  | ⟨0, _⟩ => show (o + 1 * (x 0).val) % 128 = (x 0).val; omega
  | ⟨1, _⟩ => show (p + 1 * (x 1).val) % 128 = (x 1).val; omega

theorem four_at {α : Type} (f : ℕ → S128x256.Idx → α) (i : ℕ)
    (inb : ∀ k : Fin 3, (![i, 0, 0] : Fin 3 → ℕ) k + S1x128x256.size k ≤ S4x128x256.size k) (x : S1x128x256.Idx) :
    four f ((Rect.unit (s := S4x128x256) ![i, 0, 0] S1x128x256.size inb).emb x) = f i (ix2 (x 1) (x 2)) := by
  have hx0 : (x 0).val < 1 := (x 0).isLt
  have e0 : (((Rect.unit (s := S4x128x256) ![i, 0, 0] S1x128x256.size inb).emb x) 0).val = i + 1 * (x 0).val := rfl
  show f _ _ = f i _
  have a0 : (((Rect.unit (s := S4x128x256) ![i, 0, 0] S1x128x256.size inb).emb x) 0).val = i := by omega
  rw [a0]
  congr 1
  funext k
  apply Fin.ext
  match k with
  | ⟨0, _⟩ => show 0 + 1 * (x 1).val = (x 1).val; omega
  | ⟨1, _⟩ => show 0 + 1 * (x 2).val = (x 2).val; omega

end

section
variable {F : FTy → Type} [FloatOps F] [Named F]

theorem flat_at (w : Vec F S128x256 .f32) (x : S1x128x256.Idx) : shapeCast S1x128x256 w shapeCasts_S128x256_S1x128x256 x = w (ix2 (x 1) (x 2)) := by
  have hx : x = ix3 0 (x 1) (x 2) := by
    funext k
    match k with
    | ⟨0, _⟩ => exact Subsingleton.elim (α := Fin 1) _ _
    | ⟨1, _⟩ => rfl
    | ⟨2, _⟩ => rfl
  rw [hx]
  have h (a : Fin 128) (b : Fin 256) : shapeCast S1x128x256 w shapeCasts_S128x256_S1x128x256 (ix3 0 a b) = w (ix2 a b) := by
    pointwise []
  exact h (x 1) (x 2)

section
variable (x0 x1 x2 x3 : Vec F S512x512 .f32) (x9 : Vec F S4x256x256 .f32) (x10 : Vec F S8x256x128 .f32) (x11 : Vec F S4x256x128 .f32) (x12 : Vec F S2x8x256 .f32) (x15 : Vec F S1x512 .f32)
  (z : Vec F S512x128 .f32)
/-- The retention of tile `i` and head `h`. -/
abbrev rO (i h : ℕ) : FVec F S256x128 .f32 :=
  k0_pay23 (cosT x11 x12 i) (sinT x11 x12 i) (k0_pay28 (cosT x11 x12 i) (sinT x11 x12 i) (cut x0 (256 * i) (128 * h))) (cut x1 (256 * i) (128 * h)) (cut x2 (256 * i) (128 * h))
    (dec x9 h) (atT x10 x11 x12 x1 x2 z i h) (tab8 x10 h)
/-- The retention, normalised and gated. -/
abbrev rMix (i h : ℕ) : FVec F S256x128 .bf16 :=
  k0_pay27 (rO x0 x1 x2 x9 x10 x11 x12 z i h) (cut x3 (256 * i) (128 * h)) (lanes x15 (128 * h))
end

section
variable (x4 x5 : Vec F S512x256 .f32) (x6 x7 : Vec F S512x512 .f32) (x8 : Vec F S512x128 .f32) (x13 : Vec F S128x256 .f32) (x14 : Vec F S1x256 .f32) (x16 : Vec F S1x512 .f32)
  (s : Vec F S128x256 .f32)
/-- The cumulative gate of tile `j`. -/
abbrev gB (j : ℕ) : FVec F S128x256 .f32 := k0_pay113 k0_pay4 (k0_pay111 (rows x8 (128 * j))) (k0_pay112 x13) x14
/-- The weights of tile `j` among its own rows, head below head. -/
abbrev gA (j : ℕ) : FVec F S512x128 .bf16 :=
  k0_pay120 k0_pay5 k0_pay6 k0_pay7 k0_pay8 k0_pay10 (k0_pay13 k0_pay9 k0_pay10 k0_pay11 k0_pay12)
    (k0_pay115 k0_pay4 (k0_pay111 (rows x8 (128 * j))) (k0_pay112 x13) x14) (k0_pay116 k0_pay4 (k0_pay111 (rows x8 (128 * j))) (k0_pay112 x13) x14)
    (Scalar.ofBits .f32 0xC2A00000#32) (wide x4 (128 * j)) (wide x5 (128 * j))
/-- What the state `s` gives the rows of tile `j`, head below head. -/
abbrev gQ (j : ℕ) : FVec F S512x128 .f32 :=
  k0_pay123 k0_pay6 k0_pay7 k0_pay8 s (k0_pay121 (gB x8 x13 x14 j) (wide x4 (128 * j))) (k0_pay122 k0_pay5 (gB x8 x13 x14 j) (wide x4 (128 * j)))
/-- The sum of both for head `h`. -/
abbrev gSum (a : FVec F S512x128 .bf16) (q : FVec F S512x128 .f32) (h : ℕ) (v : Vec F S128x128 .f32) : FVec F S128x128 .f32 :=
  match h with
  | 0 => addf (matmul dot_S128x128_S128x128_S128x128_1_0_0_1_n_n none (extractStridedSlice S128x128 ![0, 0] a slices_S512x128_o0_0_S128x128) (k0_pay126 v) (constant S128x128 .f32 0x00000000#32))
      (extractStridedSlice S128x128 ![0, 0] q slices_S512x128_o0_0_S128x128)
  | 1 => k0_pay132 a q v
  | 2 => k0_pay137 a q v
  | _ => k0_pay143 a q v
/-- The keys of tile `j`, decayed to its end. -/
abbrev gK (j : ℕ) : FVec F S128x256 .f32 := k0_pay124 (gB x8 x13 x14 j) (k0_pay117 (gB x8 x13 x14 j)) (k0_pay119 (wide x5 (128 * j)))
/-- The state after tile `j`, from the state before. -/
abbrev gNext (j : ℕ) : Vec F S128x256 .f32 :=
  k0_pay144 k0_pay8 (gK x5 x8 x13 x14 j) (k0_pay138 k0_pay7 (gK x5 x8 x13 x14 j) (k0_pay133 k0_pay6 (gK x5 x8 x13 x14 j)
    (k0_pay128 k0_pay5 (gB x8 x13 x14 j) (k0_pay117 (gB x8 x13 x14 j)) (k0_pay119 (wide x5 (128 * j))) s (sq x6 (128 * j) 0))
    (sq x6 (128 * j) 128)) (sq x6 (128 * j) 256)) (sq x6 (128 * j) 384)
/-- The state before tile `j` of the block's four. -/
abbrev gAt (j : ℕ) : Vec F S128x256 .f32 :=
  match j with
  | 0 => s
  | 1 => gNext x5 x6 x8 x13 x14 s 0
  | 2 => gNext x5 x6 x8 x13 x14 (gNext x5 x6 x8 x13 x14 s 0) 1
  | 3 => gNext x5 x6 x8 x13 x14 (gNext x5 x6 x8 x13 x14 (gNext x5 x6 x8 x13 x14 s 0) 1) 2
  | _ => gNext x5 x6 x8 x13 x14 (gNext x5 x6 x8 x13 x14 (gNext x5 x6 x8 x13 x14 (gNext x5 x6 x8 x13 x14 s 0) 1) 2) 3
/-- Gated linear attention of tile `j` and head `h`. -/
abbrev gO (j h : ℕ) : FVec F S128x128 .f32 :=
  gSum (gA x4 x5 x8 x13 x14 j) (gQ x4 x8 x13 x14 (gAt x5 x6 x8 x13 x14 s j) j) h (sq x6 (128 * j) (128 * h))
/-- A tile over its root mean square. -/
abbrev gNrm (o : FVec F S128x128 .f32) : FVec F S128x128 .f32 :=
  mulf o (broadcastTo S128x128 (rsqrt (addf (divf (shapeCast S128x1 (multiReduction .add [1] S128 (mulf o o) 0x00000000#32 reduces_S128x128_S128 (.inl rfl) rfl) shapeCasts_S128_S128x1)
    (broadcast S128x1 (Scalar.ofBits .f32 0x43000000#32))) (broadcast S128x1 (Scalar.ofBits .f32 0x3727C5AC#32)))) broadcasts_S128x1_S128x128)
/-- The attention, normalised and gated. -/
abbrev gMix (j h : ℕ) : FVec F S128x128 .bf16 :=
  k0_pay130 (gNrm (gO x4 x5 x6 x8 x13 x14 s j h)) (sq x7 (128 * j) (128 * h)) (lanes x16 (128 * h))
end

/-- What the loads of a grid point read. -/
theorem loads : type_of% @View.readAt_eq_ld
    ∧ type_of% @Memref.IsWhole.read_unread
    ∧ type_of% @ld_rows
    ∧ type_of% @ld_sq
    ∧ type_of% @ld_wide
    ∧ type_of% @ld_whole :=
  ⟨@View.readAt_eq_ld, @Memref.IsWhole.read_unread, @ld_rows, @ld_sq, @ld_wide, @ld_whole⟩
/-- A tile stored on the left half of the columns. -/
theorem left {α : Type} {f : ℕ → ℕ → S256x128.Idx → α} {g : ℕ → ℕ → S128x128.Idx → α} {a : α} {x : S256x128.Idx} (o p i h : ℕ)
    {inb : ∀ k : Fin 2, (![o, p] : Fin 2 → ℕ) k + S256x128.size k ≤ S512x1024.size k} (e : a = f i h x)
    (ho : o = 256 * i := by rfl) (hp : p = 128 * h := by rfl) (hh : h < 4 := by decide) :
    a = both f g ((Rect.unit (s := S512x1024) ![o, p] S256x128.size inb).emb x) := e.trans (both_left f g o p i h ho hp hh inb x).symm
/-- A tile stored on the right half of the columns. -/
theorem right {α : Type} {f : ℕ → ℕ → S256x128.Idx → α} {g : ℕ → ℕ → S128x128.Idx → α} {w : S128x128.Idx → α} {x : S128x128.Idx} (o p i h : ℕ)
    {inb : ∀ k : Fin 2, (![o, p] : Fin 2 → ℕ) k + S128x128.size k ≤ S512x1024.size k} (e : w = g i h)
    (ho : o = 128 * i := by rfl) (hp : p = 512 + 128 * h := by rfl) :
    w x = both f g ((Rect.unit (s := S512x1024) ![o, p] S128x128.size inb).emb x) :=
  (congrFun e x).trans (both_right f g o p i h ho hp inb x).symm

/-- What a reference of two axes holds from row `o` and column `p` on. -/
abbrev rd {A B : ℕ} (a b : ℕ) (m : Memref sig .tc .vmem ⟨2, ![A, B]⟩ .f32) (hm : m.IsWhole) (x : Vec F ⟨2, ![A, B]⟩ .f32) (o p : ℕ)
    (inb : ∀ k : Fin 2, (![o, p] : Fin 2 → ℕ) k + (![a, b] : Fin 2 → ℕ) k ≤ (⟨2, ![A, B]⟩ : Shape).size k := by decide) : Vec F ⟨2, ![a, b]⟩ .f32 :=
  View.readAt (Elt F) m.view (Rect.unit (s := ⟨2, ![A, B]⟩) ![o, p] ![a, b] inb).toLoadRect (hm.unread x)
/-- The attention `a` normalised and gated, the gate and the scale read from row `o` and column `p` on. -/
abbrev mixOf {m : Memref sig .tc .vmem S512x512 .f32} (hm : m.IsWhole) {n : Memref sig .tc .vmem S1x512 .f32} (hn : n.IsWhole)
    (x : Vec F S512x512 .f32) (y : Vec F S1x512 .f32) (a : FVec F S128x128 .f32) (o p : ℕ)
    (i : ∀ k : Fin 2, (![o, p] : Fin 2 → ℕ) k + (![128, 128] : Fin 2 → ℕ) k ≤ S512x512.size k := by decide)
    (j : ∀ k : Fin 2, (![0, p] : Fin 2 → ℕ) k + (![1, 128] : Fin 2 → ℕ) k ≤ S1x512.size k := by decide) : FVec F S128x128 .bf16 :=
  k0_pay130 (gNrm a) (rd 128 128 m hm x o p i) (rd 1 128 n hn y 0 p j)
section
variable (l : Vec F S128x128 .f32) (w : Vec F S128x256 .f32) (b : Vec F S1x256 .f32) (g : FVec F S128x256 .f32) (q k : Vec F S128x256 .f32) (v0 v1 v2 v3 : Vec F S128x128 .f32) (s : Vec F S128x256 .f32)
/-- The cumulative gate of a tile, from its loads. -/
abbrev gBof : FVec F S128x256 .f32 := k0_pay113 k0_pay4 (k0_pay111 l) (k0_pay112 w) b
/-- The weights of a tile among its own rows, from its loads. -/
abbrev gAof : FVec F S512x128 .bf16 :=
  k0_pay120 k0_pay5 k0_pay6 k0_pay7 k0_pay8 k0_pay10 (k0_pay13 k0_pay9 k0_pay10 k0_pay11 k0_pay12)
    (k0_pay115 k0_pay4 (k0_pay111 l) (k0_pay112 w) b) (k0_pay116 k0_pay4 (k0_pay111 l) (k0_pay112 w) b)
    (Scalar.ofBits .f32 0xC2A00000#32) q k
/-- What the state gives a tile, from its gate and queries. -/
abbrev gQof : FVec F S512x128 .f32 := k0_pay123 k0_pay6 k0_pay7 k0_pay8 s (k0_pay121 g q) (k0_pay122 k0_pay5 g q)
/-- The keys of a tile decayed to its end. -/
abbrev gKof : FVec F S128x256 .f32 := k0_pay124 g (k0_pay117 g) (k0_pay119 k)
/-- The state after a tile, from its gate, keys, values and the state before. -/
abbrev gNextOf : Vec F S128x256 .f32 :=
  k0_pay144 k0_pay8 (gKof g k) (k0_pay138 k0_pay7 (gKof g k) (k0_pay133 k0_pay6 (gKof g k)
    (k0_pay128 k0_pay5 g (k0_pay117 g) (k0_pay119 k) s v0) v1) v2) v3
end

end

end Cert.MixBlock

end
-- ==== Proof.MixBits.lean ====
/-
  Gated linear attention of one tile, element by element, over the reals: the masks.
-/
module

public import proofs.«01_k».proof.Proof.MixOut
public import proofs.«01_k».proof.Proof.MixPay
public import proofs.«01_k».proof.Proof.MixGla

@[expose] public section

set_option maxRecDepth 16384

noncomputable section

namespace Cert.MixBlock

open Cert.RowMath Cert.MixMath Cert.MixHost Cert.MixKernelIdeal Cert.MixKernelIdeal.Gen Idealize.ShloMosaic Idealize.ShloMosaic.TcCoe

theorem one_bit (b : BitVec 32) (P : Prop) [Decidable P] (h : b = if P then 1#32 else 0#32) :
    (FloatOps.sitofp FTy.f32 b : Ideal .f32) = (((if P then 1 else 0 : ℝ)) : EReal) := by
  subst h
  by_cases p : P
  · simp only [p, if_true]
    show (((1#32 : BitVec 32).toInt : ℝ) : EReal) = _
    norm_num
  · simp only [p, if_false]
    show (((0#32 : BitVec 32).toInt : ℝ) : EReal) = _
    norm_num

theorem low_bits : ∀ r s : Fin 128, IntOp.cmpi CmpIPredicate.sle (BitVec.ofNat 32 s.val) (BitVec.ofNat 32 r.val) = if s.val ≤ r.val then 1#1 else 0#1 := by
  decide +kernel
theorem tri_bits (r s : Fin 128) : BitVec.setWidth 32 (IntOp.cmpi CmpIPredicate.sle (BitVec.ofNat 32 s.val) (BitVec.ofNat 32 r.val)) = if s.val ≤ r.val then 1#32 else 0#32 := by
  rw [low_bits]
  by_cases p : s.val ≤ r.val <;> simp [p]

/-- The table of running sums: one on and below the diagonal. -/
theorem tri_apply (r s : Fin 128) : k0_pay4 (F := Ideal) (ix2 r s) = (((if s.val ≤ r.val then 1 else 0 : ℝ)) : EReal) := by
  pointwise [k0_pay4]
  exact one_bit _ _ (tri_bits r s)

/-- Ones in the channels of head 0. -/
theorem mask0_apply (c : Fin 256) : k0_pay5 (F := Ideal) (ix2 0 c) = (((if c.val / 64 = 0 then 1 else 0 : ℝ)) : EReal) := by
  pointwise [k0_pay5]
  exact one_bit _ _ (by revert c; decide +kernel)

/-- Ones in the channels of head 1. -/
theorem mask1_apply (c : Fin 256) : k0_pay6 (F := Ideal) (ix2 0 c) = (((if c.val / 64 = 1 then 1 else 0 : ℝ)) : EReal) := by
  pointwise [k0_pay6]
  exact one_bit _ _ (by revert c; decide +kernel)

/-- Ones in the channels of head 2. -/
theorem mask2_apply (c : Fin 256) : k0_pay7 (F := Ideal) (ix2 0 c) = (((if c.val / 64 = 2 then 1 else 0 : ℝ)) : EReal) := by
  pointwise [k0_pay7]
  exact one_bit _ _ (by revert c; decide +kernel)

/-- Ones in the channels of head 3. -/
theorem mask3_apply (c : Fin 256) : k0_pay8 (F := Ideal) (ix2 0 c) = (((if c.val / 64 = 3 then 1 else 0 : ℝ)) : EReal) := by
  pointwise [k0_pay8]
  exact one_bit _ _ (by revert c; decide +kernel)

theorem row_bits : ∀ h : Fin 4, ∀ r : Fin 128, IntOp.andi (BitVec.ofNat 32 (128 * h.val + r.val)) 127#32 = BitVec.ofNat 32 r.val := by
  decide +kernel
theorem chunk_bits : ∀ s : Fin 128, IntOp.shrsi ArithUnit.vector (BitVec.ofNat 32 s.val) 6#32 = BitVec.ofNat 32 (s.val / 64) := by
  decide +kernel
theorem same_bits : ∀ a b : Fin 2, IntOp.cmpi CmpIPredicate.eq (BitVec.ofNat 32 a.val) (BitVec.ofNat 32 b.val) = if a.val = b.val then 1#1 else 0#1 := by
  decide +kernel

/-- On and below the diagonal of a head's block of rows. -/
theorem low_apply (h : Fin 4) (r s : Fin 128) : k0_pay10 (ix2 ⟨128 * h.val + r.val, by omega⟩ s) = if s.val ≤ r.val then 1#1 else 0#1 := by
  pointwise [k0_pay10, k0_pay9]
  rw [row_bits, low_bits]

/-- Above the diagonal, within the chunk of 64 rows. -/
theorem up_apply (h : Fin 4) (r s : Fin 128) : k0_pay13 k0_pay9 k0_pay10 k0_pay11 k0_pay12 (ix2 ⟨128 * h.val + r.val, by omega⟩ s) = if ¬ s.val ≤ r.val ∧ s.val / 64 = r.val / 64 then 1#1 else 0#1 := by
  pointwise [k0_pay13, k0_pay9, k0_pay10, k0_pay11, k0_pay12]
  rw [row_bits, low_bits, chunk_bits, chunk_bits, same_bits ⟨s.val / 64, by omega⟩ ⟨r.val / 64, by omega⟩]
  by_cases p : s.val ≤ r.val <;> by_cases q : s.val / 64 = r.val / 64 <;> simp [p, q] <;> rfl

end Cert.MixBlock

end
-- ==== Proof.MixGo.lean ====
/-
  Gated linear attention of one tile, element by element, over the reals: the gate, the masks and the decayed keys.
-/
module

public import proofs.«01_k».proof.Proof.MixOut
public import proofs.«01_k».proof.Proof.MixPay
public import proofs.«01_k».proof.Proof.MixGla
public import proofs.«01_k».proof.Proof.MixBits

@[expose] public section

set_option maxRecDepth 16384

noncomputable section

namespace Cert.MixBlock

open Cert.RowMath Cert.MixMath Cert.MixHost Cert.MixKernelIdeal Cert.MixKernelIdeal.Gen Idealize.ShloMosaic Idealize.ShloMosaic.TcCoe

abbrev zT (l : FVec Ideal S128x128 .f32) (w : FVec Ideal S128x256 .f32) (b : FVec Ideal S1x256 .f32) : FVec Ideal S128x256 .f32 :=
  addf (addf (addf (matmul dot_S128x128_S128x256_S128x256_1_0_0_1_n_n none (truncf .bf16 l bitsLt_bf16_f32) (truncf .bf16 w bitsLt_bf16_f32) (constant S128x256 .f32 0x00000000#32))
    (matmul dot_S128x128_S128x256_S128x256_1_0_0_1_n_n none (truncf .bf16 l bitsLt_bf16_f32) (truncf .bf16 (subf w (extf .f32 (truncf .bf16 w bitsLt_bf16_f32) bitsLt_bf16_f32)) bitsLt_bf16_f32) (constant S128x256 .f32 0x00000000#32)))
    (matmul dot_S128x128_S128x256_S128x256_1_0_0_1_n_n none (truncf .bf16 (subf l (extf .f32 (truncf .bf16 l bitsLt_bf16_f32) bitsLt_bf16_f32)) bitsLt_bf16_f32) (truncf .bf16 w bitsLt_bf16_f32) (constant S128x256 .f32 0x00000000#32)))
    (broadcastTo S128x256 b broadcasts_S1x256_S128x256)
abbrev laT (z : FVec Ideal S128x256 .f32) : FVec Ideal S128x256 .f32 :=
  mulf (subf (minimumf z (broadcast S128x256 (Scalar.ofBits .f32 0x00000000#32)))
    (log (addf (broadcast S128x256 (Scalar.ofBits .f32 0x3F800000#32)) (exp (subf (broadcast S128x256 (Scalar.ofBits .f32 0x00000000#32)) (absf z))))))
    (broadcast S128x256 (Scalar.ofBits .f32 0x3D800000#32))
abbrev bT (la : FVec Ideal S128x256 .f32) : FVec Ideal S128x256 .f32 :=
  addf (addf (broadcast S128x256 (Scalar.ofBits .f32 0x00000000#32))
      (matmul dot_S128x128_S128x256_S128x256_1_0_0_1_n_n none (truncf .bf16 (k0_pay4 (F := Ideal)) bitsLt_bf16_f32) (truncf .bf16 la bitsLt_bf16_f32) (constant S128x256 .f32 0x00000000#32)))
    (matmul dot_S128x128_S128x256_S128x256_1_0_0_1_n_n none (truncf .bf16 (k0_pay4 (F := Ideal)) bitsLt_bf16_f32) (truncf .bf16 (subf la (extf .f32 (truncf .bf16 la bitsLt_bf16_f32) bitsLt_bf16_f32)) bitsLt_bf16_f32) (constant S128x256 .f32 0x00000000#32))
theorem gBof_eq (l : FVec Ideal S128x128 .f32) (w : FVec Ideal S128x256 .f32) (b : FVec Ideal S1x256 .f32) :
    gBof (F := Ideal) l w b = bT (laT (zT (shapeCast S128x128 l shapeCasts_S128x128_S128x128) (shapeCast S128x256 w shapeCasts_S128x256_S128x256) b)) := rfl
/-- The gate's logits of real data: the parts split off vanish. -/
theorem zT_apply (l : FVec Ideal S128x128 .f32) (w : FVec Ideal S128x256 .f32) (b : FVec Ideal S1x256 .f32)
    (lr : Fin 128 → Fin 128 → ℝ) (wr : Fin 128 → Fin 256 → ℝ) (br : Fin 256 → ℝ)
    (hl : ∀ r k, l (ix2 r k) = (lr r k : EReal)) (hw : ∀ k c, w (ix2 k c) = (wr k c : EReal)) (hb : ∀ c, b (ix2 0 c) = (br c : EReal)) (r : Fin 128) (c : Fin 256) :
    zT l w b (ix2 r c) = ((∑ k, lr r k * wr k c + br c : ℝ) : EReal) := by
  pointwise [zT]
  simp only [hl, hw, hb, ← EReal.coe_sub, sub_self, ← EReal.coe_mul, mul_zero, zero_mul, EReal.coe_zero, Finset.sum_const_zero, add_zero, sum_coe, ← EReal.coe_add]

theorem word_16 : Ideal.ofBits FTy.f32 1031798784#32 = ((1 / 16 : ℝ) : EReal) := by
  simp [Ideal.ofBits, Ideal.ieee, -EReal.coe_mul, -EReal.coe_div]; norm_num

theorem coe_min (a b : ℝ) : ((min a b : ℝ) : EReal) = min (a : EReal) b := EReal.coe_strictMono.monotone.map_min
theorem coe_max (a b : ℝ) : ((max a b : ℝ) : EReal) = max (a : EReal) b := EReal.coe_strictMono.monotone.map_max

/-- A sixteenth of the log of the sigmoid. -/
theorem laT_apply (z : FVec Ideal S128x256 .f32) (zr : Fin 128 → Fin 256 → ℝ) (hz : ∀ r c, z (ix2 r c) = (zr r c : EReal)) (r : Fin 128) (c : Fin 256) :
    laT z (ix2 r c) = ((lsg (zr r c) / 16 : ℝ) : EReal) := by
  pointwise [laT]
  rw [hz, word_16]
  have h1 : (FloatOps.absf ((zr r c : ℝ) : EReal) : Ideal .f32) = ((|zr r c| : ℝ) : EReal) := rfl
  rw [h1, zero_sub, ← EReal.coe_neg]
  have h2 : Ideal.exp ((-|zr r c| : ℝ) : EReal) = ((Real.exp (-|zr r c|) : ℝ) : EReal) := rfl
  have h3 : Ideal.log ((1 + Real.exp (-|zr r c|) : ℝ) : EReal) = ((Real.log (1 + Real.exp (-|zr r c|)) : ℝ) : EReal) := by
    have p := Real.exp_pos (-|zr r c|)
    rw [Ideal.log_coe, if_neg (by linarith)]
  rw [h2, ← EReal.coe_one, ← EReal.coe_add, h3, ← EReal.coe_zero, ← coe_min, ← EReal.coe_sub, ← EReal.coe_mul]
  unfold lsg
  congr 1
  ring

/-- Running sums of real logs: the part split off vanishes. -/
theorem bT_apply (la : FVec Ideal S128x256 .f32) (x : Fin 128 → Fin 256 → ℝ) (hx : ∀ r c, la (ix2 r c) = (x r c : EReal)) (r : Fin 128) (c : Fin 256) :
    bT la (ix2 r c) = ((∑ s : Fin 128, (if s.val ≤ r.val then 1 else 0) * x s c : ℝ) : EReal) := by
  pointwise [bT]
  simp only [hx, tri_apply, ← EReal.coe_sub, sub_self, ← EReal.coe_mul, mul_zero, EReal.coe_zero, Finset.sum_const_zero, add_zero, sum_coe]

/-- The cumulative gate of a tile of real data. -/
theorem gBof_apply (l : FVec Ideal S128x128 .f32) (w : FVec Ideal S128x256 .f32) (b : FVec Ideal S1x256 .f32)
    (lr : Fin 128 → Fin 128 → ℝ) (wr : Fin 128 → Fin 256 → ℝ) (br : Fin 256 → ℝ)
    (hl : ∀ r k, l (ix2 r k) = (lr r k : EReal)) (hw : ∀ k c, w (ix2 k c) = (wr k c : EReal)) (hb : ∀ c, b (ix2 0 c) = (br c : EReal)) (r : Fin 128) (c : Fin 256) :
    gBof (F := Ideal) l w b (ix2 r c) = ((∑ s : Fin 128, (if s.val ≤ r.val then 1 else 0) * (lsg (∑ k, lr s k * wr k c + br c) / 16) : ℝ) : EReal) := by
  rw [gBof_eq, shapeCast_self, shapeCast_self]
  exact bT_apply _ (fun s c => lsg (∑ k, lr s k * wr k c + br c) / 16)
    (laT_apply _ (fun s c => ∑ k, lr s k * wr k c + br c) (zT_apply l w b lr wr br hl hw hb)) r c

abbrev midT (b : FVec Ideal S128x256 .f32) : FVec Ideal S128x256 .f32 :=
  broadcastTo S128x256 (extractStridedSlice S1x256 ![63, 0] b slices_S128x256_o63_0_S1x256) broadcasts_S1x256_S128x256
/-- The exponential, its argument held between -80 and 80. -/
abbrev clipT (x : FVec Ideal S128x256 .f32) : FVec Ideal S128x256 .f32 :=
  exp (minimumf (broadcast S128x256 (Scalar.ofBits .f32 0x42A00000#32)) (maximumf (broadcast S128x256 (Scalar.ofBits .f32 0xC2A00000#32)) x))
abbrev epT (b : FVec Ideal S128x256 .f32) : FVec Ideal S128x256 .f32 := clipT (subf b (midT b))
abbrev emT (b : FVec Ideal S128x256 .f32) : FVec Ideal S128x256 .f32 := clipT (subf (midT b) b)

theorem word_80 : Ideal.ofBits FTy.f32 1117782016#32 = ((80 : ℝ) : EReal) := by
  simp [Ideal.ofBits, Ideal.ieee, -EReal.coe_mul]; norm_num
theorem word_m80 : Ideal.ofBits FTy.f32 3265265664#32 = ((-80 : ℝ) : EReal) := by
  simp [Ideal.ofBits, Ideal.ieee, -EReal.coe_mul, -EReal.coe_neg]; norm_num
theorem word_8 : Ideal.ofBits FTy.f32 1040187392#32 = ((1 / 8 : ℝ) : EReal) := by
  simp [Ideal.ofBits, Ideal.ieee, -EReal.coe_mul]; norm_num

theorem clip_coe (x : ℝ) (h1 : -80 ≤ x) (h2 : x ≤ 80) :
    Ideal.exp (min (Ideal.ofBits FTy.f32 1117782016#32) (max (Ideal.ofBits FTy.f32 3265265664#32) (x : EReal))) = ((Real.exp x : ℝ) : EReal) := by
  rw [word_80, word_m80, ← coe_max, ← coe_min, max_eq_right h1, min_eq_right h2]
  rfl

section
variable (g : FVec Ideal S128x256 .f32) (B : Fin 128 → Fin 256 → ℝ) (hg : ∀ r c, g (ix2 r c) = (B r c : EReal))
  (hB : ∀ r c, -80 ≤ B r c - B 63 c ∧ B r c - B 63 c ≤ 80)
include hg hB
theorem ep_apply (r : Fin 128) (c : Fin 256) : epT g (ix2 r c) = ((Real.exp (B r c - B 63 c) : ℝ) : EReal) := by
  pointwise [epT, clipT, midT]
  rw [hg, hg, ← EReal.coe_sub]
  exact clip_coe _ (hB r c).1 (hB r c).2
theorem em_apply (r : Fin 128) (c : Fin 256) : emT g (ix2 r c) = ((Real.exp (B 63 c - B r c) : ℝ) : EReal) := by
  pointwise [emT, clipT, midT]
  rw [hg, hg, ← EReal.coe_sub]
  exact clip_coe _ (by linarith [(hB r c).2]) (by linarith [(hB r c).1])
end
theorem last_apply (b : FVec Ideal S128x256 .f32) (c : Fin 256) :
    k0_pay117 b (ix2 0 c) = b (ix2 127 c) := by
  pointwise [k0_pay117]
theorem q8_apply (q : Vec Ideal S128x256 .f32) (Q : Fin 128 → Fin 256 → ℝ) (hq : ∀ r c, q (ix2 r c) = (Q r c : EReal)) (r : Fin 128) (c : Fin 256) :
    k0_pay118 q (ix2 r c) = ((Q r c / 8 : ℝ) : EReal) := by
  pointwise [k0_pay118]
  rw [hq, word_8, ← EReal.coe_mul]
  congr 1
  ring

/-- Four copies, one below the other, each with the channels of its head only. -/
abbrev stk (f : FVec Ideal S128x256 .f32) : FVec Ideal S512x256 .f32 :=
  concatenate S512x256 0 [⟨S128x256, mulf f (broadcastTo S128x256 k0_pay5 broadcasts_S1x256_S128x256)⟩, ⟨S128x256, mulf f (broadcastTo S128x256 k0_pay6 broadcasts_S1x256_S128x256)⟩, ⟨S128x256, mulf f (broadcastTo S128x256 k0_pay7 broadcasts_S1x256_S128x256)⟩, ⟨S128x256, mulf f (broadcastTo S128x256 k0_pay8 broadcasts_S1x256_S128x256)⟩] concatenates_S128x256_S128x256_S128x256_S128x256_S512x256_d0

theorem stk_at (f : FVec Ideal S128x256 .f32) (f' : Fin 128 → Fin 256 → ℝ) (hf : ∀ r c, f (ix2 r c) = (f' r c : EReal)) (h : Fin 4) (r : Fin 128) (c : Fin 256) :
    stk f (ix2 ⟨128 * h.val + r.val, by omega⟩ c) = ((f' r c * (if c.val / 64 = h.val then 1 else 0) : ℝ) : EReal) := by
  pointwise [stk]
  obtain ⟨h, hh⟩ := h
  have hr := r.isLt
  rcases (by omega : h = 0 ∨ h = 1 ∨ h = 2 ∨ h = 3) with rfl | rfl | rfl | rfl
  · rw [dif_pos (show 128 * 0 + r.val < 128 by omega), mask0_apply, show (⟨128 * 0 + r.val, _⟩ : Fin 128) = r from Fin.ext (by simp), hf, ← EReal.coe_mul]
  · rw [dif_neg (show ¬ 128 * 1 + r.val < 128 by omega), dif_pos (show 128 * 1 + r.val - 128 < 128 by omega), mask1_apply, show (⟨128 * 1 + r.val - 128, _⟩ : Fin 128) = r from Fin.ext (by simp), hf, ← EReal.coe_mul]
  · rw [dif_neg (show ¬ 128 * 2 + r.val < 128 by omega), dif_neg (show ¬ 128 * 2 + r.val - 128 < 128 by omega), dif_pos (show 128 * 2 + r.val - 128 - 128 < 128 by omega), mask2_apply,
      show (⟨128 * 2 + r.val - 128 - 128, _⟩ : Fin 128) = r from Fin.ext (by simp; omega), hf, ← EReal.coe_mul]
  · rw [dif_neg (show ¬ 128 * 3 + r.val < 128 by omega), dif_neg (show ¬ 128 * 3 + r.val - 128 < 128 by omega), dif_neg (show ¬ 128 * 3 + r.val - 128 - 128 < 128 by omega), mask3_apply,
      show (⟨128 * 3 + r.val - 128 - 128 - 128, _⟩ : Fin 128) = r from Fin.ext (by simp; omega), hf, ← EReal.coe_mul]

/-- Of a sum over all channels the mask of a head leaves its own. -/
theorem head_sum (f : Fin 256 → ℝ) (h : Fin 4) : ∑ c, f c * (if c.val / 64 = h.val then 1 else 0) = ∑ d, f (kc h d) := by
  have e : ∀ c : Fin 256, f c * (if c.val / 64 = h.val then 1 else 0) = if c.val / 64 = h.val then f c else 0 := fun c => by split <;> simp
  simp only [e]
  rw [← Finset.sum_filter]
  symm
  refine Finset.sum_bij (fun d _ => kc h d) (fun d _ => ?_) (fun a _ b _ hab => ?_) (fun c hc => ?_) (fun _ _ => rfl)
  · simp only [Finset.mem_filter, Finset.mem_univ, true_and, kc]; omega
  · have := congrArg Fin.val hab; simp only [kc] at this; exact Fin.ext (by omega)
  · simp only [Finset.mem_filter, Finset.mem_univ, true_and] at hc
    exact ⟨⟨c.val % 64, Nat.mod_lt _ (by norm_num)⟩, Finset.mem_univ _, Fin.ext (by simp only [kc]; omega)⟩

abbrev selT (x1 x2 : FVec Ideal S512x256 .f32) (y1 y2 : FVec Ideal S128x256 .f32) : FVec Ideal S512x128 .bf16 :=
  truncf .bf16 (select k0_pay10 (matmul dot_S512x256_S128x256_S512x128_1_1_0_0_n_n none (truncf .bf16 x1 bitsLt_bf16_f32) (truncf .bf16 y1 bitsLt_bf16_f32) (constant S512x128 .f32 0x00000000#32))
    (select (k0_pay13 k0_pay9 k0_pay10 k0_pay11 k0_pay12) (matmul dot_S512x256_S128x256_S512x128_1_1_0_0_n_n none (truncf .bf16 x2 bitsLt_bf16_f32) (truncf .bf16 y2 bitsLt_bf16_f32) (constant S512x128 .f32 0x00000000#32))
     (broadcast S512x128 (Scalar.ofBits .f32 0x00000000#32)))) bitsLt_bf16_f32
theorem selT_apply (x1 x2 : FVec Ideal S512x256 .f32) (y1 y2 : FVec Ideal S128x256 .f32) (h : Fin 4) (r r' : Fin 128) :
    selT x1 x2 y1 y2 (ix2 ⟨128 * h.val + r.val, by omega⟩ r') = if r'.val ≤ r.val then ∑ c, x1 (ix2 ⟨128 * h.val + r.val, by omega⟩ c) * y1 (ix2 r' c)
      else if r'.val / 64 = r.val / 64 then ∑ c, x2 (ix2 ⟨128 * h.val + r.val, by omega⟩ c) * y2 (ix2 r' c) else 0 := by
  pointwise [selT]
  rw [low_apply, up_apply]
  by_cases p1 : r'.val ≤ r.val
  · simp only [p1, if_true]; rfl
  · by_cases p2 : r'.val / 64 = r.val / 64
    · simp only [p1, p2, not_false_eq_true, and_self, if_true, if_false]; rfl
    · simp only [p1, p2, and_false, if_false]; rfl
abbrev aT (g : FVec Ideal S128x256 .f32) (q k : Vec Ideal S128x256 .f32) : FVec Ideal S512x128 .bf16 :=
  selT (stk (mulf (k0_pay118 q) (epT g))) (stk (mulf (k0_pay118 q) (emT g))) (mulf (k0_pay119 k) (emT g)) (mulf (k0_pay119 k) (epT g))
theorem gAof_eq (q k : Vec Ideal S128x256 .f32) (l : FVec Ideal S128x128 .f32) (w : FVec Ideal S128x256 .f32) (b : FVec Ideal S1x256 .f32) :
    gAof l w b q k = aT (gBof l w b) q k := rfl

section
variable (g : FVec Ideal S128x256 .f32) (B : Fin 128 → Fin 256 → ℝ) (hg : ∀ r c, g (ix2 r c) = (B r c : EReal))
  (hB : ∀ r c, -80 ≤ B r c - B 63 c ∧ B r c - B 63 c ≤ 80)
  (q k : Vec Ideal S128x256 .f32) (Q K : Fin 128 → Fin 256 → ℝ) (hq : ∀ r c, q (ix2 r c) = (Q r c : EReal)) (hk : ∀ r c, k (ix2 r c) = (K r c : EReal))
  (s : Vec Ideal S128x256 .f32) (S : Fin 128 → Fin 256 → ℝ) (hs : ∀ e c, s (ix2 e c) = (S e c : EReal))

include hg hB hq hk in
/-- The weights of a tile among its own rows. -/
theorem aT_apply (h : Fin 4) (r r' : Fin 128) :
    aT g q k (ix2 ⟨128 * h.val + r.val, by omega⟩ r')
      = ((if r'.val ≤ r.val then ∑ d, Q r (kc h d) / 8 * Real.exp (B r (kc h d) - B 63 (kc h d)) * (K r' (kc h d) * Real.exp (B 63 (kc h d) - B r' (kc h d)))
          else if r'.val / 64 = r.val / 64 then ∑ d, Q r (kc h d) / 8 * Real.exp (B 63 (kc h d) - B r (kc h d)) * (K r' (kc h d) * Real.exp (B r' (kc h d) - B 63 (kc h d)))
          else 0 : ℝ) : EReal) := by
  have k119 : k0_pay119 k = k := shapeCast_self _ _
  rw [show aT g q k = selT (stk (mulf (k0_pay118 q) (epT g))) (stk (mulf (k0_pay118 q) (emT g))) (mulf (k0_pay119 k) (emT g)) (mulf (k0_pay119 k) (epT g)) from rfl, selT_apply, k119]
  have f1 : ∀ r c, mulf k (emT g) (ix2 r c) = ((K r c * Real.exp (B 63 c - B r c) : ℝ) : EReal) := fun r c => by
    show k (ix2 r c) * emT g (ix2 r c) = _; rw [hk, em_apply g B hg hB, ← EReal.coe_mul]
  have f2 : ∀ r c, mulf k (epT g) (ix2 r c) = ((K r c * Real.exp (B r c - B 63 c) : ℝ) : EReal) := fun r c => by
    show k (ix2 r c) * epT g (ix2 r c) = _; rw [hk, ep_apply g B hg hB, ← EReal.coe_mul]
  have e1 := stk_at (mulf (k0_pay118 q) (epT g)) (fun r c => Q r c / 8 * Real.exp (B r c - B 63 c))
    (fun r c => by show k0_pay118 q (ix2 r c) * epT g (ix2 r c) = _; rw [q8_apply q Q hq, ep_apply g B hg hB, ← EReal.coe_mul]) h r
  have e2 := stk_at (mulf (k0_pay118 q) (emT g)) (fun r c => Q r c / 8 * Real.exp (B 63 c - B r c))
    (fun r c => by show k0_pay118 q (ix2 r c) * emT g (ix2 r c) = _; rw [q8_apply q Q hq, em_apply g B hg hB, ← EReal.coe_mul]) h r
  simp only [e1, e2, f1, f2, ← EReal.coe_mul, sum_coe]
  have m : ∀ f k : Fin 256 → ℝ, ∑ c, f c * (if c.val / 64 = h.val then 1 else 0) * k c = ∑ d, f (kc h d) * k (kc h d) := fun f k => by
    rw [← head_sum (fun c => f c * k c) h]; exact Finset.sum_congr rfl fun c _ => by ring
  rw [m (fun c => Q r c / 8 * Real.exp (B r c - B 63 c)) (fun c => K r' c * Real.exp (B 63 c - B r' c)),
    m (fun c => Q r c / 8 * Real.exp (B 63 c - B r c)) (fun c => K r' c * Real.exp (B r' c - B 63 c))]
  by_cases p1 : r'.val ≤ r.val
  · simp [p1]
  · by_cases p2 : r'.val / 64 = r.val / 64 <;> simp [p1, p2]

abbrev prT (x : FVec Ideal S512x256 .f32) (s : Vec Ideal S128x256 .f32) : FVec Ideal S512x128 .f32 :=
  matmul dot_S512x256_S128x256_S512x128_1_1_0_0_n_n none (truncf .bf16 x bitsLt_bf16_f32) (truncf .bf16 s bitsLt_bf16_f32) (constant S512x128 .f32 0x00000000#32)
theorem prT_apply (x : FVec Ideal S512x256 .f32) (s : Vec Ideal S128x256 .f32) (i : Fin 512) (e : Fin 128) :
    prT x s (ix2 i e) = ∑ c, x (ix2 i c) * s (ix2 e c) := by
  pointwise [prT]
abbrev qT' (g : FVec Ideal S128x256 .f32) (q s : Vec Ideal S128x256 .f32) : FVec Ideal S512x128 .f32 :=
  prT (stk (mulf (k0_pay118 q) (exp g))) s
theorem gQof_eq : gQof g q s = qT' g q s := rfl

include hg hq hs in
/-- What the state gives a tile. -/
theorem qT'_apply (h : Fin 4) (r e : Fin 128) :
    qT' g q s (ix2 ⟨128 * h.val + r.val, by omega⟩ e) = ((∑ d, Q r (kc h d) / 8 * Real.exp (B r (kc h d)) * S e (kc h d) : ℝ) : EReal) := by
  rw [show qT' g q s = prT (stk (mulf (k0_pay118 q) (exp g))) s from rfl, prT_apply]
  have e1 := stk_at (mulf (k0_pay118 q) (exp g)) (fun r c => Q r c / 8 * Real.exp (B r c))
    (fun r c => by show k0_pay118 q (ix2 r c) * Ideal.exp (g (ix2 r c)) = _; rw [q8_apply q Q hq, hg, show Ideal.exp ((B r c : ℝ) : EReal) = ((Real.exp (B r c) : ℝ) : EReal) from rfl, ← EReal.coe_mul]) h r
  simp only [e1, hs, ← EReal.coe_mul, sum_coe]
  rw [← head_sum (fun c => Q r c / 8 * Real.exp (B r c) * S e c) h]
  exact congrArg _ (Finset.sum_congr rfl fun c _ => by ring)

/-- A sum of both, for one head. -/
theorem gSum_apply (a : FVec Ideal S512x128 .bf16) (q : FVec Ideal S512x128 .f32) (v : Vec Ideal S128x128 .f32) (h : Fin 4) (r e : Fin 128) :
    gSum a q h.val v (ix2 r e) = ∑ r' : Fin 128, a (ix2 ⟨128 * h.val + r.val, by omega⟩ r') * v (ix2 r' e) + q (ix2 ⟨128 * h.val + r.val, by omega⟩ e) := by
  obtain ⟨h, hh⟩ := h
  rcases (by omega : h = 0 ∨ h = 1 ∨ h = 2 ∨ h = 3) with rfl | rfl | rfl | rfl
  · show addf _ _ (ix2 r e) = _
    pointwise [k0_pay126]
    try simp
  · show k0_pay132 a q v (ix2 r e) = _
    pointwise [k0_pay132, k0_pay131]
  · show k0_pay137 a q v (ix2 r e) = _
    pointwise [k0_pay137, k0_pay136]
  · show k0_pay143 a q v (ix2 r e) = _
    pointwise [k0_pay143, k0_pay142]

/-- A state decayed over a tile. -/
abbrev dcT (g : FVec Ideal S128x256 .f32) (s : Vec Ideal S128x256 .f32) : FVec Ideal S128x256 .f32 :=
  mulf s (broadcastTo S128x256 (exp (k0_pay117 g)) broadcasts_S1x256_S128x256)
abbrev adT (m : FVec Ideal S1x256 .f32) (k' t : FVec Ideal S128x256 .f32) (v : Vec Ideal S128x128 .f32) : FVec Ideal S128x256 .f32 :=
  addf t (matmul dot_S128x128_S128x256_S128x256_0_0_1_1_n_n none (k0_pay126 v) (truncf .bf16 (mulf k' (broadcastTo S128x256 m broadcasts_S1x256_S128x256)) bitsLt_bf16_f32) (constant S128x256 .f32 0x00000000#32))
theorem gNextOf_eq (v0 v1 v2 v3 : Vec Ideal S128x128 .f32) : gNextOf g k v0 v1 v2 v3 s
    = adT k0_pay8 (gKof g k) (adT k0_pay7 (gKof g k) (adT k0_pay6 (gKof g k) (adT k0_pay5 (gKof g k) (dcT g s) v0) v1) v2) v3 := rfl
theorem dcT_apply (e : Fin 128) (c : Fin 256) : dcT g s (ix2 e c) = s (ix2 e c) * Ideal.exp (g (ix2 127 c)) := by
  pointwise [dcT, k0_pay117]
theorem adT_apply (m : FVec Ideal S1x256 .f32) (k' t : FVec Ideal S128x256 .f32) (v : Vec Ideal S128x128 .f32) (e : Fin 128) (c : Fin 256) :
    adT m k' t v (ix2 e c) = t (ix2 e c) + ∑ r, v (ix2 r e) * (k' (ix2 r c) * m (ix2 0 c)) := by
  pointwise [adT, k0_pay126]
include hg hk in
theorem gKof_apply (r : Fin 128) (c : Fin 256) : gKof g k (ix2 r c) = ((K r c * Real.exp (B 127 c - B r c) : ℝ) : EReal) := by
  pointwise [gKof, k0_pay124, k0_pay117, k0_pay119]
  rw [hk, hg, hg, ← EReal.coe_sub, show Ideal.exp ((B 127 c - B r c : ℝ) : EReal) = ((Real.exp (B 127 c - B r c) : ℝ) : EReal) from rfl, ← EReal.coe_mul]

include hg hk hs in
/-- The state after a tile. -/
theorem gNextOf_apply (v : Fin 4 → Vec Ideal S128x128 .f32) (V : Fin 4 → Fin 128 → Fin 128 → ℝ) (hv : ∀ h r e, v h (ix2 r e) = (V h r e : EReal)) (e : Fin 128) (c : Fin 256) :
    gNextOf g k (v 0) (v 1) (v 2) (v 3) s (ix2 e c)
      = ((S e c * Real.exp (B 127 c) + ∑ r, V ⟨c.val / 64, by omega⟩ r e * (K r c * Real.exp (B 127 c - B r c)) : ℝ) : EReal) := by
  rw [gNextOf_eq, adT_apply, adT_apply, adT_apply, adT_apply, dcT_apply, hs, hg, show Ideal.exp ((B 127 c : ℝ) : EReal) = ((Real.exp (B 127 c) : ℝ) : EReal) from rfl]
  simp only [gKof_apply g B hg k K hk, hv, mask0_apply, mask1_apply, mask2_apply, mask3_apply, ← EReal.coe_mul, sum_coe, ← EReal.coe_add]
  congr 1
  have hc := c.isLt
  rcases (by omega : c.val / 64 = 0 ∨ c.val / 64 = 1 ∨ c.val / 64 = 2 ∨ c.val / 64 = 3) with p | p | p | p <;> simp [p] <;> rfl

/-- A row over its root mean square. -/
def nrm (f : Fin 128 → EReal) (e : Fin 128) : EReal :=
  f e * Ideal.rsqrt (Ideal.div (∑ x, f x * f x) (Ideal.ofBits FTy.f32 1124073472#32) + Ideal.ofBits FTy.f32 925353388#32)
/-- The gate: `x` times its sigmoid. -/
def slu (x : EReal) : EReal := x * Ideal.div 1 (1 + Ideal.exp (0 - x))
/-- A row over its root mean square, weighted and gated. -/
theorem gated_apply (o gt : FVec Ideal S128x128 .f32) (w : FVec Ideal S1x128 .f32) (r e : Fin 128) :
    k0_pay130 (gNrm o) gt w (ix2 r e) = nrm (fun e => o (ix2 r e)) e * w (ix2 0 e) * slu (gt (ix2 r e)) := by
  pointwise [k0_pay130, gNrm]
  rfl
/-- A row less its mean. -/
def ctr (f : Fin 128 → EReal) (e : Fin 128) : EReal := f e - Ideal.div (∑ x, f x) (Ideal.ofBits FTy.f32 1124073472#32)
theorem centred_apply (o gt : FVec Ideal S256x128 .f32) (w : FVec Ideal S1x128 .f32) (r : Fin 256) (e : Fin 128) :
    k0_pay27 o gt w (ix2 r e) = nrm (ctr fun e => o (ix2 r e)) e * w (ix2 0 e) * slu (gt (ix2 r e)) := by
  pointwise [k0_pay27]
  rfl
/-- The retention of a tile: its own rows, then the state. -/
theorem ret_apply (cs sn q k v : FVec Ideal S256x128 .f32) (d : FVec Ideal S1x256x256 .f32) (s : FVec Ideal S128x128 .f32) (u : FVec Ideal S1x256x128 .f32) (r : Fin 256) (e : Fin 128) :
    k0_pay23 cs sn q k v d s u (ix2 r e) = ∑ r' : Fin 256, (∑ x, q (ix2 r x) * k0_pay19 cs sn k (ix2 r' x)) * d (ix3 0 r r') * v (ix2 r' e)
      + ∑ x, q (ix2 r x) * u (ix3 0 r x) * s (ix2 x e) := by
  have h (kk : FVec Ideal S256x128 .bf16) (hk : kk = k0_pay22 cs sn k) : k0_pay23 cs sn q k v d s u (ix2 r e) = ∑ r' : Fin 256, (∑ x, q (ix2 r x) * kk (ix2 r' x)) * d (ix3 0 r r') * v (ix2 r' e)
      + ∑ x, q (ix2 r x) * u (ix3 0 r x) * s (ix2 x e) := by
    unfold k0_pay23
    rw [← hk]
    pointwise [k0_pay20, k0_pay21]
  exact h (k0_pay22 cs sn k) rfl
end

end Cert.MixBlock

end
-- ==== Proof.MixGates.lean ====
/-
  What each grid point of the mixer reads for its gates and gated linear attention.
-/
module

public import proofs.«01_k».proof.Proof.MixState
public import proofs.«01_k».proof.Proof.MixTab
public import proofs.«01_k».proof.Proof.MixGo

@[expose] public section

set_option maxRecDepth 16384

noncomputable section

namespace Cert.MixBlock

open Cert.RowMath Cert.MixMath Cert.MixHost Cert.MixKernelIdeal Cert.MixKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev argB : FVec Ideal S1x256 .f32 := m ((c : Thread nD τ).loc main_arg2)
abbrev argR : FVec Ideal S1x512 .f32 := m ((c : Thread nD τ).loc main_arg3)
abbrev argG : FVec Ideal S1x512 .f32 := m ((c : Thread nD τ).loc main_arg4)

/-- One device's gate weights and biases are these reals. -/
def OfW (gw : Fin 16 → Fin 256 → ℝ) : Prop := ∀ k l, argW m c (ix3 0 k l) = (gw k l : EReal)
def OfB (gb : Fin 256 → ℝ) : Prop := ∀ l, argB m c (ix2 0 l) = (gb l : EReal)

variable {p : Fin 8192 → Fin 3600 → ℝ} (H : Of m c p) (t : Fin cfg0.N)

abbrev bRg : FVec Ideal S512x512 .f32 := X0_3 m c t
theorem idx3 : win0_3.index t 0 = t.val ∧ win0_3.index t 1 = 3 := (by decide +kernel : ∀ t : Fin grid0.N, win0_3.index t 0 = t.val ∧ win0_3.index t 1 = 3) t
theorem blk3 (r : Fin 512) (l : Fin 512) : bRg m c t (ix2 r l) = padded (argProj m c) (ix2 (row16 (pt t) r) ⟨1536 + l.val, by omega⟩) := by
  rw [← V_proj]
  unfold bRg X0_3 Pipeline.Window.fill
  rw [dif_pos (moved0_3 t _)]
  unfold iblk
  rw [View.read_apply]
  show V m c main_v1 _ = V m c main_v1 _
  congr 1
  funext a
  apply Fin.ext
  match a with
  | ⟨0, _⟩ => show win0_3.index t 0 * 512 + 1 * r.val = 512 * t.val + r.val; rw [(idx3 t).1]; omega
  | ⟨1, _⟩ => show win0_3.index t 1 * 512 + 1 * l.val = 1536 + l.val; rw [(idx3 t).2]; omega
abbrev bGq : FVec Ideal S512x256 .f32 := X0_4 m c t
theorem idx4 : win0_4.index t 0 = t.val ∧ win0_4.index t 1 = 8 := (by decide +kernel : ∀ t : Fin grid0.N, win0_4.index t 0 = t.val ∧ win0_4.index t 1 = 8) t
theorem blk4 (r : Fin 512) (l : Fin 256) : bGq m c t (ix2 r l) = padded (argProj m c) (ix2 (row16 (pt t) r) ⟨2048 + l.val, by omega⟩) := by
  rw [← V_proj]
  unfold bGq X0_4 Pipeline.Window.fill
  rw [dif_pos (moved0_4 t _)]
  unfold iblk
  rw [View.read_apply]
  show V m c main_v1 _ = V m c main_v1 _
  congr 1
  funext a
  apply Fin.ext
  match a with
  | ⟨0, _⟩ => show win0_4.index t 0 * 512 + 1 * r.val = 512 * t.val + r.val; rw [(idx4 t).1]; omega
  | ⟨1, _⟩ => show win0_4.index t 1 * 256 + 1 * l.val = 2048 + l.val; rw [(idx4 t).2]; omega
abbrev bGk : FVec Ideal S512x256 .f32 := X0_5 m c t
theorem idx5 : win0_5.index t 0 = t.val ∧ win0_5.index t 1 = 9 := (by decide +kernel : ∀ t : Fin grid0.N, win0_5.index t 0 = t.val ∧ win0_5.index t 1 = 9) t
theorem blk5 (r : Fin 512) (l : Fin 256) : bGk m c t (ix2 r l) = padded (argProj m c) (ix2 (row16 (pt t) r) ⟨2304 + l.val, by omega⟩) := by
  rw [← V_proj]
  unfold bGk X0_5 Pipeline.Window.fill
  rw [dif_pos (moved0_5 t _)]
  unfold iblk
  rw [View.read_apply]
  show V m c main_v1 _ = V m c main_v1 _
  congr 1
  funext a
  apply Fin.ext
  match a with
  | ⟨0, _⟩ => show win0_5.index t 0 * 512 + 1 * r.val = 512 * t.val + r.val; rw [(idx5 t).1]; omega
  | ⟨1, _⟩ => show win0_5.index t 1 * 256 + 1 * l.val = 2304 + l.val; rw [(idx5 t).2]; omega
abbrev bGv : FVec Ideal S512x512 .f32 := X0_6 m c t
theorem idx6 : win0_6.index t 0 = t.val ∧ win0_6.index t 1 = 5 := (by decide +kernel : ∀ t : Fin grid0.N, win0_6.index t 0 = t.val ∧ win0_6.index t 1 = 5) t
theorem blk6 (r : Fin 512) (l : Fin 512) : bGv m c t (ix2 r l) = padded (argProj m c) (ix2 (row16 (pt t) r) ⟨2560 + l.val, by omega⟩) := by
  rw [← V_proj]
  unfold bGv X0_6 Pipeline.Window.fill
  rw [dif_pos (moved0_6 t _)]
  unfold iblk
  rw [View.read_apply]
  show V m c main_v1 _ = V m c main_v1 _
  congr 1
  funext a
  apply Fin.ext
  match a with
  | ⟨0, _⟩ => show win0_6.index t 0 * 512 + 1 * r.val = 512 * t.val + r.val; rw [(idx6 t).1]; omega
  | ⟨1, _⟩ => show win0_6.index t 1 * 512 + 1 * l.val = 2560 + l.val; rw [(idx6 t).2]; omega
abbrev bGg : FVec Ideal S512x512 .f32 := X0_7 m c t
theorem idx7 : win0_7.index t 0 = t.val ∧ win0_7.index t 1 = 6 := (by decide +kernel : ∀ t : Fin grid0.N, win0_7.index t 0 = t.val ∧ win0_7.index t 1 = 6) t
theorem blk7 (r : Fin 512) (l : Fin 512) : bGg m c t (ix2 r l) = padded (argProj m c) (ix2 (row16 (pt t) r) ⟨3072 + l.val, by omega⟩) := by
  rw [← V_proj]
  unfold bGg X0_7 Pipeline.Window.fill
  rw [dif_pos (moved0_7 t _)]
  unfold iblk
  rw [View.read_apply]
  show V m c main_v1 _ = V m c main_v1 _
  congr 1
  funext a
  apply Fin.ext
  match a with
  | ⟨0, _⟩ => show win0_7.index t 0 * 512 + 1 * r.val = 512 * t.val + r.val; rw [(idx7 t).1]; omega
  | ⟨1, _⟩ => show win0_7.index t 1 * 512 + 1 * l.val = 3072 + l.val; rw [(idx7 t).2]; omega
abbrev bLr : FVec Ideal S512x128 .f32 := iblk m c 8 t
theorem idx8 : win0_8.index t 0 = t.val ∧ win0_8.index t 1 = 28 := (by decide +kernel : ∀ t : Fin grid0.N, win0_8.index t 0 = t.val ∧ win0_8.index t 1 = 28) t
theorem blk8 (r : Fin 512) (l : Fin 128) : bLr m c t (ix2 r l) = padded (argProj m c) (ix2 (row16 (pt t) r) ⟨3584 + l.val, by omega⟩) := by
  rw [← V_proj]
  unfold bLr iblk
  rw [View.read_apply]
  show V m c main_v1 _ = V m c main_v1 _
  congr 1
  funext a
  apply Fin.ext
  match a with
  | ⟨0, _⟩ => show win0_8.index t 0 * 512 + 1 * r.val = 512 * t.val + r.val; rw [(idx8 t).1]; omega
  | ⟨1, _⟩ => show win0_8.index t 1 * 128 + 1 * l.val = 3584 + l.val; rw [(idx8 t).2]; omega
abbrev bD : FVec Ideal S4x256x256 .f32 := iblk m c 9 t
theorem idx9 : win0_9.index t 0 = 0 ∧ win0_9.index t 1 = 0 ∧ win0_9.index t 2 = 0 := (by decide +kernel : ∀ t : Fin grid0.N, win0_9.index t 0 = 0 ∧ win0_9.index t 1 = 0 ∧ win0_9.index t 2 = 0) t
theorem blk9 : bD m c t = decT := by
  rw [← V_dec m c]
  unfold bD iblk
  funext y
  rw [View.read_apply]
  show V m c main_v42 _ = V m c main_v42 _
  congr 1
  funext a
  apply Fin.ext
  match a with
  | ⟨0, _⟩ => show win0_9.index t 0 * 4 + 1 * (y 0).val = (y 0).val; rw [(idx9 t).1]; omega
  | ⟨1, _⟩ => show win0_9.index t 1 * 256 + 1 * (y 1).val = (y 1).val; rw [(idx9 t).2.1]; omega
  | ⟨2, _⟩ => show win0_9.index t 2 * 256 + 1 * (y 2).val = (y 2).val; rw [(idx9 t).2.2]; omega
abbrev bW : FVec Ideal S128x256 .f32 := iblk m c 13 t
theorem idx13 : win0_13.index t 0 = 0 ∧ win0_13.index t 1 = 0 := (by decide +kernel : ∀ t : Fin grid0.N, win0_13.index t 0 = 0 ∧ win0_13.index t 1 = 0) t
theorem blk13 : bW m c t = gwPad (argW m c) := by
  refine Eq.trans ?_ (V_gw m c)
  unfold bW iblk
  funext y
  rw [View.read_apply]
  show V m c main_v5 _ = V m c main_v5 _
  congr 1
  funext a
  apply Fin.ext
  match a with
  | ⟨0, _⟩ => show win0_13.index t 0 * 128 + 1 * (y 0).val = (y 0).val; rw [(idx13 t).1]; omega
  | ⟨1, _⟩ => show win0_13.index t 1 * 256 + 1 * (y 1).val = (y 1).val; rw [(idx13 t).2]; omega
abbrev bB : FVec Ideal S1x256 .f32 := iblk m c 14 t
theorem idx14 : win0_14.index t 0 = 0 ∧ win0_14.index t 1 = 0 := (by decide +kernel : ∀ t : Fin grid0.N, win0_14.index t 0 = 0 ∧ win0_14.index t 1 = 0) t
theorem blk14 : bB m c t = argB m c := by
  refine Eq.trans ?_ (V_main_arg2 m c)
  unfold bB iblk
  funext y
  rw [View.read_apply]
  show V m c main_arg2 _ = V m c main_arg2 _
  congr 1
  funext a
  apply Fin.ext
  match a with
  | ⟨0, _⟩ => show win0_14.index t 0 * 1 + 1 * (y 0).val = (y 0).val; rw [(idx14 t).1]; omega
  | ⟨1, _⟩ => show win0_14.index t 1 * 256 + 1 * (y 1).val = (y 1).val; rw [(idx14 t).2]; omega
abbrev bRw : FVec Ideal S1x512 .f32 := iblk m c 15 t
theorem idx15 : win0_15.index t 0 = 0 ∧ win0_15.index t 1 = 0 := (by decide +kernel : ∀ t : Fin grid0.N, win0_15.index t 0 = 0 ∧ win0_15.index t 1 = 0) t
theorem blk15 : bRw m c t = argR m c := by
  refine Eq.trans ?_ (V_main_arg3 m c)
  unfold bRw iblk
  funext y
  rw [View.read_apply]
  show V m c main_arg3 _ = V m c main_arg3 _
  congr 1
  funext a
  apply Fin.ext
  match a with
  | ⟨0, _⟩ => show win0_15.index t 0 * 1 + 1 * (y 0).val = (y 0).val; rw [(idx15 t).1]; omega
  | ⟨1, _⟩ => show win0_15.index t 1 * 512 + 1 * (y 1).val = (y 1).val; rw [(idx15 t).2]; omega
abbrev bGw : FVec Ideal S1x512 .f32 := iblk m c 16 t
theorem idx16 : win0_16.index t 0 = 0 ∧ win0_16.index t 1 = 0 := (by decide +kernel : ∀ t : Fin grid0.N, win0_16.index t 0 = 0 ∧ win0_16.index t 1 = 0) t
theorem blk16 : bGw m c t = argG m c := by
  refine Eq.trans ?_ (V_main_arg4 m c)
  unfold bGw iblk
  funext y
  rw [View.read_apply]
  show V m c main_arg4 _ = V m c main_arg4 _
  congr 1
  funext a
  apply Fin.ext
  match a with
  | ⟨0, _⟩ => show win0_16.index t 0 * 1 + 1 * (y 0).val = (y 0).val; rw [(idx16 t).1]; omega
  | ⟨1, _⟩ => show win0_16.index t 1 * 512 + 1 * (y 1).val = (y 1).val; rw [(idx16 t).2]; omega

theorem padded_zero (x : FVec Ideal S1x8192x3600 .f32) (n : Fin 8192) (l : Fin 3712) (h : ¬ l.val < 3600) : padded x (ix2 n l) = 0 := by
  pointwise [padded]
  split_ifs
  show (((0#32 : BitVec 32).toInt : ℝ) : EReal) = 0
  norm_num

include H in
theorem proj_at (n : Fin 8192) (o l : ℕ) (h : o + l < 3600) : padded (argProj m c) (ix2 n ⟨o + l, by omega⟩) = (p n (at_ o l) : EReal) := by
  rw [padded_apply _ _ _ h, H]
  exact congrArg (fun z => ((p n z : ℝ) : EReal)) (Fin.ext (Nat.mod_eq_of_lt h).symm)

/-- Tile `j` of block `t`, of the sixty-four. -/
abbrev til (j : Fin 4) : Fin 64 := ⟨4 * (pt t).val + j.val, by have := (pt t).isLt; omega⟩
/-- Row `r` of tile `J`. -/
abbrev rowG (J : Fin 64) (r : Fin 128) : Fin 8192 := ⟨128 * J.val + r.val, by omega⟩
variable (j : Fin 4) (r : Fin 128)
theorem rowG_eq (h : (128 * j.val + r.val) % 512 < 512) : row16 (pt t) ⟨(128 * j.val + r.val) % 512, h⟩ = rowG (til t j) r :=
  Fin.ext (by show 512 * (pt t).val + (128 * j.val + r.val) % 512 = 128 * (4 * (pt t).val + j.val) + r.val; omega)
include H
theorem gq_at (l : Fin 256) : wide (F := Ideal) (bGq m c t) (128 * j.val) (ix2 r l) = (p (rowG (til t j) r) (at_ 2048 l.val) : EReal) := by
  refine (blk4 m c t ⟨(128 * j.val + r.val) % 512, Nat.mod_lt _ (by norm_num)⟩ l).trans ?_
  rw [rowG_eq]
  exact proj_at m c H _ _ _ (by omega)
theorem gk_at (l : Fin 256) : wide (F := Ideal) (bGk m c t) (128 * j.val) (ix2 r l) = (p (rowG (til t j) r) (at_ 2304 l.val) : EReal) := by
  refine (blk5 m c t ⟨(128 * j.val + r.val) % 512, Nat.mod_lt _ (by norm_num)⟩ l).trans ?_
  rw [rowG_eq]
  exact proj_at m c H _ _ _ (by omega)
theorem gv_at (h : Fin 4) (l : Fin 128) : sq (F := Ideal) (bGv m c t) (128 * j.val) (128 * h.val) (ix2 r l) = (gvl p h (rowG (til t j) r) l : EReal) := by
  refine (blk6 m c t ⟨(128 * j.val + r.val) % 512, Nat.mod_lt _ (by norm_num)⟩ ⟨(128 * h.val + l.val) % 512, Nat.mod_lt _ (by norm_num)⟩).trans ?_
  rw [rowG_eq]
  refine (proj_at m c H _ 2560 ((128 * h.val + l.val) % 512) (by omega)).trans (congrArg (fun z => ((p _ z : ℝ) : EReal)) (Fin.ext ?_))
  show (2560 + (128 * h.val + l.val) % 512) % 3600 = (2560 + 128 * h.val + l.val) % 3600
  rw [Nat.mod_eq_of_lt (show 128 * h.val + l.val < 512 by omega), Nat.mod_eq_of_lt (by omega), Nat.mod_eq_of_lt (by omega)]
  omega
theorem gg_at (h : Fin 4) (l : Fin 128) : sq (F := Ideal) (bGg m c t) (128 * j.val) (128 * h.val) (ix2 r l) = (p (rowG (til t j) r) (col 3072 h l) : EReal) := by
  refine (blk7 m c t ⟨(128 * j.val + r.val) % 512, Nat.mod_lt _ (by norm_num)⟩ ⟨(128 * h.val + l.val) % 512, Nat.mod_lt _ (by norm_num)⟩).trans ?_
  rw [rowG_eq]
  refine (proj_at m c H _ 3072 ((128 * h.val + l.val) % 512) (by omega)).trans (congrArg (fun z => ((p _ z : ℝ) : EReal)) (Fin.ext ?_))
  show (3072 + (128 * h.val + l.val) % 512) % 3600 = (3072 + 128 * h.val + l.val) % 3600
  rw [Nat.mod_eq_of_lt (show 128 * h.val + l.val < 512 by omega), Nat.mod_eq_of_lt (by omega), Nat.mod_eq_of_lt (by omega)]
  omega
theorem rg_at (i : Fin 2) (r : Fin 256) (h : Fin 4) (l : Fin 128) :
    cut (F := Ideal) (bRg m c t) (256 * i.val) (128 * h.val) (ix2 r l) = (p (rowT (tile (pt t) i) r) (col 1536 h l) : EReal) := by
  refine (blk3 m c t ⟨(256 * i.val + r.val) % 512, Nat.mod_lt _ (by norm_num)⟩ ⟨(128 * h.val + l.val) % 512, Nat.mod_lt _ (by norm_num)⟩).trans ?_
  rw [rowT_tile]
  refine (proj_at m c H _ 1536 ((128 * h.val + l.val) % 512) (by omega)).trans (congrArg (fun z => ((p _ z : ℝ) : EReal)) (Fin.ext ?_))
  show (1536 + (128 * h.val + l.val) % 512) % 3600 = (1536 + 128 * h.val + l.val) % 3600
  rw [Nat.mod_eq_of_lt (show 128 * h.val + l.val < 512 by omega), Nat.mod_eq_of_lt (by omega), Nat.mod_eq_of_lt (by omega)]
  omega
theorem lr_at (k : Fin 128) : rows (F := Ideal) (bLr m c t) (128 * j.val) (ix2 r k) = ((if k.val < 16 then p (rowG (til t j) r) (at_ 3584 k.val) else 0 : ℝ) : EReal) := by
  refine (blk8 m c t ⟨(128 * j.val + r.val) % 512, Nat.mod_lt _ (by norm_num)⟩ k).trans ?_
  rw [rowG_eq]
  by_cases hk : k.val < 16
  · rw [if_pos hk]
    exact proj_at m c H _ 3584 k.val (by omega)
  · rw [if_neg hk]
    exact padded_zero _ _ _ (by show ¬ 3584 + k.val < 3600; omega)
omit H
variable {gw : Fin 16 → Fin 256 → ℝ} {gb : Fin 256 → ℝ} (HW : OfW m c gw) (HB : OfB m c gb)
include HW in
theorem w_at (k : Fin 128) (l : Fin 256) : bW m c t (ix2 k l) = ((if h : k.val < 16 then gw ⟨k.val, h⟩ l else 0 : ℝ) : EReal) := by
  rw [blk13, gwPad_apply]
  split_ifs
  · exact HW _ _
  · rfl
include HB in
theorem b_at (l : Fin 256) : bB m c t (ix2 0 l) = (gb l : EReal) := by
  rw [blk14]
  exact HB l

/-- Of the 128 lanes of the gate's input sixteen count. -/
theorem sum_lanes (f : Fin 3600 → ℝ) (g : Fin 16 → ℝ) :
    ∑ k : Fin 128, (if k.val < 16 then f (at_ 3584 k.val) else 0) * (if h : k.val < 16 then g ⟨k.val, h⟩ else 0) = ∑ k : Fin 16, f (at_ 3584 k.val) * g k := by
  rw [show (128 : ℕ) = 16 + 112 from rfl, Fin.sum_univ_add]
  refine (congrArg₂ (· + ·) (Finset.sum_congr rfl fun k _ => ?_) (Finset.sum_eq_zero fun k _ => ?_)).trans (add_zero _)
  · have e : (Fin.castAdd 112 k).val < 16 := k.isLt
    rw [if_pos e, dif_pos e]
    rfl
  · have e : ¬ (Fin.natAdd 16 k).val < 16 := by rw [Fin.val_natAdd]; omega
    rw [if_neg e, zero_mul]

include H HW HB
/-- The cumulative gate of tile `j`. -/
theorem gB_apply (l : Fin 256) : gB (F := Ideal) (bLr m c t) (bW m c t) (bB m c t) j.val (ix2 r l)
    = ((inB (fun n => la p gw gb n l) (til t j).val r.val : ℝ) : EReal) := by
  refine (gBof_apply (rows (F := Ideal) (bLr m c t) (128 * j.val)) (bW m c t) (bB m c t) _ _ _ (lr_at m c H t j) (w_at m c t HW) (b_at m c t HB) r l).trans ?_
  rw [← inB_sum _ _ (til t j).isLt]
  refine congrArg _ (Finset.sum_congr rfl fun s _ => ?_)
  rw [sum_lanes (p (rowG (til t j) s)) (fun k => gw k l)]
  rfl

end Cert.MixBlock

end
-- ==== Proof.MixFirst.lean ====
/-
  The first point: its tiles of gated linear attention one by one, and the blocks it stores of the mixed rows, of the attentions
  and of the gated states.
-/
module

public import proofs.«01_k».proof.Proof.MixOut

@[expose] public section

set_option maxRecDepth 16384

noncomputable section

namespace Cert.MixBlock

open Cert.RowStore Cert.MixKernelIdeal Cert.MixKernelIdeal.Gen Idealize.ShloMosaic Idealize.ShloMosaic.TcCoe Idealize.SL.Sem kernelRun0_A.sl

section
variable {F : FTy → Type} [FloatOps F] [Named F]

variable (c : Dev nD) (i : grid0.Coords)
  (arg1 : Memref sig .tc .vmem S512x512 .f32) (h1 : arg1.IsWhole) (arg2 : Memref sig .tc .vmem S512x512 .f32) (h2 : arg2.IsWhole)
  (arg3 : Memref sig .tc .vmem S512x512 .f32) (h3 : arg3.IsWhole) (arg4 : Memref sig .tc .vmem S512x512 .f32) (h4 : arg4.IsWhole)
  (arg5 : Memref sig .tc .vmem S512x256 .f32) (h5 : arg5.IsWhole) (arg6 : Memref sig .tc .vmem S512x256 .f32) (h6 : arg6.IsWhole)
  (arg7 : Memref sig .tc .vmem S512x512 .f32) (h7 : arg7.IsWhole) (arg8 : Memref sig .tc .vmem S512x512 .f32) (h8 : arg8.IsWhole)
  (arg9 : Memref sig .tc .vmem S512x128 .f32) (h9 : arg9.IsWhole) (arg10 : Memref sig .tc .vmem S4x256x256 .f32) (h10 : arg10.IsWhole)
  (arg11 : Memref sig .tc .vmem S8x256x128 .f32) (h11 : arg11.IsWhole) (arg12 : Memref sig .tc .vmem S4x256x128 .f32) (h12 : arg12.IsWhole)
  (arg13 : Memref sig .tc .vmem S2x8x256 .f32) (h13 : arg13.IsWhole) (arg14 : Memref sig .tc .vmem S128x256 .f32) (h14 : arg14.IsWhole)
  (arg15 : Memref sig .tc .vmem S1x256 .f32) (h15 : arg15.IsWhole) (arg16 : Memref sig .tc .vmem S1x512 .f32) (h16 : arg16.IsWhole)
  (arg17 : Memref sig .tc .vmem S1x512 .f32) (h17 : arg17.IsWhole) (arg18 : Memref sig .tc .vmem S512x1024 .bf16) (h18 : arg18.IsWhole)
  (arg19 : Memref sig .tc .vmem S512x1024 .f32) (h19 : arg19.IsWhole) (arg20 : Memref sig .tc .vmem S512x512 .bf16) (h20 : arg20.IsWhole)
  (arg21 : Memref sig .tc .vmem S512x512 .bf16) (h21 : arg21.IsWhole) (arg22 : Memref sig .tc .vmem S2x512x128 .f32) (h22 : arg22.IsWhole)
  (arg23 : Memref sig .tc .vmem S4x128x256 .f32) (h23 : arg23.IsWhole) (arg24 : Memref sig .tc .vmem S512x128 .f32) (h24 : arg24.IsWhole)
  (arg25 : Memref sig .tc .vmem S128x256 .f32) (h25 : arg25.IsWhole)
  (x0 x1 x2 x3 : Vec F S512x512 .f32) (x4 x5 : Vec F S512x256 .f32) (x6 x7 : Vec F S512x512 .f32) (x8 : Vec F S512x128 .f32)
  (x9 : Vec F S4x256x256 .f32) (x10 : Vec F S8x256x128 .f32) (x11 : Vec F S4x256x128 .f32) (x12 : Vec F S2x8x256 .f32) (x13 : Vec F S128x256 .f32) (x14 : Vec F S1x256 .f32) (x15 x16 : Vec F S1x512 .f32)
  (xs0 : Vec F S512x128 .f32) (xs1 : Vec F S128x256 .f32)

/-- Tile 0: the cumulative gate. -/
theorem gB_A0 : v790 c _ h9 _ h14 _ h15 x8 x13 x14 = gB x8 x13 x14 0 := by
  refine Eq.trans (b := gBof (rd 128 128 _ h9 x8 0 0) (rd 128 256 _ h14 x13 0 0) (rd 1 256 _ h15 x14 0 0)) (by rfl) ?_
  simp only [rd, loads]; try rfl
/-- Tile 0: the weights among its own rows. -/
theorem gA_A0 : v844 c _ h5 _ h6 _ h9 _ h14 _ h15 x4 x5 x8 x13 x14 = gA x4 x5 x8 x13 x14 0 := by
  refine Eq.trans (b := gAof (rd 128 128 _ h9 x8 0 0) (rd 128 256 _ h14 x13 0 0) (rd 1 256 _ h15 x14 0 0) (rd 128 256 _ h5 x4 0 0) (rd 128 256 _ h6 x5 0 0)) (by rfl) ?_
  simp only [rd, loads]; try rfl
/-- Tile 0: the state before it. -/
theorem gS_A0 : v845 c arg25 = gAt x5 x6 x8 x13 x14 k0_pay3 0 := by
  unfold v845 HS1_1
  exact View.readCov_cons_toLoadRect ..
/-- Tile 0: what the state gives its rows. -/
theorem gQ_A0 : v859 c _ h5 _ h9 _ h14 _ h15 arg25 x4 x8 x13 x14 = gQ x4 x8 x13 x14 (gAt x5 x6 x8 x13 x14 k0_pay3 0) 0 := by
  refine Eq.trans (b := gQof (v790 c _ h9 _ h14 _ h15 x8 x13 x14) (rd 128 256 _ h5 x4 0 0) (v845 c arg25)) (by rfl) ?_
  rw [gB_A0, gS_A0 (x5 := x5) (x6 := x6) (x8 := x8) (x13 := x13) (x14 := x14)]
  simp only [rd, loads]; try rfl
/-- Tile 0, head 0. -/
theorem gO_A00 : v876 c _ h5 _ h6 _ h7 _ h9 _ h14 _ h15 arg25 x4 x5 x6 x8 x13 x14 = gO x4 x5 x6 x8 x13 x14 k0_pay3 0 0 := by
  refine Eq.trans (b := gSum _ _ 0 (rd 128 128 _ h7 x6 0 0)) (by rfl) ?_
  rw [gA_A0, gQ_A0]
  simp only [rd, loads]; try rfl
/-- Tile 0, head 1. -/
theorem gO_A01 : v915 c _ h5 _ h6 _ h7 _ h9 _ h14 _ h15 arg25 x4 x5 x6 x8 x13 x14 = gO x4 x5 x6 x8 x13 x14 k0_pay3 0 1 := by
  refine Eq.trans (b := gSum _ _ 1 (rd 128 128 _ h7 x6 0 128)) (by rfl) ?_
  rw [gA_A0, gQ_A0]
  simp only [rd, loads]; try rfl
/-- Tile 0, head 2. -/
theorem gO_A02 : v954 c _ h5 _ h6 _ h7 _ h9 _ h14 _ h15 arg25 x4 x5 x6 x8 x13 x14 = gO x4 x5 x6 x8 x13 x14 k0_pay3 0 2 := by
  refine Eq.trans (b := gSum _ _ 2 (rd 128 128 _ h7 x6 0 256)) (by rfl) ?_
  rw [gA_A0, gQ_A0]
  simp only [rd, loads]; try rfl
/-- Tile 0, head 3. -/
theorem gO_A03 : v993 c _ h5 _ h6 _ h7 _ h9 _ h14 _ h15 arg25 x4 x5 x6 x8 x13 x14 = gO x4 x5 x6 x8 x13 x14 k0_pay3 0 3 := by
  refine Eq.trans (b := gSum _ _ 3 (rd 128 128 _ h7 x6 0 384)) (by rfl) ?_
  rw [gA_A0, gQ_A0]
  simp only [rd, loads]; try rfl
/-- Tile 1: the cumulative gate. -/
theorem gB_A1 : v1070 c _ h9 _ h14 _ h15 x8 x13 x14 = gB x8 x13 x14 1 := by
  refine Eq.trans (b := gBof (rd 128 128 _ h9 x8 128 0) (rd 128 256 _ h14 x13 0 0) (rd 1 256 _ h15 x14 0 0)) (by rfl) ?_
  simp only [rd, loads]; try rfl
/-- Tile 1: the weights among its own rows. -/
theorem gA_A1 : v1124 c _ h5 _ h6 _ h9 _ h14 _ h15 x4 x5 x8 x13 x14 = gA x4 x5 x8 x13 x14 1 := by
  refine Eq.trans (b := gAof (rd 128 128 _ h9 x8 128 0) (rd 128 256 _ h14 x13 0 0) (rd 1 256 _ h15 x14 0 0) (rd 128 256 _ h5 x4 128 0) (rd 128 256 _ h6 x5 128 0)) (by rfl) ?_
  simp only [rd, loads]; try rfl
/-- Tile 1: the state before it. -/
theorem gS_A1 : v1125 c _ h6 _ h7 _ h9 _ h14 _ h15 arg25 x5 x6 x8 x13 x14 = gAt x5 x6 x8 x13 x14 k0_pay3 1 := by
  unfold v1125 HS1_2
  refine Eq.trans (View.readCov_cons_toLoadRect ..) ?_
  unfold v1028
  refine Eq.trans (shapeCast_self _ _) ?_
  refine Eq.trans (b := gNextOf (v790 c _ h9 _ h14 _ h15 x8 x13 x14) (rd 128 256 _ h6 x5 0 0) (rd 128 128 _ h7 x6 0 0) (rd 128 128 _ h7 x6 0 128) (rd 128 128 _ h7 x6 0 256) (rd 128 128 _ h7 x6 0 384) (v845 c arg25)) (by rfl) ?_
  rw [gB_A0, gS_A0 (x5 := x5) (x6 := x6) (x8 := x8) (x13 := x13) (x14 := x14)]
  simp only [rd, loads]; try rfl
/-- Tile 1: what the state gives its rows. -/
theorem gQ_A1 : v1139 c _ h5 _ h6 _ h7 _ h9 _ h14 _ h15 arg25 x4 x5 x6 x8 x13 x14 = gQ x4 x8 x13 x14 (gAt x5 x6 x8 x13 x14 k0_pay3 1) 1 := by
  refine Eq.trans (b := gQof (v1070 c _ h9 _ h14 _ h15 x8 x13 x14) (rd 128 256 _ h5 x4 128 0) (v1125 c _ h6 _ h7 _ h9 _ h14 _ h15 arg25 x5 x6 x8 x13 x14)) (by rfl) ?_
  rw [gB_A1, gS_A1 (x5 := x5) (x6 := x6) (x8 := x8) (x13 := x13) (x14 := x14)]
  simp only [rd, loads]; try rfl
/-- Tile 1, head 0. -/
theorem gO_A10 : v1156 c _ h5 _ h6 _ h7 _ h9 _ h14 _ h15 arg25 x4 x5 x6 x8 x13 x14 = gO x4 x5 x6 x8 x13 x14 k0_pay3 1 0 := by
  refine Eq.trans (b := gSum _ _ 0 (rd 128 128 _ h7 x6 128 0)) (by rfl) ?_
  rw [gA_A1, gQ_A1]
  simp only [rd, loads]; try rfl
/-- Tile 1, head 1. -/
theorem gO_A11 : v1195 c _ h5 _ h6 _ h7 _ h9 _ h14 _ h15 arg25 x4 x5 x6 x8 x13 x14 = gO x4 x5 x6 x8 x13 x14 k0_pay3 1 1 := by
  refine Eq.trans (b := gSum _ _ 1 (rd 128 128 _ h7 x6 128 128)) (by rfl) ?_
  rw [gA_A1, gQ_A1]
  simp only [rd, loads]; try rfl
/-- Tile 1, head 2. -/
theorem gO_A12 : v1234 c _ h5 _ h6 _ h7 _ h9 _ h14 _ h15 arg25 x4 x5 x6 x8 x13 x14 = gO x4 x5 x6 x8 x13 x14 k0_pay3 1 2 := by
  refine Eq.trans (b := gSum _ _ 2 (rd 128 128 _ h7 x6 128 256)) (by rfl) ?_
  rw [gA_A1, gQ_A1]
  simp only [rd, loads]; try rfl
/-- Tile 1, head 3. -/
theorem gO_A13 : v1273 c _ h5 _ h6 _ h7 _ h9 _ h14 _ h15 arg25 x4 x5 x6 x8 x13 x14 = gO x4 x5 x6 x8 x13 x14 k0_pay3 1 3 := by
  refine Eq.trans (b := gSum _ _ 3 (rd 128 128 _ h7 x6 128 384)) (by rfl) ?_
  rw [gA_A1, gQ_A1]
  simp only [rd, loads]; try rfl
/-- Tile 2: the cumulative gate. -/
theorem gB_A2 : v1350 c _ h9 _ h14 _ h15 x8 x13 x14 = gB x8 x13 x14 2 := by
  refine Eq.trans (b := gBof (rd 128 128 _ h9 x8 256 0) (rd 128 256 _ h14 x13 0 0) (rd 1 256 _ h15 x14 0 0)) (by rfl) ?_
  simp only [rd, loads]; try rfl
/-- Tile 2: the weights among its own rows. -/
theorem gA_A2 : v1404 c _ h5 _ h6 _ h9 _ h14 _ h15 x4 x5 x8 x13 x14 = gA x4 x5 x8 x13 x14 2 := by
  refine Eq.trans (b := gAof (rd 128 128 _ h9 x8 256 0) (rd 128 256 _ h14 x13 0 0) (rd 1 256 _ h15 x14 0 0) (rd 128 256 _ h5 x4 256 0) (rd 128 256 _ h6 x5 256 0)) (by rfl) ?_
  simp only [rd, loads]; try rfl
/-- Tile 2: the state before it. -/
theorem gS_A2 : v1405 c _ h6 _ h7 _ h9 _ h14 _ h15 arg25 x5 x6 x8 x13 x14 = gAt x5 x6 x8 x13 x14 k0_pay3 2 := by
  unfold v1405 HS1_3
  refine Eq.trans (View.readCov_cons_toLoadRect ..) ?_
  unfold v1308
  refine Eq.trans (shapeCast_self _ _) ?_
  refine Eq.trans (b := gNextOf (v1070 c _ h9 _ h14 _ h15 x8 x13 x14) (rd 128 256 _ h6 x5 128 0) (rd 128 128 _ h7 x6 128 0) (rd 128 128 _ h7 x6 128 128) (rd 128 128 _ h7 x6 128 256) (rd 128 128 _ h7 x6 128 384) (v1125 c _ h6 _ h7 _ h9 _ h14 _ h15 arg25 x5 x6 x8 x13 x14)) (by rfl) ?_
  rw [gB_A1, gS_A1 (x5 := x5) (x6 := x6) (x8 := x8) (x13 := x13) (x14 := x14)]
  simp only [rd, loads]; try rfl
/-- Tile 2: what the state gives its rows. -/
theorem gQ_A2 : v1419 c _ h5 _ h6 _ h7 _ h9 _ h14 _ h15 arg25 x4 x5 x6 x8 x13 x14 = gQ x4 x8 x13 x14 (gAt x5 x6 x8 x13 x14 k0_pay3 2) 2 := by
  refine Eq.trans (b := gQof (v1350 c _ h9 _ h14 _ h15 x8 x13 x14) (rd 128 256 _ h5 x4 256 0) (v1405 c _ h6 _ h7 _ h9 _ h14 _ h15 arg25 x5 x6 x8 x13 x14)) (by rfl) ?_
  rw [gB_A2, gS_A2 (x5 := x5) (x6 := x6) (x8 := x8) (x13 := x13) (x14 := x14)]
  simp only [rd, loads]; try rfl
/-- Tile 2, head 0. -/
theorem gO_A20 : v1436 c _ h5 _ h6 _ h7 _ h9 _ h14 _ h15 arg25 x4 x5 x6 x8 x13 x14 = gO x4 x5 x6 x8 x13 x14 k0_pay3 2 0 := by
  refine Eq.trans (b := gSum _ _ 0 (rd 128 128 _ h7 x6 256 0)) (by rfl) ?_
  rw [gA_A2, gQ_A2]
  simp only [rd, loads]; try rfl
/-- Tile 2, head 1. -/
theorem gO_A21 : v1475 c _ h5 _ h6 _ h7 _ h9 _ h14 _ h15 arg25 x4 x5 x6 x8 x13 x14 = gO x4 x5 x6 x8 x13 x14 k0_pay3 2 1 := by
  refine Eq.trans (b := gSum _ _ 1 (rd 128 128 _ h7 x6 256 128)) (by rfl) ?_
  rw [gA_A2, gQ_A2]
  simp only [rd, loads]; try rfl
/-- Tile 2, head 2. -/
theorem gO_A22 : v1514 c _ h5 _ h6 _ h7 _ h9 _ h14 _ h15 arg25 x4 x5 x6 x8 x13 x14 = gO x4 x5 x6 x8 x13 x14 k0_pay3 2 2 := by
  refine Eq.trans (b := gSum _ _ 2 (rd 128 128 _ h7 x6 256 256)) (by rfl) ?_
  rw [gA_A2, gQ_A2]
  simp only [rd, loads]; try rfl
/-- Tile 2, head 3. -/
theorem gO_A23 : v1553 c _ h5 _ h6 _ h7 _ h9 _ h14 _ h15 arg25 x4 x5 x6 x8 x13 x14 = gO x4 x5 x6 x8 x13 x14 k0_pay3 2 3 := by
  refine Eq.trans (b := gSum _ _ 3 (rd 128 128 _ h7 x6 256 384)) (by rfl) ?_
  rw [gA_A2, gQ_A2]
  simp only [rd, loads]; try rfl
/-- Tile 3: the cumulative gate. -/
theorem gB_A3 : v1630 c _ h9 _ h14 _ h15 x8 x13 x14 = gB x8 x13 x14 3 := by
  refine Eq.trans (b := gBof (rd 128 128 _ h9 x8 384 0) (rd 128 256 _ h14 x13 0 0) (rd 1 256 _ h15 x14 0 0)) (by rfl) ?_
  simp only [rd, loads]; try rfl
/-- Tile 3: the weights among its own rows. -/
theorem gA_A3 : v1684 c _ h5 _ h6 _ h9 _ h14 _ h15 x4 x5 x8 x13 x14 = gA x4 x5 x8 x13 x14 3 := by
  refine Eq.trans (b := gAof (rd 128 128 _ h9 x8 384 0) (rd 128 256 _ h14 x13 0 0) (rd 1 256 _ h15 x14 0 0) (rd 128 256 _ h5 x4 384 0) (rd 128 256 _ h6 x5 384 0)) (by rfl) ?_
  simp only [rd, loads]; try rfl
/-- Tile 3: the state before it. -/
theorem gS_A3 : v1685 c _ h6 _ h7 _ h9 _ h14 _ h15 arg25 x5 x6 x8 x13 x14 = gAt x5 x6 x8 x13 x14 k0_pay3 3 := by
  unfold v1685 HS1_4
  refine Eq.trans (View.readCov_cons_toLoadRect ..) ?_
  unfold v1588
  refine Eq.trans (shapeCast_self _ _) ?_
  refine Eq.trans (b := gNextOf (v1350 c _ h9 _ h14 _ h15 x8 x13 x14) (rd 128 256 _ h6 x5 256 0) (rd 128 128 _ h7 x6 256 0) (rd 128 128 _ h7 x6 256 128) (rd 128 128 _ h7 x6 256 256) (rd 128 128 _ h7 x6 256 384) (v1405 c _ h6 _ h7 _ h9 _ h14 _ h15 arg25 x5 x6 x8 x13 x14)) (by rfl) ?_
  rw [gB_A2, gS_A2 (x5 := x5) (x6 := x6) (x8 := x8) (x13 := x13) (x14 := x14)]
  simp only [rd, loads]; try rfl
/-- Tile 3: what the state gives its rows. -/
theorem gQ_A3 : v1699 c _ h5 _ h6 _ h7 _ h9 _ h14 _ h15 arg25 x4 x5 x6 x8 x13 x14 = gQ x4 x8 x13 x14 (gAt x5 x6 x8 x13 x14 k0_pay3 3) 3 := by
  refine Eq.trans (b := gQof (v1630 c _ h9 _ h14 _ h15 x8 x13 x14) (rd 128 256 _ h5 x4 384 0) (v1685 c _ h6 _ h7 _ h9 _ h14 _ h15 arg25 x5 x6 x8 x13 x14)) (by rfl) ?_
  rw [gB_A3, gS_A3 (x5 := x5) (x6 := x6) (x8 := x8) (x13 := x13) (x14 := x14)]
  simp only [rd, loads]; try rfl
/-- Tile 3, head 0. -/
theorem gO_A30 : v1716 c _ h5 _ h6 _ h7 _ h9 _ h14 _ h15 arg25 x4 x5 x6 x8 x13 x14 = gO x4 x5 x6 x8 x13 x14 k0_pay3 3 0 := by
  refine Eq.trans (b := gSum _ _ 0 (rd 128 128 _ h7 x6 384 0)) (by rfl) ?_
  rw [gA_A3, gQ_A3]
  simp only [rd, loads]; try rfl
/-- Tile 3, head 1. -/
theorem gO_A31 : v1755 c _ h5 _ h6 _ h7 _ h9 _ h14 _ h15 arg25 x4 x5 x6 x8 x13 x14 = gO x4 x5 x6 x8 x13 x14 k0_pay3 3 1 := by
  refine Eq.trans (b := gSum _ _ 1 (rd 128 128 _ h7 x6 384 128)) (by rfl) ?_
  rw [gA_A3, gQ_A3]
  simp only [rd, loads]; try rfl
/-- Tile 3, head 2. -/
theorem gO_A32 : v1794 c _ h5 _ h6 _ h7 _ h9 _ h14 _ h15 arg25 x4 x5 x6 x8 x13 x14 = gO x4 x5 x6 x8 x13 x14 k0_pay3 3 2 := by
  refine Eq.trans (b := gSum _ _ 2 (rd 128 128 _ h7 x6 384 256)) (by rfl) ?_
  rw [gA_A3, gQ_A3]
  simp only [rd, loads]; try rfl
/-- Tile 3, head 3. -/
theorem gO_A33 : v1833 c _ h5 _ h6 _ h7 _ h9 _ h14 _ h15 arg25 x4 x5 x6 x8 x13 x14 = gO x4 x5 x6 x8 x13 x14 k0_pay3 3 3 := by
  refine Eq.trans (b := gSum _ _ 3 (rd 128 128 _ h7 x6 384 384)) (by rfl) ?_
  rw [gA_A3, gQ_A3]
  simp only [rd, loads]; try rfl
section
variable (hc0 : cond0_0 i)
set_option maxHeartbeats 2000000 in
/-- The gated states at the start of its tiles of a first point. -/
theorem blk22_A (y) : out0_A_22 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 y = four (gAt x5 x6 x8 x13 x14 (k0_pay3 : FVec F S128x256 .f32)) y := by
  unfold out0_A_22
  refine View.read_writes_apply_of_pieces _ _ (four (gAt x5 x6 x8 x13 x14 (k0_pay3 : FVec F S128x256 .f32))) _ ?_ y (cover0_A_22 ..)
  unfold kernelRun0_A
  dsimp only
  simp only [List.forall_mem_cons, List.not_mem_nil, false_implies, implies_true, and_true]
  refine ⟨?_, ?_, ?_, ?_⟩ <;> intro x
  · refine Eq.trans ((flat_at _ x).trans ?_) (four_at _ 3 _ x).symm; exact congrFun (gS_A3 ..) _
  · refine Eq.trans ((flat_at _ x).trans ?_) (four_at _ 2 _ x).symm; exact congrFun (gS_A2 ..) _
  · refine Eq.trans ((flat_at _ x).trans ?_) (four_at _ 1 _ x).symm; exact congrFun (gS_A1 ..) _
  · refine Eq.trans ((flat_at _ x).trans ?_) (four_at _ 0 _ x).symm; exact congrFun (gS_A0 ..) _
/-- The state after the last tile. -/
theorem gE_A : v1838 c _ h6 _ h7 _ h9 _ h14 _ h15 arg25 x5 x6 x8 x13 x14 = gAt x5 x6 x8 x13 x14 (k0_pay3 : FVec F S128x256 .f32) 4 := by
  refine Eq.trans (b := gNextOf (v1630 c _ h9 _ h14 _ h15 x8 x13 x14) (rd 128 256 _ h6 x5 384 0) (rd 128 128 _ h7 x6 384 0) (rd 128 128 _ h7 x6 384 128) (rd 128 128 _ h7 x6 384 256) (rd 128 128 _ h7 x6 384 384) (v1685 c _ h6 _ h7 _ h9 _ h14 _ h15 arg25 x5 x6 x8 x13 x14)) (by rfl) ?_
  rw [gB_A3, gS_A3 (x5 := x5) (x6 := x6) (x8 := x8) (x13 := x13) (x14 := x14)]
  simp only [rd, loads, ld_lanes]; try rfl

/-- The gated state a first point leaves. -/
theorem gscr_A (y) : sout0_A_1 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 y = gAt x5 x6 x8 x13 x14 (k0_pay3 : FVec F S128x256 .f32) 4 y := by
  unfold sout0_A_1
  unfold kernelRun0_A
  dsimp only
  refine (read_one _ _ _ _ _ y).trans ?_
  exact congrFun (Eq.trans (b := (v1838 c _ h6 _ h7 _ h9 _ h14 _ h15 arg25 x5 x6 x8 x13 x14)) (shapeCast_self _ _) (gE_A ..)) y
set_option maxHeartbeats 2000000 in
/-- The two attentions of a first point. -/
theorem blk18_A (y) : out0_A_18 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 y = both (rO x0 x1 x2 x9 x10 x11 x12 (k0_pay2 : FVec F S512x128 .f32)) (gO x4 x5 x6 x8 x13 x14 (k0_pay3 : FVec F S128x256 .f32)) y := by
  unfold out0_A_18
  refine View.read_writes_apply_of_pieces _ _ (both (rO x0 x1 x2 x9 x10 x11 x12 (k0_pay2 : FVec F S512x128 .f32)) (gO x4 x5 x6 x8 x13 x14 (k0_pay3 : FVec F S128x256 .f32))) _ ?_ y (cover0_A_18 ..)
  unfold kernelRun0_A
  dsimp only
  simp only [List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_, ?_, ?_⟩ <;> intro x
  · exact right 384 896 3 3 (gO_A33 ..)
  · exact right 384 768 3 2 (gO_A32 ..)
  · exact right 384 640 3 1 (gO_A31 ..)
  · exact right 384 512 3 0 (gO_A30 ..)
  · exact right 256 896 2 3 (gO_A23 ..)
  · exact right 256 768 2 2 (gO_A22 ..)
  · exact right 256 640 2 1 (gO_A21 ..)
  · exact right 256 512 2 0 (gO_A20 ..)
  · exact right 128 896 1 3 (gO_A13 ..)
  · exact right 128 768 1 2 (gO_A12 ..)
  · exact right 128 640 1 1 (gO_A11 ..)
  · exact right 128 512 1 0 (gO_A10 ..)
  · exact right 0 896 0 3 (gO_A03 ..)
  · exact right 0 768 0 2 (gO_A02 ..)
  · exact right 0 640 0 1 (gO_A01 ..)
  · exact right 0 512 0 0 (gO_A00 ..)
  on_goal 1 => refine left 256 384 1 3 ?_
  on_goal 2 => refine left 256 256 1 2 ?_
  on_goal 3 => refine left 256 128 1 1 ?_
  on_goal 4 => refine left 256 0 1 0 ?_
  on_goal 5 => refine left 0 384 0 3 ?_
  on_goal 6 => refine left 0 256 0 2 ?_
  on_goal 7 => refine left 0 128 0 1 ?_
  on_goal 8 => refine left 0 0 0 0 ?_
  all_goals (sl_unfold_words; simp only [skip_rows, Nat.reduceAdd, Nat.reduceLeDiff, or_true, true_or, fill_rows, View.readCov_cons_toLoadRect, View.readAt_eq_ld, Memref.IsWhole.read_unread, ld_cut, ld_rows, ld_tab4, ld_tab8, ld_lane, ld_sq, ld_wide, ld_dec, ld_lanes, ld_whole]; rfl)
set_option maxHeartbeats 2000000 in
/-- The mixed rows of a first point. -/
theorem blk17_A (y) : out0_A_17 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 y = both (rMix x0 x1 x2 x3 x9 x10 x11 x12 x15 (k0_pay2 : FVec F S512x128 .f32)) (gMix x4 x5 x6 x7 x8 x13 x14 x16 (k0_pay3 : FVec F S128x256 .f32)) y := by
  unfold out0_A_17
  refine View.read_writes_apply_of_pieces _ _ (both (rMix x0 x1 x2 x3 x9 x10 x11 x12 x15 (k0_pay2 : FVec F S512x128 .f32)) (gMix x4 x5 x6 x7 x8 x13 x14 x16 (k0_pay3 : FVec F S128x256 .f32))) _ ?_ y (cover0_A_17 ..)
  unfold kernelRun0_A
  dsimp only
  simp only [List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_, ?_, ?_⟩ <;> intro x
  on_goal 1 => refine right 384 896 3 3 (Eq.trans (b := mixOf h8 h17 x7 x16 _ 384 384) (by rfl) ?_); rw [gO_A33]
  on_goal 2 => refine right 384 768 3 2 (Eq.trans (b := mixOf h8 h17 x7 x16 _ 384 256) (by rfl) ?_); rw [gO_A32]
  on_goal 3 => refine right 384 640 3 1 (Eq.trans (b := mixOf h8 h17 x7 x16 _ 384 128) (by rfl) ?_); rw [gO_A31]
  on_goal 4 => refine right 384 512 3 0 (Eq.trans (b := mixOf h8 h17 x7 x16 _ 384 0) (by rfl) ?_); rw [gO_A30]
  on_goal 5 => refine right 256 896 2 3 (Eq.trans (b := mixOf h8 h17 x7 x16 _ 256 384) (by rfl) ?_); rw [gO_A23]
  on_goal 6 => refine right 256 768 2 2 (Eq.trans (b := mixOf h8 h17 x7 x16 _ 256 256) (by rfl) ?_); rw [gO_A22]
  on_goal 7 => refine right 256 640 2 1 (Eq.trans (b := mixOf h8 h17 x7 x16 _ 256 128) (by rfl) ?_); rw [gO_A21]
  on_goal 8 => refine right 256 512 2 0 (Eq.trans (b := mixOf h8 h17 x7 x16 _ 256 0) (by rfl) ?_); rw [gO_A20]
  on_goal 9 => refine right 128 896 1 3 (Eq.trans (b := mixOf h8 h17 x7 x16 _ 128 384) (by rfl) ?_); rw [gO_A13]
  on_goal 10 => refine right 128 768 1 2 (Eq.trans (b := mixOf h8 h17 x7 x16 _ 128 256) (by rfl) ?_); rw [gO_A12]
  on_goal 11 => refine right 128 640 1 1 (Eq.trans (b := mixOf h8 h17 x7 x16 _ 128 128) (by rfl) ?_); rw [gO_A11]
  on_goal 12 => refine right 128 512 1 0 (Eq.trans (b := mixOf h8 h17 x7 x16 _ 128 0) (by rfl) ?_); rw [gO_A10]
  on_goal 13 => refine right 0 896 0 3 (Eq.trans (b := mixOf h8 h17 x7 x16 _ 0 384) (by rfl) ?_); rw [gO_A03]
  on_goal 14 => refine right 0 768 0 2 (Eq.trans (b := mixOf h8 h17 x7 x16 _ 0 256) (by rfl) ?_); rw [gO_A02]
  on_goal 15 => refine right 0 640 0 1 (Eq.trans (b := mixOf h8 h17 x7 x16 _ 0 128) (by rfl) ?_); rw [gO_A01]
  on_goal 16 => refine right 0 512 0 0 (Eq.trans (b := mixOf h8 h17 x7 x16 _ 0 0) (by rfl) ?_); rw [gO_A00]
  iterate 16 on_goal 1 => (simp only [mixOf, rd, loads, ld_lanes]; try rfl)
  on_goal 1 => refine left 256 384 1 3 ?_
  on_goal 2 => refine left 256 256 1 2 ?_
  on_goal 3 => refine left 256 128 1 1 ?_
  on_goal 4 => refine left 256 0 1 0 ?_
  on_goal 5 => refine left 0 384 0 3 ?_
  on_goal 6 => refine left 0 256 0 2 ?_
  on_goal 7 => refine left 0 128 0 1 ?_
  on_goal 8 => refine left 0 0 0 0 ?_
  all_goals (sl_unfold_words; simp only [skip_rows, Nat.reduceAdd, Nat.reduceLeDiff, or_true, true_or, fill_rows, View.readCov_cons_toLoadRect, View.readAt_eq_ld, Memref.IsWhole.read_unread, ld_cut, ld_rows, ld_tab4, ld_tab8, ld_lane, ld_sq, ld_wide, ld_dec, ld_lanes, ld_whole]; rfl)
end

end

end Cert.MixBlock

end
-- ==== Proof.MixLater.lean ====
/-
  A later point: its tiles of gated linear attention one by one, and the blocks it stores of the mixed rows, of the attentions
  and of the gated states.
-/
module

public import proofs.«01_k».proof.Proof.MixOut

@[expose] public section

set_option maxRecDepth 16384

noncomputable section

namespace Cert.MixBlock

open Cert.RowStore Cert.MixKernelIdeal Cert.MixKernelIdeal.Gen Idealize.ShloMosaic Idealize.ShloMosaic.TcCoe Idealize.SL.Sem kernelRun0_B.sl

section
variable {F : FTy → Type} [FloatOps F] [Named F]

variable (c : Dev nD) (i : grid0.Coords)
  (arg1 : Memref sig .tc .vmem S512x512 .f32) (h1 : arg1.IsWhole) (arg2 : Memref sig .tc .vmem S512x512 .f32) (h2 : arg2.IsWhole)
  (arg3 : Memref sig .tc .vmem S512x512 .f32) (h3 : arg3.IsWhole) (arg4 : Memref sig .tc .vmem S512x512 .f32) (h4 : arg4.IsWhole)
  (arg5 : Memref sig .tc .vmem S512x256 .f32) (h5 : arg5.IsWhole) (arg6 : Memref sig .tc .vmem S512x256 .f32) (h6 : arg6.IsWhole)
  (arg7 : Memref sig .tc .vmem S512x512 .f32) (h7 : arg7.IsWhole) (arg8 : Memref sig .tc .vmem S512x512 .f32) (h8 : arg8.IsWhole)
  (arg9 : Memref sig .tc .vmem S512x128 .f32) (h9 : arg9.IsWhole) (arg10 : Memref sig .tc .vmem S4x256x256 .f32) (h10 : arg10.IsWhole)
  (arg11 : Memref sig .tc .vmem S8x256x128 .f32) (h11 : arg11.IsWhole) (arg12 : Memref sig .tc .vmem S4x256x128 .f32) (h12 : arg12.IsWhole)
  (arg13 : Memref sig .tc .vmem S2x8x256 .f32) (h13 : arg13.IsWhole) (arg14 : Memref sig .tc .vmem S128x256 .f32) (h14 : arg14.IsWhole)
  (arg15 : Memref sig .tc .vmem S1x256 .f32) (h15 : arg15.IsWhole) (arg16 : Memref sig .tc .vmem S1x512 .f32) (h16 : arg16.IsWhole)
  (arg17 : Memref sig .tc .vmem S1x512 .f32) (h17 : arg17.IsWhole) (arg18 : Memref sig .tc .vmem S512x1024 .bf16) (h18 : arg18.IsWhole)
  (arg19 : Memref sig .tc .vmem S512x1024 .f32) (h19 : arg19.IsWhole) (arg20 : Memref sig .tc .vmem S512x512 .bf16) (h20 : arg20.IsWhole)
  (arg21 : Memref sig .tc .vmem S512x512 .bf16) (h21 : arg21.IsWhole) (arg22 : Memref sig .tc .vmem S2x512x128 .f32) (h22 : arg22.IsWhole)
  (arg23 : Memref sig .tc .vmem S4x128x256 .f32) (h23 : arg23.IsWhole) (arg24 : Memref sig .tc .vmem S512x128 .f32) (h24 : arg24.IsWhole)
  (arg25 : Memref sig .tc .vmem S128x256 .f32) (h25 : arg25.IsWhole)
  (x0 x1 x2 x3 : Vec F S512x512 .f32) (x4 x5 : Vec F S512x256 .f32) (x6 x7 : Vec F S512x512 .f32) (x8 : Vec F S512x128 .f32)
  (x9 : Vec F S4x256x256 .f32) (x10 : Vec F S8x256x128 .f32) (x11 : Vec F S4x256x128 .f32) (x12 : Vec F S2x8x256 .f32) (x13 : Vec F S128x256 .f32) (x14 : Vec F S1x256 .f32) (x15 x16 : Vec F S1x512 .f32)
  (xs0 : Vec F S512x128 .f32) (xs1 : Vec F S128x256 .f32)

/-- Tile 0: the cumulative gate. -/
theorem gB_B0 : v790 c _ h9 _ h14 _ h15 x8 x13 x14 = gB x8 x13 x14 0 := by
  refine Eq.trans (b := gBof (rd 128 128 _ h9 x8 0 0) (rd 128 256 _ h14 x13 0 0) (rd 1 256 _ h15 x14 0 0)) (by rfl) ?_
  simp only [rd, loads]; try rfl
/-- Tile 0: the weights among its own rows. -/
theorem gA_B0 : v844 c _ h5 _ h6 _ h9 _ h14 _ h15 x4 x5 x8 x13 x14 = gA x4 x5 x8 x13 x14 0 := by
  refine Eq.trans (b := gAof (rd 128 128 _ h9 x8 0 0) (rd 128 256 _ h14 x13 0 0) (rd 1 256 _ h15 x14 0 0) (rd 128 256 _ h5 x4 0 0) (rd 128 256 _ h6 x5 0 0)) (by rfl) ?_
  simp only [rd, loads]; try rfl
/-- Tile 0: the state before it. -/
theorem gS_B0 : r_20 c _ h25 xs1 = gAt x5 x6 x8 x13 x14 xs1 0 := by
  refine Eq.trans (b := (rd 128 256 _ h25 xs1 0 0)) (by rfl) ?_
  simp only [rd, loads]; try rfl
/-- Tile 0: what the state gives its rows. -/
theorem gQ_B0 : v859 c _ h5 _ h9 _ h14 _ h15 _ h25 x4 x8 x13 x14 xs1 = gQ x4 x8 x13 x14 (gAt x5 x6 x8 x13 x14 xs1 0) 0 := by
  refine Eq.trans (b := gQof (v790 c _ h9 _ h14 _ h15 x8 x13 x14) (rd 128 256 _ h5 x4 0 0) (r_20 c _ h25 xs1)) (by rfl) ?_
  rw [gB_B0, gS_B0 (x5 := x5) (x6 := x6) (x8 := x8) (x13 := x13) (x14 := x14)]
  simp only [rd, loads]; try rfl
/-- Tile 0, head 0. -/
theorem gO_B00 : v876 c _ h5 _ h6 _ h7 _ h9 _ h14 _ h15 _ h25 x4 x5 x6 x8 x13 x14 xs1 = gO x4 x5 x6 x8 x13 x14 xs1 0 0 := by
  refine Eq.trans (b := gSum _ _ 0 (rd 128 128 _ h7 x6 0 0)) (by rfl) ?_
  rw [gA_B0, gQ_B0]
  simp only [rd, loads]; try rfl
/-- Tile 0, head 1. -/
theorem gO_B01 : v915 c _ h5 _ h6 _ h7 _ h9 _ h14 _ h15 _ h25 x4 x5 x6 x8 x13 x14 xs1 = gO x4 x5 x6 x8 x13 x14 xs1 0 1 := by
  refine Eq.trans (b := gSum _ _ 1 (rd 128 128 _ h7 x6 0 128)) (by rfl) ?_
  rw [gA_B0, gQ_B0]
  simp only [rd, loads]; try rfl
/-- Tile 0, head 2. -/
theorem gO_B02 : v954 c _ h5 _ h6 _ h7 _ h9 _ h14 _ h15 _ h25 x4 x5 x6 x8 x13 x14 xs1 = gO x4 x5 x6 x8 x13 x14 xs1 0 2 := by
  refine Eq.trans (b := gSum _ _ 2 (rd 128 128 _ h7 x6 0 256)) (by rfl) ?_
  rw [gA_B0, gQ_B0]
  simp only [rd, loads]; try rfl
/-- Tile 0, head 3. -/
theorem gO_B03 : v993 c _ h5 _ h6 _ h7 _ h9 _ h14 _ h15 _ h25 x4 x5 x6 x8 x13 x14 xs1 = gO x4 x5 x6 x8 x13 x14 xs1 0 3 := by
  refine Eq.trans (b := gSum _ _ 3 (rd 128 128 _ h7 x6 0 384)) (by rfl) ?_
  rw [gA_B0, gQ_B0]
  simp only [rd, loads]; try rfl
/-- Tile 1: the cumulative gate. -/
theorem gB_B1 : v1070 c _ h9 _ h14 _ h15 x8 x13 x14 = gB x8 x13 x14 1 := by
  refine Eq.trans (b := gBof (rd 128 128 _ h9 x8 128 0) (rd 128 256 _ h14 x13 0 0) (rd 1 256 _ h15 x14 0 0)) (by rfl) ?_
  simp only [rd, loads]; try rfl
/-- Tile 1: the weights among its own rows. -/
theorem gA_B1 : v1124 c _ h5 _ h6 _ h9 _ h14 _ h15 x4 x5 x8 x13 x14 = gA x4 x5 x8 x13 x14 1 := by
  refine Eq.trans (b := gAof (rd 128 128 _ h9 x8 128 0) (rd 128 256 _ h14 x13 0 0) (rd 1 256 _ h15 x14 0 0) (rd 128 256 _ h5 x4 128 0) (rd 128 256 _ h6 x5 128 0)) (by rfl) ?_
  simp only [rd, loads]; try rfl
/-- Tile 1: the state before it. -/
theorem gS_B1 : v1125 c _ h6 _ h7 _ h9 _ h14 _ h15 _ h25 x5 x6 x8 x13 x14 xs1 = gAt x5 x6 x8 x13 x14 xs1 1 := by
  unfold v1125 HS1_1
  refine Eq.trans (View.readCov_cons_toLoadRect ..) ?_
  unfold v1028
  refine Eq.trans (shapeCast_self _ _) ?_
  refine Eq.trans (b := gNextOf (v790 c _ h9 _ h14 _ h15 x8 x13 x14) (rd 128 256 _ h6 x5 0 0) (rd 128 128 _ h7 x6 0 0) (rd 128 128 _ h7 x6 0 128) (rd 128 128 _ h7 x6 0 256) (rd 128 128 _ h7 x6 0 384) (r_20 c _ h25 xs1)) (by rfl) ?_
  rw [gB_B0, gS_B0 (x5 := x5) (x6 := x6) (x8 := x8) (x13 := x13) (x14 := x14)]
  simp only [rd, loads]; try rfl
/-- Tile 1: what the state gives its rows. -/
theorem gQ_B1 : v1139 c _ h5 _ h6 _ h7 _ h9 _ h14 _ h15 _ h25 x4 x5 x6 x8 x13 x14 xs1 = gQ x4 x8 x13 x14 (gAt x5 x6 x8 x13 x14 xs1 1) 1 := by
  refine Eq.trans (b := gQof (v1070 c _ h9 _ h14 _ h15 x8 x13 x14) (rd 128 256 _ h5 x4 128 0) (v1125 c _ h6 _ h7 _ h9 _ h14 _ h15 _ h25 x5 x6 x8 x13 x14 xs1)) (by rfl) ?_
  rw [gB_B1, gS_B1 (x5 := x5) (x6 := x6) (x8 := x8) (x13 := x13) (x14 := x14)]
  simp only [rd, loads]; try rfl
/-- Tile 1, head 0. -/
theorem gO_B10 : v1156 c _ h5 _ h6 _ h7 _ h9 _ h14 _ h15 _ h25 x4 x5 x6 x8 x13 x14 xs1 = gO x4 x5 x6 x8 x13 x14 xs1 1 0 := by
  refine Eq.trans (b := gSum _ _ 0 (rd 128 128 _ h7 x6 128 0)) (by rfl) ?_
  rw [gA_B1, gQ_B1]
  simp only [rd, loads]; try rfl
/-- Tile 1, head 1. -/
theorem gO_B11 : v1195 c _ h5 _ h6 _ h7 _ h9 _ h14 _ h15 _ h25 x4 x5 x6 x8 x13 x14 xs1 = gO x4 x5 x6 x8 x13 x14 xs1 1 1 := by
  refine Eq.trans (b := gSum _ _ 1 (rd 128 128 _ h7 x6 128 128)) (by rfl) ?_
  rw [gA_B1, gQ_B1]
  simp only [rd, loads]; try rfl
/-- Tile 1, head 2. -/
theorem gO_B12 : v1234 c _ h5 _ h6 _ h7 _ h9 _ h14 _ h15 _ h25 x4 x5 x6 x8 x13 x14 xs1 = gO x4 x5 x6 x8 x13 x14 xs1 1 2 := by
  refine Eq.trans (b := gSum _ _ 2 (rd 128 128 _ h7 x6 128 256)) (by rfl) ?_
  rw [gA_B1, gQ_B1]
  simp only [rd, loads]; try rfl
/-- Tile 1, head 3. -/
theorem gO_B13 : v1273 c _ h5 _ h6 _ h7 _ h9 _ h14 _ h15 _ h25 x4 x5 x6 x8 x13 x14 xs1 = gO x4 x5 x6 x8 x13 x14 xs1 1 3 := by
  refine Eq.trans (b := gSum _ _ 3 (rd 128 128 _ h7 x6 128 384)) (by rfl) ?_
  rw [gA_B1, gQ_B1]
  simp only [rd, loads]; try rfl
/-- Tile 2: the cumulative gate. -/
theorem gB_B2 : v1350 c _ h9 _ h14 _ h15 x8 x13 x14 = gB x8 x13 x14 2 := by
  refine Eq.trans (b := gBof (rd 128 128 _ h9 x8 256 0) (rd 128 256 _ h14 x13 0 0) (rd 1 256 _ h15 x14 0 0)) (by rfl) ?_
  simp only [rd, loads]; try rfl
/-- Tile 2: the weights among its own rows. -/
theorem gA_B2 : v1404 c _ h5 _ h6 _ h9 _ h14 _ h15 x4 x5 x8 x13 x14 = gA x4 x5 x8 x13 x14 2 := by
  refine Eq.trans (b := gAof (rd 128 128 _ h9 x8 256 0) (rd 128 256 _ h14 x13 0 0) (rd 1 256 _ h15 x14 0 0) (rd 128 256 _ h5 x4 256 0) (rd 128 256 _ h6 x5 256 0)) (by rfl) ?_
  simp only [rd, loads]; try rfl
/-- Tile 2: the state before it. -/
theorem gS_B2 : v1405 c _ h6 _ h7 _ h9 _ h14 _ h15 _ h25 x5 x6 x8 x13 x14 xs1 = gAt x5 x6 x8 x13 x14 xs1 2 := by
  unfold v1405 HS1_2
  refine Eq.trans (View.readCov_cons_toLoadRect ..) ?_
  unfold v1308
  refine Eq.trans (shapeCast_self _ _) ?_
  refine Eq.trans (b := gNextOf (v1070 c _ h9 _ h14 _ h15 x8 x13 x14) (rd 128 256 _ h6 x5 128 0) (rd 128 128 _ h7 x6 128 0) (rd 128 128 _ h7 x6 128 128) (rd 128 128 _ h7 x6 128 256) (rd 128 128 _ h7 x6 128 384) (v1125 c _ h6 _ h7 _ h9 _ h14 _ h15 _ h25 x5 x6 x8 x13 x14 xs1)) (by rfl) ?_
  rw [gB_B1, gS_B1 (x5 := x5) (x6 := x6) (x8 := x8) (x13 := x13) (x14 := x14)]
  simp only [rd, loads]; try rfl
/-- Tile 2: what the state gives its rows. -/
theorem gQ_B2 : v1419 c _ h5 _ h6 _ h7 _ h9 _ h14 _ h15 _ h25 x4 x5 x6 x8 x13 x14 xs1 = gQ x4 x8 x13 x14 (gAt x5 x6 x8 x13 x14 xs1 2) 2 := by
  refine Eq.trans (b := gQof (v1350 c _ h9 _ h14 _ h15 x8 x13 x14) (rd 128 256 _ h5 x4 256 0) (v1405 c _ h6 _ h7 _ h9 _ h14 _ h15 _ h25 x5 x6 x8 x13 x14 xs1)) (by rfl) ?_
  rw [gB_B2, gS_B2 (x5 := x5) (x6 := x6) (x8 := x8) (x13 := x13) (x14 := x14)]
  simp only [rd, loads]; try rfl
/-- Tile 2, head 0. -/
theorem gO_B20 : v1436 c _ h5 _ h6 _ h7 _ h9 _ h14 _ h15 _ h25 x4 x5 x6 x8 x13 x14 xs1 = gO x4 x5 x6 x8 x13 x14 xs1 2 0 := by
  refine Eq.trans (b := gSum _ _ 0 (rd 128 128 _ h7 x6 256 0)) (by rfl) ?_
  rw [gA_B2, gQ_B2]
  simp only [rd, loads]; try rfl
/-- Tile 2, head 1. -/
theorem gO_B21 : v1475 c _ h5 _ h6 _ h7 _ h9 _ h14 _ h15 _ h25 x4 x5 x6 x8 x13 x14 xs1 = gO x4 x5 x6 x8 x13 x14 xs1 2 1 := by
  refine Eq.trans (b := gSum _ _ 1 (rd 128 128 _ h7 x6 256 128)) (by rfl) ?_
  rw [gA_B2, gQ_B2]
  simp only [rd, loads]; try rfl
/-- Tile 2, head 2. -/
theorem gO_B22 : v1514 c _ h5 _ h6 _ h7 _ h9 _ h14 _ h15 _ h25 x4 x5 x6 x8 x13 x14 xs1 = gO x4 x5 x6 x8 x13 x14 xs1 2 2 := by
  refine Eq.trans (b := gSum _ _ 2 (rd 128 128 _ h7 x6 256 256)) (by rfl) ?_
  rw [gA_B2, gQ_B2]
  simp only [rd, loads]; try rfl
/-- Tile 2, head 3. -/
theorem gO_B23 : v1553 c _ h5 _ h6 _ h7 _ h9 _ h14 _ h15 _ h25 x4 x5 x6 x8 x13 x14 xs1 = gO x4 x5 x6 x8 x13 x14 xs1 2 3 := by
  refine Eq.trans (b := gSum _ _ 3 (rd 128 128 _ h7 x6 256 384)) (by rfl) ?_
  rw [gA_B2, gQ_B2]
  simp only [rd, loads]; try rfl
/-- Tile 3: the cumulative gate. -/
theorem gB_B3 : v1630 c _ h9 _ h14 _ h15 x8 x13 x14 = gB x8 x13 x14 3 := by
  refine Eq.trans (b := gBof (rd 128 128 _ h9 x8 384 0) (rd 128 256 _ h14 x13 0 0) (rd 1 256 _ h15 x14 0 0)) (by rfl) ?_
  simp only [rd, loads]; try rfl
/-- Tile 3: the weights among its own rows. -/
theorem gA_B3 : v1684 c _ h5 _ h6 _ h9 _ h14 _ h15 x4 x5 x8 x13 x14 = gA x4 x5 x8 x13 x14 3 := by
  refine Eq.trans (b := gAof (rd 128 128 _ h9 x8 384 0) (rd 128 256 _ h14 x13 0 0) (rd 1 256 _ h15 x14 0 0) (rd 128 256 _ h5 x4 384 0) (rd 128 256 _ h6 x5 384 0)) (by rfl) ?_
  simp only [rd, loads]; try rfl
/-- Tile 3: the state before it. -/
theorem gS_B3 : v1685 c _ h6 _ h7 _ h9 _ h14 _ h15 _ h25 x5 x6 x8 x13 x14 xs1 = gAt x5 x6 x8 x13 x14 xs1 3 := by
  unfold v1685 HS1_3
  refine Eq.trans (View.readCov_cons_toLoadRect ..) ?_
  unfold v1588
  refine Eq.trans (shapeCast_self _ _) ?_
  refine Eq.trans (b := gNextOf (v1350 c _ h9 _ h14 _ h15 x8 x13 x14) (rd 128 256 _ h6 x5 256 0) (rd 128 128 _ h7 x6 256 0) (rd 128 128 _ h7 x6 256 128) (rd 128 128 _ h7 x6 256 256) (rd 128 128 _ h7 x6 256 384) (v1405 c _ h6 _ h7 _ h9 _ h14 _ h15 _ h25 x5 x6 x8 x13 x14 xs1)) (by rfl) ?_
  rw [gB_B2, gS_B2 (x5 := x5) (x6 := x6) (x8 := x8) (x13 := x13) (x14 := x14)]
  simp only [rd, loads]; try rfl
/-- Tile 3: what the state gives its rows. -/
theorem gQ_B3 : v1699 c _ h5 _ h6 _ h7 _ h9 _ h14 _ h15 _ h25 x4 x5 x6 x8 x13 x14 xs1 = gQ x4 x8 x13 x14 (gAt x5 x6 x8 x13 x14 xs1 3) 3 := by
  refine Eq.trans (b := gQof (v1630 c _ h9 _ h14 _ h15 x8 x13 x14) (rd 128 256 _ h5 x4 384 0) (v1685 c _ h6 _ h7 _ h9 _ h14 _ h15 _ h25 x5 x6 x8 x13 x14 xs1)) (by rfl) ?_
  rw [gB_B3, gS_B3 (x5 := x5) (x6 := x6) (x8 := x8) (x13 := x13) (x14 := x14)]
  simp only [rd, loads]; try rfl
/-- Tile 3, head 0. -/
theorem gO_B30 : v1716 c _ h5 _ h6 _ h7 _ h9 _ h14 _ h15 _ h25 x4 x5 x6 x8 x13 x14 xs1 = gO x4 x5 x6 x8 x13 x14 xs1 3 0 := by
  refine Eq.trans (b := gSum _ _ 0 (rd 128 128 _ h7 x6 384 0)) (by rfl) ?_
  rw [gA_B3, gQ_B3]
  simp only [rd, loads]; try rfl
/-- Tile 3, head 1. -/
theorem gO_B31 : v1755 c _ h5 _ h6 _ h7 _ h9 _ h14 _ h15 _ h25 x4 x5 x6 x8 x13 x14 xs1 = gO x4 x5 x6 x8 x13 x14 xs1 3 1 := by
  refine Eq.trans (b := gSum _ _ 1 (rd 128 128 _ h7 x6 384 128)) (by rfl) ?_
  rw [gA_B3, gQ_B3]
  simp only [rd, loads]; try rfl
/-- Tile 3, head 2. -/
theorem gO_B32 : v1794 c _ h5 _ h6 _ h7 _ h9 _ h14 _ h15 _ h25 x4 x5 x6 x8 x13 x14 xs1 = gO x4 x5 x6 x8 x13 x14 xs1 3 2 := by
  refine Eq.trans (b := gSum _ _ 2 (rd 128 128 _ h7 x6 384 256)) (by rfl) ?_
  rw [gA_B3, gQ_B3]
  simp only [rd, loads]; try rfl
/-- Tile 3, head 3. -/
theorem gO_B33 : v1833 c _ h5 _ h6 _ h7 _ h9 _ h14 _ h15 _ h25 x4 x5 x6 x8 x13 x14 xs1 = gO x4 x5 x6 x8 x13 x14 xs1 3 3 := by
  refine Eq.trans (b := gSum _ _ 3 (rd 128 128 _ h7 x6 384 384)) (by rfl) ?_
  rw [gA_B3, gQ_B3]
  simp only [rd, loads]; try rfl
section
variable (hc0 : ¬cond0_0 i)
set_option maxHeartbeats 2000000 in
/-- The gated states at the start of its tiles of a later point. -/
theorem blk22_B (y) : out0_B_22 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 xs0 xs1 y = four (gAt x5 x6 x8 x13 x14 xs1) y := by
  unfold out0_B_22
  refine View.read_writes_apply_of_pieces _ _ (four (gAt x5 x6 x8 x13 x14 xs1)) _ ?_ y (cover0_B_22 ..)
  unfold kernelRun0_B
  dsimp only
  simp only [List.forall_mem_cons, List.not_mem_nil, false_implies, implies_true, and_true]
  refine ⟨?_, ?_, ?_, ?_⟩ <;> intro x
  · refine Eq.trans ((flat_at _ x).trans ?_) (four_at _ 3 _ x).symm; exact congrFun (gS_B3 ..) _
  · refine Eq.trans ((flat_at _ x).trans ?_) (four_at _ 2 _ x).symm; exact congrFun (gS_B2 ..) _
  · refine Eq.trans ((flat_at _ x).trans ?_) (four_at _ 1 _ x).symm; exact congrFun (gS_B1 ..) _
  · refine Eq.trans ((flat_at _ x).trans ?_) (four_at _ 0 _ x).symm; exact congrFun (gS_B0 ..) _
/-- The state after the last tile. -/
theorem gE_B : v1838 c _ h6 _ h7 _ h9 _ h14 _ h15 _ h25 x5 x6 x8 x13 x14 xs1 = gAt x5 x6 x8 x13 x14 xs1 4 := by
  refine Eq.trans (b := gNextOf (v1630 c _ h9 _ h14 _ h15 x8 x13 x14) (rd 128 256 _ h6 x5 384 0) (rd 128 128 _ h7 x6 384 0) (rd 128 128 _ h7 x6 384 128) (rd 128 128 _ h7 x6 384 256) (rd 128 128 _ h7 x6 384 384) (v1685 c _ h6 _ h7 _ h9 _ h14 _ h15 _ h25 x5 x6 x8 x13 x14 xs1)) (by rfl) ?_
  rw [gB_B3, gS_B3 (x5 := x5) (x6 := x6) (x8 := x8) (x13 := x13) (x14 := x14)]
  simp only [rd, loads, ld_lanes]; try rfl

/-- The gated state a later point leaves. -/
theorem gscr_B (y) : sout0_B_1 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 xs0 xs1 y = gAt x5 x6 x8 x13 x14 xs1 4 y := by
  unfold sout0_B_1
  unfold kernelRun0_B
  dsimp only
  refine (read_one _ _ _ _ _ y).trans ?_
  exact congrFun (Eq.trans (b := (v1838 c _ h6 _ h7 _ h9 _ h14 _ h15 _ h25 x5 x6 x8 x13 x14 xs1)) (shapeCast_self _ _) (gE_B ..)) y
set_option maxHeartbeats 2000000 in
/-- The two attentions of a later point. -/
theorem blk18_B (y) : out0_B_18 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 xs0 xs1 y = both (rO x0 x1 x2 x9 x10 x11 x12 xs0) (gO x4 x5 x6 x8 x13 x14 xs1) y := by
  unfold out0_B_18
  refine View.read_writes_apply_of_pieces _ _ (both (rO x0 x1 x2 x9 x10 x11 x12 xs0) (gO x4 x5 x6 x8 x13 x14 xs1)) _ ?_ y (cover0_B_18 ..)
  unfold kernelRun0_B
  dsimp only
  simp only [List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_, ?_, ?_⟩ <;> intro x
  · exact right 384 896 3 3 (gO_B33 ..)
  · exact right 384 768 3 2 (gO_B32 ..)
  · exact right 384 640 3 1 (gO_B31 ..)
  · exact right 384 512 3 0 (gO_B30 ..)
  · exact right 256 896 2 3 (gO_B23 ..)
  · exact right 256 768 2 2 (gO_B22 ..)
  · exact right 256 640 2 1 (gO_B21 ..)
  · exact right 256 512 2 0 (gO_B20 ..)
  · exact right 128 896 1 3 (gO_B13 ..)
  · exact right 128 768 1 2 (gO_B12 ..)
  · exact right 128 640 1 1 (gO_B11 ..)
  · exact right 128 512 1 0 (gO_B10 ..)
  · exact right 0 896 0 3 (gO_B03 ..)
  · exact right 0 768 0 2 (gO_B02 ..)
  · exact right 0 640 0 1 (gO_B01 ..)
  · exact right 0 512 0 0 (gO_B00 ..)
  on_goal 1 => refine left 256 384 1 3 ?_
  on_goal 2 => refine left 256 256 1 2 ?_
  on_goal 3 => refine left 256 128 1 1 ?_
  on_goal 4 => refine left 256 0 1 0 ?_
  on_goal 5 => refine left 0 384 0 3 ?_
  on_goal 6 => refine left 0 256 0 2 ?_
  on_goal 7 => refine left 0 128 0 1 ?_
  on_goal 8 => refine left 0 0 0 0 ?_
  all_goals (sl_unfold_words; simp only [skip_rows, Nat.reduceAdd, Nat.reduceLeDiff, or_true, true_or, fill_rows, View.readCov_cons_toLoadRect, View.readAt_eq_ld, Memref.IsWhole.read_unread, ld_cut, ld_rows, ld_tab4, ld_tab8, ld_lane, ld_sq, ld_wide, ld_dec, ld_lanes, ld_whole]; rfl)
set_option maxHeartbeats 2000000 in
/-- The mixed rows of a later point. -/
theorem blk17_B (y) : out0_B_17 c i _ h1 _ h2 _ h3 _ h4 _ h5 _ h6 _ h7 _ h8 _ h9 _ h10 _ h11 _ h12 _ h13 _ h14 _ h15 _ h16 _ h17 _ h18 _ h19 _ h20 _ h21 _ h22 _ h23 _ h24 _ h25 hc0
    x0 x1 x2 x3 x4 x5 x6 x7 x8 x9 x10 x11 x12 x13 x14 x15 x16 xs0 xs1 y = both (rMix x0 x1 x2 x3 x9 x10 x11 x12 x15 xs0) (gMix x4 x5 x6 x7 x8 x13 x14 x16 xs1) y := by
  unfold out0_B_17
  refine View.read_writes_apply_of_pieces _ _ (both (rMix x0 x1 x2 x3 x9 x10 x11 x12 x15 xs0) (gMix x4 x5 x6 x7 x8 x13 x14 x16 xs1)) _ ?_ y (cover0_B_17 ..)
  unfold kernelRun0_B
  dsimp only
  simp only [List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_, ?_, ?_⟩ <;> intro x
  on_goal 1 => refine right 384 896 3 3 (Eq.trans (b := mixOf h8 h17 x7 x16 _ 384 384) (by rfl) ?_); rw [gO_B33]
  on_goal 2 => refine right 384 768 3 2 (Eq.trans (b := mixOf h8 h17 x7 x16 _ 384 256) (by rfl) ?_); rw [gO_B32]
  on_goal 3 => refine right 384 640 3 1 (Eq.trans (b := mixOf h8 h17 x7 x16 _ 384 128) (by rfl) ?_); rw [gO_B31]
  on_goal 4 => refine right 384 512 3 0 (Eq.trans (b := mixOf h8 h17 x7 x16 _ 384 0) (by rfl) ?_); rw [gO_B30]
  on_goal 5 => refine right 256 896 2 3 (Eq.trans (b := mixOf h8 h17 x7 x16 _ 256 384) (by rfl) ?_); rw [gO_B23]
  on_goal 6 => refine right 256 768 2 2 (Eq.trans (b := mixOf h8 h17 x7 x16 _ 256 256) (by rfl) ?_); rw [gO_B22]
  on_goal 7 => refine right 256 640 2 1 (Eq.trans (b := mixOf h8 h17 x7 x16 _ 256 128) (by rfl) ?_); rw [gO_B21]
  on_goal 8 => refine right 256 512 2 0 (Eq.trans (b := mixOf h8 h17 x7 x16 _ 256 0) (by rfl) ?_); rw [gO_B20]
  on_goal 9 => refine right 128 896 1 3 (Eq.trans (b := mixOf h8 h17 x7 x16 _ 128 384) (by rfl) ?_); rw [gO_B13]
  on_goal 10 => refine right 128 768 1 2 (Eq.trans (b := mixOf h8 h17 x7 x16 _ 128 256) (by rfl) ?_); rw [gO_B12]
  on_goal 11 => refine right 128 640 1 1 (Eq.trans (b := mixOf h8 h17 x7 x16 _ 128 128) (by rfl) ?_); rw [gO_B11]
  on_goal 12 => refine right 128 512 1 0 (Eq.trans (b := mixOf h8 h17 x7 x16 _ 128 0) (by rfl) ?_); rw [gO_B10]
  on_goal 13 => refine right 0 896 0 3 (Eq.trans (b := mixOf h8 h17 x7 x16 _ 0 384) (by rfl) ?_); rw [gO_B03]
  on_goal 14 => refine right 0 768 0 2 (Eq.trans (b := mixOf h8 h17 x7 x16 _ 0 256) (by rfl) ?_); rw [gO_B02]
  on_goal 15 => refine right 0 640 0 1 (Eq.trans (b := mixOf h8 h17 x7 x16 _ 0 128) (by rfl) ?_); rw [gO_B01]
  on_goal 16 => refine right 0 512 0 0 (Eq.trans (b := mixOf h8 h17 x7 x16 _ 0 0) (by rfl) ?_); rw [gO_B00]
  iterate 16 on_goal 1 => (simp only [mixOf, rd, loads, ld_lanes]; try rfl)
  on_goal 1 => refine left 256 384 1 3 ?_
  on_goal 2 => refine left 256 256 1 2 ?_
  on_goal 3 => refine left 256 128 1 1 ?_
  on_goal 4 => refine left 256 0 1 0 ?_
  on_goal 5 => refine left 0 384 0 3 ?_
  on_goal 6 => refine left 0 256 0 2 ?_
  on_goal 7 => refine left 0 128 0 1 ?_
  on_goal 8 => refine left 0 0 0 0 ?_
  all_goals (sl_unfold_words; simp only [skip_rows, Nat.reduceAdd, Nat.reduceLeDiff, or_true, true_or, fill_rows, View.readCov_cons_toLoadRect, View.readAt_eq_ld, Memref.IsWhole.read_unread, ld_cut, ld_rows, ld_tab4, ld_tab8, ld_lane, ld_sq, ld_wide, ld_dec, ld_lanes, ld_whole]; rfl)
end

end

end Cert.MixBlock

end
-- ==== Proof.MixPoint.lean ====
/-
  What each grid point of the mixer leaves of its two attentions, over the reals.
-/
module

public import proofs.«01_k».proof.Proof.MixGates
public import proofs.«01_k».proof.Proof.MixFirst
public import proofs.«01_k».proof.Proof.MixLater

@[expose] public section

set_option maxRecDepth 16384

noncomputable section

namespace Cert.MixBlock

open Cert.RowMath Cert.MixMath Cert.MixHost Cert.MixKernelIdeal Cert.MixKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)
variable {p : Fin 8192 → Fin 3600 → ℝ} (H : Of m c p) {gw : Fin 16 → Fin 256 → ℝ} {gb : Fin 256 → ℝ} (HW : OfW m c gw) (HB : OfB m c gb)
  (hz : ∀ n l, -19 ≤ zg p gw gb n l) (t : Fin cfg0.N) (j : Fin 4) (s : Vec Ideal S128x256 .f32)

theorem kc_head (h : Fin 4) (d : Fin 64) (hd : (kc h d).val / 64 < 4) : (⟨(kc h d).val / 64, hd⟩ : Fin 4) = h := Fin.ext (by show (64 * h.val + d.val) / 64 = h.val; omega)

include H HW HB
/-- One tile takes the state to the next. -/
theorem gNext_apply (J : ℕ) (hJ : J = (til t j).val) (hs : ∀ e l, s (ix2 e l) = ((gls p gw gb l e J : ℝ) : EReal)) (e : Fin 128) (l : Fin 256) :
    gNext (F := Ideal) (bGk m c t) (bGv m c t) (bLr m c t) (bW m c t) (bB m c t) s j.val (ix2 e l) = ((gls p gw gb l e (J + 1) : ℝ) : EReal) := by
  subst hJ
  refine (gNextOf_apply (gB (F := Ideal) (bLr m c t) (bW m c t) (bB m c t) j.val) _ (gB_apply m c H t j · HW HB) (wide (F := Ideal) (bGk m c t) (128 * j.val)) _ (gk_at m c H t j)
    s _ hs (fun h => sq (F := Ideal) (bGv m c t) (128 * j.val) (128 * h.val)) (fun h r e => gvl p h (rowG (til t j) r) e) (fun h r e => gv_at m c H t j r h e) e l).trans ?_
  unfold gls
  rw [glaS_succ _ _ _ _ (til t j).isLt]
  rfl

/-- The states before each tile of a block. -/
theorem gAt_apply (hs : ∀ e l, s (ix2 e l) = ((gls p gw gb l e (4 * t.val) : ℝ) : EReal)) (J : ℕ) (hJ : J < 5) (e : Fin 128) (l : Fin 256) :
    gAt (F := Ideal) (bGk m c t) (bGv m c t) (bLr m c t) (bW m c t) (bB m c t) s J (ix2 e l) = ((gls p gw gb l e (4 * t.val + J) : ℝ) : EReal) := by
  have s1 := gNext_apply m c H HW HB t 0 s _ rfl hs
  have s2 := gNext_apply m c H HW HB t 1 _ _ rfl s1
  have s3 := gNext_apply m c H HW HB t 2 _ _ rfl s2
  have s4 := gNext_apply m c H HW HB t 3 _ _ rfl s3
  match J, hJ with
  | 0, _ => exact hs e l
  | 1, _ => exact s1 e l
  | 2, _ => exact s2 e l
  | 3, _ => exact s3 e l
  | 4, _ => exact s4 e l

include hz in
/-- Gated linear attention of one row. -/
theorem gO_apply (hs : ∀ e l, s (ix2 e l) = ((gls p gw gb l e (4 * t.val) : ℝ) : EReal)) (h : Fin 4) (r e : Fin 128) :
    gO (F := Ideal) (bGq m c t) (bGk m c t) (bGv m c t) (bLr m c t) (bW m c t) (bB m c t) s j.val h.val (ix2 r e)
      = ((glo p gw gb h (rowG (til t j) r) e : ℝ) : EReal) := by
  refine (gSum_apply _ _ _ h r e).trans ?_
  have hB : ∀ (r : Fin 128) (l : Fin 256), -80 ≤ inB (fun n => la p gw gb n l) (til t j).val r.val - inB (fun n => la p gw gb n l) (til t j).val (63 : Fin 128).val
      ∧ inB (fun n => la p gw gb n l) (til t j).val r.val - inB (fun n => la p gw gb n l) (til t j).val (63 : Fin 128).val ≤ 80 :=
    fun r l => inB_mid _ (fun n => la_le p gw gb n l) (fun n => la_ge p gw gb n l (hz n l)) _ (til t j).isLt r
  have ea := aT_apply (gB (F := Ideal) (bLr m c t) (bW m c t) (bB m c t) j.val) _ (gB_apply m c H t j · HW HB) hB (wide (F := Ideal) (bGq m c t) (128 * j.val))
    (wide (F := Ideal) (bGk m c t) (128 * j.val)) _ _ (gq_at m c H t j) (gk_at m c H t j) h r
  have eq := qT'_apply (gB (F := Ideal) (bLr m c t) (bW m c t) (bB m c t) j.val) _ (gB_apply m c H t j · HW HB) (wide (F := Ideal) (bGq m c t) (128 * j.val))
    _ (gq_at m c H t j) (gAt (F := Ideal) (bGk m c t) (bGv m c t) (bLr m c t) (bW m c t) (bB m c t) s j.val) _ (gAt_apply m c H HW HB t s hs j.val (by omega)) h r e
  refine (congrArg₂ (· + ·) (Finset.sum_congr rfl fun r' _ => congrArg₂ (· * ·) (ea r') (gv_at m c H t j r' h e)) eq).trans ?_
  simp only [← EReal.coe_mul, sum_coe, ← EReal.coe_add]
  rw [glo, glaO_tile _ _ _ _ (fun d s => la_le p gw gb s _) (fun d s => la_ge p gw gb s _ (hz s _)) (til t j).val (til t j).isLt r]
  refine congrArg _ (congrArg₂ (· + ·) rfl (Finset.sum_congr rfl fun d _ => ?_))
  unfold gls
  rw [kc_head]
  rfl
omit HW HB

theorem up_tab (h : Fin 4) (r : Fin 256) (l : Fin 128) : tab8 (F := Ideal) (bDec m c t) h.val (ix3 0 r l) = ((Real.exp (lg h * (r.val + 1)) : ℝ) : EReal) := by
  refine Eq.trans ?_ (qkd_up h r l)
  rw [← blk10 m c t]
  exact congrArg (fun a => bDec m c t (ix3 a r l)) (Fin.ext (by show h.val % 8 = h.val; omega))
theorem dec_tab (h : Fin 4) (r r' : Fin 256) : dec (F := Ideal) (bD m c t) h.val (ix3 0 r r') = ((wt (lg h) r.val r'.val : ℝ) : EReal) := by
  refine Eq.trans ?_ (decT_apply h r r')
  rw [← blk9 m c t]
  exact congrArg (fun a => bD m c t (ix3 a r r')) (Fin.ext (by show h.val % 4 = h.val; omega))

/-- Retention of one row. -/
theorem rO_apply (z : FVec Ideal S512x128 .f32) (hz : ∀ h d e, z (ix2 (rowH h d) e) = ((stp p h d e (2 * t.val) : ℝ) : EReal)) (i : Fin 2) (h : Fin 4) (r : Fin 256) (e : Fin 128) :
    rO (F := Ideal) (bQ m c t) (bK m c t) (bV m c t) (bD m c t) (bDec m c t) (bIn m c t) (bTile m c t) z i.val h.val (ix2 r e)
      = ((rto p h (rowT (tile (pt t) i) r) e : ℝ) : EReal) := by
  have R := reads m c H t
  refine (ret_apply _ _ _ _ _ _ _ _ r e).trans ?_
  have eq (l : Fin 128) : k0_pay28 (F := Ideal) (cosT (F := Ideal) (bIn m c t) (bTile m c t) i.val) (sinT (F := Ideal) (bIn m c t) (bTile m c t) i.val)
      (cut (F := Ideal) (bQ m c t) (256 * i.val) (128 * h.val)) (ix2 r l) = (qry p h (rowT (tile (pt t) i) r) l : EReal) := R.qT i h r l
  have ek (r' : Fin 256) (l : Fin 128) : k0_pay19 (F := Ideal) (cosT (F := Ideal) (bIn m c t) (bTile m c t) i.val) (sinT (F := Ideal) (bIn m c t) (bTile m c t) i.val)
      (cut (F := Ideal) (bK m c t) (256 * i.val) (128 * h.val)) (ix2 r' l) = (key p h (rowT (tile (pt t) i) r') l : EReal) := R.kT i h r' l
  have ev (r' : Fin 256) : cut (F := Ideal) (bV m c t) (256 * i.val) (128 * h.val) (ix2 r' e) = (vlu p h (rowT (tile (pt t) i) r') e : EReal) := R.cut2 i h r' e
  simp only [eq, ek, ev, dec_tab m c H t, up_tab m c H t, atT_apply m c H t z hz i h, ← EReal.coe_mul, sum_coe, ← EReal.coe_add]
  rw [rto, retO_tile _ _ _ _ (tile (pt t) i).val (tile (pt t) i).isLt r]
  rfl

set_option maxHeartbeats 1000000 in  -- a tuple of eight long terms is read at one of them
theorem gscr_first (h0 : t.val % 16 = 0) (y) : (outsAt0 m c t.val t.isLt).2.2.2.2.2.2.2 y
    = gAt (F := Ideal) (bGk m c t) (bGv m c t) (bLr m c t) (bW m c t) (bB m c t) (k0_pay3 (F := Ideal)) 4 y := by
  rw [outsAt0_A m c t h0]
  dsimp only
  exact gscr_A (F := Ideal) ..
set_option maxHeartbeats 1000000 in
theorem gscr_later (h0 : ¬t.val % 16 = 0) (y) : (outsAt0 m c t.val t.isLt).2.2.2.2.2.2.2 y
    = gAt (F := Ideal) (bGk m c t) (bGv m c t) (bLr m c t) (bW m c t) (bB m c t) (outsAt0 m c (t.val - 1) (Nat.lt_of_le_of_lt (Nat.sub_le _ _) t.isLt)).2.2.2.2.2.2.2 4 y := by
  rw [outsAt0_B m c t h0]
  dsimp only
  exact gscr_B (F := Ideal) ..
set_option maxHeartbeats 1000000 in
theorem sst_first (h0 : t.val % 16 = 0) (y) : (outsAt0 m c t.val t.isLt).2.2.2.2.2.1 y
    = four (gAt (F := Ideal) (bGk m c t) (bGv m c t) (bLr m c t) (bW m c t) (bB m c t) (k0_pay3 (F := Ideal))) y := by
  rw [outsAt0_A m c t h0]
  dsimp only
  exact blk22_A (F := Ideal) ..
set_option maxHeartbeats 1000000 in
theorem sst_later (h0 : ¬t.val % 16 = 0) (y) : (outsAt0 m c t.val t.isLt).2.2.2.2.2.1 y
    = four (gAt (F := Ideal) (bGk m c t) (bGv m c t) (bLr m c t) (bW m c t) (bB m c t) (outsAt0 m c (t.val - 1) (Nat.lt_of_le_of_lt (Nat.sub_le _ _) t.isLt)).2.2.2.2.2.2.2) y := by
  rw [outsAt0_B m c t h0]
  dsimp only
  exact blk22_B (F := Ideal) ..
set_option maxHeartbeats 1000000 in
theorem oraw_first (h0 : t.val % 16 = 0) (y) : (outsAt0 m c t.val t.isLt).2.1 y
    = both (rO (F := Ideal) (bQ m c t) (bK m c t) (bV m c t) (bD m c t) (bDec m c t) (bIn m c t) (bTile m c t) (k0_pay2 (F := Ideal)) )
      (gO (F := Ideal) (bGq m c t) (bGk m c t) (bGv m c t) (bLr m c t) (bW m c t) (bB m c t) (k0_pay3 (F := Ideal))) y := by
  rw [outsAt0_A m c t h0]
  dsimp only
  exact blk18_A (F := Ideal) ..
set_option maxHeartbeats 1000000 in
theorem mix_first (h0 : t.val % 16 = 0) (y) : (outsAt0 m c t.val t.isLt).1 y
    = both (rMix (F := Ideal) (bQ m c t) (bK m c t) (bV m c t) (bRg m c t) (bD m c t) (bDec m c t) (bIn m c t) (bTile m c t) (bRw m c t) (k0_pay2 (F := Ideal)) )
      (gMix (F := Ideal) (bGq m c t) (bGk m c t) (bGv m c t) (bGg m c t) (bLr m c t) (bW m c t) (bB m c t) (bGw m c t) (k0_pay3 (F := Ideal))) y := by
  rw [outsAt0_A m c t h0]
  dsimp only
  exact blk17_A (F := Ideal) ..
set_option maxHeartbeats 1000000 in
theorem oraw_later (h0 : ¬t.val % 16 = 0) (y) : (outsAt0 m c t.val t.isLt).2.1 y
    = both (rO (F := Ideal) (bQ m c t) (bK m c t) (bV m c t) (bD m c t) (bDec m c t) (bIn m c t) (bTile m c t) (outsAt0 m c (t.val - 1) (Nat.lt_of_le_of_lt (Nat.sub_le _ _) t.isLt)).2.2.2.2.2.2.1)
      (gO (F := Ideal) (bGq m c t) (bGk m c t) (bGv m c t) (bLr m c t) (bW m c t) (bB m c t) (outsAt0 m c (t.val - 1) (Nat.lt_of_le_of_lt (Nat.sub_le _ _) t.isLt)).2.2.2.2.2.2.2) y := by
  rw [outsAt0_B m c t h0]
  dsimp only
  exact blk18_B (F := Ideal) ..
set_option maxHeartbeats 1000000 in
theorem mix_later (h0 : ¬t.val % 16 = 0) (y) : (outsAt0 m c t.val t.isLt).1 y
    = both (rMix (F := Ideal) (bQ m c t) (bK m c t) (bV m c t) (bRg m c t) (bD m c t) (bDec m c t) (bIn m c t) (bTile m c t) (bRw m c t) (outsAt0 m c (t.val - 1) (Nat.lt_of_le_of_lt (Nat.sub_le _ _) t.isLt)).2.2.2.2.2.2.1)
      (gMix (F := Ideal) (bGq m c t) (bGk m c t) (bGv m c t) (bGg m c t) (bLr m c t) (bW m c t) (bB m c t) (bGw m c t) (outsAt0 m c (t.val - 1) (Nat.lt_of_le_of_lt (Nat.sub_le _ _) t.isLt)).2.2.2.2.2.2.2) y := by
  rw [outsAt0_B m c t h0]
  dsimp only
  exact blk17_B (F := Ideal) ..

theorem zero_gla (e : Fin 128) (l : Fin 256) : k0_pay3 (F := Ideal) (ix2 e l) = ((gls p gw gb l e 0 : ℝ) : EReal) := by
  rw [gls, glaS_zero]
  pointwise [k0_pay3]
  rfl

include HW HB
/-- After point `n` the second scratch buffer holds the states of gated linear attention before the next block. -/
theorem gscr_all (n : ℕ) (hn : n < cfg0.N) (e : Fin 128) (l : Fin 256) :
    (outsAt0 m c n hn).2.2.2.2.2.2.2 (ix2 e l) = ((gls p gw gb l e (4 * n + 4) : ℝ) : EReal) := by
  have hN := lt_of_lt_of_eq hn (show cfg0.N = 16 from N_0)
  induction n generalizing e l with
  | zero => exact (gscr_first m c H ⟨0, hn⟩ rfl _).trans (gAt_apply m c H HW HB ⟨0, hn⟩ _ (fun e l => zero_gla m c H e l) 4 (by norm_num) e l)
  | succ n ih =>
    exact (gscr_later m c H ⟨n + 1, hn⟩ (show ¬ (n + 1) % 16 = 0 by omega) _).trans
      (gAt_apply m c H HW HB ⟨n + 1, hn⟩ _ (fun e l => ih (by omega) e l (by omega)) 4 (by norm_num) e l)
/-- The states both branches of a point start from. -/
theorem starts : ∃ (z : FVec Ideal S512x128 .f32) (s : Vec Ideal S128x256 .f32),
    (∀ h d e, z (ix2 (rowH h d) e) = ((stp p h d e (2 * t.val) : ℝ) : EReal)) ∧ (∀ e l, s (ix2 e l) = ((gls p gw gb l e (4 * t.val) : ℝ) : EReal))
    ∧ (∀ y, (outsAt0 m c t.val t.isLt).2.2.2.2.2.1 y = four (gAt (F := Ideal) (bGk m c t) (bGv m c t) (bLr m c t) (bW m c t) (bB m c t) s) y)
    ∧ (∀ y, (outsAt0 m c t.val t.isLt).2.1 y = both (rO (F := Ideal) (bQ m c t) (bK m c t) (bV m c t) (bD m c t) (bDec m c t) (bIn m c t) (bTile m c t) z)
      (gO (F := Ideal) (bGq m c t) (bGk m c t) (bGv m c t) (bLr m c t) (bW m c t) (bB m c t) s) y)
    ∧ (∀ y, (outsAt0 m c t.val t.isLt).1 y = both (rMix (F := Ideal) (bQ m c t) (bK m c t) (bV m c t) (bRg m c t) (bD m c t) (bDec m c t) (bIn m c t) (bTile m c t) (bRw m c t) z)
      (gMix (F := Ideal) (bGq m c t) (bGk m c t) (bGv m c t) (bGg m c t) (bLr m c t) (bW m c t) (bB m c t) (bGw m c t) s) y) := by
  have hN := lt_of_lt_of_eq t.isLt (show cfg0.N = 16 from N_0)
  by_cases h0 : t.val % 16 = 0
  · refine ⟨_, _, fun h d e => ?_, fun e l => ?_, sst_first m c H t h0, oraw_first m c H t h0, mix_first m c H t h0⟩
    · rw [show t.val = 0 by omega]; exact zero_apply h d e
    · rw [show t.val = 0 by omega]; exact zero_gla m c H e l
  · refine ⟨_, _, fun h d e => ?_, fun e l => ?_, sst_later m c H t h0, oraw_later m c H t h0, mix_later m c H t h0⟩
    · rw [scr_all m c H]
      exact congrArg (fun n => ((stp p h d e n : ℝ) : EReal)) (by omega)
    · rw [gscr_all m c H HW HB]
      exact congrArg (fun n => ((gls p gw gb l e n : ℝ) : EReal)) (by omega)

theorem sst_all (e : Fin 128) (l : Fin 256) : (outsAt0 m c t.val t.isLt).2.2.2.2.2.1 (ix3 j e l) = ((gls p gw gb l e (til t j).val : ℝ) : EReal) := by
  obtain ⟨z, s, hz', hs, h22, -, -⟩ := starts m c H HW HB t
  exact (h22 _).trans (gAt_apply m c H HW HB t s hs j.val (by omega) e l)

/-- A column of the left half, and one of the right. -/
abbrev colL (h : Fin 4) (l : Fin 128) : Fin 1024 := ⟨128 * h.val + l.val, by omega⟩
abbrev colR (h : Fin 4) (l : Fin 128) : Fin 1024 := ⟨512 + 128 * h.val + l.val, by omega⟩
/-- Row `r` of tile `j`, in its block. -/
abbrev rowQ (j : Fin 4) (r : Fin 128) : Fin 512 := ⟨128 * j.val + r.val, by omega⟩
omit H HW HB
theorem both_L {α : Type} (f : ℕ → ℕ → S256x128.Idx → α) (g : ℕ → ℕ → S128x128.Idx → α) (i : Fin 2) (h : Fin 4) (r : Fin 256) (l : Fin 128) :
    both f g (ix2 (rowB i r) (colL h l)) = f i.val h.val (ix2 r l) := by
  refine (if_pos (show 128 * h.val + l.val < 512 by omega)).trans ?_
  show f ((256 * i.val + r.val) / 256) ((128 * h.val + l.val) / 128) (ix2 ⟨(256 * i.val + r.val) % 256, _⟩ ⟨(128 * h.val + l.val) % 128, _⟩) = _
  have e1 : (128 * h.val + l.val) / 128 = h.val := by omega
  have e2 : (⟨(128 * h.val + l.val) % 128, Nat.mod_lt _ (by norm_num)⟩ : Fin 128) = l := Fin.ext (by show (128 * h.val + l.val) % 128 = l.val; omega)
  have e3 : (256 * i.val + r.val) / 256 = i.val := by omega
  have e4 : (⟨(256 * i.val + r.val) % 256, Nat.mod_lt _ (by norm_num)⟩ : Fin 256) = r := Fin.ext (by show (256 * i.val + r.val) % 256 = r.val; omega)
  rw [e1, e2, e3, e4]
theorem both_R {α : Type} (f : ℕ → ℕ → S256x128.Idx → α) (g : ℕ → ℕ → S128x128.Idx → α) (j h : Fin 4) (r l : Fin 128) :
    both f g (ix2 (rowQ j r) (colR h l)) = g j.val h.val (ix2 r l) := by
  refine (if_neg (show ¬ 512 + 128 * h.val + l.val < 512 by omega)).trans ?_
  show g ((128 * j.val + r.val) / 128) ((512 + 128 * h.val + l.val - 512) / 128) (ix2 ⟨(128 * j.val + r.val) % 128, _⟩ ⟨(512 + 128 * h.val + l.val) % 128, _⟩) = _
  have e1 : (512 + 128 * h.val + l.val - 512) / 128 = h.val := by omega
  have e2 : (⟨(512 + 128 * h.val + l.val) % 128, Nat.mod_lt _ (by norm_num)⟩ : Fin 128) = l := Fin.ext (by show (512 + 128 * h.val + l.val) % 128 = l.val; omega)
  have e3 : (128 * j.val + r.val) / 128 = j.val := by omega
  have e4 : (⟨(128 * j.val + r.val) % 128, Nat.mod_lt _ (by norm_num)⟩ : Fin 128) = r := Fin.ext (by show (128 * j.val + r.val) % 128 = r.val; omega)
  rw [e1, e2, e3, e4]

include H HW HB
theorem oraw_L (i : Fin 2) (h : Fin 4) (r : Fin 256) (l : Fin 128) :
    (outsAt0 m c t.val t.isLt).2.1 (ix2 (rowB i r) (colL h l)) = ((rto p h (rowT (tile (pt t) i) r) l : ℝ) : EReal) := by
  obtain ⟨z, s, hz', hs, -, h18, -⟩ := starts m c H HW HB t
  exact (h18 _).trans ((both_L _ _ i h r l).trans (rO_apply m c H t z hz' i h r l))
include hz in
theorem oraw_R (h : Fin 4) (r l : Fin 128) :
    (outsAt0 m c t.val t.isLt).2.1 (ix2 (rowQ j r) (colR h l)) = ((glo p gw gb h (rowG (til t j) r) l : ℝ) : EReal) := by
  obtain ⟨z, s, hz', hs, -, h18, -⟩ := starts m c H HW HB t
  exact (h18 _).trans ((both_R _ _ j h r l).trans (gO_apply m c H HW HB hz t j s hs h r l))
omit H HW HB
/-- A weight of a head. -/
abbrev wgt (w : FVec Ideal S1x512 .f32) (h : Fin 4) (l : Fin 128) : EReal := w (ix2 0 ⟨128 * h.val + l.val, by omega⟩)
/-- The mixed rows: retention centred, over its spread, weighted and gated; gated linear attention over its root mean square. -/
def mixL (p : Fin 8192 → Fin 3600 → ℝ) (w : FVec Ideal S1x512 .f32) (h : Fin 4) (n : Fin 8192) (l : Fin 128) : EReal :=
  nrm (ctr fun e => ((rto p h n e : ℝ) : EReal)) l * wgt w h l * slu ((p n (col 1536 h l) : ℝ) : EReal)
def mixR (p : Fin 8192 → Fin 3600 → ℝ) (gw : Fin 16 → Fin 256 → ℝ) (gb : Fin 256 → ℝ) (w : FVec Ideal S1x512 .f32) (h : Fin 4) (n : Fin 8192) (l : Fin 128) : EReal :=
  nrm (fun e => ((glo p gw gb h n e : ℝ) : EReal)) l * wgt w h l * slu ((p n (col 3072 h l) : ℝ) : EReal)
theorem lanes_at (x : FVec Ideal S1x512 .f32) (h : Fin 4) (l : Fin 128) : lanes (F := Ideal) x (128 * h.val) (ix2 0 l) = wgt x h l :=
  congrArg (fun a => x (ix2 0 a)) (Fin.ext (by show (128 * h.val + l.val) % 512 = 128 * h.val + l.val; omega))
include H HW HB
theorem mix_L (i : Fin 2) (h : Fin 4) (r : Fin 256) (l : Fin 128) :
    (outsAt0 m c t.val t.isLt).1 (ix2 (rowB i r) (colL h l)) = mixL p (argR m c) h (rowT (tile (pt t) i) r) l := by
  obtain ⟨z, s, hz', hs, -, -, h17⟩ := starts m c H HW HB t
  refine (h17 _).trans ((both_L _ _ i h r l).trans ((centred_apply _ _ _ r l).trans ?_))
  rw [lanes_at, rg_at m c H, blk15]
  simp only [rO_apply m c H t z hz' i h r]
  rfl
include hz in
theorem mix_R (h : Fin 4) (r l : Fin 128) :
    (outsAt0 m c t.val t.isLt).1 (ix2 (rowQ j r) (colR h l)) = mixR p gw gb (argG m c) h (rowG (til t j) r) l := by
  obtain ⟨z, s, hz', hs, -, -, h17⟩ := starts m c H HW HB t
  refine (h17 _).trans ((both_R _ _ j h r l).trans ((gated_apply _ _ _ r l).trans ?_))
  rw [lanes_at, gg_at m c H, blk16]
  simp only [gO_apply m c H HW HB hz t j s hs h r]
  rfl

end Cert.MixBlock

end
-- ==== Proof.MixFinal.lean ====
/-
  The result arrays of the mixer after the run.
-/
module

public import proofs.«01_k».proof.Proof.MixPoint

@[expose] public section

set_option maxRecDepth 16384

noncomputable section

namespace Cert.MixBlock

open Cert.RowMath Cert.MixMath Cert.MixHost Cert.MixKernelIdeal Cert.MixKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

variable {p : Fin 8192 → Fin 3600 → ℝ} (H : Of m c p)

theorem rowT_surj (n : Fin 8192) : ∃ (t : Fin cfg0.N) (i : Fin 2) (r : Fin 256), n = rowT (tile (pt t) i) r := by
  have hN : cfg0.N = 16 := N_0
  exact ⟨⟨n.val / 512, by omega⟩, ⟨n.val / 256 % 2, by omega⟩, ⟨n.val % 256, by omega⟩,
    Fin.ext (show n.val = 256 * (2 * (n.val / 512) + n.val / 256 % 2) + n.val % 256 by omega)⟩
theorem rowH_surj (d : Fin 512) : d = rowH ⟨d.val / 128, by omega⟩ ⟨d.val % 128, by omega⟩ := Fin.ext (show d.val = 128 * (d.val / 128) + d.val % 128 by omega)
theorem tile_surj (j : Fin 32) : ∃ (t : Fin cfg0.N) (i : Fin 2), j = tile (pt t) i := by
  have hN : cfg0.N = 16 := N_0
  exact ⟨⟨j.val / 2, by omega⟩, ⟨j.val % 2, by omega⟩, Fin.ext (show j.val = 2 * (j.val / 2) + j.val % 2 by omega)⟩

theorem idx19 (t : Fin cfg0.N) : win0_19.index t 0 = t.val ∧ win0_19.index t 1 = 0 := (by decide +kernel : ∀ t : Fin grid0.N, win0_19.index t 0 = t.val ∧ win0_19.index t 1 = 0) t
theorem qrb_block (t : Fin cfg0.N) (r : Fin 512) (l : Fin 512) :
    @Eq EReal ((dats m 0 c).arrAt 19 cfg0.N (ix2 (row16 (pt t) r) l)) ((outsAt0 m c t.val t.isLt).2.2.1 (ix2 r l)) := by
  have e := congrFun ((dats m 0 c).read_blk_arrAt_eq_flushed 19 (fun _ _ _ _ hne => (cfg0.win 19).disjoint_blk fun h => hne (Cert.RowStore.inj_of win0_19.index 0 (fun t => (idx19 t).1) h)) cfg0.N t t.isLt (flush0_19 t)) (ix2 r l)
  rw [show (dats m 0 c).flushed 19 t = (cfg0.win 19).cut (grid0.coords t) ((dats m 0 c).after 19 t) from rfl, after0_19] at e
  refine Eq.trans ?_ e
  rw [View.read_apply]
  refine congrArg ((dats m 0 c).arrAt 19 cfg0.N) (funext fun a => Fin.ext ?_)
  match a with
  | ⟨0, _⟩ => show 512 * t.val + r.val = win0_19.index t 0 * 512 + 1 * r.val; rw [(idx19 t).1]; omega
  | ⟨1, _⟩ => show l.val = win0_19.index t 1 * 512 + 1 * l.val; rw [(idx19 t).2]; omega

theorem idx20 (t : Fin cfg0.N) : win0_20.index t 0 = t.val ∧ win0_20.index t 1 = 0 := (by decide +kernel : ∀ t : Fin grid0.N, win0_20.index t 0 = t.val ∧ win0_20.index t 1 = 0) t
theorem krb_block (t : Fin cfg0.N) (r : Fin 512) (l : Fin 512) :
    @Eq EReal ((dats m 0 c).arrAt 20 cfg0.N (ix2 (row16 (pt t) r) l)) ((outsAt0 m c t.val t.isLt).2.2.2.1 (ix2 r l)) := by
  have e := congrFun ((dats m 0 c).read_blk_arrAt_eq_flushed 20 (fun _ _ _ _ hne => (cfg0.win 20).disjoint_blk fun h => hne (Cert.RowStore.inj_of win0_20.index 0 (fun t => (idx20 t).1) h)) cfg0.N t t.isLt (flush0_20 t)) (ix2 r l)
  rw [show (dats m 0 c).flushed 20 t = (cfg0.win 20).cut (grid0.coords t) ((dats m 0 c).after 20 t) from rfl, after0_20] at e
  refine Eq.trans ?_ e
  rw [View.read_apply]
  refine congrArg ((dats m 0 c).arrAt 20 cfg0.N) (funext fun a => Fin.ext ?_)
  match a with
  | ⟨0, _⟩ => show 512 * t.val + r.val = win0_20.index t 0 * 512 + 1 * r.val; rw [(idx20 t).1]; omega
  | ⟨1, _⟩ => show l.val = win0_20.index t 1 * 512 + 1 * l.val; rw [(idx20 t).2]; omega

theorem idx21 (t : Fin cfg0.N) : win0_21.index t 0 = t.val ∧ win0_21.index t 1 = 0 ∧ win0_21.index t 2 = 0 :=
  (by decide +kernel : ∀ t : Fin grid0.N, win0_21.index t 0 = t.val ∧ win0_21.index t 1 = 0 ∧ win0_21.index t 2 = 0) t
theorem rst_block (t : Fin cfg0.N) (i : Fin 2) (d : Fin 512) (l : Fin 128) :
    @Eq EReal ((dats m 0 c).arrAt 21 cfg0.N (ix3 (tile (pt t) i) d l)) ((outsAt0 m c t.val t.isLt).2.2.2.2.1 (ix3 i d l)) := by
  have e := congrFun ((dats m 0 c).read_blk_arrAt_eq_flushed 21 (fun _ _ _ _ hne => (cfg0.win 21).disjoint_blk fun h => hne (Cert.RowStore.inj_of win0_21.index 0 (fun t => (idx21 t).1) h)) cfg0.N t t.isLt (flush0_21 t)) (ix3 i d l)
  rw [show (dats m 0 c).flushed 21 t = (cfg0.win 21).cut (grid0.coords t) ((dats m 0 c).after 21 t) from rfl, after0_21] at e
  refine Eq.trans ?_ e
  rw [View.read_apply]
  refine congrArg ((dats m 0 c).arrAt 21 cfg0.N) (funext fun a => Fin.ext ?_)
  match a with
  | ⟨0, _⟩ => show 2 * t.val + i.val = win0_21.index t 0 * 2 + 1 * i.val; rw [(idx21 t).1]; omega
  | ⟨1, _⟩ => show d.val = win0_21.index t 1 * 512 + 1 * d.val; rw [(idx21 t).2.1]; omega
  | ⟨2, _⟩ => show l.val = win0_21.index t 2 * 128 + 1 * l.val; rw [(idx21 t).2.2]; omega

theorem row16_rowB (t : Fin cfg0.N) (i : Fin 2) (r : Fin 256) : row16 (pt t) (rowB i r) = rowT (tile (pt t) i) r :=
  Fin.ext (by show 512 * t.val + (256 * i.val + r.val) = 256 * (2 * t.val + i.val) + r.val; omega)

theorem idx17 (t : Fin cfg0.N) : win0_17.index t 0 = t.val ∧ win0_17.index t 1 = 0 := (by decide +kernel : ∀ t : Fin grid0.N, win0_17.index t 0 = t.val ∧ win0_17.index t 1 = 0) t
theorem mix_block (t : Fin cfg0.N) (r : Fin 512) (l : Fin 1024) :
    @Eq EReal ((dats m 0 c).arrAt 17 cfg0.N (ix2 (row16 (pt t) r) l)) ((outsAt0 m c t.val t.isLt).1 (ix2 r l)) := by
  have e := congrFun ((dats m 0 c).read_blk_arrAt_eq_flushed 17 (fun _ _ _ _ hne => (cfg0.win 17).disjoint_blk fun h => hne (Cert.RowStore.inj_of win0_17.index 0 (fun t => (idx17 t).1) h)) cfg0.N t t.isLt (flush0_17 t)) (ix2 r l)
  rw [show (dats m 0 c).flushed 17 t = (cfg0.win 17).cut (grid0.coords t) ((dats m 0 c).after 17 t) from rfl, after0_17] at e
  refine Eq.trans ?_ e
  rw [View.read_apply]
  refine congrArg ((dats m 0 c).arrAt 17 cfg0.N) (funext fun a => Fin.ext ?_)
  match a with
  | ⟨0, _⟩ => show 512 * t.val + r.val = win0_17.index t 0 * 512 + 1 * r.val; rw [(idx17 t).1]; omega
  | ⟨1, _⟩ => show l.val = win0_17.index t 1 * 1024 + 1 * l.val; rw [(idx17 t).2]; omega

theorem idx18 (t : Fin cfg0.N) : win0_18.index t 0 = t.val ∧ win0_18.index t 1 = 0 := (by decide +kernel : ∀ t : Fin grid0.N, win0_18.index t 0 = t.val ∧ win0_18.index t 1 = 0) t
theorem oraw_block (t : Fin cfg0.N) (r : Fin 512) (l : Fin 1024) :
    @Eq EReal ((dats m 0 c).arrAt 18 cfg0.N (ix2 (row16 (pt t) r) l)) ((outsAt0 m c t.val t.isLt).2.1 (ix2 r l)) := by
  have e := congrFun ((dats m 0 c).read_blk_arrAt_eq_flushed 18 (fun _ _ _ _ hne => (cfg0.win 18).disjoint_blk fun h => hne (Cert.RowStore.inj_of win0_18.index 0 (fun t => (idx18 t).1) h)) cfg0.N t t.isLt (flush0_18 t)) (ix2 r l)
  rw [show (dats m 0 c).flushed 18 t = (cfg0.win 18).cut (grid0.coords t) ((dats m 0 c).after 18 t) from rfl, after0_18] at e
  refine Eq.trans ?_ e
  rw [View.read_apply]
  refine congrArg ((dats m 0 c).arrAt 18 cfg0.N) (funext fun a => Fin.ext ?_)
  match a with
  | ⟨0, _⟩ => show 512 * t.val + r.val = win0_18.index t 0 * 512 + 1 * r.val; rw [(idx18 t).1]; omega
  | ⟨1, _⟩ => show l.val = win0_18.index t 1 * 1024 + 1 * l.val; rw [(idx18 t).2]; omega

theorem idx22 (t : Fin cfg0.N) : win0_22.index t 0 = t.val ∧ win0_22.index t 1 = 0 ∧ win0_22.index t 2 = 0 :=
  (by decide +kernel : ∀ t : Fin grid0.N, win0_22.index t 0 = t.val ∧ win0_22.index t 1 = 0 ∧ win0_22.index t 2 = 0) t
theorem sst_block (t : Fin cfg0.N) (j : Fin 4) (e : Fin 128) (l : Fin 256) :
    @Eq EReal ((dats m 0 c).arrAt 22 cfg0.N (ix3 (til t j) e l)) ((outsAt0 m c t.val t.isLt).2.2.2.2.2.1 (ix3 j e l)) := by
  have e' := congrFun ((dats m 0 c).read_blk_arrAt_eq_flushed 22 (fun _ _ _ _ hne => (cfg0.win 22).disjoint_blk fun h => hne (Cert.RowStore.inj_of win0_22.index 0 (fun t => (idx22 t).1) h)) cfg0.N t t.isLt (flush0_22 t)) (ix3 j e l)
  rw [show (dats m 0 c).flushed 22 t = (cfg0.win 22).cut (grid0.coords t) ((dats m 0 c).after 22 t) from rfl, after0_22] at e'
  refine Eq.trans ?_ e'
  rw [View.read_apply]
  refine congrArg ((dats m 0 c).arrAt 22 cfg0.N) (funext fun a => Fin.ext ?_)
  match a with
  | ⟨0, _⟩ => show 4 * t.val + j.val = win0_22.index t 0 * 4 + 1 * j.val; rw [(idx22 t).1]; omega
  | ⟨1, _⟩ => show e.val = win0_22.index t 1 * 128 + 1 * e.val; rw [(idx22 t).2.1]; omega
  | ⟨2, _⟩ => show l.val = win0_22.index t 2 * 256 + 1 * l.val; rw [(idx22 t).2.2]; omega

theorem rowG_surj (n : Fin 8192) : ∃ (t : Fin cfg0.N) (j : Fin 4) (r : Fin 128), n = rowG (til t j) r := by
  have hN : cfg0.N = 16 := N_0
  exact ⟨⟨n.val / 512, by omega⟩, ⟨n.val / 128 % 4, by omega⟩, ⟨n.val % 128, by omega⟩,
    Fin.ext (show n.val = 128 * (4 * (n.val / 512) + n.val / 128 % 4) + n.val % 128 by omega)⟩
theorem til_surj (j : Fin 64) : ∃ (t : Fin cfg0.N) (i : Fin 4), j = til t i := by
  have hN : cfg0.N = 16 := N_0
  exact ⟨⟨j.val / 4, by omega⟩, ⟨j.val % 4, by omega⟩, Fin.ext (show j.val = 4 * (j.val / 4) + j.val % 4 by omega)⟩
theorem row16_rowQ (t : Fin cfg0.N) (j : Fin 4) (r : Fin 128) : row16 (pt t) (rowQ j r) = rowG (til t j) r :=
  Fin.ext (by show 512 * t.val + (128 * j.val + r.val) = 128 * (4 * t.val + j.val) + r.val; omega)

include H
theorem final_qrb (n : Fin 8192) (l : Fin 512) : @Eq EReal ((dats m 0 c).arrAt 19 cfg0.N (ix2 n l)) ((qry p ⟨l.val / 128, by omega⟩ n ⟨l.val % 128, by omega⟩ : ℝ) : EReal) := by
  obtain ⟨t, i, r, rfl⟩ := rowT_surj n
  rw [← row16_rowB]
  refine (qrb_block m c t _ l).trans ?_
  rw [row16_rowB, ← qrb_all m c H t i _ r]
  exact congrArg (fun l => (outsAt0 m c t.val t.isLt).2.2.1 (ix2 (rowB i r) l)) (rowH_surj l)
theorem final_krb (n : Fin 8192) (l : Fin 512) : @Eq EReal ((dats m 0 c).arrAt 20 cfg0.N (ix2 n l)) ((key p ⟨l.val / 128, by omega⟩ n ⟨l.val % 128, by omega⟩ : ℝ) : EReal) := by
  obtain ⟨t, i, r, rfl⟩ := rowT_surj n
  rw [← row16_rowB]
  refine (krb_block m c t _ l).trans ?_
  rw [row16_rowB, ← krb_all m c H t i _ r]
  exact congrArg (fun l => (outsAt0 m c t.val t.isLt).2.2.2.1 (ix2 (rowB i r) l)) (rowH_surj l)
theorem final_rst (j : Fin 32) (d : Fin 512) (l : Fin 128) :
    @Eq EReal ((dats m 0 c).arrAt 21 cfg0.N (ix3 j d l)) ((stp p ⟨d.val / 128, by omega⟩ ⟨d.val % 128, by omega⟩ l j.val : ℝ) : EReal) := by
  obtain ⟨t, i, rfl⟩ := tile_surj j
  refine (rst_block m c t i d l).trans ?_
  rw [← rst_all m c H t i]
  exact congrArg (fun d => (outsAt0 m c t.val t.isLt).2.2.2.2.1 (ix3 i d l)) (rowH_surj d)

variable {gw : Fin 16 → Fin 256 → ℝ} {gb : Fin 256 → ℝ} (HW : OfW m c gw) (HB : OfB m c gb) (hz : ∀ n l, -19 ≤ zg p gw gb n l)
include HW HB
theorem final_sst (j : Fin 64) (e : Fin 128) (l : Fin 256) : @Eq EReal ((dats m 0 c).arrAt 22 cfg0.N (ix3 j e l)) ((gls p gw gb l e j.val : ℝ) : EReal) := by
  obtain ⟨t, i, rfl⟩ := til_surj j
  exact (sst_block m c t i e l).trans (sst_all m c H HW HB t i e l)
theorem final_oraw_L (n : Fin 8192) (h : Fin 4) (l : Fin 128) : @Eq EReal ((dats m 0 c).arrAt 18 cfg0.N (ix2 n (colL h l))) ((rto p h n l : ℝ) : EReal) := by
  obtain ⟨t, i, r, rfl⟩ := rowT_surj n
  rw [← row16_rowB]
  refine (oraw_block m c t _ _).trans ((oraw_L m c H HW HB t i h r l).trans ?_)
  rw [row16_rowB]
theorem final_mix_L (n : Fin 8192) (h : Fin 4) (l : Fin 128) : @Eq EReal ((dats m 0 c).arrAt 17 cfg0.N (ix2 n (colL h l))) (mixL p (argR m c) h n l) := by
  obtain ⟨t, i, r, rfl⟩ := rowT_surj n
  rw [← row16_rowB]
  refine (mix_block m c t _ _).trans ((mix_L m c H HW HB t i h r l).trans ?_)
  rw [row16_rowB]
include hz
theorem final_oraw_R (n : Fin 8192) (h : Fin 4) (l : Fin 128) : @Eq EReal ((dats m 0 c).arrAt 18 cfg0.N (ix2 n (colR h l))) ((glo p gw gb h n l : ℝ) : EReal) := by
  obtain ⟨t, j, r, rfl⟩ := rowG_surj n
  rw [← row16_rowQ]
  refine (oraw_block m c t _ _).trans ((oraw_R m c H HW HB hz t j h r l).trans ?_)
  rw [row16_rowQ]
theorem final_mix_R (n : Fin 8192) (h : Fin 4) (l : Fin 128) : @Eq EReal ((dats m 0 c).arrAt 17 cfg0.N (ix2 n (colR h l))) (mixR p gw gb (argG m c) h n l) := by
  obtain ⟨t, j, r, rfl⟩ := rowG_surj n
  rw [← row16_rowQ]
  refine (mix_block m c t _ _).trans ((mix_R m c H HW HB hz t j h r l).trans ?_)
  rw [row16_rowQ]
omit HW HB hz
theorem halves (l : Fin 1024) : (∃ h l', l = colL h l') ∨ ∃ h l', l = colR h l' := by
  by_cases hl : l.val < 512
  · exact .inl ⟨⟨l.val / 128, by omega⟩, ⟨l.val % 128, by omega⟩, Fin.ext (show l.val = 128 * (l.val / 128) + l.val % 128 by omega)⟩
  · exact .inr ⟨⟨l.val / 128 - 4, by omega⟩, ⟨l.val % 128, by omega⟩, Fin.ext (show l.val = 512 + 128 * (l.val / 128 - 4) + l.val % 128 by omega)⟩

omit H
variable (ρ : Dev nD → PrngReg)

/-- The run, its results by the data of its last point and its arguments as launched. -/
theorem run_blocks : θ_run defs (onTc (τ := τ) (main (F := Ideal))) ⟨m, fun _ => 0, ρ⟩ fun r => ∀ c : Dev nD,
      r.2.mem ((c : Thread nD τ).loc main_v129_0) = (dats m 0 c).arrAt 17 cfg0.N
      ∧ r.2.mem ((c : Thread nD τ).loc main_v129_1) = (dats m 0 c).arrAt 18 cfg0.N
      ∧ r.2.mem ((c : Thread nD τ).loc main_v129_2) = (dats m 0 c).arrAt 19 cfg0.N
      ∧ r.2.mem ((c : Thread nD τ).loc main_v129_3) = (dats m 0 c).arrAt 20 cfg0.N
      ∧ r.2.mem ((c : Thread nD τ).loc main_v129_4) = (dats m 0 c).arrAt 21 cfg0.N
      ∧ r.2.mem ((c : Thread nD τ).loc main_v129_5) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 17, (h c).1 18, (h c).1 19, (h c).1 20, (h c).1 21, (h c).1 22,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 14).trans (((dats m 0 c).arrAt_in 14 rfl _).trans ((A_eq m c 14).trans (V_main_arg2 m c))),
    ((h c).1 15).trans (((dats m 0 c).arrAt_in 15 rfl _).trans ((A_eq m c 15).trans (V_main_arg3 m c))),
    ((h c).1 16).trans (((dats m 0 c).arrAt_in 16 rfl _).trans ((A_eq m c 16).trans (V_main_arg4 m c)))⟩)
    (run_main m ρ)

end Cert.MixBlock

end
-- ==== Proof.MixRef.lean ====
/-
  The reference of the mixer's retention, read element by element over the reals.
-/
module

public import proofs.«01_k».proof.Proof.Gen.MixReferenceIdeal.Run
public import proofs.«01_k».proof.Proof.MixHost
public import proofs.«01_k».proof.Proof.MixPay

@[expose] public section

set_option maxRecDepth 16384

noncomputable section

namespace Cert.MixRef

open Cert.RowMath Cert.MixMath Cert.MixReferenceIdeal Cert.MixReferenceIdeal.Gen Idealize.ShloMosaic Idealize.ShloMosaic.TcCoe Idealize.SL.Sem
open Cert.MixHost (word_256)

abbrev Proj := FVec Ideal S1x8192x3600 .f32
abbrev Heads := FVec Ideal S1x8192x4x128 .f32
abbrev Half := FVec Ideal S1x8192x4x64 .f32

/-- The angles. -/
def ang : FVec Ideal S8192x64 .f32 := mulf (broadcastInDim S8192x64 ![0, 1] bcast_S8192x1_S8192x64_0_1 (broadcastInDim S8192x1 ![0] bcast_S8192_S8192x1_0 (sitofp .f32 (iotaInDim S8192 32 0))))
  (broadcastInDim S8192x64 ![0, 1] bcast_S1x64_S8192x64_0_1 (broadcastInDim S1x64 ![1] bcast_S64_S1x64_1 MixHost.inv))
/-- A table repeated for every head. -/
def spread (x : FVec Ideal S8192x64 .f32) : Half := broadcastInDim S1x8192x4x64 ![0, 1, 2, 3] bcast_S1x8192x1x64_S1x8192x4x64_0_1_2_3
  (broadcastInDim S1x8192x1x64 ![1, 2, 3] bcast_S8192x1x64_S1x8192x1x64_1_2_3 (broadcastInDim S8192x1x64 ![0, 2] bcast_S8192x64_S8192x1x64_0_2 x))
/-- The first half of each head, turned. -/
def lo (x : Heads) : Half := subf (mulf (extractStridedSlice S1x8192x4x64 ![0, 0, 0, 0] x slices_S1x8192x4x128_S1x8192x4x64_0_0_0_0) (spread (Host.cos ang)))
  (mulf (extractStridedSlice S1x8192x4x64 ![0, 0, 0, 64] x slices_S1x8192x4x128_S1x8192x4x64_0_0_0_64) (spread (Host.sin ang)))
/-- The second half. -/
def hi (x : Heads) : Half := addf (mulf (extractStridedSlice S1x8192x4x64 ![0, 0, 0, 64] x slices_S1x8192x4x128_S1x8192x4x64_0_0_0_64) (spread (Host.cos ang)))
  (mulf (extractStridedSlice S1x8192x4x64 ![0, 0, 0, 0] x slices_S1x8192x4x128_S1x8192x4x64_0_0_0_0) (spread (Host.sin ang)))
/-- The rotary embedding. -/
def rotary (x : Heads) : Heads := concatenate S1x8192x4x128 3 [⟨S1x8192x4x64, lo x⟩, ⟨S1x8192x4x64, hi x⟩]
  concatenates_S1x8192x4x64_S1x8192x4x64_S1x8192x4x128_d3
def qcols (p : Proj) : Heads := shapeCast _ (extractStridedSlice S1x8192x512 ![0, 0, 0] p slices_S1x8192x3600_S1x8192x512_0_0_0) shapeCasts_S1x8192x512_S1x8192x4x128
def kcols (p : Proj) : Heads := shapeCast _ (extractStridedSlice S1x8192x512 ![0, 0, 512] p slices_S1x8192x3600_S1x8192x512_0_0_512) shapeCasts_S1x8192x512_S1x8192x4x128
def vcols (p : Proj) : Heads := shapeCast _ (extractStridedSlice S1x8192x512 ![0, 0, 1024] p slices_S1x8192x3600_S1x8192x512_0_0_1024) shapeCasts_S1x8192x512_S1x8192x4x128
/-- How many rows before the tile's first row each row lies, less one. -/
def ago : FVec Ideal S32x8192 .f32 :=
  subf (broadcastInDim S32x8192 ![0, 1] bcast_S32x1_S32x8192_0_1 (subf (mulf (broadcastInDim S32x1 ![] bcast_S_S32x1 (constant S_ .f32 0x43800000#32)) (broadcastInDim S32x1 ![0] bcast_S32_S32x1_0 (sitofp .f32 (iotaInDim S32 32 0)))) (broadcastInDim S32x1 ![] bcast_S_S32x1 (constant S_ .f32 0x3F800000#32))))
    (broadcastInDim S32x8192 ![0, 1] bcast_S1x8192_S32x8192_0_1 (broadcastInDim S1x8192 ![1] bcast_S8192_S1x8192_1 (sitofp .f32 (iotaInDim S8192 32 0))))
def lgs : FVec Ideal S4 .f32 := Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))
/-- The decay of every row in every state. -/
def decay (g : FVec Ideal S4 .f32) (a : FVec Ideal S32x8192 .f32) : FVec Ideal S4x32x8192 .f32 :=
  select (broadcastInDim S4x32x8192 ![1, 2] bcast_S32x8192_S4x32x8192_1_2 (cmpf .oge a (broadcastInDim S32x8192 ![] bcast_S_S32x8192 (constant S_ .f32 0x00000000#32))))
    (Host.exp (mulf (broadcastInDim S4x32x8192 ![0, 1, 2] bcast_S4x1x1_S4x32x8192_0_1_2 (broadcastInDim S4x1x1 ![0] bcast_S4_S4x1x1_0 g))
      (broadcastInDim S4x32x8192 ![0, 1, 2] bcast_S1x32x8192_S4x32x8192_0_1_2 (broadcastInDim S1x32x8192 ![1, 2] bcast_S32x8192_S1x32x8192_1_2 a))))
    (broadcastInDim S4x32x8192 ![] bcast_S_S4x32x8192 (id (constant S_ .f32 0x00000000#32)))
/-- The states. -/
def states (d : FVec Ideal S4x32x8192 .f32) (k v : Heads) : FVec Ideal S1x4x32x128x128 .f32 :=
  Host.dotGeneral dot_S1x4x32x8192x128_S1x8192x4x128_S1x4x32x128x128_3_1_24_3_01_02 none
    (mulf (broadcastInDim S1x4x32x8192x128 ![0, 1, 2, 3, 4] bcast_S1x4x32x8192x1_S1x4x32x8192x128_0_1_2_3_4 (broadcastInDim S1x4x32x8192x1 ![1, 2, 3] bcast_S4x32x8192_S1x4x32x8192x1_1_2_3 d))
      (broadcastInDim S1x4x32x8192x128 ![0, 1, 2, 3, 4] bcast_S1x4x1x8192x128_S1x4x32x8192x128_0_1_2_3_4 (broadcastInDim S1x4x1x8192x128 ![0, 1, 3, 4] bcast_S1x4x8192x128_S1x4x1x8192x128_0_1_3_4 (transpose S1x4x8192x128 [0, 2, 1, 3] k transposes_S1x8192x4x128_S1x4x8192x128_0_2_1_3)))) v
/-- The states in the order they are returned in. -/
def laid (s : FVec Ideal S1x4x32x128x128 .f32) : FVec Ideal S32x512x128 .f32 :=
  shapeCast _ (transpose S32x4x128x128 [1, 0, 2, 3] (shapeCast S4x32x128x128 s shapeCasts_S1x4x32x128x128_S4x32x128x128) transposes_S4x32x128x128_S32x4x128x128_1_0_2_3) shapeCasts_S32x4x128x128_S32x512x128
def scaled (x : Heads) : Heads := mulf x (broadcastInDim S1x8192x4x128 ![] bcast_S_S1x8192x4x128 (constant S_ .f32 0x3DB504F3#32))
def flat (x : Heads) : FVec Ideal S8192x512 .bf16 := truncf .bf16 (shapeCast _ x shapeCasts_S1x8192x4x128_S8192x512) bitsLt_bf16_f32

variable (m : (ℓ : Loc nD τ sig) → Buf (Elt Ideal) ℓ) (c : Dev nD)
abbrev argProj : Proj := m ((c.tc : Thread nD τ).loc main_arg0)

section
variable (p : Proj) (x k v : Heads) (n : Fin 8192) (h : Fin 4) (l : Fin 128)
theorem qcols_apply : qcols p (ix4 0 n h l) = p (ix3 0 n (col 0 h l)) := by
  pointwise [qcols]
  exact congrArg (fun a => p (ix3 0 n a)) (Fin.ext (by show h.val * 128 + l.val = (0 + 128 * h.val + l.val) % 3600; omega))
theorem kcols_apply : kcols p (ix4 0 n h l) = p (ix3 0 n (col 512 h l)) := by
  pointwise [kcols]
  exact congrArg (fun a => p (ix3 0 n a)) (Fin.ext (by show 512 + (h.val * 128 + l.val) = (512 + 128 * h.val + l.val) % 3600; omega))
theorem vcols_apply : vcols p (ix4 0 n h l) = p (ix3 0 n (col 1024 h l)) := by
  pointwise [vcols]
  exact congrArg (fun a => p (ix3 0 n a)) (Fin.ext (by show 1024 + (h.val * 128 + l.val) = (1024 + 128 * h.val + l.val) % 3600; omega))
theorem ang_apply (l : Fin 64) : ang (ix2 n l) = (((n.val : ℝ) * freq l : ℝ) : EReal) := by
  pointwise [ang]
  rw [MixHost.count _ (by omega), MixHost.inv_apply, ← EReal.coe_mul]
theorem lo_apply (l : Fin 64) : lo x (ix4 0 n h l) = x (ix4 0 n h ⟨l.val, by omega⟩) * Ideal.cos (ang (ix2 n l)) - x (ix4 0 n h ⟨64 + l.val, by omega⟩) * Ideal.sin (ang (ix2 n l)) := by
  pointwise [lo, spread]
theorem hi_apply (l : Fin 64) : hi x (ix4 0 n h l) = x (ix4 0 n h ⟨64 + l.val, by omega⟩) * Ideal.cos (ang (ix2 n l)) + x (ix4 0 n h ⟨l.val, by omega⟩) * Ideal.sin (ang (ix2 n l)) := by
  pointwise [hi, spread]
theorem rotary_halves (l : Fin 128) : rotary x (ix4 0 n h l) = if hl : l.val < 64 then lo x (ix4 0 n h ⟨l.val, hl⟩) else hi x (ix4 0 n h ⟨l.val - 64, by omega⟩) := by
  pointwise [rotary]
/-- The rotary embedding of real rows. -/
theorem rotary_apply (x' : Fin 128 → ℝ) (hx : ∀ l, x (ix4 0 n h l) = (x' l : EReal)) : rotary x (ix4 0 n h l) = ((rot x' n.val l : ℝ) : EReal) := by
  rw [rotary_halves]
  by_cases hl : l.val < 64
  · rw [dif_pos hl, lo_apply, hx, hx, ang_apply]
    have e : (⟨64 + l.val, by omega⟩ : Fin 128) = pair l := Fin.ext (by show 64 + l.val = (l.val + 64) % 128; omega)
    have f : freq ⟨l.val, hl⟩ = frq l := MixHost.frq_lt l hl
    show (x' l : EReal) * ((Real.cos (n.val * freq ⟨l.val, hl⟩) : ℝ) : EReal) - ((x' ⟨64 + l.val, _⟩ : ℝ) : EReal) * ((Real.sin (n.val * freq ⟨l.val, hl⟩) : ℝ) : EReal) = _
    rw [e, f, ← EReal.coe_mul, ← EReal.coe_mul, ← EReal.coe_sub]
    unfold rot sgn
    rw [if_pos hl]
    congr 1
    ring
  · have e : (⟨64 + (l.val - 64), by omega⟩ : Fin 128) = l := Fin.ext (by show 64 + (l.val - 64) = l.val; omega)
    have e' : (⟨l.val - 64, by omega⟩ : Fin 128) = pair l := Fin.ext (by show l.val - 64 = (l.val + 64) % 128; omega)
    have f : freq ⟨l.val - 64, by omega⟩ = frq l := MixHost.frq_ge l hl _
    rw [dif_neg hl, hi_apply, hx, hx, ang_apply]
    show ((x' ⟨64 + (l.val - 64), _⟩ : ℝ) : EReal) * ((Real.cos (n.val * freq ⟨l.val - 64, _⟩) : ℝ) : EReal) + ((x' ⟨l.val - 64, _⟩ : ℝ) : EReal) * ((Real.sin (n.val * freq ⟨l.val - 64, _⟩) : ℝ) : EReal) = _
    rw [e, e', f, ← EReal.coe_mul, ← EReal.coe_mul, ← EReal.coe_add]
    unfold rot sgn
    rw [if_neg hl, one_mul]
theorem ago_apply (j : Fin 32) : ago (ix2 j n) = ((256 * j.val - 1 - n.val : ℝ) : EReal) := by
  pointwise [ago]
  rw [MixHost.count _ (by omega), MixHost.count _ (by omega), word_256]
  rfl
theorem word_neg_five : Ideal.ofBits .f32 0xC0A00000#32 = ((-5 : ℝ) : EReal) := by
  simp [Ideal.ofBits, Ideal.ieee, -EReal.coe_mul]; norm_num
theorem lgs_apply : lgs (ix1 h) = ((lg h : ℝ) : EReal) := by
  pointwise [lgs]
  rw [MixHost.count _ (by omega), word_two, word_neg_five, ← EReal.coe_sub]
  show Ideal.log (1 - ((Real.rpow 2 (-5 - (h.val : ℝ)) : ℝ) : EReal)) = _
  rw [show (1 : EReal) = ((1 : ℝ) : EReal) from rfl, ← EReal.coe_sub]
  have e : 1 - Real.rpow 2 (-5 - (h.val : ℝ)) = base h := by
    have := base_val h
    exact this
  have e' : lg h = Real.log (1 - Real.rpow 2 (-5 - (h.val : ℝ))) := rfl
  rw [e', e]
  show (if base h ≤ 0 then (⊥ : EReal) else ((Real.log (base h) : ℝ) : EReal)) = _
  rw [if_neg (not_le.mpr (base_pos h))]
theorem decay_apply (j : Fin 32) : decay lgs ago (ix3 h j n) = (((if n.val < 256 * j.val then Real.exp (lg h * (256 * j.val - 1 - n.val)) else 0) : ℝ) : EReal) := by
  have e (g : FVec Ideal S4 .f32) (a : FVec Ideal S32x8192 .f32) : decay g a (ix3 h j n) = if 0 ≤ a (ix2 j n) then Ideal.exp (g (ix1 h) * a (ix2 j n)) else 0 := by
    pointwise [decay]
    refine if_congr Iff.rfl rfl ?_
    show Ideal.ofBits .f32 0x00000000#32 = 0
    simp [Ideal.ofBits, Ideal.ieee]
  rw [e, ago_apply, lgs_apply]
  by_cases hn : n.val < 256 * j.val
  · have : (0 : ℝ) ≤ 256 * j.val - 1 - n.val := by
      have : ((n.val : ℝ)) + 1 ≤ 256 * j.val := by exact_mod_cast hn
      linarith
    rw [if_pos (by exact_mod_cast this), if_pos hn]
    rfl
  · have : ¬ (0 : ℝ) ≤ 256 * j.val - 1 - n.val := by
      have : (256 * j.val : ℝ) ≤ n.val := by exact_mod_cast not_lt.mp hn
      linarith
    rw [if_neg (by exact_mod_cast this), if_neg hn]
    rfl
theorem states_apply (d : FVec Ideal S4x32x8192 .f32) (j : Fin 32) (a b : Fin 128) :
    states d k v (ix5 0 h j a b) = ∑ s : Fin 8192, d (ix3 h j s) * k (ix4 0 s h a) * v (ix4 0 s h b) := by
  pointwise [states]
theorem flat_apply (l : Fin 512) : flat x (ix2 n l) = x (ix4 0 n ⟨l.val / 128, by omega⟩ ⟨l.val % 128, by omega⟩) := by
  pointwise [flat]
theorem scaled_apply : scaled x (ix4 0 n h l) = x (ix4 0 n h l) * Ideal.ofBits .f32 0x3DB504F3#32 := by
  pointwise [scaled]
theorem laid_apply (s : FVec Ideal S1x4x32x128x128 .f32) (j : Fin 32) (d : Fin 512) (e : Fin 128) :
    laid s (ix3 j d e) = s (ix5 0 ⟨d.val / 128, by omega⟩ j ⟨d.val % 128, by omega⟩ e) := by
  pointwise [laid]

variable (p' : Fin 8192 → Fin 3600 → ℝ) (H : ∀ n k, p (ix3 0 n k) = (p' n k : EReal))
include H
theorem rotary_q : rotary (qcols p) (ix4 0 n h l) = ((rot (fun l => p' n (col 0 h l)) n.val l : ℝ) : EReal) :=
  rotary_apply _ n h l _ fun l => (qcols_apply ..).trans (H _ _)
theorem rotary_k : rotary (kcols p) (ix4 0 n h l) = (key p' h n l : EReal) :=
  rotary_apply _ n h l _ fun l => (kcols_apply ..).trans (H _ _)
/-- The returned queries. -/
theorem q_out (l : Fin 512) : flat (scaled (rotary (qcols p))) (ix2 n l) = (qry p' ⟨l.val / 128, by omega⟩ n ⟨l.val % 128, by omega⟩ : EReal) := by
  rw [flat_apply, scaled_apply, rotary_q p n _ _ p' H, MixBlock.word_scale, ← EReal.coe_mul]
  rfl
/-- The returned keys. -/
theorem k_out (l : Fin 512) : flat (rotary (kcols p)) (ix2 n l) = (key p' ⟨l.val / 128, by omega⟩ n ⟨l.val % 128, by omega⟩ : EReal) := by
  rw [flat_apply, rotary_k p n _ _ p' H]
/-- The returned states. -/
theorem s_out (j : Fin 32) (d : Fin 512) (e : Fin 128) : laid (states (decay lgs ago) (rotary (kcols p)) (vcols p)) (ix3 j d e)
    = ((state (lg ⟨d.val / 128, by omega⟩) (fun n => key p' ⟨d.val / 128, by omega⟩ n ⟨d.val % 128, by omega⟩) (fun n => vlu p' ⟨d.val / 128, by omega⟩ n e) j.val : ℝ) : EReal) := by
  rw [laid_apply, states_apply]
  simp only [decay_apply, rotary_k p _ _ _ p' H, vcols_apply, H, ← EReal.coe_mul, sum_coe]
  rfl
end
end Cert.MixRef

end
-- ==== Proof.MixRefOps.lean ====
/-
  The reference of the mixer's two attentions, read element by element over the reals.
-/
module

public import proofs.«01_k».proof.Proof.MixRef
public import proofs.«01_k».proof.Proof.MixPoint

@[expose] public section

set_option maxRecDepth 16384

noncomputable section

namespace Cert.MixRef

open Cert.RowMath Cert.MixMath Cert.MixReferenceIdeal Cert.MixReferenceIdeal.Gen Idealize.ShloMosaic Idealize.ShloMosaic.TcCoe Idealize.SL.Sem
open Cert.MixHost (word_256)

abbrev Ints := IVec S8192 32
abbrev Gates := FVec Ideal S1x8192x256 .f32
abbrev Flat := FVec Ideal S1x8192x512 .f32

def ids : Ints := iotaInDim S8192 32 0
def sixtyfour : IVec S_ 32 := id (constantI S_ 32 64#32)
/-- The chunk of each row. -/
def chunk : Ints := select (andi (cmpi .ne (signi ids) (broadcastInDim S8192 ![] bcast_S_S8192 (signi sixtyfour))) (cmpi .ne (Host.remsi ids (broadcastInDim S8192 ![] bcast_S_S8192 sixtyfour)) (broadcastInDim S8192 ![] bcast_S_S8192 (constantI S_ 32 0#32))))
  (subi (Host.divsi ids (broadcastInDim S8192 ![] bcast_S_S8192 sixtyfour)) (broadcastInDim S8192 ![] bcast_S_S8192 (constantI S_ 32 1#32))) (Host.divsi ids (broadcastInDim S8192 ![] bcast_S_S8192 sixtyfour))
/-- Whether a row's number is not above another's. -/
def upTo (c : Ints) : IVec S8192x8192 1 := cmpi .sle (broadcastInDim S8192x8192 ![0, 1] bcast_S1x8192_S8192x8192_0_1 (broadcastInDim S1x8192 ![1] bcast_S8192_S1x8192_1 c))
  (broadcastInDim S8192x8192 ![0, 1] bcast_S8192x1_S8192x8192_0_1 (broadcastInDim S8192x1 ![0] bcast_S8192_S8192x1_0 c))
/-- The decay between two rows. -/
def weigh (g : FVec Ideal S4 .f32) (s : IVec S8192x8192 1) (a : FVec Ideal S8192 .f32) : FVec Ideal S4x8192x8192 .f32 :=
  select (broadcastInDim S4x8192x8192 ![1, 2] bcast_S8192x8192_S4x8192x8192_1_2 s)
    (Host.exp (mulf (broadcastInDim S4x8192x8192 ![0, 1, 2] bcast_S4x1x1_S4x8192x8192_0_1_2 (broadcastInDim S4x1x1 ![0] bcast_S4_S4x1x1_0 g))
      (broadcastInDim S4x8192x8192 ![0, 1, 2] bcast_S1x8192x8192_S4x8192x8192_0_1_2 (broadcastInDim S1x8192x8192 ![1, 2] bcast_S8192x8192_S1x8192x8192_1_2
        (Host.absf (subf (broadcastInDim S8192x8192 ![0, 1] bcast_S8192x1_S8192x8192_0_1 (broadcastInDim S8192x1 ![0] bcast_S8192_S8192x1_0 a))
          (broadcastInDim S8192x8192 ![0, 1] bcast_S1x8192_S8192x8192_0_1 (broadcastInDim S1x8192 ![1] bcast_S8192_S1x8192_1 a))))))))
    (broadcastInDim S4x8192x8192 ![] bcast_S_S4x8192x8192 (id (constant S_ .f32 0x00000000#32)))
/-- Retention. -/
def ret (q k v : Heads) (w : FVec Ideal S4x8192x8192 .f32) : Heads :=
  transpose S1x8192x4x128 [0, 3, 1, 2] (Host.dotGeneral dot_S1x8192x4x128_S1x4x8192x8192_S1x4x128x8192_1_3_3_2_02_01 none v
    (mulf (Host.dotGeneral dot_S1x8192x4x128_S1x8192x4x128_S1x4x8192x8192_3_3_1_1_02_02 none q k) (broadcastInDim S1x4x8192x8192 ![1, 2, 3] bcast_S4x8192x8192_S1x4x8192x8192_1_2_3 w))) transposes_S1x4x128x8192_S1x8192x4x128_0_3_1_2
/-- The gate's logits, and the log of their sigmoid. -/
def logit (p : Proj) (w : FVec Ideal S1x16x256 .f32) (b : FVec Ideal S1x256 .f32) : Gates :=
  addf (Host.dotGeneral dot_S1x8192x16_S16x256_S1x8192x256_2_0_01_1_n_n none (extractStridedSlice S1x8192x16 ![0, 0, 3584] p slices_S1x8192x3600_S1x8192x16_0_0_3584) (shapeCast _ w shapeCasts_S1x16x256_S16x256))
    (broadcastInDim S1x8192x256 ![0, 1, 2] bcast_S1x1x256_S1x8192x256_0_1_2 (broadcastInDim S1x1x256 ![2] bcast_S256_S1x1x256_2 (shapeCast _ b shapeCasts_S1x256_S256)))
def zero3 : Gates := broadcastInDim S1x8192x256 ![] bcast_S_S1x8192x256 (constant S_ .f32 0x00000000#32)
def logsig (z : Gates) : Gates := Host.divf (Host.negf (select (cmpf .une (subf (Host.negf z) zero3) (subf (Host.negf z) zero3)) (addf (Host.negf z) zero3)
    (addf (maximumf (Host.negf z) zero3) (Host.log1p (Host.exp (Host.negf (Host.absf (subf (Host.negf z) zero3)))))))) (broadcastInDim S1x8192x256 ![] bcast_S_S1x8192x256 (constant S_ .f32 0x41800000#32))
/-- Sums up to each row. -/
def cumulate (l : Gates) (s : IVec S8192x8192 1) : Half := transpose S1x8192x4x64 [0, 3, 1, 2] (Host.dotGeneral dot_S1x8192x4x64_S8192x8192_S1x4x64x8192_1_1_023_0_n_n none (shapeCast _ l shapeCasts_S1x8192x256_S1x8192x4x64)
  (select s (broadcastInDim S8192x8192 ![] bcast_S_S8192x8192 (constant S_ .f32 0x3F800000#32)) (broadcastInDim S8192x8192 ![] bcast_S_S8192x8192 (constant S_ .f32 0x00000000#32)))) transposes_S1x4x64x8192_S1x8192x4x64_0_3_1_2
def gqcols (p : Proj) : Half := mulf (shapeCast _ (extractStridedSlice S1x8192x256 ![0, 0, 2048] p slices_S1x8192x3600_S1x8192x256_0_0_2048) shapeCasts_S1x8192x256_S1x8192x4x64) (broadcastInDim S1x8192x4x64 ![] bcast_S_S1x8192x4x64 (constant S_ .f32 0x3E000000#32))
def gkcols (p : Proj) : Half := shapeCast _ (extractStridedSlice S1x8192x256 ![0, 0, 2304] p slices_S1x8192x3600_S1x8192x256_0_0_2304) shapeCasts_S1x8192x256_S1x8192x4x64
def gvcols (p : Proj) : Heads := shapeCast _ (extractStridedSlice S1x8192x512 ![0, 0, 2560] p slices_S1x8192x3600_S1x8192x512_0_0_2560) shapeCasts_S1x8192x512_S1x8192x4x128
/-- A value of each row beside every row, and beside every column. -/
def byRow (x : Half) : FVec Ideal S1x8192x8192x4x64 .f32 := broadcastInDim S1x8192x8192x4x64 ![0, 1, 2, 3, 4] bcast_S1x8192x1x4x64_S1x8192x8192x4x64_0_1_2_3_4 (broadcastInDim S1x8192x1x4x64 ![0, 1, 3, 4] bcast_S1x8192x4x64_S1x8192x1x4x64_0_1_3_4 x)
def byCol (x : Half) : FVec Ideal S1x8192x8192x4x64 .f32 := broadcastInDim S1x8192x8192x4x64 ![0, 1, 2, 3, 4] bcast_S1x1x8192x4x64_S1x8192x8192x4x64_0_1_2_3_4 (broadcastInDim S1x1x8192x4x64 ![0, 2, 3, 4] bcast_S1x8192x4x64_S1x1x8192x4x64_0_2_3_4 x)
/-- The scores of gated linear attention. -/
def scores (q k b : Half) : FVec Ideal S1x8192x8192x4 .f32 := Host.reduceAdd (mulf (mulf (byRow q) (byCol k)) (Host.exp (Host.negf (Host.absf (subf (byRow b) (byCol b)))))) (constant S_ .f32 0x00000000#32) reducesTo_S1x8192x8192x4x64_S1x8192x8192x4_d4 h_S_
def gla (v : Heads) (a : FVec Ideal S1x8192x8192x4 .f32) (s : IVec S8192x8192 1) : Heads :=
  transpose S1x8192x4x128 [0, 3, 1, 2] (Host.dotGeneral dot_S1x8192x4x128_S1x8192x8192x4_S1x4x128x8192_1_2_3_1_02_03 none v
    (select (broadcastInDim S1x8192x8192x4 ![0, 1, 2, 3] bcast_S1x8192x8192x1_S1x8192x8192x4_0_1_2_3 (broadcastInDim S1x8192x8192x1 ![1, 2] bcast_S8192x8192_S1x8192x8192x1_1_2 s)) a
      (broadcastInDim S1x8192x8192x4 ![] bcast_S_S1x8192x8192x4 (id (constant S_ .f32 0x00000000#32))))) transposes_S1x4x128x8192_S1x8192x4x128_0_3_1_2
/-- The mean over a head. -/
def meanH (x : Heads) : FVec Ideal S1x8192x4x1 .f32 := Host.divf (broadcastInDim S1x8192x4x1 ![0, 1, 2] bcast_S1x8192x4_S1x8192x4x1_0_1_2 (Host.reduceAdd x (constant S_ .f32 0x00000000#32) reducesTo_S1x8192x4x128_S1x8192x4_d3 h_S_)) (broadcastInDim S1x8192x4x1 ![] bcast_S_S1x8192x4x1 (constant S_ .f32 0x43000000#32))
def centre (x : Heads) : Heads := subf x (broadcastInDim S1x8192x4x128 ![0, 1, 2, 3] bcast_S1x8192x4x1_S1x8192x4x128_0_1_2_3 (meanH x))
def normH (x : Heads) : Heads := mulf x (broadcastInDim S1x8192x4x128 ![0, 1, 2, 3] bcast_S1x8192x4x1_S1x8192x4x128_0_1_2_3 (Host.rsqrt (addf (meanH (mulf x x)) (broadcastInDim S1x8192x4x1 ![] bcast_S_S1x8192x4x1 (constant S_ .f32 0x3727C5AC#32)))))
/-- Weighted and gated. -/
def gated (x : Heads) (w : FVec Ideal S1x512 .f32) (g : Flat) : Flat :=
  mulf (mulf (shapeCast _ x shapeCasts_S1x8192x4x128_S1x8192x512) (broadcastInDim S1x8192x512 ![0, 1, 2] bcast_S1x1x512_S1x8192x512_0_1_2 (broadcastInDim S1x1x512 ![2] bcast_S512_S1x1x512_2 (shapeCast _ w shapeCasts_S1x512_S512))))
    (mulf g (Host.divf (broadcastInDim S1x8192x512 ![] bcast_S_S1x8192x512 (constant S_ .f32 0x3F800000#32)) (addf (broadcastInDim S1x8192x512 ![] bcast_S_S1x8192x512 (constant S_ .f32 0x3F800000#32)) (Host.exp (Host.negf g)))))
def rgcols (p : Proj) : Flat := extractStridedSlice S1x8192x512 ![0, 0, 1536] p slices_S1x8192x3600_S1x8192x512_0_0_1536
def ggcols (p : Proj) : Flat := extractStridedSlice S1x8192x512 ![0, 0, 3072] p slices_S1x8192x3600_S1x8192x512_0_0_3072
def beside (x y : Flat) : FVec Ideal S8192x1024 .f32 := shapeCast _ (concatenate S1x8192x1024 2 [⟨S1x8192x512, x⟩, ⟨S1x8192x512, y⟩] concatenates_S1x8192x512_S1x8192x512_S1x8192x1024_d2) shapeCasts_S1x8192x1024_S8192x1024
def besideB (x y : Flat) : FVec Ideal S8192x1024 .bf16 := shapeCast _ (truncf .bf16 (concatenate S1x8192x1024 2 [⟨S1x8192x512, x⟩, ⟨S1x8192x512, y⟩] concatenates_S1x8192x512_S1x8192x512_S1x8192x1024_d2) bitsLt_bf16_f32) shapeCasts_S1x8192x1024_S8192x1024
def flatH (x : Heads) : Flat := shapeCast _ x shapeCasts_S1x8192x4x128_S1x8192x512
/-- The sums at the last row before each tile. -/
def ahead (b : Half) : FVec Ideal S1x64x4x64 .f32 := pad S1x64x4x64 ![0, 1, 0, 0] ![0, 0, 0, 0] ![0, 0, 0, 0] (extractStridedSlice S1x63x4x64 ![0, 0, 0, 0] (shapeCast _ (extractStridedSlice S1x64x1x4x64 ![0, 0, 127, 0, 0] (shapeCast _ b shapeCasts_S1x8192x4x64_S1x64x128x4x64) slices_S1x64x128x4x64_S1x64x1x4x64_0_0_127_0_0) shapeCasts_S1x64x1x4x64_S1x64x4x64) slices_S1x64x4x64_S1x63x4x64_0_0_0_0) (sitofp .f32 (constantI S_ 32 0#32)) pads_S1x63x4x64_S1x64x4x64_000_100_000_000 h_S_
def past : IVec S64x8192 1 := cmpi .slt (broadcastInDim S64x8192 ![0, 1] bcast_S1x8192_S64x8192_0_1 (broadcastInDim S1x8192 ![1] bcast_S8192_S1x8192_1 (iotaInDim S8192 32 0))) (broadcastInDim S64x8192 ![0, 1] bcast_S64x1_S64x8192_0_1 (muli (broadcastInDim S64x1 ![] bcast_S_S64x1 (constantI S_ 32 128#32)) (broadcastInDim S64x1 ![0] bcast_S64_S64x1_0 (iotaInDim S64 32 0))))
/-- A value of each row beside every tile. -/
def byTile (x : Half) : FVec Ideal S1x64x8192x4x64 .f32 := broadcastInDim S1x64x8192x4x64 ![0, 1, 2, 3, 4] bcast_S1x1x8192x4x64_S1x64x8192x4x64_0_1_2_3_4 (broadcastInDim S1x1x8192x4x64 ![0, 2, 3, 4] bcast_S1x8192x4x64_S1x1x8192x4x64_0_2_3_4 x)
def fade (a : FVec Ideal S1x64x4x64 .f32) (b : Half) (s : IVec S64x8192 1) : FVec Ideal S1x64x8192x4x64 .f32 :=
  select (broadcastInDim S1x64x8192x4x64 ![0, 1, 2, 3, 4] bcast_S1x64x8192x1x1_S1x64x8192x4x64_0_1_2_3_4 (broadcastInDim S1x64x8192x1x1 ![1, 2] bcast_S64x8192_S1x64x8192x1x1_1_2 s))
    (Host.exp (subf (broadcastInDim S1x64x8192x4x64 ![0, 1, 2, 3, 4] bcast_S1x64x1x4x64_S1x64x8192x4x64_0_1_2_3_4 (broadcastInDim S1x64x1x4x64 ![0, 1, 3, 4] bcast_S1x64x4x64_S1x64x1x4x64_0_1_3_4 a)) (byTile b)))
    (broadcastInDim S1x64x8192x4x64 ![] bcast_S_S1x64x8192x4x64 (id (constant S_ .f32 0x00000000#32)))
/-- The states of gated linear attention, as they are returned. -/
def glaStates (f : FVec Ideal S1x64x8192x4x64 .f32) (k : Half) (v : Heads) : FVec Ideal S64x128x256 .f32 :=
  shapeCast _ (transpose S1x64x128x4x64 [0, 3, 2, 1, 4] (Host.dotGeneral dot_S1x8192x4x128_S1x64x8192x4x64_S1x4x128x64x64_1_2_3_14_02_03 none v (mulf f (byTile k))) transposes_S1x4x128x64x64_S1x64x128x4x64_0_3_2_1_4) shapeCasts_S1x64x128x4x64_S64x128x256

variable (m : (ℓ : Loc nD τ sig) → Buf (Elt Ideal) ℓ) (c : Dev nD)
abbrev argW : FVec Ideal S1x16x256 .f32 := m ((c.tc : Thread nD τ).loc main_arg1)
abbrev argB : FVec Ideal S1x256 .f32 := m ((c.tc : Thread nD τ).loc main_arg2)
abbrev argR : FVec Ideal S1x512 .f32 := m ((c.tc : Thread nD τ).loc main_arg3)
abbrev argG : FVec Ideal S1x512 .f32 := m ((c.tc : Thread nD τ).loc main_arg4)

/-- The two attentions of the reference, and the cumulative gate. -/
def retR (p : Proj) : Heads := ret (scaled (rotary (qcols p))) (rotary (kcols p)) (vcols p) (weigh lgs (upTo chunk) (sitofp .f32 (iotaInDim S8192 32 0)))
def gate (p : Proj) (w : FVec Ideal S1x16x256 .f32) (b : FVec Ideal S1x256 .f32) : Half := cumulate (logsig (logit p w b)) (upTo ids)
def glaR (p : Proj) (w : FVec Ideal S1x16x256 .f32) (b : FVec Ideal S1x256 .f32) : Heads := gla (gvcols p) (scores (gqcols p) (gkcols p) (gate p w b)) (upTo chunk)

set_option maxHeartbeats 4000000 in
/-- The reference's run, its results by the names above. -/
theorem run (ρ : Dev nD → PrngReg) :
    θ_run defs (onTc (τ := τ) (main (F := Ideal))) ⟨m, fun _ => 0, ρ⟩ fun r => ∀ c : Dev nD,
      r.2.mem ((c.tc : Thread nD τ).loc main_v268) = besideB (gated (normH (centre (retR (argProj m c)))) (argR m c) (rgcols (argProj m c)))
        (gated (normH (glaR (argProj m c) (argW m c) (argB m c))) (argG m c) (ggcols (argProj m c)))
      ∧ r.2.mem ((c.tc : Thread nD τ).loc main_v269) = beside (flatH (retR (argProj m c))) (flatH (glaR (argProj m c) (argW m c) (argB m c)))
      ∧ r.2.mem ((c.tc : Thread nD τ).loc main_v271) = flat (scaled (rotary (qcols (argProj m c))))
      ∧ r.2.mem ((c.tc : Thread nD τ).loc main_v273) = flat (rotary (kcols (argProj m c)))
      ∧ r.2.mem ((c.tc : Thread nD τ).loc main_v276) = laid (states (decay lgs ago) (rotary (kcols (argProj m c))) (vcols (argProj m c)))
      ∧ r.2.mem ((c.tc : Thread nD τ).loc main_v277) = glaStates (fade (ahead (gate (argProj m c) (argW m c) (argB m c))) (gate (argProj m c) (argW m c) (argB m c)) past) (gkcols (argProj m c)) (gvcols (argProj m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.MixReferenceIdeal.Value.run (F := Ideal) m ρ

end Cert.MixRef

end
-- ==== Proof.MixRefRead.lean ====
/-
  The reference of the mixer's two attentions, read element by element over the reals.
-/
module

public import proofs.«01_k».proof.Proof.MixRefOps

@[expose] public section

set_option maxRecDepth 16384

noncomputable section

namespace Cert.MixRef

open Cert.RowMath Cert.MixMath Cert.MixReferenceIdeal Cert.MixReferenceIdeal.Gen Idealize.ShloMosaic Idealize.ShloMosaic.TcCoe Idealize.SL.Sem
open Cert.MixHost (word_256)

open Cert.MixBlock (ctr nrm slu wgt coe_max)
/-- Small words compare as the numbers they stand for. -/
theorem toInt_small (a : ℕ) (ha : a < 8193) : (BitVec.ofNat 32 a).toInt = (a : ℤ) := by
  have h : (BitVec.ofNat 32 a).toNat = a := by rw [BitVec.toNat_ofNat]; exact Nat.mod_eq_of_lt (by omega)
  rw [BitVec.toInt_eq_toNat_of_lt (by rw [h]; omega), h]
theorem sle_small (a b : ℕ) (ha : a < 8193) (hb : b < 8193) : IntOp.cmpi CmpIPredicate.sle (BitVec.ofNat 32 a) (BitVec.ofNat 32 b) = if a ≤ b then 1#1 else 0#1 := by
  show BitVec.ofBool (BitVec.sle _ _) = _
  rw [BitVec.sle, toInt_small a ha, toInt_small b hb]
  by_cases h : a ≤ b <;> simp [h]
theorem slt_small (a b : ℕ) (ha : a < 8193) (hb : b < 8193) : IntOp.cmpi CmpIPredicate.slt (BitVec.ofNat 32 a) (BitVec.ofNat 32 b) = if a < b then 1#1 else 0#1 := by
  show BitVec.ofBool (BitVec.slt _ _) = _
  rw [BitVec.slt, toInt_small a ha, toInt_small b hb]
  by_cases h : a < b <;> simp [h]
theorem if_bit {α : Type} (P : Prop) [Decidable P] (a b : α) : (if (if P then 1#1 else 0#1) = 1#1 then a else b) = if P then a else b := by
  by_cases h : P <;> simp [h]
theorem zero_word : (id (constant (F := Ideal) S_ .f32 0x00000000#32) ix0 : EReal) = 0 := Ideal.ofBits_zero .f32
theorem word_sixteen : Ideal.ofBits .f32 0x41800000#32 = ((16 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num

section
variable (p : Proj) (x q k v : Heads) (a b : Half) (s : IVec S8192x8192 1) (n n' : Fin 8192) (h : Fin 4) (l e : Fin 128) (d : Fin 64)

theorem chunk_bits : ∀ i : Fin 128, ∀ j : Fin 64, Scalar.select
      (IntOp.andi
        (IntOp.cmpi CmpIPredicate.ne
          (if BitVec.ofNat 32 (64 * i.val + j.val) = 0 then (0 : BitVec 32) else if (BitVec.ofNat 32 (64 * i.val + j.val)).msb = true then -1 else 1)
          (if (64#32 : BitVec 32) = 0 then (0 : BitVec 32)
          else if (64#32 : BitVec 32).msb = true then -1 else 1))
        (IntOp.cmpi CmpIPredicate.ne (IntOp.remsi ArithUnit.host (BitVec.ofNat 32 (64 * i.val + j.val)) 64#32)
          0#32))
      (IntOp.subi (IntOp.divsi ArithUnit.host (BitVec.ofNat 32 (64 * i.val + j.val)) 64#32) 1#32)
      (IntOp.divsi ArithUnit.host (BitVec.ofNat 32 (64 * i.val + j.val)) 64#32) = BitVec.ofNat 32 i.val := by
  decide +kernel
theorem chunk_apply : chunk (ix1 n) = BitVec.ofNat 32 (n.val / 64) := by
  pointwise [chunk, ids, sixtyfour]
  have := chunk_bits ⟨n.val / 64, by omega⟩ ⟨n.val % 64, by omega⟩
  rw [show 64 * (n.val / 64) + n.val % 64 = n.val by omega] at this
  exact this
theorem upTo_apply (c : Ints) (f : ℕ → ℕ) (hf : ∀ i : Fin 8192, c (ix1 i) = BitVec.ofNat 32 (f i.val)) (hb : ∀ i : Fin 8192, f i.val < 8193) :
    upTo c (ix2 n n') = if f n'.val ≤ f n.val then 1#1 else 0#1 := by
  pointwise [upTo]
  rw [hf, hf, sle_small _ _ (hb _) (hb _)]
theorem seen_apply : upTo chunk (ix2 n n') = if n'.val / 64 ≤ n.val / 64 then 1#1 else 0#1 :=
  upTo_apply n n' chunk (· / 64) (fun i => chunk_apply i) fun i => by show i.val / 64 < 8193; omega
theorem tri_apply : upTo ids (ix2 n n') = if n'.val ≤ n.val then 1#1 else 0#1 :=
  upTo_apply n n' ids id (fun i => rfl) fun i => by show i.val < 8193; omega
theorem weigh_apply (g : FVec Ideal S4 .f32) (a : FVec Ideal S8192 .f32) : weigh g s a (ix3 h n n') = if s (ix2 n n') = 1#1 then Ideal.exp (g (ix1 h) * FloatOps.absf (F := Ideal) (φ := .f32) (a (ix1 n) - a (ix1 n'))) else 0 := by
  pointwise [weigh]
  rw [zero_word]
  rfl
theorem ret_apply (w : FVec Ideal S4x8192x8192 .f32) : ret q k v w (ix4 0 n h e) = ∑ s : Fin 8192, v (ix4 0 s h e) * ((∑ d : Fin 128, q (ix4 0 n h d) * k (ix4 0 s h d)) * w (ix3 h n s)) := by
  pointwise [ret]
theorem logit_apply (w : FVec Ideal S1x16x256 .f32) (b : FVec Ideal S1x256 .f32) (c : Fin 256) :
    logit p w b (ix3 0 n c) = (∑ k : Fin 16, p (ix3 0 n (at_ 3584 k.val)) * w (ix3 0 k c)) + b (ix2 0 c) := by
  pointwise [logit]
  refine congrArg₂ (· + ·) (Finset.sum_congr rfl fun k _ => ?_) rfl
  exact congrArg (fun c' => p (ix3 0 n c') * w (ix3 0 k c)) (Fin.ext (by show 3584 + k.val = (3584 + k.val) % 3600; omega))
/-- The reference's log of a sigmoid: minus the log of one plus an exponential. -/
theorem logsig_apply (z : Gates) (c : Fin 256) (r : ℝ) (hr : z (ix3 0 n c) = (r : EReal)) : logsig z (ix3 0 n c) = ((lsg r / 16 : ℝ) : EReal) := by
  pointwise [logsig, zero3]
  rw [hr, if_neg (fun h => h rfl), word_sixteen, ← EReal.coe_neg]
  have h1 : (FloatOps.absf ((-r : ℝ) : EReal) : Ideal .f32) = ((|-r| : ℝ) : EReal) := rfl
  rw [h1, ← EReal.coe_neg]
  have h3 : Ideal.log1p (Ideal.exp ((-|-r| : ℝ) : EReal)) = ((Real.log (1 + Real.exp (-|-r|)) : ℝ) : EReal) := by
    have p := Real.exp_pos (-|-r|)
    show Ideal.log (1 + ((Real.exp (-|-r|) : ℝ) : EReal)) = _
    rw [← EReal.coe_one, ← EReal.coe_add, Ideal.log_coe, if_neg (by linarith)]
  rw [h3, ← EReal.coe_zero, ← coe_max, ← EReal.coe_add, ← EReal.coe_neg, Ideal.div_coe (by norm_num), ← EReal.coe_mul]
  unfold lsg
  rw [abs_neg]
  have : max (-r) 0 = - min r 0 := by rw [← neg_zero, max_neg_neg, neg_zero]
  rw [this]
  congr 1
  ring
theorem cumulate_apply (z : Gates) : cumulate z s (ix4 0 n h d) = ∑ t : Fin 8192, if s (ix2 n t) = 1#1 then z (ix3 0 t (kc h d)) else 0 := by
  pointwise [cumulate]
  exact Finset.sum_congr rfl fun t _ => congrArg (fun c => if s (ix2 n t) = 1#1 then z (ix3 0 t c) else 0) (Fin.ext (by show h.val * 64 + d.val = 64 * h.val + d.val; omega))
theorem gq_apply : gqcols p (ix4 0 n h d) = p (ix3 0 n (at_ 2048 (kc h d).val)) * Ideal.ofBits FTy.f32 0x3E000000#32 := by
  pointwise [gqcols]
  exact congrArg (fun c => p (ix3 0 n c) * Ideal.ofBits FTy.f32 0x3E000000#32) (Fin.ext (by show 2048 + (h.val * 64 + d.val) = (2048 + (64 * h.val + d.val)) % 3600; omega))
theorem gk_apply : gkcols p (ix4 0 n h d) = p (ix3 0 n (at_ 2304 (kc h d).val)) := by
  pointwise [gkcols]
  exact congrArg (fun c => p (ix3 0 n c)) (Fin.ext (by show 2304 + (h.val * 64 + d.val) = (2304 + (64 * h.val + d.val)) % 3600; omega))
theorem gv_apply : gvcols p (ix4 0 n h l) = p (ix3 0 n (col 2560 h l)) := by
  pointwise [gvcols]
  exact congrArg (fun a => p (ix3 0 n a)) (Fin.ext (by show 2560 + (h.val * 128 + l.val) = (2560 + 128 * h.val + l.val) % 3600; omega))
theorem scores_apply (a' : Half) : scores a b a' (ix4 0 n n' h) = ∑ d : Fin 64, a (ix4 0 n h d) * b (ix4 0 n' h d) * Ideal.exp (-(FloatOps.absf (F := Ideal) (φ := .f32) (a' (ix4 0 n h d) - a' (ix4 0 n' h d)))) := by
  pointwise [scores, byRow, byCol]
theorem gla_apply (a : FVec Ideal S1x8192x8192x4 .f32) : gla v a s (ix4 0 n h e) = ∑ t : Fin 8192, v (ix4 0 t h e) * (if s (ix2 n t) = 1#1 then a (ix4 0 n t h) else 0) := by
  pointwise [gla]
  rw [zero_word]
  rfl
theorem centre_apply : centre x (ix4 0 n h e) = ctr (fun l => x (ix4 0 n h l)) e := by
  pointwise [centre, meanH]
  rfl
theorem normH_apply : normH x (ix4 0 n h e) = nrm (fun l => x (ix4 0 n h l)) e := by
  pointwise [normH, meanH]
  rfl
theorem gated_apply (w : FVec Ideal S1x512 .f32) (g : Flat) : gated x w g (ix3 0 n ⟨128 * h.val + l.val, by omega⟩) = x (ix4 0 n h l) * wgt w h l * slu (g (ix3 0 n ⟨128 * h.val + l.val, by omega⟩)) := by
  pointwise [gated]
  unfold slu
  rw [zero_sub]
theorem rg_apply : rgcols p (ix3 0 n ⟨128 * h.val + l.val, by omega⟩) = p (ix3 0 n (col 1536 h l)) := by
  pointwise [rgcols]
  exact congrArg (fun a => p (ix3 0 n a)) (Fin.ext (by show 1536 + (128 * h.val + l.val) = (1536 + 128 * h.val + l.val) % 3600; omega))
theorem gg_apply : ggcols p (ix3 0 n ⟨128 * h.val + l.val, by omega⟩) = p (ix3 0 n (col 3072 h l)) := by
  pointwise [ggcols]
  exact congrArg (fun a => p (ix3 0 n a)) (Fin.ext (by show 3072 + (128 * h.val + l.val) = (3072 + 128 * h.val + l.val) % 3600; omega))
theorem flatH_apply : flatH x (ix3 0 n ⟨128 * h.val + l.val, by omega⟩) = x (ix4 0 n h l) := by
  pointwise [flatH]
theorem beside_apply (y z : Flat) (j : Fin 1024) : beside y z (ix2 n j) = if hj : j.val < 512 then y (ix3 0 n ⟨j.val, hj⟩) else z (ix3 0 n ⟨j.val - 512, by omega⟩) := by
  pointwise [beside]
theorem besideB_apply (y z : Flat) (j : Fin 1024) : besideB y z (ix2 n j) = if hj : j.val < 512 then y (ix3 0 n ⟨j.val, hj⟩) else z (ix3 0 n ⟨j.val - 512, by omega⟩) := by
  pointwise [besideB]
theorem ahead_apply (j : Fin 64) : ahead a (ix4 0 j h d) = if hj : j.val = 0 then 0 else a (ix4 0 ⟨128 * j.val - 1, by omega⟩ h d) := by
  pointwise [ahead]
  by_cases hj : j.val = 0
  · rw [dif_neg (by omega), dif_pos hj]
    show (((0#32 : BitVec 32).toInt : ℝ) : EReal) = 0
    norm_num
  · rw [dif_pos (by omega), dif_neg hj]
    exact congrArg (fun r => a (ix4 0 r h d)) (Fin.ext (by show (j.val - 1) * 128 + 127 = 128 * j.val - 1; omega))
theorem past_apply (j : Fin 64) : past (ix2 j n) = if n.val < 128 * j.val then 1#1 else 0#1 := by
  pointwise [past]
  have e : IntOp.muli (128#32) (BitVec.ofNat 32 j.val) = BitVec.ofNat 32 (128 * j.val) := by
    revert j
    decide +kernel
  rw [e, slt_small _ _ (by omega) (by omega)]
theorem fade_apply (g : FVec Ideal S1x64x4x64 .f32) (s : IVec S64x8192 1) (j : Fin 64) : fade g a s (ix5 0 j n h d) = if s (ix2 j n) = 1#1 then Ideal.exp (g (ix4 0 j h d) - a (ix4 0 n h d)) else 0 := by
  pointwise [fade, byTile]
  rw [zero_word]
  rfl
theorem glaStates_apply (f : FVec Ideal S1x64x8192x4x64 .f32) (j : Fin 64) (c : Fin 256) : glaStates f a v (ix3 j e c)
    = ∑ s : Fin 8192, v (ix4 0 s ⟨c.val / 64, by omega⟩ e) * (f (ix5 0 j s ⟨c.val / 64, by omega⟩ ⟨c.val % 64, by omega⟩) * a (ix4 0 s ⟨c.val / 64, by omega⟩ ⟨c.val % 64, by omega⟩)) := by
  pointwise [glaStates, byTile]
end

section
variable (p : Proj) (w : FVec Ideal S1x16x256 .f32) (b : FVec Ideal S1x256 .f32) (n : Fin 8192) (h : Fin 4) (l e : Fin 128) (d : Fin 64)
  {p' : Fin 8192 → Fin 3600 → ℝ} (H : ∀ n k, p (ix3 0 n k) = (p' n k : EReal)) {gw : Fin 16 → Fin 256 → ℝ} (HW : ∀ k c, w (ix3 0 k c) = (gw k c : EReal))
  {gb : Fin 256 → ℝ} (HB : ∀ c, b (ix2 0 c) = (gb c : EReal))
include H
/-- Retention of a row. -/
theorem retR_apply : retR p (ix4 0 n h e) = ((rto p' h n e : ℝ) : EReal) := by
  have eq (d) : scaled (rotary (qcols p)) (ix4 0 n h d) = (qry p' h n d : EReal) := by
    rw [scaled_apply, rotary_q p n _ _ p' H, MixBlock.word_scale, ← EReal.coe_mul]
    rfl
  have ew (s : Fin 8192) : weigh lgs (upTo chunk) (sitofp .f32 (iotaInDim S8192 32 0)) (ix3 h n s) = ((wt (lg h) n.val s.val : ℝ) : EReal) := by
    rw [weigh_apply, seen_apply, if_bit, lgs_apply]
    have c (i : Fin 8192) : sitofp (F := Ideal) .f32 (iotaInDim S8192 32 0) (ix1 i) = ((i.val : ℝ) : EReal) := MixHost.count i.val (lt_trans i.isLt (by norm_num))
    rw [c, c, ← EReal.coe_sub]
    unfold wt
    by_cases hs : s.val / 64 ≤ n.val / 64
    · rw [if_pos hs, if_pos hs]
      show Ideal.exp (((lg h : ℝ) : EReal) * ((|(n.val : ℝ) - s.val| : ℝ) : EReal)) = _
      rw [← EReal.coe_mul]
      rfl
    · rw [if_neg hs, if_neg hs]
      rfl
  unfold retR
  rw [ret_apply]
  simp only [eq, rotary_k p _ _ _ p' H, vcols_apply, H, ew, ← EReal.coe_mul, sum_coe]
  unfold rto retO
  refine congrArg (fun x : ℝ => (x : EReal)) (Finset.sum_congr rfl fun s _ => ?_)
  exact mul_comm _ _
include HW HB
theorem gate_apply : gate p w b (ix4 0 n h d) = ((upto (fun s => la p' gw gb s (kc h d)) (n.val + 1) : ℝ) : EReal) := by
  have e (s : Fin 8192) : logsig (logit p w b) (ix3 0 s (kc h d)) = ((la p' gw gb s (kc h d) : ℝ) : EReal) := by
    refine logsig_apply s _ _ _ ?_
    rw [logit_apply]
    simp only [H, HW, HB, ← EReal.coe_mul, sum_coe, ← EReal.coe_add]
    rfl
  unfold gate upto
  rw [cumulate_apply, ← sum_coe]
  refine Finset.sum_congr rfl fun s _ => ?_
  rw [tri_apply, if_bit, e]
  by_cases hs : s.val ≤ n.val
  · rw [if_pos hs, if_pos (by omega)]
  · rw [if_neg hs, if_neg (by omega)]
    rfl
/-- Gated linear attention of a row. -/
theorem glaR_apply : glaR p w b (ix4 0 n h e) = ((glo p' gw gb h n e : ℝ) : EReal) := by
  have es (s : Fin 8192) : scores (gqcols p) (gkcols p) (gate p w b) (ix4 0 n s h) = ((∑ d, gqr p' n (kc h d) * gke p' s (kc h d)
      * Real.exp (-|upto (fun s => la p' gw gb s (kc h d)) (n.val + 1) - upto (fun s => la p' gw gb s (kc h d)) (s.val + 1)|) : ℝ) : EReal) := by
    rw [scores_apply, ← sum_coe]
    refine Finset.sum_congr rfl fun d _ => ?_
    rw [gq_apply, gk_apply, gate_apply p w b n h d H HW HB, gate_apply p w b s h d H HW HB, H, H, word_eighth, ← EReal.coe_sub, ← EReal.coe_mul, ← EReal.coe_mul]
    show (_ : EReal) * ((Real.exp (-|_|) : ℝ) : EReal) = _
    rw [← EReal.coe_mul]
    unfold gqr gke
    congr 2
    ring
  unfold glaR
  rw [gla_apply, glo, glaO, ← sum_coe]
  refine Finset.sum_congr rfl fun s _ => ?_
  rw [gv_apply, H, es, seen_apply, if_bit]
  by_cases hs : s.val / 64 ≤ n.val / 64
  · rw [if_pos hs, if_pos hs, ← EReal.coe_mul, mul_comm]
    rfl
  · rw [if_neg hs, if_neg hs, mul_zero, zero_mul]
    rfl
/-- The states of gated linear attention. -/
theorem gst_out (j : Fin 64) (c : Fin 256) : glaStates (fade (ahead (gate p w b)) (gate p w b) past) (gkcols p) (gvcols p) (ix3 j e c) = ((gls p' gw gb c e j.val : ℝ) : EReal) := by
  have hc : kc ⟨c.val / 64, by omega⟩ ⟨c.val % 64, by omega⟩ = c := Fin.ext (by show 64 * (c.val / 64) + c.val % 64 = c.val; omega)
  rw [glaStates_apply, gls, glaS, ← sum_coe]
  refine Finset.sum_congr rfl fun s _ => ?_
  rw [gv_apply, gk_apply, fade_apply, past_apply, if_bit, gate_apply p w b s _ _ H HW HB, ahead_apply, hc, H, H]
  by_cases hs : s.val < 128 * j.val
  · rw [if_pos hs, if_pos hs, dif_neg (by omega), gate_apply p w b _ _ _ H HW HB, hc, ← EReal.coe_sub]
    have e : (128 * j.val - 1) + 1 = 128 * j.val := by omega
    show ((p' s _ : ℝ) : EReal) * (((Real.exp (upto _ (128 * j.val - 1 + 1) - _) : ℝ) : EReal) * _) = _
    rw [e, ← EReal.coe_mul, ← EReal.coe_mul]
    unfold gke gvl
    congr 1
    ring
  · rw [if_neg hs, if_neg hs, zero_mul, mul_zero, zero_mul, zero_mul]
    rfl
omit HW HB

/-- The left half of the mixed rows. -/
theorem mix_left (rw' : FVec Ideal S1x512 .f32) : gated (normH (centre (retR p))) rw' (rgcols p) (ix3 0 n ⟨128 * h.val + l.val, by omega⟩) = MixBlock.mixL p' rw' h n l := by
  rw [gated_apply, normH_apply, rg_apply, H]
  simp only [centre_apply, retR_apply p n h _ H]
  rfl
include HW HB
/-- The right half. -/
theorem mix_right (gw' : FVec Ideal S1x512 .f32) : gated (normH (glaR p w b)) gw' (ggcols p) (ix3 0 n ⟨128 * h.val + l.val, by omega⟩) = MixBlock.mixR p' gw gb gw' h n l := by
  rw [gated_apply, normH_apply, gg_apply, H]
  simp only [glaR_apply p w b n h _ H HW HB]
  rfl
end
end Cert.MixRef

end
-- ==== Proof.ClaimMix.lean ====
/-
  Over the reals the kernel of the mixer and its reference give the same results.
-/
module

public import proofs.«01_k».proof.Defs
public import proofs.«01_k».proof.Proof.MixFinal
public import proofs.«01_k».proof.Proof.MixRefRead
public import proofs.«01_k».proof.Proof.Finite

@[expose] public section

set_option maxRecDepth 16384

noncomputable section

namespace Cert.ClaimMix

open Idealize.ShloMosaic Idealize.SL.Sem Cert.Finite

instance facts : Cert.Pre_bounded_mix.Facts := by constructor <;> decide

theorem frame_reference : Cert.quiescent_MixReferenceIdeal := fun m ρ _ =>
  (θ_run Cert.MixReferenceIdeal.defs _ _).mono
    (fun r h => ⟨fun c => (h c).2.2.2.2.2.2, sem_eq_zero_of_no_sems (by decide) r.2⟩) (Cert.MixRef.run m ρ)

theorem word_bound : Ideal.ofBits .f32 0xC1980000#32 = ((-19 : ℝ) : EReal) := by
  simp [Ideal.ofBits, Ideal.ieee, -EReal.coe_mul, -EReal.coe_neg]; norm_num

/-- What the precondition says of a gate's logit. -/
theorem bound (x : MixRef.Proj) (w : FVec Ideal Cert.MixReferenceIdeal.S1x16x256 .f32) (b : FVec Ideal Cert.MixReferenceIdeal.S1x256 .f32) (u v) (n : Fin 8192) (l : Fin 256)
    (h : (Cert.Pre_bounded_mix.fn (F := Ideal) x w b u v).2.2.2 (ix3 0 n l) = 1#1) : ((-19 : ℝ) : EReal) ≤ MixRef.logit x w b (ix3 0 n l) := by
  have e : (Cert.Pre_bounded_mix.fn (F := Ideal) x w b u v).2.2.2 (ix3 0 n l) = Ideal.cmp .oge (MixRef.logit x w b (ix3 0 n l)) (Ideal.ofBits .f32 0xC1980000#32) := rfl
  rw [e, word_bound] at h
  by_contra hn
  have e2 : Ideal.cmp .oge (MixRef.logit x w b (ix3 0 n l)) ((-19 : ℝ) : EReal) = 0#1 := by
    show BitVec.ofBool (decide (((-19 : ℝ) : EReal) ≤ MixRef.logit x w b (ix3 0 n l))) = _
    rw [decide_eq_false hn]
    rfl
  rw [e2] at h
  exact absurd h (by decide)

/-- The real numbers behind a device's arguments, under the precondition, and the bound on its logits. -/
theorem reals (m : (ℓ : Loc Cert.MixKernelIdeal.nD Cert.MixKernelIdeal.τ Cert.MixKernelIdeal.sig) → Buf (Elt Ideal) ℓ)
    (h : Cert.Pre_MixKernelIdeal_bounded_mix m) (c : Dev Cert.MixKernelIdeal.nD) :
    ∃ p gw gb, Cert.MixBlock.Of m c p ∧ Cert.MixBlock.OfW m c gw ∧ Cert.MixBlock.OfB m c gb ∧ ∀ n l, -19 ≤ Cert.MixMath.zg p gw gb n l := by
  obtain ⟨h0, h1, h2, h3⟩ := h c
  refine ⟨fun n l => (Cert.MixHost.argProj m c (ix3 0 n l)).toReal, fun k l => (Cert.MixHost.argW m c (ix3 0 k l)).toReal, fun l => (Cert.MixBlock.argB m c (ix2 0 l)).toReal,
    fun n l => coe_of_finite _ (congrFun h0 (ix3 0 n l)), fun k l => coe_of_finite _ (congrFun h1 (ix3 0 k l)), fun l => coe_of_finite _ (congrFun h2 (ix2 0 l)), fun n l => ?_⟩
  have e := bound (Cert.MixHost.argProj m c) (Cert.MixHost.argW m c) (Cert.MixBlock.argB m c) _ _ n l (congrFun h3 (ix3 0 n l))
  have fp (n k) := coe_of_finite (Cert.MixHost.argProj m c (ix3 0 n k)) (congrFun h0 (ix3 0 n k))
  have fw (k l) := coe_of_finite (Cert.MixHost.argW m c (ix3 0 k l)) (congrFun h1 (ix3 0 k l))
  have fb (l) := coe_of_finite (Cert.MixBlock.argB m c (ix2 0 l)) (congrFun h2 (ix2 0 l))
  rw [MixRef.logit_apply, fb] at e
  have es : (∑ k : Fin 16, Cert.MixHost.argProj m c (ix3 0 n (Cert.MixMath.at_ 3584 k.val)) * Cert.MixHost.argW m c (ix3 0 k l))
      = ((∑ k : Fin 16, (Cert.MixHost.argProj m c (ix3 0 n (Cert.MixMath.at_ 3584 k.val))).toReal * (Cert.MixHost.argW m c (ix3 0 k l)).toReal : ℝ) : EReal) := by
    rw [← Cert.RowMath.sum_coe]
    exact Finset.sum_congr rfl fun k _ => (congrArg₂ (· * ·) (fp n _) (fw k l)).trans (EReal.coe_mul _ _).symm
  rw [es, ← EReal.coe_add] at e
  exact EReal.coe_le_coe_iff.mp e

/-- The float constants standing for the four tile decays are their roundings. -/
theorem preserves : Cert.preserves_MixKernel_MixKernelIdeal :=
  ⟨IdealRules.named_const.statement _ _ _ _ _ rfl, IdealRules.named_const.statement _ _ _ _ _ rfl,
    IdealRules.named_const.statement _ _ _ _ _ rfl, IdealRules.named_const.statement _ _ _ _ _ rfl⟩

set_option maxHeartbeats 4000000 in  -- several results, each under the same argument equalities
theorem algebraic : Cert.algebraic_MixKernelIdeal_MixReferenceIdeal_pre_bounded_mix := by
  intro m ρ m' ρ' hpre hagree
  refine ⟨_, _, _, _, _, _, Cert.MixBlock.run_blocks m ρ, ?_⟩
  refine (θ_run Cert.MixReferenceIdeal.defs _ _).mono (fun r h c => ?_) (Cert.MixRef.run m' ρ')
  obtain ⟨h0, h1, h2, h3, h4, h5, hargs⟩ := h c
  obtain ⟨p, gw, gb, hp, hw, hb, hz⟩ := reals m hpre c
  obtain ⟨a0, a1, a2, a3, a4⟩ := hagree c
  have hr : ∀ n k, Cert.MixRef.argProj m' c (ix3 0 n k) = (p n k : EReal) := fun n k => (congrFun a0 (ix3 0 n k)).trans (hp n k)
  have hw' : ∀ k l, Cert.MixRef.argW m' c (ix3 0 k l) = (gw k l : EReal) := fun k l => (congrFun a1 (ix3 0 k l)).trans (hw k l)
  have hb' : ∀ l, Cert.MixRef.argB m' c (ix2 0 l) = (gb l : EReal) := fun l => (congrFun a2 (ix2 0 l)).trans (hb l)
  have er : Cert.MixRef.argR m' c = Cert.MixBlock.argR m c := a3
  have eg : Cert.MixRef.argG m' c = Cert.MixBlock.argG m c := a4
  refine ⟨h0.trans ?_, h1.trans ?_, h2.trans ?_, h3.trans ?_, h4.trans ?_, h5.trans ?_, hargs⟩
  all_goals
    funext j
    revert j
  · show ∀ j : Cert.MixKernelIdeal.S8192x1024.Idx, _
    intro j
    idx_vars j
    refine (Cert.MixRef.besideB_apply j0 _ _ j1).trans ?_
    rcases Cert.MixBlock.halves m c hp j1 with ⟨h, l, rfl⟩ | ⟨h, l, rfl⟩
    · rw [dif_pos (show 128 * h.val + l.val < 512 by omega), Cert.MixRef.mix_left _ j0 h l hr, er]
      exact (Cert.MixBlock.final_mix_L m c hp hw hb j0 h l).symm
    · rw [dif_neg (show ¬ 512 + 128 * h.val + l.val < 512 by omega)]
      refine Eq.trans ?_ (Cert.MixBlock.final_mix_R m c hp hw hb hz j0 h l).symm
      refine Eq.trans ?_ ((Cert.MixRef.mix_right _ _ _ j0 h l hr hw' hb' (Cert.MixRef.argG m' c)).trans (congrArg (fun w => Cert.MixBlock.mixR p gw gb w h j0 l) eg))
      exact congrArg (fun l => Cert.MixRef.gated _ _ _ (ix3 0 j0 l)) (Fin.ext (by show 512 + 128 * h.val + l.val - 512 = 128 * h.val + l.val; omega))
  · show ∀ j : Cert.MixKernelIdeal.S8192x1024.Idx, _
    intro j
    idx_vars j
    refine (Cert.MixRef.beside_apply j0 _ _ j1).trans ?_
    rcases Cert.MixBlock.halves m c hp j1 with ⟨h, l, rfl⟩ | ⟨h, l, rfl⟩
    · rw [dif_pos (show 128 * h.val + l.val < 512 by omega), Cert.MixRef.flatH_apply, Cert.MixRef.retR_apply _ j0 h l hr]
      exact (Cert.MixBlock.final_oraw_L m c hp hw hb j0 h l).symm
    · rw [dif_neg (show ¬ 512 + 128 * h.val + l.val < 512 by omega)]
      refine Eq.trans ?_ (Cert.MixBlock.final_oraw_R m c hp hw hb hz j0 h l).symm
      refine Eq.trans ?_ ((Cert.MixRef.flatH_apply _ j0 h l).trans (Cert.MixRef.glaR_apply _ _ _ j0 h l hr hw' hb'))
      exact congrArg (fun l => Cert.MixRef.flatH _ (ix3 0 j0 l)) (Fin.ext (by show 512 + 128 * h.val + l.val - 512 = 128 * h.val + l.val; omega))
  · show ∀ j : Cert.MixKernelIdeal.S8192x512.Idx, _
    intro j
    idx_vars j
    exact (Cert.MixRef.q_out (Cert.MixRef.argProj m' c) j0 p hr j1).trans (Cert.MixBlock.final_qrb m c hp j0 j1).symm
  · show ∀ j : Cert.MixKernelIdeal.S8192x512.Idx, _
    intro j
    idx_vars j
    exact (Cert.MixRef.k_out (Cert.MixRef.argProj m' c) j0 p hr j1).trans (Cert.MixBlock.final_krb m c hp j0 j1).symm
  · show ∀ j : Cert.MixKernelIdeal.S32x512x128.Idx, _
    intro j
    idx_vars j
    exact (Cert.MixRef.s_out (Cert.MixRef.argProj m' c) p hr j0 j1 j2).trans (Cert.MixBlock.final_rst m c hp j0 j1 j2).symm
  · show ∀ j : Cert.MixKernelIdeal.S64x128x256.Idx, _
    intro j
    idx_vars j
    exact (Cert.MixRef.gst_out _ _ _ j1 hr hw' hb' j0 j2).trans (Cert.MixBlock.final_sst m c hp hw hb j0 j1 j2).symm

end Cert.ClaimMix

end
-- ==== Proof.FwdBlock.lean ====
/-
  The forward input projection: what each grid point leaves, and the two result arrays after the run.
-/
module

public import proofs.«01_k».proof.Proof.Gen.FwdKernelIdeal.Value
public import proofs.«01_k».proof.Proof.InBlock
public import Idealize.ShloMosaic.Lib.Tactic
public import Idealize.ShloMosaic.Lib.KernelVsHost

@[expose] public section

set_option maxRecDepth 16384

noncomputable section

namespace Cert.FwdBlock

open Cert.FwdKernelIdeal Cert.FwdKernelIdeal.Gen Idealize.ShloMosaic Idealize.ShloMosaic.TcCoe Idealize.SL.Sem
open Cert.InBlock (hz padded padded_read padded_load)

/-! ## One row, over the extended reals -/

def mean (f : Fin 1024 → EReal) : EReal := Ideal.div (∑ k, f k) (Ideal.ofBits .f32 0x44800000#32)
def dev (f : Fin 1024 → EReal) (k : Fin 1024) : EReal := f k - mean f
/-- A row less its mean, over its standard deviation. -/
def norm (f : Fin 1024 → EReal) (k : Fin 1024) : EReal :=
  dev f k * Ideal.rsqrt (mean (fun k => dev f k * dev f k) + Ideal.ofBits .f32 0x3727C5AC#32)

theorem pay2_apply (x : FVec Ideal S512x1024 .f32) (s b : FVec Ideal S1x1024 .f32) (r : Fin 512) (l : Fin 1024) :
    k0_pay2 (F := Ideal) x s b (ix2 r l) = norm (fun k => x (ix2 r k)) l * s (ix2 0 l) + b (ix2 0 l) := by
  pointwise [k0_pay2]
  rfl

theorem pay3_apply (x : FVec Ideal S512x1024 .f32) (s b : FVec Ideal S1x1024 .f32) (w : FVec Ideal S3712x1024 .bf16) (r : Fin 512) (k : Fin 3712) :
    k0_pay3 (F := Ideal) x s b w (ix2 r k) = ∑ l : Fin 1024, k0_pay2 (F := Ideal) x s b (ix2 r l) * w (ix2 k l) := by
  pointwise [k0_pay3]

/-! ## A grid point -/

section
variable {F : FTy → Type} [FloatOps F]
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S1x1024 .f32) (h3 : a3.IsWhole)
  (a6 : Memref sig .tc .vmem S512x3712 .f32) (h6 : a6.IsWhole) (a7 : Memref sig .tc .vmem S512x1024 .bf16) (h7 : a7.IsWhole)
  (a8 : Memref sig .tc .vmem S3712x1024 .bf16) (h8 : a8.IsWhole)
  (x0 : Vec F S512x1024 .f32) (x1 x2 : Vec F S1x1024 .f32) (xs : Vec F S3712x1024 .bf16) (f0 : HbBuf0 (F := F) c hbM0_0) (f1 : HbBuf0 (F := F) c hbM0_1)

/-- The weights as the kernel's copy reads them. -/
abbrev wts (f0 : HbBuf0 (F := F) c hbM0_0) : Vec F S3600x1024 .bf16 := ReadAs.same.apply (View.read (Elt F) (View.whole main_v2) f0)

theorem scr_A (hc0 : cond0_0 i) (hc1 : cond0_1 i) :
    sout0_A_0 c i a1 h1 a2 h2 a3 h3 a6 h6 a7 h7 a8 h8 hc0 hc1 x0 x1 x2 f0 f1 = padded (wts c f0) := by
  unfold sout0_A_0 kernelRun0_A
  dsimp only
  sl_unfold_words
  exact padded_read ..
theorem u_A (hc0 : cond0_0 i) (hc1 : cond0_1 i) :
    out0_A_4 c i a1 h1 a2 h2 a3 h3 a6 h6 a7 h7 a8 h8 hc0 hc1 x0 x1 x2 f0 f1 = k0_pay2 x0 x1 x2 := by
  unfold out0_A_4 kernelRun0_A
  dsimp only
  sl_unfold_words
  refine (View.read_writes_full ..).trans ?_
  simp only [View.readAt_eq_ld, Memref.IsWhole.read_unread, View.ld_unit_zero (S := S512x1024) hz, View.ld_unit_zero (S := S1x1024) hz]
theorem proj_A (hc0 : cond0_0 i) (hc1 : cond0_1 i) :
    out0_A_3 c i a1 h1 a2 h2 a3 h3 a6 h6 a7 h7 a8 h8 hc0 hc1 x0 x1 x2 f0 f1 = k0_pay3 x0 x1 x2 (padded (wts c f0)) := by
  unfold out0_A_3 kernelRun0_A
  dsimp only
  sl_unfold_words
  refine (View.read_writes_full ..).trans ?_
  simp only [View.readAt_eq_ld, Memref.IsWhole.read_unread, View.ld_unit_zero (S := S512x1024) hz, View.ld_unit_zero (S := S1x1024) hz]
  exact congrArg _ (padded_load ..)
theorem u_B (hc0 : ¬cond0_0 i) (hc1 : ¬cond0_1 i) :
    out0_B_4 c i a1 h1 a2 h2 a3 h3 a6 h6 a7 h7 a8 h8 hc0 hc1 x0 x1 x2 xs f0 f1 = k0_pay2 x0 x1 x2 := by
  unfold out0_B_4 kernelRun0_B
  dsimp only
  sl_unfold_words
  refine (View.read_writes_full ..).trans ?_
  simp only [View.readAt_eq_ld, Memref.IsWhole.read_unread, View.ld_unit_zero (S := S512x1024) hz, View.ld_unit_zero (S := S1x1024) hz]
theorem proj_B (hc0 : ¬cond0_0 i) (hc1 : ¬cond0_1 i) :
    out0_B_3 c i a1 h1 a2 h2 a3 h3 a6 h6 a7 h7 a8 h8 hc0 hc1 x0 x1 x2 xs f0 f1 = k0_pay3 x0 x1 x2 xs := by
  unfold out0_B_3 kernelRun0_B
  dsimp only
  sl_unfold_words
  refine (View.read_writes_full ..).trans ?_
  simp only [View.readAt_eq_ld, Memref.IsWhole.read_unread, View.ld_unit_zero (S := S512x1024) hz, View.ld_unit_zero (S := S1x1024) hz,
    View.ld_unit_zero (S := S3712x1024) hz]
end

variable (m : (ℓ : Loc nD τ sig) → Buf (Elt Ideal) ℓ) (c : Dev nD)

abbrev argX : FVec Ideal S1x8192x1024 .f32 := m ((c : Thread nD τ).loc main_arg0)
abbrev argS : FVec Ideal S1x1024 .f32 := m ((c : Thread nD τ).loc main_arg1)
abbrev argB : FVec Ideal S1x1024 .f32 := m ((c : Thread nD τ).loc main_arg2)
abbrev argW : FVec Ideal S1x1024x3600 .f32 := m ((c : Thread nD τ).loc main_arg3)

/-- The padded weights. -/
abbrev wPad : FVec Ideal S3712x1024 .bf16 := padded (F := Ideal) (wts (F := Ideal) c (V m c main_v2))

/-- After every point the scratch buffer holds the padded weights. -/
theorem scr (n : ℕ) (hn : n < cfg0.N) : (outsAt0 m c n hn).2.2 = wPad m c := by
  have hN := lt_of_lt_of_eq hn (show cfg0.N = 16 from N_0)
  have first : ∀ t : Fin cfg0.N, t.val % 16 = 0 → (outsAt0 m c t.val t.isLt).2.2 = wPad m c := fun t h0 => by
    rw [outsAt0_A m c t h0 h0]
    dsimp only
    exact scr_A (F := Ideal) ..
  have later : ∀ t : Fin cfg0.N, ¬t.val % 16 = 0 → (outsAt0 m c t.val t.isLt).2.2
      = (outsAt0 m c (t.val - 1) (Nat.lt_of_le_of_lt (Nat.sub_le _ _) t.isLt)).2.2 := fun t h0 => by
    rw [outsAt0_B m c t h0 h0]
    dsimp only
    rfl
  induction n with
  | zero => exact first ⟨0, hn⟩ rfl
  | succ n ih => exact (later ⟨n + 1, hn⟩ (show ¬ (n + 1) % 16 = 0 by omega)).trans (ih (by omega) (by omega))

variable (t : Fin cfg0.N)
abbrev bX : FVec Ideal S512x1024 .f32 := iblk m c 0 t
abbrev bS : FVec Ideal S1x1024 .f32 := iblk m c 1 t
abbrev bB : FVec Ideal S1x1024 .f32 := iblk m c 2 t

theorem u_all : (outsAt0 m c t.val t.isLt).2.1 = k0_pay2 (F := Ideal) (bX m c t) (bS m c t) (bB m c t) := by
  by_cases h0 : t.val % 16 = 0
  · rw [outsAt0_A m c t h0 h0]
    dsimp only
    exact u_A (F := Ideal) ..
  · rw [outsAt0_B m c t h0 h0]
    dsimp only
    exact u_B (F := Ideal) ..
theorem proj_all : (outsAt0 m c t.val t.isLt).1 = k0_pay3 (F := Ideal) (bX m c t) (bS m c t) (bB m c t) (wPad m c) := by
  by_cases h0 : t.val % 16 = 0
  · rw [outsAt0_A m c t h0 h0]
    dsimp only
    exact proj_A (F := Ideal) ..
  · rw [outsAt0_B m c t h0 h0, ← scr m c (t.val - 1) (Nat.lt_of_le_of_lt (Nat.sub_le _ _) t.isLt)]
    dsimp only
    exact proj_B (F := Ideal) ..

/-! ## The arrays the kernel is called with -/

theorem host_w (k : Fin 3600) (l : Fin 1024) : (V m c main_v2 : FVec Ideal S3600x1024 .bf16) (ix2 k l) = argW m c (ix3 0 l k) := by
  have e : @Eq (FVec Ideal S3600x1024 .bf16) (V m c main_v2) (truncf (F := Ideal) .bf16 (transpose S3600x1024 [1, 0]
      (shapeCast S1024x3600 (argW m c) shapeCasts_S1x1024x3600_S1024x3600)
      transposes_S1024x3600_S3600x1024_1_0) bitsLt_bf16_f32) := by
    show StableHlo.after _ _ _ = _
    simp only [hostOps0, StableHlo.after_cons, StableHlo.after_nil]
    after_results_simp
    rfl
  rw [e]
  pointwise
theorem host_x (n : Fin 8192) (l : Fin 1024) : (V m c main_v3 : FVec Ideal S8192x1024 .f32) (ix2 n l) = argX m c (ix3 0 n l) := by
  have e : @Eq (FVec Ideal S8192x1024 .f32) (V m c main_v3) (shapeCast S8192x1024 (argX m c) shapeCasts_S1x8192x1024_S8192x1024) := by
    show StableHlo.after _ _ _ = _
    simp only [hostOps0, StableHlo.after_cons, StableHlo.after_nil]
    after_results_simp
    rfl
  rw [e]
  pointwise
theorem host_s (l : Fin 1024) : (V m c main_v5 : FVec Ideal S1x1024 .f32) (ix2 0 l) = 1 + argS m c (ix2 0 l) := by
  have e : @Eq (FVec Ideal S1x1024 .f32) (V m c main_v5)
      (addf (broadcastInDim S1x1024 ![] bcast_S_S1x1024 (constant (F := Ideal) S_ .f32 0x3F800000#32)) (argS m c)) := by
    show StableHlo.after _ _ _ = _
    simp only [hostOps0, StableHlo.after_cons, StableHlo.after_nil]
    after_results_simp
  rw [e]
  pointwise

/-! ## The blocks -/

theorem idx0 : win0_0.index t 0 = t.val ∧ win0_0.index t 1 = 0 := (by decide +kernel : ∀ t : Fin grid0.N, win0_0.index t 0 = t.val ∧ win0_0.index t 1 = 0) t
theorem idx1 : win0_1.index t 0 = 0 ∧ win0_1.index t 1 = 0 := (by decide +kernel : ∀ t : Fin grid0.N, win0_1.index t 0 = 0 ∧ win0_1.index t 1 = 0) t
theorem idx2 : win0_2.index t 0 = 0 ∧ win0_2.index t 1 = 0 := (by decide +kernel : ∀ t : Fin grid0.N, win0_2.index t 0 = 0 ∧ win0_2.index t 1 = 0) t
theorem idx3 : win0_3.index t 0 = t.val ∧ win0_3.index t 1 = 0 := (by decide +kernel : ∀ t : Fin grid0.N, win0_3.index t 0 = t.val ∧ win0_3.index t 1 = 0) t
theorem idx4 : win0_4.index t 0 = t.val ∧ win0_4.index t 1 = 0 := (by decide +kernel : ∀ t : Fin grid0.N, win0_4.index t 0 = t.val ∧ win0_4.index t 1 = 0) t

/-- Row `r` of block `t` is row `512 t + r` of the array. -/
def at_ (r : Fin 512) : Fin 8192 := ⟨512 * t.val + r.val, by have := t.isLt; have : cfg0.N = 16 := N_0; omega⟩

theorem blk_x (r : Fin 512) (k : Fin 1024) : bX m c t (ix2 r k) = argX m c (ix3 0 (at_ t r) k) := by
  refine Eq.trans ?_ (host_x m c (at_ t r) k)
  unfold bX iblk
  rw [View.read_apply]
  refine congrArg (V m c main_v3) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega
theorem blk_s (k : Fin 1024) : bS m c t (ix2 0 k) = 1 + argS m c (ix2 0 k) := by
  refine Eq.trans ?_ (host_s m c k)
  unfold bS iblk
  rw [View.read_apply]
  refine congrArg (V m c main_v5) (funext fun a => Fin.ext ?_)
  match a with
  | ⟨0, _⟩ => show win0_1.index t 0 * 1 + 1 * 0 = 0; rw [(idx1 t).1]
  | ⟨1, _⟩ => show win0_1.index t 1 * 1024 + 1 * k.val = k.val; rw [(idx1 t).2]; omega
theorem blk_b (k : Fin 1024) : bB m c t (ix2 0 k) = argB m c (ix2 0 k) := by
  refine Eq.trans ?_ (congrFun (V_main_arg2 m c) (ix2 0 k))
  unfold bB iblk
  rw [View.read_apply]
  refine congrArg (V m c main_arg2) (funext fun a => Fin.ext ?_)
  match a with
  | ⟨0, _⟩ => show win0_2.index t 0 * 1 + 1 * 0 = 0; rw [(idx2 t).1]
  | ⟨1, _⟩ => show win0_2.index t 1 * 1024 + 1 * k.val = k.val; rw [(idx2 t).2]; omega

/-! ## The result arrays -/

theorem u_block (r : Fin 512) (l : Fin 1024) :
    @Eq EReal ((dats m 0 c).arrAt 4 cfg0.N (ix2 (at_ t r) l)) ((outsAt0 m c t.val t.isLt).2.1 (ix2 r l)) := by
  have e := congrFun (Value.blocks4 m c t (flush0_4 t)) (ix2 r l)
  rw [Value.flushed4] at e
  refine Eq.trans ?_ e
  rw [View.read_apply]
  refine congrArg ((dats m 0 c).arrAt 4 cfg0.N) (funext fun a => Fin.ext ?_)
  match a with
  | ⟨0, _⟩ => show 512 * t.val + r.val = win0_4.index t 0 * 512 + 1 * r.val; rw [(idx4 t).1]; omega
  | ⟨1, _⟩ => show l.val = win0_4.index t 1 * 1024 + 1 * l.val; rw [(idx4 t).2]; omega
theorem proj_block (r : Fin 512) (l : Fin 3712) :
    @Eq EReal ((dats m 0 c).arrAt 3 cfg0.N (ix2 (at_ t r) l)) ((outsAt0 m c t.val t.isLt).1 (ix2 r l)) := by
  have e := congrFun (Value.blocks3 m c t (flush0_3 t)) (ix2 r l)
  rw [Value.flushed3] at e
  refine Eq.trans ?_ e
  rw [View.read_apply]
  refine congrArg ((dats m 0 c).arrAt 3 cfg0.N) (funext fun a => Fin.ext ?_)
  match a with
  | ⟨0, _⟩ => show 512 * t.val + r.val = win0_3.index t 0 * 512 + 1 * r.val; rw [(idx3 t).1]; omega
  | ⟨1, _⟩ => show l.val = win0_3.index t 1 * 3712 + 1 * l.val; rw [(idx3 t).2]; omega

theorem at_surj (n : Fin 8192) : ∃ (t : Fin cfg0.N) (r : Fin 512), n = at_ t r := by
  have hN : cfg0.N = 16 := N_0
  exact ⟨⟨n.val / 512, by omega⟩, ⟨n.val % 512, by omega⟩, Fin.ext (show n.val = 512 * (n.val / 512) + n.val % 512 by omega)⟩

/-- The modulated rows, from the arguments. -/
def modu (n : Fin 8192) (l : Fin 1024) : EReal := norm (fun k => argX m c (ix3 0 n k)) l * (1 + argS m c (ix2 0 l)) + argB m c (ix2 0 l)

theorem pay2_modu (r : Fin 512) (l : Fin 1024) : k0_pay2 (F := Ideal) (bX m c t) (bS m c t) (bB m c t) (ix2 r l) = modu m c (at_ t r) l := by
  rw [pay2_apply, blk_s, blk_b]
  simp only [blk_x]
  rfl

/-- The modulated rows. -/
theorem final_u (n : Fin 8192) (l : Fin 1024) : @Eq EReal ((dats m 0 c).arrAt 4 cfg0.N (ix2 n l)) (modu m c n l) := by
  obtain ⟨t, r, rfl⟩ := at_surj n
  rw [u_block, u_all, pay2_modu]

/-- Their products with the weights, and columns of zeros. -/
theorem final_proj (n : Fin 8192) (k : Fin 3712) : @Eq EReal ((dats m 0 c).arrAt 3 cfg0.N (ix2 n k))
    (if h : k.val < 3600 then ∑ l : Fin 1024, modu m c n l * argW m c (ix3 0 l ⟨k.val, h⟩) else 0) := by
  obtain ⟨t, r, rfl⟩ := at_surj n
  rw [proj_block, proj_all, pay3_apply]
  simp only [pay2_modu]
  have e : ∀ l : Fin 1024, wPad m c (ix2 k l) = if h : k.val < 3600 then argW m c (ix3 0 l ⟨k.val, h⟩) else 0 := fun l => by
    unfold wPad padded
    refine dite_congr rfl (fun h => host_w m c ⟨k.val, h⟩ l) (fun _ => ?_)
    pointwise [Cert.KernelIdeal.Gen.k0_pay4]
  simp only [e]
  split
  · rfl
  · simp only [mul_zero, Finset.sum_const_zero]

end Cert.FwdBlock

end
-- ==== Proof.ClaimFwd.lean ====
/-
  Over the extended reals the kernel of the forward input projection and its reference give the same two results, with no
  precondition.
-/
module

public import proofs.«01_k».proof.Defs
public import proofs.«01_k».proof.Proof.FwdBlock
public import proofs.«01_k».proof.Proof.Gen.FwdReferenceIdeal.Run

@[expose] public section

set_option maxRecDepth 16384

noncomputable section

namespace Cert.ClaimFwd

open Idealize.ShloMosaic Idealize.ShloMosaic.TcCoe Idealize.SL.Sem

theorem frame_reference : Cert.quiescent_FwdReferenceIdeal := fun m ρ _ =>
  (θ_run Cert.FwdReferenceIdeal.defs _ _).mono
    (fun r h => ⟨fun c => (h c).2.2, sem_eq_zero_of_no_sems (by decide) r.2⟩) (Cert.FwdReferenceIdeal.Value.run (F := Ideal) m ρ)

section
open Cert.FwdReferenceIdeal Cert.FwdReferenceIdeal.Gen
open Cert.FwdBlock (mean dev norm)

abbrev Mat := FVec Ideal S1x8192x1024 .f32
variable (x : Mat) (s b : FVec Ideal S1x1024 .f32) (w : FVec Ideal S1x1024x3600 .f32)

def col (x : Mat) : FVec Ideal S1x8192x1 .f32 :=
  Host.divf (broadcastInDim S1x8192x1 ![0, 1] bcast_S1x8192_S1x8192x1_0_1 (Host.reduceAdd x (constant S_ .f32 0x00000000#32) reducesTo_S1x8192x1024_S1x8192_d2 h_S_))
    (broadcastInDim S1x8192x1 ![] bcast_S_S1x8192x1 (constant S_ .f32 0x44800000#32))
def spread (y : FVec Ideal S1x8192x1 .f32) : Mat := broadcastInDim S1x8192x1024 ![0, 1, 2] bcast_S1x8192x1_S1x8192x1024_0_1_2 y
def devs (x : Mat) : Mat := subf x (spread (col x))
def modu (x : Mat) (s b : FVec Ideal S1x1024 .f32) : Mat :=
  addf (mulf (mulf (devs x) (spread (Host.rsqrt (addf (col (mulf (devs x) (devs x))) (broadcastInDim S1x8192x1 ![] bcast_S_S1x8192x1 (constant S_ .f32 0x3727C5AC#32))))))
    (broadcastInDim S1x8192x1024 ![0, 1, 2] bcast_S1x1x1024_S1x8192x1024_0_1_2 (addf (broadcastInDim S1x1x1024 ![] bcast_S_S1x1x1024 (constant S_ .f32 0x3F800000#32)) (broadcastInDim S1x1x1024 ![0, 2] bcast_S1x1024_S1x1x1024_0_2 s))))
    (broadcastInDim S1x8192x1024 ![0, 1, 2] bcast_S1x1x1024_S1x8192x1024_0_1_2 (broadcastInDim S1x1x1024 ![0, 2] bcast_S1x1024_S1x1x1024_0_2 b))
def proj (u : Mat) (w : FVec Ideal S1x1024x3600 .f32) : FVec Ideal S8192x3712 .f32 :=
  pad S8192x3712 ![0, 0] ![0, 112] ![0, 0] (shapeCast S8192x3600 (Host.dotGeneral dot_S1x8192x1024_S1024x3600_S1x8192x3600_2_0_01_1_n_n none u
    (shapeCast S1024x3600 w shapeCasts_S1x1024x3600_S1024x3600)) shapeCasts_S1x8192x3600_S8192x3600) (sitofp (F := Ideal) .f32 (constantI S_ 32 0#32)) pads_S8192x3600_S8192x3712_000_01120 h_S_
def rows (u : Mat) : FVec Ideal S8192x1024 .bf16 := truncf .bf16 (shapeCast S8192x1024 u shapeCasts_S1x8192x1024_S8192x1024) bitsLt_bf16_f32

variable (n : Fin 8192) (l : Fin 1024)

theorem col_apply : col x (ix3 0 n 0) = mean fun k => x (ix3 0 n k) := by
  pointwise [col]
  rfl
theorem spread_apply (y : FVec Ideal S1x8192x1 .f32) : spread y (ix3 0 n l) = y (ix3 0 n 0) := by pointwise [spread]
theorem devs_apply : devs x (ix3 0 n l) = dev (fun k => x (ix3 0 n k)) l := by
  pointwise [devs]
  rw [spread_apply, col_apply]
  rfl
theorem modu_apply : modu x s b (ix3 0 n l) = norm (fun k => x (ix3 0 n k)) l * (1 + s (ix2 0 l)) + b (ix2 0 l) := by
  pointwise [modu]
  rw [spread_apply, devs_apply]
  pointwise
  rw [col_apply]
  pointwise
  simp only [devs_apply]
  rfl
theorem proj_apply (u : Mat) (k : Fin 3712) : proj u w (ix2 n k)
    = if h : k.val < 3600 then ∑ l : Fin 1024, u (ix3 0 n l) * w (ix3 0 l ⟨k.val, h⟩) else 0 := by
  pointwise [proj]
  exact dite_congr rfl (fun _ => rfl) (fun _ => sitofp_zero (φ := .f32))
theorem rows_apply (u : Mat) : rows u (ix2 n l) = u (ix3 0 n l) := by pointwise [rows]
end

theorem algebraic : Cert.algebraic_FwdKernelIdeal_FwdReferenceIdeal := by
  intro m ρ m' ρ' _ hagree
  refine ⟨_, _, Cert.FwdKernelIdeal.Value.run_blocks m ρ, ?_⟩
  refine (θ_run Cert.FwdReferenceIdeal.defs _ _).mono (fun r h c => ?_) (Cert.FwdReferenceIdeal.Value.run (F := Ideal) m' ρ')
  obtain ⟨h0, h1, hargs⟩ := h c
  obtain ⟨e0, e1, e2, e3⟩ := hagree c
  have e : ∀ n l, modu (Cert.FwdBlock.argX m c) (Cert.FwdBlock.argS m c) (Cert.FwdBlock.argB m c) (ix3 0 n l) = Cert.FwdBlock.modu m c n l :=
    fun n l => modu_apply _ _ _ n l
  have h0 := h0; rw [e0, e1, e2, e3] at h0
  rw [e0, e1, e2] at h1
  refine ⟨(show _ = proj (modu (Cert.FwdBlock.argX m c) (Cert.FwdBlock.argS m c) (Cert.FwdBlock.argB m c)) (Cert.FwdBlock.argW m c) from h0).trans ?_,
    (show _ = rows (modu (Cert.FwdBlock.argX m c) (Cert.FwdBlock.argS m c) (Cert.FwdBlock.argB m c)) from h1).trans ?_, hargs⟩
  · funext j
    revert j
    show ∀ j : Cert.FwdKernelIdeal.S8192x3712.Idx, _
    intro j
    idx_vars j
    refine (proj_apply _ _ _ _).trans (Eq.trans ?_ (Cert.FwdBlock.final_proj m c j0 j1).symm)
    simp only [e]
  · funext j
    revert j
    show ∀ j : Cert.FwdKernelIdeal.S8192x1024.Idx, _
    intro j
    idx_vars j
    exact (rows_apply _ _ _).trans ((e j0 j1).trans (Cert.FwdBlock.final_u m c j0 j1).symm)

end Cert.ClaimFwd

end
-- ==== Proof.ClaimOut.lean ====
/-
  Over the extended reals the optimiser's call for the output projection's weights and its reference give the same four
  results, with no precondition.
-/
module

public import proofs.«01_k».proof.Defs
public import proofs.«01_k».proof.Proof.Gen.OutKernelIdeal.Value
public import proofs.«01_k».proof.Proof.Gen.OutReferenceIdeal.Run
public import Idealize.ShloMosaic.Lib.Pointwise
public import Idealize.ShloMosaic.Lib.KernelVsHost

@[expose] public section

noncomputable section

namespace Cert.ClaimOut

open Idealize.ShloMosaic Idealize.ShloMosaic.TcCoe Idealize.SL.Sem

theorem frame_reference : Cert.quiescent_OutReferenceIdeal := fun m ρ _ =>
  (θ_run Cert.OutReferenceIdeal.defs _ _).mono
    (fun r h => ⟨fun c => (h c).2.2.2.2, sem_eq_zero_of_no_sems (by decide) r.2⟩) (Cert.OutReferenceIdeal.Value.run (F := Ideal) m ρ)

abbrev Mat := FVec Ideal Cert.OutKernelIdeal.S128x1024 .f32
abbrev Parts := FVec Ideal Cert.OutKernelIdeal.S8x128x1024 .bf16

/-! ## The reference's results -/
section
open Cert.OutReferenceIdeal Cert.OutReferenceIdeal.Gen

/-- One number everywhere. -/
def all (b : BitVec 32) : Mat := broadcastInDim S128x1024 ![] bcast_S_S128x1024 (constant S_ .f32 b)
/-- The gradient, summed over the devices. -/
def grad (p : Parts) : Mat := Host.reduceAdd (extf .f32 p bitsLt_bf16_f32) (constant S_ .f32 0x00000000#32) reducesTo_S8x128x1024_S128x1024_d0 h_S_
/-- The two moments. -/
def mom (g v : Mat) : Mat := addf (mulf (all 0x3F666666#32) v) (mulf (all 0x3DCCCCCD#32) g)
def vel (g v : Mat) : Mat := addf (mulf (all 0x3F7FBE77#32) v) (mulf (all 0x3A83126F#32) (mulf g g))
/-- The change of the weights. -/
def step (g w a b : Mat) : Mat :=
  mulf (all 0xBA83126F#32) (addf (Host.divf (Host.divf (mom g a) (all 0x3F26BD02#32))
    (addf (Host.sqrt (Host.divf (vel g b) (all 0x3C231ACC#32))) (all 0x322BCC77#32))) (mulf (all 0x3C23D70A#32) w))
end

/-! ## The kernel's results -/

open Cert.OutKernelIdeal Cert.OutKernelIdeal.Gen

theorem hz : (![0, 0] : Fin 2 → Nat) = fun _ => 0 := funext fun a => by fin_cases a <;> rfl

theorem pay_mom (g v : Mat) : k0_pay1 (F := Ideal) g v = mom g v := by
  funext j
  pointwise [k0_pay1, mom, all]
theorem pay_vel (g v : Mat) : k0_pay2 (F := Ideal) g v = vel g v := by
  funext j
  pointwise [k0_pay2, vel, all]
theorem pay_step (g w a b : Mat) : k0_pay3 (F := Ideal) g (k0_pay5 w) a b = step g w a b := by
  unfold k0_pay3
  rw [pay_mom, pay_vel]
  funext j
  pointwise [k0_pay5, step, all]
/-- The parts added one by one are their sum. -/
theorem pay_grad (w a b : Mat) (p : Parts) : k0_pay6 (F := Ideal) w p a b = grad p := by
  funext j
  idx_vars j
  pointwise [k0_pay6, k0_pay4, grad]
  rw [Fin.sum_univ_eight]

variable (m : (ℓ : Loc nD τ sig) → Buf (Elt Ideal) ℓ) (c : Dev nD)

abbrev W : Mat := shapeCast _ (m ((c : Thread nD τ).loc main_arg0)) shapeCasts_S1x128x1024_S128x1024
abbrev P : Parts := m ((c : Thread nD τ).loc main_arg1)
abbrev A : Mat := shapeCast _ (m ((c : Thread nD τ).loc main_arg2)) shapeCasts_S1x128x1024_S128x1024
abbrev B : Mat := shapeCast _ (m ((c : Thread nD τ).loc main_arg3)) shapeCasts_S1x128x1024_S128x1024

theorem host : @Eq Mat (V m c main_v0) (W m c) ∧ @Eq Mat (V m c main_v1) (A m c) ∧ @Eq Mat (V m c main_v2) (B m c) := by
  refine ⟨?_, ?_, ?_⟩ <;>
  · show StableHlo.after _ _ _ = _
    simp only [hostOps0, StableHlo.after_cons, StableHlo.after_nil]
    after_results_simp
    rfl

/-- An index inside the only block of an array is that index of the array. -/
theorem at_zero {s : Shape} (n : Fin s.rank → Nat) {i j : s.Idx} (h : ∀ a, (i a).val = 0 * n a + 1 * (j a).val) : i = j :=
  funext fun a => Fin.ext (by rw [h, Nat.zero_mul, Nat.zero_add, Nat.one_mul])

theorem blkW : iblk m c 0 t0_0 = W m c :=
  funext fun j => Eq.trans (congrArg (V m c main_v0) (at_zero ![128, 1024] fun | ⟨0, _⟩ | ⟨1, _⟩ => rfl)) (congrFun (host m c).1 j)
theorem blkA : iblk m c 2 t0_0 = A m c :=
  funext fun j => Eq.trans (congrArg (V m c main_v1) (at_zero ![128, 1024] fun | ⟨0, _⟩ | ⟨1, _⟩ => rfl)) (congrFun (host m c).2.1 j)
theorem blkB : iblk m c 3 t0_0 = B m c :=
  funext fun j => Eq.trans (congrArg (V m c main_v2) (at_zero ![128, 1024] fun | ⟨0, _⟩ | ⟨1, _⟩ => rfl)) (congrFun (host m c).2.2 j)
theorem blkP : iblk m c 1 t0_0 = P m c :=
  funext fun j => Eq.trans (congrArg (V m c main_arg1) (at_zero ![8, 128, 1024] fun | ⟨0, _⟩ | ⟨1, _⟩ | ⟨2, _⟩ => rfl)) (congrFun (V_main_arg1 m c) j)

theorem final_grad : (dats m 0 c).arrAt 4 cfg0.N = grad (P m c) := by
  have e := Value.blocks4 m c t0_0 (flush0_4 _)
  rw [Value.flushed4, blkW, blkP, blkA, blkB, out0_4, View.canon_unit_zero (S := S128x1024) hz] at e
  simp only [View.ld_unit_zero (S := S128x1024) hz, pay_grad, pay_grad] at e
  exact funext fun j => Eq.trans (congrArg _ (at_zero ![128, 1024] fun | ⟨0, _⟩ | ⟨1, _⟩ => rfl).symm) (congrFun e j)
theorem final_step : (dats m 0 c).arrAt 5 cfg0.N = step (grad (P m c)) (W m c) (A m c) (B m c) := by
  have e := Value.blocks5 m c t0_0 (flush0_5 _)
  rw [Value.flushed5, blkW, blkP, blkA, blkB, out0_5, View.canon_unit_zero (S := S128x1024) hz] at e
  simp only [View.ld_unit_zero (S := S128x1024) hz, pay_grad, pay_step] at e
  exact funext fun j => Eq.trans (congrArg _ (at_zero ![128, 1024] fun | ⟨0, _⟩ | ⟨1, _⟩ => rfl).symm) (congrFun e j)
theorem final_mom : (dats m 0 c).arrAt 6 cfg0.N = mom (grad (P m c)) (A m c) := by
  have e := Value.blocks6 m c t0_0 (flush0_6 _)
  rw [Value.flushed6, blkW, blkP, blkA, blkB, out0_6, View.canon_unit_zero (S := S128x1024) hz] at e
  simp only [View.ld_unit_zero (S := S128x1024) hz, pay_grad, pay_mom] at e
  exact funext fun j => Eq.trans (congrArg _ (at_zero ![128, 1024] fun | ⟨0, _⟩ | ⟨1, _⟩ => rfl).symm) (congrFun e j)
theorem final_vel : (dats m 0 c).arrAt 7 cfg0.N = vel (grad (P m c)) (B m c) := by
  have e := Value.blocks7 m c t0_0 (flush0_7 _)
  rw [Value.flushed7, blkW, blkP, blkA, blkB, out0_7, View.canon_unit_zero (S := S128x1024) hz] at e
  simp only [View.ld_unit_zero (S := S128x1024) hz, pay_grad, pay_vel] at e
  exact funext fun j => Eq.trans (congrArg _ (at_zero ![128, 1024] fun | ⟨0, _⟩ | ⟨1, _⟩ => rfl).symm) (congrFun e j)

theorem algebraic : Cert.algebraic_OutKernelIdeal_OutReferenceIdeal := by
  intro m ρ m' ρ' _ hagree
  refine ⟨_, _, _, _, Value.run_blocks m ρ, ?_⟩
  refine (θ_run Cert.OutReferenceIdeal.defs _ _).mono (fun r h c => ?_) (Cert.OutReferenceIdeal.Value.run (F := Ideal) m' ρ')
  obtain ⟨e0, e1, e2, e3⟩ := hagree c
  obtain ⟨h0, h1, h2, h3, hargs⟩ := h c
  refine ⟨h0.trans (Eq.trans ?_ (final_grad m c).symm), h1.trans (Eq.trans ?_ (final_step m c).symm),
    h2.trans (Eq.trans ?_ (final_mom m c).symm), h3.trans (Eq.trans ?_ (final_vel m c).symm), hargs⟩ <;>
  · simp only [e0, e1, e2, e3]
    rfl

end Cert.ClaimOut

end
-- ==== Proof.Hold.lean ====
/-
  Holding a buffer of which nothing is known but that it is held.
-/
module

public import Idealize.ShloMosaic.Lib.Pipeline.Kit
public import Idealize.ShloMosaic.Lib.Pipeline.FrameBody
public import Idealize.ShloMosaic.Lib.Tactic

@[expose] public section

noncomputable section

namespace Cert.Hold

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig} {sp : Space} {s : Shape} {e : EltTy}

/-- What may be said of the buffers of a launch. -/
abbrev Says (F : FTy → Type) [FloatOps F] (nD : ℕ) (τ : Topo) (sig : RefSig) := sProp (MT nD τ sig Unit (Elt F) ℕ (UR sig nD τ) ℕ)

/-- The core holds the buffer behind `a`, with something in it. -/
def any (c : Dev nD) (a : Memref sig .tc sp s e) : Says F nD τ sig :=
  iprop(∃ d, owns (c : Thread nD τ) a fullShare d)

variable (c : Dev nD) (a : Memref sig .tc sp s e)

/-- Holding the buffer at named contents is holding it. -/
theorem any_of (f : Buf (Elt F) (a.view.loc (c : Thread nD τ))) :
    (a.view.loc (c : Thread nD τ) ↦[a.view.set]{fullShare} f : Says F nD τ sig) ⊢ any c a := by
  unfold any owns
  iintro H
  iexists _, _
  isplitr
  swap; · iexact H
  ipureintro; rfl

/-- A block held at named contents is held. -/
theorem give (d) : (owns (c : Thread nD τ) a fullShare d : Says F nD τ sig) ⊢ any c a := by
  unfold any; iintro H; iexists _; iexact H

/-- What is held is held at some contents, of which anything true of all contents may be said. -/
theorem take {p : (s.Idx → Elt F e) → Prop} (h : ∀ x, p x) :
    (any c a : Says F nD τ sig) ⊢ iprop(∃ x, ⌜p x⌝ ∗ owns (c : Thread nD τ) a fullShare x) := by
  unfold any; iintro ⟨%x, H⟩; iexists x; isplitr; · ipureintro; exact h x
  iexact H

end Cert.Hold

end
-- ==== Proof.BwdHoldIdeal.lean ====
/-
  The backward call of the mixer, read at ideal numbers, runs to its end and leaves its arguments as they were.

  At a grid point the kernel only loads from and stores into whole buffers that it holds: the blocks of its operands
  and of its results, and two scratch buffers. A point that starts with all of them ends with all of them; the first
  point, which clears the sums carried from point to point, is run with the same lines as the others. Nothing is said
  of what the buffers hold.
-/
module

public import proofs.«01_k».proof.Defs
public import proofs.«01_k».proof.Proof.Hold
public import proofs.«01_k».proof.Proof.Gen.BwdKernelIdeal.Frame

@[expose] public section

set_option maxRecDepth 16384

noncomputable section

namespace Cert.BwdKernelIdeal.Hold

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem
open Cert.Hold Cert.BwdKernelIdeal.Gen

variable {F : FTy → Type} [FloatOps F]

/-- Whether a grid point is the first. -/
abbrev first (i : grid0.Coords) : Prop :=
  (Scalar.cmpi .ne (Scalar.extui (Scalar.cmpi .eq (BitVec.ofNat 32 (i 0).val) 0#32)) 0#32) = 1#1

set_option maxHeartbeats 19200000 in
/-- A grid point that starts holding its buffers ends holding them. -/
theorem point (c : Dev nD) (i : grid0.Coords) {a1 a2 a3 a4 a5 a6 a7 a8 a9 a10 a11 a12 a13 a14 a15 a16 a17 a18 a19 a20 a21 a22 a23 a24 a25 a26 a27}
    {h1 h2 h3 h4 h5 h6 h7 h8 h9 h10 h11 h12 h13 h14 h15 h16 h17 h18 h19 h20 h21 h22 h23 h24 h25 h26 h27} {P Q : Says F nD τ sig} (hQ : P = Q)
    (hP : P = iprop((any c a1 ∗ any c a2 ∗ any c a3 ∗ any c a4 ∗ any c a5 ∗ any c a6 ∗ any c a7 ∗ any c a8 ∗ any c a9 ∗ any c a10 ∗ any c a11 ∗ any c
      a12 ∗ any c a13 ∗ any c a14 ∗ any c a15 ∗ any c a16 ∗ any c a17 ∗ any c a18 ∗ any c a19 ∗ any c a20 ∗ any c a21 ∗ any c a23 ∗ any
      c a24 ∗ any c a25) ∗ any c a26 ∗ any c a27)) :
    P ⊢ wp frame (wpE (defs₀ (F := F)) Variants.none c none) Set.univ
      (cc0_mixer_bwd i a1 h1 a2 h2 a3 h3 a4 h4 a5 h5 a6 h6 a7 h7 a8 h8 a9 h9 a10 h10 a11 h11 a12 h12 a13 h13 a14 h14 a15 h15 a16 h16 a17 h17 a18 h18 a19
        h19 a20 h20 a21 h21 a22 h22 a23 h23 a24 h24 a25 h25 a26 h26 a27 h27) (fun _ => Q) := by
  by_cases hc0 : first i
  all_goals
    unfold cc0_mixer_bwd
    rw [hP]; unfold any owns
    iintro ⟨⟨⟨%_, %_, -, H1⟩, ⟨%_, %_, -, H2⟩, ⟨%_, %_, -, H3⟩, ⟨%_, %_, -, H4⟩, ⟨%_, %_, -, H5⟩, ⟨%_, %_, -, H6⟩, ⟨%_, %_, -, H7⟩, ⟨%_, %_,
      -, H8⟩, ⟨%_, %_, -, H9⟩, ⟨%_, %_, -, H10⟩, ⟨%_, %_, -, H11⟩, ⟨%_, %_, -, H12⟩, ⟨%_, %_, -, H13⟩, ⟨%_, %_, -, H14⟩, ⟨%_, %_, -,
      H15⟩, ⟨%_, %_, -, H16⟩, ⟨%_, %_, -, H17⟩, ⟨%_, %_, -, H18⟩, ⟨%_, %_, -, H19⟩, ⟨%_, %_, -, H20⟩, ⟨%_, %_, -, H21⟩, ⟨%_, %_, -,
      H23⟩, ⟨%_, %_, -, H24⟩, ⟨%_, %_, -, H25⟩⟩, ⟨%_, %_, -, H26⟩, ⟨%_, %_, -, H27⟩⟩
    sl_exec (disch := first | sl_exact hc0)
    sl_step
    rw [← hQ, hP]
    isplitl [H1 H2 H3 H4 H5 H6 H7 H8 H9 H10 H11 H12 H13 H14 H15 H16 H17 H18 H19 H20 H21 H23 H24 H25]
    · isplitl [H1]; · iapply any_of; iexact H1
      isplitl [H2]; · iapply any_of; iexact H2
      isplitl [H3]; · iapply any_of; iexact H3
      isplitl [H4]; · iapply any_of; iexact H4
      isplitl [H5]; · iapply any_of; iexact H5
      isplitl [H6]; · iapply any_of; iexact H6
      isplitl [H7]; · iapply any_of; iexact H7
      isplitl [H8]; · iapply any_of; iexact H8
      isplitl [H9]; · iapply any_of; iexact H9
      isplitl [H10]; · iapply any_of; iexact H10
      isplitl [H11]; · iapply any_of; iexact H11
      isplitl [H12]; · iapply any_of; iexact H12
      isplitl [H13]; · iapply any_of; iexact H13
      isplitl [H14]; · iapply any_of; iexact H14
      isplitl [H15]; · iapply any_of; iexact H15
      isplitl [H16]; · iapply any_of; iexact H16
      isplitl [H17]; · iapply any_of; iexact H17
      isplitl [H18]; · iapply any_of; iexact H18
      isplitl [H19]; · iapply any_of; iexact H19
      isplitl [H20]; · iapply any_of; iexact H20
      isplitl [H21]; · iapply any_of; iexact H21
      isplitl [H23]; · iapply any_of; iexact H23
      isplitl [H24]; · iapply any_of; iexact H24
      iapply any_of; iexact H25
    isplitl [H26]; · iapply any_of; iexact H26
    iapply any_of; iexact H27

variable (m : (ℓ : Loc nD τ sig) → Buf (Elt F) ℓ) (ρ : Dev nD → PrngReg)

/-- What is known between grid points: the arrays as the launch finds them, and the scratch buffers held. -/
def data (c : Dev nD) : Pipeline.RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The scratch buffers are held, and the generator's register with them. -/
theorem scratch (c : Dev nD) : (Pipeline.ΦA spec0 c : Says F nD τ sig) = iprop(iprop(any c (Memref.whole cc0_scratch0)
    ∗ any c (Memref.whole cc0_scratch1)) ∗ (∃ r, prngReg c r)) := by
  unfold Pipeline.ΦA any; rw [scopedRest0_eq]; simp only [owns_whole]; try rfl

/-- All the blocks of a grid point and the scratch buffers. -/
def all (c : Dev nD) (t : Fin cfg0.N) : Says F nD τ sig :=
  iprop((bigSep Finset.univ fun w => any c ((cfg0.win w).stage (cfg0.slots t w)))
    ∗ any c (Memref.whole cc0_scratch0) ∗ any c (Memref.whole cc0_scratch1))

set_option maxHeartbeats 1600000 in
/-- Every grid point gives back what it takes. -/
theorem body (c : Dev nD) : (data (F := F) m c).BodyObligation (defs₀ (F := F)) Variants.none () Set.univ := fun t Y _ => by
  have hrow : defs₀ (F := F) .tc cfg0.body (cfg0.bodyArgs t (cfg0.slots t)) = bodyAt0 t := by
    unfold defs₀; rw [Defs.onTc_tc]
  let R : Says F nD τ sig := iprop((∃ r, prngReg c r) ∗ (data m c).owesAt () t.castSucc)
  have hR : iprop(R ∗ all c t) ⊢ wp frame (wpE (defs₀ (F := F)) Variants.none c none) Set.univ (bodyAt0 t)
      (fun _ => iprop(R ∗ all c t)) :=
    (sep_mono .rfl (point c _ rfl (by unfold all; rw [bigSep_W0]))).trans (wp_frame_l _ _ _)
  have hin : (bigSep Finset.univ fun w => owns (c : Thread nD τ) ((cfg0.win w).stage (cfg0.slots t w)) fullShare (Y w) : Says F nD τ sig)
      ⊢ bigSep Finset.univ fun w => any c ((cfg0.win w).stage (cfg0.slots t w)) :=
    bigSep_mono fun w _ => give c _ (Y w)
  have hout : (bigSep Finset.univ fun w => any c ((cfg0.win w).stage (cfg0.slots t w)) : Says F nD τ sig)
      ⊢ bigSep Finset.univ fun w => iprop(∃ X, ⌜(data m c).after w t (Y w) X⌝
        ∗ owns (c : Thread nD τ) ((cfg0.win w).stage (cfg0.slots t w)) fullShare X) :=
    bigSep_mono fun w _ => take c _ fun _ => trivial
  rw [hrow]
  refine triple_restated hR rfl ?_ fun _ => ?_
  · rw [show (data m c).Φ t.castSucc = _ from scratch c]
    unfold all
    iintro ⟨⟨⟨S0, S1⟩, Hg⟩, Ho, H⟩
    isplitl [Hg Ho]
    · isplitl [Hg]; · iexact Hg
      iexact Ho
    isplitl [H]
    · iapply hin; iexact H
    isplitl [S0]; · iexact S0
    iexact S1
  · rw [show (data m c).Φ t.succ = _ from scratch c]
    unfold all
    iintro ⟨⟨Hg, Ho⟩, H, S0, S1⟩
    isplitl [S0 S1 Hg]
    · isplitl [S0 S1]
      · isplitl [S0]; · iexact S0
        iexact S1
      iexact Hg
    isplitl [Ho]; · iexact Ho
    iapply hout; iexact H

set_option backward.isDefEq.respectTransparency.types false in
/-- The launch ends as the pipeline's account of it says, with every counter at zero. -/
theorem run : θ_run defs (onTc (τ := τ) (main (F := F))) (s₀ m ρ)
    (fun r => Pipeline.RDat.FramePost (cfgs 0) (data m) (V m) r ∧ r.2.sem = fun _ => 0) :=
  Pipeline.RDat.θ_run_frame_track_shared (Q' := _) cfgs (0 : Fin 1) launch₀0 defs₀ Variants.none (data m) m ρ main
    (hbody := body m) (hq := fun _ _ _ => rfl) (howed := fun _ _ => rfl) (V := V m) (hmain := hmain m Variants.none)
    (hA := fun _ _ => rfl) (hin := fun _ => .rfl) (hout := fun _ => .rfl)

/-- The call runs to its end and leaves its arguments as they were. -/
theorem frame : Cert.quiescent_BwdKernelIdeal := fun m ρ _ => (θ_run defs _ _).mono (fun r h => ⟨fun c => by
  have w : ∀ i {x}, (cfg0.win i).isOut = false → V m c (Pipeline.arrRef spec0 i) = x →
      r.2.mem ((cfg0.spec i).arr.view.loc (c.tc : Thread nD τ)) = x := fun i _ hi hx =>
    (Pipeline.RDat.FramePost.arr_in h.1 c i hi).trans hx
  have b : ∀ a {x}, a ∈ Pipeline.restRefs sig spec0 → V m c a = x → r.2.mem ((c.tc : Thread nD τ).loc a) = x :=
    fun a _ ha hx => ((h.1 c).2 a ha).trans hx
  exact ⟨b main_arg0 (Pipeline.mem_restRefs_of main_arg0 (by decide) (by decide)) (V_main_arg0 m c),
    w 1 rfl (V_main_arg1 m c),
    w 2 rfl (V_main_arg2 m c),
    w 10 rfl (V_main_arg3 m c),
    w 15 rfl (V_main_arg4 m c),
    w 16 rfl (V_main_arg5 m c),
    b main_arg6 (Pipeline.mem_restRefs_of main_arg6 (by decide) (by decide)) (V_main_arg6 m c),
    w 18 rfl (V_main_arg7 m c),
    w 19 rfl (V_main_arg8 m c),
    w 20 rfl (V_main_arg9 m c),
    b main_arg10 (Pipeline.mem_restRefs_of main_arg10 (by decide) (by decide)) (V_main_arg10 m c)⟩, h.2⟩) (run m ρ)

end Cert.BwdKernelIdeal.Hold

end
-- ==== Proof.ClaimBwd.lean ====
/-
  The reference of the backward call of the mixer runs to its end and leaves its arguments as they were.
-/
module

public import proofs.«01_k».proof.Defs
public import proofs.«01_k».proof.Proof.Gen.BwdReferenceIdeal.Run

@[expose] public section

namespace Cert.ClaimBwd

open Idealize.ShloMosaic Idealize.SL.Sem

theorem frame_reference : Cert.quiescent_BwdReferenceIdeal := fun m ρ _ =>
  (θ_run Cert.BwdReferenceIdeal.defs _ _).mono
    (fun r h => ⟨fun c => (h c).2.2.2, sem_eq_zero_of_no_sems (by decide) r.2⟩) (Cert.BwdReferenceIdeal.Value.run (F := Ideal) m ρ)

end Cert.ClaimBwd
-- ==== Proof.lean ====
/-
  The claims: every program runs to its end, and over the reals each kernel's results are its reference's.
  The input projection's gradient is joined here, the other calls in modules of their own.
-/
module

public import proofs.«01_k».proof.Proof.Gen.OutKernel.Frame
public import proofs.«01_k».proof.Proof.Gen.FwdKernel.Frame
public import proofs.«01_k».proof.Proof.Gen.FwdKernelIdeal.Frame
public import proofs.«01_k».proof.Proof.Gen.FwdKernelIdeal.Value
public import proofs.«01_k».proof.Proof.Gen.FwdReferenceIdeal.Run
public import proofs.«01_k».proof.Proof.Gen.FfnKernel.Frame
public import proofs.«01_k».proof.Proof.Gen.MidKernel.Frame
public import proofs.«01_k».proof.Proof.Gen.FfnKernelIdeal.Frame
public import proofs.«01_k».proof.Proof.Gen.MidKernelIdeal.Frame
public import proofs.«01_k».proof.Proof.Gen.MixKernel.Frame
public import proofs.«01_k».proof.Proof.Gen.MixKernelIdeal.Frame
public import proofs.«01_k».proof.Proof.Gen.FfnReferenceIdeal.Run
public import proofs.«01_k».proof.Proof.Gen.MidReferenceIdeal.Run
public import proofs.«01_k».proof.Proof.Gen.MixReferenceIdeal.Run
public import proofs.«01_k».proof.Defs
public import proofs.«01_k».proof.Proof.InFinal
public import proofs.«01_k».proof.Proof.InRef
public import proofs.«01_k».proof.Proof.Finite
public import proofs.«01_k».proof.Proof.ClaimFfn
public import proofs.«01_k».proof.Proof.ClaimMid
public import proofs.«01_k».proof.Proof.ClaimMix
public import proofs.«01_k».proof.Proof.ClaimFwd
public import proofs.«01_k».proof.Proof.ClaimOut
public import proofs.«01_k».proof.Proof.BwdHold
public import proofs.«01_k».proof.Proof.BwdHoldIdeal
public import proofs.«01_k».proof.Proof.ClaimBwd
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem Cert.RowMath Cert.Finite

instance inFacts : Cert.Pre_finite_in.Facts :=
  ⟨by decide, by decide, by decide, by decide⟩

theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

/-- The real numbers behind a device's arguments, under the precondition. -/
theorem reals (m : (ℓ : Loc Cert.KernelIdeal.nD Cert.KernelIdeal.τ Cert.KernelIdeal.sig) → Buf (Elt Ideal) ℓ)
    (h : Cert.Pre_KernelIdeal_finite_in m) (c : Dev Cert.KernelIdeal.nD) : ∃ q, Cert.InBlock.Reals.Of m c q := by
  obtain ⟨hx, hs, hw, hp⟩ := h c
  refine ⟨⟨fun n l => (Cert.InBlock.argX m c (ix3 0 n l)).toReal, fun l => (Cert.InBlock.argS m c (ix2 0 l)).toReal,
    fun k l => (Cert.InBlock.argW m c (ix3 0 l k)).toReal, fun n k => (Cert.InBlock.argP m c (ix3 0 n k)).toReal⟩, ?_, ?_, ?_, ?_⟩
  · exact fun n l => coe_of_finite _ (congrFun hx (ix3 0 n l))
  · exact fun l => coe_of_finite _ (congrFun hs (ix2 0 l))
  · exact fun k l => coe_of_finite _ (congrFun hw (ix3 0 l k))
  · exact fun n k => coe_of_finite _ (congrFun hp (ix3 0 n k))

theorem algebraic : Cert.algebraic_KernelIdeal_ReferenceIdeal_pre_finite_in := by
  intro m ρ m' ρ' hpre hagree
  refine ⟨_, _, Cert.KernelIdeal.Value.run_blocks (F := Ideal) m ρ, ?_⟩
  refine (θ_run Cert.ReferenceIdeal.defs _ _).mono (fun r h c => ?_) (Cert.InRef.run m' ρ')
  obtain ⟨h0, h1, hargs⟩ := h c
  refine ⟨h0.trans ?_, h1.trans ?_, hargs⟩
  all_goals
    obtain ⟨q, hq⟩ := reals m hpre c
    obtain ⟨e0, e1, -, e3, e4, e5⟩ := hagree c
    have hx : ∀ n l, Cert.InRef.argX m' c (ix3 0 n l) = (q.X n l : EReal) := fun n l => (congrFun e0 _).trans (hq.x n l)
    have hgr : ∀ n l, Cert.InRef.grads (Cert.InRef.argW m' c) (Cert.InRef.argP m' c) (ix3 0 n l) = (q.G n l : EReal) := fun n l => by
      rw [Cert.InRef.grads_apply]
      refine (Finset.sum_congr rfl fun k _ => ?_).trans (sum_coe _)
      rw [EReal.coe_mul]
      exact congr (congrArg _ ((congrFun e5 _).trans (hq.p n k))) ((congrFun e3 _).trans (hq.w k l))
  · funext j
    revert j
    show ∀ j : Cert.KernelIdeal.S8192x1024.Idx, _
    intro j
    idx_vars j
    refine Eq.trans ?_ (Cert.InBlock.final_grad m c q hq j0 j1).symm
    refine (Cert.InRef.total_apply _ _ (q.X j0) (q.N j0) _ j0 (hx j0) (fun l => ?_) j1).trans ?_
    · show Cert.InRef.grads (Cert.InRef.argW m' c) (Cert.InRef.argP m' c) (ix3 0 j0 l) * Cert.InRef.onePlus (Cert.InRef.argS m' c) (ix3 0 j0 l) = _
      rw [hgr, Cert.InRef.onePlus_apply]
      unfold Cert.InBlock.Reals.N
      rw [EReal.coe_mul, EReal.coe_add, EReal.coe_one]
      exact congrArg _ (congrArg _ ((congrFun e1 _).trans (hq.s l)))
    · exact congrArg (· + _) (congrFun e4 _)
  · funext j
    revert j
    show ∀ j : Cert.KernelIdeal.S8x1024.Idx, _
    intro j
    idx_vars j
    refine Eq.trans ?_ (Cert.InBlock.final_acc m c q hq j0 j1).symm
    refine (Cert.InRef.stacked_apply _ _ j0 j1).trans ?_
    rw [Cert.InRef.colSum_apply, Cert.InRef.colSum_apply]
    refine if_congr Iff.rfl ((Finset.sum_congr rfl fun n _ => hgr n j1).trans (sum_coe _)) (if_congr Iff.rfl ?_ rfl)
    refine (Finset.sum_congr rfl fun n _ => ?_).trans (sum_coe _)
    show Cert.InRef.devs _ (ix3 0 n j1) * Cert.InRef.spread _ (ix3 0 n j1) * Cert.InRef.grads _ _ (ix3 0 n j1) = _
    rw [Cert.InRef.devs_apply _ (q.X n) n (hx n), Cert.InRef.spread_apply, Cert.InRef.invs_apply _ (q.X n) n (hx n), hgr,
      ← EReal.coe_mul, ← EReal.coe_mul, mul_comm]
    rfl

theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.MidKernel.Gen.facts, Cert.MidKernelIdeal.Gen.facts, Cert.MidReferenceIdeal.Gen.facts,
    Cert.MixKernel.Gen.facts, Cert.MixKernelIdeal.Gen.facts, Cert.MixReferenceIdeal.Gen.facts,
    Cert.FwdKernel.Gen.facts, Cert.FwdKernelIdeal.Gen.facts, Cert.FwdReferenceIdeal.Gen.facts,
    Cert.OutKernel.Gen.facts, Cert.OutKernelIdeal.Gen.facts, Cert.OutReferenceIdeal.Gen.facts,
    Cert.BwdKernel.Gen.facts, Cert.BwdKernelIdeal.Gen.facts, Cert.BwdReferenceIdeal.Gen.facts, inFacts, Cert.ClaimFfn.facts, Cert.ClaimMid.facts, Cert.ClaimMix.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.FfnKernel.Gen.frame m ρ, fun m ρ _ => Cert.FfnKernelIdeal.Gen.frame m ρ, fun m ρ _ => Cert.FfnKernelIdeal.Gen.frame m ρ,
    Cert.ClaimFfn.frame_reference, fun m ρ _ => Cert.ClaimFfn.frame_reference m ρ trivial,
    fun m ρ _ => Cert.MidKernel.Gen.frame m ρ, fun m ρ _ => Cert.MidKernelIdeal.Gen.frame m ρ, fun m ρ _ => Cert.MidKernelIdeal.Gen.frame m ρ,
    Cert.ClaimMid.frame_reference, fun m ρ _ => Cert.ClaimMid.frame_reference m ρ trivial,
    fun m ρ _ => Cert.MixKernel.Gen.frame m ρ, fun m ρ _ => Cert.MixKernelIdeal.Gen.frame m ρ, fun m ρ _ => Cert.MixKernelIdeal.Gen.frame m ρ,
    Cert.ClaimMix.frame_reference, fun m ρ _ => Cert.ClaimMix.frame_reference m ρ trivial,
    fun m ρ _ => Cert.FwdKernel.Gen.frame m ρ, fun m ρ _ => Cert.FwdKernelIdeal.Gen.frame m ρ, Cert.ClaimFwd.frame_reference,
    fun m ρ _ => Cert.OutKernel.Gen.frame m ρ, fun m ρ _ => Cert.OutKernelIdeal.Gen.frame m ρ, Cert.ClaimOut.frame_reference,
    Cert.BwdKernel.Hold.frame, Cert.BwdKernelIdeal.Hold.frame, Cert.ClaimBwd.frame_reference,
    trivial, algebraic, trivial, Cert.ClaimFfn.algebraic, trivial, Cert.ClaimMid.algebraic, Cert.ClaimMix.preserves, Cert.ClaimMix.algebraic,
    trivial, Cert.ClaimFwd.algebraic, trivial, Cert.ClaimOut.algebraic, trivial⟩

end Cert.Proof

end
